-- ==== Defs.lean ====
def Pre_CNorm (m : (ℓ : Loc Cert.CNorm.nD Cert.CNorm.τ Cert.CNorm.sig) → Buf (Elt Bits) ℓ) : Prop :=
  True

def Pre_CNormIdeal (m : (ℓ : Loc Cert.CNormIdeal.nD Cert.CNormIdeal.τ Cert.CNormIdeal.sig) → Buf (Elt Ideal) ℓ) : Prop :=
  True

def Pre_CNormIdeal_n_finite [hPre_n_finite : Cert.Pre_n_finite.Facts] (m : (ℓ : Loc Cert.CNormIdeal.nD Cert.CNormIdeal.τ Cert.CNormIdeal.sig) → Buf (Elt Ideal) ℓ) : Prop :=
  ∀ c : Dev Cert.CNormIdeal.nD,
    (Cert.Pre_n_finite.fn (F := Ideal) (m ((c.tc : Thread Cert.CNormIdeal.nD Cert.CNormIdeal.τ).loc Cert.CNormIdeal.main_arg0)) (m ((c.tc : Thread Cert.CNormIdeal.nD Cert.CNormIdeal.τ).loc Cert.CNormIdeal.main_arg1)) (m ((c.tc : Thread Cert.CNormIdeal.nD Cert.CNormIdeal.τ).loc Cert.CNormIdeal.main_arg2)) (m ((c.tc : Thread Cert.CNormIdeal.nD Cert.CNormIdeal.τ).loc Cert.CNormIdeal.main_arg3)) (m ((c.tc : Thread Cert.CNormIdeal.nD Cert.CNormIdeal.τ).loc Cert.CNormIdeal.main_arg4)) (m ((c.tc : Thread Cert.CNormIdeal.nD Cert.CNormIdeal.τ).loc Cert.CNormIdeal.main_arg5))).1 = (fun _ => 1#1)
    ∧ (Cert.Pre_n_finite.fn (F := Ideal) (m ((c.tc : Thread Cert.CNormIdeal.nD Cert.CNormIdeal.τ).loc Cert.CNormIdeal.main_arg0)) (m ((c.tc : Thread Cert.CNormIdeal.nD Cert.CNormIdeal.τ).loc Cert.CNormIdeal.main_arg1)) (m ((c.tc : Thread Cert.CNormIdeal.nD Cert.CNormIdeal.τ).loc Cert.CNormIdeal.main_arg2)) (m ((c.tc : Thread Cert.CNormIdeal.nD Cert.CNormIdeal.τ).loc Cert.CNormIdeal.main_arg3)) (m ((c.tc : Thread Cert.CNormIdeal.nD Cert.CNormIdeal.τ).loc Cert.CNormIdeal.main_arg4)) (m ((c.tc : Thread Cert.CNormIdeal.nD Cert.CNormIdeal.τ).loc Cert.CNormIdeal.main_arg5))).2.1 = (fun _ => 1#1)
    ∧ (Cert.Pre_n_finite.fn (F := Ideal) (m ((c.tc : Thread Cert.CNormIdeal.nD Cert.CNormIdeal.τ).loc Cert.CNormIdeal.main_arg0)) (m ((c.tc : Thread Cert.CNormIdeal.nD Cert.CNormIdeal.τ).loc Cert.CNormIdeal.main_arg1)) (m ((c.tc : Thread Cert.CNormIdeal.nD Cert.CNormIdeal.τ).loc Cert.CNormIdeal.main_arg2)) (m ((c.tc : Thread Cert.CNormIdeal.nD Cert.CNormIdeal.τ).loc Cert.CNormIdeal.main_arg3)) (m ((c.tc : Thread Cert.CNormIdeal.nD Cert.CNormIdeal.τ).loc Cert.CNormIdeal.main_arg4)) (m ((c.tc : Thread Cert.CNormIdeal.nD Cert.CNormIdeal.τ).loc Cert.CNormIdeal.main_arg5))).2.2.1 = (fun _ => 1#1)
    ∧ (Cert.Pre_n_finite.fn (F := Ideal) (m ((c.tc : Thread Cert.CNormIdeal.nD Cert.CNormIdeal.τ).loc Cert.CNormIdeal.main_arg0)) (m ((c.tc : Thread Cert.CNormIdeal.nD Cert.CNormIdeal.τ).loc Cert.CNormIdeal.main_arg1)) (m ((c.tc : Thread Cert.CNormIdeal.nD Cert.CNormIdeal.τ).loc Cert.CNormIdeal.main_arg2)) (m ((c.tc : Thread Cert.CNormIdeal.nD Cert.CNormIdeal.τ).loc Cert.CNormIdeal.main_arg3)) (m ((c.tc : Thread Cert.CNormIdeal.nD Cert.CNormIdeal.τ).loc Cert.CNormIdeal.main_arg4)) (m ((c.tc : Thread Cert.CNormIdeal.nD Cert.CNormIdeal.τ).loc Cert.CNormIdeal.main_arg5))).2.2.2 = (fun _ => 1#1)

def Pre_CNormRefIdeal (m : (ℓ : Loc Cert.CNormRefIdeal.nD Cert.CNormRefIdeal.τ Cert.CNormRefIdeal.sig) → Buf (Elt Ideal) ℓ) : Prop :=
  True

def Pre_CNormRefIdeal_n_finite [hPre_n_finite : Cert.Pre_n_finite.Facts] (m : (ℓ : Loc Cert.CNormRefIdeal.nD Cert.CNormRefIdeal.τ Cert.CNormRefIdeal.sig) → Buf (Elt Ideal) ℓ) : Prop :=
  ∀ c : Dev Cert.CNormRefIdeal.nD,
    (Cert.Pre_n_finite.fn (F := Ideal) (m ((c.tc : Thread Cert.CNormRefIdeal.nD Cert.CNormRefIdeal.τ).loc Cert.CNormRefIdeal.main_arg0)) (m ((c.tc : Thread Cert.CNormRefIdeal.nD Cert.CNormRefIdeal.τ).loc Cert.CNormRefIdeal.main_arg1)) (m ((c.tc : Thread Cert.CNormRefIdeal.nD Cert.CNormRefIdeal.τ).loc Cert.CNormRefIdeal.main_arg2)) (m ((c.tc : Thread Cert.CNormRefIdeal.nD Cert.CNormRefIdeal.τ).loc Cert.CNormRefIdeal.main_arg3)) (m ((c.tc : Thread Cert.CNormRefIdeal.nD Cert.CNormRefIdeal.τ).loc Cert.CNormRefIdeal.main_arg4)) (m ((c.tc : Thread Cert.CNormRefIdeal.nD Cert.CNormRefIdeal.τ).loc Cert.CNormRefIdeal.main_arg5))).1 = (fun _ => 1#1)
    ∧ (Cert.Pre_n_finite.fn (F := Ideal) (m ((c.tc : Thread Cert.CNormRefIdeal.nD Cert.CNormRefIdeal.τ).loc Cert.CNormRefIdeal.main_arg0)) (m ((c.tc : Thread Cert.CNormRefIdeal.nD Cert.CNormRefIdeal.τ).loc Cert.CNormRefIdeal.main_arg1)) (m ((c.tc : Thread Cert.CNormRefIdeal.nD Cert.CNormRefIdeal.τ).loc Cert.CNormRefIdeal.main_arg2)) (m ((c.tc : Thread Cert.CNormRefIdeal.nD Cert.CNormRefIdeal.τ).loc Cert.CNormRefIdeal.main_arg3)) (m ((c.tc : Thread Cert.CNormRefIdeal.nD Cert.CNormRefIdeal.τ).loc Cert.CNormRefIdeal.main_arg4)) (m ((c.tc : Thread Cert.CNormRefIdeal.nD Cert.CNormRefIdeal.τ).loc Cert.CNormRefIdeal.main_arg5))).2.1 = (fun _ => 1#1)
    ∧ (Cert.Pre_n_finite.fn (F := Ideal) (m ((c.tc : Thread Cert.CNormRefIdeal.nD Cert.CNormRefIdeal.τ).loc Cert.CNormRefIdeal.main_arg0)) (m ((c.tc : Thread Cert.CNormRefIdeal.nD Cert.CNormRefIdeal.τ).loc Cert.CNormRefIdeal.main_arg1)) (m ((c.tc : Thread Cert.CNormRefIdeal.nD Cert.CNormRefIdeal.τ).loc Cert.CNormRefIdeal.main_arg2)) (m ((c.tc : Thread Cert.CNormRefIdeal.nD Cert.CNormRefIdeal.τ).loc Cert.CNormRefIdeal.main_arg3)) (m ((c.tc : Thread Cert.CNormRefIdeal.nD Cert.CNormRefIdeal.τ).loc Cert.CNormRefIdeal.main_arg4)) (m ((c.tc : Thread Cert.CNormRefIdeal.nD Cert.CNormRefIdeal.τ).loc Cert.CNormRefIdeal.main_arg5))).2.2.1 = (fun _ => 1#1)
    ∧ (Cert.Pre_n_finite.fn (F := Ideal) (m ((c.tc : Thread Cert.CNormRefIdeal.nD Cert.CNormRefIdeal.τ).loc Cert.CNormRefIdeal.main_arg0)) (m ((c.tc : Thread Cert.CNormRefIdeal.nD Cert.CNormRefIdeal.τ).loc Cert.CNormRefIdeal.main_arg1)) (m ((c.tc : Thread Cert.CNormRefIdeal.nD Cert.CNormRefIdeal.τ).loc Cert.CNormRefIdeal.main_arg2)) (m ((c.tc : Thread Cert.CNormRefIdeal.nD Cert.CNormRefIdeal.τ).loc Cert.CNormRefIdeal.main_arg3)) (m ((c.tc : Thread Cert.CNormRefIdeal.nD Cert.CNormRefIdeal.τ).loc Cert.CNormRefIdeal.main_arg4)) (m ((c.tc : Thread Cert.CNormRefIdeal.nD Cert.CNormRefIdeal.τ).loc Cert.CNormRefIdeal.main_arg5))).2.2.2 = (fun _ => 1#1)

def Pre_FNorm (m : (ℓ : Loc Cert.FNorm.nD Cert.FNorm.τ Cert.FNorm.sig) → Buf (Elt Bits) ℓ) : Prop :=
  True

def Pre_FNormIdeal (m : (ℓ : Loc Cert.FNormIdeal.nD Cert.FNormIdeal.τ Cert.FNormIdeal.sig) → Buf (Elt Ideal) ℓ) : Prop :=
  True

def Pre_FNormIdeal_fn_finite [hPre_fn_finite : Cert.Pre_fn_finite.Facts] (m : (ℓ : Loc Cert.FNormIdeal.nD Cert.FNormIdeal.τ Cert.FNormIdeal.sig) → Buf (Elt Ideal) ℓ) : Prop :=
  ∀ c : Dev Cert.FNormIdeal.nD,
    (Cert.Pre_fn_finite.fn (F := Ideal) (m ((c.tc : Thread Cert.FNormIdeal.nD Cert.FNormIdeal.τ).loc Cert.FNormIdeal.main_arg0)) (m ((c.tc : Thread Cert.FNormIdeal.nD Cert.FNormIdeal.τ).loc Cert.FNormIdeal.main_arg1)) (m ((c.tc : Thread Cert.FNormIdeal.nD Cert.FNormIdeal.τ).loc Cert.FNormIdeal.main_arg2)) (m ((c.tc : Thread Cert.FNormIdeal.nD Cert.FNormIdeal.τ).loc Cert.FNormIdeal.main_arg3)) (m ((c.tc : Thread Cert.FNormIdeal.nD Cert.FNormIdeal.τ).loc Cert.FNormIdeal.main_arg4)) (m ((c.tc : Thread Cert.FNormIdeal.nD Cert.FNormIdeal.τ).loc Cert.FNormIdeal.main_arg5)) (m ((c.tc : Thread Cert.FNormIdeal.nD Cert.FNormIdeal.τ).loc Cert.FNormIdeal.main_arg6))).1 = (fun _ => 1#1)
    ∧ (Cert.Pre_fn_finite.fn (F := Ideal) (m ((c.tc : Thread Cert.FNormIdeal.nD Cert.FNormIdeal.τ).loc Cert.FNormIdeal.main_arg0)) (m ((c.tc : Thread Cert.FNormIdeal.nD Cert.FNormIdeal.τ).loc Cert.FNormIdeal.main_arg1)) (m ((c.tc : Thread Cert.FNormIdeal.nD Cert.FNormIdeal.τ).loc Cert.FNormIdeal.main_arg2)) (m ((c.tc : Thread Cert.FNormIdeal.nD Cert.FNormIdeal.τ).loc Cert.FNormIdeal.main_arg3)) (m ((c.tc : Thread Cert.FNormIdeal.nD Cert.FNormIdeal.τ).loc Cert.FNormIdeal.main_arg4)) (m ((c.tc : Thread Cert.FNormIdeal.nD Cert.FNormIdeal.τ).loc Cert.FNormIdeal.main_arg5)) (m ((c.tc : Thread Cert.FNormIdeal.nD Cert.FNormIdeal.τ).loc Cert.FNormIdeal.main_arg6))).2.1 = (fun _ => 1#1)
    ∧ (Cert.Pre_fn_finite.fn (F := Ideal) (m ((c.tc : Thread Cert.FNormIdeal.nD Cert.FNormIdeal.τ).loc Cert.FNormIdeal.main_arg0)) (m ((c.tc : Thread Cert.FNormIdeal.nD Cert.FNormIdeal.τ).loc Cert.FNormIdeal.main_arg1)) (m ((c.tc : Thread Cert.FNormIdeal.nD Cert.FNormIdeal.τ).loc Cert.FNormIdeal.main_arg2)) (m ((c.tc : Thread Cert.FNormIdeal.nD Cert.FNormIdeal.τ).loc Cert.FNormIdeal.main_arg3)) (m ((c.tc : Thread Cert.FNormIdeal.nD Cert.FNormIdeal.τ).loc Cert.FNormIdeal.main_arg4)) (m ((c.tc : Thread Cert.FNormIdeal.nD Cert.FNormIdeal.τ).loc Cert.FNormIdeal.main_arg5)) (m ((c.tc : Thread Cert.FNormIdeal.nD Cert.FNormIdeal.τ).loc Cert.FNormIdeal.main_arg6))).2.2.1 = (fun _ => 1#1)
    ∧ (Cert.Pre_fn_finite.fn (F := Ideal) (m ((c.tc : Thread Cert.FNormIdeal.nD Cert.FNormIdeal.τ).loc Cert.FNormIdeal.main_arg0)) (m ((c.tc : Thread Cert.FNormIdeal.nD Cert.FNormIdeal.τ).loc Cert.FNormIdeal.main_arg1)) (m ((c.tc : Thread Cert.FNormIdeal.nD Cert.FNormIdeal.τ).loc Cert.FNormIdeal.main_arg2)) (m ((c.tc : Thread Cert.FNormIdeal.nD Cert.FNormIdeal.τ).loc Cert.FNormIdeal.main_arg3)) (m ((c.tc : Thread Cert.FNormIdeal.nD Cert.FNormIdeal.τ).loc Cert.FNormIdeal.main_arg4)) (m ((c.tc : Thread Cert.FNormIdeal.nD Cert.FNormIdeal.τ).loc Cert.FNormIdeal.main_arg5)) (m ((c.tc : Thread Cert.FNormIdeal.nD Cert.FNormIdeal.τ).loc Cert.FNormIdeal.main_arg6))).2.2.2.1 = (fun _ => 1#1)
    ∧ (Cert.Pre_fn_finite.fn (F := Ideal) (m ((c.tc : Thread Cert.FNormIdeal.nD Cert.FNormIdeal.τ).loc Cert.FNormIdeal.main_arg0)) (m ((c.tc : Thread Cert.FNormIdeal.nD Cert.FNormIdeal.τ).loc Cert.FNormIdeal.main_arg1)) (m ((c.tc : Thread Cert.FNormIdeal.nD Cert.FNormIdeal.τ).loc Cert.FNormIdeal.main_arg2)) (m ((c.tc : Thread Cert.FNormIdeal.nD Cert.FNormIdeal.τ).loc Cert.FNormIdeal.main_arg3)) (m ((c.tc : Thread Cert.FNormIdeal.nD Cert.FNormIdeal.τ).loc Cert.FNormIdeal.main_arg4)) (m ((c.tc : Thread Cert.FNormIdeal.nD Cert.FNormIdeal.τ).loc Cert.FNormIdeal.main_arg5)) (m ((c.tc : Thread Cert.FNormIdeal.nD Cert.FNormIdeal.τ).loc Cert.FNormIdeal.main_arg6))).2.2.2.2 = (fun _ => 1#1)

def Pre_FNormRefIdeal (m : (ℓ : Loc Cert.FNormRefIdeal.nD Cert.FNormRefIdeal.τ Cert.FNormRefIdeal.sig) → Buf (Elt Ideal) ℓ) : Prop :=
  True

def Pre_FNormRefIdeal_fn_finite [hPre_fn_finite : Cert.Pre_fn_finite.Facts] (m : (ℓ : Loc Cert.FNormRefIdeal.nD Cert.FNormRefIdeal.τ Cert.FNormRefIdeal.sig) → Buf (Elt Ideal) ℓ) : Prop :=
  ∀ c : Dev Cert.FNormRefIdeal.nD,
    (Cert.Pre_fn_finite.fn (F := Ideal) (m ((c.tc : Thread Cert.FNormRefIdeal.nD Cert.FNormRefIdeal.τ).loc Cert.FNormRefIdeal.main_arg0)) (m ((c.tc : Thread Cert.FNormRefIdeal.nD Cert.FNormRefIdeal.τ).loc Cert.FNormRefIdeal.main_arg1)) (m ((c.tc : Thread Cert.FNormRefIdeal.nD Cert.FNormRefIdeal.τ).loc Cert.FNormRefIdeal.main_arg2)) (m ((c.tc : Thread Cert.FNormRefIdeal.nD Cert.FNormRefIdeal.τ).loc Cert.FNormRefIdeal.main_arg3)) (m ((c.tc : Thread Cert.FNormRefIdeal.nD Cert.FNormRefIdeal.τ).loc Cert.FNormRefIdeal.main_arg4)) (m ((c.tc : Thread Cert.FNormRefIdeal.nD Cert.FNormRefIdeal.τ).loc Cert.FNormRefIdeal.main_arg5)) (m ((c.tc : Thread Cert.FNormRefIdeal.nD Cert.FNormRefIdeal.τ).loc Cert.FNormRefIdeal.main_arg6))).1 = (fun _ => 1#1)
    ∧ (Cert.Pre_fn_finite.fn (F := Ideal) (m ((c.tc : Thread Cert.FNormRefIdeal.nD Cert.FNormRefIdeal.τ).loc Cert.FNormRefIdeal.main_arg0)) (m ((c.tc : Thread Cert.FNormRefIdeal.nD Cert.FNormRefIdeal.τ).loc Cert.FNormRefIdeal.main_arg1)) (m ((c.tc : Thread Cert.FNormRefIdeal.nD Cert.FNormRefIdeal.τ).loc Cert.FNormRefIdeal.main_arg2)) (m ((c.tc : Thread Cert.FNormRefIdeal.nD Cert.FNormRefIdeal.τ).loc Cert.FNormRefIdeal.main_arg3)) (m ((c.tc : Thread Cert.FNormRefIdeal.nD Cert.FNormRefIdeal.τ).loc Cert.FNormRefIdeal.main_arg4)) (m ((c.tc : Thread Cert.FNormRefIdeal.nD Cert.FNormRefIdeal.τ).loc Cert.FNormRefIdeal.main_arg5)) (m ((c.tc : Thread Cert.FNormRefIdeal.nD Cert.FNormRefIdeal.τ).loc Cert.FNormRefIdeal.main_arg6))).2.1 = (fun _ => 1#1)
    ∧ (Cert.Pre_fn_finite.fn (F := Ideal) (m ((c.tc : Thread Cert.FNormRefIdeal.nD Cert.FNormRefIdeal.τ).loc Cert.FNormRefIdeal.main_arg0)) (m ((c.tc : Thread Cert.FNormRefIdeal.nD Cert.FNormRefIdeal.τ).loc Cert.FNormRefIdeal.main_arg1)) (m ((c.tc : Thread Cert.FNormRefIdeal.nD Cert.FNormRefIdeal.τ).loc Cert.FNormRefIdeal.main_arg2)) (m ((c.tc : Thread Cert.FNormRefIdeal.nD Cert.FNormRefIdeal.τ).loc Cert.FNormRefIdeal.main_arg3)) (m ((c.tc : Thread Cert.FNormRefIdeal.nD Cert.FNormRefIdeal.τ).loc Cert.FNormRefIdeal.main_arg4)) (m ((c.tc : Thread Cert.FNormRefIdeal.nD Cert.FNormRefIdeal.τ).loc Cert.FNormRefIdeal.main_arg5)) (m ((c.tc : Thread Cert.FNormRefIdeal.nD Cert.FNormRefIdeal.τ).loc Cert.FNormRefIdeal.main_arg6))).2.2.1 = (fun _ => 1#1)
    ∧ (Cert.Pre_fn_finite.fn (F := Ideal) (m ((c.tc : Thread Cert.FNormRefIdeal.nD Cert.FNormRefIdeal.τ).loc Cert.FNormRefIdeal.main_arg0)) (m ((c.tc : Thread Cert.FNormRefIdeal.nD Cert.FNormRefIdeal.τ).loc Cert.FNormRefIdeal.main_arg1)) (m ((c.tc : Thread Cert.FNormRefIdeal.nD Cert.FNormRefIdeal.τ).loc Cert.FNormRefIdeal.main_arg2)) (m ((c.tc : Thread Cert.FNormRefIdeal.nD Cert.FNormRefIdeal.τ).loc Cert.FNormRefIdeal.main_arg3)) (m ((c.tc : Thread Cert.FNormRefIdeal.nD Cert.FNormRefIdeal.τ).loc Cert.FNormRefIdeal.main_arg4)) (m ((c.tc : Thread Cert.FNormRefIdeal.nD Cert.FNormRefIdeal.τ).loc Cert.FNormRefIdeal.main_arg5)) (m ((c.tc : Thread Cert.FNormRefIdeal.nD Cert.FNormRefIdeal.τ).loc Cert.FNormRefIdeal.main_arg6))).2.2.2.1 = (fun _ => 1#1)
    ∧ (Cert.Pre_fn_finite.fn (F := Ideal) (m ((c.tc : Thread Cert.FNormRefIdeal.nD Cert.FNormRefIdeal.τ).loc Cert.FNormRefIdeal.main_arg0)) (m ((c.tc : Thread Cert.FNormRefIdeal.nD Cert.FNormRefIdeal.τ).loc Cert.FNormRefIdeal.main_arg1)) (m ((c.tc : Thread Cert.FNormRefIdeal.nD Cert.FNormRefIdeal.τ).loc Cert.FNormRefIdeal.main_arg2)) (m ((c.tc : Thread Cert.FNormRefIdeal.nD Cert.FNormRefIdeal.τ).loc Cert.FNormRefIdeal.main_arg3)) (m ((c.tc : Thread Cert.FNormRefIdeal.nD Cert.FNormRefIdeal.τ).loc Cert.FNormRefIdeal.main_arg4)) (m ((c.tc : Thread Cert.FNormRefIdeal.nD Cert.FNormRefIdeal.τ).loc Cert.FNormRefIdeal.main_arg5)) (m ((c.tc : Thread Cert.FNormRefIdeal.nD Cert.FNormRefIdeal.τ).loc Cert.FNormRefIdeal.main_arg6))).2.2.2.2 = (fun _ => 1#1)

def Pre_ANorm (m : (ℓ : Loc Cert.ANorm.nD Cert.ANorm.τ Cert.ANorm.sig) → Buf (Elt Bits) ℓ) : Prop :=
  True

def Pre_ANormIdeal (m : (ℓ : Loc Cert.ANormIdeal.nD Cert.ANormIdeal.τ Cert.ANormIdeal.sig) → Buf (Elt Ideal) ℓ) : Prop :=
  True

def Pre_ANormIdeal_an_finite [hPre_an_finite : Cert.Pre_an_finite.Facts] (m : (ℓ : Loc Cert.ANormIdeal.nD Cert.ANormIdeal.τ Cert.ANormIdeal.sig) → Buf (Elt Ideal) ℓ) : Prop :=
  ∀ c : Dev Cert.ANormIdeal.nD,
    (Cert.Pre_an_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3)) (m ((c.tc : Thread Cert.ANormIdeal.nD Cert.ANormIdeal.τ).loc Cert.ANormIdeal.main_arg4)) (m ((c.tc : Thread Cert.ANormIdeal.nD Cert.ANormIdeal.τ).loc Cert.ANormIdeal.main_arg5)) (m ((c.tc : Thread Cert.ANormIdeal.nD Cert.ANormIdeal.τ).loc Cert.ANormIdeal.main_arg6))).1 = (fun _ => 1#1)
    ∧ (Cert.Pre_an_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3)) (m ((c.tc : Thread Cert.ANormIdeal.nD Cert.ANormIdeal.τ).loc Cert.ANormIdeal.main_arg4)) (m ((c.tc : Thread Cert.ANormIdeal.nD Cert.ANormIdeal.τ).loc Cert.ANormIdeal.main_arg5)) (m ((c.tc : Thread Cert.ANormIdeal.nD Cert.ANormIdeal.τ).loc Cert.ANormIdeal.main_arg6))).2.1 = (fun _ => 1#1)
    ∧ (Cert.Pre_an_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3)) (m ((c.tc : Thread Cert.ANormIdeal.nD Cert.ANormIdeal.τ).loc Cert.ANormIdeal.main_arg4)) (m ((c.tc : Thread Cert.ANormIdeal.nD Cert.ANormIdeal.τ).loc Cert.ANormIdeal.main_arg5)) (m ((c.tc : Thread Cert.ANormIdeal.nD Cert.ANormIdeal.τ).loc Cert.ANormIdeal.main_arg6))).2.2.1 = (fun _ => 1#1)
    ∧ (Cert.Pre_an_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3)) (m ((c.tc : Thread Cert.ANormIdeal.nD Cert.ANormIdeal.τ).loc Cert.ANormIdeal.main_arg4)) (m ((c.tc : Thread Cert.ANormIdeal.nD Cert.ANormIdeal.τ).loc Cert.ANormIdeal.main_arg5)) (m ((c.tc : Thread Cert.ANormIdeal.nD Cert.ANormIdeal.τ).loc Cert.ANormIdeal.main_arg6))).2.2.2.1 = (fun _ => 1#1)
    ∧ (Cert.Pre_an_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3)) (m ((c.tc : Thread Cert.ANormIdeal.nD Cert.ANormIdeal.τ).loc Cert.ANormIdeal.main_arg4)) (m ((c.tc : Thread Cert.ANormIdeal.nD Cert.ANormIdeal.τ).loc Cert.ANormIdeal.main_arg5)) (m ((c.tc : Thread Cert.ANormIdeal.nD Cert.ANormIdeal.τ).loc Cert.ANormIdeal.main_arg6))).2.2.2.2 = (fun _ => 1#1)

def Pre_ANormRefIdeal (m : (ℓ : Loc Cert.ANormRefIdeal.nD Cert.ANormRefIdeal.τ Cert.ANormRefIdeal.sig) → Buf (Elt Ideal) ℓ) : Prop :=
  True

def Pre_ANormRefIdeal_an_finite [hPre_an_finite : Cert.Pre_an_finite.Facts] (m : (ℓ : Loc Cert.ANormRefIdeal.nD Cert.ANormRefIdeal.τ Cert.ANormRefIdeal.sig) → Buf (Elt Ideal) ℓ) : Prop :=
  ∀ c : Dev Cert.ANormRefIdeal.nD,
    (Cert.Pre_an_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3)) (m ((c.tc : Thread Cert.ANormRefIdeal.nD Cert.ANormRefIdeal.τ).loc Cert.ANormRefIdeal.main_arg4)) (m ((c.tc : Thread Cert.ANormRefIdeal.nD Cert.ANormRefIdeal.τ).loc Cert.ANormRefIdeal.main_arg5)) (m ((c.tc : Thread Cert.ANormRefIdeal.nD Cert.ANormRefIdeal.τ).loc Cert.ANormRefIdeal.main_arg6))).1 = (fun _ => 1#1)
    ∧ (Cert.Pre_an_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3)) (m ((c.tc : Thread Cert.ANormRefIdeal.nD Cert.ANormRefIdeal.τ).loc Cert.ANormRefIdeal.main_arg4)) (m ((c.tc : Thread Cert.ANormRefIdeal.nD Cert.ANormRefIdeal.τ).loc Cert.ANormRefIdeal.main_arg5)) (m ((c.tc : Thread Cert.ANormRefIdeal.nD Cert.ANormRefIdeal.τ).loc Cert.ANormRefIdeal.main_arg6))).2.1 = (fun _ => 1#1)
    ∧ (Cert.Pre_an_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3)) (m ((c.tc : Thread Cert.ANormRefIdeal.nD Cert.ANormRefIdeal.τ).loc Cert.ANormRefIdeal.main_arg4)) (m ((c.tc : Thread Cert.ANormRefIdeal.nD Cert.ANormRefIdeal.τ).loc Cert.ANormRefIdeal.main_arg5)) (m ((c.tc : Thread Cert.ANormRefIdeal.nD Cert.ANormRefIdeal.τ).loc Cert.ANormRefIdeal.main_arg6))).2.2.1 = (fun _ => 1#1)
    ∧ (Cert.Pre_an_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3)) (m ((c.tc : Thread Cert.ANormRefIdeal.nD Cert.ANormRefIdeal.τ).loc Cert.ANormRefIdeal.main_arg4)) (m ((c.tc : Thread Cert.ANormRefIdeal.nD Cert.ANormRefIdeal.τ).loc Cert.ANormRefIdeal.main_arg5)) (m ((c.tc : Thread Cert.ANormRefIdeal.nD Cert.ANormRefIdeal.τ).loc Cert.ANormRefIdeal.main_arg6))).2.2.2.1 = (fun _ => 1#1)
    ∧ (Cert.Pre_an_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3)) (m ((c.tc : Thread Cert.ANormRefIdeal.nD Cert.ANormRefIdeal.τ).loc Cert.ANormRefIdeal.main_arg4)) (m ((c.tc : Thread Cert.ANormRefIdeal.nD Cert.ANormRefIdeal.τ).loc Cert.ANormRefIdeal.main_arg5)) (m ((c.tc : Thread Cert.ANormRefIdeal.nD Cert.ANormRefIdeal.τ).loc Cert.ANormRefIdeal.main_arg6))).2.2.2.2 = (fun _ => 1#1)

def Pre_BProjNorm (m : (ℓ : Loc Cert.BProjNorm.nD Cert.BProjNorm.τ Cert.BProjNorm.sig) → Buf (Elt Bits) ℓ) : Prop :=
  True

def Pre_BProjNormIdeal (m : (ℓ : Loc Cert.BProjNormIdeal.nD Cert.BProjNormIdeal.τ Cert.BProjNormIdeal.sig) → Buf (Elt Ideal) ℓ) : Prop :=
  True

def Pre_BProjNormIdeal_bn_finite [hPre_bn_finite : Cert.Pre_bn_finite.Facts] (m : (ℓ : Loc Cert.BProjNormIdeal.nD Cert.BProjNormIdeal.τ Cert.BProjNormIdeal.sig) → Buf (Elt Ideal) ℓ) : Prop :=
  ∀ c : Dev Cert.BProjNormIdeal.nD,
    (Cert.Pre_bn_finite.fn (F := Ideal) (m ((c.tc : Thread Cert.BProjNormIdeal.nD Cert.BProjNormIdeal.τ).loc Cert.BProjNormIdeal.main_arg0)) (m ((c.tc : Thread Cert.BProjNormIdeal.nD Cert.BProjNormIdeal.τ).loc Cert.BProjNormIdeal.main_arg1)) (m ((c.tc : Thread Cert.BProjNormIdeal.nD Cert.BProjNormIdeal.τ).loc Cert.BProjNormIdeal.main_arg2)) (m ((c.tc : Thread Cert.BProjNormIdeal.nD Cert.BProjNormIdeal.τ).loc Cert.BProjNormIdeal.main_arg3)) (m ((c.tc : Thread Cert.BProjNormIdeal.nD Cert.BProjNormIdeal.τ).loc Cert.BProjNormIdeal.main_arg4)) (m ((c.tc : Thread Cert.BProjNormIdeal.nD Cert.BProjNormIdeal.τ).loc Cert.BProjNormIdeal.main_arg5)) (m ((c.tc : Thread Cert.BProjNormIdeal.nD Cert.BProjNormIdeal.τ).loc Cert.BProjNormIdeal.main_arg6))).1 = (fun _ => 1#1)
    ∧ (Cert.Pre_bn_finite.fn (F := Ideal) (m ((c.tc : Thread Cert.BProjNormIdeal.nD Cert.BProjNormIdeal.τ).loc Cert.BProjNormIdeal.main_arg0)) (m ((c.tc : Thread Cert.BProjNormIdeal.nD Cert.BProjNormIdeal.τ).loc Cert.BProjNormIdeal.main_arg1)) (m ((c.tc : Thread Cert.BProjNormIdeal.nD Cert.BProjNormIdeal.τ).loc Cert.BProjNormIdeal.main_arg2)) (m ((c.tc : Thread Cert.BProjNormIdeal.nD Cert.BProjNormIdeal.τ).loc Cert.BProjNormIdeal.main_arg3)) (m ((c.tc : Thread Cert.BProjNormIdeal.nD Cert.BProjNormIdeal.τ).loc Cert.BProjNormIdeal.main_arg4)) (m ((c.tc : Thread Cert.BProjNormIdeal.nD Cert.BProjNormIdeal.τ).loc Cert.BProjNormIdeal.main_arg5)) (m ((c.tc : Thread Cert.BProjNormIdeal.nD Cert.BProjNormIdeal.τ).loc Cert.BProjNormIdeal.main_arg6))).2.1 = (fun _ => 1#1)
    ∧ (Cert.Pre_bn_finite.fn (F := Ideal) (m ((c.tc : Thread Cert.BProjNormIdeal.nD Cert.BProjNormIdeal.τ).loc Cert.BProjNormIdeal.main_arg0)) (m ((c.tc : Thread Cert.BProjNormIdeal.nD Cert.BProjNormIdeal.τ).loc Cert.BProjNormIdeal.main_arg1)) (m ((c.tc : Thread Cert.BProjNormIdeal.nD Cert.BProjNormIdeal.τ).loc Cert.BProjNormIdeal.main_arg2)) (m ((c.tc : Thread Cert.BProjNormIdeal.nD Cert.BProjNormIdeal.τ).loc Cert.BProjNormIdeal.main_arg3)) (m ((c.tc : Thread Cert.BProjNormIdeal.nD Cert.BProjNormIdeal.τ).loc Cert.BProjNormIdeal.main_arg4)) (m ((c.tc : Thread Cert.BProjNormIdeal.nD Cert.BProjNormIdeal.τ).loc Cert.BProjNormIdeal.main_arg5)) (m ((c.tc : Thread Cert.BProjNormIdeal.nD Cert.BProjNormIdeal.τ).loc Cert.BProjNormIdeal.main_arg6))).2.2.1 = (fun _ => 1#1)
    ∧ (Cert.Pre_bn_finite.fn (F := Ideal) (m ((c.tc : Thread Cert.BProjNormIdeal.nD Cert.BProjNormIdeal.τ).loc Cert.BProjNormIdeal.main_arg0)) (m ((c.tc : Thread Cert.BProjNormIdeal.nD Cert.BProjNormIdeal.τ).loc Cert.BProjNormIdeal.main_arg1)) (m ((c.tc : Thread Cert.BProjNormIdeal.nD Cert.BProjNormIdeal.τ).loc Cert.BProjNormIdeal.main_arg2)) (m ((c.tc : Thread Cert.BProjNormIdeal.nD Cert.BProjNormIdeal.τ).loc Cert.BProjNormIdeal.main_arg3)) (m ((c.tc : Thread Cert.BProjNormIdeal.nD Cert.BProjNormIdeal.τ).loc Cert.BProjNormIdeal.main_arg4)) (m ((c.tc : Thread Cert.BProjNormIdeal.nD Cert.BProjNormIdeal.τ).loc Cert.BProjNormIdeal.main_arg5)) (m ((c.tc : Thread Cert.BProjNormIdeal.nD Cert.BProjNormIdeal.τ).loc Cert.BProjNormIdeal.main_arg6))).2.2.2.1 = (fun _ => 1#1)
    ∧ (Cert.Pre_bn_finite.fn (F := Ideal) (m ((c.tc : Thread Cert.BProjNormIdeal.nD Cert.BProjNormIdeal.τ).loc Cert.BProjNormIdeal.main_arg0)) (m ((c.tc : Thread Cert.BProjNormIdeal.nD Cert.BProjNormIdeal.τ).loc Cert.BProjNormIdeal.main_arg1)) (m ((c.tc : Thread Cert.BProjNormIdeal.nD Cert.BProjNormIdeal.τ).loc Cert.BProjNormIdeal.main_arg2)) (m ((c.tc : Thread Cert.BProjNormIdeal.nD Cert.BProjNormIdeal.τ).loc Cert.BProjNormIdeal.main_arg3)) (m ((c.tc : Thread Cert.BProjNormIdeal.nD Cert.BProjNormIdeal.τ).loc Cert.BProjNormIdeal.main_arg4)) (m ((c.tc : Thread Cert.BProjNormIdeal.nD Cert.BProjNormIdeal.τ).loc Cert.BProjNormIdeal.main_arg5)) (m ((c.tc : Thread Cert.BProjNormIdeal.nD Cert.BProjNormIdeal.τ).loc Cert.BProjNormIdeal.main_arg6))).2.2.2.2 = (fun _ => 1#1)

def Pre_BProjNormRefIdeal (m : (ℓ : Loc Cert.BProjNormRefIdeal.nD Cert.BProjNormRefIdeal.τ Cert.BProjNormRefIdeal.sig) → Buf (Elt Ideal) ℓ) : Prop :=
  True

def Pre_BProjNormRefIdeal_bn_finite [hPre_bn_finite : Cert.Pre_bn_finite.Facts] (m : (ℓ : Loc Cert.BProjNormRefIdeal.nD Cert.BProjNormRefIdeal.τ Cert.BProjNormRefIdeal.sig) → Buf (Elt Ideal) ℓ) : Prop :=
  ∀ c : Dev Cert.BProjNormRefIdeal.nD,
    (Cert.Pre_bn_finite.fn (F := Ideal) (m ((c.tc : Thread Cert.BProjNormRefIdeal.nD Cert.BProjNormRefIdeal.τ).loc Cert.BProjNormRefIdeal.main_arg0)) (m ((c.tc : Thread Cert.BProjNormRefIdeal.nD Cert.BProjNormRefIdeal.τ).loc Cert.BProjNormRefIdeal.main_arg1)) (m ((c.tc : Thread Cert.BProjNormRefIdeal.nD Cert.BProjNormRefIdeal.τ).loc Cert.BProjNormRefIdeal.main_arg2)) (m ((c.tc : Thread Cert.BProjNormRefIdeal.nD Cert.BProjNormRefIdeal.τ).loc Cert.BProjNormRefIdeal.main_arg3)) (m ((c.tc : Thread Cert.BProjNormRefIdeal.nD Cert.BProjNormRefIdeal.τ).loc Cert.BProjNormRefIdeal.main_arg4)) (m ((c.tc : Thread Cert.BProjNormRefIdeal.nD Cert.BProjNormRefIdeal.τ).loc Cert.BProjNormRefIdeal.main_arg5)) (m ((c.tc : Thread Cert.BProjNormRefIdeal.nD Cert.BProjNormRefIdeal.τ).loc Cert.BProjNormRefIdeal.main_arg6))).1 = (fun _ => 1#1)
    ∧ (Cert.Pre_bn_finite.fn (F := Ideal) (m ((c.tc : Thread Cert.BProjNormRefIdeal.nD Cert.BProjNormRefIdeal.τ).loc Cert.BProjNormRefIdeal.main_arg0)) (m ((c.tc : Thread Cert.BProjNormRefIdeal.nD Cert.BProjNormRefIdeal.τ).loc Cert.BProjNormRefIdeal.main_arg1)) (m ((c.tc : Thread Cert.BProjNormRefIdeal.nD Cert.BProjNormRefIdeal.τ).loc Cert.BProjNormRefIdeal.main_arg2)) (m ((c.tc : Thread Cert.BProjNormRefIdeal.nD Cert.BProjNormRefIdeal.τ).loc Cert.BProjNormRefIdeal.main_arg3)) (m ((c.tc : Thread Cert.BProjNormRefIdeal.nD Cert.BProjNormRefIdeal.τ).loc Cert.BProjNormRefIdeal.main_arg4)) (m ((c.tc : Thread Cert.BProjNormRefIdeal.nD Cert.BProjNormRefIdeal.τ).loc Cert.BProjNormRefIdeal.main_arg5)) (m ((c.tc : Thread Cert.BProjNormRefIdeal.nD Cert.BProjNormRefIdeal.τ).loc Cert.BProjNormRefIdeal.main_arg6))).2.1 = (fun _ => 1#1)
    ∧ (Cert.Pre_bn_finite.fn (F := Ideal) (m ((c.tc : Thread Cert.BProjNormRefIdeal.nD Cert.BProjNormRefIdeal.τ).loc Cert.BProjNormRefIdeal.main_arg0)) (m ((c.tc : Thread Cert.BProjNormRefIdeal.nD Cert.BProjNormRefIdeal.τ).loc Cert.BProjNormRefIdeal.main_arg1)) (m ((c.tc : Thread Cert.BProjNormRefIdeal.nD Cert.BProjNormRefIdeal.τ).loc Cert.BProjNormRefIdeal.main_arg2)) (m ((c.tc : Thread Cert.BProjNormRefIdeal.nD Cert.BProjNormRefIdeal.τ).loc Cert.BProjNormRefIdeal.main_arg3)) (m ((c.tc : Thread Cert.BProjNormRefIdeal.nD Cert.BProjNormRefIdeal.τ).loc Cert.BProjNormRefIdeal.main_arg4)) (m ((c.tc : Thread Cert.BProjNormRefIdeal.nD Cert.BProjNormRefIdeal.τ).loc Cert.BProjNormRefIdeal.main_arg5)) (m ((c.tc : Thread Cert.BProjNormRefIdeal.nD Cert.BProjNormRefIdeal.τ).loc Cert.BProjNormRefIdeal.main_arg6))).2.2.1 = (fun _ => 1#1)
    ∧ (Cert.Pre_bn_finite.fn (F := Ideal) (m ((c.tc : Thread Cert.BProjNormRefIdeal.nD Cert.BProjNormRefIdeal.τ).loc Cert.BProjNormRefIdeal.main_arg0)) (m ((c.tc : Thread Cert.BProjNormRefIdeal.nD Cert.BProjNormRefIdeal.τ).loc Cert.BProjNormRefIdeal.main_arg1)) (m ((c.tc : Thread Cert.BProjNormRefIdeal.nD Cert.BProjNormRefIdeal.τ).loc Cert.BProjNormRefIdeal.main_arg2)) (m ((c.tc : Thread Cert.BProjNormRefIdeal.nD Cert.BProjNormRefIdeal.τ).loc Cert.BProjNormRefIdeal.main_arg3)) (m ((c.tc : Thread Cert.BProjNormRefIdeal.nD Cert.BProjNormRefIdeal.τ).loc Cert.BProjNormRefIdeal.main_arg4)) (m ((c.tc : Thread Cert.BProjNormRefIdeal.nD Cert.BProjNormRefIdeal.τ).loc Cert.BProjNormRefIdeal.main_arg5)) (m ((c.tc : Thread Cert.BProjNormRefIdeal.nD Cert.BProjNormRefIdeal.τ).loc Cert.BProjNormRefIdeal.main_arg6))).2.2.2.1 = (fun _ => 1#1)
    ∧ (Cert.Pre_bn_finite.fn (F := Ideal) (m ((c.tc : Thread Cert.BProjNormRefIdeal.nD Cert.BProjNormRefIdeal.τ).loc Cert.BProjNormRefIdeal.main_arg0)) (m ((c.tc : Thread Cert.BProjNormRefIdeal.nD Cert.BProjNormRefIdeal.τ).loc Cert.BProjNormRefIdeal.main_arg1)) (m ((c.tc : Thread Cert.BProjNormRefIdeal.nD Cert.BProjNormRefIdeal.τ).loc Cert.BProjNormRefIdeal.main_arg2)) (m ((c.tc : Thread Cert.BProjNormRefIdeal.nD Cert.BProjNormRefIdeal.τ).loc Cert.BProjNormRefIdeal.main_arg3)) (m ((c.tc : Thread Cert.BProjNormRefIdeal.nD Cert.BProjNormRefIdeal.τ).loc Cert.BProjNormRefIdeal.main_arg4)) (m ((c.tc : Thread Cert.BProjNormRefIdeal.nD Cert.BProjNormRefIdeal.τ).loc Cert.BProjNormRefIdeal.main_arg5)) (m ((c.tc : Thread Cert.BProjNormRefIdeal.nD Cert.BProjNormRefIdeal.τ).loc Cert.BProjNormRefIdeal.main_arg6))).2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_BNorm (m : (ℓ : Loc Cert.BNorm.nD Cert.BNorm.τ Cert.BNorm.sig) → Buf (Elt Bits) ℓ) : Prop :=
  True

def Pre_BNormIdeal (m : (ℓ : Loc Cert.BNormIdeal.nD Cert.BNormIdeal.τ Cert.BNormIdeal.sig) → Buf (Elt Ideal) ℓ) : Prop :=
  True

def Pre_BNormIdeal_ln_finite [hPre_ln_finite : Cert.Pre_ln_finite.Facts] (m : (ℓ : Loc Cert.BNormIdeal.nD Cert.BNormIdeal.τ Cert.BNormIdeal.sig) → Buf (Elt Ideal) ℓ) : Prop :=
  ∀ c : Dev Cert.BNormIdeal.nD,
    (Cert.Pre_ln_finite.fn (F := Ideal) (m ((c.tc : Thread Cert.BNormIdeal.nD Cert.BNormIdeal.τ).loc Cert.BNormIdeal.main_arg0)) (m ((c.tc : Thread Cert.BNormIdeal.nD Cert.BNormIdeal.τ).loc Cert.BNormIdeal.main_arg1)) (m ((c.tc : Thread Cert.BNormIdeal.nD Cert.BNormIdeal.τ).loc Cert.BNormIdeal.main_arg2)) (m ((c.tc : Thread Cert.BNormIdeal.nD Cert.BNormIdeal.τ).loc Cert.BNormIdeal.main_arg3)) (m ((c.tc : Thread Cert.BNormIdeal.nD Cert.BNormIdeal.τ).loc Cert.BNormIdeal.main_arg4))).1 = (fun _ => 1#1)
    ∧ (Cert.Pre_ln_finite.fn (F := Ideal) (m ((c.tc : Thread Cert.BNormIdeal.nD Cert.BNormIdeal.τ).loc Cert.BNormIdeal.main_arg0)) (m ((c.tc : Thread Cert.BNormIdeal.nD Cert.BNormIdeal.τ).loc Cert.BNormIdeal.main_arg1)) (m ((c.tc : Thread Cert.BNormIdeal.nD Cert.BNormIdeal.τ).loc Cert.BNormIdeal.main_arg2)) (m ((c.tc : Thread Cert.BNormIdeal.nD Cert.BNormIdeal.τ).loc Cert.BNormIdeal.main_arg3)) (m ((c.tc : Thread Cert.BNormIdeal.nD Cert.BNormIdeal.τ).loc Cert.BNormIdeal.main_arg4))).2.1 = (fun _ => 1#1)
    ∧ (Cert.Pre_ln_finite.fn (F := Ideal) (m ((c.tc : Thread Cert.BNormIdeal.nD Cert.BNormIdeal.τ).loc Cert.BNormIdeal.main_arg0)) (m ((c.tc : Thread Cert.BNormIdeal.nD Cert.BNormIdeal.τ).loc Cert.BNormIdeal.main_arg1)) (m ((c.tc : Thread Cert.BNormIdeal.nD Cert.BNormIdeal.τ).loc Cert.BNormIdeal.main_arg2)) (m ((c.tc : Thread Cert.BNormIdeal.nD Cert.BNormIdeal.τ).loc Cert.BNormIdeal.main_arg3)) (m ((c.tc : Thread Cert.BNormIdeal.nD Cert.BNormIdeal.τ).loc Cert.BNormIdeal.main_arg4))).2.2.1 = (fun _ => 1#1)
    ∧ (Cert.Pre_ln_finite.fn (F := Ideal) (m ((c.tc : Thread Cert.BNormIdeal.nD Cert.BNormIdeal.τ).loc Cert.BNormIdeal.main_arg0)) (m ((c.tc : Thread Cert.BNormIdeal.nD Cert.BNormIdeal.τ).loc Cert.BNormIdeal.main_arg1)) (m ((c.tc : Thread Cert.BNormIdeal.nD Cert.BNormIdeal.τ).loc Cert.BNormIdeal.main_arg2)) (m ((c.tc : Thread Cert.BNormIdeal.nD Cert.BNormIdeal.τ).loc Cert.BNormIdeal.main_arg3)) (m ((c.tc : Thread Cert.BNormIdeal.nD Cert.BNormIdeal.τ).loc Cert.BNormIdeal.main_arg4))).2.2.2.1 = (fun _ => 1#1)
    ∧ (Cert.Pre_ln_finite.fn (F := Ideal) (m ((c.tc : Thread Cert.BNormIdeal.nD Cert.BNormIdeal.τ).loc Cert.BNormIdeal.main_arg0)) (m ((c.tc : Thread Cert.BNormIdeal.nD Cert.BNormIdeal.τ).loc Cert.BNormIdeal.main_arg1)) (m ((c.tc : Thread Cert.BNormIdeal.nD Cert.BNormIdeal.τ).loc Cert.BNormIdeal.main_arg2)) (m ((c.tc : Thread Cert.BNormIdeal.nD Cert.BNormIdeal.τ).loc Cert.BNormIdeal.main_arg3)) (m ((c.tc : Thread Cert.BNormIdeal.nD Cert.BNormIdeal.τ).loc Cert.BNormIdeal.main_arg4))).2.2.2.2 = (fun _ => 1#1)

def Pre_BNormRefIdeal (m : (ℓ : Loc Cert.BNormRefIdeal.nD Cert.BNormRefIdeal.τ Cert.BNormRefIdeal.sig) → Buf (Elt Ideal) ℓ) : Prop :=
  True

def Pre_BNormRefIdeal_ln_finite [hPre_ln_finite : Cert.Pre_ln_finite.Facts] (m : (ℓ : Loc Cert.BNormRefIdeal.nD Cert.BNormRefIdeal.τ Cert.BNormRefIdeal.sig) → Buf (Elt Ideal) ℓ) : Prop :=
  ∀ c : Dev Cert.BNormRefIdeal.nD,
    (Cert.Pre_ln_finite.fn (F := Ideal) (m ((c.tc : Thread Cert.BNormRefIdeal.nD Cert.BNormRefIdeal.τ).loc Cert.BNormRefIdeal.main_arg0)) (m ((c.tc : Thread Cert.BNormRefIdeal.nD Cert.BNormRefIdeal.τ).loc Cert.BNormRefIdeal.main_arg1)) (m ((c.tc : Thread Cert.BNormRefIdeal.nD Cert.BNormRefIdeal.τ).loc Cert.BNormRefIdeal.main_arg2)) (m ((c.tc : Thread Cert.BNormRefIdeal.nD Cert.BNormRefIdeal.τ).loc Cert.BNormRefIdeal.main_arg3)) (m ((c.tc : Thread Cert.BNormRefIdeal.nD Cert.BNormRefIdeal.τ).loc Cert.BNormRefIdeal.main_arg4))).1 = (fun _ => 1#1)
    ∧ (Cert.Pre_ln_finite.fn (F := Ideal) (m ((c.tc : Thread Cert.BNormRefIdeal.nD Cert.BNormRefIdeal.τ).loc Cert.BNormRefIdeal.main_arg0)) (m ((c.tc : Thread Cert.BNormRefIdeal.nD Cert.BNormRefIdeal.τ).loc Cert.BNormRefIdeal.main_arg1)) (m ((c.tc : Thread Cert.BNormRefIdeal.nD Cert.BNormRefIdeal.τ).loc Cert.BNormRefIdeal.main_arg2)) (m ((c.tc : Thread Cert.BNormRefIdeal.nD Cert.BNormRefIdeal.τ).loc Cert.BNormRefIdeal.main_arg3)) (m ((c.tc : Thread Cert.BNormRefIdeal.nD Cert.BNormRefIdeal.τ).loc Cert.BNormRefIdeal.main_arg4))).2.1 = (fun _ => 1#1)
    ∧ (Cert.Pre_ln_finite.fn (F := Ideal) (m ((c.tc : Thread Cert.BNormRefIdeal.nD Cert.BNormRefIdeal.τ).loc Cert.BNormRefIdeal.main_arg0)) (m ((c.tc : Thread Cert.BNormRefIdeal.nD Cert.BNormRefIdeal.τ).loc Cert.BNormRefIdeal.main_arg1)) (m ((c.tc : Thread Cert.BNormRefIdeal.nD Cert.BNormRefIdeal.τ).loc Cert.BNormRefIdeal.main_arg2)) (m ((c.tc : Thread Cert.BNormRefIdeal.nD Cert.BNormRefIdeal.τ).loc Cert.BNormRefIdeal.main_arg3)) (m ((c.tc : Thread Cert.BNormRefIdeal.nD Cert.BNormRefIdeal.τ).loc Cert.BNormRefIdeal.main_arg4))).2.2.1 = (fun _ => 1#1)
    ∧ (Cert.Pre_ln_finite.fn (F := Ideal) (m ((c.tc : Thread Cert.BNormRefIdeal.nD Cert.BNormRefIdeal.τ).loc Cert.BNormRefIdeal.main_arg0)) (m ((c.tc : Thread Cert.BNormRefIdeal.nD Cert.BNormRefIdeal.τ).loc Cert.BNormRefIdeal.main_arg1)) (m ((c.tc : Thread Cert.BNormRefIdeal.nD Cert.BNormRefIdeal.τ).loc Cert.BNormRefIdeal.main_arg2)) (m ((c.tc : Thread Cert.BNormRefIdeal.nD Cert.BNormRefIdeal.τ).loc Cert.BNormRefIdeal.main_arg3)) (m ((c.tc : Thread Cert.BNormRefIdeal.nD Cert.BNormRefIdeal.τ).loc Cert.BNormRefIdeal.main_arg4))).2.2.2.1 = (fun _ => 1#1)
    ∧ (Cert.Pre_ln_finite.fn (F := Ideal) (m ((c.tc : Thread Cert.BNormRefIdeal.nD Cert.BNormRefIdeal.τ).loc Cert.BNormRefIdeal.main_arg0)) (m ((c.tc : Thread Cert.BNormRefIdeal.nD Cert.BNormRefIdeal.τ).loc Cert.BNormRefIdeal.main_arg1)) (m ((c.tc : Thread Cert.BNormRefIdeal.nD Cert.BNormRefIdeal.τ).loc Cert.BNormRefIdeal.main_arg2)) (m ((c.tc : Thread Cert.BNormRefIdeal.nD Cert.BNormRefIdeal.τ).loc Cert.BNormRefIdeal.main_arg3)) (m ((c.tc : Thread Cert.BNormRefIdeal.nD Cert.BNormRefIdeal.τ).loc Cert.BNormRefIdeal.main_arg4))).2.2.2.2 = (fun _ => 1#1)

def Pre_FGate (m : (ℓ : Loc Cert.FGate.nD Cert.FGate.τ Cert.FGate.sig) → Buf (Elt Bits) ℓ) : Prop :=
  True

def Pre_FGateIdeal (m : (ℓ : Loc Cert.FGateIdeal.nD Cert.FGateIdeal.τ Cert.FGateIdeal.sig) → Buf (Elt Ideal) ℓ) : Prop :=
  True

def Pre_FGateIdeal_f_finite [hPre_f_finite : Cert.Pre_f_finite.Facts] (m : (ℓ : Loc Cert.FGateIdeal.nD Cert.FGateIdeal.τ Cert.FGateIdeal.sig) → Buf (Elt Ideal) ℓ) : Prop :=
  ∀ c : Dev Cert.FGateIdeal.nD,
    (Cert.Pre_f_finite.fn (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)) (m ((c.tc : Thread Cert.FGateIdeal.nD Cert.FGateIdeal.τ).loc Cert.FGateIdeal.main_arg2)) (m ((c.tc : Thread Cert.FGateIdeal.nD Cert.FGateIdeal.τ).loc Cert.FGateIdeal.main_arg3)) (m ((c.tc : Thread Cert.FGateIdeal.nD Cert.FGateIdeal.τ).loc Cert.FGateIdeal.main_arg4))).1 = (fun _ => 1#1)
    ∧ (Cert.Pre_f_finite.fn (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)) (m ((c.tc : Thread Cert.FGateIdeal.nD Cert.FGateIdeal.τ).loc Cert.FGateIdeal.main_arg2)) (m ((c.tc : Thread Cert.FGateIdeal.nD Cert.FGateIdeal.τ).loc Cert.FGateIdeal.main_arg3)) (m ((c.tc : Thread Cert.FGateIdeal.nD Cert.FGateIdeal.τ).loc Cert.FGateIdeal.main_arg4))).2.1 = (fun _ => 1#1)
    ∧ (Cert.Pre_f_finite.fn (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)) (m ((c.tc : Thread Cert.FGateIdeal.nD Cert.FGateIdeal.τ).loc Cert.FGateIdeal.main_arg2)) (m ((c.tc : Thread Cert.FGateIdeal.nD Cert.FGateIdeal.τ).loc Cert.FGateIdeal.main_arg3)) (m ((c.tc : Thread Cert.FGateIdeal.nD Cert.FGateIdeal.τ).loc Cert.FGateIdeal.main_arg4))).2.2.1 = (fun _ => 1#1)
    ∧ (Cert.Pre_f_finite.fn (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)) (m ((c.tc : Thread Cert.FGateIdeal.nD Cert.FGateIdeal.τ).loc Cert.FGateIdeal.main_arg2)) (m ((c.tc : Thread Cert.FGateIdeal.nD Cert.FGateIdeal.τ).loc Cert.FGateIdeal.main_arg3)) (m ((c.tc : Thread Cert.FGateIdeal.nD Cert.FGateIdeal.τ).loc Cert.FGateIdeal.main_arg4))).2.2.2 = (fun _ => 1#1)

def Pre_FGateRefIdeal (m : (ℓ : Loc Cert.FGateRefIdeal.nD Cert.FGateRefIdeal.τ Cert.FGateRefIdeal.sig) → Buf (Elt Ideal) ℓ) : Prop :=
  True

def Pre_FGateRefIdeal_f_finite [hPre_f_finite : Cert.Pre_f_finite.Facts] (m : (ℓ : Loc Cert.FGateRefIdeal.nD Cert.FGateRefIdeal.τ Cert.FGateRefIdeal.sig) → Buf (Elt Ideal) ℓ) : Prop :=
  ∀ c : Dev Cert.FGateRefIdeal.nD,
    (Cert.Pre_f_finite.fn (F := Ideal) (m ((c.tc : Thread Cert.FGateRefIdeal.nD Cert.FGateRefIdeal.τ).loc Cert.FGateRefIdeal.main_arg0)) (m ((c.tc : Thread Cert.FGateRefIdeal.nD Cert.FGateRefIdeal.τ).loc Cert.FGateRefIdeal.main_arg1)) (m ((c.tc : Thread Cert.FGateRefIdeal.nD Cert.FGateRefIdeal.τ).loc Cert.FGateRefIdeal.main_arg2)) (m ((c.tc : Thread Cert.FGateRefIdeal.nD Cert.FGateRefIdeal.τ).loc Cert.FGateRefIdeal.main_arg3)) (m ((c.tc : Thread Cert.FGateRefIdeal.nD Cert.FGateRefIdeal.τ).loc Cert.FGateRefIdeal.main_arg4))).1 = (fun _ => 1#1)
    ∧ (Cert.Pre_f_finite.fn (F := Ideal) (m ((c.tc : Thread Cert.FGateRefIdeal.nD Cert.FGateRefIdeal.τ).loc Cert.FGateRefIdeal.main_arg0)) (m ((c.tc : Thread Cert.FGateRefIdeal.nD Cert.FGateRefIdeal.τ).loc Cert.FGateRefIdeal.main_arg1)) (m ((c.tc : Thread Cert.FGateRefIdeal.nD Cert.FGateRefIdeal.τ).loc Cert.FGateRefIdeal.main_arg2)) (m ((c.tc : Thread Cert.FGateRefIdeal.nD Cert.FGateRefIdeal.τ).loc Cert.FGateRefIdeal.main_arg3)) (m ((c.tc : Thread Cert.FGateRefIdeal.nD Cert.FGateRefIdeal.τ).loc Cert.FGateRefIdeal.main_arg4))).2.1 = (fun _ => 1#1)
    ∧ (Cert.Pre_f_finite.fn (F := Ideal) (m ((c.tc : Thread Cert.FGateRefIdeal.nD Cert.FGateRefIdeal.τ).loc Cert.FGateRefIdeal.main_arg0)) (m ((c.tc : Thread Cert.FGateRefIdeal.nD Cert.FGateRefIdeal.τ).loc Cert.FGateRefIdeal.main_arg1)) (m ((c.tc : Thread Cert.FGateRefIdeal.nD Cert.FGateRefIdeal.τ).loc Cert.FGateRefIdeal.main_arg2)) (m ((c.tc : Thread Cert.FGateRefIdeal.nD Cert.FGateRefIdeal.τ).loc Cert.FGateRefIdeal.main_arg3)) (m ((c.tc : Thread Cert.FGateRefIdeal.nD Cert.FGateRefIdeal.τ).loc Cert.FGateRefIdeal.main_arg4))).2.2.1 = (fun _ => 1#1)
    ∧ (Cert.Pre_f_finite.fn (F := Ideal) (m ((c.tc : Thread Cert.FGateRefIdeal.nD Cert.FGateRefIdeal.τ).loc Cert.FGateRefIdeal.main_arg0)) (m ((c.tc : Thread Cert.FGateRefIdeal.nD Cert.FGateRefIdeal.τ).loc Cert.FGateRefIdeal.main_arg1)) (m ((c.tc : Thread Cert.FGateRefIdeal.nD Cert.FGateRefIdeal.τ).loc Cert.FGateRefIdeal.main_arg2)) (m ((c.tc : Thread Cert.FGateRefIdeal.nD Cert.FGateRefIdeal.τ).loc Cert.FGateRefIdeal.main_arg3)) (m ((c.tc : Thread Cert.FGateRefIdeal.nD Cert.FGateRefIdeal.τ).loc Cert.FGateRefIdeal.main_arg4))).2.2.2 = (fun _ => 1#1)

def Pre_AGate (m : (ℓ : Loc Cert.AGate.nD Cert.AGate.τ Cert.AGate.sig) → Buf (Elt Bits) ℓ) : Prop :=
  True

def Pre_AGateIdeal (m : (ℓ : Loc Cert.AGateIdeal.nD Cert.AGateIdeal.τ Cert.AGateIdeal.sig) → Buf (Elt Ideal) ℓ) : Prop :=
  True

def Pre_AGateRefIdeal (m : (ℓ : Loc Cert.AGateRefIdeal.nD Cert.AGateRefIdeal.τ Cert.AGateRefIdeal.sig) → Buf (Elt Ideal) ℓ) : Prop :=
  True

def Pre_BGate (m : (ℓ : Loc Cert.BGate.nD Cert.BGate.τ Cert.BGate.sig) → Buf (Elt Bits) ℓ) : Prop :=
  True

def Pre_BGateIdeal (m : (ℓ : Loc Cert.BGateIdeal.nD Cert.BGateIdeal.τ Cert.BGateIdeal.sig) → Buf (Elt Ideal) ℓ) : Prop :=
  True

def Pre_BGateRefIdeal (m : (ℓ : Loc Cert.BGateRefIdeal.nD Cert.BGateRefIdeal.τ Cert.BGateRefIdeal.sig) → Buf (Elt Ideal) ℓ) : Prop :=
  True

def Pre_CGate (m : (ℓ : Loc Cert.CGate.nD Cert.CGate.τ Cert.CGate.sig) → Buf (Elt Bits) ℓ) : Prop :=
  True

def Pre_CGateIdeal (m : (ℓ : Loc Cert.CGateIdeal.nD Cert.CGateIdeal.τ Cert.CGateIdeal.sig) → Buf (Elt Ideal) ℓ) : Prop :=
  True

def Pre_CGateRefIdeal (m : (ℓ : Loc Cert.CGateRefIdeal.nD Cert.CGateRefIdeal.τ Cert.CGateRefIdeal.sig) → Buf (Elt Ideal) ℓ) : Prop :=
  True

def Pre_AStrip (m : (ℓ : Loc Cert.AStrip.nD Cert.AStrip.τ Cert.AStrip.sig) → Buf (Elt Bits) ℓ) : Prop :=
  True

def Pre_AStripIdeal (m : (ℓ : Loc Cert.AStripIdeal.nD Cert.AStripIdeal.τ Cert.AStripIdeal.sig) → Buf (Elt Ideal) ℓ) : Prop :=
  True

def Pre_AStripRefIdeal (m : (ℓ : Loc Cert.AStripRefIdeal.nD Cert.AStripRefIdeal.τ Cert.AStripRefIdeal.sig) → Buf (Elt Ideal) ℓ) : Prop :=
  True

def Pre_BStrip (m : (ℓ : Loc Cert.BStrip.nD Cert.BStrip.τ Cert.BStrip.sig) → Buf (Elt Bits) ℓ) : Prop :=
  True

def Pre_BStripIdeal (m : (ℓ : Loc Cert.BStripIdeal.nD Cert.BStripIdeal.τ Cert.BStripIdeal.sig) → Buf (Elt Ideal) ℓ) : Prop :=
  True

def Pre_BStripRefIdeal (m : (ℓ : Loc Cert.BStripRefIdeal.nD Cert.BStripRefIdeal.τ Cert.BStripRefIdeal.sig) → Buf (Elt Ideal) ℓ) : Prop :=
  True

def Pre_CStrip (m : (ℓ : Loc Cert.CStrip.nD Cert.CStrip.τ Cert.CStrip.sig) → Buf (Elt Bits) ℓ) : Prop :=
  True

def Pre_CStripIdeal (m : (ℓ : Loc Cert.CStripIdeal.nD Cert.CStripIdeal.τ Cert.CStripIdeal.sig) → Buf (Elt Ideal) ℓ) : Prop :=
  True

def Pre_CStripIdeal_c_finite [hPre_c_finite : Cert.Pre_c_finite.Facts] (m : (ℓ : Loc Cert.CStripIdeal.nD Cert.CStripIdeal.τ Cert.CStripIdeal.sig) → Buf (Elt Ideal) ℓ) : Prop :=
  ∀ c : Dev Cert.CStripIdeal.nD,
    (Cert.Pre_c_finite.fn (F := Ideal) (m ((c.tc : Thread Cert.CStripIdeal.nD Cert.CStripIdeal.τ).loc Cert.CStripIdeal.main_arg0))) = (fun _ => 1#1)

def Pre_CStripRefIdeal (m : (ℓ : Loc Cert.CStripRefIdeal.nD Cert.CStripRefIdeal.τ Cert.CStripRefIdeal.sig) → Buf (Elt Ideal) ℓ) : Prop :=
  True

def Pre_CStripRefIdeal_c_finite [hPre_c_finite : Cert.Pre_c_finite.Facts] (m : (ℓ : Loc Cert.CStripRefIdeal.nD Cert.CStripRefIdeal.τ Cert.CStripRefIdeal.sig) → Buf (Elt Ideal) ℓ) : Prop :=
  ∀ c : Dev Cert.CStripRefIdeal.nD,
    (Cert.Pre_c_finite.fn (F := Ideal) (m ((c.tc : Thread Cert.CStripRefIdeal.nD Cert.CStripRefIdeal.τ).loc Cert.CStripRefIdeal.main_arg0))) = (fun _ => 1#1)

def Pre_CMod (m : (ℓ : Loc Cert.CMod.nD Cert.CMod.τ Cert.CMod.sig) → Buf (Elt Bits) ℓ) : Prop :=
  True

def Pre_CModIdeal (m : (ℓ : Loc Cert.CModIdeal.nD Cert.CModIdeal.τ Cert.CModIdeal.sig) → Buf (Elt Ideal) ℓ) : Prop :=
  True

def Pre_CModRefIdeal (m : (ℓ : Loc Cert.CModRefIdeal.nD Cert.CModRefIdeal.τ Cert.CModRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_FIn (m : (ℓ : Loc Cert.FIn.nD Cert.FIn.τ Cert.FIn.sig) → Buf (Elt Bits) ℓ) : Prop :=
  True

def Pre_FInIdeal (m : (ℓ : Loc Cert.FInIdeal.nD Cert.FInIdeal.τ Cert.FInIdeal.sig) → Buf (Elt Ideal) ℓ) : Prop :=
  True

def Pre_FInRefIdeal (m : (ℓ : Loc Cert.FInRefIdeal.nD Cert.FInRefIdeal.τ Cert.FInRefIdeal.sig) → Buf (Elt Ideal) ℓ) : Prop :=
  True

def Pre_CPool (m : (ℓ : Loc Cert.CPool.nD Cert.CPool.τ Cert.CPool.sig) → Buf (Elt Bits) ℓ) : Prop :=
  True

def Pre_CPoolIdeal (m : (ℓ : Loc Cert.CPoolIdeal.nD Cert.CPoolIdeal.τ Cert.CPoolIdeal.sig) → Buf (Elt Ideal) ℓ) : Prop :=
  True

def Pre_CPoolIdeal_cw_finite [hPre_cw_finite : Cert.Pre_cw_finite.Facts] (m : (ℓ : Loc Cert.CPoolIdeal.nD Cert.CPoolIdeal.τ Cert.CPoolIdeal.sig) → Buf (Elt Ideal) ℓ) : Prop :=
  ∀ c : Dev Cert.CPoolIdeal.nD,
    (Cert.Pre_cw_finite.fn (F := Ideal) (m ((c.tc : Thread Cert.CPoolIdeal.nD Cert.CPoolIdeal.τ).loc Cert.CPoolIdeal.main_arg0))) = (fun _ => 1#1)

def Pre_CPoolRefIdeal (m : (ℓ : Loc Cert.CPoolRefIdeal.nD Cert.CPoolRefIdeal.τ Cert.CPoolRefIdeal.sig) → Buf (Elt Ideal) ℓ) : Prop :=
  True

def Pre_CPoolRefIdeal_cw_finite [hPre_cw_finite : Cert.Pre_cw_finite.Facts] (m : (ℓ : Loc Cert.CPoolRefIdeal.nD Cert.CPoolRefIdeal.τ Cert.CPoolRefIdeal.sig) → Buf (Elt Ideal) ℓ) : Prop :=
  ∀ c : Dev Cert.CPoolRefIdeal.nD,
    (Cert.Pre_cw_finite.fn (F := Ideal) (m ((c.tc : Thread Cert.CPoolRefIdeal.nD Cert.CPoolRefIdeal.τ).loc Cert.CPoolRefIdeal.main_arg0))) = (fun _ => 1#1)

def Pre_AConv (m : (ℓ : Loc Cert.AConv.nD Cert.AConv.τ Cert.AConv.sig) → Buf (Elt Bits) ℓ) : Prop :=
  True

def Pre_AConvIdeal (m : (ℓ : Loc Cert.AConvIdeal.nD Cert.AConvIdeal.τ Cert.AConvIdeal.sig) → Buf (Elt Ideal) ℓ) : Prop :=
  True

def Pre_AConvRefIdeal (m : (ℓ : Loc Cert.AConvRefIdeal.nD Cert.AConvRefIdeal.τ Cert.AConvRefIdeal.sig) → Buf (Elt Ideal) ℓ) : Prop :=
  True

def Pre_BConv (m : (ℓ : Loc Cert.BConv.nD Cert.BConv.τ Cert.BConv.sig) → Buf (Elt Bits) ℓ) : Prop :=
  True

def Pre_BConvIdeal (m : (ℓ : Loc Cert.BConvIdeal.nD Cert.BConvIdeal.τ Cert.BConvIdeal.sig) → Buf (Elt Ideal) ℓ) : Prop :=
  True

def Pre_BConvRefIdeal (m : (ℓ : Loc Cert.BConvRefIdeal.nD Cert.BConvRefIdeal.τ Cert.BConvRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamLayers (m : (ℓ : Loc Cert.AdamLayers.nD Cert.AdamLayers.τ Cert.AdamLayers.sig) → Buf (Elt Bits) ℓ) : Prop :=
  True

def Pre_AdamLayersIdeal (m : (ℓ : Loc Cert.AdamLayersIdeal.nD Cert.AdamLayersIdeal.τ Cert.AdamLayersIdeal.sig) → Buf (Elt Ideal) ℓ) : Prop :=
  True

def Pre_AdamLayersRefIdeal (m : (ℓ : Loc Cert.AdamLayersRefIdeal.nD Cert.AdamLayersRefIdeal.τ Cert.AdamLayersRefIdeal.sig) → Buf (Elt Ideal) ℓ) : Prop :=
  True

def Pre_AdaUpdate (m : (ℓ : Loc Cert.AdaUpdate.nD Cert.AdaUpdate.τ Cert.AdaUpdate.sig) → Buf (Elt Bits) ℓ) : Prop :=
  True

def Pre_AdaUpdateIdeal (m : (ℓ : Loc Cert.AdaUpdateIdeal.nD Cert.AdaUpdateIdeal.τ Cert.AdaUpdateIdeal.sig) → Buf (Elt Ideal) ℓ) : Prop :=
  True

def Pre_AdaUpdateRefIdeal (m : (ℓ : Loc Cert.AdaUpdateRefIdeal.nD Cert.AdaUpdateRefIdeal.τ Cert.AdaUpdateRefIdeal.sig) → Buf (Elt Ideal) ℓ) : Prop :=
  True

def Pre_PackSmall (m : (ℓ : Loc Cert.PackSmall.nD Cert.PackSmall.τ Cert.PackSmall.sig) → Buf (Elt Bits) ℓ) : Prop :=
  True

def Pre_PackSmallIdeal (m : (ℓ : Loc Cert.PackSmallIdeal.nD Cert.PackSmallIdeal.τ Cert.PackSmallIdeal.sig) → Buf (Elt Ideal) ℓ) : Prop :=
  True

def Pre_PackSmallRefIdeal (m : (ℓ : Loc Cert.PackSmallRefIdeal.nD Cert.PackSmallRefIdeal.τ Cert.PackSmallRefIdeal.sig) → Buf (Elt Ideal) ℓ) : Prop :=
  True

def quiescent_CNorm [hCNorm : Cert.CNorm.Facts] : Prop :=
  ∀ (m : (ℓ : Loc Cert.CNorm.nD Cert.CNorm.τ Cert.CNorm.sig) → Buf (Elt Bits) ℓ) (g : Dev Cert.CNorm.nD → PrngReg), Pre_CNorm m →
    θ_run (Cert.CNorm.defs (F := Bits)) (onTc (τ := Cert.CNorm.τ) (Cert.CNorm.main (F := Bits))) ⟨m, fun _ => 0, g⟩ (fun r => (∀ c : Dev Cert.CNorm.nD,
      r.2.mem ((c.tc : Thread Cert.CNorm.nD Cert.CNorm.τ).loc Cert.CNorm.main_arg0) = m ((c.tc : Thread Cert.CNorm.nD Cert.CNorm.τ).loc Cert.CNorm.main_arg0)
      ∧ r.2.mem ((c.tc : Thread Cert.CNorm.nD Cert.CNorm.τ).loc Cert.CNorm.main_arg1) = m ((c.tc : Thread Cert.CNorm.nD Cert.CNorm.τ).loc Cert.CNorm.main_arg1)
      ∧ r.2.mem ((c.tc : Thread Cert.CNorm.nD Cert.CNorm.τ).loc Cert.CNorm.main_arg2) = m ((c.tc : Thread Cert.CNorm.nD Cert.CNorm.τ).loc Cert.CNorm.main_arg2)
      ∧ r.2.mem ((c.tc : Thread Cert.CNorm.nD Cert.CNorm.τ).loc Cert.CNorm.main_arg3) = m ((c.tc : Thread Cert.CNorm.nD Cert.CNorm.τ).loc Cert.CNorm.main_arg3)
      ∧ r.2.mem ((c.tc : Thread Cert.CNorm.nD Cert.CNorm.τ).loc Cert.CNorm.main_arg4) = m ((c.tc : Thread Cert.CNorm.nD Cert.CNorm.τ).loc Cert.CNorm.main_arg4)
      ∧ r.2.mem ((c.tc : Thread Cert.CNorm.nD Cert.CNorm.τ).loc Cert.CNorm.main_arg5) = m ((c.tc : Thread Cert.CNorm.nD Cert.CNorm.τ).loc Cert.CNorm.main_arg5))
      ∧ r.2.sem = fun _ => 0)

def quiescent_CNormIdeal [hCNormIdeal : Cert.CNormIdeal.Facts] : Prop :=
  ∀ (m : (ℓ : Loc Cert.CNormIdeal.nD Cert.CNormIdeal.τ Cert.CNormIdeal.sig) → Buf (Elt Ideal) ℓ) (g : Dev Cert.CNormIdeal.nD → PrngReg), Pre_CNormIdeal m →
    θ_run (Cert.CNormIdeal.defs (F := Ideal)) (onTc (τ := Cert.CNormIdeal.τ) (Cert.CNormIdeal.main (F := Ideal))) ⟨m, fun _ => 0, g⟩ (fun r => (∀ c : Dev Cert.CNormIdeal.nD,
      r.2.mem ((c.tc : Thread Cert.CNormIdeal.nD Cert.CNormIdeal.τ).loc Cert.CNormIdeal.main_arg0) = m ((c.tc : Thread Cert.CNormIdeal.nD Cert.CNormIdeal.τ).loc Cert.CNormIdeal.main_arg0)
      ∧ r.2.mem ((c.tc : Thread Cert.CNormIdeal.nD Cert.CNormIdeal.τ).loc Cert.CNormIdeal.main_arg1) = m ((c.tc : Thread Cert.CNormIdeal.nD Cert.CNormIdeal.τ).loc Cert.CNormIdeal.main_arg1)
      ∧ r.2.mem ((c.tc : Thread Cert.CNormIdeal.nD Cert.CNormIdeal.τ).loc Cert.CNormIdeal.main_arg2) = m ((c.tc : Thread Cert.CNormIdeal.nD Cert.CNormIdeal.τ).loc Cert.CNormIdeal.main_arg2)
      ∧ r.2.mem ((c.tc : Thread Cert.CNormIdeal.nD Cert.CNormIdeal.τ).loc Cert.CNormIdeal.main_arg3) = m ((c.tc : Thread Cert.CNormIdeal.nD Cert.CNormIdeal.τ).loc Cert.CNormIdeal.main_arg3)
      ∧ r.2.mem ((c.tc : Thread Cert.CNormIdeal.nD Cert.CNormIdeal.τ).loc Cert.CNormIdeal.main_arg4) = m ((c.tc : Thread Cert.CNormIdeal.nD Cert.CNormIdeal.τ).loc Cert.CNormIdeal.main_arg4)
      ∧ r.2.mem ((c.tc : Thread Cert.CNormIdeal.nD Cert.CNormIdeal.τ).loc Cert.CNormIdeal.main_arg5) = m ((c.tc : Thread Cert.CNormIdeal.nD Cert.CNormIdeal.τ).loc Cert.CNormIdeal.main_arg5))
      ∧ r.2.sem = fun _ => 0)

def quiescent_CNormIdeal_pre_n_finite [hCNormIdeal : Cert.CNormIdeal.Facts] [hPre_n_finite : Cert.Pre_n_finite.Facts] : Prop :=
  ∀ (m : (ℓ : Loc Cert.CNormIdeal.nD Cert.CNormIdeal.τ Cert.CNormIdeal.sig) → Buf (Elt Ideal) ℓ) (g : Dev Cert.CNormIdeal.nD → PrngReg), Pre_CNormIdeal_n_finite m →
    θ_run (Cert.CNormIdeal.defs (F := Ideal)) (onTc (τ := Cert.CNormIdeal.τ) (Cert.CNormIdeal.main (F := Ideal))) ⟨m, fun _ => 0, g⟩ (fun r => (∀ c : Dev Cert.CNormIdeal.nD,
      r.2.mem ((c.tc : Thread Cert.CNormIdeal.nD Cert.CNormIdeal.τ).loc Cert.CNormIdeal.main_arg0) = m ((c.tc : Thread Cert.CNormIdeal.nD Cert.CNormIdeal.τ).loc Cert.CNormIdeal.main_arg0)
      ∧ r.2.mem ((c.tc : Thread Cert.CNormIdeal.nD Cert.CNormIdeal.τ).loc Cert.CNormIdeal.main_arg1) = m ((c.tc : Thread Cert.CNormIdeal.nD Cert.CNormIdeal.τ).loc Cert.CNormIdeal.main_arg1)
      ∧ r.2.mem ((c.tc : Thread Cert.CNormIdeal.nD Cert.CNormIdeal.τ).loc Cert.CNormIdeal.main_arg2) = m ((c.tc : Thread Cert.CNormIdeal.nD Cert.CNormIdeal.τ).loc Cert.CNormIdeal.main_arg2)
      ∧ r.2.mem ((c.tc : Thread Cert.CNormIdeal.nD Cert.CNormIdeal.τ).loc Cert.CNormIdeal.main_arg3) = m ((c.tc : Thread Cert.CNormIdeal.nD Cert.CNormIdeal.τ).loc Cert.CNormIdeal.main_arg3)
      ∧ r.2.mem ((c.tc : Thread Cert.CNormIdeal.nD Cert.CNormIdeal.τ).loc Cert.CNormIdeal.main_arg4) = m ((c.tc : Thread Cert.CNormIdeal.nD Cert.CNormIdeal.τ).loc Cert.CNormIdeal.main_arg4)
      ∧ r.2.mem ((c.tc : Thread Cert.CNormIdeal.nD Cert.CNormIdeal.τ).loc Cert.CNormIdeal.main_arg5) = m ((c.tc : Thread Cert.CNormIdeal.nD Cert.CNormIdeal.τ).loc Cert.CNormIdeal.main_arg5))
      ∧ r.2.sem = fun _ => 0)

def quiescent_CNormRefIdeal [hCNormRefIdeal : Cert.CNormRefIdeal.Facts] : Prop :=
  ∀ (m : (ℓ : Loc Cert.CNormRefIdeal.nD Cert.CNormRefIdeal.τ Cert.CNormRefIdeal.sig) → Buf (Elt Ideal) ℓ) (g : Dev Cert.CNormRefIdeal.nD → PrngReg), Pre_CNormRefIdeal m →
    θ_run (Cert.CNormRefIdeal.defs (F := Ideal)) (onTc (τ := Cert.CNormRefIdeal.τ) (Cert.CNormRefIdeal.main (F := Ideal))) ⟨m, fun _ => 0, g⟩ (fun r => (∀ c : Dev Cert.CNormRefIdeal.nD,
      r.2.mem ((c.tc : Thread Cert.CNormRefIdeal.nD Cert.CNormRefIdeal.τ).loc Cert.CNormRefIdeal.main_arg0) = m ((c.tc : Thread Cert.CNormRefIdeal.nD Cert.CNormRefIdeal.τ).loc Cert.CNormRefIdeal.main_arg0)
      ∧ r.2.mem ((c.tc : Thread Cert.CNormRefIdeal.nD Cert.CNormRefIdeal.τ).loc Cert.CNormRefIdeal.main_arg1) = m ((c.tc : Thread Cert.CNormRefIdeal.nD Cert.CNormRefIdeal.τ).loc Cert.CNormRefIdeal.main_arg1)
      ∧ r.2.mem ((c.tc : Thread Cert.CNormRefIdeal.nD Cert.CNormRefIdeal.τ).loc Cert.CNormRefIdeal.main_arg2) = m ((c.tc : Thread Cert.CNormRefIdeal.nD Cert.CNormRefIdeal.τ).loc Cert.CNormRefIdeal.main_arg2)
      ∧ r.2.mem ((c.tc : Thread Cert.CNormRefIdeal.nD Cert.CNormRefIdeal.τ).loc Cert.CNormRefIdeal.main_arg3) = m ((c.tc : Thread Cert.CNormRefIdeal.nD Cert.CNormRefIdeal.τ).loc Cert.CNormRefIdeal.main_arg3)
      ∧ r.2.mem ((c.tc : Thread Cert.CNormRefIdeal.nD Cert.CNormRefIdeal.τ).loc Cert.CNormRefIdeal.main_arg4) = m ((c.tc : Thread Cert.CNormRefIdeal.nD Cert.CNormRefIdeal.τ).loc Cert.CNormRefIdeal.main_arg4)
      ∧ r.2.mem ((c.tc : Thread Cert.CNormRefIdeal.nD Cert.CNormRefIdeal.τ).loc Cert.CNormRefIdeal.main_arg5) = m ((c.tc : Thread Cert.CNormRefIdeal.nD Cert.CNormRefIdeal.τ).loc Cert.CNormRefIdeal.main_arg5))
      ∧ r.2.sem = fun _ => 0)

def quiescent_CNormRefIdeal_pre_n_finite [hCNormRefIdeal : Cert.CNormRefIdeal.Facts] [hPre_n_finite : Cert.Pre_n_finite.Facts] : Prop :=
  ∀ (m : (ℓ : Loc Cert.CNormRefIdeal.nD Cert.CNormRefIdeal.τ Cert.CNormRefIdeal.sig) → Buf (Elt Ideal) ℓ) (g : Dev Cert.CNormRefIdeal.nD → PrngReg), Pre_CNormRefIdeal_n_finite m →
    θ_run (Cert.CNormRefIdeal.defs (F := Ideal)) (onTc (τ := Cert.CNormRefIdeal.τ) (Cert.CNormRefIdeal.main (F := Ideal))) ⟨m, fun _ => 0, g⟩ (fun r => (∀ c : Dev Cert.CNormRefIdeal.nD,
      r.2.mem ((c.tc : Thread Cert.CNormRefIdeal.nD Cert.CNormRefIdeal.τ).loc Cert.CNormRefIdeal.main_arg0) = m ((c.tc : Thread Cert.CNormRefIdeal.nD Cert.CNormRefIdeal.τ).loc Cert.CNormRefIdeal.main_arg0)
      ∧ r.2.mem ((c.tc : Thread Cert.CNormRefIdeal.nD Cert.CNormRefIdeal.τ).loc Cert.CNormRefIdeal.main_arg1) = m ((c.tc : Thread Cert.CNormRefIdeal.nD Cert.CNormRefIdeal.τ).loc Cert.CNormRefIdeal.main_arg1)
      ∧ r.2.mem ((c.tc : Thread Cert.CNormRefIdeal.nD Cert.CNormRefIdeal.τ).loc Cert.CNormRefIdeal.main_arg2) = m ((c.tc : Thread Cert.CNormRefIdeal.nD Cert.CNormRefIdeal.τ).loc Cert.CNormRefIdeal.main_arg2)
      ∧ r.2.mem ((c.tc : Thread Cert.CNormRefIdeal.nD Cert.CNormRefIdeal.τ).loc Cert.CNormRefIdeal.main_arg3) = m ((c.tc : Thread Cert.CNormRefIdeal.nD Cert.CNormRefIdeal.τ).loc Cert.CNormRefIdeal.main_arg3)
      ∧ r.2.mem ((c.tc : Thread Cert.CNormRefIdeal.nD Cert.CNormRefIdeal.τ).loc Cert.CNormRefIdeal.main_arg4) = m ((c.tc : Thread Cert.CNormRefIdeal.nD Cert.CNormRefIdeal.τ).loc Cert.CNormRefIdeal.main_arg4)
      ∧ r.2.mem ((c.tc : Thread Cert.CNormRefIdeal.nD Cert.CNormRefIdeal.τ).loc Cert.CNormRefIdeal.main_arg5) = m ((c.tc : Thread Cert.CNormRefIdeal.nD Cert.CNormRefIdeal.τ).loc Cert.CNormRefIdeal.main_arg5))
      ∧ r.2.sem = fun _ => 0)

def quiescent_FNorm [hFNorm : Cert.FNorm.Facts] : Prop :=
  ∀ (m : (ℓ : Loc Cert.FNorm.nD Cert.FNorm.τ Cert.FNorm.sig) → Buf (Elt Bits) ℓ) (g : Dev Cert.FNorm.nD → PrngReg), Pre_FNorm m →
    θ_run (Cert.FNorm.defs (F := Bits)) (onTc (τ := Cert.FNorm.τ) (Cert.FNorm.main (F := Bits))) ⟨m, fun _ => 0, g⟩ (fun r => (∀ c : Dev Cert.FNorm.nD,
      r.2.mem ((c.tc : Thread Cert.FNorm.nD Cert.FNorm.τ).loc Cert.FNorm.main_arg0) = m ((c.tc : Thread Cert.FNorm.nD Cert.FNorm.τ).loc Cert.FNorm.main_arg0)
      ∧ r.2.mem ((c.tc : Thread Cert.FNorm.nD Cert.FNorm.τ).loc Cert.FNorm.main_arg1) = m ((c.tc : Thread Cert.FNorm.nD Cert.FNorm.τ).loc Cert.FNorm.main_arg1)
      ∧ r.2.mem ((c.tc : Thread Cert.FNorm.nD Cert.FNorm.τ).loc Cert.FNorm.main_arg2) = m ((c.tc : Thread Cert.FNorm.nD Cert.FNorm.τ).loc Cert.FNorm.main_arg2)
      ∧ r.2.mem ((c.tc : Thread Cert.FNorm.nD Cert.FNorm.τ).loc Cert.FNorm.main_arg3) = m ((c.tc : Thread Cert.FNorm.nD Cert.FNorm.τ).loc Cert.FNorm.main_arg3)
      ∧ r.2.mem ((c.tc : Thread Cert.FNorm.nD Cert.FNorm.τ).loc Cert.FNorm.main_arg4) = m ((c.tc : Thread Cert.FNorm.nD Cert.FNorm.τ).loc Cert.FNorm.main_arg4)
      ∧ r.2.mem ((c.tc : Thread Cert.FNorm.nD Cert.FNorm.τ).loc Cert.FNorm.main_arg5) = m ((c.tc : Thread Cert.FNorm.nD Cert.FNorm.τ).loc Cert.FNorm.main_arg5)
      ∧ r.2.mem ((c.tc : Thread Cert.FNorm.nD Cert.FNorm.τ).loc Cert.FNorm.main_arg6) = m ((c.tc : Thread Cert.FNorm.nD Cert.FNorm.τ).loc Cert.FNorm.main_arg6))
      ∧ r.2.sem = fun _ => 0)

def quiescent_FNormIdeal [hFNormIdeal : Cert.FNormIdeal.Facts] : Prop :=
  ∀ (m : (ℓ : Loc Cert.FNormIdeal.nD Cert.FNormIdeal.τ Cert.FNormIdeal.sig) → Buf (Elt Ideal) ℓ) (g : Dev Cert.FNormIdeal.nD → PrngReg), Pre_FNormIdeal m →
    θ_run (Cert.FNormIdeal.defs (F := Ideal)) (onTc (τ := Cert.FNormIdeal.τ) (Cert.FNormIdeal.main (F := Ideal))) ⟨m, fun _ => 0, g⟩ (fun r => (∀ c : Dev Cert.FNormIdeal.nD,
      r.2.mem ((c.tc : Thread Cert.FNormIdeal.nD Cert.FNormIdeal.τ).loc Cert.FNormIdeal.main_arg0) = m ((c.tc : Thread Cert.FNormIdeal.nD Cert.FNormIdeal.τ).loc Cert.FNormIdeal.main_arg0)
      ∧ r.2.mem ((c.tc : Thread Cert.FNormIdeal.nD Cert.FNormIdeal.τ).loc Cert.FNormIdeal.main_arg1) = m ((c.tc : Thread Cert.FNormIdeal.nD Cert.FNormIdeal.τ).loc Cert.FNormIdeal.main_arg1)
      ∧ r.2.mem ((c.tc : Thread Cert.FNormIdeal.nD Cert.FNormIdeal.τ).loc Cert.FNormIdeal.main_arg2) = m ((c.tc : Thread Cert.FNormIdeal.nD Cert.FNormIdeal.τ).loc Cert.FNormIdeal.main_arg2)
      ∧ r.2.mem ((c.tc : Thread Cert.FNormIdeal.nD Cert.FNormIdeal.τ).loc Cert.FNormIdeal.main_arg3) = m ((c.tc : Thread Cert.FNormIdeal.nD Cert.FNormIdeal.τ).loc Cert.FNormIdeal.main_arg3)
      ∧ r.2.mem ((c.tc : Thread Cert.FNormIdeal.nD Cert.FNormIdeal.τ).loc Cert.FNormIdeal.main_arg4) = m ((c.tc : Thread Cert.FNormIdeal.nD Cert.FNormIdeal.τ).loc Cert.FNormIdeal.main_arg4)
      ∧ r.2.mem ((c.tc : Thread Cert.FNormIdeal.nD Cert.FNormIdeal.τ).loc Cert.FNormIdeal.main_arg5) = m ((c.tc : Thread Cert.FNormIdeal.nD Cert.FNormIdeal.τ).loc Cert.FNormIdeal.main_arg5)
      ∧ r.2.mem ((c.tc : Thread Cert.FNormIdeal.nD Cert.FNormIdeal.τ).loc Cert.FNormIdeal.main_arg6) = m ((c.tc : Thread Cert.FNormIdeal.nD Cert.FNormIdeal.τ).loc Cert.FNormIdeal.main_arg6))
      ∧ r.2.sem = fun _ => 0)

def quiescent_FNormIdeal_pre_fn_finite [hFNormIdeal : Cert.FNormIdeal.Facts] [hPre_fn_finite : Cert.Pre_fn_finite.Facts] : Prop :=
  ∀ (m : (ℓ : Loc Cert.FNormIdeal.nD Cert.FNormIdeal.τ Cert.FNormIdeal.sig) → Buf (Elt Ideal) ℓ) (g : Dev Cert.FNormIdeal.nD → PrngReg), Pre_FNormIdeal_fn_finite m →
    θ_run (Cert.FNormIdeal.defs (F := Ideal)) (onTc (τ := Cert.FNormIdeal.τ) (Cert.FNormIdeal.main (F := Ideal))) ⟨m, fun _ => 0, g⟩ (fun r => (∀ c : Dev Cert.FNormIdeal.nD,
      r.2.mem ((c.tc : Thread Cert.FNormIdeal.nD Cert.FNormIdeal.τ).loc Cert.FNormIdeal.main_arg0) = m ((c.tc : Thread Cert.FNormIdeal.nD Cert.FNormIdeal.τ).loc Cert.FNormIdeal.main_arg0)
      ∧ r.2.mem ((c.tc : Thread Cert.FNormIdeal.nD Cert.FNormIdeal.τ).loc Cert.FNormIdeal.main_arg1) = m ((c.tc : Thread Cert.FNormIdeal.nD Cert.FNormIdeal.τ).loc Cert.FNormIdeal.main_arg1)
      ∧ r.2.mem ((c.tc : Thread Cert.FNormIdeal.nD Cert.FNormIdeal.τ).loc Cert.FNormIdeal.main_arg2) = m ((c.tc : Thread Cert.FNormIdeal.nD Cert.FNormIdeal.τ).loc Cert.FNormIdeal.main_arg2)
      ∧ r.2.mem ((c.tc : Thread Cert.FNormIdeal.nD Cert.FNormIdeal.τ).loc Cert.FNormIdeal.main_arg3) = m ((c.tc : Thread Cert.FNormIdeal.nD Cert.FNormIdeal.τ).loc Cert.FNormIdeal.main_arg3)
      ∧ r.2.mem ((c.tc : Thread Cert.FNormIdeal.nD Cert.FNormIdeal.τ).loc Cert.FNormIdeal.main_arg4) = m ((c.tc : Thread Cert.FNormIdeal.nD Cert.FNormIdeal.τ).loc Cert.FNormIdeal.main_arg4)
      ∧ r.2.mem ((c.tc : Thread Cert.FNormIdeal.nD Cert.FNormIdeal.τ).loc Cert.FNormIdeal.main_arg5) = m ((c.tc : Thread Cert.FNormIdeal.nD Cert.FNormIdeal.τ).loc Cert.FNormIdeal.main_arg5)
      ∧ r.2.mem ((c.tc : Thread Cert.FNormIdeal.nD Cert.FNormIdeal.τ).loc Cert.FNormIdeal.main_arg6) = m ((c.tc : Thread Cert.FNormIdeal.nD Cert.FNormIdeal.τ).loc Cert.FNormIdeal.main_arg6))
      ∧ r.2.sem = fun _ => 0)

def quiescent_FNormRefIdeal [hFNormRefIdeal : Cert.FNormRefIdeal.Facts] : Prop :=
  ∀ (m : (ℓ : Loc Cert.FNormRefIdeal.nD Cert.FNormRefIdeal.τ Cert.FNormRefIdeal.sig) → Buf (Elt Ideal) ℓ) (g : Dev Cert.FNormRefIdeal.nD → PrngReg), Pre_FNormRefIdeal m →
    θ_run (Cert.FNormRefIdeal.defs (F := Ideal)) (onTc (τ := Cert.FNormRefIdeal.τ) (Cert.FNormRefIdeal.main (F := Ideal))) ⟨m, fun _ => 0, g⟩ (fun r => (∀ c : Dev Cert.FNormRefIdeal.nD,
      r.2.mem ((c.tc : Thread Cert.FNormRefIdeal.nD Cert.FNormRefIdeal.τ).loc Cert.FNormRefIdeal.main_arg0) = m ((c.tc : Thread Cert.FNormRefIdeal.nD Cert.FNormRefIdeal.τ).loc Cert.FNormRefIdeal.main_arg0)
      ∧ r.2.mem ((c.tc : Thread Cert.FNormRefIdeal.nD Cert.FNormRefIdeal.τ).loc Cert.FNormRefIdeal.main_arg1) = m ((c.tc : Thread Cert.FNormRefIdeal.nD Cert.FNormRefIdeal.τ).loc Cert.FNormRefIdeal.main_arg1)
      ∧ r.2.mem ((c.tc : Thread Cert.FNormRefIdeal.nD Cert.FNormRefIdeal.τ).loc Cert.FNormRefIdeal.main_arg2) = m ((c.tc : Thread Cert.FNormRefIdeal.nD Cert.FNormRefIdeal.τ).loc Cert.FNormRefIdeal.main_arg2)
      ∧ r.2.mem ((c.tc : Thread Cert.FNormRefIdeal.nD Cert.FNormRefIdeal.τ).loc Cert.FNormRefIdeal.main_arg3) = m ((c.tc : Thread Cert.FNormRefIdeal.nD Cert.FNormRefIdeal.τ).loc Cert.FNormRefIdeal.main_arg3)
      ∧ r.2.mem ((c.tc : Thread Cert.FNormRefIdeal.nD Cert.FNormRefIdeal.τ).loc Cert.FNormRefIdeal.main_arg4) = m ((c.tc : Thread Cert.FNormRefIdeal.nD Cert.FNormRefIdeal.τ).loc Cert.FNormRefIdeal.main_arg4)
      ∧ r.2.mem ((c.tc : Thread Cert.FNormRefIdeal.nD Cert.FNormRefIdeal.τ).loc Cert.FNormRefIdeal.main_arg5) = m ((c.tc : Thread Cert.FNormRefIdeal.nD Cert.FNormRefIdeal.τ).loc Cert.FNormRefIdeal.main_arg5)
      ∧ r.2.mem ((c.tc : Thread Cert.FNormRefIdeal.nD Cert.FNormRefIdeal.τ).loc Cert.FNormRefIdeal.main_arg6) = m ((c.tc : Thread Cert.FNormRefIdeal.nD Cert.FNormRefIdeal.τ).loc Cert.FNormRefIdeal.main_arg6))
      ∧ r.2.sem = fun _ => 0)

def quiescent_FNormRefIdeal_pre_fn_finite [hFNormRefIdeal : Cert.FNormRefIdeal.Facts] [hPre_fn_finite : Cert.Pre_fn_finite.Facts] : Prop :=
  ∀ (m : (ℓ : Loc Cert.FNormRefIdeal.nD Cert.FNormRefIdeal.τ Cert.FNormRefIdeal.sig) → Buf (Elt Ideal) ℓ) (g : Dev Cert.FNormRefIdeal.nD → PrngReg), Pre_FNormRefIdeal_fn_finite m →
    θ_run (Cert.FNormRefIdeal.defs (F := Ideal)) (onTc (τ := Cert.FNormRefIdeal.τ) (Cert.FNormRefIdeal.main (F := Ideal))) ⟨m, fun _ => 0, g⟩ (fun r => (∀ c : Dev Cert.FNormRefIdeal.nD,
      r.2.mem ((c.tc : Thread Cert.FNormRefIdeal.nD Cert.FNormRefIdeal.τ).loc Cert.FNormRefIdeal.main_arg0) = m ((c.tc : Thread Cert.FNormRefIdeal.nD Cert.FNormRefIdeal.τ).loc Cert.FNormRefIdeal.main_arg0)
      ∧ r.2.mem ((c.tc : Thread Cert.FNormRefIdeal.nD Cert.FNormRefIdeal.τ).loc Cert.FNormRefIdeal.main_arg1) = m ((c.tc : Thread Cert.FNormRefIdeal.nD Cert.FNormRefIdeal.τ).loc Cert.FNormRefIdeal.main_arg1)
      ∧ r.2.mem ((c.tc : Thread Cert.FNormRefIdeal.nD Cert.FNormRefIdeal.τ).loc Cert.FNormRefIdeal.main_arg2) = m ((c.tc : Thread Cert.FNormRefIdeal.nD Cert.FNormRefIdeal.τ).loc Cert.FNormRefIdeal.main_arg2)
      ∧ r.2.mem ((c.tc : Thread Cert.FNormRefIdeal.nD Cert.FNormRefIdeal.τ).loc Cert.FNormRefIdeal.main_arg3) = m ((c.tc : Thread Cert.FNormRefIdeal.nD Cert.FNormRefIdeal.τ).loc Cert.FNormRefIdeal.main_arg3)
      ∧ r.2.mem ((c.tc : Thread Cert.FNormRefIdeal.nD Cert.FNormRefIdeal.τ).loc Cert.FNormRefIdeal.main_arg4) = m ((c.tc : Thread Cert.FNormRefIdeal.nD Cert.FNormRefIdeal.τ).loc Cert.FNormRefIdeal.main_arg4)
      ∧ r.2.mem ((c.tc : Thread Cert.FNormRefIdeal.nD Cert.FNormRefIdeal.τ).loc Cert.FNormRefIdeal.main_arg5) = m ((c.tc : Thread Cert.FNormRefIdeal.nD Cert.FNormRefIdeal.τ).loc Cert.FNormRefIdeal.main_arg5)
      ∧ r.2.mem ((c.tc : Thread Cert.FNormRefIdeal.nD Cert.FNormRefIdeal.τ).loc Cert.FNormRefIdeal.main_arg6) = m ((c.tc : Thread Cert.FNormRefIdeal.nD Cert.FNormRefIdeal.τ).loc Cert.FNormRefIdeal.main_arg6))
      ∧ r.2.sem = fun _ => 0)

def quiescent_ANorm [hANorm : Cert.ANorm.Facts] : Prop :=
  ∀ (m : (ℓ : Loc Cert.ANorm.nD Cert.ANorm.τ Cert.ANorm.sig) → Buf (Elt Bits) ℓ) (g : Dev Cert.ANorm.nD → PrngReg), Pre_ANorm m →
    θ_run (Cert.ANorm.defs (F := Bits)) (onTc (τ := Cert.ANorm.τ) (Cert.ANorm.main (F := Bits))) ⟨m, fun _ => 0, g⟩ (fun r => (∀ c : Dev Cert.ANorm.nD,
      r.2.mem ((c.tc : Thread Cert.ANorm.nD Cert.ANorm.τ).loc Cert.ANorm.main_arg0) = m ((c.tc : Thread Cert.ANorm.nD Cert.ANorm.τ).loc Cert.ANorm.main_arg0)
      ∧ r.2.mem ((c.tc : Thread Cert.ANorm.nD Cert.ANorm.τ).loc Cert.ANorm.main_arg1) = m ((c.tc : Thread Cert.ANorm.nD Cert.ANorm.τ).loc Cert.ANorm.main_arg1)
      ∧ r.2.mem ((c.tc : Thread Cert.ANorm.nD Cert.ANorm.τ).loc Cert.ANorm.main_arg2) = m ((c.tc : Thread Cert.ANorm.nD Cert.ANorm.τ).loc Cert.ANorm.main_arg2)
      ∧ r.2.mem ((c.tc : Thread Cert.ANorm.nD Cert.ANorm.τ).loc Cert.ANorm.main_arg3) = m ((c.tc : Thread Cert.ANorm.nD Cert.ANorm.τ).loc Cert.ANorm.main_arg3)
      ∧ r.2.mem ((c.tc : Thread Cert.ANorm.nD Cert.ANorm.τ).loc Cert.ANorm.main_arg4) = m ((c.tc : Thread Cert.ANorm.nD Cert.ANorm.τ).loc Cert.ANorm.main_arg4)
      ∧ r.2.mem ((c.tc : Thread Cert.ANorm.nD Cert.ANorm.τ).loc Cert.ANorm.main_arg5) = m ((c.tc : Thread Cert.ANorm.nD Cert.ANorm.τ).loc Cert.ANorm.main_arg5)
      ∧ r.2.mem ((c.tc : Thread Cert.ANorm.nD Cert.ANorm.τ).loc Cert.ANorm.main_arg6) = m ((c.tc : Thread Cert.ANorm.nD Cert.ANorm.τ).loc Cert.ANorm.main_arg6))
      ∧ r.2.sem = fun _ => 0)

def quiescent_ANormIdeal [hANormIdeal : Cert.ANormIdeal.Facts] : Prop :=
  ∀ (m : (ℓ : Loc Cert.ANormIdeal.nD Cert.ANormIdeal.τ Cert.ANormIdeal.sig) → Buf (Elt Ideal) ℓ) (g : Dev Cert.ANormIdeal.nD → PrngReg), Pre_ANormIdeal m →
    θ_run (Cert.ANormIdeal.defs (F := Ideal)) (onTc (τ := Cert.ANormIdeal.τ) (Cert.ANormIdeal.main (F := Ideal))) ⟨m, fun _ => 0, g⟩ (fun r => (∀ c : Dev Cert.ANormIdeal.nD,
      r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
      ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
      ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
      ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3)
      ∧ r.2.mem ((c.tc : Thread Cert.ANormIdeal.nD Cert.ANormIdeal.τ).loc Cert.ANormIdeal.main_arg4) = m ((c.tc : Thread Cert.ANormIdeal.nD Cert.ANormIdeal.τ).loc Cert.ANormIdeal.main_arg4)
      ∧ r.2.mem ((c.tc : Thread Cert.ANormIdeal.nD Cert.ANormIdeal.τ).loc Cert.ANormIdeal.main_arg5) = m ((c.tc : Thread Cert.ANormIdeal.nD Cert.ANormIdeal.τ).loc Cert.ANormIdeal.main_arg5)
      ∧ r.2.mem ((c.tc : Thread Cert.ANormIdeal.nD Cert.ANormIdeal.τ).loc Cert.ANormIdeal.main_arg6) = m ((c.tc : Thread Cert.ANormIdeal.nD Cert.ANormIdeal.τ).loc Cert.ANormIdeal.main_arg6))
      ∧ r.2.sem = fun _ => 0)

def quiescent_ANormIdeal_pre_an_finite [hANormIdeal : Cert.ANormIdeal.Facts] [hPre_an_finite : Cert.Pre_an_finite.Facts] : Prop :=
  ∀ (m : (ℓ : Loc Cert.ANormIdeal.nD Cert.ANormIdeal.τ Cert.ANormIdeal.sig) → Buf (Elt Ideal) ℓ) (g : Dev Cert.ANormIdeal.nD → PrngReg), Pre_ANormIdeal_an_finite m →
    θ_run (Cert.ANormIdeal.defs (F := Ideal)) (onTc (τ := Cert.ANormIdeal.τ) (Cert.ANormIdeal.main (F := Ideal))) ⟨m, fun _ => 0, g⟩ (fun r => (∀ c : Dev Cert.ANormIdeal.nD,
      r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
      ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
      ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
      ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3)
      ∧ r.2.mem ((c.tc : Thread Cert.ANormIdeal.nD Cert.ANormIdeal.τ).loc Cert.ANormIdeal.main_arg4) = m ((c.tc : Thread Cert.ANormIdeal.nD Cert.ANormIdeal.τ).loc Cert.ANormIdeal.main_arg4)
      ∧ r.2.mem ((c.tc : Thread Cert.ANormIdeal.nD Cert.ANormIdeal.τ).loc Cert.ANormIdeal.main_arg5) = m ((c.tc : Thread Cert.ANormIdeal.nD Cert.ANormIdeal.τ).loc Cert.ANormIdeal.main_arg5)
      ∧ r.2.mem ((c.tc : Thread Cert.ANormIdeal.nD Cert.ANormIdeal.τ).loc Cert.ANormIdeal.main_arg6) = m ((c.tc : Thread Cert.ANormIdeal.nD Cert.ANormIdeal.τ).loc Cert.ANormIdeal.main_arg6))
      ∧ r.2.sem = fun _ => 0)

def quiescent_ANormRefIdeal [hANormRefIdeal : Cert.ANormRefIdeal.Facts] : Prop :=
  ∀ (m : (ℓ : Loc Cert.ANormRefIdeal.nD Cert.ANormRefIdeal.τ Cert.ANormRefIdeal.sig) → Buf (Elt Ideal) ℓ) (g : Dev Cert.ANormRefIdeal.nD → PrngReg), Pre_ANormRefIdeal m →
    θ_run (Cert.ANormRefIdeal.defs (F := Ideal)) (onTc (τ := Cert.ANormRefIdeal.τ) (Cert.ANormRefIdeal.main (F := Ideal))) ⟨m, fun _ => 0, g⟩ (fun r => (∀ c : Dev Cert.ANormRefIdeal.nD,
      r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0)
      ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1)
      ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2)
      ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3)
      ∧ r.2.mem ((c.tc : Thread Cert.ANormRefIdeal.nD Cert.ANormRefIdeal.τ).loc Cert.ANormRefIdeal.main_arg4) = m ((c.tc : Thread Cert.ANormRefIdeal.nD Cert.ANormRefIdeal.τ).loc Cert.ANormRefIdeal.main_arg4)
      ∧ r.2.mem ((c.tc : Thread Cert.ANormRefIdeal.nD Cert.ANormRefIdeal.τ).loc Cert.ANormRefIdeal.main_arg5) = m ((c.tc : Thread Cert.ANormRefIdeal.nD Cert.ANormRefIdeal.τ).loc Cert.ANormRefIdeal.main_arg5)
      ∧ r.2.mem ((c.tc : Thread Cert.ANormRefIdeal.nD Cert.ANormRefIdeal.τ).loc Cert.ANormRefIdeal.main_arg6) = m ((c.tc : Thread Cert.ANormRefIdeal.nD Cert.ANormRefIdeal.τ).loc Cert.ANormRefIdeal.main_arg6))
      ∧ r.2.sem = fun _ => 0)

def quiescent_ANormRefIdeal_pre_an_finite [hANormRefIdeal : Cert.ANormRefIdeal.Facts] [hPre_an_finite : Cert.Pre_an_finite.Facts] : Prop :=
  ∀ (m : (ℓ : Loc Cert.ANormRefIdeal.nD Cert.ANormRefIdeal.τ Cert.ANormRefIdeal.sig) → Buf (Elt Ideal) ℓ) (g : Dev Cert.ANormRefIdeal.nD → PrngReg), Pre_ANormRefIdeal_an_finite m →
    θ_run (Cert.ANormRefIdeal.defs (F := Ideal)) (onTc (τ := Cert.ANormRefIdeal.τ) (Cert.ANormRefIdeal.main (F := Ideal))) ⟨m, fun _ => 0, g⟩ (fun r => (∀ c : Dev Cert.ANormRefIdeal.nD,
      r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0)
      ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1)
      ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2)
      ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3)
      ∧ r.2.mem ((c.tc : Thread Cert.ANormRefIdeal.nD Cert.ANormRefIdeal.τ).loc Cert.ANormRefIdeal.main_arg4) = m ((c.tc : Thread Cert.ANormRefIdeal.nD Cert.ANormRefIdeal.τ).loc Cert.ANormRefIdeal.main_arg4)
      ∧ r.2.mem ((c.tc : Thread Cert.ANormRefIdeal.nD Cert.ANormRefIdeal.τ).loc Cert.ANormRefIdeal.main_arg5) = m ((c.tc : Thread Cert.ANormRefIdeal.nD Cert.ANormRefIdeal.τ).loc Cert.ANormRefIdeal.main_arg5)
      ∧ r.2.mem ((c.tc : Thread Cert.ANormRefIdeal.nD Cert.ANormRefIdeal.τ).loc Cert.ANormRefIdeal.main_arg6) = m ((c.tc : Thread Cert.ANormRefIdeal.nD Cert.ANormRefIdeal.τ).loc Cert.ANormRefIdeal.main_arg6))
      ∧ r.2.sem = fun _ => 0)

def quiescent_BProjNorm [hBProjNorm : Cert.BProjNorm.Facts] : Prop :=
  ∀ (m : (ℓ : Loc Cert.BProjNorm.nD Cert.BProjNorm.τ Cert.BProjNorm.sig) → Buf (Elt Bits) ℓ) (g : Dev Cert.BProjNorm.nD → PrngReg), Pre_BProjNorm m →
    θ_run (Cert.BProjNorm.defs (F := Bits)) (onTc (τ := Cert.BProjNorm.τ) (Cert.BProjNorm.main (F := Bits))) ⟨m, fun _ => 0, g⟩ (fun r => (∀ c : Dev Cert.BProjNorm.nD,
      r.2.mem ((c.tc : Thread Cert.BProjNorm.nD Cert.BProjNorm.τ).loc Cert.BProjNorm.main_arg0) = m ((c.tc : Thread Cert.BProjNorm.nD Cert.BProjNorm.τ).loc Cert.BProjNorm.main_arg0)
      ∧ r.2.mem ((c.tc : Thread Cert.BProjNorm.nD Cert.BProjNorm.τ).loc Cert.BProjNorm.main_arg1) = m ((c.tc : Thread Cert.BProjNorm.nD Cert.BProjNorm.τ).loc Cert.BProjNorm.main_arg1)
      ∧ r.2.mem ((c.tc : Thread Cert.BProjNorm.nD Cert.BProjNorm.τ).loc Cert.BProjNorm.main_arg2) = m ((c.tc : Thread Cert.BProjNorm.nD Cert.BProjNorm.τ).loc Cert.BProjNorm.main_arg2)
      ∧ r.2.mem ((c.tc : Thread Cert.BProjNorm.nD Cert.BProjNorm.τ).loc Cert.BProjNorm.main_arg3) = m ((c.tc : Thread Cert.BProjNorm.nD Cert.BProjNorm.τ).loc Cert.BProjNorm.main_arg3)
      ∧ r.2.mem ((c.tc : Thread Cert.BProjNorm.nD Cert.BProjNorm.τ).loc Cert.BProjNorm.main_arg4) = m ((c.tc : Thread Cert.BProjNorm.nD Cert.BProjNorm.τ).loc Cert.BProjNorm.main_arg4)
      ∧ r.2.mem ((c.tc : Thread Cert.BProjNorm.nD Cert.BProjNorm.τ).loc Cert.BProjNorm.main_arg5) = m ((c.tc : Thread Cert.BProjNorm.nD Cert.BProjNorm.τ).loc Cert.BProjNorm.main_arg5)
      ∧ r.2.mem ((c.tc : Thread Cert.BProjNorm.nD Cert.BProjNorm.τ).loc Cert.BProjNorm.main_arg6) = m ((c.tc : Thread Cert.BProjNorm.nD Cert.BProjNorm.τ).loc Cert.BProjNorm.main_arg6))
      ∧ r.2.sem = fun _ => 0)

def quiescent_BProjNormIdeal [hBProjNormIdeal : Cert.BProjNormIdeal.Facts] : Prop :=
  ∀ (m : (ℓ : Loc Cert.BProjNormIdeal.nD Cert.BProjNormIdeal.τ Cert.BProjNormIdeal.sig) → Buf (Elt Ideal) ℓ) (g : Dev Cert.BProjNormIdeal.nD → PrngReg), Pre_BProjNormIdeal m →
    θ_run (Cert.BProjNormIdeal.defs (F := Ideal)) (onTc (τ := Cert.BProjNormIdeal.τ) (Cert.BProjNormIdeal.main (F := Ideal))) ⟨m, fun _ => 0, g⟩ (fun r => (∀ c : Dev Cert.BProjNormIdeal.nD,
      r.2.mem ((c.tc : Thread Cert.BProjNormIdeal.nD Cert.BProjNormIdeal.τ).loc Cert.BProjNormIdeal.main_arg0) = m ((c.tc : Thread Cert.BProjNormIdeal.nD Cert.BProjNormIdeal.τ).loc Cert.BProjNormIdeal.main_arg0)
      ∧ r.2.mem ((c.tc : Thread Cert.BProjNormIdeal.nD Cert.BProjNormIdeal.τ).loc Cert.BProjNormIdeal.main_arg1) = m ((c.tc : Thread Cert.BProjNormIdeal.nD Cert.BProjNormIdeal.τ).loc Cert.BProjNormIdeal.main_arg1)
      ∧ r.2.mem ((c.tc : Thread Cert.BProjNormIdeal.nD Cert.BProjNormIdeal.τ).loc Cert.BProjNormIdeal.main_arg2) = m ((c.tc : Thread Cert.BProjNormIdeal.nD Cert.BProjNormIdeal.τ).loc Cert.BProjNormIdeal.main_arg2)
      ∧ r.2.mem ((c.tc : Thread Cert.BProjNormIdeal.nD Cert.BProjNormIdeal.τ).loc Cert.BProjNormIdeal.main_arg3) = m ((c.tc : Thread Cert.BProjNormIdeal.nD Cert.BProjNormIdeal.τ).loc Cert.BProjNormIdeal.main_arg3)
      ∧ r.2.mem ((c.tc : Thread Cert.BProjNormIdeal.nD Cert.BProjNormIdeal.τ).loc Cert.BProjNormIdeal.main_arg4) = m ((c.tc : Thread Cert.BProjNormIdeal.nD Cert.BProjNormIdeal.τ).loc Cert.BProjNormIdeal.main_arg4)
      ∧ r.2.mem ((c.tc : Thread Cert.BProjNormIdeal.nD Cert.BProjNormIdeal.τ).loc Cert.BProjNormIdeal.main_arg5) = m ((c.tc : Thread Cert.BProjNormIdeal.nD Cert.BProjNormIdeal.τ).loc Cert.BProjNormIdeal.main_arg5)
      ∧ r.2.mem ((c.tc : Thread Cert.BProjNormIdeal.nD Cert.BProjNormIdeal.τ).loc Cert.BProjNormIdeal.main_arg6) = m ((c.tc : Thread Cert.BProjNormIdeal.nD Cert.BProjNormIdeal.τ).loc Cert.BProjNormIdeal.main_arg6))
      ∧ r.2.sem = fun _ => 0)

def quiescent_BProjNormIdeal_pre_bn_finite [hBProjNormIdeal : Cert.BProjNormIdeal.Facts] [hPre_bn_finite : Cert.Pre_bn_finite.Facts] : Prop :=
  ∀ (m : (ℓ : Loc Cert.BProjNormIdeal.nD Cert.BProjNormIdeal.τ Cert.BProjNormIdeal.sig) → Buf (Elt Ideal) ℓ) (g : Dev Cert.BProjNormIdeal.nD → PrngReg), Pre_BProjNormIdeal_bn_finite m →
    θ_run (Cert.BProjNormIdeal.defs (F := Ideal)) (onTc (τ := Cert.BProjNormIdeal.τ) (Cert.BProjNormIdeal.main (F := Ideal))) ⟨m, fun _ => 0, g⟩ (fun r => (∀ c : Dev Cert.BProjNormIdeal.nD,
      r.2.mem ((c.tc : Thread Cert.BProjNormIdeal.nD Cert.BProjNormIdeal.τ).loc Cert.BProjNormIdeal.main_arg0) = m ((c.tc : Thread Cert.BProjNormIdeal.nD Cert.BProjNormIdeal.τ).loc Cert.BProjNormIdeal.main_arg0)
      ∧ r.2.mem ((c.tc : Thread Cert.BProjNormIdeal.nD Cert.BProjNormIdeal.τ).loc Cert.BProjNormIdeal.main_arg1) = m ((c.tc : Thread Cert.BProjNormIdeal.nD Cert.BProjNormIdeal.τ).loc Cert.BProjNormIdeal.main_arg1)
      ∧ r.2.mem ((c.tc : Thread Cert.BProjNormIdeal.nD Cert.BProjNormIdeal.τ).loc Cert.BProjNormIdeal.main_arg2) = m ((c.tc : Thread Cert.BProjNormIdeal.nD Cert.BProjNormIdeal.τ).loc Cert.BProjNormIdeal.main_arg2)
      ∧ r.2.mem ((c.tc : Thread Cert.BProjNormIdeal.nD Cert.BProjNormIdeal.τ).loc Cert.BProjNormIdeal.main_arg3) = m ((c.tc : Thread Cert.BProjNormIdeal.nD Cert.BProjNormIdeal.τ).loc Cert.BProjNormIdeal.main_arg3)
      ∧ r.2.mem ((c.tc : Thread Cert.BProjNormIdeal.nD Cert.BProjNormIdeal.τ).loc Cert.BProjNormIdeal.main_arg4) = m ((c.tc : Thread Cert.BProjNormIdeal.nD Cert.BProjNormIdeal.τ).loc Cert.BProjNormIdeal.main_arg4)
      ∧ r.2.mem ((c.tc : Thread Cert.BProjNormIdeal.nD Cert.BProjNormIdeal.τ).loc Cert.BProjNormIdeal.main_arg5) = m ((c.tc : Thread Cert.BProjNormIdeal.nD Cert.BProjNormIdeal.τ).loc Cert.BProjNormIdeal.main_arg5)
      ∧ r.2.mem ((c.tc : Thread Cert.BProjNormIdeal.nD Cert.BProjNormIdeal.τ).loc Cert.BProjNormIdeal.main_arg6) = m ((c.tc : Thread Cert.BProjNormIdeal.nD Cert.BProjNormIdeal.τ).loc Cert.BProjNormIdeal.main_arg6))
      ∧ r.2.sem = fun _ => 0)

def quiescent_BProjNormRefIdeal [hBProjNormRefIdeal : Cert.BProjNormRefIdeal.Facts] : Prop :=
  ∀ (m : (ℓ : Loc Cert.BProjNormRefIdeal.nD Cert.BProjNormRefIdeal.τ Cert.BProjNormRefIdeal.sig) → Buf (Elt Ideal) ℓ) (g : Dev Cert.BProjNormRefIdeal.nD → PrngReg), Pre_BProjNormRefIdeal m →
    θ_run (Cert.BProjNormRefIdeal.defs (F := Ideal)) (onTc (τ := Cert.BProjNormRefIdeal.τ) (Cert.BProjNormRefIdeal.main (F := Ideal))) ⟨m, fun _ => 0, g⟩ (fun r => (∀ c : Dev Cert.BProjNormRefIdeal.nD,
      r.2.mem ((c.tc : Thread Cert.BProjNormRefIdeal.nD Cert.BProjNormRefIdeal.τ).loc Cert.BProjNormRefIdeal.main_arg0) = m ((c.tc : Thread Cert.BProjNormRefIdeal.nD Cert.BProjNormRefIdeal.τ).loc Cert.BProjNormRefIdeal.main_arg0)
      ∧ r.2.mem ((c.tc : Thread Cert.BProjNormRefIdeal.nD Cert.BProjNormRefIdeal.τ).loc Cert.BProjNormRefIdeal.main_arg1) = m ((c.tc : Thread Cert.BProjNormRefIdeal.nD Cert.BProjNormRefIdeal.τ).loc Cert.BProjNormRefIdeal.main_arg1)
      ∧ r.2.mem ((c.tc : Thread Cert.BProjNormRefIdeal.nD Cert.BProjNormRefIdeal.τ).loc Cert.BProjNormRefIdeal.main_arg2) = m ((c.tc : Thread Cert.BProjNormRefIdeal.nD Cert.BProjNormRefIdeal.τ).loc Cert.BProjNormRefIdeal.main_arg2)
      ∧ r.2.mem ((c.tc : Thread Cert.BProjNormRefIdeal.nD Cert.BProjNormRefIdeal.τ).loc Cert.BProjNormRefIdeal.main_arg3) = m ((c.tc : Thread Cert.BProjNormRefIdeal.nD Cert.BProjNormRefIdeal.τ).loc Cert.BProjNormRefIdeal.main_arg3)
      ∧ r.2.mem ((c.tc : Thread Cert.BProjNormRefIdeal.nD Cert.BProjNormRefIdeal.τ).loc Cert.BProjNormRefIdeal.main_arg4) = m ((c.tc : Thread Cert.BProjNormRefIdeal.nD Cert.BProjNormRefIdeal.τ).loc Cert.BProjNormRefIdeal.main_arg4)
      ∧ r.2.mem ((c.tc : Thread Cert.BProjNormRefIdeal.nD Cert.BProjNormRefIdeal.τ).loc Cert.BProjNormRefIdeal.main_arg5) = m ((c.tc : Thread Cert.BProjNormRefIdeal.nD Cert.BProjNormRefIdeal.τ).loc Cert.BProjNormRefIdeal.main_arg5)
      ∧ r.2.mem ((c.tc : Thread Cert.BProjNormRefIdeal.nD Cert.BProjNormRefIdeal.τ).loc Cert.BProjNormRefIdeal.main_arg6) = m ((c.tc : Thread Cert.BProjNormRefIdeal.nD Cert.BProjNormRefIdeal.τ).loc Cert.BProjNormRefIdeal.main_arg6))
      ∧ r.2.sem = fun _ => 0)

def quiescent_BProjNormRefIdeal_pre_bn_finite [hBProjNormRefIdeal : Cert.BProjNormRefIdeal.Facts] [hPre_bn_finite : Cert.Pre_bn_finite.Facts] : Prop :=
  ∀ (m : (ℓ : Loc Cert.BProjNormRefIdeal.nD Cert.BProjNormRefIdeal.τ Cert.BProjNormRefIdeal.sig) → Buf (Elt Ideal) ℓ) (g : Dev Cert.BProjNormRefIdeal.nD → PrngReg), Pre_BProjNormRefIdeal_bn_finite m →
    θ_run (Cert.BProjNormRefIdeal.defs (F := Ideal)) (onTc (τ := Cert.BProjNormRefIdeal.τ) (Cert.BProjNormRefIdeal.main (F := Ideal))) ⟨m, fun _ => 0, g⟩ (fun r => (∀ c : Dev Cert.BProjNormRefIdeal.nD,
      r.2.mem ((c.tc : Thread Cert.BProjNormRefIdeal.nD Cert.BProjNormRefIdeal.τ).loc Cert.BProjNormRefIdeal.main_arg0) = m ((c.tc : Thread Cert.BProjNormRefIdeal.nD Cert.BProjNormRefIdeal.τ).loc Cert.BProjNormRefIdeal.main_arg0)
      ∧ r.2.mem ((c.tc : Thread Cert.BProjNormRefIdeal.nD Cert.BProjNormRefIdeal.τ).loc Cert.BProjNormRefIdeal.main_arg1) = m ((c.tc : Thread Cert.BProjNormRefIdeal.nD Cert.BProjNormRefIdeal.τ).loc Cert.BProjNormRefIdeal.main_arg1)
      ∧ r.2.mem ((c.tc : Thread Cert.BProjNormRefIdeal.nD Cert.BProjNormRefIdeal.τ).loc Cert.BProjNormRefIdeal.main_arg2) = m ((c.tc : Thread Cert.BProjNormRefIdeal.nD Cert.BProjNormRefIdeal.τ).loc Cert.BProjNormRefIdeal.main_arg2)
      ∧ r.2.mem ((c.tc : Thread Cert.BProjNormRefIdeal.nD Cert.BProjNormRefIdeal.τ).loc Cert.BProjNormRefIdeal.main_arg3) = m ((c.tc : Thread Cert.BProjNormRefIdeal.nD Cert.BProjNormRefIdeal.τ).loc Cert.BProjNormRefIdeal.main_arg3)
      ∧ r.2.mem ((c.tc : Thread Cert.BProjNormRefIdeal.nD Cert.BProjNormRefIdeal.τ).loc Cert.BProjNormRefIdeal.main_arg4) = m ((c.tc : Thread Cert.BProjNormRefIdeal.nD Cert.BProjNormRefIdeal.τ).loc Cert.BProjNormRefIdeal.main_arg4)
      ∧ r.2.mem ((c.tc : Thread Cert.BProjNormRefIdeal.nD Cert.BProjNormRefIdeal.τ).loc Cert.BProjNormRefIdeal.main_arg5) = m ((c.tc : Thread Cert.BProjNormRefIdeal.nD Cert.BProjNormRefIdeal.τ).loc Cert.BProjNormRefIdeal.main_arg5)
      ∧ r.2.mem ((c.tc : Thread Cert.BProjNormRefIdeal.nD Cert.BProjNormRefIdeal.τ).loc Cert.BProjNormRefIdeal.main_arg6) = m ((c.tc : Thread Cert.BProjNormRefIdeal.nD Cert.BProjNormRefIdeal.τ).loc Cert.BProjNormRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_BNorm [hBNorm : Cert.BNorm.Facts] : Prop :=
  ∀ (m : (ℓ : Loc Cert.BNorm.nD Cert.BNorm.τ Cert.BNorm.sig) → Buf (Elt Bits) ℓ) (g : Dev Cert.BNorm.nD → PrngReg), Pre_BNorm m →
    θ_run (Cert.BNorm.defs (F := Bits)) (onTc (τ := Cert.BNorm.τ) (Cert.BNorm.main (F := Bits))) ⟨m, fun _ => 0, g⟩ (fun r => (∀ c : Dev Cert.BNorm.nD,
      r.2.mem ((c.tc : Thread Cert.BNorm.nD Cert.BNorm.τ).loc Cert.BNorm.main_arg0) = m ((c.tc : Thread Cert.BNorm.nD Cert.BNorm.τ).loc Cert.BNorm.main_arg0)
      ∧ r.2.mem ((c.tc : Thread Cert.BNorm.nD Cert.BNorm.τ).loc Cert.BNorm.main_arg1) = m ((c.tc : Thread Cert.BNorm.nD Cert.BNorm.τ).loc Cert.BNorm.main_arg1)
      ∧ r.2.mem ((c.tc : Thread Cert.BNorm.nD Cert.BNorm.τ).loc Cert.BNorm.main_arg2) = m ((c.tc : Thread Cert.BNorm.nD Cert.BNorm.τ).loc Cert.BNorm.main_arg2)
      ∧ r.2.mem ((c.tc : Thread Cert.BNorm.nD Cert.BNorm.τ).loc Cert.BNorm.main_arg3) = m ((c.tc : Thread Cert.BNorm.nD Cert.BNorm.τ).loc Cert.BNorm.main_arg3)
      ∧ r.2.mem ((c.tc : Thread Cert.BNorm.nD Cert.BNorm.τ).loc Cert.BNorm.main_arg4) = m ((c.tc : Thread Cert.BNorm.nD Cert.BNorm.τ).loc Cert.BNorm.main_arg4))
      ∧ r.2.sem = fun _ => 0)

def quiescent_BNormIdeal [hBNormIdeal : Cert.BNormIdeal.Facts] : Prop :=
  ∀ (m : (ℓ : Loc Cert.BNormIdeal.nD Cert.BNormIdeal.τ Cert.BNormIdeal.sig) → Buf (Elt Ideal) ℓ) (g : Dev Cert.BNormIdeal.nD → PrngReg), Pre_BNormIdeal m →
    θ_run (Cert.BNormIdeal.defs (F := Ideal)) (onTc (τ := Cert.BNormIdeal.τ) (Cert.BNormIdeal.main (F := Ideal))) ⟨m, fun _ => 0, g⟩ (fun r => (∀ c : Dev Cert.BNormIdeal.nD,
      r.2.mem ((c.tc : Thread Cert.BNormIdeal.nD Cert.BNormIdeal.τ).loc Cert.BNormIdeal.main_arg0) = m ((c.tc : Thread Cert.BNormIdeal.nD Cert.BNormIdeal.τ).loc Cert.BNormIdeal.main_arg0)
      ∧ r.2.mem ((c.tc : Thread Cert.BNormIdeal.nD Cert.BNormIdeal.τ).loc Cert.BNormIdeal.main_arg1) = m ((c.tc : Thread Cert.BNormIdeal.nD Cert.BNormIdeal.τ).loc Cert.BNormIdeal.main_arg1)
      ∧ r.2.mem ((c.tc : Thread Cert.BNormIdeal.nD Cert.BNormIdeal.τ).loc Cert.BNormIdeal.main_arg2) = m ((c.tc : Thread Cert.BNormIdeal.nD Cert.BNormIdeal.τ).loc Cert.BNormIdeal.main_arg2)
      ∧ r.2.mem ((c.tc : Thread Cert.BNormIdeal.nD Cert.BNormIdeal.τ).loc Cert.BNormIdeal.main_arg3) = m ((c.tc : Thread Cert.BNormIdeal.nD Cert.BNormIdeal.τ).loc Cert.BNormIdeal.main_arg3)
      ∧ r.2.mem ((c.tc : Thread Cert.BNormIdeal.nD Cert.BNormIdeal.τ).loc Cert.BNormIdeal.main_arg4) = m ((c.tc : Thread Cert.BNormIdeal.nD Cert.BNormIdeal.τ).loc Cert.BNormIdeal.main_arg4))
      ∧ r.2.sem = fun _ => 0)

def quiescent_BNormIdeal_pre_ln_finite [hBNormIdeal : Cert.BNormIdeal.Facts] [hPre_ln_finite : Cert.Pre_ln_finite.Facts] : Prop :=
  ∀ (m : (ℓ : Loc Cert.BNormIdeal.nD Cert.BNormIdeal.τ Cert.BNormIdeal.sig) → Buf (Elt Ideal) ℓ) (g : Dev Cert.BNormIdeal.nD → PrngReg), Pre_BNormIdeal_ln_finite m →
    θ_run (Cert.BNormIdeal.defs (F := Ideal)) (onTc (τ := Cert.BNormIdeal.τ) (Cert.BNormIdeal.main (F := Ideal))) ⟨m, fun _ => 0, g⟩ (fun r => (∀ c : Dev Cert.BNormIdeal.nD,
      r.2.mem ((c.tc : Thread Cert.BNormIdeal.nD Cert.BNormIdeal.τ).loc Cert.BNormIdeal.main_arg0) = m ((c.tc : Thread Cert.BNormIdeal.nD Cert.BNormIdeal.τ).loc Cert.BNormIdeal.main_arg0)
      ∧ r.2.mem ((c.tc : Thread Cert.BNormIdeal.nD Cert.BNormIdeal.τ).loc Cert.BNormIdeal.main_arg1) = m ((c.tc : Thread Cert.BNormIdeal.nD Cert.BNormIdeal.τ).loc Cert.BNormIdeal.main_arg1)
      ∧ r.2.mem ((c.tc : Thread Cert.BNormIdeal.nD Cert.BNormIdeal.τ).loc Cert.BNormIdeal.main_arg2) = m ((c.tc : Thread Cert.BNormIdeal.nD Cert.BNormIdeal.τ).loc Cert.BNormIdeal.main_arg2)
      ∧ r.2.mem ((c.tc : Thread Cert.BNormIdeal.nD Cert.BNormIdeal.τ).loc Cert.BNormIdeal.main_arg3) = m ((c.tc : Thread Cert.BNormIdeal.nD Cert.BNormIdeal.τ).loc Cert.BNormIdeal.main_arg3)
      ∧ r.2.mem ((c.tc : Thread Cert.BNormIdeal.nD Cert.BNormIdeal.τ).loc Cert.BNormIdeal.main_arg4) = m ((c.tc : Thread Cert.BNormIdeal.nD Cert.BNormIdeal.τ).loc Cert.BNormIdeal.main_arg4))
      ∧ r.2.sem = fun _ => 0)

def quiescent_BNormRefIdeal [hBNormRefIdeal : Cert.BNormRefIdeal.Facts] : Prop :=
  ∀ (m : (ℓ : Loc Cert.BNormRefIdeal.nD Cert.BNormRefIdeal.τ Cert.BNormRefIdeal.sig) → Buf (Elt Ideal) ℓ) (g : Dev Cert.BNormRefIdeal.nD → PrngReg), Pre_BNormRefIdeal m →
    θ_run (Cert.BNormRefIdeal.defs (F := Ideal)) (onTc (τ := Cert.BNormRefIdeal.τ) (Cert.BNormRefIdeal.main (F := Ideal))) ⟨m, fun _ => 0, g⟩ (fun r => (∀ c : Dev Cert.BNormRefIdeal.nD,
      r.2.mem ((c.tc : Thread Cert.BNormRefIdeal.nD Cert.BNormRefIdeal.τ).loc Cert.BNormRefIdeal.main_arg0) = m ((c.tc : Thread Cert.BNormRefIdeal.nD Cert.BNormRefIdeal.τ).loc Cert.BNormRefIdeal.main_arg0)
      ∧ r.2.mem ((c.tc : Thread Cert.BNormRefIdeal.nD Cert.BNormRefIdeal.τ).loc Cert.BNormRefIdeal.main_arg1) = m ((c.tc : Thread Cert.BNormRefIdeal.nD Cert.BNormRefIdeal.τ).loc Cert.BNormRefIdeal.main_arg1)
      ∧ r.2.mem ((c.tc : Thread Cert.BNormRefIdeal.nD Cert.BNormRefIdeal.τ).loc Cert.BNormRefIdeal.main_arg2) = m ((c.tc : Thread Cert.BNormRefIdeal.nD Cert.BNormRefIdeal.τ).loc Cert.BNormRefIdeal.main_arg2)
      ∧ r.2.mem ((c.tc : Thread Cert.BNormRefIdeal.nD Cert.BNormRefIdeal.τ).loc Cert.BNormRefIdeal.main_arg3) = m ((c.tc : Thread Cert.BNormRefIdeal.nD Cert.BNormRefIdeal.τ).loc Cert.BNormRefIdeal.main_arg3)
      ∧ r.2.mem ((c.tc : Thread Cert.BNormRefIdeal.nD Cert.BNormRefIdeal.τ).loc Cert.BNormRefIdeal.main_arg4) = m ((c.tc : Thread Cert.BNormRefIdeal.nD Cert.BNormRefIdeal.τ).loc Cert.BNormRefIdeal.main_arg4))
      ∧ r.2.sem = fun _ => 0)

def quiescent_BNormRefIdeal_pre_ln_finite [hBNormRefIdeal : Cert.BNormRefIdeal.Facts] [hPre_ln_finite : Cert.Pre_ln_finite.Facts] : Prop :=
  ∀ (m : (ℓ : Loc Cert.BNormRefIdeal.nD Cert.BNormRefIdeal.τ Cert.BNormRefIdeal.sig) → Buf (Elt Ideal) ℓ) (g : Dev Cert.BNormRefIdeal.nD → PrngReg), Pre_BNormRefIdeal_ln_finite m →
    θ_run (Cert.BNormRefIdeal.defs (F := Ideal)) (onTc (τ := Cert.BNormRefIdeal.τ) (Cert.BNormRefIdeal.main (F := Ideal))) ⟨m, fun _ => 0, g⟩ (fun r => (∀ c : Dev Cert.BNormRefIdeal.nD,
      r.2.mem ((c.tc : Thread Cert.BNormRefIdeal.nD Cert.BNormRefIdeal.τ).loc Cert.BNormRefIdeal.main_arg0) = m ((c.tc : Thread Cert.BNormRefIdeal.nD Cert.BNormRefIdeal.τ).loc Cert.BNormRefIdeal.main_arg0)
      ∧ r.2.mem ((c.tc : Thread Cert.BNormRefIdeal.nD Cert.BNormRefIdeal.τ).loc Cert.BNormRefIdeal.main_arg1) = m ((c.tc : Thread Cert.BNormRefIdeal.nD Cert.BNormRefIdeal.τ).loc Cert.BNormRefIdeal.main_arg1)
      ∧ r.2.mem ((c.tc : Thread Cert.BNormRefIdeal.nD Cert.BNormRefIdeal.τ).loc Cert.BNormRefIdeal.main_arg2) = m ((c.tc : Thread Cert.BNormRefIdeal.nD Cert.BNormRefIdeal.τ).loc Cert.BNormRefIdeal.main_arg2)
      ∧ r.2.mem ((c.tc : Thread Cert.BNormRefIdeal.nD Cert.BNormRefIdeal.τ).loc Cert.BNormRefIdeal.main_arg3) = m ((c.tc : Thread Cert.BNormRefIdeal.nD Cert.BNormRefIdeal.τ).loc Cert.BNormRefIdeal.main_arg3)
      ∧ r.2.mem ((c.tc : Thread Cert.BNormRefIdeal.nD Cert.BNormRefIdeal.τ).loc Cert.BNormRefIdeal.main_arg4) = m ((c.tc : Thread Cert.BNormRefIdeal.nD Cert.BNormRefIdeal.τ).loc Cert.BNormRefIdeal.main_arg4))
      ∧ r.2.sem = fun _ => 0)

def quiescent_FGate [hFGate : Cert.FGate.Facts] : Prop :=
  ∀ (m : (ℓ : Loc Cert.FGate.nD Cert.FGate.τ Cert.FGate.sig) → Buf (Elt Bits) ℓ) (g : Dev Cert.FGate.nD → PrngReg), Pre_FGate m →
    θ_run (Cert.FGate.defs (F := Bits)) (onTc (τ := Cert.FGate.τ) (Cert.FGate.main (F := Bits))) ⟨m, fun _ => 0, g⟩ (fun r => (∀ c : Dev Cert.FGate.nD,
      r.2.mem ((c.tc : Thread Cert.FGate.nD Cert.FGate.τ).loc Cert.FGate.main_arg0) = m ((c.tc : Thread Cert.FGate.nD Cert.FGate.τ).loc Cert.FGate.main_arg0)
      ∧ r.2.mem ((c.tc : Thread Cert.FGate.nD Cert.FGate.τ).loc Cert.FGate.main_arg1) = m ((c.tc : Thread Cert.FGate.nD Cert.FGate.τ).loc Cert.FGate.main_arg1)
      ∧ r.2.mem ((c.tc : Thread Cert.FGate.nD Cert.FGate.τ).loc Cert.FGate.main_arg2) = m ((c.tc : Thread Cert.FGate.nD Cert.FGate.τ).loc Cert.FGate.main_arg2)
      ∧ r.2.mem ((c.tc : Thread Cert.FGate.nD Cert.FGate.τ).loc Cert.FGate.main_arg3) = m ((c.tc : Thread Cert.FGate.nD Cert.FGate.τ).loc Cert.FGate.main_arg3)
      ∧ r.2.mem ((c.tc : Thread Cert.FGate.nD Cert.FGate.τ).loc Cert.FGate.main_arg4) = m ((c.tc : Thread Cert.FGate.nD Cert.FGate.τ).loc Cert.FGate.main_arg4))
      ∧ r.2.sem = fun _ => 0)

def quiescent_FGateIdeal [hFGateIdeal : Cert.FGateIdeal.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
      ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
      ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3)
      ∧ r.2.mem ((c.tc : Thread Cert.FGateIdeal.nD Cert.FGateIdeal.τ).loc Cert.FGateIdeal.main_arg4) = m ((c.tc : Thread Cert.FGateIdeal.nD Cert.FGateIdeal.τ).loc Cert.FGateIdeal.main_arg4))
      ∧ r.2.sem = fun _ => 0)

def quiescent_FGateIdeal_pre_f_finite [hFGateIdeal : Cert.FGateIdeal.Facts] [hPre_f_finite : Cert.Pre_f_finite.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal_f_finite m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
      ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
      ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3)
      ∧ r.2.mem ((c.tc : Thread Cert.FGateIdeal.nD Cert.FGateIdeal.τ).loc Cert.FGateIdeal.main_arg4) = m ((c.tc : Thread Cert.FGateIdeal.nD Cert.FGateIdeal.τ).loc Cert.FGateIdeal.main_arg4))
      ∧ r.2.sem = fun _ => 0)

def quiescent_FGateRefIdeal [hFGateRefIdeal : Cert.FGateRefIdeal.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1)
      ∧ r.2.mem ((c.tc : Thread Cert.FGateRefIdeal.nD Cert.FGateRefIdeal.τ).loc Cert.FGateRefIdeal.main_arg2) = m ((c.tc : Thread Cert.FGateRefIdeal.nD Cert.FGateRefIdeal.τ).loc Cert.FGateRefIdeal.main_arg2)
      ∧ r.2.mem ((c.tc : Thread Cert.FGateRefIdeal.nD Cert.FGateRefIdeal.τ).loc Cert.FGateRefIdeal.main_arg3) = m ((c.tc : Thread Cert.FGateRefIdeal.nD Cert.FGateRefIdeal.τ).loc Cert.FGateRefIdeal.main_arg3)
      ∧ r.2.mem ((c.tc : Thread Cert.FGateRefIdeal.nD Cert.FGateRefIdeal.τ).loc Cert.FGateRefIdeal.main_arg4) = m ((c.tc : Thread Cert.FGateRefIdeal.nD Cert.FGateRefIdeal.τ).loc Cert.FGateRefIdeal.main_arg4))
      ∧ r.2.sem = fun _ => 0)

def quiescent_FGateRefIdeal_pre_f_finite [hFGateRefIdeal : Cert.FGateRefIdeal.Facts] [hPre_f_finite : Cert.Pre_f_finite.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal_f_finite m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1)
      ∧ r.2.mem ((c.tc : Thread Cert.FGateRefIdeal.nD Cert.FGateRefIdeal.τ).loc Cert.FGateRefIdeal.main_arg2) = m ((c.tc : Thread Cert.FGateRefIdeal.nD Cert.FGateRefIdeal.τ).loc Cert.FGateRefIdeal.main_arg2)
      ∧ r.2.mem ((c.tc : Thread Cert.FGateRefIdeal.nD Cert.FGateRefIdeal.τ).loc Cert.FGateRefIdeal.main_arg3) = m ((c.tc : Thread Cert.FGateRefIdeal.nD Cert.FGateRefIdeal.τ).loc Cert.FGateRefIdeal.main_arg3)
      ∧ r.2.mem ((c.tc : Thread Cert.FGateRefIdeal.nD Cert.FGateRefIdeal.τ).loc Cert.FGateRefIdeal.main_arg4) = m ((c.tc : Thread Cert.FGateRefIdeal.nD Cert.FGateRefIdeal.τ).loc Cert.FGateRefIdeal.main_arg4))
      ∧ r.2.sem = fun _ => 0)

def quiescent_AGate [hAGate : Cert.AGate.Facts] : Prop :=
  ∀ (m : (ℓ : Loc Cert.AGate.nD Cert.AGate.τ Cert.AGate.sig) → Buf (Elt Bits) ℓ) (g : Dev Cert.AGate.nD → PrngReg), Pre_AGate m →
    θ_run (Cert.AGate.defs (F := Bits)) (onTc (τ := Cert.AGate.τ) (Cert.AGate.main (F := Bits))) ⟨m, fun _ => 0, g⟩ (fun r => (∀ c : Dev Cert.AGate.nD,
      r.2.mem ((c.tc : Thread Cert.AGate.nD Cert.AGate.τ).loc Cert.AGate.main_arg0) = m ((c.tc : Thread Cert.AGate.nD Cert.AGate.τ).loc Cert.AGate.main_arg0)
      ∧ r.2.mem ((c.tc : Thread Cert.AGate.nD Cert.AGate.τ).loc Cert.AGate.main_arg1) = m ((c.tc : Thread Cert.AGate.nD Cert.AGate.τ).loc Cert.AGate.main_arg1)
      ∧ r.2.mem ((c.tc : Thread Cert.AGate.nD Cert.AGate.τ).loc Cert.AGate.main_arg2) = m ((c.tc : Thread Cert.AGate.nD Cert.AGate.τ).loc Cert.AGate.main_arg2)
      ∧ r.2.mem ((c.tc : Thread Cert.AGate.nD Cert.AGate.τ).loc Cert.AGate.main_arg3) = m ((c.tc : Thread Cert.AGate.nD Cert.AGate.τ).loc Cert.AGate.main_arg3)
      ∧ r.2.mem ((c.tc : Thread Cert.AGate.nD Cert.AGate.τ).loc Cert.AGate.main_arg4) = m ((c.tc : Thread Cert.AGate.nD Cert.AGate.τ).loc Cert.AGate.main_arg4))
      ∧ r.2.sem = fun _ => 0)

def quiescent_AGateIdeal [hAGateIdeal : Cert.AGateIdeal.Facts] : Prop :=
  ∀ (m : (ℓ : Loc Cert.AGateIdeal.nD Cert.AGateIdeal.τ Cert.AGateIdeal.sig) → Buf (Elt Ideal) ℓ) (g : Dev Cert.AGateIdeal.nD → PrngReg), Pre_AGateIdeal m →
    θ_run (Cert.AGateIdeal.defs (F := Ideal)) (onTc (τ := Cert.AGateIdeal.τ) (Cert.AGateIdeal.main (F := Ideal))) ⟨m, fun _ => 0, g⟩ (fun r => (∀ c : Dev Cert.AGateIdeal.nD,
      r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
      ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
      ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
      ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3)
      ∧ r.2.mem ((c.tc : Thread Cert.AGateIdeal.nD Cert.AGateIdeal.τ).loc Cert.AGateIdeal.main_arg4) = m ((c.tc : Thread Cert.AGateIdeal.nD Cert.AGateIdeal.τ).loc Cert.AGateIdeal.main_arg4))
      ∧ r.2.sem = fun _ => 0)

def quiescent_AGateRefIdeal [hAGateRefIdeal : Cert.AGateRefIdeal.Facts] : Prop :=
  ∀ (m : (ℓ : Loc Cert.AGateRefIdeal.nD Cert.AGateRefIdeal.τ Cert.AGateRefIdeal.sig) → Buf (Elt Ideal) ℓ) (g : Dev Cert.AGateRefIdeal.nD → PrngReg), Pre_AGateRefIdeal m →
    θ_run (Cert.AGateRefIdeal.defs (F := Ideal)) (onTc (τ := Cert.AGateRefIdeal.τ) (Cert.AGateRefIdeal.main (F := Ideal))) ⟨m, fun _ => 0, g⟩ (fun r => (∀ c : Dev Cert.AGateRefIdeal.nD,
      r.2.mem ((c.tc : Thread Cert.AGateRefIdeal.nD Cert.AGateRefIdeal.τ).loc Cert.AGateRefIdeal.main_arg0) = m ((c.tc : Thread Cert.AGateRefIdeal.nD Cert.AGateRefIdeal.τ).loc Cert.AGateRefIdeal.main_arg0)
      ∧ r.2.mem ((c.tc : Thread Cert.AGateRefIdeal.nD Cert.AGateRefIdeal.τ).loc Cert.AGateRefIdeal.main_arg1) = m ((c.tc : Thread Cert.AGateRefIdeal.nD Cert.AGateRefIdeal.τ).loc Cert.AGateRefIdeal.main_arg1)
      ∧ r.2.mem ((c.tc : Thread Cert.AGateRefIdeal.nD Cert.AGateRefIdeal.τ).loc Cert.AGateRefIdeal.main_arg2) = m ((c.tc : Thread Cert.AGateRefIdeal.nD Cert.AGateRefIdeal.τ).loc Cert.AGateRefIdeal.main_arg2)
      ∧ r.2.mem ((c.tc : Thread Cert.AGateRefIdeal.nD Cert.AGateRefIdeal.τ).loc Cert.AGateRefIdeal.main_arg3) = m ((c.tc : Thread Cert.AGateRefIdeal.nD Cert.AGateRefIdeal.τ).loc Cert.AGateRefIdeal.main_arg3)
      ∧ r.2.mem ((c.tc : Thread Cert.AGateRefIdeal.nD Cert.AGateRefIdeal.τ).loc Cert.AGateRefIdeal.main_arg4) = m ((c.tc : Thread Cert.AGateRefIdeal.nD Cert.AGateRefIdeal.τ).loc Cert.AGateRefIdeal.main_arg4))
      ∧ r.2.sem = fun _ => 0)

def quiescent_BGate [hBGate : Cert.BGate.Facts] : Prop :=
  ∀ (m : (ℓ : Loc Cert.BGate.nD Cert.BGate.τ Cert.BGate.sig) → Buf (Elt Bits) ℓ) (g : Dev Cert.BGate.nD → PrngReg), Pre_BGate m →
    θ_run (Cert.BGate.defs (F := Bits)) (onTc (τ := Cert.BGate.τ) (Cert.BGate.main (F := Bits))) ⟨m, fun _ => 0, g⟩ (fun r => (∀ c : Dev Cert.BGate.nD,
      r.2.mem ((c.tc : Thread Cert.BGate.nD Cert.BGate.τ).loc Cert.BGate.main_arg0) = m ((c.tc : Thread Cert.BGate.nD Cert.BGate.τ).loc Cert.BGate.main_arg0)
      ∧ r.2.mem ((c.tc : Thread Cert.BGate.nD Cert.BGate.τ).loc Cert.BGate.main_arg1) = m ((c.tc : Thread Cert.BGate.nD Cert.BGate.τ).loc Cert.BGate.main_arg1)
      ∧ r.2.mem ((c.tc : Thread Cert.BGate.nD Cert.BGate.τ).loc Cert.BGate.main_arg2) = m ((c.tc : Thread Cert.BGate.nD Cert.BGate.τ).loc Cert.BGate.main_arg2)
      ∧ r.2.mem ((c.tc : Thread Cert.BGate.nD Cert.BGate.τ).loc Cert.BGate.main_arg3) = m ((c.tc : Thread Cert.BGate.nD Cert.BGate.τ).loc Cert.BGate.main_arg3)
      ∧ r.2.mem ((c.tc : Thread Cert.BGate.nD Cert.BGate.τ).loc Cert.BGate.main_arg4) = m ((c.tc : Thread Cert.BGate.nD Cert.BGate.τ).loc Cert.BGate.main_arg4)
      ∧ r.2.mem ((c.tc : Thread Cert.BGate.nD Cert.BGate.τ).loc Cert.BGate.main_arg5) = m ((c.tc : Thread Cert.BGate.nD Cert.BGate.τ).loc Cert.BGate.main_arg5)
      ∧ r.2.mem ((c.tc : Thread Cert.BGate.nD Cert.BGate.τ).loc Cert.BGate.main_arg6) = m ((c.tc : Thread Cert.BGate.nD Cert.BGate.τ).loc Cert.BGate.main_arg6)
      ∧ r.2.mem ((c.tc : Thread Cert.BGate.nD Cert.BGate.τ).loc Cert.BGate.main_arg7) = m ((c.tc : Thread Cert.BGate.nD Cert.BGate.τ).loc Cert.BGate.main_arg7))
      ∧ r.2.sem = fun _ => 0)

def quiescent_BGateIdeal [hBGateIdeal : Cert.BGateIdeal.Facts] : Prop :=
  ∀ (m : (ℓ : Loc Cert.BGateIdeal.nD Cert.BGateIdeal.τ Cert.BGateIdeal.sig) → Buf (Elt Ideal) ℓ) (g : Dev Cert.BGateIdeal.nD → PrngReg), Pre_BGateIdeal m →
    θ_run (Cert.BGateIdeal.defs (F := Ideal)) (onTc (τ := Cert.BGateIdeal.τ) (Cert.BGateIdeal.main (F := Ideal))) ⟨m, fun _ => 0, g⟩ (fun r => (∀ c : Dev Cert.BGateIdeal.nD,
      r.2.mem ((c.tc : Thread Cert.BGateIdeal.nD Cert.BGateIdeal.τ).loc Cert.BGateIdeal.main_arg0) = m ((c.tc : Thread Cert.BGateIdeal.nD Cert.BGateIdeal.τ).loc Cert.BGateIdeal.main_arg0)
      ∧ r.2.mem ((c.tc : Thread Cert.BGateIdeal.nD Cert.BGateIdeal.τ).loc Cert.BGateIdeal.main_arg1) = m ((c.tc : Thread Cert.BGateIdeal.nD Cert.BGateIdeal.τ).loc Cert.BGateIdeal.main_arg1)
      ∧ r.2.mem ((c.tc : Thread Cert.BGateIdeal.nD Cert.BGateIdeal.τ).loc Cert.BGateIdeal.main_arg2) = m ((c.tc : Thread Cert.BGateIdeal.nD Cert.BGateIdeal.τ).loc Cert.BGateIdeal.main_arg2)
      ∧ r.2.mem ((c.tc : Thread Cert.BGateIdeal.nD Cert.BGateIdeal.τ).loc Cert.BGateIdeal.main_arg3) = m ((c.tc : Thread Cert.BGateIdeal.nD Cert.BGateIdeal.τ).loc Cert.BGateIdeal.main_arg3)
      ∧ r.2.mem ((c.tc : Thread Cert.BGateIdeal.nD Cert.BGateIdeal.τ).loc Cert.BGateIdeal.main_arg4) = m ((c.tc : Thread Cert.BGateIdeal.nD Cert.BGateIdeal.τ).loc Cert.BGateIdeal.main_arg4)
      ∧ r.2.mem ((c.tc : Thread Cert.BGateIdeal.nD Cert.BGateIdeal.τ).loc Cert.BGateIdeal.main_arg5) = m ((c.tc : Thread Cert.BGateIdeal.nD Cert.BGateIdeal.τ).loc Cert.BGateIdeal.main_arg5)
      ∧ r.2.mem ((c.tc : Thread Cert.BGateIdeal.nD Cert.BGateIdeal.τ).loc Cert.BGateIdeal.main_arg6) = m ((c.tc : Thread Cert.BGateIdeal.nD Cert.BGateIdeal.τ).loc Cert.BGateIdeal.main_arg6)
      ∧ r.2.mem ((c.tc : Thread Cert.BGateIdeal.nD Cert.BGateIdeal.τ).loc Cert.BGateIdeal.main_arg7) = m ((c.tc : Thread Cert.BGateIdeal.nD Cert.BGateIdeal.τ).loc Cert.BGateIdeal.main_arg7))
      ∧ r.2.sem = fun _ => 0)

def quiescent_BGateRefIdeal [hBGateRefIdeal : Cert.BGateRefIdeal.Facts] : Prop :=
  ∀ (m : (ℓ : Loc Cert.BGateRefIdeal.nD Cert.BGateRefIdeal.τ Cert.BGateRefIdeal.sig) → Buf (Elt Ideal) ℓ) (g : Dev Cert.BGateRefIdeal.nD → PrngReg), Pre_BGateRefIdeal m →
    θ_run (Cert.BGateRefIdeal.defs (F := Ideal)) (onTc (τ := Cert.BGateRefIdeal.τ) (Cert.BGateRefIdeal.main (F := Ideal))) ⟨m, fun _ => 0, g⟩ (fun r => (∀ c : Dev Cert.BGateRefIdeal.nD,
      r.2.mem ((c.tc : Thread Cert.BGateRefIdeal.nD Cert.BGateRefIdeal.τ).loc Cert.BGateRefIdeal.main_arg0) = m ((c.tc : Thread Cert.BGateRefIdeal.nD Cert.BGateRefIdeal.τ).loc Cert.BGateRefIdeal.main_arg0)
      ∧ r.2.mem ((c.tc : Thread Cert.BGateRefIdeal.nD Cert.BGateRefIdeal.τ).loc Cert.BGateRefIdeal.main_arg1) = m ((c.tc : Thread Cert.BGateRefIdeal.nD Cert.BGateRefIdeal.τ).loc Cert.BGateRefIdeal.main_arg1)
      ∧ r.2.mem ((c.tc : Thread Cert.BGateRefIdeal.nD Cert.BGateRefIdeal.τ).loc Cert.BGateRefIdeal.main_arg2) = m ((c.tc : Thread Cert.BGateRefIdeal.nD Cert.BGateRefIdeal.τ).loc Cert.BGateRefIdeal.main_arg2)
      ∧ r.2.mem ((c.tc : Thread Cert.BGateRefIdeal.nD Cert.BGateRefIdeal.τ).loc Cert.BGateRefIdeal.main_arg3) = m ((c.tc : Thread Cert.BGateRefIdeal.nD Cert.BGateRefIdeal.τ).loc Cert.BGateRefIdeal.main_arg3)
      ∧ r.2.mem ((c.tc : Thread Cert.BGateRefIdeal.nD Cert.BGateRefIdeal.τ).loc Cert.BGateRefIdeal.main_arg4) = m ((c.tc : Thread Cert.BGateRefIdeal.nD Cert.BGateRefIdeal.τ).loc Cert.BGateRefIdeal.main_arg4)
      ∧ r.2.mem ((c.tc : Thread Cert.BGateRefIdeal.nD Cert.BGateRefIdeal.τ).loc Cert.BGateRefIdeal.main_arg5) = m ((c.tc : Thread Cert.BGateRefIdeal.nD Cert.BGateRefIdeal.τ).loc Cert.BGateRefIdeal.main_arg5)
      ∧ r.2.mem ((c.tc : Thread Cert.BGateRefIdeal.nD Cert.BGateRefIdeal.τ).loc Cert.BGateRefIdeal.main_arg6) = m ((c.tc : Thread Cert.BGateRefIdeal.nD Cert.BGateRefIdeal.τ).loc Cert.BGateRefIdeal.main_arg6)
      ∧ r.2.mem ((c.tc : Thread Cert.BGateRefIdeal.nD Cert.BGateRefIdeal.τ).loc Cert.BGateRefIdeal.main_arg7) = m ((c.tc : Thread Cert.BGateRefIdeal.nD Cert.BGateRefIdeal.τ).loc Cert.BGateRefIdeal.main_arg7))
      ∧ r.2.sem = fun _ => 0)

def quiescent_CGate [hCGate : Cert.CGate.Facts] : Prop :=
  ∀ (m : (ℓ : Loc Cert.CGate.nD Cert.CGate.τ Cert.CGate.sig) → Buf (Elt Bits) ℓ) (g : Dev Cert.CGate.nD → PrngReg), Pre_CGate m →
    θ_run (Cert.CGate.defs (F := Bits)) (onTc (τ := Cert.CGate.τ) (Cert.CGate.main (F := Bits))) ⟨m, fun _ => 0, g⟩ (fun r => (∀ c : Dev Cert.CGate.nD,
      r.2.mem ((c.tc : Thread Cert.CGate.nD Cert.CGate.τ).loc Cert.CGate.main_arg0) = m ((c.tc : Thread Cert.CGate.nD Cert.CGate.τ).loc Cert.CGate.main_arg0)
      ∧ r.2.mem ((c.tc : Thread Cert.CGate.nD Cert.CGate.τ).loc Cert.CGate.main_arg1) = m ((c.tc : Thread Cert.CGate.nD Cert.CGate.τ).loc Cert.CGate.main_arg1)
      ∧ r.2.mem ((c.tc : Thread Cert.CGate.nD Cert.CGate.τ).loc Cert.CGate.main_arg2) = m ((c.tc : Thread Cert.CGate.nD Cert.CGate.τ).loc Cert.CGate.main_arg2)
      ∧ r.2.mem ((c.tc : Thread Cert.CGate.nD Cert.CGate.τ).loc Cert.CGate.main_arg3) = m ((c.tc : Thread Cert.CGate.nD Cert.CGate.τ).loc Cert.CGate.main_arg3)
      ∧ r.2.mem ((c.tc : Thread Cert.CGate.nD Cert.CGate.τ).loc Cert.CGate.main_arg4) = m ((c.tc : Thread Cert.CGate.nD Cert.CGate.τ).loc Cert.CGate.main_arg4)
      ∧ r.2.mem ((c.tc : Thread Cert.CGate.nD Cert.CGate.τ).loc Cert.CGate.main_arg5) = m ((c.tc : Thread Cert.CGate.nD Cert.CGate.τ).loc Cert.CGate.main_arg5))
      ∧ r.2.sem = fun _ => 0)

def quiescent_CGateIdeal [hCGateIdeal : Cert.CGateIdeal.Facts] : Prop :=
  ∀ (m : (ℓ : Loc Cert.CGateIdeal.nD Cert.CGateIdeal.τ Cert.CGateIdeal.sig) → Buf (Elt Ideal) ℓ) (g : Dev Cert.CGateIdeal.nD → PrngReg), Pre_CGateIdeal m →
    θ_run (Cert.CGateIdeal.defs (F := Ideal)) (onTc (τ := Cert.CGateIdeal.τ) (Cert.CGateIdeal.main (F := Ideal))) ⟨m, fun _ => 0, g⟩ (fun r => (∀ c : Dev Cert.CGateIdeal.nD,
      r.2.mem ((c.tc : Thread Cert.CGateIdeal.nD Cert.CGateIdeal.τ).loc Cert.CGateIdeal.main_arg0) = m ((c.tc : Thread Cert.CGateIdeal.nD Cert.CGateIdeal.τ).loc Cert.CGateIdeal.main_arg0)
      ∧ r.2.mem ((c.tc : Thread Cert.CGateIdeal.nD Cert.CGateIdeal.τ).loc Cert.CGateIdeal.main_arg1) = m ((c.tc : Thread Cert.CGateIdeal.nD Cert.CGateIdeal.τ).loc Cert.CGateIdeal.main_arg1)
      ∧ r.2.mem ((c.tc : Thread Cert.CGateIdeal.nD Cert.CGateIdeal.τ).loc Cert.CGateIdeal.main_arg2) = m ((c.tc : Thread Cert.CGateIdeal.nD Cert.CGateIdeal.τ).loc Cert.CGateIdeal.main_arg2)
      ∧ r.2.mem ((c.tc : Thread Cert.CGateIdeal.nD Cert.CGateIdeal.τ).loc Cert.CGateIdeal.main_arg3) = m ((c.tc : Thread Cert.CGateIdeal.nD Cert.CGateIdeal.τ).loc Cert.CGateIdeal.main_arg3)
      ∧ r.2.mem ((c.tc : Thread Cert.CGateIdeal.nD Cert.CGateIdeal.τ).loc Cert.CGateIdeal.main_arg4) = m ((c.tc : Thread Cert.CGateIdeal.nD Cert.CGateIdeal.τ).loc Cert.CGateIdeal.main_arg4)
      ∧ r.2.mem ((c.tc : Thread Cert.CGateIdeal.nD Cert.CGateIdeal.τ).loc Cert.CGateIdeal.main_arg5) = m ((c.tc : Thread Cert.CGateIdeal.nD Cert.CGateIdeal.τ).loc Cert.CGateIdeal.main_arg5))
      ∧ r.2.sem = fun _ => 0)

def quiescent_CGateRefIdeal [hCGateRefIdeal : Cert.CGateRefIdeal.Facts] : Prop :=
  ∀ (m : (ℓ : Loc Cert.CGateRefIdeal.nD Cert.CGateRefIdeal.τ Cert.CGateRefIdeal.sig) → Buf (Elt Ideal) ℓ) (g : Dev Cert.CGateRefIdeal.nD → PrngReg), Pre_CGateRefIdeal m →
    θ_run (Cert.CGateRefIdeal.defs (F := Ideal)) (onTc (τ := Cert.CGateRefIdeal.τ) (Cert.CGateRefIdeal.main (F := Ideal))) ⟨m, fun _ => 0, g⟩ (fun r => (∀ c : Dev Cert.CGateRefIdeal.nD,
      r.2.mem ((c.tc : Thread Cert.CGateRefIdeal.nD Cert.CGateRefIdeal.τ).loc Cert.CGateRefIdeal.main_arg0) = m ((c.tc : Thread Cert.CGateRefIdeal.nD Cert.CGateRefIdeal.τ).loc Cert.CGateRefIdeal.main_arg0)
      ∧ r.2.mem ((c.tc : Thread Cert.CGateRefIdeal.nD Cert.CGateRefIdeal.τ).loc Cert.CGateRefIdeal.main_arg1) = m ((c.tc : Thread Cert.CGateRefIdeal.nD Cert.CGateRefIdeal.τ).loc Cert.CGateRefIdeal.main_arg1)
      ∧ r.2.mem ((c.tc : Thread Cert.CGateRefIdeal.nD Cert.CGateRefIdeal.τ).loc Cert.CGateRefIdeal.main_arg2) = m ((c.tc : Thread Cert.CGateRefIdeal.nD Cert.CGateRefIdeal.τ).loc Cert.CGateRefIdeal.main_arg2)
      ∧ r.2.mem ((c.tc : Thread Cert.CGateRefIdeal.nD Cert.CGateRefIdeal.τ).loc Cert.CGateRefIdeal.main_arg3) = m ((c.tc : Thread Cert.CGateRefIdeal.nD Cert.CGateRefIdeal.τ).loc Cert.CGateRefIdeal.main_arg3)
      ∧ r.2.mem ((c.tc : Thread Cert.CGateRefIdeal.nD Cert.CGateRefIdeal.τ).loc Cert.CGateRefIdeal.main_arg4) = m ((c.tc : Thread Cert.CGateRefIdeal.nD Cert.CGateRefIdeal.τ).loc Cert.CGateRefIdeal.main_arg4)
      ∧ r.2.mem ((c.tc : Thread Cert.CGateRefIdeal.nD Cert.CGateRefIdeal.τ).loc Cert.CGateRefIdeal.main_arg5) = m ((c.tc : Thread Cert.CGateRefIdeal.nD Cert.CGateRefIdeal.τ).loc Cert.CGateRefIdeal.main_arg5))
      ∧ r.2.sem = fun _ => 0)

def quiescent_AStrip [hAStrip : Cert.AStrip.Facts] : Prop :=
  ∀ (m : (ℓ : Loc Cert.AStrip.nD Cert.AStrip.τ Cert.AStrip.sig) → Buf (Elt Bits) ℓ) (g : Dev Cert.AStrip.nD → PrngReg), Pre_AStrip m →
    θ_run (Cert.AStrip.defs (F := Bits)) (onTc (τ := Cert.AStrip.τ) (Cert.AStrip.main (F := Bits))) ⟨m, fun _ => 0, g⟩ (fun r => (∀ c : Dev Cert.AStrip.nD,
      r.2.mem ((c.tc : Thread Cert.AStrip.nD Cert.AStrip.τ).loc Cert.AStrip.main_arg0) = m ((c.tc : Thread Cert.AStrip.nD Cert.AStrip.τ).loc Cert.AStrip.main_arg0)
      ∧ r.2.mem ((c.tc : Thread Cert.AStrip.nD Cert.AStrip.τ).loc Cert.AStrip.main_arg1) = m ((c.tc : Thread Cert.AStrip.nD Cert.AStrip.τ).loc Cert.AStrip.main_arg1)
      ∧ r.2.mem ((c.tc : Thread Cert.AStrip.nD Cert.AStrip.τ).loc Cert.AStrip.main_arg2) = m ((c.tc : Thread Cert.AStrip.nD Cert.AStrip.τ).loc Cert.AStrip.main_arg2))
      ∧ r.2.sem = fun _ => 0)

def quiescent_AStripIdeal [hAStripIdeal : Cert.AStripIdeal.Facts] : Prop :=
  ∀ (m : (ℓ : Loc Cert.AStripIdeal.nD Cert.AStripIdeal.τ Cert.AStripIdeal.sig) → Buf (Elt Ideal) ℓ) (g : Dev Cert.AStripIdeal.nD → PrngReg), Pre_AStripIdeal m →
    θ_run (Cert.AStripIdeal.defs (F := Ideal)) (onTc (τ := Cert.AStripIdeal.τ) (Cert.AStripIdeal.main (F := Ideal))) ⟨m, fun _ => 0, g⟩ (fun r => (∀ c : Dev Cert.AStripIdeal.nD,
      r.2.mem ((c.tc : Thread Cert.AStripIdeal.nD Cert.AStripIdeal.τ).loc Cert.AStripIdeal.main_arg0) = m ((c.tc : Thread Cert.AStripIdeal.nD Cert.AStripIdeal.τ).loc Cert.AStripIdeal.main_arg0)
      ∧ r.2.mem ((c.tc : Thread Cert.AStripIdeal.nD Cert.AStripIdeal.τ).loc Cert.AStripIdeal.main_arg1) = m ((c.tc : Thread Cert.AStripIdeal.nD Cert.AStripIdeal.τ).loc Cert.AStripIdeal.main_arg1)
      ∧ r.2.mem ((c.tc : Thread Cert.AStripIdeal.nD Cert.AStripIdeal.τ).loc Cert.AStripIdeal.main_arg2) = m ((c.tc : Thread Cert.AStripIdeal.nD Cert.AStripIdeal.τ).loc Cert.AStripIdeal.main_arg2))
      ∧ r.2.sem = fun _ => 0)

def quiescent_AStripRefIdeal [hAStripRefIdeal : Cert.AStripRefIdeal.Facts] : Prop :=
  ∀ (m : (ℓ : Loc Cert.AStripRefIdeal.nD Cert.AStripRefIdeal.τ Cert.AStripRefIdeal.sig) → Buf (Elt Ideal) ℓ) (g : Dev Cert.AStripRefIdeal.nD → PrngReg), Pre_AStripRefIdeal m →
    θ_run (Cert.AStripRefIdeal.defs (F := Ideal)) (onTc (τ := Cert.AStripRefIdeal.τ) (Cert.AStripRefIdeal.main (F := Ideal))) ⟨m, fun _ => 0, g⟩ (fun r => (∀ c : Dev Cert.AStripRefIdeal.nD,
      r.2.mem ((c.tc : Thread Cert.AStripRefIdeal.nD Cert.AStripRefIdeal.τ).loc Cert.AStripRefIdeal.main_arg0) = m ((c.tc : Thread Cert.AStripRefIdeal.nD Cert.AStripRefIdeal.τ).loc Cert.AStripRefIdeal.main_arg0)
      ∧ r.2.mem ((c.tc : Thread Cert.AStripRefIdeal.nD Cert.AStripRefIdeal.τ).loc Cert.AStripRefIdeal.main_arg1) = m ((c.tc : Thread Cert.AStripRefIdeal.nD Cert.AStripRefIdeal.τ).loc Cert.AStripRefIdeal.main_arg1)
      ∧ r.2.mem ((c.tc : Thread Cert.AStripRefIdeal.nD Cert.AStripRefIdeal.τ).loc Cert.AStripRefIdeal.main_arg2) = m ((c.tc : Thread Cert.AStripRefIdeal.nD Cert.AStripRefIdeal.τ).loc Cert.AStripRefIdeal.main_arg2))
      ∧ r.2.sem = fun _ => 0)

def quiescent_BStrip [hBStrip : Cert.BStrip.Facts] : Prop :=
  ∀ (m : (ℓ : Loc Cert.BStrip.nD Cert.BStrip.τ Cert.BStrip.sig) → Buf (Elt Bits) ℓ) (g : Dev Cert.BStrip.nD → PrngReg), Pre_BStrip m →
    θ_run (Cert.BStrip.defs (F := Bits)) (onTc (τ := Cert.BStrip.τ) (Cert.BStrip.main (F := Bits))) ⟨m, fun _ => 0, g⟩ (fun r => (∀ c : Dev Cert.BStrip.nD,
      r.2.mem ((c.tc : Thread Cert.BStrip.nD Cert.BStrip.τ).loc Cert.BStrip.main_arg0) = m ((c.tc : Thread Cert.BStrip.nD Cert.BStrip.τ).loc Cert.BStrip.main_arg0)
      ∧ r.2.mem ((c.tc : Thread Cert.BStrip.nD Cert.BStrip.τ).loc Cert.BStrip.main_arg1) = m ((c.tc : Thread Cert.BStrip.nD Cert.BStrip.τ).loc Cert.BStrip.main_arg1)
      ∧ r.2.mem ((c.tc : Thread Cert.BStrip.nD Cert.BStrip.τ).loc Cert.BStrip.main_arg2) = m ((c.tc : Thread Cert.BStrip.nD Cert.BStrip.τ).loc Cert.BStrip.main_arg2)
      ∧ r.2.mem ((c.tc : Thread Cert.BStrip.nD Cert.BStrip.τ).loc Cert.BStrip.main_arg3) = m ((c.tc : Thread Cert.BStrip.nD Cert.BStrip.τ).loc Cert.BStrip.main_arg3))
      ∧ r.2.sem = fun _ => 0)

def quiescent_BStripIdeal [hBStripIdeal : Cert.BStripIdeal.Facts] : Prop :=
  ∀ (m : (ℓ : Loc Cert.BStripIdeal.nD Cert.BStripIdeal.τ Cert.BStripIdeal.sig) → Buf (Elt Ideal) ℓ) (g : Dev Cert.BStripIdeal.nD → PrngReg), Pre_BStripIdeal m →
    θ_run (Cert.BStripIdeal.defs (F := Ideal)) (onTc (τ := Cert.BStripIdeal.τ) (Cert.BStripIdeal.main (F := Ideal))) ⟨m, fun _ => 0, g⟩ (fun r => (∀ c : Dev Cert.BStripIdeal.nD,
      r.2.mem ((c.tc : Thread Cert.BStripIdeal.nD Cert.BStripIdeal.τ).loc Cert.BStripIdeal.main_arg0) = m ((c.tc : Thread Cert.BStripIdeal.nD Cert.BStripIdeal.τ).loc Cert.BStripIdeal.main_arg0)
      ∧ r.2.mem ((c.tc : Thread Cert.BStripIdeal.nD Cert.BStripIdeal.τ).loc Cert.BStripIdeal.main_arg1) = m ((c.tc : Thread Cert.BStripIdeal.nD Cert.BStripIdeal.τ).loc Cert.BStripIdeal.main_arg1)
      ∧ r.2.mem ((c.tc : Thread Cert.BStripIdeal.nD Cert.BStripIdeal.τ).loc Cert.BStripIdeal.main_arg2) = m ((c.tc : Thread Cert.BStripIdeal.nD Cert.BStripIdeal.τ).loc Cert.BStripIdeal.main_arg2)
      ∧ r.2.mem ((c.tc : Thread Cert.BStripIdeal.nD Cert.BStripIdeal.τ).loc Cert.BStripIdeal.main_arg3) = m ((c.tc : Thread Cert.BStripIdeal.nD Cert.BStripIdeal.τ).loc Cert.BStripIdeal.main_arg3))
      ∧ r.2.sem = fun _ => 0)

def quiescent_BStripRefIdeal [hBStripRefIdeal : Cert.BStripRefIdeal.Facts] : Prop :=
  ∀ (m : (ℓ : Loc Cert.BStripRefIdeal.nD Cert.BStripRefIdeal.τ Cert.BStripRefIdeal.sig) → Buf (Elt Ideal) ℓ) (g : Dev Cert.BStripRefIdeal.nD → PrngReg), Pre_BStripRefIdeal m →
    θ_run (Cert.BStripRefIdeal.defs (F := Ideal)) (onTc (τ := Cert.BStripRefIdeal.τ) (Cert.BStripRefIdeal.main (F := Ideal))) ⟨m, fun _ => 0, g⟩ (fun r => (∀ c : Dev Cert.BStripRefIdeal.nD,
      r.2.mem ((c.tc : Thread Cert.BStripRefIdeal.nD Cert.BStripRefIdeal.τ).loc Cert.BStripRefIdeal.main_arg0) = m ((c.tc : Thread Cert.BStripRefIdeal.nD Cert.BStripRefIdeal.τ).loc Cert.BStripRefIdeal.main_arg0)
      ∧ r.2.mem ((c.tc : Thread Cert.BStripRefIdeal.nD Cert.BStripRefIdeal.τ).loc Cert.BStripRefIdeal.main_arg1) = m ((c.tc : Thread Cert.BStripRefIdeal.nD Cert.BStripRefIdeal.τ).loc Cert.BStripRefIdeal.main_arg1)
      ∧ r.2.mem ((c.tc : Thread Cert.BStripRefIdeal.nD Cert.BStripRefIdeal.τ).loc Cert.BStripRefIdeal.main_arg2) = m ((c.tc : Thread Cert.BStripRefIdeal.nD Cert.BStripRefIdeal.τ).loc Cert.BStripRefIdeal.main_arg2)
      ∧ r.2.mem ((c.tc : Thread Cert.BStripRefIdeal.nD Cert.BStripRefIdeal.τ).loc Cert.BStripRefIdeal.main_arg3) = m ((c.tc : Thread Cert.BStripRefIdeal.nD Cert.BStripRefIdeal.τ).loc Cert.BStripRefIdeal.main_arg3))
      ∧ r.2.sem = fun _ => 0)

def quiescent_CStrip [hCStrip : Cert.CStrip.Facts] : Prop :=
  ∀ (m : (ℓ : Loc Cert.CStrip.nD Cert.CStrip.τ Cert.CStrip.sig) → Buf (Elt Bits) ℓ) (g : Dev Cert.CStrip.nD → PrngReg), Pre_CStrip m →
    θ_run (Cert.CStrip.defs (F := Bits)) (onTc (τ := Cert.CStrip.τ) (Cert.CStrip.main (F := Bits))) ⟨m, fun _ => 0, g⟩ (fun r => (∀ c : Dev Cert.CStrip.nD,
      r.2.mem ((c.tc : Thread Cert.CStrip.nD Cert.CStrip.τ).loc Cert.CStrip.main_arg0) = m ((c.tc : Thread Cert.CStrip.nD Cert.CStrip.τ).loc Cert.CStrip.main_arg0))
      ∧ r.2.sem = fun _ => 0)

def quiescent_CStripIdeal [hCStripIdeal : Cert.CStripIdeal.Facts] : Prop :=
  ∀ (m : (ℓ : Loc Cert.CStripIdeal.nD Cert.CStripIdeal.τ Cert.CStripIdeal.sig) → Buf (Elt Ideal) ℓ) (g : Dev Cert.CStripIdeal.nD → PrngReg), Pre_CStripIdeal m →
    θ_run (Cert.CStripIdeal.defs (F := Ideal)) (onTc (τ := Cert.CStripIdeal.τ) (Cert.CStripIdeal.main (F := Ideal))) ⟨m, fun _ => 0, g⟩ (fun r => (∀ c : Dev Cert.CStripIdeal.nD,
      r.2.mem ((c.tc : Thread Cert.CStripIdeal.nD Cert.CStripIdeal.τ).loc Cert.CStripIdeal.main_arg0) = m ((c.tc : Thread Cert.CStripIdeal.nD Cert.CStripIdeal.τ).loc Cert.CStripIdeal.main_arg0))
      ∧ r.2.sem = fun _ => 0)

def quiescent_CStripIdeal_pre_c_finite [hCStripIdeal : Cert.CStripIdeal.Facts] [hPre_c_finite : Cert.Pre_c_finite.Facts] : Prop :=
  ∀ (m : (ℓ : Loc Cert.CStripIdeal.nD Cert.CStripIdeal.τ Cert.CStripIdeal.sig) → Buf (Elt Ideal) ℓ) (g : Dev Cert.CStripIdeal.nD → PrngReg), Pre_CStripIdeal_c_finite m →
    θ_run (Cert.CStripIdeal.defs (F := Ideal)) (onTc (τ := Cert.CStripIdeal.τ) (Cert.CStripIdeal.main (F := Ideal))) ⟨m, fun _ => 0, g⟩ (fun r => (∀ c : Dev Cert.CStripIdeal.nD,
      r.2.mem ((c.tc : Thread Cert.CStripIdeal.nD Cert.CStripIdeal.τ).loc Cert.CStripIdeal.main_arg0) = m ((c.tc : Thread Cert.CStripIdeal.nD Cert.CStripIdeal.τ).loc Cert.CStripIdeal.main_arg0))
      ∧ r.2.sem = fun _ => 0)

def quiescent_CStripRefIdeal [hCStripRefIdeal : Cert.CStripRefIdeal.Facts] : Prop :=
  ∀ (m : (ℓ : Loc Cert.CStripRefIdeal.nD Cert.CStripRefIdeal.τ Cert.CStripRefIdeal.sig) → Buf (Elt Ideal) ℓ) (g : Dev Cert.CStripRefIdeal.nD → PrngReg), Pre_CStripRefIdeal m →
    θ_run (Cert.CStripRefIdeal.defs (F := Ideal)) (onTc (τ := Cert.CStripRefIdeal.τ) (Cert.CStripRefIdeal.main (F := Ideal))) ⟨m, fun _ => 0, g⟩ (fun r => (∀ c : Dev Cert.CStripRefIdeal.nD,
      r.2.mem ((c.tc : Thread Cert.CStripRefIdeal.nD Cert.CStripRefIdeal.τ).loc Cert.CStripRefIdeal.main_arg0) = m ((c.tc : Thread Cert.CStripRefIdeal.nD Cert.CStripRefIdeal.τ).loc Cert.CStripRefIdeal.main_arg0))
      ∧ r.2.sem = fun _ => 0)

def quiescent_CStripRefIdeal_pre_c_finite [hCStripRefIdeal : Cert.CStripRefIdeal.Facts] [hPre_c_finite : Cert.Pre_c_finite.Facts] : Prop :=
  ∀ (m : (ℓ : Loc Cert.CStripRefIdeal.nD Cert.CStripRefIdeal.τ Cert.CStripRefIdeal.sig) → Buf (Elt Ideal) ℓ) (g : Dev Cert.CStripRefIdeal.nD → PrngReg), Pre_CStripRefIdeal_c_finite m →
    θ_run (Cert.CStripRefIdeal.defs (F := Ideal)) (onTc (τ := Cert.CStripRefIdeal.τ) (Cert.CStripRefIdeal.main (F := Ideal))) ⟨m, fun _ => 0, g⟩ (fun r => (∀ c : Dev Cert.CStripRefIdeal.nD,
      r.2.mem ((c.tc : Thread Cert.CStripRefIdeal.nD Cert.CStripRefIdeal.τ).loc Cert.CStripRefIdeal.main_arg0) = m ((c.tc : Thread Cert.CStripRefIdeal.nD Cert.CStripRefIdeal.τ).loc Cert.CStripRefIdeal.main_arg0))
      ∧ r.2.sem = fun _ => 0)

def quiescent_CMod [hCMod : Cert.CMod.Facts] : Prop :=
  ∀ (m : (ℓ : Loc Cert.CMod.nD Cert.CMod.τ Cert.CMod.sig) → Buf (Elt Bits) ℓ) (g : Dev Cert.CMod.nD → PrngReg), Pre_CMod m →
    θ_run (Cert.CMod.defs (F := Bits)) (onTc (τ := Cert.CMod.τ) (Cert.CMod.main (F := Bits))) ⟨m, fun _ => 0, g⟩ (fun r => (∀ c : Dev Cert.CMod.nD,
      r.2.mem ((c.tc : Thread Cert.CMod.nD Cert.CMod.τ).loc Cert.CMod.main_arg0) = m ((c.tc : Thread Cert.CMod.nD Cert.CMod.τ).loc Cert.CMod.main_arg0)
      ∧ r.2.mem ((c.tc : Thread Cert.CMod.nD Cert.CMod.τ).loc Cert.CMod.main_arg1) = m ((c.tc : Thread Cert.CMod.nD Cert.CMod.τ).loc Cert.CMod.main_arg1)
      ∧ r.2.mem ((c.tc : Thread Cert.CMod.nD Cert.CMod.τ).loc Cert.CMod.main_arg2) = m ((c.tc : Thread Cert.CMod.nD Cert.CMod.τ).loc Cert.CMod.main_arg2)
      ∧ r.2.mem ((c.tc : Thread Cert.CMod.nD Cert.CMod.τ).loc Cert.CMod.main_arg3) = m ((c.tc : Thread Cert.CMod.nD Cert.CMod.τ).loc Cert.CMod.main_arg3))
      ∧ r.2.sem = fun _ => 0)

def quiescent_CModIdeal [hCModIdeal : Cert.CModIdeal.Facts] : Prop :=
  ∀ (m : (ℓ : Loc Cert.CModIdeal.nD Cert.CModIdeal.τ Cert.CModIdeal.sig) → Buf (Elt Ideal) ℓ) (g : Dev Cert.CModIdeal.nD → PrngReg), Pre_CModIdeal m →
    θ_run (Cert.CModIdeal.defs (F := Ideal)) (onTc (τ := Cert.CModIdeal.τ) (Cert.CModIdeal.main (F := Ideal))) ⟨m, fun _ => 0, g⟩ (fun r => (∀ c : Dev Cert.CModIdeal.nD,
      r.2.mem ((c.tc : Thread Cert.CModIdeal.nD Cert.CModIdeal.τ).loc Cert.CModIdeal.main_arg0) = m ((c.tc : Thread Cert.CModIdeal.nD Cert.CModIdeal.τ).loc Cert.CModIdeal.main_arg0)
      ∧ r.2.mem ((c.tc : Thread Cert.CModIdeal.nD Cert.CModIdeal.τ).loc Cert.CModIdeal.main_arg1) = m ((c.tc : Thread Cert.CModIdeal.nD Cert.CModIdeal.τ).loc Cert.CModIdeal.main_arg1)
      ∧ r.2.mem ((c.tc : Thread Cert.CModIdeal.nD Cert.CModIdeal.τ).loc Cert.CModIdeal.main_arg2) = m ((c.tc : Thread Cert.CModIdeal.nD Cert.CModIdeal.τ).loc Cert.CModIdeal.main_arg2)
      ∧ r.2.mem ((c.tc : Thread Cert.CModIdeal.nD Cert.CModIdeal.τ).loc Cert.CModIdeal.main_arg3) = m ((c.tc : Thread Cert.CModIdeal.nD Cert.CModIdeal.τ).loc Cert.CModIdeal.main_arg3))
      ∧ r.2.sem = fun _ => 0)

def quiescent_CModRefIdeal [hCModRefIdeal : Cert.CModRefIdeal.Facts] : Prop :=
  ∀ (m : (ℓ : Loc Cert.CModRefIdeal.nD Cert.CModRefIdeal.τ Cert.CModRefIdeal.sig) → Buf (Elt Ideal) ℓ) (g : Dev Cert.CModRefIdeal.nD → PrngReg), Pre_CModRefIdeal m →
    θ_run (Cert.CModRefIdeal.defs (F := Ideal)) (onTc (τ := Cert.CModRefIdeal.τ) (Cert.CModRefIdeal.main (F := Ideal))) ⟨m, fun _ => 0, g⟩ (fun r => (∀ c : Dev Cert.CModRefIdeal.nD,
      r.2.mem ((c.tc : Thread Cert.CModRefIdeal.nD Cert.CModRefIdeal.τ).loc Cert.CModRefIdeal.main_arg0) = m ((c.tc : Thread Cert.CModRefIdeal.nD Cert.CModRefIdeal.τ).loc Cert.CModRefIdeal.main_arg0)
      ∧ r.2.mem ((c.tc : Thread Cert.CModRefIdeal.nD Cert.CModRefIdeal.τ).loc Cert.CModRefIdeal.main_arg1) = m ((c.tc : Thread Cert.CModRefIdeal.nD Cert.CModRefIdeal.τ).loc Cert.CModRefIdeal.main_arg1)
      ∧ r.2.mem ((c.tc : Thread Cert.CModRefIdeal.nD Cert.CModRefIdeal.τ).loc Cert.CModRefIdeal.main_arg2) = m ((c.tc : Thread Cert.CModRefIdeal.nD Cert.CModRefIdeal.τ).loc Cert.CModRefIdeal.main_arg2)
      ∧ r.2.mem ((c.tc : Thread Cert.CModRefIdeal.nD Cert.CModRefIdeal.τ).loc Cert.CModRefIdeal.main_arg3) = m ((c.tc : Thread Cert.CModRefIdeal.nD Cert.CModRefIdeal.τ).loc Cert.CModRefIdeal.main_arg3))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2)
      ∧ r.2.mem ((c.tc : Thread Cert.AIn.nD Cert.AIn.τ).loc Cert.AIn.main_arg3) = m ((c.tc : Thread Cert.AIn.nD Cert.AIn.τ).loc Cert.AIn.main_arg3)
      ∧ r.2.mem ((c.tc : Thread Cert.AIn.nD Cert.AIn.τ).loc Cert.AIn.main_arg4) = m ((c.tc : Thread Cert.AIn.nD Cert.AIn.τ).loc Cert.AIn.main_arg4))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1)
      ∧ r.2.mem ((c.tc : Thread Cert.BIn.nD Cert.BIn.τ).loc Cert.BIn.main_arg2) = m ((c.tc : Thread Cert.BIn.nD Cert.BIn.τ).loc Cert.BIn.main_arg2)
      ∧ r.2.mem ((c.tc : Thread Cert.BIn.nD Cert.BIn.τ).loc Cert.BIn.main_arg3) = m ((c.tc : Thread Cert.BIn.nD Cert.BIn.τ).loc Cert.BIn.main_arg3)
      ∧ r.2.mem ((c.tc : Thread Cert.BIn.nD Cert.BIn.τ).loc Cert.BIn.main_arg4) = m ((c.tc : Thread Cert.BIn.nD Cert.BIn.τ).loc Cert.BIn.main_arg4)
      ∧ r.2.mem ((c.tc : Thread Cert.BIn.nD Cert.BIn.τ).loc Cert.BIn.main_arg5) = m ((c.tc : Thread Cert.BIn.nD Cert.BIn.τ).loc Cert.BIn.main_arg5))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
      ∧ r.2.mem ((c.tc : Thread Cert.BInIdeal.nD Cert.BInIdeal.τ).loc Cert.BInIdeal.main_arg3) = m ((c.tc : Thread Cert.BInIdeal.nD Cert.BInIdeal.τ).loc Cert.BInIdeal.main_arg3)
      ∧ r.2.mem ((c.tc : Thread Cert.BInIdeal.nD Cert.BInIdeal.τ).loc Cert.BInIdeal.main_arg4) = m ((c.tc : Thread Cert.BInIdeal.nD Cert.BInIdeal.τ).loc Cert.BInIdeal.main_arg4)
      ∧ r.2.mem ((c.tc : Thread Cert.BInIdeal.nD Cert.BInIdeal.τ).loc Cert.BInIdeal.main_arg5) = m ((c.tc : Thread Cert.BInIdeal.nD Cert.BInIdeal.τ).loc Cert.BInIdeal.main_arg5))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2)
      ∧ r.2.mem ((c.tc : Thread Cert.BInRefIdeal.nD Cert.BInRefIdeal.τ).loc Cert.BInRefIdeal.main_arg3) = m ((c.tc : Thread Cert.BInRefIdeal.nD Cert.BInRefIdeal.τ).loc Cert.BInRefIdeal.main_arg3)
      ∧ r.2.mem ((c.tc : Thread Cert.BInRefIdeal.nD Cert.BInRefIdeal.τ).loc Cert.BInRefIdeal.main_arg4) = m ((c.tc : Thread Cert.BInRefIdeal.nD Cert.BInRefIdeal.τ).loc Cert.BInRefIdeal.main_arg4)
      ∧ r.2.mem ((c.tc : Thread Cert.BInRefIdeal.nD Cert.BInRefIdeal.τ).loc Cert.BInRefIdeal.main_arg5) = m ((c.tc : Thread Cert.BInRefIdeal.nD Cert.BInRefIdeal.τ).loc Cert.BInRefIdeal.main_arg5))
      ∧ r.2.sem = fun _ => 0)

def quiescent_FIn [hFIn : Cert.FIn.Facts] : Prop :=
  ∀ (m : (ℓ : Loc Cert.FIn.nD Cert.FIn.τ Cert.FIn.sig) → Buf (Elt Bits) ℓ) (g : Dev Cert.FIn.nD → PrngReg), Pre_FIn m →
    θ_run (Cert.FIn.defs (F := Bits)) (onTc (τ := Cert.FIn.τ) (Cert.FIn.main (F := Bits))) ⟨m, fun _ => 0, g⟩ (fun r => (∀ c : Dev Cert.FIn.nD,
      r.2.mem ((c.tc : Thread Cert.FIn.nD Cert.FIn.τ).loc Cert.FIn.main_arg0) = m ((c.tc : Thread Cert.FIn.nD Cert.FIn.τ).loc Cert.FIn.main_arg0)
      ∧ r.2.mem ((c.tc : Thread Cert.FIn.nD Cert.FIn.τ).loc Cert.FIn.main_arg1) = m ((c.tc : Thread Cert.FIn.nD Cert.FIn.τ).loc Cert.FIn.main_arg1)
      ∧ r.2.mem ((c.tc : Thread Cert.FIn.nD Cert.FIn.τ).loc Cert.FIn.main_arg2) = m ((c.tc : Thread Cert.FIn.nD Cert.FIn.τ).loc Cert.FIn.main_arg2)
      ∧ r.2.mem ((c.tc : Thread Cert.FIn.nD Cert.FIn.τ).loc Cert.FIn.main_arg3) = m ((c.tc : Thread Cert.FIn.nD Cert.FIn.τ).loc Cert.FIn.main_arg3)
      ∧ r.2.mem ((c.tc : Thread Cert.FIn.nD Cert.FIn.τ).loc Cert.FIn.main_arg4) = m ((c.tc : Thread Cert.FIn.nD Cert.FIn.τ).loc Cert.FIn.main_arg4))
      ∧ r.2.sem = fun _ => 0)

def quiescent_FInIdeal [hFInIdeal : Cert.FInIdeal.Facts] : Prop :=
  ∀ (m : (ℓ : Loc Cert.FInIdeal.nD Cert.FInIdeal.τ Cert.FInIdeal.sig) → Buf (Elt Ideal) ℓ) (g : Dev Cert.FInIdeal.nD → PrngReg), Pre_FInIdeal m →
    θ_run (Cert.FInIdeal.defs (F := Ideal)) (onTc (τ := Cert.FInIdeal.τ) (Cert.FInIdeal.main (F := Ideal))) ⟨m, fun _ => 0, g⟩ (fun r => (∀ c : Dev Cert.FInIdeal.nD,
      r.2.mem ((c.tc : Thread Cert.FInIdeal.nD Cert.FInIdeal.τ).loc Cert.FInIdeal.main_arg0) = m ((c.tc : Thread Cert.FInIdeal.nD Cert.FInIdeal.τ).loc Cert.FInIdeal.main_arg0)
      ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
      ∧ r.2.mem ((c.tc : Thread Cert.FInIdeal.nD Cert.FInIdeal.τ).loc Cert.FInIdeal.main_arg2) = m ((c.tc : Thread Cert.FInIdeal.nD Cert.FInIdeal.τ).loc Cert.FInIdeal.main_arg2)
      ∧ r.2.mem ((c.tc : Thread Cert.FInIdeal.nD Cert.FInIdeal.τ).loc Cert.FInIdeal.main_arg3) = m ((c.tc : Thread Cert.FInIdeal.nD Cert.FInIdeal.τ).loc Cert.FInIdeal.main_arg3)
      ∧ r.2.mem ((c.tc : Thread Cert.FInIdeal.nD Cert.FInIdeal.τ).loc Cert.FInIdeal.main_arg4) = m ((c.tc : Thread Cert.FInIdeal.nD Cert.FInIdeal.τ).loc Cert.FInIdeal.main_arg4))
      ∧ r.2.sem = fun _ => 0)

def quiescent_FInRefIdeal [hFInRefIdeal : Cert.FInRefIdeal.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1)
      ∧ r.2.mem ((c.tc : Thread Cert.FInRefIdeal.nD Cert.FInRefIdeal.τ).loc Cert.FInRefIdeal.main_arg2) = m ((c.tc : Thread Cert.FInRefIdeal.nD Cert.FInRefIdeal.τ).loc Cert.FInRefIdeal.main_arg2)
      ∧ r.2.mem ((c.tc : Thread Cert.FInRefIdeal.nD Cert.FInRefIdeal.τ).loc Cert.FInRefIdeal.main_arg3) = m ((c.tc : Thread Cert.FInRefIdeal.nD Cert.FInRefIdeal.τ).loc Cert.FInRefIdeal.main_arg3)
      ∧ r.2.mem ((c.tc : Thread Cert.FInRefIdeal.nD Cert.FInRefIdeal.τ).loc Cert.FInRefIdeal.main_arg4) = m ((c.tc : Thread Cert.FInRefIdeal.nD Cert.FInRefIdeal.τ).loc Cert.FInRefIdeal.main_arg4))
      ∧ r.2.sem = fun _ => 0)

def quiescent_CPool [hCPool : Cert.CPool.Facts] : Prop :=
  ∀ (m : (ℓ : Loc Cert.CPool.nD Cert.CPool.τ Cert.CPool.sig) → Buf (Elt Bits) ℓ) (g : Dev Cert.CPool.nD → PrngReg), Pre_CPool m →
    θ_run (Cert.CPool.defs (F := Bits)) (onTc (τ := Cert.CPool.τ) (Cert.CPool.main (F := Bits))) ⟨m, fun _ => 0, g⟩ (fun r => (∀ c : Dev Cert.CPool.nD,
      r.2.mem ((c.tc : Thread Cert.CPool.nD Cert.CPool.τ).loc Cert.CPool.main_arg0) = m ((c.tc : Thread Cert.CPool.nD Cert.CPool.τ).loc Cert.CPool.main_arg0))
      ∧ r.2.sem = fun _ => 0)

def quiescent_CPoolIdeal [hCPoolIdeal : Cert.CPoolIdeal.Facts] : Prop :=
  ∀ (m : (ℓ : Loc Cert.CPoolIdeal.nD Cert.CPoolIdeal.τ Cert.CPoolIdeal.sig) → Buf (Elt Ideal) ℓ) (g : Dev Cert.CPoolIdeal.nD → PrngReg), Pre_CPoolIdeal m →
    θ_run (Cert.CPoolIdeal.defs (F := Ideal)) (onTc (τ := Cert.CPoolIdeal.τ) (Cert.CPoolIdeal.main (F := Ideal))) ⟨m, fun _ => 0, g⟩ (fun r => (∀ c : Dev Cert.CPoolIdeal.nD,
      r.2.mem ((c.tc : Thread Cert.CPoolIdeal.nD Cert.CPoolIdeal.τ).loc Cert.CPoolIdeal.main_arg0) = m ((c.tc : Thread Cert.CPoolIdeal.nD Cert.CPoolIdeal.τ).loc Cert.CPoolIdeal.main_arg0))
      ∧ r.2.sem = fun _ => 0)

def quiescent_CPoolIdeal_pre_cw_finite [hCPoolIdeal : Cert.CPoolIdeal.Facts] [hPre_cw_finite : Cert.Pre_cw_finite.Facts] : Prop :=
  ∀ (m : (ℓ : Loc Cert.CPoolIdeal.nD Cert.CPoolIdeal.τ Cert.CPoolIdeal.sig) → Buf (Elt Ideal) ℓ) (g : Dev Cert.CPoolIdeal.nD → PrngReg), Pre_CPoolIdeal_cw_finite m →
    θ_run (Cert.CPoolIdeal.defs (F := Ideal)) (onTc (τ := Cert.CPoolIdeal.τ) (Cert.CPoolIdeal.main (F := Ideal))) ⟨m, fun _ => 0, g⟩ (fun r => (∀ c : Dev Cert.CPoolIdeal.nD,
      r.2.mem ((c.tc : Thread Cert.CPoolIdeal.nD Cert.CPoolIdeal.τ).loc Cert.CPoolIdeal.main_arg0) = m ((c.tc : Thread Cert.CPoolIdeal.nD Cert.CPoolIdeal.τ).loc Cert.CPoolIdeal.main_arg0))
      ∧ r.2.sem = fun _ => 0)

def quiescent_CPoolRefIdeal [hCPoolRefIdeal : Cert.CPoolRefIdeal.Facts] : Prop :=
  ∀ (m : (ℓ : Loc Cert.CPoolRefIdeal.nD Cert.CPoolRefIdeal.τ Cert.CPoolRefIdeal.sig) → Buf (Elt Ideal) ℓ) (g : Dev Cert.CPoolRefIdeal.nD → PrngReg), Pre_CPoolRefIdeal m →
    θ_run (Cert.CPoolRefIdeal.defs (F := Ideal)) (onTc (τ := Cert.CPoolRefIdeal.τ) (Cert.CPoolRefIdeal.main (F := Ideal))) ⟨m, fun _ => 0, g⟩ (fun r => (∀ c : Dev Cert.CPoolRefIdeal.nD,
      r.2.mem ((c.tc : Thread Cert.CPoolRefIdeal.nD Cert.CPoolRefIdeal.τ).loc Cert.CPoolRefIdeal.main_arg0) = m ((c.tc : Thread Cert.CPoolRefIdeal.nD Cert.CPoolRefIdeal.τ).loc Cert.CPoolRefIdeal.main_arg0))
      ∧ r.2.sem = fun _ => 0)

def quiescent_CPoolRefIdeal_pre_cw_finite [hCPoolRefIdeal : Cert.CPoolRefIdeal.Facts] [hPre_cw_finite : Cert.Pre_cw_finite.Facts] : Prop :=
  ∀ (m : (ℓ : Loc Cert.CPoolRefIdeal.nD Cert.CPoolRefIdeal.τ Cert.CPoolRefIdeal.sig) → Buf (Elt Ideal) ℓ) (g : Dev Cert.CPoolRefIdeal.nD → PrngReg), Pre_CPoolRefIdeal_cw_finite m →
    θ_run (Cert.CPoolRefIdeal.defs (F := Ideal)) (onTc (τ := Cert.CPoolRefIdeal.τ) (Cert.CPoolRefIdeal.main (F := Ideal))) ⟨m, fun _ => 0, g⟩ (fun r => (∀ c : Dev Cert.CPoolRefIdeal.nD,
      r.2.mem ((c.tc : Thread Cert.CPoolRefIdeal.nD Cert.CPoolRefIdeal.τ).loc Cert.CPoolRefIdeal.main_arg0) = m ((c.tc : Thread Cert.CPoolRefIdeal.nD Cert.CPoolRefIdeal.τ).loc Cert.CPoolRefIdeal.main_arg0))
      ∧ r.2.sem = fun _ => 0)

def quiescent_AConv [hAConv : Cert.AConv.Facts] : Prop :=
  ∀ (m : (ℓ : Loc Cert.AConv.nD Cert.AConv.τ Cert.AConv.sig) → Buf (Elt Bits) ℓ) (g : Dev Cert.AConv.nD → PrngReg), Pre_AConv m →
    θ_run (Cert.AConv.defs (F := Bits)) (onTc (τ := Cert.AConv.τ) (Cert.AConv.main (F := Bits))) ⟨m, fun _ => 0, g⟩ (fun r => (∀ c : Dev Cert.AConv.nD,
      r.2.mem ((c.tc : Thread Cert.AConv.nD Cert.AConv.τ).loc Cert.AConv.main_arg0) = m ((c.tc : Thread Cert.AConv.nD Cert.AConv.τ).loc Cert.AConv.main_arg0)
      ∧ r.2.mem ((c.tc : Thread Cert.AConv.nD Cert.AConv.τ).loc Cert.AConv.main_arg1) = m ((c.tc : Thread Cert.AConv.nD Cert.AConv.τ).loc Cert.AConv.main_arg1))
      ∧ r.2.sem = fun _ => 0)

def quiescent_AConvIdeal [hAConvIdeal : Cert.AConvIdeal.Facts] : Prop :=
  ∀ (m : (ℓ : Loc Cert.AConvIdeal.nD Cert.AConvIdeal.τ Cert.AConvIdeal.sig) → Buf (Elt Ideal) ℓ) (g : Dev Cert.AConvIdeal.nD → PrngReg), Pre_AConvIdeal m →
    θ_run (Cert.AConvIdeal.defs (F := Ideal)) (onTc (τ := Cert.AConvIdeal.τ) (Cert.AConvIdeal.main (F := Ideal))) ⟨m, fun _ => 0, g⟩ (fun r => (∀ c : Dev Cert.AConvIdeal.nD,
      r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
      ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1))
      ∧ r.2.sem = fun _ => 0)

def quiescent_AConvRefIdeal [hAConvRefIdeal : Cert.AConvRefIdeal.Facts] : Prop :=
  ∀ (m : (ℓ : Loc Cert.AConvRefIdeal.nD Cert.AConvRefIdeal.τ Cert.AConvRefIdeal.sig) → Buf (Elt Ideal) ℓ) (g : Dev Cert.AConvRefIdeal.nD → PrngReg), Pre_AConvRefIdeal m →
    θ_run (Cert.AConvRefIdeal.defs (F := Ideal)) (onTc (τ := Cert.AConvRefIdeal.τ) (Cert.AConvRefIdeal.main (F := Ideal))) ⟨m, fun _ => 0, g⟩ (fun r => (∀ c : Dev Cert.AConvRefIdeal.nD,
      r.2.mem ((c.tc : Thread Cert.AConvRefIdeal.nD Cert.AConvRefIdeal.τ).loc Cert.AConvRefIdeal.main_arg0) = m ((c.tc : Thread Cert.AConvRefIdeal.nD Cert.AConvRefIdeal.τ).loc Cert.AConvRefIdeal.main_arg0)
      ∧ r.2.mem ((c.tc : Thread Cert.AConvRefIdeal.nD Cert.AConvRefIdeal.τ).loc Cert.AConvRefIdeal.main_arg1) = m ((c.tc : Thread Cert.AConvRefIdeal.nD Cert.AConvRefIdeal.τ).loc Cert.AConvRefIdeal.main_arg1))
      ∧ r.2.sem = fun _ => 0)

def quiescent_BConv [hBConv : Cert.BConv.Facts] : Prop :=
  ∀ (m : (ℓ : Loc Cert.BConv.nD Cert.BConv.τ Cert.BConv.sig) → Buf (Elt Bits) ℓ) (g : Dev Cert.BConv.nD → PrngReg), Pre_BConv m →
    θ_run (Cert.BConv.defs (F := Bits)) (onTc (τ := Cert.BConv.τ) (Cert.BConv.main (F := Bits))) ⟨m, fun _ => 0, g⟩ (fun r => (∀ c : Dev Cert.BConv.nD,
      r.2.mem ((c.tc : Thread Cert.BConv.nD Cert.BConv.τ).loc Cert.BConv.main_arg0) = m ((c.tc : Thread Cert.BConv.nD Cert.BConv.τ).loc Cert.BConv.main_arg0)
      ∧ r.2.mem ((c.tc : Thread Cert.BConv.nD Cert.BConv.τ).loc Cert.BConv.main_arg1) = m ((c.tc : Thread Cert.BConv.nD Cert.BConv.τ).loc Cert.BConv.main_arg1)
      ∧ r.2.mem ((c.tc : Thread Cert.BConv.nD Cert.BConv.τ).loc Cert.BConv.main_arg2) = m ((c.tc : Thread Cert.BConv.nD Cert.BConv.τ).loc Cert.BConv.main_arg2)
      ∧ r.2.mem ((c.tc : Thread Cert.BConv.nD Cert.BConv.τ).loc Cert.BConv.main_arg3) = m ((c.tc : Thread Cert.BConv.nD Cert.BConv.τ).loc Cert.BConv.main_arg3))
      ∧ r.2.sem = fun _ => 0)

def quiescent_BConvIdeal [hBConvIdeal : Cert.BConvIdeal.Facts] : Prop :=
  ∀ (m : (ℓ : Loc Cert.BConvIdeal.nD Cert.BConvIdeal.τ Cert.BConvIdeal.sig) → Buf (Elt Ideal) ℓ) (g : Dev Cert.BConvIdeal.nD → PrngReg), Pre_BConvIdeal m →
    θ_run (Cert.BConvIdeal.defs (F := Ideal)) (onTc (τ := Cert.BConvIdeal.τ) (Cert.BConvIdeal.main (F := Ideal))) ⟨m, fun _ => 0, g⟩ (fun r => (∀ c : Dev Cert.BConvIdeal.nD,
      r.2.mem ((c.tc : Thread Cert.BConvIdeal.nD Cert.BConvIdeal.τ).loc Cert.BConvIdeal.main_arg0) = m ((c.tc : Thread Cert.BConvIdeal.nD Cert.BConvIdeal.τ).loc Cert.BConvIdeal.main_arg0)
      ∧ r.2.mem ((c.tc : Thread Cert.BConvIdeal.nD Cert.BConvIdeal.τ).loc Cert.BConvIdeal.main_arg1) = m ((c.tc : Thread Cert.BConvIdeal.nD Cert.BConvIdeal.τ).loc Cert.BConvIdeal.main_arg1)
      ∧ r.2.mem ((c.tc : Thread Cert.BConvIdeal.nD Cert.BConvIdeal.τ).loc Cert.BConvIdeal.main_arg2) = m ((c.tc : Thread Cert.BConvIdeal.nD Cert.BConvIdeal.τ).loc Cert.BConvIdeal.main_arg2)
      ∧ r.2.mem ((c.tc : Thread Cert.BConvIdeal.nD Cert.BConvIdeal.τ).loc Cert.BConvIdeal.main_arg3) = m ((c.tc : Thread Cert.BConvIdeal.nD Cert.BConvIdeal.τ).loc Cert.BConvIdeal.main_arg3))
      ∧ r.2.sem = fun _ => 0)

def quiescent_BConvRefIdeal [hBConvRefIdeal : Cert.BConvRefIdeal.Facts] : Prop :=
  ∀ (m : (ℓ : Loc Cert.BConvRefIdeal.nD Cert.BConvRefIdeal.τ Cert.BConvRefIdeal.sig) → Buf (Elt Ideal) ℓ) (g : Dev Cert.BConvRefIdeal.nD → PrngReg), Pre_BConvRefIdeal m →
    θ_run (Cert.BConvRefIdeal.defs (F := Ideal)) (onTc (τ := Cert.BConvRefIdeal.τ) (Cert.BConvRefIdeal.main (F := Ideal))) ⟨m, fun _ => 0, g⟩ (fun r => (∀ c : Dev Cert.BConvRefIdeal.nD,
      r.2.mem ((c.tc : Thread Cert.BConvRefIdeal.nD Cert.BConvRefIdeal.τ).loc Cert.BConvRefIdeal.main_arg0) = m ((c.tc : Thread Cert.BConvRefIdeal.nD Cert.BConvRefIdeal.τ).loc Cert.BConvRefIdeal.main_arg0)
      ∧ r.2.mem ((c.tc : Thread Cert.BConvRefIdeal.nD Cert.BConvRefIdeal.τ).loc Cert.BConvRefIdeal.main_arg1) = m ((c.tc : Thread Cert.BConvRefIdeal.nD Cert.BConvRefIdeal.τ).loc Cert.BConvRefIdeal.main_arg1)
      ∧ r.2.mem ((c.tc : Thread Cert.BConvRefIdeal.nD Cert.BConvRefIdeal.τ).loc Cert.BConvRefIdeal.main_arg2) = m ((c.tc : Thread Cert.BConvRefIdeal.nD Cert.BConvRefIdeal.τ).loc Cert.BConvRefIdeal.main_arg2)
      ∧ r.2.mem ((c.tc : Thread Cert.BConvRefIdeal.nD Cert.BConvRefIdeal.τ).loc Cert.BConvRefIdeal.main_arg3) = m ((c.tc : Thread Cert.BConvRefIdeal.nD Cert.BConvRefIdeal.τ).loc Cert.BConvRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamLayers [hAdamLayers : Cert.AdamLayers.Facts] : Prop :=
  ∀ (m : (ℓ : Loc Cert.AdamLayers.nD Cert.AdamLayers.τ Cert.AdamLayers.sig) → Buf (Elt Bits) ℓ) (g : Dev Cert.AdamLayers.nD → PrngReg), Pre_AdamLayers m →
    θ_run (Cert.AdamLayers.defs (F := Bits)) (onTc (τ := Cert.AdamLayers.τ) (Cert.AdamLayers.main (F := Bits))) ⟨m, fun _ => 0, g⟩ (fun r => (∀ c : Dev Cert.AdamLayers.nD,
      r.2.mem ((c.tc : Thread Cert.AdamLayers.nD Cert.AdamLayers.τ).loc Cert.AdamLayers.main_arg0) = m ((c.tc : Thread Cert.AdamLayers.nD Cert.AdamLayers.τ).loc Cert.AdamLayers.main_arg0)
      ∧ r.2.mem ((c.tc : Thread Cert.AdamLayers.nD Cert.AdamLayers.τ).loc Cert.AdamLayers.main_arg1) = m ((c.tc : Thread Cert.AdamLayers.nD Cert.AdamLayers.τ).loc Cert.AdamLayers.main_arg1)
      ∧ r.2.mem ((c.tc : Thread Cert.AdamLayers.nD Cert.AdamLayers.τ).loc Cert.AdamLayers.main_arg2) = m ((c.tc : Thread Cert.AdamLayers.nD Cert.AdamLayers.τ).loc Cert.AdamLayers.main_arg2)
      ∧ r.2.mem ((c.tc : Thread Cert.AdamLayers.nD Cert.AdamLayers.τ).loc Cert.AdamLayers.main_arg3) = m ((c.tc : Thread Cert.AdamLayers.nD Cert.AdamLayers.τ).loc Cert.AdamLayers.main_arg3)
      ∧ r.2.mem ((c.tc : Thread Cert.AdamLayers.nD Cert.AdamLayers.τ).loc Cert.AdamLayers.main_arg4) = m ((c.tc : Thread Cert.AdamLayers.nD Cert.AdamLayers.τ).loc Cert.AdamLayers.main_arg4)
      ∧ r.2.mem ((c.tc : Thread Cert.AdamLayers.nD Cert.AdamLayers.τ).loc Cert.AdamLayers.main_arg5) = m ((c.tc : Thread Cert.AdamLayers.nD Cert.AdamLayers.τ).loc Cert.AdamLayers.main_arg5)
      ∧ r.2.mem ((c.tc : Thread Cert.AdamLayers.nD Cert.AdamLayers.τ).loc Cert.AdamLayers.main_arg6) = m ((c.tc : Thread Cert.AdamLayers.nD Cert.AdamLayers.τ).loc Cert.AdamLayers.main_arg6))
      ∧ r.2.sem = fun _ => 0)

def quiescent_AdamLayersIdeal [hAdamLayersIdeal : Cert.AdamLayersIdeal.Facts] : Prop :=
  ∀ (m : (ℓ : Loc Cert.AdamLayersIdeal.nD Cert.AdamLayersIdeal.τ Cert.AdamLayersIdeal.sig) → Buf (Elt Ideal) ℓ) (g : Dev Cert.AdamLayersIdeal.nD → PrngReg), Pre_AdamLayersIdeal m →
    θ_run (Cert.AdamLayersIdeal.defs (F := Ideal)) (onTc (τ := Cert.AdamLayersIdeal.τ) (Cert.AdamLayersIdeal.main (F := Ideal))) ⟨m, fun _ => 0, g⟩ (fun r => (∀ c : Dev Cert.AdamLayersIdeal.nD,
      r.2.mem ((c.tc : Thread Cert.AdamLayersIdeal.nD Cert.AdamLayersIdeal.τ).loc Cert.AdamLayersIdeal.main_arg0) = m ((c.tc : Thread Cert.AdamLayersIdeal.nD Cert.AdamLayersIdeal.τ).loc Cert.AdamLayersIdeal.main_arg0)
      ∧ r.2.mem ((c.tc : Thread Cert.AdamLayersIdeal.nD Cert.AdamLayersIdeal.τ).loc Cert.AdamLayersIdeal.main_arg1) = m ((c.tc : Thread Cert.AdamLayersIdeal.nD Cert.AdamLayersIdeal.τ).loc Cert.AdamLayersIdeal.main_arg1)
      ∧ r.2.mem ((c.tc : Thread Cert.AdamLayersIdeal.nD Cert.AdamLayersIdeal.τ).loc Cert.AdamLayersIdeal.main_arg2) = m ((c.tc : Thread Cert.AdamLayersIdeal.nD Cert.AdamLayersIdeal.τ).loc Cert.AdamLayersIdeal.main_arg2)
      ∧ r.2.mem ((c.tc : Thread Cert.AdamLayersIdeal.nD Cert.AdamLayersIdeal.τ).loc Cert.AdamLayersIdeal.main_arg3) = m ((c.tc : Thread Cert.AdamLayersIdeal.nD Cert.AdamLayersIdeal.τ).loc Cert.AdamLayersIdeal.main_arg3)
      ∧ r.2.mem ((c.tc : Thread Cert.AdamLayersIdeal.nD Cert.AdamLayersIdeal.τ).loc Cert.AdamLayersIdeal.main_arg4) = m ((c.tc : Thread Cert.AdamLayersIdeal.nD Cert.AdamLayersIdeal.τ).loc Cert.AdamLayersIdeal.main_arg4)
      ∧ r.2.mem ((c.tc : Thread Cert.AdamLayersIdeal.nD Cert.AdamLayersIdeal.τ).loc Cert.AdamLayersIdeal.main_arg5) = m ((c.tc : Thread Cert.AdamLayersIdeal.nD Cert.AdamLayersIdeal.τ).loc Cert.AdamLayersIdeal.main_arg5)
      ∧ r.2.mem ((c.tc : Thread Cert.AdamLayersIdeal.nD Cert.AdamLayersIdeal.τ).loc Cert.AdamLayersIdeal.main_arg6) = m ((c.tc : Thread Cert.AdamLayersIdeal.nD Cert.AdamLayersIdeal.τ).loc Cert.AdamLayersIdeal.main_arg6))
      ∧ r.2.sem = fun _ => 0)

def quiescent_AdamLayersRefIdeal [hAdamLayersRefIdeal : Cert.AdamLayersRefIdeal.Facts] : Prop :=
  ∀ (m : (ℓ : Loc Cert.AdamLayersRefIdeal.nD Cert.AdamLayersRefIdeal.τ Cert.AdamLayersRefIdeal.sig) → Buf (Elt Ideal) ℓ) (g : Dev Cert.AdamLayersRefIdeal.nD → PrngReg), Pre_AdamLayersRefIdeal m →
    θ_run (Cert.AdamLayersRefIdeal.defs (F := Ideal)) (onTc (τ := Cert.AdamLayersRefIdeal.τ) (Cert.AdamLayersRefIdeal.main (F := Ideal))) ⟨m, fun _ => 0, g⟩ (fun r => (∀ c : Dev Cert.AdamLayersRefIdeal.nD,
      r.2.mem ((c.tc : Thread Cert.AdamLayersRefIdeal.nD Cert.AdamLayersRefIdeal.τ).loc Cert.AdamLayersRefIdeal.main_arg0) = m ((c.tc : Thread Cert.AdamLayersRefIdeal.nD Cert.AdamLayersRefIdeal.τ).loc Cert.AdamLayersRefIdeal.main_arg0)
      ∧ r.2.mem ((c.tc : Thread Cert.AdamLayersRefIdeal.nD Cert.AdamLayersRefIdeal.τ).loc Cert.AdamLayersRefIdeal.main_arg1) = m ((c.tc : Thread Cert.AdamLayersRefIdeal.nD Cert.AdamLayersRefIdeal.τ).loc Cert.AdamLayersRefIdeal.main_arg1)
      ∧ r.2.mem ((c.tc : Thread Cert.AdamLayersRefIdeal.nD Cert.AdamLayersRefIdeal.τ).loc Cert.AdamLayersRefIdeal.main_arg2) = m ((c.tc : Thread Cert.AdamLayersRefIdeal.nD Cert.AdamLayersRefIdeal.τ).loc Cert.AdamLayersRefIdeal.main_arg2)
      ∧ r.2.mem ((c.tc : Thread Cert.AdamLayersRefIdeal.nD Cert.AdamLayersRefIdeal.τ).loc Cert.AdamLayersRefIdeal.main_arg3) = m ((c.tc : Thread Cert.AdamLayersRefIdeal.nD Cert.AdamLayersRefIdeal.τ).loc Cert.AdamLayersRefIdeal.main_arg3)
      ∧ r.2.mem ((c.tc : Thread Cert.AdamLayersRefIdeal.nD Cert.AdamLayersRefIdeal.τ).loc Cert.AdamLayersRefIdeal.main_arg4) = m ((c.tc : Thread Cert.AdamLayersRefIdeal.nD Cert.AdamLayersRefIdeal.τ).loc Cert.AdamLayersRefIdeal.main_arg4)
      ∧ r.2.mem ((c.tc : Thread Cert.AdamLayersRefIdeal.nD Cert.AdamLayersRefIdeal.τ).loc Cert.AdamLayersRefIdeal.main_arg5) = m ((c.tc : Thread Cert.AdamLayersRefIdeal.nD Cert.AdamLayersRefIdeal.τ).loc Cert.AdamLayersRefIdeal.main_arg5)
      ∧ r.2.mem ((c.tc : Thread Cert.AdamLayersRefIdeal.nD Cert.AdamLayersRefIdeal.τ).loc Cert.AdamLayersRefIdeal.main_arg6) = m ((c.tc : Thread Cert.AdamLayersRefIdeal.nD Cert.AdamLayersRefIdeal.τ).loc Cert.AdamLayersRefIdeal.main_arg6))
      ∧ r.2.sem = fun _ => 0)

def quiescent_AdaUpdate [hAdaUpdate : Cert.AdaUpdate.Facts] : Prop :=
  ∀ (m : (ℓ : Loc Cert.AdaUpdate.nD Cert.AdaUpdate.τ Cert.AdaUpdate.sig) → Buf (Elt Bits) ℓ) (g : Dev Cert.AdaUpdate.nD → PrngReg), Pre_AdaUpdate m →
    θ_run (Cert.AdaUpdate.defs (F := Bits)) (onTc (τ := Cert.AdaUpdate.τ) (Cert.AdaUpdate.main (F := Bits))) ⟨m, fun _ => 0, g⟩ (fun r => (∀ c : Dev Cert.AdaUpdate.nD,
      r.2.mem ((c.tc : Thread Cert.AdaUpdate.nD Cert.AdaUpdate.τ).loc Cert.AdaUpdate.main_arg0) = m ((c.tc : Thread Cert.AdaUpdate.nD Cert.AdaUpdate.τ).loc Cert.AdaUpdate.main_arg0)
      ∧ r.2.mem ((c.tc : Thread Cert.AdaUpdate.nD Cert.AdaUpdate.τ).loc Cert.AdaUpdate.main_arg1) = m ((c.tc : Thread Cert.AdaUpdate.nD Cert.AdaUpdate.τ).loc Cert.AdaUpdate.main_arg1)
      ∧ r.2.mem ((c.tc : Thread Cert.AdaUpdate.nD Cert.AdaUpdate.τ).loc Cert.AdaUpdate.main_arg2) = m ((c.tc : Thread Cert.AdaUpdate.nD Cert.AdaUpdate.τ).loc Cert.AdaUpdate.main_arg2)
      ∧ r.2.mem ((c.tc : Thread Cert.AdaUpdate.nD Cert.AdaUpdate.τ).loc Cert.AdaUpdate.main_arg3) = m ((c.tc : Thread Cert.AdaUpdate.nD Cert.AdaUpdate.τ).loc Cert.AdaUpdate.main_arg3)
      ∧ r.2.mem ((c.tc : Thread Cert.AdaUpdate.nD Cert.AdaUpdate.τ).loc Cert.AdaUpdate.main_arg4) = m ((c.tc : Thread Cert.AdaUpdate.nD Cert.AdaUpdate.τ).loc Cert.AdaUpdate.main_arg4))
      ∧ r.2.sem = fun _ => 0)

def quiescent_AdaUpdateIdeal [hAdaUpdateIdeal : Cert.AdaUpdateIdeal.Facts] : Prop :=
  ∀ (m : (ℓ : Loc Cert.AdaUpdateIdeal.nD Cert.AdaUpdateIdeal.τ Cert.AdaUpdateIdeal.sig) → Buf (Elt Ideal) ℓ) (g : Dev Cert.AdaUpdateIdeal.nD → PrngReg), Pre_AdaUpdateIdeal m →
    θ_run (Cert.AdaUpdateIdeal.defs (F := Ideal)) (onTc (τ := Cert.AdaUpdateIdeal.τ) (Cert.AdaUpdateIdeal.main (F := Ideal))) ⟨m, fun _ => 0, g⟩ (fun r => (∀ c : Dev Cert.AdaUpdateIdeal.nD,
      r.2.mem ((c.tc : Thread Cert.AdaUpdateIdeal.nD Cert.AdaUpdateIdeal.τ).loc Cert.AdaUpdateIdeal.main_arg0) = m ((c.tc : Thread Cert.AdaUpdateIdeal.nD Cert.AdaUpdateIdeal.τ).loc Cert.AdaUpdateIdeal.main_arg0)
      ∧ r.2.mem ((c.tc : Thread Cert.AdaUpdateIdeal.nD Cert.AdaUpdateIdeal.τ).loc Cert.AdaUpdateIdeal.main_arg1) = m ((c.tc : Thread Cert.AdaUpdateIdeal.nD Cert.AdaUpdateIdeal.τ).loc Cert.AdaUpdateIdeal.main_arg1)
      ∧ r.2.mem ((c.tc : Thread Cert.AdaUpdateIdeal.nD Cert.AdaUpdateIdeal.τ).loc Cert.AdaUpdateIdeal.main_arg2) = m ((c.tc : Thread Cert.AdaUpdateIdeal.nD Cert.AdaUpdateIdeal.τ).loc Cert.AdaUpdateIdeal.main_arg2)
      ∧ r.2.mem ((c.tc : Thread Cert.AdaUpdateIdeal.nD Cert.AdaUpdateIdeal.τ).loc Cert.AdaUpdateIdeal.main_arg3) = m ((c.tc : Thread Cert.AdaUpdateIdeal.nD Cert.AdaUpdateIdeal.τ).loc Cert.AdaUpdateIdeal.main_arg3)
      ∧ r.2.mem ((c.tc : Thread Cert.AdaUpdateIdeal.nD Cert.AdaUpdateIdeal.τ).loc Cert.AdaUpdateIdeal.main_arg4) = m ((c.tc : Thread Cert.AdaUpdateIdeal.nD Cert.AdaUpdateIdeal.τ).loc Cert.AdaUpdateIdeal.main_arg4))
      ∧ r.2.sem = fun _ => 0)

def quiescent_AdaUpdateRefIdeal [hAdaUpdateRefIdeal : Cert.AdaUpdateRefIdeal.Facts] : Prop :=
  ∀ (m : (ℓ : Loc Cert.AdaUpdateRefIdeal.nD Cert.AdaUpdateRefIdeal.τ Cert.AdaUpdateRefIdeal.sig) → Buf (Elt Ideal) ℓ) (g : Dev Cert.AdaUpdateRefIdeal.nD → PrngReg), Pre_AdaUpdateRefIdeal m →
    θ_run (Cert.AdaUpdateRefIdeal.defs (F := Ideal)) (onTc (τ := Cert.AdaUpdateRefIdeal.τ) (Cert.AdaUpdateRefIdeal.main (F := Ideal))) ⟨m, fun _ => 0, g⟩ (fun r => (∀ c : Dev Cert.AdaUpdateRefIdeal.nD,
      r.2.mem ((c.tc : Thread Cert.AdaUpdateRefIdeal.nD Cert.AdaUpdateRefIdeal.τ).loc Cert.AdaUpdateRefIdeal.main_arg0) = m ((c.tc : Thread Cert.AdaUpdateRefIdeal.nD Cert.AdaUpdateRefIdeal.τ).loc Cert.AdaUpdateRefIdeal.main_arg0)
      ∧ r.2.mem ((c.tc : Thread Cert.AdaUpdateRefIdeal.nD Cert.AdaUpdateRefIdeal.τ).loc Cert.AdaUpdateRefIdeal.main_arg1) = m ((c.tc : Thread Cert.AdaUpdateRefIdeal.nD Cert.AdaUpdateRefIdeal.τ).loc Cert.AdaUpdateRefIdeal.main_arg1)
      ∧ r.2.mem ((c.tc : Thread Cert.AdaUpdateRefIdeal.nD Cert.AdaUpdateRefIdeal.τ).loc Cert.AdaUpdateRefIdeal.main_arg2) = m ((c.tc : Thread Cert.AdaUpdateRefIdeal.nD Cert.AdaUpdateRefIdeal.τ).loc Cert.AdaUpdateRefIdeal.main_arg2)
      ∧ r.2.mem ((c.tc : Thread Cert.AdaUpdateRefIdeal.nD Cert.AdaUpdateRefIdeal.τ).loc Cert.AdaUpdateRefIdeal.main_arg3) = m ((c.tc : Thread Cert.AdaUpdateRefIdeal.nD Cert.AdaUpdateRefIdeal.τ).loc Cert.AdaUpdateRefIdeal.main_arg3)
      ∧ r.2.mem ((c.tc : Thread Cert.AdaUpdateRefIdeal.nD Cert.AdaUpdateRefIdeal.τ).loc Cert.AdaUpdateRefIdeal.main_arg4) = m ((c.tc : Thread Cert.AdaUpdateRefIdeal.nD Cert.AdaUpdateRefIdeal.τ).loc Cert.AdaUpdateRefIdeal.main_arg4))
      ∧ r.2.sem = fun _ => 0)

def quiescent_PackSmall [hPackSmall : Cert.PackSmall.Facts] : Prop :=
  ∀ (m : (ℓ : Loc Cert.PackSmall.nD Cert.PackSmall.τ Cert.PackSmall.sig) → Buf (Elt Bits) ℓ) (g : Dev Cert.PackSmall.nD → PrngReg), Pre_PackSmall m →
    θ_run (Cert.PackSmall.defs (F := Bits)) (onTc (τ := Cert.PackSmall.τ) (Cert.PackSmall.main (F := Bits))) ⟨m, fun _ => 0, g⟩ (fun r => (∀ c : Dev Cert.PackSmall.nD,
      r.2.mem ((c.tc : Thread Cert.PackSmall.nD Cert.PackSmall.τ).loc Cert.PackSmall.main_arg0) = m ((c.tc : Thread Cert.PackSmall.nD Cert.PackSmall.τ).loc Cert.PackSmall.main_arg0)
      ∧ r.2.mem ((c.tc : Thread Cert.PackSmall.nD Cert.PackSmall.τ).loc Cert.PackSmall.main_arg1) = m ((c.tc : Thread Cert.PackSmall.nD Cert.PackSmall.τ).loc Cert.PackSmall.main_arg1)
      ∧ r.2.mem ((c.tc : Thread Cert.PackSmall.nD Cert.PackSmall.τ).loc Cert.PackSmall.main_arg2) = m ((c.tc : Thread Cert.PackSmall.nD Cert.PackSmall.τ).loc Cert.PackSmall.main_arg2))
      ∧ r.2.sem = fun _ => 0)

def quiescent_PackSmallIdeal [hPackSmallIdeal : Cert.PackSmallIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg), Pre_PackSmallIdeal m →
    θ_run (Cert.PackSmallIdeal.defs (F := Ideal)) (onTc (τ := Cert.PackSmallIdeal.τ) (Cert.PackSmallIdeal.main (F := Ideal))) ⟨m, fun _ => 0, g⟩ (fun r => (∀ c : Dev Cert.PackSmallIdeal.nD,
      r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
      ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
      ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2))
      ∧ r.2.sem = fun _ => 0)

def quiescent_PackSmallRefIdeal [hPackSmallRefIdeal : Cert.PackSmallRefIdeal.Facts] : Prop :=
  ∀ (m : (ℓ : Loc Cert.PackSmallRefIdeal.nD Cert.PackSmallRefIdeal.τ Cert.PackSmallRefIdeal.sig) → Buf (Elt Ideal) ℓ) (g : Dev Cert.PackSmallRefIdeal.nD → PrngReg), Pre_PackSmallRefIdeal m →
    θ_run (Cert.PackSmallRefIdeal.defs (F := Ideal)) (onTc (τ := Cert.PackSmallRefIdeal.τ) (Cert.PackSmallRefIdeal.main (F := Ideal))) ⟨m, fun _ => 0, g⟩ (fun r => (∀ c : Dev Cert.PackSmallRefIdeal.nD,
      r.2.mem ((c.tc : Thread Cert.PackSmallRefIdeal.nD Cert.PackSmallRefIdeal.τ).loc Cert.PackSmallRefIdeal.main_arg0) = m ((c.tc : Thread Cert.PackSmallRefIdeal.nD Cert.PackSmallRefIdeal.τ).loc Cert.PackSmallRefIdeal.main_arg0)
      ∧ r.2.mem ((c.tc : Thread Cert.PackSmallRefIdeal.nD Cert.PackSmallRefIdeal.τ).loc Cert.PackSmallRefIdeal.main_arg1) = m ((c.tc : Thread Cert.PackSmallRefIdeal.nD Cert.PackSmallRefIdeal.τ).loc Cert.PackSmallRefIdeal.main_arg1)
      ∧ r.2.mem ((c.tc : Thread Cert.PackSmallRefIdeal.nD Cert.PackSmallRefIdeal.τ).loc Cert.PackSmallRefIdeal.main_arg2) = m ((c.tc : Thread Cert.PackSmallRefIdeal.nD Cert.PackSmallRefIdeal.τ).loc Cert.PackSmallRefIdeal.main_arg2))
      ∧ r.2.sem = fun _ => 0)

def preserves_CNorm_CNormIdeal : Prop :=
  True

def algebraic_CNormIdeal_CNormRefIdeal_pre_n_finite [hCNormIdeal : Cert.CNormIdeal.Facts] [hCNormRefIdeal : Cert.CNormRefIdeal.Facts] [hPre_n_finite : Cert.Pre_n_finite.Facts] : Prop :=
  ∀ (m : (ℓ : Loc Cert.CNormIdeal.nD Cert.CNormIdeal.τ Cert.CNormIdeal.sig) → Buf (Elt Ideal) ℓ) (g : Dev Cert.CNormIdeal.nD → PrngReg)
    (m' : (ℓ : Loc Cert.CNormRefIdeal.nD Cert.CNormRefIdeal.τ Cert.CNormRefIdeal.sig) → Buf (Elt Ideal) ℓ) (g' : Dev Cert.CNormRefIdeal.nD → PrngReg), Pre_CNormIdeal_n_finite m →
    (∀ c : Dev Cert.CNormIdeal.nD,
      m' ((c.tc : Thread Cert.CNormRefIdeal.nD Cert.CNormRefIdeal.τ).loc Cert.CNormRefIdeal.main_arg0) = m ((c.tc : Thread Cert.CNormIdeal.nD Cert.CNormIdeal.τ).loc Cert.CNormIdeal.main_arg0)
      ∧ m' ((c.tc : Thread Cert.CNormRefIdeal.nD Cert.CNormRefIdeal.τ).loc Cert.CNormRefIdeal.main_arg1) = m ((c.tc : Thread Cert.CNormIdeal.nD Cert.CNormIdeal.τ).loc Cert.CNormIdeal.main_arg1)
      ∧ m' ((c.tc : Thread Cert.CNormRefIdeal.nD Cert.CNormRefIdeal.τ).loc Cert.CNormRefIdeal.main_arg2) = m ((c.tc : Thread Cert.CNormIdeal.nD Cert.CNormIdeal.τ).loc Cert.CNormIdeal.main_arg2)
      ∧ m' ((c.tc : Thread Cert.CNormRefIdeal.nD Cert.CNormRefIdeal.τ).loc Cert.CNormRefIdeal.main_arg3) = m ((c.tc : Thread Cert.CNormIdeal.nD Cert.CNormIdeal.τ).loc Cert.CNormIdeal.main_arg3)
      ∧ m' ((c.tc : Thread Cert.CNormRefIdeal.nD Cert.CNormRefIdeal.τ).loc Cert.CNormRefIdeal.main_arg4) = m ((c.tc : Thread Cert.CNormIdeal.nD Cert.CNormIdeal.τ).loc Cert.CNormIdeal.main_arg4)
      ∧ m' ((c.tc : Thread Cert.CNormRefIdeal.nD Cert.CNormRefIdeal.τ).loc Cert.CNormRefIdeal.main_arg5) = m ((c.tc : Thread Cert.CNormIdeal.nD Cert.CNormIdeal.τ).loc Cert.CNormIdeal.main_arg5)) →
    ∃ (v0 : (c : Dev Cert.CNormIdeal.nD) → Buf (Elt Ideal) ((c.tc : Thread Cert.CNormIdeal.nD Cert.CNormIdeal.τ).loc Cert.CNormIdeal.main_v0_0)) (v1 : (c : Dev Cert.CNormIdeal.nD) → Buf (Elt Ideal) ((c.tc : Thread Cert.CNormIdeal.nD Cert.CNormIdeal.τ).loc Cert.CNormIdeal.main_v4)) (v2 : (c : Dev Cert.CNormIdeal.nD) → Buf (Elt Ideal) ((c.tc : Thread Cert.CNormIdeal.nD Cert.CNormIdeal.τ).loc Cert.CNormIdeal.main_v5)) (v3 : (c : Dev Cert.CNormIdeal.nD) → Buf (Elt Ideal) ((c.tc : Thread Cert.CNormIdeal.nD Cert.CNormIdeal.τ).loc Cert.CNormIdeal.main_v6)),
      θ_run (Cert.CNormIdeal.defs (F := Ideal)) (onTc (τ := Cert.CNormIdeal.τ) (Cert.CNormIdeal.main (F := Ideal))) ⟨m, fun _ => 0, g⟩ (fun r => ∀ c : Dev Cert.CNormIdeal.nD,
          r.2.mem ((c.tc : Thread Cert.CNormIdeal.nD Cert.CNormIdeal.τ).loc Cert.CNormIdeal.main_v0_0) = v0 c
          ∧ r.2.mem ((c.tc : Thread Cert.CNormIdeal.nD Cert.CNormIdeal.τ).loc Cert.CNormIdeal.main_v4) = v1 c
          ∧ r.2.mem ((c.tc : Thread Cert.CNormIdeal.nD Cert.CNormIdeal.τ).loc Cert.CNormIdeal.main_v5) = v2 c
          ∧ r.2.mem ((c.tc : Thread Cert.CNormIdeal.nD Cert.CNormIdeal.τ).loc Cert.CNormIdeal.main_v6) = v3 c
          ∧ r.2.mem ((c.tc : Thread Cert.CNormIdeal.nD Cert.CNormIdeal.τ).loc Cert.CNormIdeal.main_arg0) = m ((c.tc : Thread Cert.CNormIdeal.nD Cert.CNormIdeal.τ).loc Cert.CNormIdeal.main_arg0)
          ∧ r.2.mem ((c.tc : Thread Cert.CNormIdeal.nD Cert.CNormIdeal.τ).loc Cert.CNormIdeal.main_arg1) = m ((c.tc : Thread Cert.CNormIdeal.nD Cert.CNormIdeal.τ).loc Cert.CNormIdeal.main_arg1)
          ∧ r.2.mem ((c.tc : Thread Cert.CNormIdeal.nD Cert.CNormIdeal.τ).loc Cert.CNormIdeal.main_arg2) = m ((c.tc : Thread Cert.CNormIdeal.nD Cert.CNormIdeal.τ).loc Cert.CNormIdeal.main_arg2)
          ∧ r.2.mem ((c.tc : Thread Cert.CNormIdeal.nD Cert.CNormIdeal.τ).loc Cert.CNormIdeal.main_arg3) = m ((c.tc : Thread Cert.CNormIdeal.nD Cert.CNormIdeal.τ).loc Cert.CNormIdeal.main_arg3)
          ∧ r.2.mem ((c.tc : Thread Cert.CNormIdeal.nD Cert.CNormIdeal.τ).loc Cert.CNormIdeal.main_arg4) = m ((c.tc : Thread Cert.CNormIdeal.nD Cert.CNormIdeal.τ).loc Cert.CNormIdeal.main_arg4)
          ∧ r.2.mem ((c.tc : Thread Cert.CNormIdeal.nD Cert.CNormIdeal.τ).loc Cert.CNormIdeal.main_arg5) = m ((c.tc : Thread Cert.CNormIdeal.nD Cert.CNormIdeal.τ).loc Cert.CNormIdeal.main_arg5))
      ∧ θ_run (Cert.CNormRefIdeal.defs (F := Ideal)) (onTc (τ := Cert.CNormRefIdeal.τ) (Cert.CNormRefIdeal.main (F := Ideal))) ⟨m', fun _ => 0, g'⟩ (fun r => ∀ c : Dev Cert.CNormRefIdeal.nD,
          r.2.mem ((c.tc : Thread Cert.CNormRefIdeal.nD Cert.CNormRefIdeal.τ).loc Cert.CNormRefIdeal.main_v48) = v0 c
          ∧ r.2.mem ((c.tc : Thread Cert.CNormRefIdeal.nD Cert.CNormRefIdeal.τ).loc Cert.CNormRefIdeal.main_v31) = v1 c
          ∧ r.2.mem ((c.tc : Thread Cert.CNormRefIdeal.nD Cert.CNormRefIdeal.τ).loc Cert.CNormRefIdeal.main_v26) = v2 c
          ∧ r.2.mem ((c.tc : Thread Cert.CNormRefIdeal.nD Cert.CNormRefIdeal.τ).loc Cert.CNormRefIdeal.main_v23) = v3 c
          ∧ r.2.mem ((c.tc : Thread Cert.CNormRefIdeal.nD Cert.CNormRefIdeal.τ).loc Cert.CNormRefIdeal.main_arg0) = m' ((c.tc : Thread Cert.CNormRefIdeal.nD Cert.CNormRefIdeal.τ).loc Cert.CNormRefIdeal.main_arg0)
          ∧ r.2.mem ((c.tc : Thread Cert.CNormRefIdeal.nD Cert.CNormRefIdeal.τ).loc Cert.CNormRefIdeal.main_arg1) = m' ((c.tc : Thread Cert.CNormRefIdeal.nD Cert.CNormRefIdeal.τ).loc Cert.CNormRefIdeal.main_arg1)
          ∧ r.2.mem ((c.tc : Thread Cert.CNormRefIdeal.nD Cert.CNormRefIdeal.τ).loc Cert.CNormRefIdeal.main_arg2) = m' ((c.tc : Thread Cert.CNormRefIdeal.nD Cert.CNormRefIdeal.τ).loc Cert.CNormRefIdeal.main_arg2)
          ∧ r.2.mem ((c.tc : Thread Cert.CNormRefIdeal.nD Cert.CNormRefIdeal.τ).loc Cert.CNormRefIdeal.main_arg3) = m' ((c.tc : Thread Cert.CNormRefIdeal.nD Cert.CNormRefIdeal.τ).loc Cert.CNormRefIdeal.main_arg3)
          ∧ r.2.mem ((c.tc : Thread Cert.CNormRefIdeal.nD Cert.CNormRefIdeal.τ).loc Cert.CNormRefIdeal.main_arg4) = m' ((c.tc : Thread Cert.CNormRefIdeal.nD Cert.CNormRefIdeal.τ).loc Cert.CNormRefIdeal.main_arg4)
          ∧ r.2.mem ((c.tc : Thread Cert.CNormRefIdeal.nD Cert.CNormRefIdeal.τ).loc Cert.CNormRefIdeal.main_arg5) = m' ((c.tc : Thread Cert.CNormRefIdeal.nD Cert.CNormRefIdeal.τ).loc Cert.CNormRefIdeal.main_arg5))

def preserves_FNorm_FNormIdeal : Prop :=
  True

def algebraic_FNormIdeal_FNormRefIdeal_pre_fn_finite [hFNormIdeal : Cert.FNormIdeal.Facts] [hFNormRefIdeal : Cert.FNormRefIdeal.Facts] [hPre_fn_finite : Cert.Pre_fn_finite.Facts] : Prop :=
  ∀ (m : (ℓ : Loc Cert.FNormIdeal.nD Cert.FNormIdeal.τ Cert.FNormIdeal.sig) → Buf (Elt Ideal) ℓ) (g : Dev Cert.FNormIdeal.nD → PrngReg)
    (m' : (ℓ : Loc Cert.FNormRefIdeal.nD Cert.FNormRefIdeal.τ Cert.FNormRefIdeal.sig) → Buf (Elt Ideal) ℓ) (g' : Dev Cert.FNormRefIdeal.nD → PrngReg), Pre_FNormIdeal_fn_finite m →
    (∀ c : Dev Cert.FNormIdeal.nD,
      m' ((c.tc : Thread Cert.FNormRefIdeal.nD Cert.FNormRefIdeal.τ).loc Cert.FNormRefIdeal.main_arg0) = m ((c.tc : Thread Cert.FNormIdeal.nD Cert.FNormIdeal.τ).loc Cert.FNormIdeal.main_arg0)
      ∧ m' ((c.tc : Thread Cert.FNormRefIdeal.nD Cert.FNormRefIdeal.τ).loc Cert.FNormRefIdeal.main_arg1) = m ((c.tc : Thread Cert.FNormIdeal.nD Cert.FNormIdeal.τ).loc Cert.FNormIdeal.main_arg1)
      ∧ m' ((c.tc : Thread Cert.FNormRefIdeal.nD Cert.FNormRefIdeal.τ).loc Cert.FNormRefIdeal.main_arg2) = m ((c.tc : Thread Cert.FNormIdeal.nD Cert.FNormIdeal.τ).loc Cert.FNormIdeal.main_arg2)
      ∧ m' ((c.tc : Thread Cert.FNormRefIdeal.nD Cert.FNormRefIdeal.τ).loc Cert.FNormRefIdeal.main_arg3) = m ((c.tc : Thread Cert.FNormIdeal.nD Cert.FNormIdeal.τ).loc Cert.FNormIdeal.main_arg3)
      ∧ m' ((c.tc : Thread Cert.FNormRefIdeal.nD Cert.FNormRefIdeal.τ).loc Cert.FNormRefIdeal.main_arg4) = m ((c.tc : Thread Cert.FNormIdeal.nD Cert.FNormIdeal.τ).loc Cert.FNormIdeal.main_arg4)
      ∧ m' ((c.tc : Thread Cert.FNormRefIdeal.nD Cert.FNormRefIdeal.τ).loc Cert.FNormRefIdeal.main_arg5) = m ((c.tc : Thread Cert.FNormIdeal.nD Cert.FNormIdeal.τ).loc Cert.FNormIdeal.main_arg5)
      ∧ m' ((c.tc : Thread Cert.FNormRefIdeal.nD Cert.FNormRefIdeal.τ).loc Cert.FNormRefIdeal.main_arg6) = m ((c.tc : Thread Cert.FNormIdeal.nD Cert.FNormIdeal.τ).loc Cert.FNormIdeal.main_arg6)) →
    ∃ (v0 : (c : Dev Cert.FNormIdeal.nD) → Buf (Elt Ideal) ((c.tc : Thread Cert.FNormIdeal.nD Cert.FNormIdeal.τ).loc Cert.FNormIdeal.main_v17_0)) (v1 : (c : Dev Cert.FNormIdeal.nD) → Buf (Elt Ideal) ((c.tc : Thread Cert.FNormIdeal.nD Cert.FNormIdeal.τ).loc Cert.FNormIdeal.main_v21)) (v2 : (c : Dev Cert.FNormIdeal.nD) → Buf (Elt Ideal) ((c.tc : Thread Cert.FNormIdeal.nD Cert.FNormIdeal.τ).loc Cert.FNormIdeal.main_v22)) (v3 : (c : Dev Cert.FNormIdeal.nD) → Buf (Elt Ideal) ((c.tc : Thread Cert.FNormIdeal.nD Cert.FNormIdeal.τ).loc Cert.FNormIdeal.main_v23)),
      θ_run (Cert.FNormIdeal.defs (F := Ideal)) (onTc (τ := Cert.FNormIdeal.τ) (Cert.FNormIdeal.main (F := Ideal))) ⟨m, fun _ => 0, g⟩ (fun r => ∀ c : Dev Cert.FNormIdeal.nD,
          r.2.mem ((c.tc : Thread Cert.FNormIdeal.nD Cert.FNormIdeal.τ).loc Cert.FNormIdeal.main_v17_0) = v0 c
          ∧ r.2.mem ((c.tc : Thread Cert.FNormIdeal.nD Cert.FNormIdeal.τ).loc Cert.FNormIdeal.main_v21) = v1 c
          ∧ r.2.mem ((c.tc : Thread Cert.FNormIdeal.nD Cert.FNormIdeal.τ).loc Cert.FNormIdeal.main_v22) = v2 c
          ∧ r.2.mem ((c.tc : Thread Cert.FNormIdeal.nD Cert.FNormIdeal.τ).loc Cert.FNormIdeal.main_v23) = v3 c
          ∧ r.2.mem ((c.tc : Thread Cert.FNormIdeal.nD Cert.FNormIdeal.τ).loc Cert.FNormIdeal.main_arg0) = m ((c.tc : Thread Cert.FNormIdeal.nD Cert.FNormIdeal.τ).loc Cert.FNormIdeal.main_arg0)
          ∧ r.2.mem ((c.tc : Thread Cert.FNormIdeal.nD Cert.FNormIdeal.τ).loc Cert.FNormIdeal.main_arg1) = m ((c.tc : Thread Cert.FNormIdeal.nD Cert.FNormIdeal.τ).loc Cert.FNormIdeal.main_arg1)
          ∧ r.2.mem ((c.tc : Thread Cert.FNormIdeal.nD Cert.FNormIdeal.τ).loc Cert.FNormIdeal.main_arg2) = m ((c.tc : Thread Cert.FNormIdeal.nD Cert.FNormIdeal.τ).loc Cert.FNormIdeal.main_arg2)
          ∧ r.2.mem ((c.tc : Thread Cert.FNormIdeal.nD Cert.FNormIdeal.τ).loc Cert.FNormIdeal.main_arg3) = m ((c.tc : Thread Cert.FNormIdeal.nD Cert.FNormIdeal.τ).loc Cert.FNormIdeal.main_arg3)
          ∧ r.2.mem ((c.tc : Thread Cert.FNormIdeal.nD Cert.FNormIdeal.τ).loc Cert.FNormIdeal.main_arg4) = m ((c.tc : Thread Cert.FNormIdeal.nD Cert.FNormIdeal.τ).loc Cert.FNormIdeal.main_arg4)
          ∧ r.2.mem ((c.tc : Thread Cert.FNormIdeal.nD Cert.FNormIdeal.τ).loc Cert.FNormIdeal.main_arg5) = m ((c.tc : Thread Cert.FNormIdeal.nD Cert.FNormIdeal.τ).loc Cert.FNormIdeal.main_arg5)
          ∧ r.2.mem ((c.tc : Thread Cert.FNormIdeal.nD Cert.FNormIdeal.τ).loc Cert.FNormIdeal.main_arg6) = m ((c.tc : Thread Cert.FNormIdeal.nD Cert.FNormIdeal.τ).loc Cert.FNormIdeal.main_arg6))
      ∧ θ_run (Cert.FNormRefIdeal.defs (F := Ideal)) (onTc (τ := Cert.FNormRefIdeal.τ) (Cert.FNormRefIdeal.main (F := Ideal))) ⟨m', fun _ => 0, g'⟩ (fun r => ∀ c : Dev Cert.FNormRefIdeal.nD,
          r.2.mem ((c.tc : Thread Cert.FNormRefIdeal.nD Cert.FNormRefIdeal.τ).loc Cert.FNormRefIdeal.main_v51) = v0 c
          ∧ r.2.mem ((c.tc : Thread Cert.FNormRefIdeal.nD Cert.FNormRefIdeal.τ).loc Cert.FNormRefIdeal.main_v34) = v1 c
          ∧ r.2.mem ((c.tc : Thread Cert.FNormRefIdeal.nD Cert.FNormRefIdeal.τ).loc Cert.FNormRefIdeal.main_v29) = v2 c
          ∧ r.2.mem ((c.tc : Thread Cert.FNormRefIdeal.nD Cert.FNormRefIdeal.τ).loc Cert.FNormRefIdeal.main_v26) = v3 c
          ∧ r.2.mem ((c.tc : Thread Cert.FNormRefIdeal.nD Cert.FNormRefIdeal.τ).loc Cert.FNormRefIdeal.main_arg0) = m' ((c.tc : Thread Cert.FNormRefIdeal.nD Cert.FNormRefIdeal.τ).loc Cert.FNormRefIdeal.main_arg0)
          ∧ r.2.mem ((c.tc : Thread Cert.FNormRefIdeal.nD Cert.FNormRefIdeal.τ).loc Cert.FNormRefIdeal.main_arg1) = m' ((c.tc : Thread Cert.FNormRefIdeal.nD Cert.FNormRefIdeal.τ).loc Cert.FNormRefIdeal.main_arg1)
          ∧ r.2.mem ((c.tc : Thread Cert.FNormRefIdeal.nD Cert.FNormRefIdeal.τ).loc Cert.FNormRefIdeal.main_arg2) = m' ((c.tc : Thread Cert.FNormRefIdeal.nD Cert.FNormRefIdeal.τ).loc Cert.FNormRefIdeal.main_arg2)
          ∧ r.2.mem ((c.tc : Thread Cert.FNormRefIdeal.nD Cert.FNormRefIdeal.τ).loc Cert.FNormRefIdeal.main_arg3) = m' ((c.tc : Thread Cert.FNormRefIdeal.nD Cert.FNormRefIdeal.τ).loc Cert.FNormRefIdeal.main_arg3)
          ∧ r.2.mem ((c.tc : Thread Cert.FNormRefIdeal.nD Cert.FNormRefIdeal.τ).loc Cert.FNormRefIdeal.main_arg4) = m' ((c.tc : Thread Cert.FNormRefIdeal.nD Cert.FNormRefIdeal.τ).loc Cert.FNormRefIdeal.main_arg4)
          ∧ r.2.mem ((c.tc : Thread Cert.FNormRefIdeal.nD Cert.FNormRefIdeal.τ).loc Cert.FNormRefIdeal.main_arg5) = m' ((c.tc : Thread Cert.FNormRefIdeal.nD Cert.FNormRefIdeal.τ).loc Cert.FNormRefIdeal.main_arg5)
          ∧ r.2.mem ((c.tc : Thread Cert.FNormRefIdeal.nD Cert.FNormRefIdeal.τ).loc Cert.FNormRefIdeal.main_arg6) = m' ((c.tc : Thread Cert.FNormRefIdeal.nD Cert.FNormRefIdeal.τ).loc Cert.FNormRefIdeal.main_arg6))

def preserves_ANorm_ANormIdeal : Prop :=
  True

def algebraic_ANormIdeal_ANormRefIdeal_pre_an_finite [hANormIdeal : Cert.ANormIdeal.Facts] [hANormRefIdeal : Cert.ANormRefIdeal.Facts] [hPre_an_finite : Cert.Pre_an_finite.Facts] : Prop :=
  ∀ (m : (ℓ : Loc Cert.ANormIdeal.nD Cert.ANormIdeal.τ Cert.ANormIdeal.sig) → Buf (Elt Ideal) ℓ) (g : Dev Cert.ANormIdeal.nD → PrngReg)
    (m' : (ℓ : Loc Cert.ANormRefIdeal.nD Cert.ANormRefIdeal.τ Cert.ANormRefIdeal.sig) → Buf (Elt Ideal) ℓ) (g' : Dev Cert.ANormRefIdeal.nD → PrngReg), Pre_ANormIdeal_an_finite m →
    (∀ c : Dev Cert.ANormIdeal.nD,
      m' ((c.tc : Thread Cert.ANormRefIdeal.nD Cert.ANormRefIdeal.τ).loc Cert.ANormRefIdeal.main_arg0) = m ((c.tc : Thread Cert.ANormIdeal.nD Cert.ANormIdeal.τ).loc Cert.ANormIdeal.main_arg0)
      ∧ m' ((c.tc : Thread Cert.ANormRefIdeal.nD Cert.ANormRefIdeal.τ).loc Cert.ANormRefIdeal.main_arg1) = m ((c.tc : Thread Cert.ANormIdeal.nD Cert.ANormIdeal.τ).loc Cert.ANormIdeal.main_arg1)
      ∧ m' ((c.tc : Thread Cert.ANormRefIdeal.nD Cert.ANormRefIdeal.τ).loc Cert.ANormRefIdeal.main_arg2) = m ((c.tc : Thread Cert.ANormIdeal.nD Cert.ANormIdeal.τ).loc Cert.ANormIdeal.main_arg2)
      ∧ m' ((c.tc : Thread Cert.ANormRefIdeal.nD Cert.ANormRefIdeal.τ).loc Cert.ANormRefIdeal.main_arg3) = m ((c.tc : Thread Cert.ANormIdeal.nD Cert.ANormIdeal.τ).loc Cert.ANormIdeal.main_arg3)
      ∧ m' ((c.tc : Thread Cert.ANormRefIdeal.nD Cert.ANormRefIdeal.τ).loc Cert.ANormRefIdeal.main_arg4) = m ((c.tc : Thread Cert.ANormIdeal.nD Cert.ANormIdeal.τ).loc Cert.ANormIdeal.main_arg4)
      ∧ m' ((c.tc : Thread Cert.ANormRefIdeal.nD Cert.ANormRefIdeal.τ).loc Cert.ANormRefIdeal.main_arg5) = m ((c.tc : Thread Cert.ANormIdeal.nD Cert.ANormIdeal.τ).loc Cert.ANormIdeal.main_arg5)
      ∧ m' ((c.tc : Thread Cert.ANormRefIdeal.nD Cert.ANormRefIdeal.τ).loc Cert.ANormRefIdeal.main_arg6) = m ((c.tc : Thread Cert.ANormIdeal.nD Cert.ANormIdeal.τ).loc Cert.ANormIdeal.main_arg6)) →
    ∃ (v0 : (c : Dev Cert.ANormIdeal.nD) → Buf (Elt Ideal) ((c.tc : Thread Cert.ANormIdeal.nD Cert.ANormIdeal.τ).loc Cert.ANormIdeal.main_v10_0)) (v1 : (c : Dev Cert.ANormIdeal.nD) → Buf (Elt Ideal) ((c.tc : Thread Cert.ANormIdeal.nD Cert.ANormIdeal.τ).loc Cert.ANormIdeal.main_v14)) (v2 : (c : Dev Cert.ANormIdeal.nD) → Buf (Elt Ideal) ((c.tc : Thread Cert.ANormIdeal.nD Cert.ANormIdeal.τ).loc Cert.ANormIdeal.main_v15)) (v3 : (c : Dev Cert.ANormIdeal.nD) → Buf (Elt Ideal) ((c.tc : Thread Cert.ANormIdeal.nD Cert.ANormIdeal.τ).loc Cert.ANormIdeal.main_v16)),
      θ_run (Cert.ANormIdeal.defs (F := Ideal)) (onTc (τ := Cert.ANormIdeal.τ) (Cert.ANormIdeal.main (F := Ideal))) ⟨m, fun _ => 0, g⟩ (fun r => ∀ c : Dev Cert.ANormIdeal.nD,
          r.2.mem ((c.tc : Thread Cert.ANormIdeal.nD Cert.ANormIdeal.τ).loc Cert.ANormIdeal.main_v10_0) = v0 c
          ∧ r.2.mem ((c.tc : Thread Cert.ANormIdeal.nD Cert.ANormIdeal.τ).loc Cert.ANormIdeal.main_v14) = v1 c
          ∧ r.2.mem ((c.tc : Thread Cert.ANormIdeal.nD Cert.ANormIdeal.τ).loc Cert.ANormIdeal.main_v15) = v2 c
          ∧ r.2.mem ((c.tc : Thread Cert.ANormIdeal.nD Cert.ANormIdeal.τ).loc Cert.ANormIdeal.main_v16) = v3 c
          ∧ r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
          ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
          ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
          ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3)
          ∧ r.2.mem ((c.tc : Thread Cert.ANormIdeal.nD Cert.ANormIdeal.τ).loc Cert.ANormIdeal.main_arg4) = m ((c.tc : Thread Cert.ANormIdeal.nD Cert.ANormIdeal.τ).loc Cert.ANormIdeal.main_arg4)
          ∧ r.2.mem ((c.tc : Thread Cert.ANormIdeal.nD Cert.ANormIdeal.τ).loc Cert.ANormIdeal.main_arg5) = m ((c.tc : Thread Cert.ANormIdeal.nD Cert.ANormIdeal.τ).loc Cert.ANormIdeal.main_arg5)
          ∧ r.2.mem ((c.tc : Thread Cert.ANormIdeal.nD Cert.ANormIdeal.τ).loc Cert.ANormIdeal.main_arg6) = m ((c.tc : Thread Cert.ANormIdeal.nD Cert.ANormIdeal.τ).loc Cert.ANormIdeal.main_arg6))
      ∧ θ_run (Cert.ANormRefIdeal.defs (F := Ideal)) (onTc (τ := Cert.ANormRefIdeal.τ) (Cert.ANormRefIdeal.main (F := Ideal))) ⟨m', fun _ => 0, g'⟩ (fun r => ∀ c : Dev Cert.ANormRefIdeal.nD,
          r.2.mem ((c.tc : Thread Cert.ANormRefIdeal.nD Cert.ANormRefIdeal.τ).loc Cert.ANormRefIdeal.main_v51) = v0 c
          ∧ r.2.mem ((c.tc : Thread Cert.ANormRefIdeal.nD Cert.ANormRefIdeal.τ).loc Cert.ANormRefIdeal.main_v34) = v1 c
          ∧ r.2.mem ((c.tc : Thread Cert.ANormRefIdeal.nD Cert.ANormRefIdeal.τ).loc Cert.ANormRefIdeal.main_v29) = v2 c
          ∧ r.2.mem ((c.tc : Thread Cert.ANormRefIdeal.nD Cert.ANormRefIdeal.τ).loc Cert.ANormRefIdeal.main_v26) = v3 c
          ∧ r.2.mem ((c.tc : Thread Cert.ANormRefIdeal.nD Cert.ANormRefIdeal.τ).loc Cert.ANormRefIdeal.main_arg0) = m' ((c.tc : Thread Cert.ANormRefIdeal.nD Cert.ANormRefIdeal.τ).loc Cert.ANormRefIdeal.main_arg0)
          ∧ r.2.mem ((c.tc : Thread Cert.ANormRefIdeal.nD Cert.ANormRefIdeal.τ).loc Cert.ANormRefIdeal.main_arg1) = m' ((c.tc : Thread Cert.ANormRefIdeal.nD Cert.ANormRefIdeal.τ).loc Cert.ANormRefIdeal.main_arg1)
          ∧ r.2.mem ((c.tc : Thread Cert.ANormRefIdeal.nD Cert.ANormRefIdeal.τ).loc Cert.ANormRefIdeal.main_arg2) = m' ((c.tc : Thread Cert.ANormRefIdeal.nD Cert.ANormRefIdeal.τ).loc Cert.ANormRefIdeal.main_arg2)
          ∧ r.2.mem ((c.tc : Thread Cert.ANormRefIdeal.nD Cert.ANormRefIdeal.τ).loc Cert.ANormRefIdeal.main_arg3) = m' ((c.tc : Thread Cert.ANormRefIdeal.nD Cert.ANormRefIdeal.τ).loc Cert.ANormRefIdeal.main_arg3)
          ∧ r.2.mem ((c.tc : Thread Cert.ANormRefIdeal.nD Cert.ANormRefIdeal.τ).loc Cert.ANormRefIdeal.main_arg4) = m' ((c.tc : Thread Cert.ANormRefIdeal.nD Cert.ANormRefIdeal.τ).loc Cert.ANormRefIdeal.main_arg4)
          ∧ r.2.mem ((c.tc : Thread Cert.ANormRefIdeal.nD Cert.ANormRefIdeal.τ).loc Cert.ANormRefIdeal.main_arg5) = m' ((c.tc : Thread Cert.ANormRefIdeal.nD Cert.ANormRefIdeal.τ).loc Cert.ANormRefIdeal.main_arg5)
          ∧ r.2.mem ((c.tc : Thread Cert.ANormRefIdeal.nD Cert.ANormRefIdeal.τ).loc Cert.ANormRefIdeal.main_arg6) = m' ((c.tc : Thread Cert.ANormRefIdeal.nD Cert.ANormRefIdeal.τ).loc Cert.ANormRefIdeal.main_arg6))

def preserves_BProjNorm_BProjNormIdeal : Prop :=
  True

def algebraic_BProjNormIdeal_BProjNormRefIdeal_pre_bn_finite [hBProjNormIdeal : Cert.BProjNormIdeal.Facts] [hBProjNormRefIdeal : Cert.BProjNormRefIdeal.Facts] [hPre_bn_finite : Cert.Pre_bn_finite.Facts] : Prop :=
  ∀ (m : (ℓ : Loc Cert.BProjNormIdeal.nD Cert.BProjNormIdeal.τ Cert.BProjNormIdeal.sig) → Buf (Elt Ideal) ℓ) (g : Dev Cert.BProjNormIdeal.nD → PrngReg)
    (m' : (ℓ : Loc Cert.BProjNormRefIdeal.nD Cert.BProjNormRefIdeal.τ Cert.BProjNormRefIdeal.sig) → Buf (Elt Ideal) ℓ) (g' : Dev Cert.BProjNormRefIdeal.nD → PrngReg), Pre_BProjNormIdeal_bn_finite m →
    (∀ c : Dev Cert.BProjNormIdeal.nD,
      m' ((c.tc : Thread Cert.BProjNormRefIdeal.nD Cert.BProjNormRefIdeal.τ).loc Cert.BProjNormRefIdeal.main_arg0) = m ((c.tc : Thread Cert.BProjNormIdeal.nD Cert.BProjNormIdeal.τ).loc Cert.BProjNormIdeal.main_arg0)
      ∧ m' ((c.tc : Thread Cert.BProjNormRefIdeal.nD Cert.BProjNormRefIdeal.τ).loc Cert.BProjNormRefIdeal.main_arg1) = m ((c.tc : Thread Cert.BProjNormIdeal.nD Cert.BProjNormIdeal.τ).loc Cert.BProjNormIdeal.main_arg1)
      ∧ m' ((c.tc : Thread Cert.BProjNormRefIdeal.nD Cert.BProjNormRefIdeal.τ).loc Cert.BProjNormRefIdeal.main_arg2) = m ((c.tc : Thread Cert.BProjNormIdeal.nD Cert.BProjNormIdeal.τ).loc Cert.BProjNormIdeal.main_arg2)
      ∧ m' ((c.tc : Thread Cert.BProjNormRefIdeal.nD Cert.BProjNormRefIdeal.τ).loc Cert.BProjNormRefIdeal.main_arg3) = m ((c.tc : Thread Cert.BProjNormIdeal.nD Cert.BProjNormIdeal.τ).loc Cert.BProjNormIdeal.main_arg3)
      ∧ m' ((c.tc : Thread Cert.BProjNormRefIdeal.nD Cert.BProjNormRefIdeal.τ).loc Cert.BProjNormRefIdeal.main_arg4) = m ((c.tc : Thread Cert.BProjNormIdeal.nD Cert.BProjNormIdeal.τ).loc Cert.BProjNormIdeal.main_arg4)
      ∧ m' ((c.tc : Thread Cert.BProjNormRefIdeal.nD Cert.BProjNormRefIdeal.τ).loc Cert.BProjNormRefIdeal.main_arg5) = m ((c.tc : Thread Cert.BProjNormIdeal.nD Cert.BProjNormIdeal.τ).loc Cert.BProjNormIdeal.main_arg5)
      ∧ m' ((c.tc : Thread Cert.BProjNormRefIdeal.nD Cert.BProjNormRefIdeal.τ).loc Cert.BProjNormRefIdeal.main_arg6) = m ((c.tc : Thread Cert.BProjNormIdeal.nD Cert.BProjNormIdeal.τ).loc Cert.BProjNormIdeal.main_arg6)) →
    ∃ (v0 : (c : Dev Cert.BProjNormIdeal.nD) → Buf (Elt Ideal) ((c.tc : Thread Cert.BProjNormIdeal.nD Cert.BProjNormIdeal.τ).loc Cert.BProjNormIdeal.main_v8_0)) (v1 : (c : Dev Cert.BProjNormIdeal.nD) → Buf (Elt Ideal) ((c.tc : Thread Cert.BProjNormIdeal.nD Cert.BProjNormIdeal.τ).loc Cert.BProjNormIdeal.main_v12)) (v2 : (c : Dev Cert.BProjNormIdeal.nD) → Buf (Elt Ideal) ((c.tc : Thread Cert.BProjNormIdeal.nD Cert.BProjNormIdeal.τ).loc Cert.BProjNormIdeal.main_v13)) (v3 : (c : Dev Cert.BProjNormIdeal.nD) → Buf (Elt Ideal) ((c.tc : Thread Cert.BProjNormIdeal.nD Cert.BProjNormIdeal.τ).loc Cert.BProjNormIdeal.main_v14)),
      θ_run (Cert.BProjNormIdeal.defs (F := Ideal)) (onTc (τ := Cert.BProjNormIdeal.τ) (Cert.BProjNormIdeal.main (F := Ideal))) ⟨m, fun _ => 0, g⟩ (fun r => ∀ c : Dev Cert.BProjNormIdeal.nD,
          r.2.mem ((c.tc : Thread Cert.BProjNormIdeal.nD Cert.BProjNormIdeal.τ).loc Cert.BProjNormIdeal.main_v8_0) = v0 c
          ∧ r.2.mem ((c.tc : Thread Cert.BProjNormIdeal.nD Cert.BProjNormIdeal.τ).loc Cert.BProjNormIdeal.main_v12) = v1 c
          ∧ r.2.mem ((c.tc : Thread Cert.BProjNormIdeal.nD Cert.BProjNormIdeal.τ).loc Cert.BProjNormIdeal.main_v13) = v2 c
          ∧ r.2.mem ((c.tc : Thread Cert.BProjNormIdeal.nD Cert.BProjNormIdeal.τ).loc Cert.BProjNormIdeal.main_v14) = v3 c
          ∧ r.2.mem ((c.tc : Thread Cert.BProjNormIdeal.nD Cert.BProjNormIdeal.τ).loc Cert.BProjNormIdeal.main_arg0) = m ((c.tc : Thread Cert.BProjNormIdeal.nD Cert.BProjNormIdeal.τ).loc Cert.BProjNormIdeal.main_arg0)
          ∧ r.2.mem ((c.tc : Thread Cert.BProjNormIdeal.nD Cert.BProjNormIdeal.τ).loc Cert.BProjNormIdeal.main_arg1) = m ((c.tc : Thread Cert.BProjNormIdeal.nD Cert.BProjNormIdeal.τ).loc Cert.BProjNormIdeal.main_arg1)
          ∧ r.2.mem ((c.tc : Thread Cert.BProjNormIdeal.nD Cert.BProjNormIdeal.τ).loc Cert.BProjNormIdeal.main_arg2) = m ((c.tc : Thread Cert.BProjNormIdeal.nD Cert.BProjNormIdeal.τ).loc Cert.BProjNormIdeal.main_arg2)
          ∧ r.2.mem ((c.tc : Thread Cert.BProjNormIdeal.nD Cert.BProjNormIdeal.τ).loc Cert.BProjNormIdeal.main_arg3) = m ((c.tc : Thread Cert.BProjNormIdeal.nD Cert.BProjNormIdeal.τ).loc Cert.BProjNormIdeal.main_arg3)
          ∧ r.2.mem ((c.tc : Thread Cert.BProjNormIdeal.nD Cert.BProjNormIdeal.τ).loc Cert.BProjNormIdeal.main_arg4) = m ((c.tc : Thread Cert.BProjNormIdeal.nD Cert.BProjNormIdeal.τ).loc Cert.BProjNormIdeal.main_arg4)
          ∧ r.2.mem ((c.tc : Thread Cert.BProjNormIdeal.nD Cert.BProjNormIdeal.τ).loc Cert.BProjNormIdeal.main_arg5) = m ((c.tc : Thread Cert.BProjNormIdeal.nD Cert.BProjNormIdeal.τ).loc Cert.BProjNormIdeal.main_arg5)
          ∧ r.2.mem ((c.tc : Thread Cert.BProjNormIdeal.nD Cert.BProjNormIdeal.τ).loc Cert.BProjNormIdeal.main_arg6) = m ((c.tc : Thread Cert.BProjNormIdeal.nD Cert.BProjNormIdeal.τ).loc Cert.BProjNormIdeal.main_arg6))
      ∧ θ_run (Cert.BProjNormRefIdeal.defs (F := Ideal)) (onTc (τ := Cert.BProjNormRefIdeal.τ) (Cert.BProjNormRefIdeal.main (F := Ideal))) ⟨m', fun _ => 0, g'⟩ (fun r => ∀ c : Dev Cert.BProjNormRefIdeal.nD,
          r.2.mem ((c.tc : Thread Cert.BProjNormRefIdeal.nD Cert.BProjNormRefIdeal.τ).loc Cert.BProjNormRefIdeal.main_v51) = v0 c
          ∧ r.2.mem ((c.tc : Thread Cert.BProjNormRefIdeal.nD Cert.BProjNormRefIdeal.τ).loc Cert.BProjNormRefIdeal.main_v34) = v1 c
          ∧ r.2.mem ((c.tc : Thread Cert.BProjNormRefIdeal.nD Cert.BProjNormRefIdeal.τ).loc Cert.BProjNormRefIdeal.main_v29) = v2 c
          ∧ r.2.mem ((c.tc : Thread Cert.BProjNormRefIdeal.nD Cert.BProjNormRefIdeal.τ).loc Cert.BProjNormRefIdeal.main_v26) = v3 c
          ∧ r.2.mem ((c.tc : Thread Cert.BProjNormRefIdeal.nD Cert.BProjNormRefIdeal.τ).loc Cert.BProjNormRefIdeal.main_arg0) = m' ((c.tc : Thread Cert.BProjNormRefIdeal.nD Cert.BProjNormRefIdeal.τ).loc Cert.BProjNormRefIdeal.main_arg0)
          ∧ r.2.mem ((c.tc : Thread Cert.BProjNormRefIdeal.nD Cert.BProjNormRefIdeal.τ).loc Cert.BProjNormRefIdeal.main_arg1) = m' ((c.tc : Thread Cert.BProjNormRefIdeal.nD Cert.BProjNormRefIdeal.τ).loc Cert.BProjNormRefIdeal.main_arg1)
          ∧ r.2.mem ((c.tc : Thread Cert.BProjNormRefIdeal.nD Cert.BProjNormRefIdeal.τ).loc Cert.BProjNormRefIdeal.main_arg2) = m' ((c.tc : Thread Cert.BProjNormRefIdeal.nD Cert.BProjNormRefIdeal.τ).loc Cert.BProjNormRefIdeal.main_arg2)
          ∧ r.2.mem ((c.tc : Thread Cert.BProjNormRefIdeal.nD Cert.BProjNormRefIdeal.τ).loc Cert.BProjNormRefIdeal.main_arg3) = m' ((c.tc : Thread Cert.BProjNormRefIdeal.nD Cert.BProjNormRefIdeal.τ).loc Cert.BProjNormRefIdeal.main_arg3)
          ∧ r.2.mem ((c.tc : Thread Cert.BProjNormRefIdeal.nD Cert.BProjNormRefIdeal.τ).loc Cert.BProjNormRefIdeal.main_arg4) = m' ((c.tc : Thread Cert.BProjNormRefIdeal.nD Cert.BProjNormRefIdeal.τ).loc Cert.BProjNormRefIdeal.main_arg4)
          ∧ r.2.mem ((c.tc : Thread Cert.BProjNormRefIdeal.nD Cert.BProjNormRefIdeal.τ).loc Cert.BProjNormRefIdeal.main_arg5) = m' ((c.tc : Thread Cert.BProjNormRefIdeal.nD Cert.BProjNormRefIdeal.τ).loc Cert.BProjNormRefIdeal.main_arg5)
          ∧ r.2.mem ((c.tc : Thread Cert.BProjNormRefIdeal.nD Cert.BProjNormRefIdeal.τ).loc Cert.BProjNormRefIdeal.main_arg6) = m' ((c.tc : Thread Cert.BProjNormRefIdeal.nD Cert.BProjNormRefIdeal.τ).loc Cert.BProjNormRefIdeal.main_arg6))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v1_0)) (v2 : (c : Dev Cert.LossHeadIdeal.nD) → Buf (Elt Ideal) ((c.tc : Thread Cert.LossHeadIdeal.nD Cert.LossHeadIdeal.τ).loc Cert.LossHeadIdeal.main_v5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v1_0) = v1 c
          ∧ r.2.mem ((c.tc : Thread Cert.LossHeadIdeal.nD Cert.LossHeadIdeal.τ).loc Cert.LossHeadIdeal.main_v5) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v24) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_BNorm_BNormIdeal : Prop :=
  True

def algebraic_BNormIdeal_BNormRefIdeal_pre_ln_finite [hBNormIdeal : Cert.BNormIdeal.Facts] [hBNormRefIdeal : Cert.BNormRefIdeal.Facts] [hPre_ln_finite : Cert.Pre_ln_finite.Facts] : Prop :=
  ∀ (m : (ℓ : Loc Cert.BNormIdeal.nD Cert.BNormIdeal.τ Cert.BNormIdeal.sig) → Buf (Elt Ideal) ℓ) (g : Dev Cert.BNormIdeal.nD → PrngReg)
    (m' : (ℓ : Loc Cert.BNormRefIdeal.nD Cert.BNormRefIdeal.τ Cert.BNormRefIdeal.sig) → Buf (Elt Ideal) ℓ) (g' : Dev Cert.BNormRefIdeal.nD → PrngReg), Pre_BNormIdeal_ln_finite m →
    (∀ c : Dev Cert.BNormIdeal.nD,
      m' ((c.tc : Thread Cert.BNormRefIdeal.nD Cert.BNormRefIdeal.τ).loc Cert.BNormRefIdeal.main_arg0) = m ((c.tc : Thread Cert.BNormIdeal.nD Cert.BNormIdeal.τ).loc Cert.BNormIdeal.main_arg0)
      ∧ m' ((c.tc : Thread Cert.BNormRefIdeal.nD Cert.BNormRefIdeal.τ).loc Cert.BNormRefIdeal.main_arg1) = m ((c.tc : Thread Cert.BNormIdeal.nD Cert.BNormIdeal.τ).loc Cert.BNormIdeal.main_arg1)
      ∧ m' ((c.tc : Thread Cert.BNormRefIdeal.nD Cert.BNormRefIdeal.τ).loc Cert.BNormRefIdeal.main_arg2) = m ((c.tc : Thread Cert.BNormIdeal.nD Cert.BNormIdeal.τ).loc Cert.BNormIdeal.main_arg2)
      ∧ m' ((c.tc : Thread Cert.BNormRefIdeal.nD Cert.BNormRefIdeal.τ).loc Cert.BNormRefIdeal.main_arg3) = m ((c.tc : Thread Cert.BNormIdeal.nD Cert.BNormIdeal.τ).loc Cert.BNormIdeal.main_arg3)
      ∧ m' ((c.tc : Thread Cert.BNormRefIdeal.nD Cert.BNormRefIdeal.τ).loc Cert.BNormRefIdeal.main_arg4) = m ((c.tc : Thread Cert.BNormIdeal.nD Cert.BNormIdeal.τ).loc Cert.BNormIdeal.main_arg4)) →
    ∃ (v0 : (c : Dev Cert.BNormIdeal.nD) → Buf (Elt Ideal) ((c.tc : Thread Cert.BNormIdeal.nD Cert.BNormIdeal.τ).loc Cert.BNormIdeal.main_v3_0)) (v1 : (c : Dev Cert.BNormIdeal.nD) → Buf (Elt Ideal) ((c.tc : Thread Cert.BNormIdeal.nD Cert.BNormIdeal.τ).loc Cert.BNormIdeal.main_v4)) (v2 : (c : Dev Cert.BNormIdeal.nD) → Buf (Elt Ideal) ((c.tc : Thread Cert.BNormIdeal.nD Cert.BNormIdeal.τ).loc Cert.BNormIdeal.main_v5)) (v3 : (c : Dev Cert.BNormIdeal.nD) → Buf (Elt Ideal) ((c.tc : Thread Cert.BNormIdeal.nD Cert.BNormIdeal.τ).loc Cert.BNormIdeal.main_v6)),
      θ_run (Cert.BNormIdeal.defs (F := Ideal)) (onTc (τ := Cert.BNormIdeal.τ) (Cert.BNormIdeal.main (F := Ideal))) ⟨m, fun _ => 0, g⟩ (fun r => ∀ c : Dev Cert.BNormIdeal.nD,
          r.2.mem ((c.tc : Thread Cert.BNormIdeal.nD Cert.BNormIdeal.τ).loc Cert.BNormIdeal.main_v3_0) = v0 c
          ∧ r.2.mem ((c.tc : Thread Cert.BNormIdeal.nD Cert.BNormIdeal.τ).loc Cert.BNormIdeal.main_v4) = v1 c
          ∧ r.2.mem ((c.tc : Thread Cert.BNormIdeal.nD Cert.BNormIdeal.τ).loc Cert.BNormIdeal.main_v5) = v2 c
          ∧ r.2.mem ((c.tc : Thread Cert.BNormIdeal.nD Cert.BNormIdeal.τ).loc Cert.BNormIdeal.main_v6) = v3 c
          ∧ r.2.mem ((c.tc : Thread Cert.BNormIdeal.nD Cert.BNormIdeal.τ).loc Cert.BNormIdeal.main_arg0) = m ((c.tc : Thread Cert.BNormIdeal.nD Cert.BNormIdeal.τ).loc Cert.BNormIdeal.main_arg0)
          ∧ r.2.mem ((c.tc : Thread Cert.BNormIdeal.nD Cert.BNormIdeal.τ).loc Cert.BNormIdeal.main_arg1) = m ((c.tc : Thread Cert.BNormIdeal.nD Cert.BNormIdeal.τ).loc Cert.BNormIdeal.main_arg1)
          ∧ r.2.mem ((c.tc : Thread Cert.BNormIdeal.nD Cert.BNormIdeal.τ).loc Cert.BNormIdeal.main_arg2) = m ((c.tc : Thread Cert.BNormIdeal.nD Cert.BNormIdeal.τ).loc Cert.BNormIdeal.main_arg2)
          ∧ r.2.mem ((c.tc : Thread Cert.BNormIdeal.nD Cert.BNormIdeal.τ).loc Cert.BNormIdeal.main_arg3) = m ((c.tc : Thread Cert.BNormIdeal.nD Cert.BNormIdeal.τ).loc Cert.BNormIdeal.main_arg3)
          ∧ r.2.mem ((c.tc : Thread Cert.BNormIdeal.nD Cert.BNormIdeal.τ).loc Cert.BNormIdeal.main_arg4) = m ((c.tc : Thread Cert.BNormIdeal.nD Cert.BNormIdeal.τ).loc Cert.BNormIdeal.main_arg4))
      ∧ θ_run (Cert.BNormRefIdeal.defs (F := Ideal)) (onTc (τ := Cert.BNormRefIdeal.τ) (Cert.BNormRefIdeal.main (F := Ideal))) ⟨m', fun _ => 0, g'⟩ (fun r => ∀ c : Dev Cert.BNormRefIdeal.nD,
          r.2.mem ((c.tc : Thread Cert.BNormRefIdeal.nD Cert.BNormRefIdeal.τ).loc Cert.BNormRefIdeal.main_v64) = v0 c
          ∧ r.2.mem ((c.tc : Thread Cert.BNormRefIdeal.nD Cert.BNormRefIdeal.τ).loc Cert.BNormRefIdeal.main_v35) = v1 c
          ∧ r.2.mem ((c.tc : Thread Cert.BNormRefIdeal.nD Cert.BNormRefIdeal.τ).loc Cert.BNormRefIdeal.main_v32) = v2 c
          ∧ r.2.mem ((c.tc : Thread Cert.BNormRefIdeal.nD Cert.BNormRefIdeal.τ).loc Cert.BNormRefIdeal.main_v63) = v3 c
          ∧ r.2.mem ((c.tc : Thread Cert.BNormRefIdeal.nD Cert.BNormRefIdeal.τ).loc Cert.BNormRefIdeal.main_arg0) = m' ((c.tc : Thread Cert.BNormRefIdeal.nD Cert.BNormRefIdeal.τ).loc Cert.BNormRefIdeal.main_arg0)
          ∧ r.2.mem ((c.tc : Thread Cert.BNormRefIdeal.nD Cert.BNormRefIdeal.τ).loc Cert.BNormRefIdeal.main_arg1) = m' ((c.tc : Thread Cert.BNormRefIdeal.nD Cert.BNormRefIdeal.τ).loc Cert.BNormRefIdeal.main_arg1)
          ∧ r.2.mem ((c.tc : Thread Cert.BNormRefIdeal.nD Cert.BNormRefIdeal.τ).loc Cert.BNormRefIdeal.main_arg2) = m' ((c.tc : Thread Cert.BNormRefIdeal.nD Cert.BNormRefIdeal.τ).loc Cert.BNormRefIdeal.main_arg2)
          ∧ r.2.mem ((c.tc : Thread Cert.BNormRefIdeal.nD Cert.BNormRefIdeal.τ).loc Cert.BNormRefIdeal.main_arg3) = m' ((c.tc : Thread Cert.BNormRefIdeal.nD Cert.BNormRefIdeal.τ).loc Cert.BNormRefIdeal.main_arg3)
          ∧ r.2.mem ((c.tc : Thread Cert.BNormRefIdeal.nD Cert.BNormRefIdeal.τ).loc Cert.BNormRefIdeal.main_arg4) = m' ((c.tc : Thread Cert.BNormRefIdeal.nD Cert.BNormRefIdeal.τ).loc Cert.BNormRefIdeal.main_arg4))

def preserves_FGate_FGateIdeal : Prop :=
  True

def algebraic_FGateIdeal_FGateRefIdeal_pre_f_finite [hFGateIdeal : Cert.FGateIdeal.Facts] [hFGateRefIdeal : Cert.FGateRefIdeal.Facts] [hPre_f_finite : Cert.Pre_f_finite.Facts] : Prop :=
  ∀ (m : (ℓ : Loc Cert.FGateIdeal.nD Cert.FGateIdeal.τ Cert.FGateIdeal.sig) → Buf (Elt Ideal) ℓ) (g : Dev Cert.FGateIdeal.nD → PrngReg)
    (m' : (ℓ : Loc Cert.FGateRefIdeal.nD Cert.FGateRefIdeal.τ Cert.FGateRefIdeal.sig) → Buf (Elt Ideal) ℓ) (g' : Dev Cert.FGateRefIdeal.nD → PrngReg), Pre_FGateIdeal_f_finite m →
    (∀ c : Dev Cert.FGateIdeal.nD,
      m' ((c.tc : Thread Cert.FGateRefIdeal.nD Cert.FGateRefIdeal.τ).loc Cert.FGateRefIdeal.main_arg0) = m ((c.tc : Thread Cert.FGateIdeal.nD Cert.FGateIdeal.τ).loc Cert.FGateIdeal.main_arg0)
      ∧ m' ((c.tc : Thread Cert.FGateRefIdeal.nD Cert.FGateRefIdeal.τ).loc Cert.FGateRefIdeal.main_arg1) = m ((c.tc : Thread Cert.FGateIdeal.nD Cert.FGateIdeal.τ).loc Cert.FGateIdeal.main_arg1)
      ∧ m' ((c.tc : Thread Cert.FGateRefIdeal.nD Cert.FGateRefIdeal.τ).loc Cert.FGateRefIdeal.main_arg2) = m ((c.tc : Thread Cert.FGateIdeal.nD Cert.FGateIdeal.τ).loc Cert.FGateIdeal.main_arg2)
      ∧ m' ((c.tc : Thread Cert.FGateRefIdeal.nD Cert.FGateRefIdeal.τ).loc Cert.FGateRefIdeal.main_arg3) = m ((c.tc : Thread Cert.FGateIdeal.nD Cert.FGateIdeal.τ).loc Cert.FGateIdeal.main_arg3)
      ∧ m' ((c.tc : Thread Cert.FGateRefIdeal.nD Cert.FGateRefIdeal.τ).loc Cert.FGateRefIdeal.main_arg4) = m ((c.tc : Thread Cert.FGateIdeal.nD Cert.FGateIdeal.τ).loc Cert.FGateIdeal.main_arg4)) →
    ∃ (v0 : (c : Dev Cert.FGateIdeal.nD) → Buf (Elt Ideal) ((c.tc : Thread Cert.FGateIdeal.nD Cert.FGateIdeal.τ).loc Cert.FGateIdeal.main_v8_0)) (v1 : (c : Dev Cert.FGateIdeal.nD) → Buf (Elt Ideal) ((c.tc : Thread Cert.FGateIdeal.nD Cert.FGateIdeal.τ).loc Cert.FGateIdeal.main_v8_1)) (v2 : (c : Dev Cert.FGateIdeal.nD) → Buf (Elt Ideal) ((c.tc : Thread Cert.FGateIdeal.nD Cert.FGateIdeal.τ).loc Cert.FGateIdeal.main_v9_0)) (v3 : (c : Dev Cert.FGateIdeal.nD) → Buf (Elt Ideal) ((c.tc : Thread Cert.FGateIdeal.nD Cert.FGateIdeal.τ).loc Cert.FGateIdeal.main_v12)) (v4 : (c : Dev Cert.FGateIdeal.nD) → Buf (Elt Ideal) ((c.tc : Thread Cert.FGateIdeal.nD Cert.FGateIdeal.τ).loc Cert.FGateIdeal.main_v9_2)) (v5 : (c : Dev Cert.FGateIdeal.nD) → Buf (Elt Ideal) ((c.tc : Thread Cert.FGateIdeal.nD Cert.FGateIdeal.τ).loc Cert.FGateIdeal.main_v9_3)),
      θ_run (Cert.FGateIdeal.defs (F := Ideal)) (onTc (τ := Cert.FGateIdeal.τ) (Cert.FGateIdeal.main (F := Ideal))) ⟨m, fun _ => 0, g⟩ (fun r => ∀ c : Dev Cert.FGateIdeal.nD,
          r.2.mem ((c.tc : Thread Cert.FGateIdeal.nD Cert.FGateIdeal.τ).loc Cert.FGateIdeal.main_v8_0) = v0 c
          ∧ r.2.mem ((c.tc : Thread Cert.FGateIdeal.nD Cert.FGateIdeal.τ).loc Cert.FGateIdeal.main_v8_1) = v1 c
          ∧ r.2.mem ((c.tc : Thread Cert.FGateIdeal.nD Cert.FGateIdeal.τ).loc Cert.FGateIdeal.main_v9_0) = v2 c
          ∧ r.2.mem ((c.tc : Thread Cert.FGateIdeal.nD Cert.FGateIdeal.τ).loc Cert.FGateIdeal.main_v12) = v3 c
          ∧ r.2.mem ((c.tc : Thread Cert.FGateIdeal.nD Cert.FGateIdeal.τ).loc Cert.FGateIdeal.main_v9_2) = v4 c
          ∧ r.2.mem ((c.tc : Thread Cert.FGateIdeal.nD Cert.FGateIdeal.τ).loc Cert.FGateIdeal.main_v9_3) = v5 c
          ∧ r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
          ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
          ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
          ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3)
          ∧ r.2.mem ((c.tc : Thread Cert.FGateIdeal.nD Cert.FGateIdeal.τ).loc Cert.FGateIdeal.main_arg4) = m ((c.tc : Thread Cert.FGateIdeal.nD Cert.FGateIdeal.τ).loc Cert.FGateIdeal.main_arg4))
      ∧ θ_run (Cert.FGateRefIdeal.defs (F := Ideal)) (onTc (τ := Cert.FGateRefIdeal.τ) (Cert.FGateRefIdeal.main (F := Ideal))) ⟨m', fun _ => 0, g'⟩ (fun r => ∀ c : Dev Cert.FGateRefIdeal.nD,
          r.2.mem ((c.tc : Thread Cert.FGateRefIdeal.nD Cert.FGateRefIdeal.τ).loc Cert.FGateRefIdeal.main_v31) = v0 c
          ∧ r.2.mem ((c.tc : Thread Cert.FGateRefIdeal.nD Cert.FGateRefIdeal.τ).loc Cert.FGateRefIdeal.main_v7) = v1 c
          ∧ r.2.mem ((c.tc : Thread Cert.FGateRefIdeal.nD Cert.FGateRefIdeal.τ).loc Cert.FGateRefIdeal.main_v32) = v2 c
          ∧ r.2.mem ((c.tc : Thread Cert.FGateRefIdeal.nD Cert.FGateRefIdeal.τ).loc Cert.FGateRefIdeal.main_v13) = v3 c
          ∧ r.2.mem ((c.tc : Thread Cert.FGateRefIdeal.nD Cert.FGateRefIdeal.τ).loc Cert.FGateRefIdeal.main_v38) = v4 c
          ∧ r.2.mem ((c.tc : Thread Cert.FGateRefIdeal.nD Cert.FGateRefIdeal.τ).loc Cert.FGateRefIdeal.main_v39) = v5 c
          ∧ r.2.mem ((c.tc : Thread Cert.FGateRefIdeal.nD Cert.FGateRefIdeal.τ).loc Cert.FGateRefIdeal.main_arg0) = m' ((c.tc : Thread Cert.FGateRefIdeal.nD Cert.FGateRefIdeal.τ).loc Cert.FGateRefIdeal.main_arg0)
          ∧ r.2.mem ((c.tc : Thread Cert.FGateRefIdeal.nD Cert.FGateRefIdeal.τ).loc Cert.FGateRefIdeal.main_arg1) = m' ((c.tc : Thread Cert.FGateRefIdeal.nD Cert.FGateRefIdeal.τ).loc Cert.FGateRefIdeal.main_arg1)
          ∧ r.2.mem ((c.tc : Thread Cert.FGateRefIdeal.nD Cert.FGateRefIdeal.τ).loc Cert.FGateRefIdeal.main_arg2) = m' ((c.tc : Thread Cert.FGateRefIdeal.nD Cert.FGateRefIdeal.τ).loc Cert.FGateRefIdeal.main_arg2)
          ∧ r.2.mem ((c.tc : Thread Cert.FGateRefIdeal.nD Cert.FGateRefIdeal.τ).loc Cert.FGateRefIdeal.main_arg3) = m' ((c.tc : Thread Cert.FGateRefIdeal.nD Cert.FGateRefIdeal.τ).loc Cert.FGateRefIdeal.main_arg3)
          ∧ r.2.mem ((c.tc : Thread Cert.FGateRefIdeal.nD Cert.FGateRefIdeal.τ).loc Cert.FGateRefIdeal.main_arg4) = m' ((c.tc : Thread Cert.FGateRefIdeal.nD Cert.FGateRefIdeal.τ).loc Cert.FGateRefIdeal.main_arg4))

def preserves_AGate_AGateIdeal : Prop :=
  True

def algebraic_AGateIdeal_AGateRefIdeal [hAGateIdeal : Cert.AGateIdeal.Facts] [hAGateRefIdeal : Cert.AGateRefIdeal.Facts] : Prop :=
  ∀ (m : (ℓ : Loc Cert.AGateIdeal.nD Cert.AGateIdeal.τ Cert.AGateIdeal.sig) → Buf (Elt Ideal) ℓ) (g : Dev Cert.AGateIdeal.nD → PrngReg)
    (m' : (ℓ : Loc Cert.AGateRefIdeal.nD Cert.AGateRefIdeal.τ Cert.AGateRefIdeal.sig) → Buf (Elt Ideal) ℓ) (g' : Dev Cert.AGateRefIdeal.nD → PrngReg), Pre_AGateIdeal m →
    (∀ c : Dev Cert.AGateIdeal.nD,
      m' ((c.tc : Thread Cert.AGateRefIdeal.nD Cert.AGateRefIdeal.τ).loc Cert.AGateRefIdeal.main_arg0) = m ((c.tc : Thread Cert.AGateIdeal.nD Cert.AGateIdeal.τ).loc Cert.AGateIdeal.main_arg0)
      ∧ m' ((c.tc : Thread Cert.AGateRefIdeal.nD Cert.AGateRefIdeal.τ).loc Cert.AGateRefIdeal.main_arg1) = m ((c.tc : Thread Cert.AGateIdeal.nD Cert.AGateIdeal.τ).loc Cert.AGateIdeal.main_arg1)
      ∧ m' ((c.tc : Thread Cert.AGateRefIdeal.nD Cert.AGateRefIdeal.τ).loc Cert.AGateRefIdeal.main_arg2) = m ((c.tc : Thread Cert.AGateIdeal.nD Cert.AGateIdeal.τ).loc Cert.AGateIdeal.main_arg2)
      ∧ m' ((c.tc : Thread Cert.AGateRefIdeal.nD Cert.AGateRefIdeal.τ).loc Cert.AGateRefIdeal.main_arg3) = m ((c.tc : Thread Cert.AGateIdeal.nD Cert.AGateIdeal.τ).loc Cert.AGateIdeal.main_arg3)
      ∧ m' ((c.tc : Thread Cert.AGateRefIdeal.nD Cert.AGateRefIdeal.τ).loc Cert.AGateRefIdeal.main_arg4) = m ((c.tc : Thread Cert.AGateIdeal.nD Cert.AGateIdeal.τ).loc Cert.AGateIdeal.main_arg4)) →
    ∃ (v0 : (c : Dev Cert.AGateIdeal.nD) → Buf (Elt Ideal) ((c.tc : Thread Cert.AGateIdeal.nD Cert.AGateIdeal.τ).loc Cert.AGateIdeal.main_v2_0)) (v1 : (c : Dev Cert.AGateIdeal.nD) → Buf (Elt Ideal) ((c.tc : Thread Cert.AGateIdeal.nD Cert.AGateIdeal.τ).loc Cert.AGateIdeal.main_v2_1)) (v2 : (c : Dev Cert.AGateIdeal.nD) → Buf (Elt Ideal) ((c.tc : Thread Cert.AGateIdeal.nD Cert.AGateIdeal.τ).loc Cert.AGateIdeal.main_v3_0)) (v3 : (c : Dev Cert.AGateIdeal.nD) → Buf (Elt Ideal) ((c.tc : Thread Cert.AGateIdeal.nD Cert.AGateIdeal.τ).loc Cert.AGateIdeal.main_v4)) (v4 : (c : Dev Cert.AGateIdeal.nD) → Buf (Elt Ideal) ((c.tc : Thread Cert.AGateIdeal.nD Cert.AGateIdeal.τ).loc Cert.AGateIdeal.main_v3_2)),
      θ_run (Cert.AGateIdeal.defs (F := Ideal)) (onTc (τ := Cert.AGateIdeal.τ) (Cert.AGateIdeal.main (F := Ideal))) ⟨m, fun _ => 0, g⟩ (fun r => ∀ c : Dev Cert.AGateIdeal.nD,
          r.2.mem ((c.tc : Thread Cert.AGateIdeal.nD Cert.AGateIdeal.τ).loc Cert.AGateIdeal.main_v2_0) = v0 c
          ∧ r.2.mem ((c.tc : Thread Cert.AGateIdeal.nD Cert.AGateIdeal.τ).loc Cert.AGateIdeal.main_v2_1) = v1 c
          ∧ r.2.mem ((c.tc : Thread Cert.AGateIdeal.nD Cert.AGateIdeal.τ).loc Cert.AGateIdeal.main_v3_0) = v2 c
          ∧ r.2.mem ((c.tc : Thread Cert.AGateIdeal.nD Cert.AGateIdeal.τ).loc Cert.AGateIdeal.main_v4) = v3 c
          ∧ r.2.mem ((c.tc : Thread Cert.AGateIdeal.nD Cert.AGateIdeal.τ).loc Cert.AGateIdeal.main_v3_2) = v4 c
          ∧ r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
          ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
          ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
          ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3)
          ∧ r.2.mem ((c.tc : Thread Cert.AGateIdeal.nD Cert.AGateIdeal.τ).loc Cert.AGateIdeal.main_arg4) = m ((c.tc : Thread Cert.AGateIdeal.nD Cert.AGateIdeal.τ).loc Cert.AGateIdeal.main_arg4))
      ∧ θ_run (Cert.AGateRefIdeal.defs (F := Ideal)) (onTc (τ := Cert.AGateRefIdeal.τ) (Cert.AGateRefIdeal.main (F := Ideal))) ⟨m', fun _ => 0, g'⟩ (fun r => ∀ c : Dev Cert.AGateRefIdeal.nD,
          r.2.mem ((c.tc : Thread Cert.AGateRefIdeal.nD Cert.AGateRefIdeal.τ).loc Cert.AGateRefIdeal.main_v22) = v0 c
          ∧ r.2.mem ((c.tc : Thread Cert.AGateRefIdeal.nD Cert.AGateRefIdeal.τ).loc Cert.AGateRefIdeal.main_v4) = v1 c
          ∧ r.2.mem ((c.tc : Thread Cert.AGateRefIdeal.nD Cert.AGateRefIdeal.τ).loc Cert.AGateRefIdeal.main_v23) = v2 c
          ∧ r.2.mem ((c.tc : Thread Cert.AGateRefIdeal.nD Cert.AGateRefIdeal.τ).loc Cert.AGateRefIdeal.main_v10) = v3 c
          ∧ r.2.mem ((c.tc : Thread Cert.AGateRefIdeal.nD Cert.AGateRefIdeal.τ).loc Cert.AGateRefIdeal.main_v24) = v4 c
          ∧ r.2.mem ((c.tc : Thread Cert.AGateRefIdeal.nD Cert.AGateRefIdeal.τ).loc Cert.AGateRefIdeal.main_arg0) = m' ((c.tc : Thread Cert.AGateRefIdeal.nD Cert.AGateRefIdeal.τ).loc Cert.AGateRefIdeal.main_arg0)
          ∧ r.2.mem ((c.tc : Thread Cert.AGateRefIdeal.nD Cert.AGateRefIdeal.τ).loc Cert.AGateRefIdeal.main_arg1) = m' ((c.tc : Thread Cert.AGateRefIdeal.nD Cert.AGateRefIdeal.τ).loc Cert.AGateRefIdeal.main_arg1)
          ∧ r.2.mem ((c.tc : Thread Cert.AGateRefIdeal.nD Cert.AGateRefIdeal.τ).loc Cert.AGateRefIdeal.main_arg2) = m' ((c.tc : Thread Cert.AGateRefIdeal.nD Cert.AGateRefIdeal.τ).loc Cert.AGateRefIdeal.main_arg2)
          ∧ r.2.mem ((c.tc : Thread Cert.AGateRefIdeal.nD Cert.AGateRefIdeal.τ).loc Cert.AGateRefIdeal.main_arg3) = m' ((c.tc : Thread Cert.AGateRefIdeal.nD Cert.AGateRefIdeal.τ).loc Cert.AGateRefIdeal.main_arg3)
          ∧ r.2.mem ((c.tc : Thread Cert.AGateRefIdeal.nD Cert.AGateRefIdeal.τ).loc Cert.AGateRefIdeal.main_arg4) = m' ((c.tc : Thread Cert.AGateRefIdeal.nD Cert.AGateRefIdeal.τ).loc Cert.AGateRefIdeal.main_arg4))

def preserves_BGate_BGateIdeal : Prop :=
  True

def algebraic_BGateIdeal_BGateRefIdeal [hBGateIdeal : Cert.BGateIdeal.Facts] [hBGateRefIdeal : Cert.BGateRefIdeal.Facts] : Prop :=
  ∀ (m : (ℓ : Loc Cert.BGateIdeal.nD Cert.BGateIdeal.τ Cert.BGateIdeal.sig) → Buf (Elt Ideal) ℓ) (g : Dev Cert.BGateIdeal.nD → PrngReg)
    (m' : (ℓ : Loc Cert.BGateRefIdeal.nD Cert.BGateRefIdeal.τ Cert.BGateRefIdeal.sig) → Buf (Elt Ideal) ℓ) (g' : Dev Cert.BGateRefIdeal.nD → PrngReg), Pre_BGateIdeal m →
    (∀ c : Dev Cert.BGateIdeal.nD,
      m' ((c.tc : Thread Cert.BGateRefIdeal.nD Cert.BGateRefIdeal.τ).loc Cert.BGateRefIdeal.main_arg0) = m ((c.tc : Thread Cert.BGateIdeal.nD Cert.BGateIdeal.τ).loc Cert.BGateIdeal.main_arg0)
      ∧ m' ((c.tc : Thread Cert.BGateRefIdeal.nD Cert.BGateRefIdeal.τ).loc Cert.BGateRefIdeal.main_arg1) = m ((c.tc : Thread Cert.BGateIdeal.nD Cert.BGateIdeal.τ).loc Cert.BGateIdeal.main_arg1)
      ∧ m' ((c.tc : Thread Cert.BGateRefIdeal.nD Cert.BGateRefIdeal.τ).loc Cert.BGateRefIdeal.main_arg2) = m ((c.tc : Thread Cert.BGateIdeal.nD Cert.BGateIdeal.τ).loc Cert.BGateIdeal.main_arg2)
      ∧ m' ((c.tc : Thread Cert.BGateRefIdeal.nD Cert.BGateRefIdeal.τ).loc Cert.BGateRefIdeal.main_arg3) = m ((c.tc : Thread Cert.BGateIdeal.nD Cert.BGateIdeal.τ).loc Cert.BGateIdeal.main_arg3)
      ∧ m' ((c.tc : Thread Cert.BGateRefIdeal.nD Cert.BGateRefIdeal.τ).loc Cert.BGateRefIdeal.main_arg4) = m ((c.tc : Thread Cert.BGateIdeal.nD Cert.BGateIdeal.τ).loc Cert.BGateIdeal.main_arg4)
      ∧ m' ((c.tc : Thread Cert.BGateRefIdeal.nD Cert.BGateRefIdeal.τ).loc Cert.BGateRefIdeal.main_arg5) = m ((c.tc : Thread Cert.BGateIdeal.nD Cert.BGateIdeal.τ).loc Cert.BGateIdeal.main_arg5)
      ∧ m' ((c.tc : Thread Cert.BGateRefIdeal.nD Cert.BGateRefIdeal.τ).loc Cert.BGateRefIdeal.main_arg6) = m ((c.tc : Thread Cert.BGateIdeal.nD Cert.BGateIdeal.τ).loc Cert.BGateIdeal.main_arg6)
      ∧ m' ((c.tc : Thread Cert.BGateRefIdeal.nD Cert.BGateRefIdeal.τ).loc Cert.BGateRefIdeal.main_arg7) = m ((c.tc : Thread Cert.BGateIdeal.nD Cert.BGateIdeal.τ).loc Cert.BGateIdeal.main_arg7)) →
    ∃ (v0 : (c : Dev Cert.BGateIdeal.nD) → Buf (Elt Ideal) ((c.tc : Thread Cert.BGateIdeal.nD Cert.BGateIdeal.τ).loc Cert.BGateIdeal.main_v1_0)) (v1 : (c : Dev Cert.BGateIdeal.nD) → Buf (Elt Ideal) ((c.tc : Thread Cert.BGateIdeal.nD Cert.BGateIdeal.τ).loc Cert.BGateIdeal.main_v1_1)) (v2 : (c : Dev Cert.BGateIdeal.nD) → Buf (Elt Ideal) ((c.tc : Thread Cert.BGateIdeal.nD Cert.BGateIdeal.τ).loc Cert.BGateIdeal.main_v1_2)) (v3 : (c : Dev Cert.BGateIdeal.nD) → Buf (Elt Ideal) ((c.tc : Thread Cert.BGateIdeal.nD Cert.BGateIdeal.τ).loc Cert.BGateIdeal.main_v2_0)) (v4 : (c : Dev Cert.BGateIdeal.nD) → Buf (Elt Ideal) ((c.tc : Thread Cert.BGateIdeal.nD Cert.BGateIdeal.τ).loc Cert.BGateIdeal.main_v3)) (v5 : (c : Dev Cert.BGateIdeal.nD) → Buf (Elt Ideal) ((c.tc : Thread Cert.BGateIdeal.nD Cert.BGateIdeal.τ).loc Cert.BGateIdeal.main_v4)) (v6 : (c : Dev Cert.BGateIdeal.nD) → Buf (Elt Ideal) ((c.tc : Thread Cert.BGateIdeal.nD Cert.BGateIdeal.τ).loc Cert.BGateIdeal.main_v2_3)),
      θ_run (Cert.BGateIdeal.defs (F := Ideal)) (onTc (τ := Cert.BGateIdeal.τ) (Cert.BGateIdeal.main (F := Ideal))) ⟨m, fun _ => 0, g⟩ (fun r => ∀ c : Dev Cert.BGateIdeal.nD,
          r.2.mem ((c.tc : Thread Cert.BGateIdeal.nD Cert.BGateIdeal.τ).loc Cert.BGateIdeal.main_v1_0) = v0 c
          ∧ r.2.mem ((c.tc : Thread Cert.BGateIdeal.nD Cert.BGateIdeal.τ).loc Cert.BGateIdeal.main_v1_1) = v1 c
          ∧ r.2.mem ((c.tc : Thread Cert.BGateIdeal.nD Cert.BGateIdeal.τ).loc Cert.BGateIdeal.main_v1_2) = v2 c
          ∧ r.2.mem ((c.tc : Thread Cert.BGateIdeal.nD Cert.BGateIdeal.τ).loc Cert.BGateIdeal.main_v2_0) = v3 c
          ∧ r.2.mem ((c.tc : Thread Cert.BGateIdeal.nD Cert.BGateIdeal.τ).loc Cert.BGateIdeal.main_v3) = v4 c
          ∧ r.2.mem ((c.tc : Thread Cert.BGateIdeal.nD Cert.BGateIdeal.τ).loc Cert.BGateIdeal.main_v4) = v5 c
          ∧ r.2.mem ((c.tc : Thread Cert.BGateIdeal.nD Cert.BGateIdeal.τ).loc Cert.BGateIdeal.main_v2_3) = v6 c
          ∧ r.2.mem ((c.tc : Thread Cert.BGateIdeal.nD Cert.BGateIdeal.τ).loc Cert.BGateIdeal.main_arg0) = m ((c.tc : Thread Cert.BGateIdeal.nD Cert.BGateIdeal.τ).loc Cert.BGateIdeal.main_arg0)
          ∧ r.2.mem ((c.tc : Thread Cert.BGateIdeal.nD Cert.BGateIdeal.τ).loc Cert.BGateIdeal.main_arg1) = m ((c.tc : Thread Cert.BGateIdeal.nD Cert.BGateIdeal.τ).loc Cert.BGateIdeal.main_arg1)
          ∧ r.2.mem ((c.tc : Thread Cert.BGateIdeal.nD Cert.BGateIdeal.τ).loc Cert.BGateIdeal.main_arg2) = m ((c.tc : Thread Cert.BGateIdeal.nD Cert.BGateIdeal.τ).loc Cert.BGateIdeal.main_arg2)
          ∧ r.2.mem ((c.tc : Thread Cert.BGateIdeal.nD Cert.BGateIdeal.τ).loc Cert.BGateIdeal.main_arg3) = m ((c.tc : Thread Cert.BGateIdeal.nD Cert.BGateIdeal.τ).loc Cert.BGateIdeal.main_arg3)
          ∧ r.2.mem ((c.tc : Thread Cert.BGateIdeal.nD Cert.BGateIdeal.τ).loc Cert.BGateIdeal.main_arg4) = m ((c.tc : Thread Cert.BGateIdeal.nD Cert.BGateIdeal.τ).loc Cert.BGateIdeal.main_arg4)
          ∧ r.2.mem ((c.tc : Thread Cert.BGateIdeal.nD Cert.BGateIdeal.τ).loc Cert.BGateIdeal.main_arg5) = m ((c.tc : Thread Cert.BGateIdeal.nD Cert.BGateIdeal.τ).loc Cert.BGateIdeal.main_arg5)
          ∧ r.2.mem ((c.tc : Thread Cert.BGateIdeal.nD Cert.BGateIdeal.τ).loc Cert.BGateIdeal.main_arg6) = m ((c.tc : Thread Cert.BGateIdeal.nD Cert.BGateIdeal.τ).loc Cert.BGateIdeal.main_arg6)
          ∧ r.2.mem ((c.tc : Thread Cert.BGateIdeal.nD Cert.BGateIdeal.τ).loc Cert.BGateIdeal.main_arg7) = m ((c.tc : Thread Cert.BGateIdeal.nD Cert.BGateIdeal.τ).loc Cert.BGateIdeal.main_arg7))
      ∧ θ_run (Cert.BGateRefIdeal.defs (F := Ideal)) (onTc (τ := Cert.BGateRefIdeal.τ) (Cert.BGateRefIdeal.main (F := Ideal))) ⟨m', fun _ => 0, g'⟩ (fun r => ∀ c : Dev Cert.BGateRefIdeal.nD,
          r.2.mem ((c.tc : Thread Cert.BGateRefIdeal.nD Cert.BGateRefIdeal.τ).loc Cert.BGateRefIdeal.main_v51) = v0 c
          ∧ r.2.mem ((c.tc : Thread Cert.BGateRefIdeal.nD Cert.BGateRefIdeal.τ).loc Cert.BGateRefIdeal.main_v52) = v1 c
          ∧ r.2.mem ((c.tc : Thread Cert.BGateRefIdeal.nD Cert.BGateRefIdeal.τ).loc Cert.BGateRefIdeal.main_v29) = v2 c
          ∧ r.2.mem ((c.tc : Thread Cert.BGateRefIdeal.nD Cert.BGateRefIdeal.τ).loc Cert.BGateRefIdeal.main_v53) = v3 c
          ∧ r.2.mem ((c.tc : Thread Cert.BGateRefIdeal.nD Cert.BGateRefIdeal.τ).loc Cert.BGateRefIdeal.main_v35) = v4 c
          ∧ r.2.mem ((c.tc : Thread Cert.BGateRefIdeal.nD Cert.BGateRefIdeal.τ).loc Cert.BGateRefIdeal.main_v37) = v5 c
          ∧ r.2.mem ((c.tc : Thread Cert.BGateRefIdeal.nD Cert.BGateRefIdeal.τ).loc Cert.BGateRefIdeal.main_v54) = v6 c
          ∧ r.2.mem ((c.tc : Thread Cert.BGateRefIdeal.nD Cert.BGateRefIdeal.τ).loc Cert.BGateRefIdeal.main_arg0) = m' ((c.tc : Thread Cert.BGateRefIdeal.nD Cert.BGateRefIdeal.τ).loc Cert.BGateRefIdeal.main_arg0)
          ∧ r.2.mem ((c.tc : Thread Cert.BGateRefIdeal.nD Cert.BGateRefIdeal.τ).loc Cert.BGateRefIdeal.main_arg1) = m' ((c.tc : Thread Cert.BGateRefIdeal.nD Cert.BGateRefIdeal.τ).loc Cert.BGateRefIdeal.main_arg1)
          ∧ r.2.mem ((c.tc : Thread Cert.BGateRefIdeal.nD Cert.BGateRefIdeal.τ).loc Cert.BGateRefIdeal.main_arg2) = m' ((c.tc : Thread Cert.BGateRefIdeal.nD Cert.BGateRefIdeal.τ).loc Cert.BGateRefIdeal.main_arg2)
          ∧ r.2.mem ((c.tc : Thread Cert.BGateRefIdeal.nD Cert.BGateRefIdeal.τ).loc Cert.BGateRefIdeal.main_arg3) = m' ((c.tc : Thread Cert.BGateRefIdeal.nD Cert.BGateRefIdeal.τ).loc Cert.BGateRefIdeal.main_arg3)
          ∧ r.2.mem ((c.tc : Thread Cert.BGateRefIdeal.nD Cert.BGateRefIdeal.τ).loc Cert.BGateRefIdeal.main_arg4) = m' ((c.tc : Thread Cert.BGateRefIdeal.nD Cert.BGateRefIdeal.τ).loc Cert.BGateRefIdeal.main_arg4)
          ∧ r.2.mem ((c.tc : Thread Cert.BGateRefIdeal.nD Cert.BGateRefIdeal.τ).loc Cert.BGateRefIdeal.main_arg5) = m' ((c.tc : Thread Cert.BGateRefIdeal.nD Cert.BGateRefIdeal.τ).loc Cert.BGateRefIdeal.main_arg5)
          ∧ r.2.mem ((c.tc : Thread Cert.BGateRefIdeal.nD Cert.BGateRefIdeal.τ).loc Cert.BGateRefIdeal.main_arg6) = m' ((c.tc : Thread Cert.BGateRefIdeal.nD Cert.BGateRefIdeal.τ).loc Cert.BGateRefIdeal.main_arg6)
          ∧ r.2.mem ((c.tc : Thread Cert.BGateRefIdeal.nD Cert.BGateRefIdeal.τ).loc Cert.BGateRefIdeal.main_arg7) = m' ((c.tc : Thread Cert.BGateRefIdeal.nD Cert.BGateRefIdeal.τ).loc Cert.BGateRefIdeal.main_arg7))

def preserves_CGate_CGateIdeal : Prop :=
  True

def algebraic_CGateIdeal_CGateRefIdeal [hCGateIdeal : Cert.CGateIdeal.Facts] [hCGateRefIdeal : Cert.CGateRefIdeal.Facts] : Prop :=
  ∀ (m : (ℓ : Loc Cert.CGateIdeal.nD Cert.CGateIdeal.τ Cert.CGateIdeal.sig) → Buf (Elt Ideal) ℓ) (g : Dev Cert.CGateIdeal.nD → PrngReg)
    (m' : (ℓ : Loc Cert.CGateRefIdeal.nD Cert.CGateRefIdeal.τ Cert.CGateRefIdeal.sig) → Buf (Elt Ideal) ℓ) (g' : Dev Cert.CGateRefIdeal.nD → PrngReg), Pre_CGateIdeal m →
    (∀ c : Dev Cert.CGateIdeal.nD,
      m' ((c.tc : Thread Cert.CGateRefIdeal.nD Cert.CGateRefIdeal.τ).loc Cert.CGateRefIdeal.main_arg0) = m ((c.tc : Thread Cert.CGateIdeal.nD Cert.CGateIdeal.τ).loc Cert.CGateIdeal.main_arg0)
      ∧ m' ((c.tc : Thread Cert.CGateRefIdeal.nD Cert.CGateRefIdeal.τ).loc Cert.CGateRefIdeal.main_arg1) = m ((c.tc : Thread Cert.CGateIdeal.nD Cert.CGateIdeal.τ).loc Cert.CGateIdeal.main_arg1)
      ∧ m' ((c.tc : Thread Cert.CGateRefIdeal.nD Cert.CGateRefIdeal.τ).loc Cert.CGateRefIdeal.main_arg2) = m ((c.tc : Thread Cert.CGateIdeal.nD Cert.CGateIdeal.τ).loc Cert.CGateIdeal.main_arg2)
      ∧ m' ((c.tc : Thread Cert.CGateRefIdeal.nD Cert.CGateRefIdeal.τ).loc Cert.CGateRefIdeal.main_arg3) = m ((c.tc : Thread Cert.CGateIdeal.nD Cert.CGateIdeal.τ).loc Cert.CGateIdeal.main_arg3)
      ∧ m' ((c.tc : Thread Cert.CGateRefIdeal.nD Cert.CGateRefIdeal.τ).loc Cert.CGateRefIdeal.main_arg4) = m ((c.tc : Thread Cert.CGateIdeal.nD Cert.CGateIdeal.τ).loc Cert.CGateIdeal.main_arg4)
      ∧ m' ((c.tc : Thread Cert.CGateRefIdeal.nD Cert.CGateRefIdeal.τ).loc Cert.CGateRefIdeal.main_arg5) = m ((c.tc : Thread Cert.CGateIdeal.nD Cert.CGateIdeal.τ).loc Cert.CGateIdeal.main_arg5)) →
    ∃ (v0 : (c : Dev Cert.CGateIdeal.nD) → Buf (Elt Ideal) ((c.tc : Thread Cert.CGateIdeal.nD Cert.CGateIdeal.τ).loc Cert.CGateIdeal.main_v3_0)) (v1 : (c : Dev Cert.CGateIdeal.nD) → Buf (Elt Ideal) ((c.tc : Thread Cert.CGateIdeal.nD Cert.CGateIdeal.τ).loc Cert.CGateIdeal.main_v3_1)) (v2 : (c : Dev Cert.CGateIdeal.nD) → Buf (Elt Ideal) ((c.tc : Thread Cert.CGateIdeal.nD Cert.CGateIdeal.τ).loc Cert.CGateIdeal.main_v4_0)) (v3 : (c : Dev Cert.CGateIdeal.nD) → Buf (Elt Ideal) ((c.tc : Thread Cert.CGateIdeal.nD Cert.CGateIdeal.τ).loc Cert.CGateIdeal.main_v5)) (v4 : (c : Dev Cert.CGateIdeal.nD) → Buf (Elt Ideal) ((c.tc : Thread Cert.CGateIdeal.nD Cert.CGateIdeal.τ).loc Cert.CGateIdeal.main_v6)) (v5 : (c : Dev Cert.CGateIdeal.nD) → Buf (Elt Ideal) ((c.tc : Thread Cert.CGateIdeal.nD Cert.CGateIdeal.τ).loc Cert.CGateIdeal.main_v4_3)),
      θ_run (Cert.CGateIdeal.defs (F := Ideal)) (onTc (τ := Cert.CGateIdeal.τ) (Cert.CGateIdeal.main (F := Ideal))) ⟨m, fun _ => 0, g⟩ (fun r => ∀ c : Dev Cert.CGateIdeal.nD,
          r.2.mem ((c.tc : Thread Cert.CGateIdeal.nD Cert.CGateIdeal.τ).loc Cert.CGateIdeal.main_v3_0) = v0 c
          ∧ r.2.mem ((c.tc : Thread Cert.CGateIdeal.nD Cert.CGateIdeal.τ).loc Cert.CGateIdeal.main_v3_1) = v1 c
          ∧ r.2.mem ((c.tc : Thread Cert.CGateIdeal.nD Cert.CGateIdeal.τ).loc Cert.CGateIdeal.main_v4_0) = v2 c
          ∧ r.2.mem ((c.tc : Thread Cert.CGateIdeal.nD Cert.CGateIdeal.τ).loc Cert.CGateIdeal.main_v5) = v3 c
          ∧ r.2.mem ((c.tc : Thread Cert.CGateIdeal.nD Cert.CGateIdeal.τ).loc Cert.CGateIdeal.main_v6) = v4 c
          ∧ r.2.mem ((c.tc : Thread Cert.CGateIdeal.nD Cert.CGateIdeal.τ).loc Cert.CGateIdeal.main_v4_3) = v5 c
          ∧ r.2.mem ((c.tc : Thread Cert.CGateIdeal.nD Cert.CGateIdeal.τ).loc Cert.CGateIdeal.main_arg0) = m ((c.tc : Thread Cert.CGateIdeal.nD Cert.CGateIdeal.τ).loc Cert.CGateIdeal.main_arg0)
          ∧ r.2.mem ((c.tc : Thread Cert.CGateIdeal.nD Cert.CGateIdeal.τ).loc Cert.CGateIdeal.main_arg1) = m ((c.tc : Thread Cert.CGateIdeal.nD Cert.CGateIdeal.τ).loc Cert.CGateIdeal.main_arg1)
          ∧ r.2.mem ((c.tc : Thread Cert.CGateIdeal.nD Cert.CGateIdeal.τ).loc Cert.CGateIdeal.main_arg2) = m ((c.tc : Thread Cert.CGateIdeal.nD Cert.CGateIdeal.τ).loc Cert.CGateIdeal.main_arg2)
          ∧ r.2.mem ((c.tc : Thread Cert.CGateIdeal.nD Cert.CGateIdeal.τ).loc Cert.CGateIdeal.main_arg3) = m ((c.tc : Thread Cert.CGateIdeal.nD Cert.CGateIdeal.τ).loc Cert.CGateIdeal.main_arg3)
          ∧ r.2.mem ((c.tc : Thread Cert.CGateIdeal.nD Cert.CGateIdeal.τ).loc Cert.CGateIdeal.main_arg4) = m ((c.tc : Thread Cert.CGateIdeal.nD Cert.CGateIdeal.τ).loc Cert.CGateIdeal.main_arg4)
          ∧ r.2.mem ((c.tc : Thread Cert.CGateIdeal.nD Cert.CGateIdeal.τ).loc Cert.CGateIdeal.main_arg5) = m ((c.tc : Thread Cert.CGateIdeal.nD Cert.CGateIdeal.τ).loc Cert.CGateIdeal.main_arg5))
      ∧ θ_run (Cert.CGateRefIdeal.defs (F := Ideal)) (onTc (τ := Cert.CGateRefIdeal.τ) (Cert.CGateRefIdeal.main (F := Ideal))) ⟨m', fun _ => 0, g'⟩ (fun r => ∀ c : Dev Cert.CGateRefIdeal.nD,
          r.2.mem ((c.tc : Thread Cert.CGateRefIdeal.nD Cert.CGateRefIdeal.τ).loc Cert.CGateRefIdeal.main_v83) = v0 c
          ∧ r.2.mem ((c.tc : Thread Cert.CGateRefIdeal.nD Cert.CGateRefIdeal.τ).loc Cert.CGateRefIdeal.main_v21) = v1 c
          ∧ r.2.mem ((c.tc : Thread Cert.CGateRefIdeal.nD Cert.CGateRefIdeal.τ).loc Cert.CGateRefIdeal.main_v93) = v2 c
          ∧ r.2.mem ((c.tc : Thread Cert.CGateRefIdeal.nD Cert.CGateRefIdeal.τ).loc Cert.CGateRefIdeal.main_v27) = v3 c
          ∧ r.2.mem ((c.tc : Thread Cert.CGateRefIdeal.nD Cert.CGateRefIdeal.τ).loc Cert.CGateRefIdeal.main_v30) = v4 c
          ∧ r.2.mem ((c.tc : Thread Cert.CGateRefIdeal.nD Cert.CGateRefIdeal.τ).loc Cert.CGateRefIdeal.main_v94) = v5 c
          ∧ r.2.mem ((c.tc : Thread Cert.CGateRefIdeal.nD Cert.CGateRefIdeal.τ).loc Cert.CGateRefIdeal.main_arg0) = m' ((c.tc : Thread Cert.CGateRefIdeal.nD Cert.CGateRefIdeal.τ).loc Cert.CGateRefIdeal.main_arg0)
          ∧ r.2.mem ((c.tc : Thread Cert.CGateRefIdeal.nD Cert.CGateRefIdeal.τ).loc Cert.CGateRefIdeal.main_arg1) = m' ((c.tc : Thread Cert.CGateRefIdeal.nD Cert.CGateRefIdeal.τ).loc Cert.CGateRefIdeal.main_arg1)
          ∧ r.2.mem ((c.tc : Thread Cert.CGateRefIdeal.nD Cert.CGateRefIdeal.τ).loc Cert.CGateRefIdeal.main_arg2) = m' ((c.tc : Thread Cert.CGateRefIdeal.nD Cert.CGateRefIdeal.τ).loc Cert.CGateRefIdeal.main_arg2)
          ∧ r.2.mem ((c.tc : Thread Cert.CGateRefIdeal.nD Cert.CGateRefIdeal.τ).loc Cert.CGateRefIdeal.main_arg3) = m' ((c.tc : Thread Cert.CGateRefIdeal.nD Cert.CGateRefIdeal.τ).loc Cert.CGateRefIdeal.main_arg3)
          ∧ r.2.mem ((c.tc : Thread Cert.CGateRefIdeal.nD Cert.CGateRefIdeal.τ).loc Cert.CGateRefIdeal.main_arg4) = m' ((c.tc : Thread Cert.CGateRefIdeal.nD Cert.CGateRefIdeal.τ).loc Cert.CGateRefIdeal.main_arg4)
          ∧ r.2.mem ((c.tc : Thread Cert.CGateRefIdeal.nD Cert.CGateRefIdeal.τ).loc Cert.CGateRefIdeal.main_arg5) = m' ((c.tc : Thread Cert.CGateRefIdeal.nD Cert.CGateRefIdeal.τ).loc Cert.CGateRefIdeal.main_arg5))

def preserves_AStrip_AStripIdeal : Prop :=
  True

def algebraic_AStripIdeal_AStripRefIdeal [hAStripIdeal : Cert.AStripIdeal.Facts] [hAStripRefIdeal : Cert.AStripRefIdeal.Facts] : Prop :=
  ∀ (m : (ℓ : Loc Cert.AStripIdeal.nD Cert.AStripIdeal.τ Cert.AStripIdeal.sig) → Buf (Elt Ideal) ℓ) (g : Dev Cert.AStripIdeal.nD → PrngReg)
    (m' : (ℓ : Loc Cert.AStripRefIdeal.nD Cert.AStripRefIdeal.τ Cert.AStripRefIdeal.sig) → Buf (Elt Ideal) ℓ) (g' : Dev Cert.AStripRefIdeal.nD → PrngReg), Pre_AStripIdeal m →
    (∀ c : Dev Cert.AStripIdeal.nD,
      m' ((c.tc : Thread Cert.AStripRefIdeal.nD Cert.AStripRefIdeal.τ).loc Cert.AStripRefIdeal.main_arg0) = m ((c.tc : Thread Cert.AStripIdeal.nD Cert.AStripIdeal.τ).loc Cert.AStripIdeal.main_arg0)
      ∧ m' ((c.tc : Thread Cert.AStripRefIdeal.nD Cert.AStripRefIdeal.τ).loc Cert.AStripRefIdeal.main_arg1) = m ((c.tc : Thread Cert.AStripIdeal.nD Cert.AStripIdeal.τ).loc Cert.AStripIdeal.main_arg1)
      ∧ m' ((c.tc : Thread Cert.AStripRefIdeal.nD Cert.AStripRefIdeal.τ).loc Cert.AStripRefIdeal.main_arg2) = m ((c.tc : Thread Cert.AStripIdeal.nD Cert.AStripIdeal.τ).loc Cert.AStripIdeal.main_arg2)) →
    ∃ (v0 : (c : Dev Cert.AStripIdeal.nD) → Buf (Elt Ideal) ((c.tc : Thread Cert.AStripIdeal.nD Cert.AStripIdeal.τ).loc Cert.AStripIdeal.main_v9_0)) (v1 : (c : Dev Cert.AStripIdeal.nD) → Buf (Elt Ideal) ((c.tc : Thread Cert.AStripIdeal.nD Cert.AStripIdeal.τ).loc Cert.AStripIdeal.main_v9_1)),
      θ_run (Cert.AStripIdeal.defs (F := Ideal)) (onTc (τ := Cert.AStripIdeal.τ) (Cert.AStripIdeal.main (F := Ideal))) ⟨m, fun _ => 0, g⟩ (fun r => ∀ c : Dev Cert.AStripIdeal.nD,
          r.2.mem ((c.tc : Thread Cert.AStripIdeal.nD Cert.AStripIdeal.τ).loc Cert.AStripIdeal.main_v9_0) = v0 c
          ∧ r.2.mem ((c.tc : Thread Cert.AStripIdeal.nD Cert.AStripIdeal.τ).loc Cert.AStripIdeal.main_v9_1) = v1 c
          ∧ r.2.mem ((c.tc : Thread Cert.AStripIdeal.nD Cert.AStripIdeal.τ).loc Cert.AStripIdeal.main_arg0) = m ((c.tc : Thread Cert.AStripIdeal.nD Cert.AStripIdeal.τ).loc Cert.AStripIdeal.main_arg0)
          ∧ r.2.mem ((c.tc : Thread Cert.AStripIdeal.nD Cert.AStripIdeal.τ).loc Cert.AStripIdeal.main_arg1) = m ((c.tc : Thread Cert.AStripIdeal.nD Cert.AStripIdeal.τ).loc Cert.AStripIdeal.main_arg1)
          ∧ r.2.mem ((c.tc : Thread Cert.AStripIdeal.nD Cert.AStripIdeal.τ).loc Cert.AStripIdeal.main_arg2) = m ((c.tc : Thread Cert.AStripIdeal.nD Cert.AStripIdeal.τ).loc Cert.AStripIdeal.main_arg2))
      ∧ θ_run (Cert.AStripRefIdeal.defs (F := Ideal)) (onTc (τ := Cert.AStripRefIdeal.τ) (Cert.AStripRefIdeal.main (F := Ideal))) ⟨m', fun _ => 0, g'⟩ (fun r => ∀ c : Dev Cert.AStripRefIdeal.nD,
          r.2.mem ((c.tc : Thread Cert.AStripRefIdeal.nD Cert.AStripRefIdeal.τ).loc Cert.AStripRefIdeal.main_v73) = v0 c
          ∧ r.2.mem ((c.tc : Thread Cert.AStripRefIdeal.nD Cert.AStripRefIdeal.τ).loc Cert.AStripRefIdeal.main_v60) = v1 c
          ∧ r.2.mem ((c.tc : Thread Cert.AStripRefIdeal.nD Cert.AStripRefIdeal.τ).loc Cert.AStripRefIdeal.main_arg0) = m' ((c.tc : Thread Cert.AStripRefIdeal.nD Cert.AStripRefIdeal.τ).loc Cert.AStripRefIdeal.main_arg0)
          ∧ r.2.mem ((c.tc : Thread Cert.AStripRefIdeal.nD Cert.AStripRefIdeal.τ).loc Cert.AStripRefIdeal.main_arg1) = m' ((c.tc : Thread Cert.AStripRefIdeal.nD Cert.AStripRefIdeal.τ).loc Cert.AStripRefIdeal.main_arg1)
          ∧ r.2.mem ((c.tc : Thread Cert.AStripRefIdeal.nD Cert.AStripRefIdeal.τ).loc Cert.AStripRefIdeal.main_arg2) = m' ((c.tc : Thread Cert.AStripRefIdeal.nD Cert.AStripRefIdeal.τ).loc Cert.AStripRefIdeal.main_arg2))

def preserves_BStrip_BStripIdeal : Prop :=
  True

def algebraic_BStripIdeal_BStripRefIdeal [hBStripIdeal : Cert.BStripIdeal.Facts] [hBStripRefIdeal : Cert.BStripRefIdeal.Facts] : Prop :=
  ∀ (m : (ℓ : Loc Cert.BStripIdeal.nD Cert.BStripIdeal.τ Cert.BStripIdeal.sig) → Buf (Elt Ideal) ℓ) (g : Dev Cert.BStripIdeal.nD → PrngReg)
    (m' : (ℓ : Loc Cert.BStripRefIdeal.nD Cert.BStripRefIdeal.τ Cert.BStripRefIdeal.sig) → Buf (Elt Ideal) ℓ) (g' : Dev Cert.BStripRefIdeal.nD → PrngReg), Pre_BStripIdeal m →
    (∀ c : Dev Cert.BStripIdeal.nD,
      m' ((c.tc : Thread Cert.BStripRefIdeal.nD Cert.BStripRefIdeal.τ).loc Cert.BStripRefIdeal.main_arg0) = m ((c.tc : Thread Cert.BStripIdeal.nD Cert.BStripIdeal.τ).loc Cert.BStripIdeal.main_arg0)
      ∧ m' ((c.tc : Thread Cert.BStripRefIdeal.nD Cert.BStripRefIdeal.τ).loc Cert.BStripRefIdeal.main_arg1) = m ((c.tc : Thread Cert.BStripIdeal.nD Cert.BStripIdeal.τ).loc Cert.BStripIdeal.main_arg1)
      ∧ m' ((c.tc : Thread Cert.BStripRefIdeal.nD Cert.BStripRefIdeal.τ).loc Cert.BStripRefIdeal.main_arg2) = m ((c.tc : Thread Cert.BStripIdeal.nD Cert.BStripIdeal.τ).loc Cert.BStripIdeal.main_arg2)
      ∧ m' ((c.tc : Thread Cert.BStripRefIdeal.nD Cert.BStripRefIdeal.τ).loc Cert.BStripRefIdeal.main_arg3) = m ((c.tc : Thread Cert.BStripIdeal.nD Cert.BStripIdeal.τ).loc Cert.BStripIdeal.main_arg3)) →
    ∃ (v0 : (c : Dev Cert.BStripIdeal.nD) → Buf (Elt Ideal) ((c.tc : Thread Cert.BStripIdeal.nD Cert.BStripIdeal.τ).loc Cert.BStripIdeal.main_v9_0)) (v1 : (c : Dev Cert.BStripIdeal.nD) → Buf (Elt Ideal) ((c.tc : Thread Cert.BStripIdeal.nD Cert.BStripIdeal.τ).loc Cert.BStripIdeal.main_v9_1)) (v2 : (c : Dev Cert.BStripIdeal.nD) → Buf (Elt Ideal) ((c.tc : Thread Cert.BStripIdeal.nD Cert.BStripIdeal.τ).loc Cert.BStripIdeal.main_v9_2)),
      θ_run (Cert.BStripIdeal.defs (F := Ideal)) (onTc (τ := Cert.BStripIdeal.τ) (Cert.BStripIdeal.main (F := Ideal))) ⟨m, fun _ => 0, g⟩ (fun r => ∀ c : Dev Cert.BStripIdeal.nD,
          r.2.mem ((c.tc : Thread Cert.BStripIdeal.nD Cert.BStripIdeal.τ).loc Cert.BStripIdeal.main_v9_0) = v0 c
          ∧ r.2.mem ((c.tc : Thread Cert.BStripIdeal.nD Cert.BStripIdeal.τ).loc Cert.BStripIdeal.main_v9_1) = v1 c
          ∧ r.2.mem ((c.tc : Thread Cert.BStripIdeal.nD Cert.BStripIdeal.τ).loc Cert.BStripIdeal.main_v9_2) = v2 c
          ∧ r.2.mem ((c.tc : Thread Cert.BStripIdeal.nD Cert.BStripIdeal.τ).loc Cert.BStripIdeal.main_arg0) = m ((c.tc : Thread Cert.BStripIdeal.nD Cert.BStripIdeal.τ).loc Cert.BStripIdeal.main_arg0)
          ∧ r.2.mem ((c.tc : Thread Cert.BStripIdeal.nD Cert.BStripIdeal.τ).loc Cert.BStripIdeal.main_arg1) = m ((c.tc : Thread Cert.BStripIdeal.nD Cert.BStripIdeal.τ).loc Cert.BStripIdeal.main_arg1)
          ∧ r.2.mem ((c.tc : Thread Cert.BStripIdeal.nD Cert.BStripIdeal.τ).loc Cert.BStripIdeal.main_arg2) = m ((c.tc : Thread Cert.BStripIdeal.nD Cert.BStripIdeal.τ).loc Cert.BStripIdeal.main_arg2)
          ∧ r.2.mem ((c.tc : Thread Cert.BStripIdeal.nD Cert.BStripIdeal.τ).loc Cert.BStripIdeal.main_arg3) = m ((c.tc : Thread Cert.BStripIdeal.nD Cert.BStripIdeal.τ).loc Cert.BStripIdeal.main_arg3))
      ∧ θ_run (Cert.BStripRefIdeal.defs (F := Ideal)) (onTc (τ := Cert.BStripRefIdeal.τ) (Cert.BStripRefIdeal.main (F := Ideal))) ⟨m', fun _ => 0, g'⟩ (fun r => ∀ c : Dev Cert.BStripRefIdeal.nD,
          r.2.mem ((c.tc : Thread Cert.BStripRefIdeal.nD Cert.BStripRefIdeal.τ).loc Cert.BStripRefIdeal.main_v229) = v0 c
          ∧ r.2.mem ((c.tc : Thread Cert.BStripRefIdeal.nD Cert.BStripRefIdeal.τ).loc Cert.BStripRefIdeal.main_v215) = v1 c
          ∧ r.2.mem ((c.tc : Thread Cert.BStripRefIdeal.nD Cert.BStripRefIdeal.τ).loc Cert.BStripRefIdeal.main_v230) = v2 c
          ∧ r.2.mem ((c.tc : Thread Cert.BStripRefIdeal.nD Cert.BStripRefIdeal.τ).loc Cert.BStripRefIdeal.main_arg0) = m' ((c.tc : Thread Cert.BStripRefIdeal.nD Cert.BStripRefIdeal.τ).loc Cert.BStripRefIdeal.main_arg0)
          ∧ r.2.mem ((c.tc : Thread Cert.BStripRefIdeal.nD Cert.BStripRefIdeal.τ).loc Cert.BStripRefIdeal.main_arg1) = m' ((c.tc : Thread Cert.BStripRefIdeal.nD Cert.BStripRefIdeal.τ).loc Cert.BStripRefIdeal.main_arg1)
          ∧ r.2.mem ((c.tc : Thread Cert.BStripRefIdeal.nD Cert.BStripRefIdeal.τ).loc Cert.BStripRefIdeal.main_arg2) = m' ((c.tc : Thread Cert.BStripRefIdeal.nD Cert.BStripRefIdeal.τ).loc Cert.BStripRefIdeal.main_arg2)
          ∧ r.2.mem ((c.tc : Thread Cert.BStripRefIdeal.nD Cert.BStripRefIdeal.τ).loc Cert.BStripRefIdeal.main_arg3) = m' ((c.tc : Thread Cert.BStripRefIdeal.nD Cert.BStripRefIdeal.τ).loc Cert.BStripRefIdeal.main_arg3))

def preserves_CStrip_CStripIdeal : Prop :=
  True

def algebraic_CStripIdeal_CStripRefIdeal_pre_c_finite [hCStripIdeal : Cert.CStripIdeal.Facts] [hCStripRefIdeal : Cert.CStripRefIdeal.Facts] [hPre_c_finite : Cert.Pre_c_finite.Facts] : Prop :=
  ∀ (m : (ℓ : Loc Cert.CStripIdeal.nD Cert.CStripIdeal.τ Cert.CStripIdeal.sig) → Buf (Elt Ideal) ℓ) (g : Dev Cert.CStripIdeal.nD → PrngReg)
    (m' : (ℓ : Loc Cert.CStripRefIdeal.nD Cert.CStripRefIdeal.τ Cert.CStripRefIdeal.sig) → Buf (Elt Ideal) ℓ) (g' : Dev Cert.CStripRefIdeal.nD → PrngReg), Pre_CStripIdeal_c_finite m →
    (∀ c : Dev Cert.CStripIdeal.nD,
      m' ((c.tc : Thread Cert.CStripRefIdeal.nD Cert.CStripRefIdeal.τ).loc Cert.CStripRefIdeal.main_arg0) = m ((c.tc : Thread Cert.CStripIdeal.nD Cert.CStripIdeal.τ).loc Cert.CStripIdeal.main_arg0)) →
    ∃ (v0 : (c : Dev Cert.CStripIdeal.nD) → Buf (Elt Ideal) ((c.tc : Thread Cert.CStripIdeal.nD Cert.CStripIdeal.τ).loc Cert.CStripIdeal.main_v1)),
      θ_run (Cert.CStripIdeal.defs (F := Ideal)) (onTc (τ := Cert.CStripIdeal.τ) (Cert.CStripIdeal.main (F := Ideal))) ⟨m, fun _ => 0, g⟩ (fun r => ∀ c : Dev Cert.CStripIdeal.nD,
          r.2.mem ((c.tc : Thread Cert.CStripIdeal.nD Cert.CStripIdeal.τ).loc Cert.CStripIdeal.main_v1) = v0 c
          ∧ r.2.mem ((c.tc : Thread Cert.CStripIdeal.nD Cert.CStripIdeal.τ).loc Cert.CStripIdeal.main_arg0) = m ((c.tc : Thread Cert.CStripIdeal.nD Cert.CStripIdeal.τ).loc Cert.CStripIdeal.main_arg0))
      ∧ θ_run (Cert.CStripRefIdeal.defs (F := Ideal)) (onTc (τ := Cert.CStripRefIdeal.τ) (Cert.CStripRefIdeal.main (F := Ideal))) ⟨m', fun _ => 0, g'⟩ (fun r => ∀ c : Dev Cert.CStripRefIdeal.nD,
          r.2.mem ((c.tc : Thread Cert.CStripRefIdeal.nD Cert.CStripRefIdeal.τ).loc Cert.CStripRefIdeal.main_v132) = v0 c
          ∧ r.2.mem ((c.tc : Thread Cert.CStripRefIdeal.nD Cert.CStripRefIdeal.τ).loc Cert.CStripRefIdeal.main_arg0) = m' ((c.tc : Thread Cert.CStripRefIdeal.nD Cert.CStripRefIdeal.τ).loc Cert.CStripRefIdeal.main_arg0))

def preserves_CMod_CModIdeal : Prop :=
  True

def algebraic_CModIdeal_CModRefIdeal [hCModIdeal : Cert.CModIdeal.Facts] [hCModRefIdeal : Cert.CModRefIdeal.Facts] : Prop :=
  ∀ (m : (ℓ : Loc Cert.CModIdeal.nD Cert.CModIdeal.τ Cert.CModIdeal.sig) → Buf (Elt Ideal) ℓ) (g : Dev Cert.CModIdeal.nD → PrngReg)
    (m' : (ℓ : Loc Cert.CModRefIdeal.nD Cert.CModRefIdeal.τ Cert.CModRefIdeal.sig) → Buf (Elt Ideal) ℓ) (g' : Dev Cert.CModRefIdeal.nD → PrngReg), Pre_CModIdeal m →
    (∀ c : Dev Cert.CModIdeal.nD,
      m' ((c.tc : Thread Cert.CModRefIdeal.nD Cert.CModRefIdeal.τ).loc Cert.CModRefIdeal.main_arg0) = m ((c.tc : Thread Cert.CModIdeal.nD Cert.CModIdeal.τ).loc Cert.CModIdeal.main_arg0)
      ∧ m' ((c.tc : Thread Cert.CModRefIdeal.nD Cert.CModRefIdeal.τ).loc Cert.CModRefIdeal.main_arg1) = m ((c.tc : Thread Cert.CModIdeal.nD Cert.CModIdeal.τ).loc Cert.CModIdeal.main_arg1)
      ∧ m' ((c.tc : Thread Cert.CModRefIdeal.nD Cert.CModRefIdeal.τ).loc Cert.CModRefIdeal.main_arg2) = m ((c.tc : Thread Cert.CModIdeal.nD Cert.CModIdeal.τ).loc Cert.CModIdeal.main_arg2)
      ∧ m' ((c.tc : Thread Cert.CModRefIdeal.nD Cert.CModRefIdeal.τ).loc Cert.CModRefIdeal.main_arg3) = m ((c.tc : Thread Cert.CModIdeal.nD Cert.CModIdeal.τ).loc Cert.CModIdeal.main_arg3)) →
    ∃ (v0 : (c : Dev Cert.CModIdeal.nD) → Buf (Elt Ideal) ((c.tc : Thread Cert.CModIdeal.nD Cert.CModIdeal.τ).loc Cert.CModIdeal.main_v0)),
      θ_run (Cert.CModIdeal.defs (F := Ideal)) (onTc (τ := Cert.CModIdeal.τ) (Cert.CModIdeal.main (F := Ideal))) ⟨m, fun _ => 0, g⟩ (fun r => ∀ c : Dev Cert.CModIdeal.nD,
          r.2.mem ((c.tc : Thread Cert.CModIdeal.nD Cert.CModIdeal.τ).loc Cert.CModIdeal.main_v0) = v0 c
          ∧ r.2.mem ((c.tc : Thread Cert.CModIdeal.nD Cert.CModIdeal.τ).loc Cert.CModIdeal.main_arg0) = m ((c.tc : Thread Cert.CModIdeal.nD Cert.CModIdeal.τ).loc Cert.CModIdeal.main_arg0)
          ∧ r.2.mem ((c.tc : Thread Cert.CModIdeal.nD Cert.CModIdeal.τ).loc Cert.CModIdeal.main_arg1) = m ((c.tc : Thread Cert.CModIdeal.nD Cert.CModIdeal.τ).loc Cert.CModIdeal.main_arg1)
          ∧ r.2.mem ((c.tc : Thread Cert.CModIdeal.nD Cert.CModIdeal.τ).loc Cert.CModIdeal.main_arg2) = m ((c.tc : Thread Cert.CModIdeal.nD Cert.CModIdeal.τ).loc Cert.CModIdeal.main_arg2)
          ∧ r.2.mem ((c.tc : Thread Cert.CModIdeal.nD Cert.CModIdeal.τ).loc Cert.CModIdeal.main_arg3) = m ((c.tc : Thread Cert.CModIdeal.nD Cert.CModIdeal.τ).loc Cert.CModIdeal.main_arg3))
      ∧ θ_run (Cert.CModRefIdeal.defs (F := Ideal)) (onTc (τ := Cert.CModRefIdeal.τ) (Cert.CModRefIdeal.main (F := Ideal))) ⟨m', fun _ => 0, g'⟩ (fun r => ∀ c : Dev Cert.CModRefIdeal.nD,
          r.2.mem ((c.tc : Thread Cert.CModRefIdeal.nD Cert.CModRefIdeal.τ).loc Cert.CModRefIdeal.main_v17) = v0 c
          ∧ r.2.mem ((c.tc : Thread Cert.CModRefIdeal.nD Cert.CModRefIdeal.τ).loc Cert.CModRefIdeal.main_arg0) = m' ((c.tc : Thread Cert.CModRefIdeal.nD Cert.CModRefIdeal.τ).loc Cert.CModRefIdeal.main_arg0)
          ∧ r.2.mem ((c.tc : Thread Cert.CModRefIdeal.nD Cert.CModRefIdeal.τ).loc Cert.CModRefIdeal.main_arg1) = m' ((c.tc : Thread Cert.CModRefIdeal.nD Cert.CModRefIdeal.τ).loc Cert.CModRefIdeal.main_arg1)
          ∧ r.2.mem ((c.tc : Thread Cert.CModRefIdeal.nD Cert.CModRefIdeal.τ).loc Cert.CModRefIdeal.main_arg2) = m' ((c.tc : Thread Cert.CModRefIdeal.nD Cert.CModRefIdeal.τ).loc Cert.CModRefIdeal.main_arg2)
          ∧ r.2.mem ((c.tc : Thread Cert.CModRefIdeal.nD Cert.CModRefIdeal.τ).loc Cert.CModRefIdeal.main_arg3) = m' ((c.tc : Thread Cert.CModRefIdeal.nD Cert.CModRefIdeal.τ).loc Cert.CModRefIdeal.main_arg3))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)
      ∧ m' ((c.tc : Thread Cert.AInRefIdeal.nD Cert.AInRefIdeal.τ).loc Cert.AInRefIdeal.main_arg3) = m ((c.tc : Thread Cert.AInIdeal.nD Cert.AInIdeal.τ).loc Cert.AInIdeal.main_arg3)
      ∧ m' ((c.tc : Thread Cert.AInRefIdeal.nD Cert.AInRefIdeal.τ).loc Cert.AInRefIdeal.main_arg4) = m ((c.tc : Thread Cert.AInIdeal.nD Cert.AInIdeal.τ).loc Cert.AInIdeal.main_arg4)) →
    ∃ (v0 : (c : Dev Cert.AInIdeal.nD) → Buf (Elt Ideal) ((c.tc : Thread Cert.AInIdeal.nD Cert.AInIdeal.τ).loc Cert.AInIdeal.main_v2_0)) (v1 : (c : Dev Cert.AInIdeal.nD) → Buf (Elt Ideal) ((c.tc : Thread Cert.AInIdeal.nD Cert.AInIdeal.τ).loc Cert.AInIdeal.main_v2_1)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v2_0) = v0 c
          ∧ r.2.mem ((c.tc : Thread Cert.AInIdeal.nD Cert.AInIdeal.τ).loc Cert.AInIdeal.main_v2_1) = v1 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
          ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
          ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v19) = v0 c
          ∧ r.2.mem ((c.tc : Thread Cert.AInRefIdeal.nD Cert.AInRefIdeal.τ).loc Cert.AInRefIdeal.main_v27) = v1 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2)
          ∧ r.2.mem ((c.tc : Thread Cert.AInRefIdeal.nD Cert.AInRefIdeal.τ).loc Cert.AInRefIdeal.main_arg3) = m' ((c.tc : Thread Cert.AInRefIdeal.nD Cert.AInRefIdeal.τ).loc Cert.AInRefIdeal.main_arg3)
          ∧ r.2.mem ((c.tc : Thread Cert.AInRefIdeal.nD Cert.AInRefIdeal.τ).loc Cert.AInRefIdeal.main_arg4) = m' ((c.tc : Thread Cert.AInRefIdeal.nD Cert.AInRefIdeal.τ).loc Cert.AInRefIdeal.main_arg4))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)
      ∧ m' ((c.tc : Thread Cert.BInRefIdeal.nD Cert.BInRefIdeal.τ).loc Cert.BInRefIdeal.main_arg2) = m ((c.tc : Thread Cert.BInIdeal.nD Cert.BInIdeal.τ).loc Cert.BInIdeal.main_arg2)
      ∧ m' ((c.tc : Thread Cert.BInRefIdeal.nD Cert.BInRefIdeal.τ).loc Cert.BInRefIdeal.main_arg3) = m ((c.tc : Thread Cert.BInIdeal.nD Cert.BInIdeal.τ).loc Cert.BInIdeal.main_arg3)
      ∧ m' ((c.tc : Thread Cert.BInRefIdeal.nD Cert.BInRefIdeal.τ).loc Cert.BInRefIdeal.main_arg4) = m ((c.tc : Thread Cert.BInIdeal.nD Cert.BInIdeal.τ).loc Cert.BInIdeal.main_arg4)
      ∧ m' ((c.tc : Thread Cert.BInRefIdeal.nD Cert.BInRefIdeal.τ).loc Cert.BInRefIdeal.main_arg5) = m ((c.tc : Thread Cert.BInIdeal.nD Cert.BInIdeal.τ).loc Cert.BInIdeal.main_arg5)) →
    ∃ (v0 : (c : Dev Cert.BInIdeal.nD) → Buf (Elt Ideal) ((c.tc : Thread Cert.BInIdeal.nD Cert.BInIdeal.τ).loc Cert.BInIdeal.main_v2_0)) (v1 : (c : Dev Cert.BInIdeal.nD) → Buf (Elt Ideal) ((c.tc : Thread Cert.BInIdeal.nD Cert.BInIdeal.τ).loc Cert.BInIdeal.main_v2_1)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v2_0) = v0 c
          ∧ r.2.mem ((c.tc : Thread Cert.BInIdeal.nD Cert.BInIdeal.τ).loc Cert.BInIdeal.main_v2_1) = v1 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
          ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
          ∧ r.2.mem ((c.tc : Thread Cert.BInIdeal.nD Cert.BInIdeal.τ).loc Cert.BInIdeal.main_arg3) = m ((c.tc : Thread Cert.BInIdeal.nD Cert.BInIdeal.τ).loc Cert.BInIdeal.main_arg3)
          ∧ r.2.mem ((c.tc : Thread Cert.BInIdeal.nD Cert.BInIdeal.τ).loc Cert.BInIdeal.main_arg4) = m ((c.tc : Thread Cert.BInIdeal.nD Cert.BInIdeal.τ).loc Cert.BInIdeal.main_arg4)
          ∧ r.2.mem ((c.tc : Thread Cert.BInIdeal.nD Cert.BInIdeal.τ).loc Cert.BInIdeal.main_arg5) = m ((c.tc : Thread Cert.BInIdeal.nD Cert.BInIdeal.τ).loc Cert.BInIdeal.main_arg5))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v21) = v0 c
          ∧ r.2.mem ((c.tc : Thread Cert.BInRefIdeal.nD Cert.BInRefIdeal.τ).loc Cert.BInRefIdeal.main_v27) = v1 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1)
          ∧ r.2.mem ((c.tc : Thread Cert.BInRefIdeal.nD Cert.BInRefIdeal.τ).loc Cert.BInRefIdeal.main_arg2) = m' ((c.tc : Thread Cert.BInRefIdeal.nD Cert.BInRefIdeal.τ).loc Cert.BInRefIdeal.main_arg2)
          ∧ r.2.mem ((c.tc : Thread Cert.BInRefIdeal.nD Cert.BInRefIdeal.τ).loc Cert.BInRefIdeal.main_arg3) = m' ((c.tc : Thread Cert.BInRefIdeal.nD Cert.BInRefIdeal.τ).loc Cert.BInRefIdeal.main_arg3)
          ∧ r.2.mem ((c.tc : Thread Cert.BInRefIdeal.nD Cert.BInRefIdeal.τ).loc Cert.BInRefIdeal.main_arg4) = m' ((c.tc : Thread Cert.BInRefIdeal.nD Cert.BInRefIdeal.τ).loc Cert.BInRefIdeal.main_arg4)
          ∧ r.2.mem ((c.tc : Thread Cert.BInRefIdeal.nD Cert.BInRefIdeal.τ).loc Cert.BInRefIdeal.main_arg5) = m' ((c.tc : Thread Cert.BInRefIdeal.nD Cert.BInRefIdeal.τ).loc Cert.BInRefIdeal.main_arg5))

def preserves_FIn_FInIdeal : Prop :=
  True

def algebraic_FInIdeal_FInRefIdeal [hFInIdeal : Cert.FInIdeal.Facts] [hFInRefIdeal : Cert.FInRefIdeal.Facts] : Prop :=
  ∀ (m : (ℓ : Loc Cert.FInIdeal.nD Cert.FInIdeal.τ Cert.FInIdeal.sig) → Buf (Elt Ideal) ℓ) (g : Dev Cert.FInIdeal.nD → PrngReg)
    (m' : (ℓ : Loc Cert.FInRefIdeal.nD Cert.FInRefIdeal.τ Cert.FInRefIdeal.sig) → Buf (Elt Ideal) ℓ) (g' : Dev Cert.FInRefIdeal.nD → PrngReg), Pre_FInIdeal m →
    (∀ c : Dev Cert.FInIdeal.nD,
      m' ((c.tc : Thread Cert.FInRefIdeal.nD Cert.FInRefIdeal.τ).loc Cert.FInRefIdeal.main_arg0) = m ((c.tc : Thread Cert.FInIdeal.nD Cert.FInIdeal.τ).loc Cert.FInIdeal.main_arg0)
      ∧ m' ((c.tc : Thread Cert.FInRefIdeal.nD Cert.FInRefIdeal.τ).loc Cert.FInRefIdeal.main_arg1) = m ((c.tc : Thread Cert.FInIdeal.nD Cert.FInIdeal.τ).loc Cert.FInIdeal.main_arg1)
      ∧ m' ((c.tc : Thread Cert.FInRefIdeal.nD Cert.FInRefIdeal.τ).loc Cert.FInRefIdeal.main_arg2) = m ((c.tc : Thread Cert.FInIdeal.nD Cert.FInIdeal.τ).loc Cert.FInIdeal.main_arg2)
      ∧ m' ((c.tc : Thread Cert.FInRefIdeal.nD Cert.FInRefIdeal.τ).loc Cert.FInRefIdeal.main_arg3) = m ((c.tc : Thread Cert.FInIdeal.nD Cert.FInIdeal.τ).loc Cert.FInIdeal.main_arg3)
      ∧ m' ((c.tc : Thread Cert.FInRefIdeal.nD Cert.FInRefIdeal.τ).loc Cert.FInRefIdeal.main_arg4) = m ((c.tc : Thread Cert.FInIdeal.nD Cert.FInIdeal.τ).loc Cert.FInIdeal.main_arg4)) →
    ∃ (v0 : (c : Dev Cert.FInIdeal.nD) → Buf (Elt Ideal) ((c.tc : Thread Cert.FInIdeal.nD Cert.FInIdeal.τ).loc Cert.FInIdeal.main_v11_0)) (v1 : (c : Dev Cert.FInIdeal.nD) → Buf (Elt Ideal) ((c.tc : Thread Cert.FInIdeal.nD Cert.FInIdeal.τ).loc Cert.FInIdeal.main_v11_1)),
      θ_run (Cert.FInIdeal.defs (F := Ideal)) (onTc (τ := Cert.FInIdeal.τ) (Cert.FInIdeal.main (F := Ideal))) ⟨m, fun _ => 0, g⟩ (fun r => ∀ c : Dev Cert.FInIdeal.nD,
          r.2.mem ((c.tc : Thread Cert.FInIdeal.nD Cert.FInIdeal.τ).loc Cert.FInIdeal.main_v11_0) = v0 c
          ∧ r.2.mem ((c.tc : Thread Cert.FInIdeal.nD Cert.FInIdeal.τ).loc Cert.FInIdeal.main_v11_1) = v1 c
          ∧ r.2.mem ((c.tc : Thread Cert.FInIdeal.nD Cert.FInIdeal.τ).loc Cert.FInIdeal.main_arg0) = m ((c.tc : Thread Cert.FInIdeal.nD Cert.FInIdeal.τ).loc Cert.FInIdeal.main_arg0)
          ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
          ∧ r.2.mem ((c.tc : Thread Cert.FInIdeal.nD Cert.FInIdeal.τ).loc Cert.FInIdeal.main_arg2) = m ((c.tc : Thread Cert.FInIdeal.nD Cert.FInIdeal.τ).loc Cert.FInIdeal.main_arg2)
          ∧ r.2.mem ((c.tc : Thread Cert.FInIdeal.nD Cert.FInIdeal.τ).loc Cert.FInIdeal.main_arg3) = m ((c.tc : Thread Cert.FInIdeal.nD Cert.FInIdeal.τ).loc Cert.FInIdeal.main_arg3)
          ∧ r.2.mem ((c.tc : Thread Cert.FInIdeal.nD Cert.FInIdeal.τ).loc Cert.FInIdeal.main_arg4) = m ((c.tc : Thread Cert.FInIdeal.nD Cert.FInIdeal.τ).loc Cert.FInIdeal.main_arg4))
      ∧ θ_run (Cert.FInRefIdeal.defs (F := Ideal)) (onTc (τ := Cert.FInRefIdeal.τ) (Cert.FInRefIdeal.main (F := Ideal))) ⟨m', fun _ => 0, g'⟩ (fun r => ∀ c : Dev Cert.FInRefIdeal.nD,
          r.2.mem ((c.tc : Thread Cert.FInRefIdeal.nD Cert.FInRefIdeal.τ).loc Cert.FInRefIdeal.main_v19) = v0 c
          ∧ r.2.mem ((c.tc : Thread Cert.FInRefIdeal.nD Cert.FInRefIdeal.τ).loc Cert.FInRefIdeal.main_v25) = v1 c
          ∧ r.2.mem ((c.tc : Thread Cert.FInRefIdeal.nD Cert.FInRefIdeal.τ).loc Cert.FInRefIdeal.main_arg0) = m' ((c.tc : Thread Cert.FInRefIdeal.nD Cert.FInRefIdeal.τ).loc Cert.FInRefIdeal.main_arg0)
          ∧ r.2.mem ((c.tc : Thread Cert.FInRefIdeal.nD Cert.FInRefIdeal.τ).loc Cert.FInRefIdeal.main_arg1) = m' ((c.tc : Thread Cert.FInRefIdeal.nD Cert.FInRefIdeal.τ).loc Cert.FInRefIdeal.main_arg1)
          ∧ r.2.mem ((c.tc : Thread Cert.FInRefIdeal.nD Cert.FInRefIdeal.τ).loc Cert.FInRefIdeal.main_arg2) = m' ((c.tc : Thread Cert.FInRefIdeal.nD Cert.FInRefIdeal.τ).loc Cert.FInRefIdeal.main_arg2)
          ∧ r.2.mem ((c.tc : Thread Cert.FInRefIdeal.nD Cert.FInRefIdeal.τ).loc Cert.FInRefIdeal.main_arg3) = m' ((c.tc : Thread Cert.FInRefIdeal.nD Cert.FInRefIdeal.τ).loc Cert.FInRefIdeal.main_arg3)
          ∧ r.2.mem ((c.tc : Thread Cert.FInRefIdeal.nD Cert.FInRefIdeal.τ).loc Cert.FInRefIdeal.main_arg4) = m' ((c.tc : Thread Cert.FInRefIdeal.nD Cert.FInRefIdeal.τ).loc Cert.FInRefIdeal.main_arg4))

def preserves_CPool_CPoolIdeal : Prop :=
  True

def algebraic_CPoolIdeal_CPoolRefIdeal_pre_cw_finite [hCPoolIdeal : Cert.CPoolIdeal.Facts] [hCPoolRefIdeal : Cert.CPoolRefIdeal.Facts] [hPre_cw_finite : Cert.Pre_cw_finite.Facts] : Prop :=
  ∀ (m : (ℓ : Loc Cert.CPoolIdeal.nD Cert.CPoolIdeal.τ Cert.CPoolIdeal.sig) → Buf (Elt Ideal) ℓ) (g : Dev Cert.CPoolIdeal.nD → PrngReg)
    (m' : (ℓ : Loc Cert.CPoolRefIdeal.nD Cert.CPoolRefIdeal.τ Cert.CPoolRefIdeal.sig) → Buf (Elt Ideal) ℓ) (g' : Dev Cert.CPoolRefIdeal.nD → PrngReg), Pre_CPoolIdeal_cw_finite m →
    (∀ c : Dev Cert.CPoolIdeal.nD,
      m' ((c.tc : Thread Cert.CPoolRefIdeal.nD Cert.CPoolRefIdeal.τ).loc Cert.CPoolRefIdeal.main_arg0) = m ((c.tc : Thread Cert.CPoolIdeal.nD Cert.CPoolIdeal.τ).loc Cert.CPoolIdeal.main_arg0)) →
    ∃ (v0 : (c : Dev Cert.CPoolIdeal.nD) → Buf (Elt Ideal) ((c.tc : Thread Cert.CPoolIdeal.nD Cert.CPoolIdeal.τ).loc Cert.CPoolIdeal.main_v0)),
      θ_run (Cert.CPoolIdeal.defs (F := Ideal)) (onTc (τ := Cert.CPoolIdeal.τ) (Cert.CPoolIdeal.main (F := Ideal))) ⟨m, fun _ => 0, g⟩ (fun r => ∀ c : Dev Cert.CPoolIdeal.nD,
          r.2.mem ((c.tc : Thread Cert.CPoolIdeal.nD Cert.CPoolIdeal.τ).loc Cert.CPoolIdeal.main_v0) = v0 c
          ∧ r.2.mem ((c.tc : Thread Cert.CPoolIdeal.nD Cert.CPoolIdeal.τ).loc Cert.CPoolIdeal.main_arg0) = m ((c.tc : Thread Cert.CPoolIdeal.nD Cert.CPoolIdeal.τ).loc Cert.CPoolIdeal.main_arg0))
      ∧ θ_run (Cert.CPoolRefIdeal.defs (F := Ideal)) (onTc (τ := Cert.CPoolRefIdeal.τ) (Cert.CPoolRefIdeal.main (F := Ideal))) ⟨m', fun _ => 0, g'⟩ (fun r => ∀ c : Dev Cert.CPoolRefIdeal.nD,
          r.2.mem ((c.tc : Thread Cert.CPoolRefIdeal.nD Cert.CPoolRefIdeal.τ).loc Cert.CPoolRefIdeal.main_v69) = v0 c
          ∧ r.2.mem ((c.tc : Thread Cert.CPoolRefIdeal.nD Cert.CPoolRefIdeal.τ).loc Cert.CPoolRefIdeal.main_arg0) = m' ((c.tc : Thread Cert.CPoolRefIdeal.nD Cert.CPoolRefIdeal.τ).loc Cert.CPoolRefIdeal.main_arg0))

def preserves_AConv_AConvIdeal : Prop :=
  True

def algebraic_AConvIdeal_AConvRefIdeal [hAConvIdeal : Cert.AConvIdeal.Facts] [hAConvRefIdeal : Cert.AConvRefIdeal.Facts] : Prop :=
  ∀ (m : (ℓ : Loc Cert.AConvIdeal.nD Cert.AConvIdeal.τ Cert.AConvIdeal.sig) → Buf (Elt Ideal) ℓ) (g : Dev Cert.AConvIdeal.nD → PrngReg)
    (m' : (ℓ : Loc Cert.AConvRefIdeal.nD Cert.AConvRefIdeal.τ Cert.AConvRefIdeal.sig) → Buf (Elt Ideal) ℓ) (g' : Dev Cert.AConvRefIdeal.nD → PrngReg), Pre_AConvIdeal m →
    (∀ c : Dev Cert.AConvIdeal.nD,
      m' ((c.tc : Thread Cert.AConvRefIdeal.nD Cert.AConvRefIdeal.τ).loc Cert.AConvRefIdeal.main_arg0) = m ((c.tc : Thread Cert.AConvIdeal.nD Cert.AConvIdeal.τ).loc Cert.AConvIdeal.main_arg0)
      ∧ m' ((c.tc : Thread Cert.AConvRefIdeal.nD Cert.AConvRefIdeal.τ).loc Cert.AConvRefIdeal.main_arg1) = m ((c.tc : Thread Cert.AConvIdeal.nD Cert.AConvIdeal.τ).loc Cert.AConvIdeal.main_arg1)) →
    ∃ (v0 : (c : Dev Cert.AConvIdeal.nD) → Buf (Elt Ideal) ((c.tc : Thread Cert.AConvIdeal.nD Cert.AConvIdeal.τ).loc Cert.AConvIdeal.main_v8)),
      θ_run (Cert.AConvIdeal.defs (F := Ideal)) (onTc (τ := Cert.AConvIdeal.τ) (Cert.AConvIdeal.main (F := Ideal))) ⟨m, fun _ => 0, g⟩ (fun r => ∀ c : Dev Cert.AConvIdeal.nD,
          r.2.mem ((c.tc : Thread Cert.AConvIdeal.nD Cert.AConvIdeal.τ).loc Cert.AConvIdeal.main_v8) = v0 c
          ∧ r.2.mem ((c.tc : Thread Cert.AConvIdeal.nD Cert.AConvIdeal.τ).loc Cert.AConvIdeal.main_arg0) = m ((c.tc : Thread Cert.AConvIdeal.nD Cert.AConvIdeal.τ).loc Cert.AConvIdeal.main_arg0)
          ∧ r.2.mem ((c.tc : Thread Cert.AConvIdeal.nD Cert.AConvIdeal.τ).loc Cert.AConvIdeal.main_arg1) = m ((c.tc : Thread Cert.AConvIdeal.nD Cert.AConvIdeal.τ).loc Cert.AConvIdeal.main_arg1))
      ∧ θ_run (Cert.AConvRefIdeal.defs (F := Ideal)) (onTc (τ := Cert.AConvRefIdeal.τ) (Cert.AConvRefIdeal.main (F := Ideal))) ⟨m', fun _ => 0, g'⟩ (fun r => ∀ c : Dev Cert.AConvRefIdeal.nD,
          r.2.mem ((c.tc : Thread Cert.AConvRefIdeal.nD Cert.AConvRefIdeal.τ).loc Cert.AConvRefIdeal.main_v27) = v0 c
          ∧ r.2.mem ((c.tc : Thread Cert.AConvRefIdeal.nD Cert.AConvRefIdeal.τ).loc Cert.AConvRefIdeal.main_arg0) = m' ((c.tc : Thread Cert.AConvRefIdeal.nD Cert.AConvRefIdeal.τ).loc Cert.AConvRefIdeal.main_arg0)
          ∧ r.2.mem ((c.tc : Thread Cert.AConvRefIdeal.nD Cert.AConvRefIdeal.τ).loc Cert.AConvRefIdeal.main_arg1) = m' ((c.tc : Thread Cert.AConvRefIdeal.nD Cert.AConvRefIdeal.τ).loc Cert.AConvRefIdeal.main_arg1))

def preserves_BConv_BConvIdeal : Prop :=
  True

def algebraic_BConvIdeal_BConvRefIdeal [hBConvIdeal : Cert.BConvIdeal.Facts] [hBConvRefIdeal : Cert.BConvRefIdeal.Facts] : Prop :=
  ∀ (m : (ℓ : Loc Cert.BConvIdeal.nD Cert.BConvIdeal.τ Cert.BConvIdeal.sig) → Buf (Elt Ideal) ℓ) (g : Dev Cert.BConvIdeal.nD → PrngReg)
    (m' : (ℓ : Loc Cert.BConvRefIdeal.nD Cert.BConvRefIdeal.τ Cert.BConvRefIdeal.sig) → Buf (Elt Ideal) ℓ) (g' : Dev Cert.BConvRefIdeal.nD → PrngReg), Pre_BConvIdeal m →
    (∀ c : Dev Cert.BConvIdeal.nD,
      m' ((c.tc : Thread Cert.BConvRefIdeal.nD Cert.BConvRefIdeal.τ).loc Cert.BConvRefIdeal.main_arg0) = m ((c.tc : Thread Cert.BConvIdeal.nD Cert.BConvIdeal.τ).loc Cert.BConvIdeal.main_arg0)
      ∧ m' ((c.tc : Thread Cert.BConvRefIdeal.nD Cert.BConvRefIdeal.τ).loc Cert.BConvRefIdeal.main_arg1) = m ((c.tc : Thread Cert.BConvIdeal.nD Cert.BConvIdeal.τ).loc Cert.BConvIdeal.main_arg1)
      ∧ m' ((c.tc : Thread Cert.BConvRefIdeal.nD Cert.BConvRefIdeal.τ).loc Cert.BConvRefIdeal.main_arg2) = m ((c.tc : Thread Cert.BConvIdeal.nD Cert.BConvIdeal.τ).loc Cert.BConvIdeal.main_arg2)
      ∧ m' ((c.tc : Thread Cert.BConvRefIdeal.nD Cert.BConvRefIdeal.τ).loc Cert.BConvRefIdeal.main_arg3) = m ((c.tc : Thread Cert.BConvIdeal.nD Cert.BConvIdeal.τ).loc Cert.BConvIdeal.main_arg3)) →
    ∃ (v0 : (c : Dev Cert.BConvIdeal.nD) → Buf (Elt Ideal) ((c.tc : Thread Cert.BConvIdeal.nD Cert.BConvIdeal.τ).loc Cert.BConvIdeal.main_v8)),
      θ_run (Cert.BConvIdeal.defs (F := Ideal)) (onTc (τ := Cert.BConvIdeal.τ) (Cert.BConvIdeal.main (F := Ideal))) ⟨m, fun _ => 0, g⟩ (fun r => ∀ c : Dev Cert.BConvIdeal.nD,
          r.2.mem ((c.tc : Thread Cert.BConvIdeal.nD Cert.BConvIdeal.τ).loc Cert.BConvIdeal.main_v8) = v0 c
          ∧ r.2.mem ((c.tc : Thread Cert.BConvIdeal.nD Cert.BConvIdeal.τ).loc Cert.BConvIdeal.main_arg0) = m ((c.tc : Thread Cert.BConvIdeal.nD Cert.BConvIdeal.τ).loc Cert.BConvIdeal.main_arg0)
          ∧ r.2.mem ((c.tc : Thread Cert.BConvIdeal.nD Cert.BConvIdeal.τ).loc Cert.BConvIdeal.main_arg1) = m ((c.tc : Thread Cert.BConvIdeal.nD Cert.BConvIdeal.τ).loc Cert.BConvIdeal.main_arg1)
          ∧ r.2.mem ((c.tc : Thread Cert.BConvIdeal.nD Cert.BConvIdeal.τ).loc Cert.BConvIdeal.main_arg2) = m ((c.tc : Thread Cert.BConvIdeal.nD Cert.BConvIdeal.τ).loc Cert.BConvIdeal.main_arg2)
          ∧ r.2.mem ((c.tc : Thread Cert.BConvIdeal.nD Cert.BConvIdeal.τ).loc Cert.BConvIdeal.main_arg3) = m ((c.tc : Thread Cert.BConvIdeal.nD Cert.BConvIdeal.τ).loc Cert.BConvIdeal.main_arg3))
      ∧ θ_run (Cert.BConvRefIdeal.defs (F := Ideal)) (onTc (τ := Cert.BConvRefIdeal.τ) (Cert.BConvRefIdeal.main (F := Ideal))) ⟨m', fun _ => 0, g'⟩ (fun r => ∀ c : Dev Cert.BConvRefIdeal.nD,
          r.2.mem ((c.tc : Thread Cert.BConvRefIdeal.nD Cert.BConvRefIdeal.τ).loc Cert.BConvRefIdeal.main_v83) = v0 c
          ∧ r.2.mem ((c.tc : Thread Cert.BConvRefIdeal.nD Cert.BConvRefIdeal.τ).loc Cert.BConvRefIdeal.main_arg0) = m' ((c.tc : Thread Cert.BConvRefIdeal.nD Cert.BConvRefIdeal.τ).loc Cert.BConvRefIdeal.main_arg0)
          ∧ r.2.mem ((c.tc : Thread Cert.BConvRefIdeal.nD Cert.BConvRefIdeal.τ).loc Cert.BConvRefIdeal.main_arg1) = m' ((c.tc : Thread Cert.BConvRefIdeal.nD Cert.BConvRefIdeal.τ).loc Cert.BConvRefIdeal.main_arg1)
          ∧ r.2.mem ((c.tc : Thread Cert.BConvRefIdeal.nD Cert.BConvRefIdeal.τ).loc Cert.BConvRefIdeal.main_arg2) = m' ((c.tc : Thread Cert.BConvRefIdeal.nD Cert.BConvRefIdeal.τ).loc Cert.BConvRefIdeal.main_arg2)
          ∧ r.2.mem ((c.tc : Thread Cert.BConvRefIdeal.nD Cert.BConvRefIdeal.τ).loc Cert.BConvRefIdeal.main_arg3) = m' ((c.tc : Thread Cert.BConvRefIdeal.nD Cert.BConvRefIdeal.τ).loc Cert.BConvRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamLayers_AdamLayersIdeal : Prop :=
  True

def algebraic_AdamLayersIdeal_AdamLayersRefIdeal [hAdamLayersIdeal : Cert.AdamLayersIdeal.Facts] [hAdamLayersRefIdeal : Cert.AdamLayersRefIdeal.Facts] : Prop :=
  ∀ (m : (ℓ : Loc Cert.AdamLayersIdeal.nD Cert.AdamLayersIdeal.τ Cert.AdamLayersIdeal.sig) → Buf (Elt Ideal) ℓ) (g : Dev Cert.AdamLayersIdeal.nD → PrngReg)
    (m' : (ℓ : Loc Cert.AdamLayersRefIdeal.nD Cert.AdamLayersRefIdeal.τ Cert.AdamLayersRefIdeal.sig) → Buf (Elt Ideal) ℓ) (g' : Dev Cert.AdamLayersRefIdeal.nD → PrngReg), Pre_AdamLayersIdeal m →
    (∀ c : Dev Cert.AdamLayersIdeal.nD,
      m' ((c.tc : Thread Cert.AdamLayersRefIdeal.nD Cert.AdamLayersRefIdeal.τ).loc Cert.AdamLayersRefIdeal.main_arg0) = m ((c.tc : Thread Cert.AdamLayersIdeal.nD Cert.AdamLayersIdeal.τ).loc Cert.AdamLayersIdeal.main_arg0)
      ∧ m' ((c.tc : Thread Cert.AdamLayersRefIdeal.nD Cert.AdamLayersRefIdeal.τ).loc Cert.AdamLayersRefIdeal.main_arg1) = m ((c.tc : Thread Cert.AdamLayersIdeal.nD Cert.AdamLayersIdeal.τ).loc Cert.AdamLayersIdeal.main_arg1)
      ∧ m' ((c.tc : Thread Cert.AdamLayersRefIdeal.nD Cert.AdamLayersRefIdeal.τ).loc Cert.AdamLayersRefIdeal.main_arg2) = m ((c.tc : Thread Cert.AdamLayersIdeal.nD Cert.AdamLayersIdeal.τ).loc Cert.AdamLayersIdeal.main_arg2)
      ∧ m' ((c.tc : Thread Cert.AdamLayersRefIdeal.nD Cert.AdamLayersRefIdeal.τ).loc Cert.AdamLayersRefIdeal.main_arg3) = m ((c.tc : Thread Cert.AdamLayersIdeal.nD Cert.AdamLayersIdeal.τ).loc Cert.AdamLayersIdeal.main_arg3)
      ∧ m' ((c.tc : Thread Cert.AdamLayersRefIdeal.nD Cert.AdamLayersRefIdeal.τ).loc Cert.AdamLayersRefIdeal.main_arg4) = m ((c.tc : Thread Cert.AdamLayersIdeal.nD Cert.AdamLayersIdeal.τ).loc Cert.AdamLayersIdeal.main_arg4)
      ∧ m' ((c.tc : Thread Cert.AdamLayersRefIdeal.nD Cert.AdamLayersRefIdeal.τ).loc Cert.AdamLayersRefIdeal.main_arg5) = m ((c.tc : Thread Cert.AdamLayersIdeal.nD Cert.AdamLayersIdeal.τ).loc Cert.AdamLayersIdeal.main_arg5)
      ∧ m' ((c.tc : Thread Cert.AdamLayersRefIdeal.nD Cert.AdamLayersRefIdeal.τ).loc Cert.AdamLayersRefIdeal.main_arg6) = m ((c.tc : Thread Cert.AdamLayersIdeal.nD Cert.AdamLayersIdeal.τ).loc Cert.AdamLayersIdeal.main_arg6)) →
    ∃ (v0 : (c : Dev Cert.AdamLayersIdeal.nD) → Buf (Elt Ideal) ((c.tc : Thread Cert.AdamLayersIdeal.nD Cert.AdamLayersIdeal.τ).loc Cert.AdamLayersIdeal.main_v0_0)) (v1 : (c : Dev Cert.AdamLayersIdeal.nD) → Buf (Elt Ideal) ((c.tc : Thread Cert.AdamLayersIdeal.nD Cert.AdamLayersIdeal.τ).loc Cert.AdamLayersIdeal.main_v0_1)) (v2 : (c : Dev Cert.AdamLayersIdeal.nD) → Buf (Elt Ideal) ((c.tc : Thread Cert.AdamLayersIdeal.nD Cert.AdamLayersIdeal.τ).loc Cert.AdamLayersIdeal.main_v0_2)) (v3 : (c : Dev Cert.AdamLayersIdeal.nD) → Buf (Elt Ideal) ((c.tc : Thread Cert.AdamLayersIdeal.nD Cert.AdamLayersIdeal.τ).loc Cert.AdamLayersIdeal.main_v0_3)),
      θ_run (Cert.AdamLayersIdeal.defs (F := Ideal)) (onTc (τ := Cert.AdamLayersIdeal.τ) (Cert.AdamLayersIdeal.main (F := Ideal))) ⟨m, fun _ => 0, g⟩ (fun r => ∀ c : Dev Cert.AdamLayersIdeal.nD,
          r.2.mem ((c.tc : Thread Cert.AdamLayersIdeal.nD Cert.AdamLayersIdeal.τ).loc Cert.AdamLayersIdeal.main_v0_0) = v0 c
          ∧ r.2.mem ((c.tc : Thread Cert.AdamLayersIdeal.nD Cert.AdamLayersIdeal.τ).loc Cert.AdamLayersIdeal.main_v0_1) = v1 c
          ∧ r.2.mem ((c.tc : Thread Cert.AdamLayersIdeal.nD Cert.AdamLayersIdeal.τ).loc Cert.AdamLayersIdeal.main_v0_2) = v2 c
          ∧ r.2.mem ((c.tc : Thread Cert.AdamLayersIdeal.nD Cert.AdamLayersIdeal.τ).loc Cert.AdamLayersIdeal.main_v0_3) = v3 c
          ∧ r.2.mem ((c.tc : Thread Cert.AdamLayersIdeal.nD Cert.AdamLayersIdeal.τ).loc Cert.AdamLayersIdeal.main_arg0) = m ((c.tc : Thread Cert.AdamLayersIdeal.nD Cert.AdamLayersIdeal.τ).loc Cert.AdamLayersIdeal.main_arg0)
          ∧ r.2.mem ((c.tc : Thread Cert.AdamLayersIdeal.nD Cert.AdamLayersIdeal.τ).loc Cert.AdamLayersIdeal.main_arg1) = m ((c.tc : Thread Cert.AdamLayersIdeal.nD Cert.AdamLayersIdeal.τ).loc Cert.AdamLayersIdeal.main_arg1)
          ∧ r.2.mem ((c.tc : Thread Cert.AdamLayersIdeal.nD Cert.AdamLayersIdeal.τ).loc Cert.AdamLayersIdeal.main_arg2) = m ((c.tc : Thread Cert.AdamLayersIdeal.nD Cert.AdamLayersIdeal.τ).loc Cert.AdamLayersIdeal.main_arg2)
          ∧ r.2.mem ((c.tc : Thread Cert.AdamLayersIdeal.nD Cert.AdamLayersIdeal.τ).loc Cert.AdamLayersIdeal.main_arg3) = m ((c.tc : Thread Cert.AdamLayersIdeal.nD Cert.AdamLayersIdeal.τ).loc Cert.AdamLayersIdeal.main_arg3)
          ∧ r.2.mem ((c.tc : Thread Cert.AdamLayersIdeal.nD Cert.AdamLayersIdeal.τ).loc Cert.AdamLayersIdeal.main_arg4) = m ((c.tc : Thread Cert.AdamLayersIdeal.nD Cert.AdamLayersIdeal.τ).loc Cert.AdamLayersIdeal.main_arg4)
          ∧ r.2.mem ((c.tc : Thread Cert.AdamLayersIdeal.nD Cert.AdamLayersIdeal.τ).loc Cert.AdamLayersIdeal.main_arg5) = m ((c.tc : Thread Cert.AdamLayersIdeal.nD Cert.AdamLayersIdeal.τ).loc Cert.AdamLayersIdeal.main_arg5)
          ∧ r.2.mem ((c.tc : Thread Cert.AdamLayersIdeal.nD Cert.AdamLayersIdeal.τ).loc Cert.AdamLayersIdeal.main_arg6) = m ((c.tc : Thread Cert.AdamLayersIdeal.nD Cert.AdamLayersIdeal.τ).loc Cert.AdamLayersIdeal.main_arg6))
      ∧ θ_run (Cert.AdamLayersRefIdeal.defs (F := Ideal)) (onTc (τ := Cert.AdamLayersRefIdeal.τ) (Cert.AdamLayersRefIdeal.main (F := Ideal))) ⟨m', fun _ => 0, g'⟩ (fun r => ∀ c : Dev Cert.AdamLayersRefIdeal.nD,
          r.2.mem ((c.tc : Thread Cert.AdamLayersRefIdeal.nD Cert.AdamLayersRefIdeal.τ).loc Cert.AdamLayersRefIdeal.main_v4) = v0 c
          ∧ r.2.mem ((c.tc : Thread Cert.AdamLayersRefIdeal.nD Cert.AdamLayersRefIdeal.τ).loc Cert.AdamLayersRefIdeal.main_v28) = v1 c
          ∧ r.2.mem ((c.tc : Thread Cert.AdamLayersRefIdeal.nD Cert.AdamLayersRefIdeal.τ).loc Cert.AdamLayersRefIdeal.main_v9) = v2 c
          ∧ r.2.mem ((c.tc : Thread Cert.AdamLayersRefIdeal.nD Cert.AdamLayersRefIdeal.τ).loc Cert.AdamLayersRefIdeal.main_v15) = v3 c
          ∧ r.2.mem ((c.tc : Thread Cert.AdamLayersRefIdeal.nD Cert.AdamLayersRefIdeal.τ).loc Cert.AdamLayersRefIdeal.main_arg0) = m' ((c.tc : Thread Cert.AdamLayersRefIdeal.nD Cert.AdamLayersRefIdeal.τ).loc Cert.AdamLayersRefIdeal.main_arg0)
          ∧ r.2.mem ((c.tc : Thread Cert.AdamLayersRefIdeal.nD Cert.AdamLayersRefIdeal.τ).loc Cert.AdamLayersRefIdeal.main_arg1) = m' ((c.tc : Thread Cert.AdamLayersRefIdeal.nD Cert.AdamLayersRefIdeal.τ).loc Cert.AdamLayersRefIdeal.main_arg1)
          ∧ r.2.mem ((c.tc : Thread Cert.AdamLayersRefIdeal.nD Cert.AdamLayersRefIdeal.τ).loc Cert.AdamLayersRefIdeal.main_arg2) = m' ((c.tc : Thread Cert.AdamLayersRefIdeal.nD Cert.AdamLayersRefIdeal.τ).loc Cert.AdamLayersRefIdeal.main_arg2)
          ∧ r.2.mem ((c.tc : Thread Cert.AdamLayersRefIdeal.nD Cert.AdamLayersRefIdeal.τ).loc Cert.AdamLayersRefIdeal.main_arg3) = m' ((c.tc : Thread Cert.AdamLayersRefIdeal.nD Cert.AdamLayersRefIdeal.τ).loc Cert.AdamLayersRefIdeal.main_arg3)
          ∧ r.2.mem ((c.tc : Thread Cert.AdamLayersRefIdeal.nD Cert.AdamLayersRefIdeal.τ).loc Cert.AdamLayersRefIdeal.main_arg4) = m' ((c.tc : Thread Cert.AdamLayersRefIdeal.nD Cert.AdamLayersRefIdeal.τ).loc Cert.AdamLayersRefIdeal.main_arg4)
          ∧ r.2.mem ((c.tc : Thread Cert.AdamLayersRefIdeal.nD Cert.AdamLayersRefIdeal.τ).loc Cert.AdamLayersRefIdeal.main_arg5) = m' ((c.tc : Thread Cert.AdamLayersRefIdeal.nD Cert.AdamLayersRefIdeal.τ).loc Cert.AdamLayersRefIdeal.main_arg5)
          ∧ r.2.mem ((c.tc : Thread Cert.AdamLayersRefIdeal.nD Cert.AdamLayersRefIdeal.τ).loc Cert.AdamLayersRefIdeal.main_arg6) = m' ((c.tc : Thread Cert.AdamLayersRefIdeal.nD Cert.AdamLayersRefIdeal.τ).loc Cert.AdamLayersRefIdeal.main_arg6))

def preserves_AdaUpdate_AdaUpdateIdeal : Prop :=
  True

def algebraic_AdaUpdateIdeal_AdaUpdateRefIdeal [hAdaUpdateIdeal : Cert.AdaUpdateIdeal.Facts] [hAdaUpdateRefIdeal : Cert.AdaUpdateRefIdeal.Facts] : Prop :=
  ∀ (m : (ℓ : Loc Cert.AdaUpdateIdeal.nD Cert.AdaUpdateIdeal.τ Cert.AdaUpdateIdeal.sig) → Buf (Elt Ideal) ℓ) (g : Dev Cert.AdaUpdateIdeal.nD → PrngReg)
    (m' : (ℓ : Loc Cert.AdaUpdateRefIdeal.nD Cert.AdaUpdateRefIdeal.τ Cert.AdaUpdateRefIdeal.sig) → Buf (Elt Ideal) ℓ) (g' : Dev Cert.AdaUpdateRefIdeal.nD → PrngReg), Pre_AdaUpdateIdeal m →
    (∀ c : Dev Cert.AdaUpdateIdeal.nD,
      m' ((c.tc : Thread Cert.AdaUpdateRefIdeal.nD Cert.AdaUpdateRefIdeal.τ).loc Cert.AdaUpdateRefIdeal.main_arg0) = m ((c.tc : Thread Cert.AdaUpdateIdeal.nD Cert.AdaUpdateIdeal.τ).loc Cert.AdaUpdateIdeal.main_arg0)
      ∧ m' ((c.tc : Thread Cert.AdaUpdateRefIdeal.nD Cert.AdaUpdateRefIdeal.τ).loc Cert.AdaUpdateRefIdeal.main_arg1) = m ((c.tc : Thread Cert.AdaUpdateIdeal.nD Cert.AdaUpdateIdeal.τ).loc Cert.AdaUpdateIdeal.main_arg1)
      ∧ m' ((c.tc : Thread Cert.AdaUpdateRefIdeal.nD Cert.AdaUpdateRefIdeal.τ).loc Cert.AdaUpdateRefIdeal.main_arg2) = m ((c.tc : Thread Cert.AdaUpdateIdeal.nD Cert.AdaUpdateIdeal.τ).loc Cert.AdaUpdateIdeal.main_arg2)
      ∧ m' ((c.tc : Thread Cert.AdaUpdateRefIdeal.nD Cert.AdaUpdateRefIdeal.τ).loc Cert.AdaUpdateRefIdeal.main_arg3) = m ((c.tc : Thread Cert.AdaUpdateIdeal.nD Cert.AdaUpdateIdeal.τ).loc Cert.AdaUpdateIdeal.main_arg3)
      ∧ m' ((c.tc : Thread Cert.AdaUpdateRefIdeal.nD Cert.AdaUpdateRefIdeal.τ).loc Cert.AdaUpdateRefIdeal.main_arg4) = m ((c.tc : Thread Cert.AdaUpdateIdeal.nD Cert.AdaUpdateIdeal.τ).loc Cert.AdaUpdateIdeal.main_arg4)) →
    ∃ (v0 : (c : Dev Cert.AdaUpdateIdeal.nD) → Buf (Elt Ideal) ((c.tc : Thread Cert.AdaUpdateIdeal.nD Cert.AdaUpdateIdeal.τ).loc Cert.AdaUpdateIdeal.main_v0_0)) (v1 : (c : Dev Cert.AdaUpdateIdeal.nD) → Buf (Elt Ideal) ((c.tc : Thread Cert.AdaUpdateIdeal.nD Cert.AdaUpdateIdeal.τ).loc Cert.AdaUpdateIdeal.main_v0_1)) (v2 : (c : Dev Cert.AdaUpdateIdeal.nD) → Buf (Elt Ideal) ((c.tc : Thread Cert.AdaUpdateIdeal.nD Cert.AdaUpdateIdeal.τ).loc Cert.AdaUpdateIdeal.main_v0_2)) (v3 : (c : Dev Cert.AdaUpdateIdeal.nD) → Buf (Elt Ideal) ((c.tc : Thread Cert.AdaUpdateIdeal.nD Cert.AdaUpdateIdeal.τ).loc Cert.AdaUpdateIdeal.main_v0_3)),
      θ_run (Cert.AdaUpdateIdeal.defs (F := Ideal)) (onTc (τ := Cert.AdaUpdateIdeal.τ) (Cert.AdaUpdateIdeal.main (F := Ideal))) ⟨m, fun _ => 0, g⟩ (fun r => ∀ c : Dev Cert.AdaUpdateIdeal.nD,
          r.2.mem ((c.tc : Thread Cert.AdaUpdateIdeal.nD Cert.AdaUpdateIdeal.τ).loc Cert.AdaUpdateIdeal.main_v0_0) = v0 c
          ∧ r.2.mem ((c.tc : Thread Cert.AdaUpdateIdeal.nD Cert.AdaUpdateIdeal.τ).loc Cert.AdaUpdateIdeal.main_v0_1) = v1 c
          ∧ r.2.mem ((c.tc : Thread Cert.AdaUpdateIdeal.nD Cert.AdaUpdateIdeal.τ).loc Cert.AdaUpdateIdeal.main_v0_2) = v2 c
          ∧ r.2.mem ((c.tc : Thread Cert.AdaUpdateIdeal.nD Cert.AdaUpdateIdeal.τ).loc Cert.AdaUpdateIdeal.main_v0_3) = v3 c
          ∧ r.2.mem ((c.tc : Thread Cert.AdaUpdateIdeal.nD Cert.AdaUpdateIdeal.τ).loc Cert.AdaUpdateIdeal.main_arg0) = m ((c.tc : Thread Cert.AdaUpdateIdeal.nD Cert.AdaUpdateIdeal.τ).loc Cert.AdaUpdateIdeal.main_arg0)
          ∧ r.2.mem ((c.tc : Thread Cert.AdaUpdateIdeal.nD Cert.AdaUpdateIdeal.τ).loc Cert.AdaUpdateIdeal.main_arg1) = m ((c.tc : Thread Cert.AdaUpdateIdeal.nD Cert.AdaUpdateIdeal.τ).loc Cert.AdaUpdateIdeal.main_arg1)
          ∧ r.2.mem ((c.tc : Thread Cert.AdaUpdateIdeal.nD Cert.AdaUpdateIdeal.τ).loc Cert.AdaUpdateIdeal.main_arg2) = m ((c.tc : Thread Cert.AdaUpdateIdeal.nD Cert.AdaUpdateIdeal.τ).loc Cert.AdaUpdateIdeal.main_arg2)
          ∧ r.2.mem ((c.tc : Thread Cert.AdaUpdateIdeal.nD Cert.AdaUpdateIdeal.τ).loc Cert.AdaUpdateIdeal.main_arg3) = m ((c.tc : Thread Cert.AdaUpdateIdeal.nD Cert.AdaUpdateIdeal.τ).loc Cert.AdaUpdateIdeal.main_arg3)
          ∧ r.2.mem ((c.tc : Thread Cert.AdaUpdateIdeal.nD Cert.AdaUpdateIdeal.τ).loc Cert.AdaUpdateIdeal.main_arg4) = m ((c.tc : Thread Cert.AdaUpdateIdeal.nD Cert.AdaUpdateIdeal.τ).loc Cert.AdaUpdateIdeal.main_arg4))
      ∧ θ_run (Cert.AdaUpdateRefIdeal.defs (F := Ideal)) (onTc (τ := Cert.AdaUpdateRefIdeal.τ) (Cert.AdaUpdateRefIdeal.main (F := Ideal))) ⟨m', fun _ => 0, g'⟩ (fun r => ∀ c : Dev Cert.AdaUpdateRefIdeal.nD,
          r.2.mem ((c.tc : Thread Cert.AdaUpdateRefIdeal.nD Cert.AdaUpdateRefIdeal.τ).loc Cert.AdaUpdateRefIdeal.main_v4) = v0 c
          ∧ r.2.mem ((c.tc : Thread Cert.AdaUpdateRefIdeal.nD Cert.AdaUpdateRefIdeal.τ).loc Cert.AdaUpdateRefIdeal.main_v28) = v1 c
          ∧ r.2.mem ((c.tc : Thread Cert.AdaUpdateRefIdeal.nD Cert.AdaUpdateRefIdeal.τ).loc Cert.AdaUpdateRefIdeal.main_v9) = v2 c
          ∧ r.2.mem ((c.tc : Thread Cert.AdaUpdateRefIdeal.nD Cert.AdaUpdateRefIdeal.τ).loc Cert.AdaUpdateRefIdeal.main_v15) = v3 c
          ∧ r.2.mem ((c.tc : Thread Cert.AdaUpdateRefIdeal.nD Cert.AdaUpdateRefIdeal.τ).loc Cert.AdaUpdateRefIdeal.main_arg0) = m' ((c.tc : Thread Cert.AdaUpdateRefIdeal.nD Cert.AdaUpdateRefIdeal.τ).loc Cert.AdaUpdateRefIdeal.main_arg0)
          ∧ r.2.mem ((c.tc : Thread Cert.AdaUpdateRefIdeal.nD Cert.AdaUpdateRefIdeal.τ).loc Cert.AdaUpdateRefIdeal.main_arg1) = m' ((c.tc : Thread Cert.AdaUpdateRefIdeal.nD Cert.AdaUpdateRefIdeal.τ).loc Cert.AdaUpdateRefIdeal.main_arg1)
          ∧ r.2.mem ((c.tc : Thread Cert.AdaUpdateRefIdeal.nD Cert.AdaUpdateRefIdeal.τ).loc Cert.AdaUpdateRefIdeal.main_arg2) = m' ((c.tc : Thread Cert.AdaUpdateRefIdeal.nD Cert.AdaUpdateRefIdeal.τ).loc Cert.AdaUpdateRefIdeal.main_arg2)
          ∧ r.2.mem ((c.tc : Thread Cert.AdaUpdateRefIdeal.nD Cert.AdaUpdateRefIdeal.τ).loc Cert.AdaUpdateRefIdeal.main_arg3) = m' ((c.tc : Thread Cert.AdaUpdateRefIdeal.nD Cert.AdaUpdateRefIdeal.τ).loc Cert.AdaUpdateRefIdeal.main_arg3)
          ∧ r.2.mem ((c.tc : Thread Cert.AdaUpdateRefIdeal.nD Cert.AdaUpdateRefIdeal.τ).loc Cert.AdaUpdateRefIdeal.main_arg4) = m' ((c.tc : Thread Cert.AdaUpdateRefIdeal.nD Cert.AdaUpdateRefIdeal.τ).loc Cert.AdaUpdateRefIdeal.main_arg4))

def preserves_PackSmall_PackSmallIdeal : Prop :=
  True

def algebraic_PackSmallIdeal_PackSmallRefIdeal [hPackSmallIdeal : Cert.PackSmallIdeal.Facts] [hPackSmallRefIdeal : Cert.PackSmallRefIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg)
    (m' : (ℓ : Loc Cert.PackSmallRefIdeal.nD Cert.PackSmallRefIdeal.τ Cert.PackSmallRefIdeal.sig) → Buf (Elt Ideal) ℓ) (g' : Dev Cert.PackSmallRefIdeal.nD → PrngReg), Pre_PackSmallIdeal m →
    (∀ c : Dev Cert.PackSmallIdeal.nD,
      m' ((c.tc : Thread Cert.PackSmallRefIdeal.nD Cert.PackSmallRefIdeal.τ).loc Cert.PackSmallRefIdeal.main_arg0) = m ((c.tc : Thread Cert.PackSmallIdeal.nD Cert.PackSmallIdeal.τ).loc Cert.PackSmallIdeal.main_arg0)
      ∧ m' ((c.tc : Thread Cert.PackSmallRefIdeal.nD Cert.PackSmallRefIdeal.τ).loc Cert.PackSmallRefIdeal.main_arg1) = m ((c.tc : Thread Cert.PackSmallIdeal.nD Cert.PackSmallIdeal.τ).loc Cert.PackSmallIdeal.main_arg1)
      ∧ m' ((c.tc : Thread Cert.PackSmallRefIdeal.nD Cert.PackSmallRefIdeal.τ).loc Cert.PackSmallRefIdeal.main_arg2) = m ((c.tc : Thread Cert.PackSmallIdeal.nD Cert.PackSmallIdeal.τ).loc Cert.PackSmallIdeal.main_arg2)) →
    ∃ (v0 : (c : Dev Cert.PackSmallIdeal.nD) → Buf (Elt Ideal) ((c.tc : Thread Cert.PackSmallIdeal.nD Cert.PackSmallIdeal.τ).loc Cert.PackSmallIdeal.main_v0)),
      θ_run (Cert.PackSmallIdeal.defs (F := Ideal)) (onTc (τ := Cert.PackSmallIdeal.τ) (Cert.PackSmallIdeal.main (F := Ideal))) ⟨m, fun _ => 0, g⟩ (fun r => ∀ c : Dev Cert.PackSmallIdeal.nD,
          r.2.mem ((c.tc : Thread Cert.PackSmallIdeal.nD Cert.PackSmallIdeal.τ).loc Cert.PackSmallIdeal.main_v0) = v0 c
          ∧ r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
          ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
          ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2))
      ∧ θ_run (Cert.PackSmallRefIdeal.defs (F := Ideal)) (onTc (τ := Cert.PackSmallRefIdeal.τ) (Cert.PackSmallRefIdeal.main (F := Ideal))) ⟨m', fun _ => 0, g'⟩ (fun r => ∀ c : Dev Cert.PackSmallRefIdeal.nD,
          r.2.mem ((c.tc : Thread Cert.PackSmallRefIdeal.nD Cert.PackSmallRefIdeal.τ).loc Cert.PackSmallRefIdeal.main_v2) = v0 c
          ∧ r.2.mem ((c.tc : Thread Cert.PackSmallRefIdeal.nD Cert.PackSmallRefIdeal.τ).loc Cert.PackSmallRefIdeal.main_arg0) = m' ((c.tc : Thread Cert.PackSmallRefIdeal.nD Cert.PackSmallRefIdeal.τ).loc Cert.PackSmallRefIdeal.main_arg0)
          ∧ r.2.mem ((c.tc : Thread Cert.PackSmallRefIdeal.nD Cert.PackSmallRefIdeal.τ).loc Cert.PackSmallRefIdeal.main_arg1) = m' ((c.tc : Thread Cert.PackSmallRefIdeal.nD Cert.PackSmallRefIdeal.τ).loc Cert.PackSmallRefIdeal.main_arg1)
          ∧ r.2.mem ((c.tc : Thread Cert.PackSmallRefIdeal.nD Cert.PackSmallRefIdeal.τ).loc Cert.PackSmallRefIdeal.main_arg2) = m' ((c.tc : Thread Cert.PackSmallRefIdeal.nD Cert.PackSmallRefIdeal.τ).loc Cert.PackSmallRefIdeal.main_arg2))

def Claim : Prop :=
  ∃ (hCNorm : Cert.CNorm.Facts) (hCNormIdeal : Cert.CNormIdeal.Facts) (hCNormRefIdeal : Cert.CNormRefIdeal.Facts) (hFNorm : Cert.FNorm.Facts) (hFNormIdeal : Cert.FNormIdeal.Facts) (hFNormRefIdeal : Cert.FNormRefIdeal.Facts) (hANorm : Cert.ANorm.Facts) (hANormIdeal : Cert.ANormIdeal.Facts) (hANormRefIdeal : Cert.ANormRefIdeal.Facts) (hBProjNorm : Cert.BProjNorm.Facts) (hBProjNormIdeal : Cert.BProjNormIdeal.Facts) (hBProjNormRefIdeal : Cert.BProjNormRefIdeal.Facts) (hLossHead : Cert.LossHead.Facts) (hLossHeadIdeal : Cert.LossHeadIdeal.Facts) (hLossHeadRefIdeal : Cert.LossHeadRefIdeal.Facts) (hBNorm : Cert.BNorm.Facts) (hBNormIdeal : Cert.BNormIdeal.Facts) (hBNormRefIdeal : Cert.BNormRefIdeal.Facts) (hFGate : Cert.FGate.Facts) (hFGateIdeal : Cert.FGateIdeal.Facts) (hFGateRefIdeal : Cert.FGateRefIdeal.Facts) (hAGate : Cert.AGate.Facts) (hAGateIdeal : Cert.AGateIdeal.Facts) (hAGateRefIdeal : Cert.AGateRefIdeal.Facts) (hBGate : Cert.BGate.Facts) (hBGateIdeal : Cert.BGateIdeal.Facts) (hBGateRefIdeal : Cert.BGateRefIdeal.Facts) (hCGate : Cert.CGate.Facts) (hCGateIdeal : Cert.CGateIdeal.Facts) (hCGateRefIdeal : Cert.CGateRefIdeal.Facts) (hAStrip : Cert.AStrip.Facts) (hAStripIdeal : Cert.AStripIdeal.Facts) (hAStripRefIdeal : Cert.AStripRefIdeal.Facts) (hBStrip : Cert.BStrip.Facts) (hBStripIdeal : Cert.BStripIdeal.Facts) (hBStripRefIdeal : Cert.BStripRefIdeal.Facts) (hCStrip : Cert.CStrip.Facts) (hCStripIdeal : Cert.CStripIdeal.Facts) (hCStripRefIdeal : Cert.CStripRefIdeal.Facts) (hCMod : Cert.CMod.Facts) (hCModIdeal : Cert.CModIdeal.Facts) (hCModRefIdeal : Cert.CModRefIdeal.Facts) (hAIn : Cert.AIn.Facts) (hAInIdeal : Cert.AInIdeal.Facts) (hAInRefIdeal : Cert.AInRefIdeal.Facts) (hBIn : Cert.BIn.Facts) (hBInIdeal : Cert.BInIdeal.Facts) (hBInRefIdeal : Cert.BInRefIdeal.Facts) (hFIn : Cert.FIn.Facts) (hFInIdeal : Cert.FInIdeal.Facts) (hFInRefIdeal : Cert.FInRefIdeal.Facts) (hCPool : Cert.CPool.Facts) (hCPoolIdeal : Cert.CPoolIdeal.Facts) (hCPoolRefIdeal : Cert.CPoolRefIdeal.Facts) (hAConv : Cert.AConv.Facts) (hAConvIdeal : Cert.AConvIdeal.Facts) (hAConvRefIdeal : Cert.AConvRefIdeal.Facts) (hBConv : Cert.BConv.Facts) (hBConvIdeal : Cert.BConvIdeal.Facts) (hBConvRefIdeal : Cert.BConvRefIdeal.Facts) (hAdam : Cert.Adam.Facts) (hAdamIdeal : Cert.AdamIdeal.Facts) (hAdamRefIdeal : Cert.AdamRefIdeal.Facts) (hAdamLayers : Cert.AdamLayers.Facts) (hAdamLayersIdeal : Cert.AdamLayersIdeal.Facts) (hAdamLayersRefIdeal : Cert.AdamLayersRefIdeal.Facts) (hAdaUpdate : Cert.AdaUpdate.Facts) (hAdaUpdateIdeal : Cert.AdaUpdateIdeal.Facts) (hAdaUpdateRefIdeal : Cert.AdaUpdateRefIdeal.Facts) (hPackSmall : Cert.PackSmall.Facts) (hPackSmallIdeal : Cert.PackSmallIdeal.Facts) (hPackSmallRefIdeal : Cert.PackSmallRefIdeal.Facts) (hPre_n_finite : Cert.Pre_n_finite.Facts) (hPre_fn_finite : Cert.Pre_fn_finite.Facts) (hPre_an_finite : Cert.Pre_an_finite.Facts) (hPre_bn_finite : Cert.Pre_bn_finite.Facts) (hPre_loss_finite : Cert.Pre_loss_finite.Facts) (hPre_ln_finite : Cert.Pre_ln_finite.Facts) (hPre_f_finite : Cert.Pre_f_finite.Facts) (hPre_c_finite : Cert.Pre_c_finite.Facts) (hPre_cw_finite : Cert.Pre_cw_finite.Facts),
    quiescent_CNorm (hCNorm := hCNorm)
    ∧ quiescent_CNormIdeal (hCNormIdeal := hCNormIdeal)
    ∧ quiescent_CNormIdeal_pre_n_finite (hCNormIdeal := hCNormIdeal) (hPre_n_finite := hPre_n_finite)
    ∧ quiescent_CNormRefIdeal (hCNormRefIdeal := hCNormRefIdeal)
    ∧ quiescent_CNormRefIdeal_pre_n_finite (hCNormRefIdeal := hCNormRefIdeal) (hPre_n_finite := hPre_n_finite)
    ∧ quiescent_FNorm (hFNorm := hFNorm)
    ∧ quiescent_FNormIdeal (hFNormIdeal := hFNormIdeal)
    ∧ quiescent_FNormIdeal_pre_fn_finite (hFNormIdeal := hFNormIdeal) (hPre_fn_finite := hPre_fn_finite)
    ∧ quiescent_FNormRefIdeal (hFNormRefIdeal := hFNormRefIdeal)
    ∧ quiescent_FNormRefIdeal_pre_fn_finite (hFNormRefIdeal := hFNormRefIdeal) (hPre_fn_finite := hPre_fn_finite)
    ∧ quiescent_ANorm (hANorm := hANorm)
    ∧ quiescent_ANormIdeal (hANormIdeal := hANormIdeal)
    ∧ quiescent_ANormIdeal_pre_an_finite (hANormIdeal := hANormIdeal) (hPre_an_finite := hPre_an_finite)
    ∧ quiescent_ANormRefIdeal (hANormRefIdeal := hANormRefIdeal)
    ∧ quiescent_ANormRefIdeal_pre_an_finite (hANormRefIdeal := hANormRefIdeal) (hPre_an_finite := hPre_an_finite)
    ∧ quiescent_BProjNorm (hBProjNorm := hBProjNorm)
    ∧ quiescent_BProjNormIdeal (hBProjNormIdeal := hBProjNormIdeal)
    ∧ quiescent_BProjNormIdeal_pre_bn_finite (hBProjNormIdeal := hBProjNormIdeal) (hPre_bn_finite := hPre_bn_finite)
    ∧ quiescent_BProjNormRefIdeal (hBProjNormRefIdeal := hBProjNormRefIdeal)
    ∧ quiescent_BProjNormRefIdeal_pre_bn_finite (hBProjNormRefIdeal := hBProjNormRefIdeal) (hPre_bn_finite := hPre_bn_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_BNorm (hBNorm := hBNorm)
    ∧ quiescent_BNormIdeal (hBNormIdeal := hBNormIdeal)
    ∧ quiescent_BNormIdeal_pre_ln_finite (hBNormIdeal := hBNormIdeal) (hPre_ln_finite := hPre_ln_finite)
    ∧ quiescent_BNormRefIdeal (hBNormRefIdeal := hBNormRefIdeal)
    ∧ quiescent_BNormRefIdeal_pre_ln_finite (hBNormRefIdeal := hBNormRefIdeal) (hPre_ln_finite := hPre_ln_finite)
    ∧ quiescent_FGate (hFGate := hFGate)
    ∧ quiescent_FGateIdeal (hFGateIdeal := hFGateIdeal)
    ∧ quiescent_FGateIdeal_pre_f_finite (hFGateIdeal := hFGateIdeal) (hPre_f_finite := hPre_f_finite)
    ∧ quiescent_FGateRefIdeal (hFGateRefIdeal := hFGateRefIdeal)
    ∧ quiescent_FGateRefIdeal_pre_f_finite (hFGateRefIdeal := hFGateRefIdeal) (hPre_f_finite := hPre_f_finite)
    ∧ quiescent_AGate (hAGate := hAGate)
    ∧ quiescent_AGateIdeal (hAGateIdeal := hAGateIdeal)
    ∧ quiescent_AGateRefIdeal (hAGateRefIdeal := hAGateRefIdeal)
    ∧ quiescent_BGate (hBGate := hBGate)
    ∧ quiescent_BGateIdeal (hBGateIdeal := hBGateIdeal)
    ∧ quiescent_BGateRefIdeal (hBGateRefIdeal := hBGateRefIdeal)
    ∧ quiescent_CGate (hCGate := hCGate)
    ∧ quiescent_CGateIdeal (hCGateIdeal := hCGateIdeal)
    ∧ quiescent_CGateRefIdeal (hCGateRefIdeal := hCGateRefIdeal)
    ∧ quiescent_AStrip (hAStrip := hAStrip)
    ∧ quiescent_AStripIdeal (hAStripIdeal := hAStripIdeal)
    ∧ quiescent_AStripRefIdeal (hAStripRefIdeal := hAStripRefIdeal)
    ∧ quiescent_BStrip (hBStrip := hBStrip)
    ∧ quiescent_BStripIdeal (hBStripIdeal := hBStripIdeal)
    ∧ quiescent_BStripRefIdeal (hBStripRefIdeal := hBStripRefIdeal)
    ∧ quiescent_CStrip (hCStrip := hCStrip)
    ∧ quiescent_CStripIdeal (hCStripIdeal := hCStripIdeal)
    ∧ quiescent_CStripIdeal_pre_c_finite (hCStripIdeal := hCStripIdeal) (hPre_c_finite := hPre_c_finite)
    ∧ quiescent_CStripRefIdeal (hCStripRefIdeal := hCStripRefIdeal)
    ∧ quiescent_CStripRefIdeal_pre_c_finite (hCStripRefIdeal := hCStripRefIdeal) (hPre_c_finite := hPre_c_finite)
    ∧ quiescent_CMod (hCMod := hCMod)
    ∧ quiescent_CModIdeal (hCModIdeal := hCModIdeal)
    ∧ quiescent_CModRefIdeal (hCModRefIdeal := hCModRefIdeal)
    ∧ quiescent_AIn (hAIn := hAIn)
    ∧ quiescent_AInIdeal (hAInIdeal := hAInIdeal)
    ∧ quiescent_AInRefIdeal (hAInRefIdeal := hAInRefIdeal)
    ∧ quiescent_BIn (hBIn := hBIn)
    ∧ quiescent_BInIdeal (hBInIdeal := hBInIdeal)
    ∧ quiescent_BInRefIdeal (hBInRefIdeal := hBInRefIdeal)
    ∧ quiescent_FIn (hFIn := hFIn)
    ∧ quiescent_FInIdeal (hFInIdeal := hFInIdeal)
    ∧ quiescent_FInRefIdeal (hFInRefIdeal := hFInRefIdeal)
    ∧ quiescent_CPool (hCPool := hCPool)
    ∧ quiescent_CPoolIdeal (hCPoolIdeal := hCPoolIdeal)
    ∧ quiescent_CPoolIdeal_pre_cw_finite (hCPoolIdeal := hCPoolIdeal) (hPre_cw_finite := hPre_cw_finite)
    ∧ quiescent_CPoolRefIdeal (hCPoolRefIdeal := hCPoolRefIdeal)
    ∧ quiescent_CPoolRefIdeal_pre_cw_finite (hCPoolRefIdeal := hCPoolRefIdeal) (hPre_cw_finite := hPre_cw_finite)
    ∧ quiescent_AConv (hAConv := hAConv)
    ∧ quiescent_AConvIdeal (hAConvIdeal := hAConvIdeal)
    ∧ quiescent_AConvRefIdeal (hAConvRefIdeal := hAConvRefIdeal)
    ∧ quiescent_BConv (hBConv := hBConv)
    ∧ quiescent_BConvIdeal (hBConvIdeal := hBConvIdeal)
    ∧ quiescent_BConvRefIdeal (hBConvRefIdeal := hBConvRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamLayers (hAdamLayers := hAdamLayers)
    ∧ quiescent_AdamLayersIdeal (hAdamLayersIdeal := hAdamLayersIdeal)
    ∧ quiescent_AdamLayersRefIdeal (hAdamLayersRefIdeal := hAdamLayersRefIdeal)
    ∧ quiescent_AdaUpdate (hAdaUpdate := hAdaUpdate)
    ∧ quiescent_AdaUpdateIdeal (hAdaUpdateIdeal := hAdaUpdateIdeal)
    ∧ quiescent_AdaUpdateRefIdeal (hAdaUpdateRefIdeal := hAdaUpdateRefIdeal)
    ∧ quiescent_PackSmall (hPackSmall := hPackSmall)
    ∧ quiescent_PackSmallIdeal (hPackSmallIdeal := hPackSmallIdeal)
    ∧ quiescent_PackSmallRefIdeal (hPackSmallRefIdeal := hPackSmallRefIdeal)
    ∧ preserves_CNorm_CNormIdeal
    ∧ algebraic_CNormIdeal_CNormRefIdeal_pre_n_finite (hCNormIdeal := hCNormIdeal) (hCNormRefIdeal := hCNormRefIdeal) (hPre_n_finite := hPre_n_finite)
    ∧ preserves_FNorm_FNormIdeal
    ∧ algebraic_FNormIdeal_FNormRefIdeal_pre_fn_finite (hFNormIdeal := hFNormIdeal) (hFNormRefIdeal := hFNormRefIdeal) (hPre_fn_finite := hPre_fn_finite)
    ∧ preserves_ANorm_ANormIdeal
    ∧ algebraic_ANormIdeal_ANormRefIdeal_pre_an_finite (hANormIdeal := hANormIdeal) (hANormRefIdeal := hANormRefIdeal) (hPre_an_finite := hPre_an_finite)
    ∧ preserves_BProjNorm_BProjNormIdeal
    ∧ algebraic_BProjNormIdeal_BProjNormRefIdeal_pre_bn_finite (hBProjNormIdeal := hBProjNormIdeal) (hBProjNormRefIdeal := hBProjNormRefIdeal) (hPre_bn_finite := hPre_bn_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_BNorm_BNormIdeal
    ∧ algebraic_BNormIdeal_BNormRefIdeal_pre_ln_finite (hBNormIdeal := hBNormIdeal) (hBNormRefIdeal := hBNormRefIdeal) (hPre_ln_finite := hPre_ln_finite)
    ∧ preserves_FGate_FGateIdeal
    ∧ algebraic_FGateIdeal_FGateRefIdeal_pre_f_finite (hFGateIdeal := hFGateIdeal) (hFGateRefIdeal := hFGateRefIdeal) (hPre_f_finite := hPre_f_finite)
    ∧ preserves_AGate_AGateIdeal
    ∧ algebraic_AGateIdeal_AGateRefIdeal (hAGateIdeal := hAGateIdeal) (hAGateRefIdeal := hAGateRefIdeal)
    ∧ preserves_BGate_BGateIdeal
    ∧ algebraic_BGateIdeal_BGateRefIdeal (hBGateIdeal := hBGateIdeal) (hBGateRefIdeal := hBGateRefIdeal)
    ∧ preserves_CGate_CGateIdeal
    ∧ algebraic_CGateIdeal_CGateRefIdeal (hCGateIdeal := hCGateIdeal) (hCGateRefIdeal := hCGateRefIdeal)
    ∧ preserves_AStrip_AStripIdeal
    ∧ algebraic_AStripIdeal_AStripRefIdeal (hAStripIdeal := hAStripIdeal) (hAStripRefIdeal := hAStripRefIdeal)
    ∧ preserves_BStrip_BStripIdeal
    ∧ algebraic_BStripIdeal_BStripRefIdeal (hBStripIdeal := hBStripIdeal) (hBStripRefIdeal := hBStripRefIdeal)
    ∧ preserves_CStrip_CStripIdeal
    ∧ algebraic_CStripIdeal_CStripRefIdeal_pre_c_finite (hCStripIdeal := hCStripIdeal) (hCStripRefIdeal := hCStripRefIdeal) (hPre_c_finite := hPre_c_finite)
    ∧ preserves_CMod_CModIdeal
    ∧ algebraic_CModIdeal_CModRefIdeal (hCModIdeal := hCModIdeal) (hCModRefIdeal := hCModRefIdeal)
    ∧ preserves_AIn_AInIdeal
    ∧ algebraic_AInIdeal_AInRefIdeal (hAInIdeal := hAInIdeal) (hAInRefIdeal := hAInRefIdeal)
    ∧ preserves_BIn_BInIdeal
    ∧ algebraic_BInIdeal_BInRefIdeal (hBInIdeal := hBInIdeal) (hBInRefIdeal := hBInRefIdeal)
    ∧ preserves_FIn_FInIdeal
    ∧ algebraic_FInIdeal_FInRefIdeal (hFInIdeal := hFInIdeal) (hFInRefIdeal := hFInRefIdeal)
    ∧ preserves_CPool_CPoolIdeal
    ∧ algebraic_CPoolIdeal_CPoolRefIdeal_pre_cw_finite (hCPoolIdeal := hCPoolIdeal) (hCPoolRefIdeal := hCPoolRefIdeal) (hPre_cw_finite := hPre_cw_finite)
    ∧ preserves_AConv_AConvIdeal
    ∧ algebraic_AConvIdeal_AConvRefIdeal (hAConvIdeal := hAConvIdeal) (hAConvRefIdeal := hAConvRefIdeal)
    ∧ preserves_BConv_BConvIdeal
    ∧ algebraic_BConvIdeal_BConvRefIdeal (hBConvIdeal := hBConvIdeal) (hBConvRefIdeal := hBConvRefIdeal)
    ∧ preserves_Adam_AdamIdeal
    ∧ algebraic_AdamIdeal_AdamRefIdeal (hAdamIdeal := hAdamIdeal) (hAdamRefIdeal := hAdamRefIdeal)
    ∧ preserves_AdamLayers_AdamLayersIdeal
    ∧ algebraic_AdamLayersIdeal_AdamLayersRefIdeal (hAdamLayersIdeal := hAdamLayersIdeal) (hAdamLayersRefIdeal := hAdamLayersRefIdeal)
    ∧ preserves_AdaUpdate_AdaUpdateIdeal
    ∧ algebraic_AdaUpdateIdeal_AdaUpdateRefIdeal (hAdaUpdateIdeal := hAdaUpdateIdeal) (hAdaUpdateRefIdeal := hAdaUpdateRefIdeal)
    ∧ preserves_PackSmall_PackSmallIdeal
    ∧ algebraic_PackSmallIdeal_PackSmallRefIdeal (hPackSmallIdeal := hPackSmallIdeal) (hPackSmallRefIdeal := hPackSmallRefIdeal)
-- ==== Pre_an_finite.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S4096x3072 : S_.BroadcastsInDim S4096x3072 (![] : Fin 0 → Fin S4096x3072.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x3072 .f32) (main_arg5 : FVec F S4096x1024 .f32) (main_arg6 : FVec F S4096x3072 .f32) : IVec S4096x1024 1 × IVec S1x1024 1 × IVec S1x1024 1 × IVec S1024x3072 1 × IVec S4096x3072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x3072 .f32 := Host.absf main_arg4
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_v12 : FVec F S4096x3072 .f32 := Host.absf main_arg6
  let main_cst_3 : FVec F S_ .f32 := constant S_ .f32 0x7F800000#32
  let main_v13 : FVec F S4096x3072 .f32 := broadcastInDim S4096x3072 ![] bcast_S_S4096x3072 main_cst_3
  let main_v14 : IVec S4096x3072 1 := cmpf .olt main_v12 main_v13
  (main_v2, main_v5, main_v8, main_v11, main_v14)
-- ==== Pre_bn_finite.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2048 : S_.BroadcastsInDim S1024x2048 (![] : Fin 0 → Fin S1024x2048.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x2048 .f32) (main_arg5 : FVec F S4096x1024 .f32) (main_arg6 : FVec F S4096x2048 .f32) : IVec S4096x1024 1 × IVec S1x1024 1 × IVec S1x1024 1 × IVec S1024x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S4096x2048 .f32 := Host.absf main_arg6
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_c_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_cw_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_f_finite.lean ====
abbrev S4096x1024 : Shape := ⟨2, ![4096, 1024]⟩
abbrev S4096x5632 : Shape := ⟨2, ![4096, 5632]⟩
abbrev S2816x1024 : Shape := ⟨2, ![2816, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x5632 .f32) (main_arg2 : FVec F S2816x1024 .f32) (main_arg3 : FVec F S1x1024 .f32) (main_arg4 : FVec F S4096x1024 .f32) : IVec S4096x5632 1 × IVec S2816x1024 1 × IVec S1x1024 1 × IVec S4096x1024 1 :=
  let main_v0 : FVec F S4096x5632 .f32 := Host.absf main_arg1
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_fn_finite.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x5632 .f32) (main_arg5 : FVec F S4096x1024 .f32) (main_arg6 : FVec F S4096x5632 .f32) : IVec S4096x1024 1 × IVec S1x1024 1 × IVec S1x1024 1 × IVec S1024x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S4096x5632 .f32 := Host.absf main_arg6
  let main_cst_3 : FVec F S_ .f32 := constant S_ .f32 0x7F800000#32
  let main_v13 : FVec F S4096x5632 .f32 := broadcastInDim S4096x5632 ![] bcast_S_S4096x5632 main_cst_3
  let main_v14 : IVec S4096x5632 1 := cmpf .olt main_v12 main_v13
  (main_v2, main_v5, main_v8, main_v11, main_v14)
-- ==== Pre_ln_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .f32) : IVec S4096x1024 1 × IVec S1x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_n_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .f32) (main_arg5 : FVec F S4096x1024 .f32) : IVec S4096x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg5
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== CNorm.lean ====
abbrev S4096x1024 : Shape := ⟨2, ![4096, 1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S8x1x1024, .f32⟩
  | .hbm, ⟨8, _⟩ => ⟨S8x1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== FNorm.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4x1x1024x1408 : Shape := ⟨4, ![4, 1, 1024, 1408]⟩
abbrev S8x1x1024 : Shape := ⟨3, ![8, 1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 36
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S4x1024x1408, .f32⟩
  | .hbm, ⟨22, _⟩ => ⟨S4x1x1024x1408, .f32⟩
  | .hbm, ⟨23, _⟩ => ⟨S4x1x1024x1408, .bf16⟩
  | .hbm, ⟨24, _⟩ => ⟨S4096x1024, .f32⟩
  | .hbm, ⟨25, _⟩ => ⟨S8x1x1024, .f32⟩
  | .hbm, ⟨26, _⟩ => ⟨S8x1x1024, .f32⟩
  | .hbm, ⟨27, _⟩ => ⟨S_, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== FNormRefIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S5632x1024, .f32⟩
  | .hbm, ⟨35, _⟩ => ⟨S1024x5632, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== ANorm.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S1x4096x1024 : Shape := ⟨3, ![1, 4096, 1024]⟩
abbrev S3x4096x1024 : Shape := ⟨3, ![3, 4096, 1024]⟩
abbrev S1x1024x3072 : Shape := ⟨3, ![1, 1024, 3072]⟩
abbrev S8x1x1024 : Shape := ⟨3, ![8, 1, 1024]⟩
abbrev S3x512x1024 : Shape := ⟨3, ![3, 512, 1024]⟩
abbrev S512x1024 : Shape := ⟨2, ![512, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 29
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S3x4096x1024, .f32⟩
  | .hbm, ⟨14, _⟩ => ⟨S3x4096x1024, .bf16⟩
  | .hbm, ⟨15, _⟩ => ⟨S1024x3072, .bf16⟩
  | .hbm, ⟨16, _⟩ => ⟨S1x1024x3072, .bf16⟩
  | .hbm, ⟨17, _⟩ => ⟨S4096x1024, .f32⟩
  | .hbm, ⟨18, _⟩ => ⟨S8x1x1024, .f32⟩
  | .hbm, ⟨19, _⟩ => ⟨S8x1x1024, .f32⟩
  | .hbm, ⟨20, _⟩ => ⟨S_, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ANormRefIdeal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S3072x1024 : Shape := ⟨2, ![3072, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x3072, .f32⟩
  | .hbm, ⟨34, _⟩ => ⟨S3072x1024, .f32⟩
  | .hbm, ⟨35, _⟩ => ⟨S1024x3072, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== BProjNorm.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S1x4096x1024 : Shape := ⟨3, ![1, 4096, 1024]⟩
abbrev S2x4096x1024 : Shape := ⟨3, ![2, 4096, 1024]⟩
abbrev S1x1024x2048 : Shape := ⟨3, ![1, 1024, 2048]⟩
abbrev S8x1x1024 : Shape := ⟨3, ![8, 1, 1024]⟩
abbrev S2x512x1024 : Shape := ⟨3, ![2, 512, 1024]⟩
abbrev S512x1024 : Shape := ⟨2, ![512, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 27
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S2x4096x1024, .f32⟩
  | .hbm, ⟨12, _⟩ => ⟨S2x4096x1024, .bf16⟩
  | .hbm, ⟨13, _⟩ => ⟨S1024x2048, .bf16⟩
  | .hbm, ⟨14, _⟩ => ⟨S1x1024x2048, .bf16⟩
  | .hbm, ⟨15, _⟩ => ⟨S4096x1024, .f32⟩
  | .hbm, ⟨16, _⟩ => ⟨S8x1x1024, .f32⟩
  | .hbm, ⟨17, _⟩ => ⟨S8x1x1024, .f32⟩
  | .hbm, ⟨18, _⟩ => ⟨S_, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1x1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== BProjNormRefIdeal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S2048x1024, .f32⟩
  | .hbm, ⟨35, _⟩ => ⟨S1024x2048, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1024, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== BNorm.lean ====
abbrev S4096x1024 : Shape := ⟨2, ![4096, 1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩

abbrev nD : Nat := 1
abbrev τ : Topo := Topo.v7x

variable {F : FTy → Type} [FloatOps F]
-- ==== FGate.lean ====
abbrev S4096x1024 : Shape := ⟨2, ![4096, 1024]⟩
abbrev S4096x5632 : Shape := ⟨2, ![4096, 5632]⟩
abbrev S2816x1024 : Shape := ⟨2, ![2816, 1024]⟩
abbrev S1x1024 : Shape := ⟨2, ![1, 1024]⟩
abbrev S1x2816x1024 : Shape := ⟨3, ![1, 2816, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x512x2816 : Shape := ⟨3, ![1, 512, 2816]⟩
abbrev S512x1024 : Shape := ⟨2, ![512, 1024]⟩
abbrev S512x2816 : Shape := ⟨2, ![512, 2816]⟩
abbrev S16x1x1024 : Shape := ⟨3, ![16, 1, 1024]⟩
abbrev S256x1024 : Shape := ⟨2, ![256, 1024]⟩
abbrev S1x256x2816 : Shape := ⟨3, ![1, 256, 2816]⟩
abbrev S1x1x1024 : Shape := ⟨3, ![1, 1, 1024]⟩
abbrev S2x256x2816 : Shape := ⟨3, ![2, 256, 2816]⟩
abbrev S256x2816 : Shape := ⟨2, ![256, 2816]⟩
abbrev S1024 : Shape := ⟨1, ![1024]⟩
abbrev S8x2x1x1024 : Shape := ⟨4, ![8, 2, 1, 1024]⟩
abbrev S_ : Shape := ⟨0, ![]⟩
abbrev S8x1x1024 : Shape := ⟨3, ![8, 1, 1024]⟩

abbrev nBuf : Space → Nat
  | .hbm => 24
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2816x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S1x2816x1024, .bf16⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S16x1x1024, .f32⟩
  | .hbm, ⟨17, _⟩ => ⟨S2x4096x2816, .bf16⟩
  | .hbm, ⟨18, _⟩ => ⟨S4096x2816, .bf16⟩
  | .hbm, ⟨19, _⟩ => ⟨S8x2x1x1024, .f32⟩
  | .hbm, ⟨20, _⟩ => ⟨S_, .f32⟩
  | .hbm, ⟨21, _⟩ => ⟨S8x1x1024, .f32⟩
  | .hbm, ⟨22, _⟩ => ⟨S_, .f32⟩
  | .hbm, ⟨23, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x2816x1024, .bf16⟩
  | .local _ .vmem, ⟨18, _⟩ => ⟨S1x256x2816, .bf16⟩
  | .local _ .vmem, ⟨19, _⟩ => ⟨S1x256x2816, .bf16⟩
  | .local _ .vmem, ⟨20, _⟩ => ⟨S1x256x2816, .bf16⟩
  | .local _ .vmem, ⟨21, _⟩ => ⟨S1x256x2816, .bf16⟩
  | .local _ .vmem, ⟨22, _⟩ => ⟨S256x1024, .bf16⟩
  | .local _ .vmem, ⟨23, _⟩ => ⟨S256x1024, .bf16⟩
  | .local _ .vmem, ⟨24, _⟩ => ⟨S1x1x1024, .f32⟩
  | .local _ .vmem, ⟨25, _⟩ => ⟨S1x1x1024, .f32⟩
  | .local _ .vmem, ⟨26, _⟩ => ⟨S2x256x2816, .bf16⟩
  | .local _ .vmem, ⟨27, _⟩ => ⟨S2x256x2816, .bf16⟩
  | .local _ .vmem, ⟨28, _⟩ => ⟨S256x2816, .bf16⟩
  | .local _ .vmem, ⟨29, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S2x256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false, false]
-- ==== FGateRefIdeal.lean ====
abbrev S4096x1024 : Shape := ⟨2, ![4096, 1024]⟩
abbrev S4096x5632 : Shape := ⟨2, ![4096, 5632]⟩
abbrev S2816x1024 : Shape := ⟨2, ![2816, 1024]⟩
abbrev S1x1024 : Shape := ⟨2, ![1, 1024]⟩
abbrev S4096x2816 : Shape := ⟨2, ![4096, 2816]⟩
abbrev S_ : Shape := ⟨0, ![]⟩
abbrev S1024 : Shape := ⟨1, ![1024]⟩
abbrev S1024x2816 : Shape := ⟨2, ![1024, 2816]⟩
abbrev S1x4096x2816 : Shape := ⟨3, ![1, 4096, 2816]⟩
abbrev S2x4096x2816 : Shape := ⟨3, ![2, 4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2816x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x2816, .f32⟩
  | .hbm, ⟨33, _⟩ => ⟨S2816x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x5632, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x1024, .bf16⟩
  | .hbm, ⟨62, _⟩ => ⟨S4096x2816, .f32⟩
  | .hbm, ⟨63, _⟩ => ⟨S4096x2816, .f32⟩
  | .hbm, ⟨64, _⟩ => ⟨S1x4096x2816, .f32⟩
  | .hbm, ⟨65, _⟩ => ⟨S1x4096x2816, .f32⟩
  | .hbm, ⟨66, _⟩ => ⟨S2x4096x2816, .f32⟩
  | .hbm, ⟨67, _⟩ => ⟨S2x4096x2816, .bf16⟩
  | .hbm, ⟨68, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== AGate.lean ====
abbrev S4096x1024 : Shape := ⟨2, ![4096, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩

abbrev nBuf : Space → Nat
  | .hbm => 14
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024x1024, .f32⟩
  | .hbm, ⟨3, _⟩ => ⟨S1x1024, .f32⟩
  | .hbm, ⟨4, _⟩ => ⟨S4096x1024, .f32⟩
  | .hbm, ⟨5, _⟩ => ⟨S1x1024x1024, .bf16⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S8x1x1024, .f32⟩
  | .hbm, ⟨11, _⟩ => ⟨S4096x1024, .bf16⟩
  | .hbm, ⟨12, _⟩ => ⟨S_, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_cst : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev grid1 : Pipeline.Grid := ⟨3, ![8, 1, 1], ![false, false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== AGateRefIdeal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S4096x1024, .f32⟩
  | .hbm, ⟨20, _⟩ => ⟨S1x1024x1024, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== BGate.lean ====
abbrev S4096x1024 : Shape := ⟨2, ![4096, 1024]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩

abbrev nBuf : Space → Nat
  | .hbm => 20
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1x1024x1024, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S8x1x1024, .f32⟩
  | .hbm, ⟨14, _⟩ => ⟨S8x1x1024, .f32⟩
  | .hbm, ⟨15, _⟩ => ⟨S4096x1024, .bf16⟩
  | .hbm, ⟨16, _⟩ => ⟨S_, .f32⟩
  | .hbm, ⟨17, _⟩ => ⟨S1x1024, .f32⟩
  | .hbm, ⟨18, _⟩ => ⟨S_, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev grid1 : Pipeline.Grid := ⟨3, ![8, 1, 1], ![false, false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== BGateRefIdeal.lean ====
abbrev S4096x1024 : Shape := ⟨2, ![4096, 1024]⟩
abbrev S1x1024 : Shape := ⟨2, ![1, 1024]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S1024x1024, .f32⟩
  | .hbm, ⟨63, _⟩ => ⟨S4096x1024, .f32⟩
  | .hbm, ⟨64, _⟩ => ⟨S1x1024x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== CGate.lean ====
abbrev S4096x1024 : Shape := ⟨2, ![4096, 1024]⟩
abbrev S1x4x256x256 : Shape := ⟨4, ![1, 4, 256, 256]⟩
abbrev S1x1024 : Shape := ⟨2, ![1, 1024]⟩
abbrev S4x256x256 : Shape := ⟨3, ![4, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩

abbrev nBuf : Space → Nat
  | .hbm => 19
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x4x256x256, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4x256x256, .f32⟩
  | .hbm, ⟨7, _⟩ => ⟨S4x256x256, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S8x1x1024, .f32⟩
  | .hbm, ⟨13, _⟩ => ⟨S8x1x1024, .f32⟩
  | .hbm, ⟨14, _⟩ => ⟨S4096x1024, .bf16⟩
  | .hbm, ⟨15, _⟩ => ⟨S_, .f32⟩
  | .hbm, ⟨16, _⟩ => ⟨S1x1024, .f32⟩
  | .hbm, ⟨17, _⟩ => ⟨S_, .f32⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S4x256x256, .bf16⟩
  | .local _ .vmem, ⟨18, _⟩ => ⟨S512x1024, .bf16⟩
  | .local _ .vmem, ⟨19, _⟩ => ⟨S512x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S512x1024, .bf16⟩
  | .local _ .vmem, ⟨25, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S4x256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== CGateRefIdeal.lean ====
abbrev S4096x1024 : Shape := ⟨2, ![4096, 1024]⟩
abbrev S1x4x256x256 : Shape := ⟨4, ![1, 4, 256, 256]⟩
abbrev S1x1024 : Shape := ⟨2, ![1, 1024]⟩
abbrev S4096x256 : Shape := ⟨2, ![4096, 256]⟩
abbrev S1x1x256x256 : Shape := ⟨4, ![1, 1, 256, 256]⟩
abbrev S256x256 : Shape := ⟨2, ![256, 256]⟩
abbrev S_ : Shape := ⟨0, ![]⟩
abbrev S1024 : Shape := ⟨1, ![1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x4x256x256, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x256, .f32⟩
  | .hbm, ⟨7, _⟩ => ⟨S1x1x256x256, .f32⟩
  | .hbm, ⟨8, _⟩ => ⟨S256x256, .f32⟩
  | .hbm, ⟨9, _⟩ => ⟨S4096x256, .f32⟩
  | .hbm, ⟨10, _⟩ => ⟨S4096x256, .f32⟩
  | .hbm, ⟨11, _⟩ => ⟨S1x1x256x256, .f32⟩
  | .hbm, ⟨12, _⟩ => ⟨S256x256, .f32⟩
  | .hbm, ⟨13, _⟩ => ⟨S4096x256, .f32⟩
  | .hbm, ⟨14, _⟩ => ⟨S4096x256, .f32⟩
  | .hbm, ⟨15, _⟩ => ⟨S1x1x256x256, .f32⟩
  | .hbm, ⟨16, _⟩ => ⟨S256x256, .f32⟩
  | .hbm, ⟨17, _⟩ => ⟨S4096x256, .f32⟩
  | .hbm, ⟨18, _⟩ => ⟨S4096x256, .f32⟩
  | .hbm, ⟨19, _⟩ => ⟨S1x1x256x256, .f32⟩
  | .hbm, ⟨20, _⟩ => ⟨S256x256, .f32⟩
  | .hbm, ⟨21, _⟩ => ⟨S4096x256, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S256x256, .f32⟩
  | .hbm, ⟨46, _⟩ => ⟨S256x256, .f32⟩
  | .hbm, ⟨47, _⟩ => ⟨S4096x256, .f32⟩
  | .hbm, ⟨48, _⟩ => ⟨S1x1x256x256, .f32⟩
  | .hbm, ⟨49, _⟩ => ⟨S_, .f32⟩
  | .hbm, ⟨50, _⟩ => ⟨S1x4x256x256, .f32⟩
  | .hbm, ⟨51, _⟩ => ⟨S_, .f32⟩
  | .hbm, ⟨52, _⟩ => ⟨S4096x1024, .f32⟩
  | .hbm, ⟨53, _⟩ => ⟨S256x256, .f32⟩
  | .hbm, ⟨54, _⟩ => ⟨S256x256, .f32⟩
  | .hbm, ⟨55, _⟩ => ⟨S4096x256, .f32⟩
  | .hbm, ⟨56, _⟩ => ⟨S1x1x256x256, .f32⟩
  | .hbm, ⟨57, _⟩ => ⟨S_, .f32⟩
  | .hbm, ⟨58, _⟩ => ⟨S1x4x256x256, .f32⟩
  | .hbm, ⟨59, _⟩ => ⟨S1x4x256x256, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S256x256, .f32⟩
  | .hbm, ⟨64, _⟩ => ⟨S256x256, .f32⟩
  | .hbm, ⟨65, _⟩ => ⟨S4096x256, .f32⟩
  | .hbm, ⟨66, _⟩ => ⟨S1x1x256x256, .f32⟩
  | .hbm, ⟨67, _⟩ => ⟨S_, .f32⟩
  | .hbm, ⟨68, _⟩ => ⟨S1x4x256x256, .f32⟩
  | .hbm, ⟨69, _⟩ => ⟨S1x4x256x256, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S256x256, .f32⟩
  | .hbm, ⟨74, _⟩ => ⟨S256x256, .f32⟩
  | .hbm, ⟨75, _⟩ => ⟨S4096x256, .f32⟩
  | .hbm, ⟨76, _⟩ => ⟨S1x1x256x256, .f32⟩
  | .hbm, ⟨77, _⟩ => ⟨S_, .f32⟩
  | .hbm, ⟨78, _⟩ => ⟨S1x4x256x256, .f32⟩
  | .hbm, ⟨79, _⟩ => ⟨S1x4x256x256, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S4096x256, .f32⟩
  | .hbm, ⟨84, _⟩ => ⟨S1x1x256x256, .f32⟩
  | .hbm, ⟨85, _⟩ => ⟨S256x256, .f32⟩
  | .hbm, ⟨86, _⟩ => ⟨S4096x256, .f32⟩
  | .hbm, ⟨87, _⟩ => ⟨S4096x256, .f32⟩
  | .hbm, ⟨88, _⟩ => ⟨S1x1x256x256, .f32⟩
  | .hbm, ⟨89, _⟩ => ⟨S256x256, .f32⟩
  | .hbm, ⟨90, _⟩ => ⟨S4096x256, .f32⟩
  | .hbm, ⟨91, _⟩ => ⟨S4096x256, .f32⟩
  | .hbm, ⟨92, _⟩ => ⟨S1x1x256x256, .f32⟩
  | .hbm, ⟨93, _⟩ => ⟨S256x256, .f32⟩
  | .hbm, ⟨94, _⟩ => ⟨S4096x256, .f32⟩
  | .hbm, ⟨95, _⟩ => ⟨S4096x256, .f32⟩
  | .hbm, ⟨96, _⟩ => ⟨S1x1x256x256, .f32⟩
  | .hbm, ⟨97, _⟩ => ⟨S256x256, .f32⟩
  | .hbm, ⟨98, _⟩ => ⟨S4096x256, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .bf16⟩
  | .hbm, ⟨110, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩

abbrev nD : Nat := 1
abbrev τ : Topo := Topo.v7x

variable {F : FTy → Type} [FloatOps F]
-- ==== AStrip.lean ====
abbrev S4096x3072 : Shape := ⟨2, ![4096, 3072]⟩
abbrev S3x1024 : Shape := ⟨2, ![3, 1024]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S1x4096x128 : Shape := ⟨3, ![1, 4096, 128]⟩
abbrev S4096x128 : Shape := ⟨2, ![4096, 128]⟩
abbrev S3x128 : Shape := ⟨2, ![3, 128]⟩
abbrev S3x4096x128 : Shape := ⟨3, ![3, 4096, 128]⟩
abbrev S4104x128 : Shape := ⟨2, ![4104, 128]⟩
abbrev S8x128 : Shape := ⟨2, ![8, 128]⟩
abbrev S64x128 : Shape := ⟨2, ![64, 128]⟩
abbrev S1x128 : Shape := ⟨2, ![1, 128]⟩
abbrev S1x64x128 : Shape := ⟨3, ![1, 64, 128]⟩
abbrev S8x8x128 : Shape := ⟨3, ![8, 8, 128]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S3x4096x1024, .f32⟩
  | .hbm, ⟨10, _⟩ => ⟨S3x4096x1024, .bf16⟩
  | .hbm, ⟨11, _⟩ => ⟨S4096x1024, .bf16⟩
  | .hbm, ⟨12, _⟩ => ⟨S3x4096x1024, .bf16⟩
  | .hbm, ⟨13, _⟩ => ⟨S3x1024, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | .local _ .vmem, ⟨14, _⟩ => ⟨S4104x128, .f32⟩
  | .local _ .vmem, ⟨15, _⟩ => ⟨S4104x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v29 : BitVec 32 := Scalar.addi c0_i32 c64_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  v40
def k0_off1 (k0_t1 : Fin k0_t1_loop.trips) (c6_i32 : BitVec 32) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v42 : BitVec 32 := Scalar.addi v41 c6_i32
  let v43 : Index := Scalar.indexCast v42
  let c0_27 : Index := 0#32
  ![v43.toNat, 0]
def k0_off1_at (r : Fin 5) : BitVec 32 :=
  if r.val < 2 then
    if r.val < 1 then
      6#32
    else
      7#32
  else
    if r.val < 3 then
      8#32
    else
      if r.val < 4 then
        1#32
      else
        2#32
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v62 : Index := Scalar.indexCast v41
  let c0_36 : Index := 0#32
  ![v62.toNat, 0]
def k0_off3 (k0_t1 : Fin k0_t1_loop.trips) : Fin 3 → Nat :=
  let c0_37 : Index := 0#32
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v68 : Index := Scalar.indexCast v41
  let c0_38 : Index := 0#32
  ![0, v68.toNat, 0]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v72 : Index := Scalar.indexCast v41
  let c0_39 : Index := 0#32
  ![v72.toNat, 0]
def k0_off5 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v91 : Index := Scalar.indexCast v41
  let c0_50 : Index := 0#32
  ![0, v91.toNat, 0]
def k0_off6 (k0_t1 : Fin k0_t1_loop.trips) : Fin 3 → Nat :=
  let c1_51 : Index := 1#32
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v97 : Index := Scalar.indexCast v41
  let c0_52 : Index := 0#32
  ![1, v97.toNat, 0]
def k0_off7 (k0_t1 : Fin k0_t1_loop.trips) : Fin 3 → Nat :=
  let c2_55 : Index := 2#32
  let c0_i32 : BitVec 32 := 0#32
  let c1_i32 : BitVec 32 := 1#32
  let arg10 : BitVec 32 := Scf.iv c0_i32 c1_i32 k0_t1
  let c64_i32_26 : BitVec 32 := 64#32
  let v40 : BitVec 32 := Scalar.muli arg10 c64_i32_26
  let v41 : BitVec 32 := v40
  let v107 : Index := Scalar.indexCast v41
  let c0_56 : Index := 0#32
  ![2, v107.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AStripRefIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S1x4096x1024 : Shape := ⟨3, ![1, 4096, 1024]⟩
abbrev S3x4096x1024 : Shape := ⟨3, ![3, 4096, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S4098x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S4098x1024, .f32⟩
  | .hbm, ⟨58, _⟩ => ⟨S4098x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4098x1024, .f32⟩
  | .hbm, ⟨73, _⟩ => ⟨S4098x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x3072, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x4096x1024, .f32⟩
  | .hbm, ⟨87, _⟩ => ⟨S1x4096x1024, .f32⟩
  | .hbm, ⟨88, _⟩ => ⟨S1x4096x1024, .f32⟩
  | .hbm, ⟨89, _⟩ => ⟨S3x4096x1024, .f32⟩
  | .hbm, ⟨90, _⟩ => ⟨S3x4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== BStrip.lean ====
abbrev S4096x2048 : Shape := ⟨2, ![4096, 2048]⟩
abbrev S1x2048 : Shape := ⟨2, ![1, 2048]⟩
abbrev S31x1024 : Shape := ⟨2, ![31, 1024]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S2x1024 : Shape := ⟨2, ![2, 1024]⟩
abbrev S1x4096x128 : Shape := ⟨3, ![1, 4096, 128]⟩
abbrev S4096x128 : Shape := ⟨2, ![4096, 128]⟩
abbrev S31x128 : Shape := ⟨2, ![31, 128]⟩
abbrev S2x4096x128 : Shape := ⟨3, ![2, 4096, 128]⟩
abbrev S2x128 : Shape := ⟨2, ![2, 128]⟩
abbrev S4128x128 : Shape := ⟨2, ![4128, 128]⟩
abbrev S32x128 : Shape := ⟨2, ![32, 128]⟩
abbrev S8x128 : Shape := ⟨2, ![8, 128]⟩
abbrev S64x128 : Shape := ⟨2, ![64, 128]⟩
abbrev S1x128 : Shape := ⟨2, ![1, 128]⟩
abbrev S8x8x128 : Shape := ⟨3, ![8, 8, 128]⟩
abbrev S1x64x128 : Shape := ⟨3, ![1, 64, 128]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S31x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S2x4096x1024, .f32⟩
  | .hbm, ⟨11, _⟩ => ⟨S2x4096x1024, .bf16⟩
  | .hbm, ⟨12, _⟩ => ⟨S4096x1024, .bf16⟩
  | .hbm, ⟨13, _⟩ => ⟨S2x4096x1024, .bf16⟩
  | .hbm, ⟨14, _⟩ => ⟨S31x1024, .f32⟩
  | .hbm, ⟨15, _⟩ => ⟨S2x1024, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S4096x128, .bf16⟩
  | .local _ .vmem, ⟨5, _⟩ => ⟨S4096x128, .bf16⟩
  | .local _ .vmem, ⟨6, _⟩ => ⟨S31x128, .f32⟩
  | .local _ .vmem, ⟨7, _⟩ => ⟨S31x128, .f32⟩
  | .local _ .vmem, ⟨8, _⟩ => ⟨S2x4096x128, .bf16⟩
  | .local _ .vmem, ⟨9, _⟩ => ⟨S2x4096x128, .bf16⟩
  | .local _ .vmem, ⟨10, _⟩ => ⟨S31x128, .f32⟩
  | .local _ .vmem, ⟨11, _⟩ => ⟨S31x128, .f32⟩
  | .local _ .vmem, ⟨12, _⟩ => ⟨S2x128, .f32⟩
  | .local _ .vmem, ⟨13, _⟩ => ⟨S2x128, .f32⟩
  | .local _ .vmem, ⟨14, _⟩ => ⟨S4128x128, .f32⟩
  | .local _ .vmem, ⟨15, _⟩ => ⟨S4128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v26 : BitVec 32 := Scalar.addi c0_i32 c64_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  v127
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  let v128 : BitVec 32 := v127
  let v129 : Index := Scalar.indexCast v128
  let c0_86 : Index := 0#32
  ![v129.toNat, 0]
def k0_off2 (k0_t1 : Fin k0_t1_loop.trips) (c32_i32 : BitVec 32) : Fin 2 → Nat :=
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  let v128 : BitVec 32 := v127
  let v134 : BitVec 32 := Scalar.addi v128 c32_i32
  let v135 : Index := Scalar.indexCast v134
  let c0_89 : Index := 0#32
  ![v135.toNat, 0]
def k0_off3 (k0_t1 : Fin k0_t1_loop.trips) : Fin 3 → Nat :=
  let c0_271 : Index := 0#32
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  let v128 : BitVec 32 := v127
  let v561 : Index := Scalar.indexCast v128
  let c0_272 : Index := 0#32
  ![0, v561.toNat, 0]
def k0_off4 (k0_t1 : Fin k0_t1_loop.trips) : Fin 3 → Nat :=
  let c0_276 : Index := 0#32
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  let v128 : BitVec 32 := v127
  let v577 : Index := Scalar.indexCast v128
  let c0_277 : Index := 0#32
  ![0, v577.toNat, 0]
def k0_off5 (k0_t1 : Fin k0_t1_loop.trips) : Fin 3 → Nat :=
  let c1_278 : Index := 1#32
  let c0_i32 : BitVec 32 := 0#32
  let c1_i32 : BitVec 32 := 1#32
  let arg10 : BitVec 32 := Scf.iv c0_i32 c1_i32 k0_t1
  let c64_i32_85 : BitVec 32 := 64#32
  let v127 : BitVec 32 := Scalar.muli arg10 c64_i32_85
  let v128 : BitVec 32 := v127
  let v582 : Index := Scalar.indexCast v128
  let c0_279 : Index := 0#32
  ![1, v582.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BStripRefIdeal.lean ====
abbrev S4096x2048 : Shape := ⟨2, ![4096, 2048]⟩
abbrev S1x2048 : Shape := ⟨2, ![1, 2048]⟩
abbrev S31x1024 : Shape := ⟨2, ![31, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S31x1x1024 : Shape := ⟨3, ![31, 1, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S2048 : Shape := ⟨1, ![2048]⟩
abbrev S2x4096x1024 : Shape := ⟨3, ![2, 4096, 1024]⟩
abbrev S2x1024 : Shape := ⟨2, ![2, 1024]⟩

abbrev nBuf : Space → Nat
  | .hbm => 275
  | .vmem => 0
  | .smem => 0
  | _ => 0

abbrev hbmTy0_0 (i : Nat) : BufTy := match i % 128 with
  | 0 => ⟨S4096x2048, .f32⟩
  | 1 => ⟨S1x2048, .f32⟩
  | 2 => ⟨S31x1024, .f32⟩
  | 3 => ⟨S4096x1024, .f32⟩
  | 4 => ⟨S4096x2048, .f32⟩
  | 5 => ⟨S4096x2048, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S30x1024, .f32⟩
  | 23 => ⟨S4126x1024, .f32⟩
  | 24 => ⟨S_, .f32⟩
  | 25 => ⟨S30x1024, .f32⟩
  | 26 => ⟨S31x1x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S16x4096x1024, .f32⟩
  | 90 => ⟨S15x4096x1024, .f32⟩
  | 91 => ⟨S31x4096x1024, .f32⟩
  | 92 => ⟨S31x4096x1024, .f32⟩
  | 93 => ⟨S31x4096x1024, .f32⟩
  | 94 => ⟨S_, .f32⟩
  | 95 => ⟨S4096x1024, .f32⟩
  | 96 => ⟨S31x4096x1024, .f32⟩
  | 97 => ⟨S31x4096x1024, .f32⟩
  | 98 => ⟨S31x4096x1024, .f32⟩
  | 99 => ⟨S31x4096x1024, .f32⟩
  | 100 => ⟨S_, .f32⟩
  | 101 => ⟨S31x1024, .f32⟩
  | 102 => ⟨S31x1x1024, .f32⟩
  | 103 => ⟨S1x4096x1024, .f32⟩
  | 104 => ⟨S4096x1024, .f32⟩
  | 105 => ⟨S1x4096x1024, .f32⟩
  | 106 => ⟨S4096x1024, .f32⟩
  | 107 => ⟨S1x4096x1024, .f32⟩
  | 108 => ⟨S4096x1024, .f32⟩
  | 109 => ⟨S1x4096x1024, .f32⟩
  | 110 => ⟨S4096x1024, .f32⟩
  | 111 => ⟨S1x4096x1024, .f32⟩
  | 112 => ⟨S4096x1024, .f32⟩
  | 113 => ⟨S1x4096x1024, .f32⟩
  | 114 => ⟨S4096x1024, .f32⟩
  | 115 => ⟨S1x4096x1024, .f32⟩
  | 116 => ⟨S4096x1024, .f32⟩
  | 117 => ⟨S1x4096x1024, .f32⟩
  | 118 => ⟨S4096x1024, .f32⟩
  | 119 => ⟨S1x4096x1024, .f32⟩
  | 120 => ⟨S4096x1024, .f32⟩
  | 121 => ⟨S1x4096x1024, .f32⟩
  | 122 => ⟨S4096x1024, .f32⟩
  | 123 => ⟨S1x4096x1024, .f32⟩
  | 124 => ⟨S4096x1024, .f32⟩
  | 125 => ⟨S1x4096x1024, .f32⟩
  | 126 => ⟨S4096x1024, .f32⟩
  | 127 => ⟨S1x4096x1024, .f32⟩
  | _ => ⟨S4096x2048, .f32⟩

abbrev hbmTy0_1 (i : Nat) : BufTy := match i % 128 with
  | 0 => ⟨S4096x1024, .f32⟩
  | 1 => ⟨S1x4096x1024, .f32⟩
  | 2 => ⟨S4096x1024, .f32⟩
  | 3 => ⟨S1x4096x1024, .f32⟩
  | 4 => ⟨S4096x1024, .f32⟩
  | 5 => ⟨S1x4096x1024, .f32⟩
  | 6 => ⟨S4096x1024, .f32⟩
  | 7 => ⟨S1x4096x1024, .f32⟩
  | 8 => ⟨S4096x1024, .f32⟩
  | 9 => ⟨S1x4096x1024, .f32⟩
  | 10 => ⟨S4096x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096x1024, .f32⟩
  | 16 => ⟨S4096x1024, .f32⟩
  | 17 => ⟨S1x4096x1024, .f32⟩
  | 18 => ⟨S4096x1024, .f32⟩
  | 19 => ⟨S1x4096x1024, .f32⟩
  | 20 => ⟨S4096x1024, .f32⟩
  | 21 => ⟨S1x4096x1024, .f32⟩
  | 22 => ⟨S4096x1024, .f32⟩
  | 23 => ⟨S1x4096x1024, .f32⟩
  | 24 => ⟨S4096x1024, .f32⟩
  | 25 => ⟨S1x4096x1024, .f32⟩
  | 26 => ⟨S4096x1024, .f32⟩
  | 27 => ⟨S1x4096x1024, .f32⟩
  | 28 => ⟨S4096x1024, .f32⟩
  | 29 => ⟨S1x4096x1024, .f32⟩
  | 30 => ⟨S4096x1024, .f32⟩
  | 31 => ⟨S1x4096x1024, .f32⟩
  | 32 => ⟨S4096x1024, .f32⟩
  | 33 => ⟨S1x4096x1024, .f32⟩
  | 34 => ⟨S4096x1024, .f32⟩
  | 35 => ⟨S1x4096x1024, .f32⟩
  | 36 => ⟨S4096x1024, .f32⟩
  | 37 => ⟨S_, .f32⟩
  | 38 => ⟨S4126x1024, .f32⟩
  | 39 => ⟨S_, .f32⟩
  | 40 => ⟨S4126x1024, .f32⟩
  | 41 => ⟨S4126x1024, .f32⟩
  | 42 => ⟨S_, .f32⟩
  | 43 => ⟨S4126x1024, .f32⟩
  | 44 => ⟨S4126x1024, .f32⟩
  | 45 => ⟨S_, .f32⟩
  | 46 => ⟨S4126x1024, .f32⟩
  | 47 => ⟨S4126x1024, .f32⟩
  | 48 => ⟨S_, .f32⟩
  | 49 => ⟨S4126x1024, .f32⟩
  | 50 => ⟨S4126x1024, .f32⟩
  | 51 => ⟨S_, .f32⟩
  | 52 => ⟨S4126x1024, .f32⟩
  | 53 => ⟨S4126x1024, .f32⟩
  | 54 => ⟨S_, .f32⟩
  | 55 => ⟨S4126x1024, .f32⟩
  | 56 => ⟨S4126x1024, .f32⟩
  | 57 => ⟨S_, .f32⟩
  | 58 => ⟨S4126x1024, .f32⟩
  | 59 => ⟨S4126x1024, .f32⟩
  | 60 => ⟨S_, .f32⟩
  | 61 => ⟨S4126x1024, .f32⟩
  | 62 => ⟨S4126x1024, .f32⟩
  | 63 => ⟨S_, .f32⟩
  | 64 => ⟨S4126x1024, .f32⟩
  | 65 => ⟨S4126x1024, .f32⟩
  | 66 => ⟨S_, .f32⟩
  | 67 => ⟨S4126x1024, .f32⟩
  | 68 => ⟨S4126x1024, .f32⟩
  | 69 => ⟨S_, .f32⟩
  | 70 => ⟨S4126x1024, .f32⟩
  | 71 => ⟨S4126x1024, .f32⟩
  | 72 => ⟨S_, .f32⟩
  | 73 => ⟨S4126x1024, .f32⟩
  | 74 => ⟨S4126x1024, .f32⟩
  | 75 => ⟨S_, .f32⟩
  | 76 => ⟨S4126x1024, .f32⟩
  | 77 => ⟨S4126x1024, .f32⟩
  | 78 => ⟨S_, .f32⟩
  | 79 => ⟨S4126x1024, .f32⟩
  | 80 => ⟨S4126x1024, .f32⟩
  | 81 => ⟨S_, .f32⟩
  | 82 => ⟨S4126x1024, .f32⟩
  | 83 => ⟨S4126x1024, .f32⟩
  | 84 => ⟨S_, .f32⟩
  | 85 => ⟨S4126x1024, .f32⟩
  | 86 => ⟨S4126x1024, .f32⟩
  | 87 => ⟨S_, .f32⟩
  | 88 => ⟨S4126x1024, .f32⟩
  | 89 => ⟨S4126x1024, .f32⟩
  | 90 => ⟨S_, .f32⟩
  | 91 => ⟨S4126x1024, .f32⟩
  | 92 => ⟨S4126x1024, .f32⟩
  | 93 => ⟨S_, .f32⟩
  | 94 => ⟨S4126x1024, .f32⟩
  | 95 => ⟨S4126x1024, .f32⟩
  | 96 => ⟨S_, .f32⟩
  | 97 => ⟨S4126x1024, .f32⟩
  | 98 => ⟨S4126x1024, .f32⟩
  | 99 => ⟨S_, .f32⟩
  | 100 => ⟨S4126x1024, .f32⟩
  | 101 => ⟨S4126x1024, .f32⟩
  | 102 => ⟨S_, .f32⟩
  | 103 => ⟨S4126x1024, .f32⟩
  | 104 => ⟨S4126x1024, .f32⟩
  | 105 => ⟨S_, .f32⟩
  | 106 => ⟨S4126x1024, .f32⟩
  | 107 => ⟨S4126x1024, .f32⟩
  | 108 => ⟨S_, .f32⟩
  | 109 => ⟨S4126x1024, .f32⟩
  | 110 => ⟨S4126x1024, .f32⟩
  | 111 => ⟨S_, .f32⟩
  | 112 => ⟨S4126x1024, .f32⟩
  | 113 => ⟨S4126x1024, .f32⟩
  | 114 => ⟨S_, .f32⟩
  | 115 => ⟨S4126x1024, .f32⟩
  | 116 => ⟨S4126x1024, .f32⟩
  | 117 => ⟨S_, .f32⟩
  | 118 => ⟨S4126x1024, .f32⟩
  | 119 => ⟨S4126x1024, .f32⟩
  | 120 => ⟨S_, .f32⟩
  | 121 => ⟨S4126x1024, .f32⟩
  | 122 => ⟨S4126x1024, .f32⟩
  | 123 => ⟨S_, .f32⟩
  | 124 => ⟨S4126x1024, .f32⟩
  | 125 => ⟨S4126x1024, .f32⟩
  | 126 => ⟨S_, .f32⟩
  | 127 => ⟨S4126x1024, .f32⟩
  | _ => ⟨S4096x2048, .f32⟩

abbrev hbmTy0_2 (i : Nat) : BufTy := match i % 128 with
  | 0 => ⟨S4126x1024, .f32⟩
  | 1 => ⟨S_, .f32⟩
  | 2 => ⟨S31x1024, .f32⟩
  | 3 => ⟨S30x1024, .f32⟩
  | 4 => ⟨S4096x1024, .f32⟩
  | 5 => ⟨S4096x1024, .f32⟩
  | 6 => ⟨S4096x1024, .f32⟩
  | 7 => ⟨S4096x1024, .f32⟩
  | 8 => ⟨S4096x2048, .f32⟩
  | 9 => ⟨S_, .f32⟩
  | 10 => ⟨S2048, .f32⟩
  | 11 => ⟨S1x2048, .f32⟩
  | 12 => ⟨S4096x1024, .f32⟩
  | 13 => ⟨S4096x1024, .f32⟩
  | 14 => ⟨S1x4096x1024, .f32⟩
  | 15 => ⟨S1x4096x1024, .f32⟩
  | 16 => ⟨S2x4096x1024, .f32⟩
  | 17 => ⟨S2x4096x1024, .bf16⟩
  | 18 => ⟨S2x1024, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_4 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_5 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_cst_6 : Ref sig .tc := ⟨.hbm, 165, rfl⟩
abbrev main_v154 : Ref sig .tc := ⟨.hbm, 166, rfl⟩
abbrev main_cst_7 : Ref sig .tc := ⟨.hbm, 167, rfl⟩
abbrev main_v155 : Ref sig .tc := ⟨.hbm, 168, rfl⟩
abbrev main_v156 : Ref sig .tc := ⟨.hbm, 169, rfl⟩
abbrev main_cst_8 : Ref sig .tc := ⟨.hbm, 170, rfl⟩
abbrev main_v157 : Ref sig .tc := ⟨.hbm, 171, rfl⟩
abbrev main_v158 : Ref sig .tc := ⟨.hbm, 172, rfl⟩
abbrev main_cst_9 : Ref sig .tc := ⟨.hbm, 173, rfl⟩
abbrev main_v159 : Ref sig .tc := ⟨.hbm, 174, rfl⟩
abbrev main_v160 : Ref sig .tc := ⟨.hbm, 175, rfl⟩
abbrev main_cst_10 : Ref sig .tc := ⟨.hbm, 176, rfl⟩
abbrev main_v161 : Ref sig .tc := ⟨.hbm, 177, rfl⟩
abbrev main_v162 : Ref sig .tc := ⟨.hbm, 178, rfl⟩
abbrev main_cst_11 : Ref sig .tc := ⟨.hbm, 179, rfl⟩
abbrev main_v163 : Ref sig .tc := ⟨.hbm, 180, rfl⟩
abbrev main_v164 : Ref sig .tc := ⟨.hbm, 181, rfl⟩
abbrev main_cst_12 : Ref sig .tc := ⟨.hbm, 182, rfl⟩
abbrev main_v165 : Ref sig .tc := ⟨.hbm, 183, rfl⟩
abbrev main_v166 : Ref sig .tc := ⟨.hbm, 184, rfl⟩
abbrev main_cst_13 : Ref sig .tc := ⟨.hbm, 185, rfl⟩
abbrev main_v167 : Ref sig .tc := ⟨.hbm, 186, rfl⟩
abbrev main_v168 : Ref sig .tc := ⟨.hbm, 187, rfl⟩
abbrev main_cst_14 : Ref sig .tc := ⟨.hbm, 188, rfl⟩
abbrev main_v169 : Ref sig .tc := ⟨.hbm, 189, rfl⟩
abbrev main_v170 : Ref sig .tc := ⟨.hbm, 190, rfl⟩
abbrev main_cst_15 : Ref sig .tc := ⟨.hbm, 191, rfl⟩
abbrev main_v171 : Ref sig .tc := ⟨.hbm, 192, rfl⟩
abbrev main_v172 : Ref sig .tc := ⟨.hbm, 193, rfl⟩
abbrev main_cst_16 : Ref sig .tc := ⟨.hbm, 194, rfl⟩
abbrev main_v173 : Ref sig .tc := ⟨.hbm, 195, rfl⟩
abbrev main_v174 : Ref sig .tc := ⟨.hbm, 196, rfl⟩
abbrev main_cst_17 : Ref sig .tc := ⟨.hbm, 197, rfl⟩
abbrev main_v175 : Ref sig .tc := ⟨.hbm, 198, rfl⟩
abbrev main_v176 : Ref sig .tc := ⟨.hbm, 199, rfl⟩
abbrev main_cst_18 : Ref sig .tc := ⟨.hbm, 200, rfl⟩
abbrev main_v177 : Ref sig .tc := ⟨.hbm, 201, rfl⟩
abbrev main_v178 : Ref sig .tc := ⟨.hbm, 202, rfl⟩
abbrev main_cst_19 : Ref sig .tc := ⟨.hbm, 203, rfl⟩
abbrev main_v179 : Ref sig .tc := ⟨.hbm, 204, rfl⟩
abbrev main_v180 : Ref sig .tc := ⟨.hbm, 205, rfl⟩
abbrev main_cst_20 : Ref sig .tc := ⟨.hbm, 206, rfl⟩
abbrev main_v181 : Ref sig .tc := ⟨.hbm, 207, rfl⟩
abbrev main_v182 : Ref sig .tc := ⟨.hbm, 208, rfl⟩
abbrev main_cst_21 : Ref sig .tc := ⟨.hbm, 209, rfl⟩
abbrev main_v183 : Ref sig .tc := ⟨.hbm, 210, rfl⟩
abbrev main_v184 : Ref sig .tc := ⟨.hbm, 211, rfl⟩
abbrev main_cst_22 : Ref sig .tc := ⟨.hbm, 212, rfl⟩
abbrev main_v185 : Ref sig .tc := ⟨.hbm, 213, rfl⟩
abbrev main_v186 : Ref sig .tc := ⟨.hbm, 214, rfl⟩
abbrev main_cst_23 : Ref sig .tc := ⟨.hbm, 215, rfl⟩
abbrev main_v187 : Ref sig .tc := ⟨.hbm, 216, rfl⟩
abbrev main_v188 : Ref sig .tc := ⟨.hbm, 217, rfl⟩
abbrev main_cst_24 : Ref sig .tc := ⟨.hbm, 218, rfl⟩
abbrev main_v189 : Ref sig .tc := ⟨.hbm, 219, rfl⟩
abbrev main_v190 : Ref sig .tc := ⟨.hbm, 220, rfl⟩
abbrev main_cst_25 : Ref sig .tc := ⟨.hbm, 221, rfl⟩
abbrev main_v191 : Ref sig .tc := ⟨.hbm, 222, rfl⟩
abbrev main_v192 : Ref sig .tc := ⟨.hbm, 223, rfl⟩
abbrev main_cst_26 : Ref sig .tc := ⟨.hbm, 224, rfl⟩
abbrev main_v193 : Ref sig .tc := ⟨.hbm, 225, rfl⟩
abbrev main_v194 : Ref sig .tc := ⟨.hbm, 226, rfl⟩
abbrev main_cst_27 : Ref sig .tc := ⟨.hbm, 227, rfl⟩
abbrev main_v195 : Ref sig .tc := ⟨.hbm, 228, rfl⟩
abbrev main_v196 : Ref sig .tc := ⟨.hbm, 229, rfl⟩
abbrev main_cst_28 : Ref sig .tc := ⟨.hbm, 230, rfl⟩
abbrev main_v197 : Ref sig .tc := ⟨.hbm, 231, rfl⟩
abbrev main_v198 : Ref sig .tc := ⟨.hbm, 232, rfl⟩
abbrev main_cst_29 : Ref sig .tc := ⟨.hbm, 233, rfl⟩
abbrev main_v199 : Ref sig .tc := ⟨.hbm, 234, rfl⟩
abbrev main_v200 : Ref sig .tc := ⟨.hbm, 235, rfl⟩
abbrev main_cst_30 : Ref sig .tc := ⟨.hbm, 236, rfl⟩
abbrev main_v201 : Ref sig .tc := ⟨.hbm, 237, rfl⟩
abbrev main_v202 : Ref sig .tc := ⟨.hbm, 238, rfl⟩
abbrev main_cst_31 : Ref sig .tc := ⟨.hbm, 239, rfl⟩
abbrev main_v203 : Ref sig .tc := ⟨.hbm, 240, rfl⟩
abbrev main_v204 : Ref sig .tc := ⟨.hbm, 241, rfl⟩
abbrev main_cst_32 : Ref sig .tc := ⟨.hbm, 242, rfl⟩
abbrev main_v205 : Ref sig .tc := ⟨.hbm, 243, rfl⟩
abbrev main_v206 : Ref sig .tc := ⟨.hbm, 244, rfl⟩
abbrev main_cst_33 : Ref sig .tc := ⟨.hbm, 245, rfl⟩
abbrev main_v207 : Ref sig .tc := ⟨.hbm, 246, rfl⟩
abbrev main_v208 : Ref sig .tc := ⟨.hbm, 247, rfl⟩
abbrev main_cst_34 : Ref sig .tc := ⟨.hbm, 248, rfl⟩
abbrev main_v209 : Ref sig .tc := ⟨.hbm, 249, rfl⟩
abbrev main_v210 : Ref sig .tc := ⟨.hbm, 250, rfl⟩
abbrev main_cst_35 : Ref sig .tc := ⟨.hbm, 251, rfl⟩
abbrev main_v211 : Ref sig .tc := ⟨.hbm, 252, rfl⟩
abbrev main_v212 : Ref sig .tc := ⟨.hbm, 253, rfl⟩
abbrev main_cst_36 : Ref sig .tc := ⟨.hbm, 254, rfl⟩
abbrev main_v213 : Ref sig .tc := ⟨.hbm, 255, rfl⟩
abbrev main_v214 : Ref sig .tc := ⟨.hbm, 256, rfl⟩
abbrev main_cst_37 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_cst_38 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩

abbrev nD : Nat := 1
abbrev τ : Topo := Topo.v7x

variable {F : FTy → Type} [FloatOps F]
-- ==== CStrip.lean ====
abbrev S4096x1024 : Shape := ⟨2, ![4096, 1024]⟩
abbrev S4096x128 : Shape := ⟨2, ![4096, 128]⟩
abbrev S4104x128 : Shape := ⟨2, ![4104, 128]⟩
abbrev S8x128 : Shape := ⟨2, ![8, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S4104x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CStripRefIdeal.lean ====
abbrev S4096x1024 : Shape := ⟨2, ![4096, 1024]⟩
abbrev S_ : Shape := ⟨0, ![]⟩
abbrev S1x1024 : Shape := ⟨2, ![1, 1024]⟩
abbrev S4097x1024 : Shape := ⟨2, ![4097, 1024]⟩
abbrev S4096 : Shape := ⟨1, ![4096]⟩
abbrev S4097x256 : Shape := ⟨2, ![4097, 256]⟩
abbrev S1x256 : Shape := ⟨2, ![1, 256]⟩
abbrev S4095x256 : Shape := ⟨2, ![4095, 256]⟩
abbrev S4096x256 : Shape := ⟨2, ![4096, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S_, .f32⟩
  | 2 => ⟨S4096x1024, .f32⟩
  | 3 => ⟨S_, .f32⟩
  | 4 => ⟨S1x1024, .f32⟩
  | 5 => ⟨S_, .f32⟩
  | 6 => ⟨S_, .f32⟩
  | 7 => ⟨S4096x1024, .f32⟩
  | 8 => ⟨S4097x1024, .f32⟩
  | 9 => ⟨S_, .f32⟩
  | 10 => ⟨S1x1024, .f32⟩
  | 11 => ⟨S4096, .i32⟩
  | 12 => ⟨S4097x256, .f32⟩
  | 13 => ⟨S_, .f32⟩
  | 14 => ⟨S1x256, .f32⟩
  | 15 => ⟨S4095x256, .f32⟩
  | 16 => ⟨S4096x256, .f32⟩
  | 17 => ⟨S_, .f32⟩
  | 18 => ⟨S1x256, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S4096x1, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S4097x256, .f32⟩
  | 34 => ⟨S_, .f32⟩
  | 35 => ⟨S3x256, .f32⟩
  | 36 => ⟨S4093x256, .f32⟩
  | 37 => ⟨S4096x256, .f32⟩
  | 38 => ⟨S_, .f32⟩
  | 39 => ⟨S3x256, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S4096x1, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4097x256, .f32⟩
  | 55 => ⟨S_, .f32⟩
  | 56 => ⟨S7x256, .f32⟩
  | 57 => ⟨S4089x256, .f32⟩
  | 58 => ⟨S4096x256, .f32⟩
  | 59 => ⟨S_, .f32⟩
  | 60 => ⟨S7x256, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S4096x256, .f32⟩
  | 75 => ⟨S4097x256, .f32⟩
  | 76 => ⟨S_, .f32⟩
  | 77 => ⟨S15x256, .f32⟩
  | 78 => ⟨S4081x256, .f32⟩
  | 79 => ⟨S4096x256, .f32⟩
  | 80 => ⟨S_, .f32⟩
  | 81 => ⟨S15x256, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S4096x1, .f32⟩
  | 90 => ⟨S4096x256, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S4096x1024, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x1024, .f32⟩
  | 104 => ⟨S4096x256, .f32⟩
  | 105 => ⟨S4096x256, .f32⟩
  | 106 => ⟨S4096x256, .f32⟩
  | 107 => ⟨S_, .f32⟩
  | 108 => ⟨S4097x256, .f32⟩
  | 109 => ⟨S15x256, .f32⟩
  | 110 => ⟨S4081x256, .f32⟩
  | 111 => ⟨S_, .f32⟩
  | 112 => ⟨S4097x256, .f32⟩
  | 113 => ⟨S4097x256, .f32⟩
  | 114 => ⟨S_, .f32⟩
  | 115 => ⟨S4097x1024, .f32⟩
  | 116 => ⟨S4096x256, .f32⟩
  | 117 => ⟨S_, .f32⟩
  | 118 => ⟨S4096x1024, .f32⟩
  | 119 => ⟨S4096x1024, .f32⟩
  | 120 => ⟨S4096x256, .f32⟩
  | 121 => ⟨S4096x256, .f32⟩
  | 122 => ⟨S4096x256, .f32⟩
  | 123 => ⟨S_, .f32⟩
  | 124 => ⟨S4097x256, .f32⟩
  | 125 => ⟨S7x256, .f32⟩
  | 126 => ⟨S4089x256, .f32⟩
  | 127 => ⟨S_, .f32⟩
  | _ => ⟨S4096x1024, .f32⟩

abbrev hbmTy0_1 (i : Nat) : BufTy := match i % 128 with
  | 0 => ⟨S4097x256, .f32⟩
  | 1 => ⟨S4097x256, .f32⟩
  | 2 => ⟨S_, .f32⟩
  | 3 => ⟨S4097x1024, .f32⟩
  | 4 => ⟨S4097x1024, .f32⟩
  | 5 => ⟨S4096x256, .f32⟩
  | 6 => ⟨S_, .f32⟩
  | 7 => ⟨S4096x1024, .f32⟩
  | 8 => ⟨S4096x1024, .f32⟩
  | 9 => ⟨S4096x256, .f32⟩
  | 10 => ⟨S4096x256, .f32⟩
  | 11 => ⟨S4096x256, .f32⟩
  | 12 => ⟨S_, .f32⟩
  | 13 => ⟨S4097x256, .f32⟩
  | 14 => ⟨S3x256, .f32⟩
  | 15 => ⟨S4093x256, .f32⟩
  | 16 => ⟨S_, .f32⟩
  | 17 => ⟨S4097x256, .f32⟩
  | 18 => ⟨S4097x256, .f32⟩
  | 19 => ⟨S_, .f32⟩
  | 20 => ⟨S4097x1024, .f32⟩
  | 21 => ⟨S4097x1024, .f32⟩
  | 22 => ⟨S4096x256, .f32⟩
  | 23 => ⟨S_, .f32⟩
  | 24 => ⟨S4096x1024, .f32⟩
  | 25 => ⟨S4096x1024, .f32⟩
  | 26 => ⟨S4096x256, .f32⟩
  | 27 => ⟨S4096x256, .f32⟩
  | 28 => ⟨S4096x256, .f32⟩
  | 29 => ⟨S_, .f32⟩
  | 30 => ⟨S4097x256, .f32⟩
  | 31 => ⟨S1x256, .f32⟩
  | 32 => ⟨S4095x256, .f32⟩
  | 33 => ⟨S_, .f32⟩
  | 34 => ⟨S4097x256, .f32⟩
  | 35 => ⟨S4097x256, .f32⟩
  | 36 => ⟨S_, .f32⟩
  | 37 => ⟨S4097x1024, .f32⟩
  | 38 => ⟨S4097x1024, .f32⟩
  | 39 => ⟨S1x1024, .f32⟩
  | 40 => ⟨S4096x1024, .f32⟩
  | 41 => ⟨S_, .f32⟩
  | 42 => ⟨S_, .f32⟩
  | 43 => ⟨S4096x1024, .f32⟩
  | 44 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_cst_21 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_cst_24 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_25 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_26 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_27 : Ref sig .tc := ⟨.hbm, 144, rfl⟩
abbrev main_v112 : Ref sig .tc := ⟨.hbm, 145, rfl⟩
abbrev main_v113 : Ref sig .tc := ⟨.hbm, 146, rfl⟩
abbrev main_cst_28 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_29 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_30 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_31 : Ref sig .tc := ⟨.hbm, 161, rfl⟩
abbrev main_v125 : Ref sig .tc := ⟨.hbm, 162, rfl⟩
abbrev main_v126 : Ref sig .tc := ⟨.hbm, 163, rfl⟩
abbrev main_cst_32 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_call1_call0_cst : Ref sig .tc := ⟨.hbm, 169, rfl⟩
abbrev main_call1_call0_v0 : Ref sig .tc := ⟨.hbm, 170, rfl⟩
abbrev main_v131 : Ref sig .tc := ⟨.hbm, 171, rfl⟩
abbrev main_v132 : Ref sig .tc := ⟨.hbm, 172, rfl⟩

abbrev nD : Nat := 1
abbrev τ : Topo := Topo.v7x

variable {F : FTy → Type} [FloatOps F]
-- ==== CMod.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CModRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== AIn.lean ====
abbrev S4096x1024 : Shape := ⟨2, ![4096, 1024]⟩
abbrev S1x1024 : Shape := ⟨2, ![1, 1024]⟩
abbrev S1024x3072 : Shape := ⟨2, ![1024, 3072]⟩
abbrev S1x1024x3072 : Shape := ⟨3, ![1, 1024, 3072]⟩
abbrev S3x4096x1024 : Shape := ⟨3, ![3, 4096, 1024]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1024x3072, .bf16⟩
  | .hbm, ⟨6, _⟩ => ⟨S1x1024x3072, .bf16⟩
  | .hbm, ⟨7, _⟩ => ⟨S4096x1024, .bf16⟩
  | .hbm, ⟨8, _⟩ => ⟨S3x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x3072, .bf16⟩
  | .local _ .vmem, ⟨6, _⟩ => ⟨S512x1024, .bf16⟩
  | .local _ .vmem, ⟨7, _⟩ => ⟨S512x1024, .bf16⟩
  | .local _ .vmem, ⟨8, _⟩ => ⟨S3x512x1024, .bf16⟩
  | .local _ .vmem, ⟨9, _⟩ => ⟨S3x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S3x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== AInRefIdeal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x4096x1024 : Shape := ⟨3, ![1, 4096, 1024]⟩
abbrev S3x4096x1024 : Shape := ⟨3, ![3, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x3072, .f32⟩
  | .hbm, ⟨28, _⟩ => ⟨S4096x1024, .bf16⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S3x4096x1024, .f32⟩
  | .hbm, ⟨36, _⟩ => ⟨S3x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== BIn.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S1x1024x2048 : Shape := ⟨3, ![1, 1024, 2048]⟩
abbrev S2x4096x1024 : Shape := ⟨3, ![2, 4096, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S1024x2048, .bf16⟩
  | .hbm, ⟨7, _⟩ => ⟨S1x1024x2048, .bf16⟩
  | .hbm, ⟨8, _⟩ => ⟨S4096x1024, .bf16⟩
  | .hbm, ⟨9, _⟩ => ⟨S2x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S2x512x1024, .bf16⟩
  | .local _ .vmem, ⟨10, _⟩ => ⟨S2x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== BInRefIdeal.lean ====
abbrev S4096x1024 : Shape := ⟨2, ![4096, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1x4096x1024 : Shape := ⟨3, ![1, 4096, 1024]⟩
abbrev S2x4096x1024 : Shape := ⟨3, ![2, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x1024, .bf16⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S1x4096x1024, .f32⟩
  | .hbm, ⟨36, _⟩ => ⟨S2x4096x1024, .f32⟩
  | .hbm, ⟨37, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== FIn.lean ====
abbrev S4096x1024 : Shape := ⟨2, ![4096, 1024]⟩
abbrev S1x1024 : Shape := ⟨2, ![1, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4x1x1024x1408 : Shape := ⟨4, ![4, 1, 1024, 1408]⟩
abbrev S2x4096x2816 : Shape := ⟨3, ![2, 4096, 2816]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S1x1x1024x1408 : Shape := ⟨4, ![1, 1, 1024, 1408]⟩
abbrev S512x1408 : Shape := ⟨2, ![512, 1408]⟩
abbrev S512x2816 : Shape := ⟨2, ![512, 2816]⟩
abbrev S1x512x2816 : Shape := ⟨3, ![1, 512, 2816]⟩

abbrev nBuf : Space → Nat
  | .hbm => 18
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S1x1024x1408, .f32⟩
  | .hbm, ⟨13, _⟩ => ⟨S4x1024x1408, .f32⟩
  | .hbm, ⟨14, _⟩ => ⟨S4x1x1024x1408, .f32⟩
  | .hbm, ⟨15, _⟩ => ⟨S4x1x1024x1408, .bf16⟩
  | .hbm, ⟨16, _⟩ => ⟨S4096x1024, .bf16⟩
  | .hbm, ⟨17, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1x1024x1408, .bf16⟩
  | .local _ .vmem, ⟨6, _⟩ => ⟨S512x1024, .bf16⟩
  | .local _ .vmem, ⟨7, _⟩ => ⟨S512x1024, .bf16⟩
  | .local _ .vmem, ⟨8, _⟩ => ⟨S2x512x2816, .bf16⟩
  | .local _ .vmem, ⟨9, _⟩ => ⟨S2x512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== FInRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x1024, .bf16⟩
  | .hbm, ⟨29, _⟩ => ⟨S4096x2816, .f32⟩
  | .hbm, ⟨30, _⟩ => ⟨S4096x2816, .f32⟩
  | .hbm, ⟨31, _⟩ => ⟨S1x4096x2816, .f32⟩
  | .hbm, ⟨32, _⟩ => ⟨S1x4096x2816, .f32⟩
  | .hbm, ⟨33, _⟩ => ⟨S2x4096x2816, .f32⟩
  | .hbm, ⟨34, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== CPool.lean ====
abbrev S4096x1024 : Shape := ⟨2, ![4096, 1024]⟩
abbrev S4096x128 : Shape := ⟨2, ![4096, 128]⟩
abbrev S4104x128 : Shape := ⟨2, ![4104, 128]⟩
abbrev S8x128 : Shape := ⟨2, ![8, 128]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S4104x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CPoolRefIdeal.lean ====
abbrev S4096x1024 : Shape := ⟨2, ![4096, 1024]⟩
abbrev S_ : Shape := ⟨0, ![]⟩
abbrev S1x1024 : Shape := ⟨2, ![1, 1024]⟩
abbrev S4097x1024 : Shape := ⟨2, ![4097, 1024]⟩
abbrev S4096 : Shape := ⟨1, ![4096]⟩
abbrev S4097x256 : Shape := ⟨2, ![4097, 256]⟩
abbrev S1x256 : Shape := ⟨2, ![1, 256]⟩
abbrev S4095x256 : Shape := ⟨2, ![4095, 256]⟩
abbrev S4096x256 : Shape := ⟨2, ![4096, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S_, .f32⟩
  | .hbm, ⟨2, _⟩ => ⟨S1x1024, .f32⟩
  | .hbm, ⟨3, _⟩ => ⟨S_, .f32⟩
  | .hbm, ⟨4, _⟩ => ⟨S_, .f32⟩
  | .hbm, ⟨5, _⟩ => ⟨S4096x1024, .f32⟩
  | .hbm, ⟨6, _⟩ => ⟨S4097x1024, .f32⟩
  | .hbm, ⟨7, _⟩ => ⟨S4096, .i32⟩
  | .hbm, ⟨8, _⟩ => ⟨S4097x256, .f32⟩
  | .hbm, ⟨9, _⟩ => ⟨S_, .f32⟩
  | .hbm, ⟨10, _⟩ => ⟨S1x256, .f32⟩
  | .hbm, ⟨11, _⟩ => ⟨S4095x256, .f32⟩
  | .hbm, ⟨12, _⟩ => ⟨S4096x256, .f32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4097x256, .f32⟩
  | .hbm, ⟨28, _⟩ => ⟨S_, .f32⟩
  | .hbm, ⟨29, _⟩ => ⟨S3x256, .f32⟩
  | .hbm, ⟨30, _⟩ => ⟨S4093x256, .f32⟩
  | .hbm, ⟨31, _⟩ => ⟨S4096x256, .f32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4097x256, .f32⟩
  | .hbm, ⟨47, _⟩ => ⟨S_, .f32⟩
  | .hbm, ⟨48, _⟩ => ⟨S7x256, .f32⟩
  | .hbm, ⟨49, _⟩ => ⟨S4089x256, .f32⟩
  | .hbm, ⟨50, _⟩ => ⟨S4096x256, .f32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4097x256, .f32⟩
  | .hbm, ⟨66, _⟩ => ⟨S_, .f32⟩
  | .hbm, ⟨67, _⟩ => ⟨S15x256, .f32⟩
  | .hbm, ⟨68, _⟩ => ⟨S4081x256, .f32⟩
  | .hbm, ⟨69, _⟩ => ⟨S4096x256, .f32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .f32⟩
  | .hbm, ⟨77, _⟩ => ⟨S4096x1, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x1024, .f32⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_6 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_9 : Ref sig .tc := ⟨.hbm, 70, rfl⟩
abbrev main_v56 : Ref sig .tc := ⟨.hbm, 71, rfl⟩
abbrev main_v57 : Ref sig .tc := ⟨.hbm, 72, rfl⟩
abbrev main_c_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== AConv.lean ====
abbrev S4096x3072 : Shape := ⟨2, ![4096, 3072]⟩
abbrev S3x1024 : Shape := ⟨2, ![3, 1024]⟩
abbrev S4096x1024 : Shape := ⟨2, ![4096, 1024]⟩
abbrev S1x4096x1024 : Shape := ⟨3, ![1, 4096, 1024]⟩
abbrev S3x4096x1024 : Shape := ⟨3, ![3, 4096, 1024]⟩
abbrev S1x4096x128 : Shape := ⟨3, ![1, 4096, 128]⟩
abbrev S3x128 : Shape := ⟨2, ![3, 128]⟩
abbrev S4096x128 : Shape := ⟨2, ![4096, 128]⟩
abbrev S4104x128 : Shape := ⟨2, ![4104, 128]⟩
abbrev S8x128 : Shape := ⟨2, ![8, 128]⟩
abbrev S64x128 : Shape := ⟨2, ![64, 128]⟩
abbrev S1x128 : Shape := ⟨2, ![1, 128]⟩
abbrev S1x64x128 : Shape := ⟨3, ![1, 64, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S1x4096x1024, .f32⟩
  | .hbm, ⟨8, _⟩ => ⟨S3x4096x1024, .f32⟩
  | .hbm, ⟨9, _⟩ => ⟨S3x4096x1024, .bf16⟩
  | .hbm, ⟨10, _⟩ => ⟨S4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4104x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v14 : BitVec 32 := Scalar.addi c0_i32 c64_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32_9 : BitVec 32 := 64#32
  let v15 : BitVec 32 := Scalar.muli arg7 c64_i32_9
  v15
def k0_off1 (k0_t1 : Fin k0_t1_loop.trips) (c6_i32 : BitVec 32) : Fin 2 → Nat :=
  let c0_i32 : BitVec 32 := 0#32
  let c1_i32 : BitVec 32 := 1#32
  let arg7 : BitVec 32 := Scf.iv c0_i32 c1_i32 k0_t1
  let c64_i32_9 : BitVec 32 := 64#32
  let v15 : BitVec 32 := Scalar.muli arg7 c64_i32_9
  let v16 : BitVec 32 := v15
  let v17 : BitVec 32 := Scalar.addi v16 c6_i32
  let v18 : Index := Scalar.indexCast v17
  let c0_10 : Index := 0#32
  ![v18.toNat, 0]
def k0_off2 (k0_t1 : Fin k0_t1_loop.trips) : Fin 3 → Nat :=
  let c0_17 : Index := 0#32
  let c0_i32 : BitVec 32 := 0#32
  let c1_i32 : BitVec 32 := 1#32
  let arg7 : BitVec 32 := Scf.iv c0_i32 c1_i32 k0_t1
  let c64_i32_9 : BitVec 32 := 64#32
  let v15 : BitVec 32 := Scalar.muli arg7 c64_i32_9
  let v16 : BitVec 32 := v15
  let v37 : Index := Scalar.indexCast v16
  let c0_18 : Index := 0#32
  ![0, v37.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_9 : BitVec 32 := 64#32
  let v15 : BitVec 32 := Scalar.muli arg7 c64_i32_9
  let v16 : BitVec 32 := v15
  let v43 : Index := Scalar.indexCast v16
  let c0_19 : Index := 0#32
  ![v43.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AConvRefIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== BConv.lean ====
abbrev S4096x2048 : Shape := ⟨2, ![4096, 2048]⟩
abbrev S1x2048 : Shape := ⟨2, ![1, 2048]⟩
abbrev S31x1024 : Shape := ⟨2, ![31, 1024]⟩
abbrev S1x1024 : Shape := ⟨2, ![1, 1024]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S1x4096x128 : Shape := ⟨3, ![1, 4096, 128]⟩
abbrev S31x128 : Shape := ⟨2, ![31, 128]⟩
abbrev S1x128 : Shape := ⟨2, ![1, 128]⟩
abbrev S4096x128 : Shape := ⟨2, ![4096, 128]⟩
abbrev S4128x128 : Shape := ⟨2, ![4128, 128]⟩
abbrev S32x128 : Shape := ⟨2, ![32, 128]⟩
abbrev S64x128 : Shape := ⟨2, ![64, 128]⟩

abbrev nBuf : Space → Nat
  | .hbm => 13
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S31x1024, .f32⟩
  | .hbm, ⟨3, _⟩ => ⟨S1x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S2x4096x1024, .f32⟩
  | .hbm, ⟨11, _⟩ => ⟨S2x4096x1024, .bf16⟩
  | .hbm, ⟨12, _⟩ => ⟨S4096x1024, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v15 : BitVec 32 := Scalar.addi c0_i32 c64_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32_9 : BitVec 32 := 64#32
  let v16 : BitVec 32 := Scalar.muli arg7 c64_i32_9
  v16
def k0_off1 (k0_t1 : Fin k0_t1_loop.trips) (c32_i32 : BitVec 32) : Fin 2 → Nat :=
  let c0_i32 : BitVec 32 := 0#32
  let c1_i32 : BitVec 32 := 1#32
  let arg7 : BitVec 32 := Scf.iv c0_i32 c1_i32 k0_t1
  let c64_i32_9 : BitVec 32 := 64#32
  let v16 : BitVec 32 := Scalar.muli arg7 c64_i32_9
  let v17 : BitVec 32 := v16
  let v20 : BitVec 32 := Scalar.addi v17 c32_i32
  let v21 : Index := Scalar.indexCast v20
  let c0_13 : Index := 0#32
  ![v21.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_9 : BitVec 32 := 64#32
  let v16 : BitVec 32 := Scalar.muli arg7 c64_i32_9
  let v17 : BitVec 32 := v16
  let v237 : Index := Scalar.indexCast v17
  let c0_75 : Index := 0#32
  ![v237.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BConvRefIdeal.lean ====
abbrev S4096x2048 : Shape := ⟨2, ![4096, 2048]⟩
abbrev S1x2048 : Shape := ⟨2, ![1, 2048]⟩
abbrev S31x1024 : Shape := ⟨2, ![31, 1024]⟩
abbrev S1x1024 : Shape := ⟨2, ![1, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S31x1x1024 : Shape := ⟨3, ![31, 1, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S31x1024, .f32⟩
  | .hbm, ⟨3, _⟩ => ⟨S1x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S30x1024, .f32⟩
  | .hbm, ⟨19, _⟩ => ⟨S4126x1024, .f32⟩
  | .hbm, ⟨20, _⟩ => ⟨S31x1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S16x4096x1024, .f32⟩
  | .hbm, ⟨84, _⟩ => ⟨S15x4096x1024, .f32⟩
  | .hbm, ⟨85, _⟩ => ⟨S31x4096x1024, .f32⟩
  | .hbm, ⟨86, _⟩ => ⟨S31x4096x1024, .f32⟩
  | .hbm, ⟨87, _⟩ => ⟨S31x4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_cst_2 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩

abbrev nD : Nat := 1
abbrev τ : Topo := Topo.v7x

variable {F : FTy → Type} [FloatOps F]
-- ==== Adam.lean ====
abbrev S80x1024 : Shape := ⟨2, ![80, 1024]⟩

abbrev nBuf : Space → Nat
  | .hbm => 7
  | .vmem => 7
  | .smem => 0
  | _ => 0

abbrev bufTy : (tb : Table) → Fin (tcTables nBuf tb) → BufTy
  | .hbm, ⟨0, _⟩ => ⟨S80x1024, .f32⟩
  | .hbm, ⟨1, _⟩ => ⟨S80x1024, .f32⟩
  | .hbm, ⟨2, _⟩ => ⟨S80x1024, .f32⟩
  | .hbm, ⟨3, _⟩ => ⟨S80x1024, .f32⟩
  | .hbm, ⟨4, _⟩ => ⟨S80x1024, .f32⟩
  | .hbm, ⟨5, _⟩ => ⟨S80x1024, .f32⟩
  | .hbm, ⟨6, _⟩ => ⟨S80x1024, .f32⟩
  | .local _ .vmem, ⟨0, _⟩ => ⟨S80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S80x1024 : Shape := ⟨2, ![80, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S80x1024, .f32⟩
  | .hbm, ⟨2, _⟩ => ⟨S80x1024, .f32⟩
  | .hbm, ⟨3, _⟩ => ⟨S80x1024, .f32⟩
  | .hbm, ⟨4, _⟩ => ⟨S_, .f32⟩
  | .hbm, ⟨5, _⟩ => ⟨S80x1024, .f32⟩
  | .hbm, ⟨6, _⟩ => ⟨S80x1024, .f32⟩
  | .hbm, ⟨7, _⟩ => ⟨S_, .f32⟩
  | .hbm, ⟨8, _⟩ => ⟨S80x1024, .f32⟩
  | .hbm, ⟨9, _⟩ => ⟨S80x1024, .f32⟩
  | .hbm, ⟨10, _⟩ => ⟨S80x1024, .f32⟩
  | .hbm, ⟨11, _⟩ => ⟨S_, .f32⟩
  | .hbm, ⟨12, _⟩ => ⟨S80x1024, .f32⟩
  | .hbm, ⟨13, _⟩ => ⟨S80x1024, .f32⟩
  | .hbm, ⟨14, _⟩ => ⟨S80x1024, .f32⟩
  | .hbm, ⟨15, _⟩ => ⟨S_, .f32⟩
  | .hbm, ⟨16, _⟩ => ⟨S80x1024, .f32⟩
  | .hbm, ⟨17, _⟩ => ⟨S80x1024, .f32⟩
  | .hbm, ⟨18, _⟩ => ⟨S80x1024, .f32⟩
  | .hbm, ⟨19, _⟩ => ⟨S_, .f32⟩
  | .hbm, ⟨20, _⟩ => ⟨S80x1024, .f32⟩
  | .hbm, ⟨21, _⟩ => ⟨S80x1024, .f32⟩
  | .hbm, ⟨22, _⟩ => ⟨S_, .f32⟩
  | .hbm, ⟨23, _⟩ => ⟨S80x1024, .f32⟩
  | .hbm, ⟨24, _⟩ => ⟨S80x1024, .f32⟩
  | .hbm, ⟨25, _⟩ => ⟨S80x1024, .f32⟩
  | .hbm, ⟨26, _⟩ => ⟨S_, .f32⟩
  | .hbm, ⟨27, _⟩ => ⟨S80x1024, .f32⟩
  | .hbm, ⟨28, _⟩ => ⟨S80x1024, .f32⟩
  | .hbm, ⟨29, _⟩ => ⟨S80x1024, .f32⟩
  | .hbm, ⟨30, _⟩ => ⟨S_, .f32⟩
  | .hbm, ⟨31, _⟩ => ⟨S80x1024, .f32⟩
  | .hbm, ⟨32, _⟩ => ⟨S80x1024, .f32⟩
  | .hbm, ⟨33, _⟩ => ⟨S80x1024, .f32⟩
  | .hbm, ⟨34, _⟩ => ⟨S_, .f32⟩
  | .hbm, ⟨35, _⟩ => ⟨S80x1024, .f32⟩
  | .hbm, ⟨36, _⟩ => ⟨S80x1024, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLayers.lean ====
abbrev S1024x1408 : Shape := ⟨2, ![1024, 1408]⟩
abbrev S4x1024x1408 : Shape := ⟨3, ![4, 1024, 1408]⟩
abbrev S256x1408 : Shape := ⟨2, ![256, 1408]⟩
abbrev S1x256x1408 : Shape := ⟨3, ![1, 256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamLayersRefIdeal.lean ====
abbrev S1024x1408 : Shape := ⟨2, ![1024, 1408]⟩
abbrev S4x1024x1408 : Shape := ⟨3, ![4, 1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S_, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S4x1024x1408, .f32⟩
  | .hbm, ⟨27, _⟩ => ⟨S_, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4x1024x1408, .f32⟩
  | .hbm, ⟨42, _⟩ => ⟨S_, .f32⟩
  | .hbm, ⟨43, _⟩ => ⟨S4x1024x1408, .f32⟩
  | .hbm, ⟨44, _⟩ => ⟨S4x1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdaUpdate.lean ====
abbrev S8x1024 : Shape := ⟨2, ![8, 1024]⟩
abbrev S4x8x1536 : Shape := ⟨3, ![4, 8, 1536]⟩
abbrev S4x1024x1536 : Shape := ⟨3, ![4, 1024, 1536]⟩
abbrev S8x256 : Shape := ⟨2, ![8, 256]⟩
abbrev S1x8x1536 : Shape := ⟨3, ![1, 8, 1536]⟩
abbrev S1x256x1536 : Shape := ⟨3, ![1, 256, 1536]⟩
abbrev S8x1536 : Shape := ⟨2, ![8, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S8x256, .f32⟩
  | .local _ .vmem, ⟨1, _⟩ => ⟨S8x256, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaUpdateRefIdeal.lean ====
abbrev S8x1024 : Shape := ⟨2, ![8, 1024]⟩
abbrev S4x8x1536 : Shape := ⟨3, ![4, 8, 1536]⟩
abbrev S4x1024x1536 : Shape := ⟨3, ![4, 1024, 1536]⟩
abbrev S4x1536x8 : Shape := ⟨3, ![4, 1536, 8]⟩
abbrev S4x1536x1024 : Shape := ⟨3, ![4, 1536, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1536x8, .f32⟩
  | .hbm, ⟨6, _⟩ => ⟨S4x8x1536, .f32⟩
  | .hbm, ⟨7, _⟩ => ⟨S4x1536x8, .f32⟩
  | .hbm, ⟨8, _⟩ => ⟨S4x1536x1024, .f32⟩
  | .hbm, ⟨9, _⟩ => ⟨S4x1024x1536, .f32⟩
  | .hbm, ⟨10, _⟩ => ⟨S_, .f32⟩
  | .hbm, ⟨11, _⟩ => ⟨S4x1024x1536, .f32⟩
  | .hbm, ⟨12, _⟩ => ⟨S4x1024x1536, .f32⟩
  | .hbm, ⟨13, _⟩ => ⟨S_, .f32⟩
  | .hbm, ⟨14, _⟩ => ⟨S4x1024x1536, .f32⟩
  | .hbm, ⟨15, _⟩ => ⟨S4x1024x1536, .f32⟩
  | .hbm, ⟨16, _⟩ => ⟨S4x1024x1536, .f32⟩
  | .hbm, ⟨17, _⟩ => ⟨S_, .f32⟩
  | .hbm, ⟨18, _⟩ => ⟨S4x1024x1536, .f32⟩
  | .hbm, ⟨19, _⟩ => ⟨S4x1024x1536, .f32⟩
  | .hbm, ⟨20, _⟩ => ⟨S4x1024x1536, .f32⟩
  | .hbm, ⟨21, _⟩ => ⟨S_, .f32⟩
  | .hbm, ⟨22, _⟩ => ⟨S4x1024x1536, .f32⟩
  | .hbm, ⟨23, _⟩ => ⟨S4x1024x1536, .f32⟩
  | .hbm, ⟨24, _⟩ => ⟨S4x1024x1536, .f32⟩
  | .hbm, ⟨25, _⟩ => ⟨S_, .f32⟩
  | .hbm, ⟨26, _⟩ => ⟨S4x1024x1536, .f32⟩
  | .hbm, ⟨27, _⟩ => ⟨S4x1024x1536, .f32⟩
  | .hbm, ⟨28, _⟩ => ⟨S_, .f32⟩
  | .hbm, ⟨29, _⟩ => ⟨S4x1024x1536, .f32⟩
  | .hbm, ⟨30, _⟩ => ⟨S4x1024x1536, .f32⟩
  | .hbm, ⟨31, _⟩ => ⟨S4x1024x1536, .f32⟩
  | .hbm, ⟨32, _⟩ => ⟨S_, .f32⟩
  | .hbm, ⟨33, _⟩ => ⟨S4x1024x1536, .f32⟩
  | .hbm, ⟨34, _⟩ => ⟨S4x1024x1536, .f32⟩
  | .hbm, ⟨35, _⟩ => ⟨S4x1024x1536, .f32⟩
  | .hbm, ⟨36, _⟩ => ⟨S_, .f32⟩
  | .hbm, ⟨37, _⟩ => ⟨S4x1024x1536, .f32⟩
  | .hbm, ⟨38, _⟩ => ⟨S4x1024x1536, .f32⟩
  | .hbm, ⟨39, _⟩ => ⟨S4x1024x1536, .f32⟩
  | .hbm, ⟨40, _⟩ => ⟨S_, .f32⟩
  | .hbm, ⟨41, _⟩ => ⟨S4x1024x1536, .f32⟩
  | .hbm, ⟨42, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== PackSmall.lean ====
abbrev S8x40x1024 : Shape := ⟨3, ![8, 40, 1024]⟩
abbrev S40x1024 : Shape := ⟨2, ![40, 1024]⟩
abbrev S80x1024 : Shape := ⟨2, ![80, 1024]⟩
abbrev S1x40x1024 : Shape := ⟨3, ![1, 40, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .hbm, ⟨2, _⟩ => ⟨S40x1024, .f32⟩
  | .hbm, ⟨3, _⟩ => ⟨S80x1024, .f32⟩
  | .local _ .vmem, ⟨0, _⟩ => ⟨S8x40x1024, .f32⟩
  | .local _ .vmem, ⟨1, _⟩ => ⟨S40x1024, .f32⟩
  | .local _ .vmem, ⟨2, _⟩ => ⟨S40x1024, .f32⟩
  | .local _ .vmem, ⟨3, _⟩ => ⟨S80x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PackSmallRefIdeal.lean ====
abbrev S8x40x1024 : Shape := ⟨3, ![8, 40, 1024]⟩
abbrev S40x1024 : Shape := ⟨2, ![40, 1024]⟩
abbrev S_ : Shape := ⟨0, ![]⟩
abbrev S80x1024 : Shape := ⟨2, ![80, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .hbm, ⟨2, _⟩ => ⟨S40x1024, .f32⟩
  | .hbm, ⟨3, _⟩ => ⟨S_, .f32⟩
  | .hbm, ⟨4, _⟩ => ⟨S40x1024, .f32⟩
  | .hbm, ⟨5, _⟩ => ⟨S40x1024, .f32⟩
  | .hbm, ⟨6, _⟩ => ⟨S80x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Strip.lean ====
/- Strips of 128 columns worked off in chunks of 64 rows: what a loop carries, and what the chunks' pieces cover. -/
module

public import Idealize.ShloMosaic.Lib.Pipeline.ValueKit
public import Idealize.ShloMosaic.Lib.Pointwise

@[expose] public section

noncomputable section

namespace Cert.Strip

open Idealize.ShloMosaic

/-- A value that grows by `f k` at trip `k`, from zero. -/
theorem carried {M : Type} [AddCommMonoid M] (S f : ℕ → M) (h0 : S 0 = 0) : ∀ n : ℕ, (∀ k < n, S (k + 1) = S k + f k) →
    S n = ∑ k ∈ Finset.range n, f k
  | 0, _ => by rw [h0, Finset.range_zero, Finset.sum_empty]
  | n + 1, hs => by
    rw [Finset.sum_range_succ, hs n (Nat.lt_succ_self n), carried S f h0 n fun k hk => hs k (Nat.lt_succ_of_lt hk)]

/-- A list that has the elements `T k` put in front at trip `k`, from the empty list: its members. -/
theorem gathered {β : Type} (L T : ℕ → List β) (h0 : L 0 = []) : ∀ n : ℕ, (∀ k < n, L (k + 1) = T k ++ L k) →
    ∀ p : β, p ∈ L n ↔ ∃ k < n, p ∈ T k
  | 0, _, p => by rw [h0]; simp
  | n + 1, hs, p => by
    rw [hs n (Nat.lt_succ_self n), List.mem_append, gathered L T h0 n fun k hk => hs k (Nat.lt_succ_of_lt hk)]
    constructor
    · rintro (h | ⟨k, hk, h⟩)
      · exact ⟨n, Nat.lt_succ_self n, h⟩
      · exact ⟨k, Nat.lt_succ_of_lt hk, h⟩
    · rintro ⟨k, hk, h⟩
      rcases Nat.lt_succ_iff_lt_or_eq.mp hk with hk | rfl
      · exact Or.inr ⟨k, hk, h⟩
      · exact Or.inl h

/-- A sum over `a * b` rows, block by block of `b`. -/
theorem sum_blocks {M : Type} [AddCommMonoid M] (a b : ℕ) (f : ℕ → M) :
    ∑ r : Fin (a * b), f r.val = ∑ k : Fin a, ∑ i : Fin b, f (b * k.val + i.val) := by
  rw [← Fintype.sum_prod_type', ← Fintype.sum_equiv finProdFinEquiv (fun x => f (b * x.1.val + x.2.val)) (fun r => f r.val)]
  rintro ⟨k, i⟩
  rw [finProdFinEquiv_apply_val, Nat.add_comm]

/-- Eight sums over eight, added over 64 trips and over the eight at the end: the sum over all 4096 rows. -/
theorem sum_rows {M : Type} [AddCommMonoid M] (f : ℕ → M) :
    ∑ p : Fin 8, ∑ k ∈ Finset.range 64, ∑ q : Fin 8, f (64 * k + (q.val * 8 + p.val)) = ∑ r : Fin 4096, f r.val := by
  have e := sum_blocks 64 64 f
  rw [show (∑ r : Fin 4096, f r.val) = ∑ r : Fin (64 * 64), f r.val from rfl, e, Finset.sum_comm,
    ← Fin.sum_univ_eq_sum_range (fun k => ∑ p : Fin 8, ∑ q : Fin 8, f (64 * k + (q.val * 8 + p.val))) 64]
  refine Finset.sum_congr rfl fun k _ => ?_
  rw [Finset.sum_comm]
  refine Eq.trans ?_ (sum_blocks 8 8 fun i => f (64 * k.val + i)).symm
  exact Finset.sum_congr rfl fun q _ => Finset.sum_congr rfl fun p _ => by rw [Nat.mul_comm q.val 8]

/-! ## Loads and stores of whole rows -/

section
variable {sig : RefSig} {κ : Kind} {sp : Space} {e : EltTy} {Val : EltTy → Type}

theorem read_rows {N C n : ℕ} (v : View sig κ sp ⟨2, ![N, C]⟩ e) (f : v.ty.Contents Val) {off : Fin 2 → ℕ} (o : ℕ) (h : off = ![o, 0])
    (inb : ∀ a, off a + (⟨2, ![n, C]⟩ : Shape).size a ≤ (⟨2, ![N, C]⟩ : Shape).size a) (p : Fin n) (l : Fin C) (hp : o + p.val < N) :
    v.readAt Val (Rect.unit (s := ⟨2, ![N, C]⟩) off (⟨2, ![n, C]⟩ : Shape).size inb).toLoadRect f (ix2 p l) = v.read Val f (ix2 ⟨o + p.val, hp⟩ l) := by
  subst h
  rw [View.readAt_apply]
  refine congrArg (v.read Val f) (funext fun a => Fin.ext ?_)
  rw [Rect.idx_unit_val]
  fin_cases a
  · rfl
  · exact Nat.zero_add _

theorem read_rows3 {N C n : ℕ} (v : View sig κ sp ⟨3, ![1, N, C]⟩ e) (f : v.ty.Contents Val) {off : Fin 3 → ℕ} (o : ℕ) (h : off = ![0, o, 0])
    (inb : ∀ a, off a + (⟨3, ![1, n, C]⟩ : Shape).size a ≤ (⟨3, ![1, N, C]⟩ : Shape).size a) (p : Fin n) (l : Fin C) (hp : o + p.val < N) :
    v.readAt Val (Rect.unit (s := ⟨3, ![1, N, C]⟩) off (⟨3, ![1, n, C]⟩ : Shape).size inb).toLoadRect f (ix3 0 p l)
      = v.read Val f (ix3 0 ⟨o + p.val, hp⟩ l) := by
  subst h
  rw [View.readAt_apply]
  refine congrArg (v.read Val f) (funext fun a => Fin.ext ?_)
  rw [Rect.idx_unit_val]
  fin_cases a
  · rfl
  · rfl
  · exact Nat.zero_add _

/-- A row loaded at row `o` on, of contents given as a function of the row. -/
theorem row_of {N C n : ℕ} {v : View sig κ sp ⟨2, ![N, C]⟩ e} {f : v.ty.Contents Val} {q : ℕ → Fin C → Val e}
    (hq : ∀ (r : Fin N) (l : Fin C), v.read Val f (ix2 r l) = q r.val l) {off : Fin 2 → ℕ} {o : ℕ} (h : off = ![o, 0])
    (inb : ∀ a, off a + (⟨2, ![n, C]⟩ : Shape).size a ≤ (⟨2, ![N, C]⟩ : Shape).size a) (p : Fin n) (l : Fin C) (m : ℕ) (hm : o + p.val = m) (hN : m < N) :
    v.readAt Val (Rect.unit (s := ⟨2, ![N, C]⟩) off (⟨2, ![n, C]⟩ : Shape).size inb).toLoadRect f (ix2 p l) = q m l := by
  subst hm
  exact (read_rows v f o h inb p l hN).trans (hq _ l)

theorem row3_of {N C n : ℕ} {v : View sig κ sp ⟨3, ![1, N, C]⟩ e} {f : v.ty.Contents Val} {q : ℕ → Fin C → Val e}
    (hq : ∀ (r : Fin N) (l : Fin C), v.read Val f (ix3 0 r l) = q r.val l) {off : Fin 3 → ℕ} {o : ℕ} (h : off = ![0, o, 0])
    (inb : ∀ a, off a + (⟨3, ![1, n, C]⟩ : Shape).size a ≤ (⟨3, ![1, N, C]⟩ : Shape).size a) (p : Fin n) (l : Fin C) (m : ℕ) (hm : o + p.val = m) (hN : m < N) :
    v.readAt Val (Rect.unit (s := ⟨3, ![1, N, C]⟩) off (⟨3, ![1, n, C]⟩ : Shape).size inb).toLoadRect f (ix3 0 p l) = q m l := by
  subst hm
  exact (read_rows3 v f o h inb p l hN).trans (hq _ l)

/-- Where a piece of `n` whole rows from row `o` of part `b` holds an element. -/
theorem piece_at {K N C n : ℕ} {off : Fin 3 → ℕ} (b o : ℕ) (h : off = ![b, o, 0])
    (inb : ∀ a, off a + (⟨3, ![1, n, C]⟩ : Shape).size a ≤ (⟨3, ![K, N, C]⟩ : Shape).size a) (s : Fin K) (r : Fin N) (l : Fin C)
    (p : Fin n) (m : Fin C)
    (hx : (Rect.unit (s := ⟨3, ![K, N, C]⟩) off (⟨3, ![1, n, C]⟩ : Shape).size inb).emb (ix3 0 p m) = ix3 s r l) :
    s.val = b ∧ r.val = o + p.val ∧ m = l := by
  subst h
  have e0 := congrArg Fin.val (congrFun hx 0)
  have e1 := congrArg Fin.val (congrFun hx 1)
  have e2 := congrArg Fin.val (congrFun hx 2)
  rw [Rect.emb_apply] at e0 e1 e2
  have f0 : b + 1 * 0 = s.val := e0
  have f1 : o + 1 * p.val = r.val := e1
  have f2 : 0 + 1 * m.val = l.val := e2
  exact ⟨by omega, by omega, Fin.ext (by omega)⟩

theorem piece_mem {K N C n : ℕ} {off : Fin 3 → ℕ} (b o : ℕ) (h : off = ![b, o, 0])
    (inb : ∀ a, off a + (⟨3, ![1, n, C]⟩ : Shape).size a ≤ (⟨3, ![K, N, C]⟩ : Shape).size a) (s : Fin K) (r : Fin N) (l : Fin C)
    (hs : s.val = b) (hr : o ≤ r.val ∧ r.val < o + n) :
    ix3 s r l ∈ (Rect.unit (s := ⟨3, ![K, N, C]⟩) off (⟨3, ![1, n, C]⟩ : Shape).size inb).set := by
  subst h
  rw [Rect.mem_set_unit]
  intro a
  fin_cases a
  · exact ⟨hs.ge, show s.val < b + 1 by omega⟩
  · exact hr
  · exact ⟨Nat.zero_le _, show l.val < 0 + C by omega⟩

/-- The same for an array of two axes. -/
theorem piece2_at {N C n : ℕ} {off : Fin 2 → ℕ} (o : ℕ) (h : off = ![o, 0])
    (inb : ∀ a, off a + (⟨2, ![n, C]⟩ : Shape).size a ≤ (⟨2, ![N, C]⟩ : Shape).size a) (r : Fin N) (l : Fin C) (p : Fin n) (m : Fin C)
    (hx : (Rect.unit (s := ⟨2, ![N, C]⟩) off (⟨2, ![n, C]⟩ : Shape).size inb).emb (ix2 p m) = ix2 r l) : r.val = o + p.val ∧ m = l := by
  subst h
  have e0 := congrArg Fin.val (congrFun hx 0)
  have e1 := congrArg Fin.val (congrFun hx 1)
  rw [Rect.emb_apply] at e0 e1
  have f0 : o + 1 * p.val = r.val := e0
  have f1 : 0 + 1 * m.val = l.val := e1
  exact ⟨by omega, Fin.ext (by omega)⟩

theorem piece2_mem {N C n : ℕ} {off : Fin 2 → ℕ} (o : ℕ) (h : off = ![o, 0])
    (inb : ∀ a, off a + (⟨2, ![n, C]⟩ : Shape).size a ≤ (⟨2, ![N, C]⟩ : Shape).size a) (r : Fin N) (l : Fin C) (hr : o ≤ r.val ∧ r.val < o + n) :
    ix2 r l ∈ (Rect.unit (s := ⟨2, ![N, C]⟩) off (⟨2, ![n, C]⟩ : Shape).size inb).set := by
  subst h
  rw [Rect.mem_set_unit]
  intro a
  fin_cases a
  · exact hr
  · exact ⟨Nat.zero_le _, show l.val < 0 + C by omega⟩

/-- Two blocks of rows that cover an array, both given by one function of the row. -/
theorem two_blocks [∀ e, Nonempty (Val e)] {N C n n' : ℕ} (o o' : ℕ) (inb) (inb')
    (P : (⟨2, ![n, C]⟩ : Shape).Idx → Val e) (P' : (⟨2, ![n', C]⟩ : Shape).Idx → Val e) (f : ℕ → Fin C → Val e)
    (h : ∀ p l, P (ix2 p l) = f (o + p.val) l) (h' : ∀ p l, P' (ix2 p l) = f (o' + p.val) l) (r : Fin N) (l : Fin C)
    (hc : o ≤ r.val ∧ r.val < o + n ∨ o' ≤ r.val ∧ r.val < o' + n') :
    View.canon (Val := Val) (s := ⟨2, ![N, C]⟩) (e := e) [⟨Rect.unit (s := ⟨2, ![N, C]⟩) ![o, 0] (⟨2, ![n, C]⟩ : Shape).size inb, P⟩,
      ⟨Rect.unit (s := ⟨2, ![N, C]⟩) ![o', 0] (⟨2, ![n', C]⟩ : Shape).size inb', P'⟩] (ix2 r l) = f r.val l := by
  refine View.canon_eq_of_allAt _ _ _ ?_ ?_
  · rcases hc with hc | hc
    · exact ⟨_, List.mem_cons_self, piece2_mem o rfl inb r l hc⟩
    · exact ⟨_, List.mem_cons_of_mem _ List.mem_cons_self, piece2_mem o' rfl inb' r l hc⟩
  · intro p hp x hx
    simp only [List.mem_cons, List.not_mem_nil, or_false] at hp
    rcases hp with rfl | rfl
    · rw [eq_ix2 x] at hx ⊢
      obtain ⟨e0, e1⟩ := piece2_at o rfl inb r l _ _ hx
      rw [e0, ← e1]
      exact h _ _
    · rw [eq_ix2 x] at hx ⊢
      obtain ⟨e0, e1⟩ := piece2_at o' rfl inb' r l _ _ hx
      rw [e0, ← e1]
      exact h' _ _

end

/-! ## Gradients of a gated convolution of three taps, over rows `q` (from 8 rows before the strip) and `d` -/

/-- The rows of an array, zero past the end. -/
def row {C : ℕ} (A : (⟨2, ![4096, C]⟩ : Shape).Idx → EReal) (n : ℕ) (l : Fin C) : EReal := if h : n < 4096 then A (ix2 ⟨n, h⟩ l) else 0

theorem row_lt {C : ℕ} (A : (⟨2, ![4096, C]⟩ : Shape).Idx → EReal) (r : Fin 4096) (l : Fin C) : row A r.val l = A (ix2 r l) := by
  rw [row, dif_pos r.isLt]

theorem row_ge {C : ℕ} (A : (⟨2, ![4096, C]⟩ : Shape).Idx → EReal) (n : ℕ) (h : 4096 ≤ n) (l : Fin C) : row A n l = 0 := by
  rw [row, dif_neg (by omega)]

/-- Rows put `n` later, with zeros before. -/
def later {C : ℕ} (n : ℕ) (f : ℕ → Fin C → EReal) (r : ℕ) (l : Fin C) : EReal := if r < n then 0 else f (r - n) l

section
variable {C : ℕ} (w : ℕ → Fin C → EReal) (q d g h z : ℕ → Fin C → EReal)

/-- The convolution's value at a row. -/
def conv (r : ℕ) (l : Fin C) : EReal := w 0 l * q (r + 6) l + w 1 l * q (r + 7) l + w 2 l * q (r + 8) l

/-- The gradient of the convolution's input at a row. -/
def back (r : ℕ) (l : Fin C) : EReal := w 2 l * d r l + w 1 l * d (r + 1) l + w 0 l * d (r + 2) l

/-- The three gradients at a row. -/
def three (s : ℕ) (r : ℕ) (l : Fin C) : EReal :=
  if s = 0 then z r l * conv w q r l else if s = 1 then back w d r l * h r l else back w d r l * g r l

end

/-- Column `l` of part `s` of three. -/
def part3 (s : ℕ) (hs : s < 3) (l : Fin 1024) : Fin 3072 := ⟨1024 * s + l.val, by omega⟩

section
variable (X : (⟨2, ![4096, 3072]⟩ : Shape).Idx → EReal) (W : (⟨2, ![3, 1024]⟩ : Shape).Idx → EReal) (Z : (⟨2, ![4096, 1024]⟩ : Shape).Idx → EReal)

def gb (r : ℕ) (l : Fin 1024) : EReal := row X r (part3 0 (by decide) l)
def gc (r : ℕ) (l : Fin 1024) : EReal := row X r (part3 1 (by decide) l)
def hv (r : ℕ) (l : Fin 1024) : EReal := row X r (part3 2 (by decide) l)
def tap (k : ℕ) (l : Fin 1024) : EReal := if h : k < 3 then W (ix2 ⟨k, h⟩ l) else 0

/-- The convolution's input, 8 rows later. -/
def qpad : ℕ → Fin 1024 → EReal := later 8 fun r l => gc X r l * hv X r l

/-- The gradient of the convolution's value. -/
def dval (r : ℕ) (l : Fin 1024) : EReal := row Z r l * gb X r l

/-- The gradients of the three parts. -/
def parts (i : (⟨3, ![3, 4096, 1024]⟩ : Shape).Idx) : EReal :=
  three (tap W) (qpad X) (dval X Z) (gc X) (hv X) (row Z) (i 0).val (i 1).val (i 2)

/-- The gradients of the taps. -/
def taps (i : (⟨2, ![3, 1024]⟩ : Shape).Idx) : EReal := ∑ r : Fin 4096, dval X Z r.val (i 1) * qpad X (r.val + 6 + (i 0).val) (i 1)

end

end Cert.Strip
-- ==== Proof.AConvLoop.lean ====
/- The gated convolution `AConvIdeal`: the rows its loop writes. -/
module

public import proofs.«01_k».proof.Proof.Strip
public import proofs.«01_k».proof.Proof.Gen.AConvIdeal.Frame
public import Idealize.ShloMosaic.Lib.Pipeline.ValueKit
public import Idealize.ShloMosaic.Lib.Pointwise

@[expose] public section

set_option maxRecDepth 16384

noncomputable section

namespace Cert.AConvIdeal.Value

open Cert.AConvIdeal Cert.AConvIdeal.Gen Idealize.ShloMosaic Idealize.ShloMosaic.TcCoe Idealize.SL.Sem
open Cert.Strip

theorem chunk_at (x6 x7 x8 : FVec Ideal S64x128 .f32) (w0 w1 w2 : FVec Ideal S1x128 .f32) (b : FVec Ideal S1x64x128 .bf16) (p : Fin 64) (l : Fin 128) :
    k0_pay3 (F := Ideal) x6 x7 x8 w0 w1 w2 b (ix2 p l)
      = b (ix3 0 p l) * (w0 (ix2 0 l) * x6 (ix2 p l) + w1 (ix2 0 l) * x7 (ix2 p l) + w2 (ix2 0 l) * x8 (ix2 p l)) := by
  pointwise [k0_pay3]

theorem front_at (p : Fin 8) (l : Fin 128) : k0_pay1 (F := Ideal) (ix2 p l) = 0 := by
  pointwise [k0_pay1]

theorem gated_at (a b : FVec Ideal S1x4096x128 .bf16) (p : Fin 4096) (l : Fin 128) :
    k0_pay2 (F := Ideal) a b (ix2 p l) = a (ix3 0 p l) * b (ix3 0 p l) := by
  pointwise [k0_pay2]

theorem from_6 : ∀ k : Fin k0_t1_loop.trips, k0_off1 k 6#32 = ![64 * k.val + 6, 0] := by decide +kernel
theorem from_7 : ∀ k : Fin k0_t1_loop.trips, k0_off1 k 7#32 = ![64 * k.val + 7, 0] := by decide +kernel
theorem from_8 : ∀ k : Fin k0_t1_loop.trips, k0_off1 k 8#32 = ![64 * k.val + 8, 0] := by decide +kernel

theorem chunks : k0_t1_loop.trips = 64 := by decide +kernel

section
variable (𝒱 : Variants) (c : Dev nD) (bd : Option 𝒱.V) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S3x128 .f32) (harg4 : arg4.IsWhole) (arg5 : Memref sig .tc .vmem S4096x128 .bf16) (harg5 : arg5.IsWhole) (arg6 : Memref sig .tc .vmem S4104x128 .f32) (harg6 : arg6.IsWhole) (X_arg1 : BufTy.Contents (Elt Ideal) arg1.view.ty) (X_arg4 : BufTy.Contents (Elt Ideal) arg4.view.ty) (X_arg6 : BufTy.Contents (Elt Ideal) arg6.view.ty)
  (w q g : ℕ → Fin 128 → EReal)
  (hg : ∀ (r : Fin 4096) (l : Fin 128), arg1.view.read (Elt Ideal) X_arg1 (ix3 0 r l) = g r.val l)
  (hw : ∀ (r : Fin 3) (l : Fin 128), arg4.view.read (Elt Ideal) X_arg4 (ix2 r l) = w r.val l)
  (hq : ∀ (r : Fin 4104) (l : Fin 128), arg6.view.read (Elt Ideal) X_arg6 (ix2 r l) = q r.val l)

include hg hw hq

/-- What a trip writes, element by element. -/
theorem trip_at (k : Fin k0_t1_loop.trips) : ∀ p ∈ tripL_k0_t1 (F := Ideal) 𝒱 c bd i arg1 harg1 arg2 harg2 arg3 harg3 arg4 harg4 arg5 harg5 arg6 harg6 X_arg1 X_arg4 X_arg6 k,
    ∀ (r : Fin 4096) (l : Fin 128) (x : p.1.shape.Idx), p.1.emb x = ix2 r l → p.2 x = g r.val l * conv w q r.val l := by
  have hk : k.val < 64 := lt_of_lt_of_eq k.isLt chunks
  unfold tripL_k0_t1 trip_k0_t1
  dsimp only
  intro p hp r l x hx
  obtain rfl := List.mem_singleton.mp hp
  dsimp only at x hx ⊢
  idx_vars x
  obtain ⟨e, rfl⟩ := piece2_at (64 * k.val) (k0_off3_eq k) _ r l x0 x1 hx
  rw [chunk_at, e]
  exact congrArg₂ (· * ·) (row3_of hg (k0_off2_eq k) _ _ _ _ (by first | rfl | omega | (dsimp only; omega)) (by omega)) (congrArg₂ (· + ·) (congrArg₂ (· + ·)
    (congrArg₂ (· * ·) (row_of hw (o := 0) rfl _ 0 _ 0 rfl (by decide)) (row_of hq (from_6 k) _ _ _ _ (by first | rfl | omega | (dsimp only; omega)) (by omega)))
    (congrArg₂ (· * ·) (row_of hw (o := 1) rfl _ 0 _ 1 rfl (by decide)) (row_of hq (from_7 k) _ _ _ _ (by first | rfl | omega | (dsimp only; omega)) (by omega))))
    (congrArg₂ (· * ·) (row_of hw (o := 2) rfl _ 0 _ 2 rfl (by decide)) (row_of hq (from_8 k) _ _ _ _ (by first | rfl | omega | (dsimp only; omega)) (by omega))))

/-- The strip after the loop. -/
theorem rows_all (r : Fin 4096) (l : Fin 128) :
    View.canon (pb_k0_t1 (F := Ideal) 𝒱 c bd i arg1 harg1 arg2 harg2 arg3 harg3 arg4 harg4 arg5 harg5 arg6 harg6 X_arg1 X_arg4 X_arg6 64) (ix2 r l) = g r.val l * conv w q r.val l := by
  have mem := gathered (fun k => pb_k0_t1 (F := Ideal) 𝒱 c bd i arg1 harg1 arg2 harg2 arg3 harg3 arg4 harg4 arg5 harg5 arg6 harg6 X_arg1 X_arg4 X_arg6 k)
    (fun k => if hk : k < k0_t1_loop.trips then tripL_k0_t1 (F := Ideal) 𝒱 c bd i arg1 harg1 arg2 harg2 arg3 harg3 arg4 harg4 arg5 harg5 arg6 harg6 X_arg1 X_arg4 X_arg6 ⟨k, hk⟩ else []) rfl 64 fun k hk => by
      have hk' : k < k0_t1_loop.trips := lt_of_lt_of_eq hk chunks.symm
      rw [dif_pos hk']
      exact pb_k0_t1_succ (F := Ideal) 𝒱 c bd i arg1 harg1 arg2 harg2 arg3 harg3 arg4 harg4 arg5 harg5 arg6 harg6 X_arg1 X_arg4 X_arg6 ⟨k, hk'⟩
  refine View.canon_eq_of_allAt _ _ _ ?_ ?_
  · have hk : r.val / 64 < 64 := by omega
    have hk' : r.val / 64 < k0_t1_loop.trips := lt_of_lt_of_eq hk chunks.symm
    have hm : ∃ p ∈ tripL_k0_t1 (F := Ideal) 𝒱 c bd i arg1 harg1 arg2 harg2 arg3 harg3 arg4 harg4 arg5 harg5 arg6 harg6 X_arg1 X_arg4 X_arg6 ⟨r.val / 64, hk'⟩, ix2 r l ∈ p.1.set := by
      unfold tripL_k0_t1 trip_k0_t1
      exact ⟨_, List.mem_cons_self, piece2_mem (64 * (r.val / 64)) (k0_off3_eq _) (k0_off3_inb _) r l ⟨by omega, by omega⟩⟩
    obtain ⟨p, hp, hs⟩ := hm
    exact ⟨p, (mem p).mpr ⟨_, hk, by rw [dif_pos hk']; exact hp⟩, hs⟩
  · intro p hp x hx
    obtain ⟨k, hk, hp⟩ := (mem p).mp hp
    rw [dif_pos (lt_of_lt_of_eq hk chunks.symm)] at hp
    exact trip_at 𝒱 c bd i arg1 harg1 arg2 harg2 arg3 harg3 arg4 harg4 arg5 harg5 arg6 harg6 X_arg1 X_arg4 X_arg6 w q g hg hw hq ⟨k, _⟩ p hp r l x hx

end

end Cert.AConvIdeal.Value
-- ==== Proof.AConvValue.lean ====
/- What `AConvIdeal` leaves in its result. -/
module

public import proofs.«01_k».proof.Proof.AConvLoop
public import proofs.«01_k».proof.Proof.Gen.AConvIdeal.Value
public import Idealize.ShloMosaic.Lib.Claim

@[expose] public section

set_option maxRecDepth 16384

noncomputable section

namespace Cert.AConvIdeal.Value

open Cert.AConvIdeal Cert.AConvIdeal.Gen Idealize.ShloMosaic Idealize.ShloMosaic.TcCoe Idealize.SL.Sem
open Cert.Strip

open Idealize.ShloMosaic.Pipeline (Dat)

theorem idx0 : ∀ t : Fin cfg0.N, win0_0.index t = ![0, 0, t.val] ∧ win0_1.index t = ![1, 0, t.val] ∧ win0_2.index t = ![2, 0, t.val] ∧ win0_3.index t = ![0, t.val]
    ∧ win0_4.index t = ![0, t.val] :=
  (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

variable (m : (ℓ : Loc nD τ sig) → Buf (Elt Ideal) ℓ)

theorem host_v7_0 (c : Dev nD) (r : Fin 4096) (l : Fin 1024) :
    V m c main_v7 (ix3 0 r l) = m ((c : Thread nD τ).loc main_arg0) (ix2 r (part3 0 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem host_v7_1 (c : Dev nD) (r : Fin 4096) (l : Fin 1024) :
    V m c main_v7 (ix3 1 r l) = m ((c : Thread nD τ).loc main_arg0) (ix2 r (part3 1 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem host_v7_2 (c : Dev nD) (r : Fin 4096) (l : Fin 1024) :
    V m c main_v7 (ix3 2 r l) = m ((c : Thread nD τ).loc main_arg0) (ix2 r (part3 2 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem b0 (c : Dev nD) (t : Fin cfg0.N) (r : Fin 4096) (l : Fin 128) :
    iblk m c 0 t (ix3 0 r l) = gb (m ((c : Thread nD τ).loc main_arg0)) r.val (col t l) := by
  refine Eq.trans ?_ ((host_v7_0 m c r (col t l)).trans (row_lt _ _ _).symm)
  blk_point [iblk, idx0 t, col]

theorem held0 (c : Dev nD) (t : Fin cfg0.N) (r : Fin 4096) (l : Fin 128) :
    (ms0_0 t).view.read (Elt Ideal) ((hs0_0 t).unread (iblk m c 0 t)) (ix3 0 r l) = gb (m ((c : Thread nD τ).loc main_arg0)) r.val (col t l) := by
  rw [(hs0_0 t).read_unread]
  exact b0 m c t r l

theorem b1 (c : Dev nD) (t : Fin cfg0.N) (r : Fin 4096) (l : Fin 128) :
    iblk m c 1 t (ix3 0 r l) = gc (m ((c : Thread nD τ).loc main_arg0)) r.val (col t l) := by
  refine Eq.trans ?_ ((host_v7_1 m c r (col t l)).trans (row_lt _ _ _).symm)
  blk_point [iblk, idx0 t, col]

theorem held1 (c : Dev nD) (t : Fin cfg0.N) (r : Fin 4096) (l : Fin 128) :
    (ms0_1 t).view.read (Elt Ideal) ((hs0_1 t).unread (iblk m c 1 t)) (ix3 0 r l) = gc (m ((c : Thread nD τ).loc main_arg0)) r.val (col t l) := by
  rw [(hs0_1 t).read_unread]
  exact b1 m c t r l

theorem b2 (c : Dev nD) (t : Fin cfg0.N) (r : Fin 4096) (l : Fin 128) :
    iblk m c 2 t (ix3 0 r l) = hv (m ((c : Thread nD τ).loc main_arg0)) r.val (col t l) := by
  refine Eq.trans ?_ ((host_v7_2 m c r (col t l)).trans (row_lt _ _ _).symm)
  blk_point [iblk, idx0 t, col]

theorem held2 (c : Dev nD) (t : Fin cfg0.N) (r : Fin 4096) (l : Fin 128) :
    (ms0_2 t).view.read (Elt Ideal) ((hs0_2 t).unread (iblk m c 2 t)) (ix3 0 r l) = hv (m ((c : Thread nD τ).loc main_arg0)) r.val (col t l) := by
  rw [(hs0_2 t).read_unread]
  exact b2 m c t r l

theorem held3 (c : Dev nD) (t : Fin cfg0.N) (r : Fin 3) (l : Fin 128) :
    (ms0_3 t).view.read (Elt Ideal) ((hs0_3 t).unread (iblk m c 3 t)) (ix2 r l) = tap (m ((c : Thread nD τ).loc main_arg1)) r.val (col t l) := by
  rw [(hs0_3 t).read_unread, tap, dif_pos r.isLt]
  refine Eq.trans ?_ (congrFun (V_main_arg1 m c) (ix2 r (col t l)))
  blk_point [iblk, idx0 t, col]

theorem emb4 (t : Fin cfg0.N) (r : Fin 4096) (l : Fin 128) : ((cfg0.win 4).blk t).view.emb (ix2 r l) = ix2 r (col t l) := by
  blk_ext [idx0 t, col]

/-- The convolution's input behind its eight rows of zeros, as the scratch holds it. -/
abbrev padded (c : Dev nD) (t : Fin cfg0.N) := (View.whole cc0_scratch0).writes (Elt Ideal) (View.whole cc0_scratch0).junk
  (kernelRun0_A.sl.HS0_2 (F := Ideal) c (ms0_1 t) (hs0_1 t) (ms0_2 t) (hs0_2 t) (iblk m c 1 t) (iblk m c 2 t))

theorem padded_at (c : Dev nD) (t : Fin cfg0.N) (r : Fin 4104) (l : Fin 128) :
    scM0_0.view.read (Elt Ideal) (padded m c t) (ix2 r l) = qpad (m ((c : Thread nD τ).loc main_arg0)) r.val (col t l) := by
  refine (congrFun (View.read_writes_junk_eq_canon _ _) _).trans ?_
  refine two_blocks (Val := Elt Ideal) (e := .f32) (n := 4096) (n' := 8) 8 0 _ _ _ _ (fun r l => qpad (m ((c : Thread nD τ).loc main_arg0)) r (col t l)) (fun p l => ?_) (fun p l => ?_) r l (by omega)
  · rw [gated_at]
    refine (congrArg₂ (· * ·) (row3_of (q := fun r l => gc (m ((c : Thread nD τ).loc main_arg0)) r (col t l)) (held1 m c t) rfl _ p l p.val (Nat.zero_add _) p.isLt)
      (row3_of (q := fun r l => hv (m ((c : Thread nD τ).loc main_arg0)) r (col t l)) (held2 m c t) rfl _ p l p.val (Nat.zero_add _) p.isLt)).trans ?_
    rw [qpad, later, if_neg (by omega), Nat.add_sub_cancel_left]
  · rw [front_at, qpad, later, if_pos (by omega)]

/-- The gated convolution of the projection `X` with the taps `W`. -/
def gatedConv (X : (⟨2, ![4096, 3072]⟩ : Shape).Idx → EReal) (W : (⟨2, ![3, 1024]⟩ : Shape).Idx → EReal) (i : (⟨2, ![4096, 1024]⟩ : Shape).Idx) : EReal :=
  gb X (i 0).val (i 1) * conv (tap W) (qpad X) (i 0).val (i 1)

theorem out4 (c : Dev nD) (t : Fin cfg0.N) (r : Fin 4096) (l : Fin 128) : outsAt0 m c t (ix2 r l)
    = gatedConv (m ((c : Thread nD τ).loc main_arg0)) (m ((c : Thread nD τ).loc main_arg1)) (ix2 r (col t l)) := by
  unfold outsAt0 out0_A_4 kernelRun0_A
  dsimp only
  rw [View.read_writes_junk_eq_canon]
  exact rows_all Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) _ _ (padded m c t)
    (fun k l => tap (m ((c : Thread nD τ).loc main_arg1)) k (col t l)) (fun k l => qpad (m ((c : Thread nD τ).loc main_arg0)) k (col t l))
    (fun k l => gb (m ((c : Thread nD τ).loc main_arg0)) k (col t l)) (held0 m c t) (held3 m c t) (padded_at m c t) r l

theorem res4 (c : Dev nD) : (dats m 0 c).arrAt 4 cfg0.N
    = gatedConv (m ((c : Thread nD τ).loc main_arg0)) (m ((c : Thread nD τ).loc main_arg1)) := by
  refine (dats m 0 c).arrAt_eq_of_covers 4 _ (by decide +kernel) fun t _ y => ?_
  blk_simp
  rw [after0_4]
  idx_vars y
  rw [out4, emb4]

theorem run_parts (ρ : Dev nD → PrngReg) : θ_run defs (onTc (τ := τ) (main (F := Ideal))) ⟨m, fun _ => 0, ρ⟩ fun r => ∀ c : Dev nD,
    r.2.mem ((c.tc : Thread nD τ).loc main_v8)
        = gatedConv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res4 m c), (h c).2⟩) (run_blocks m ρ)

end Cert.AConvIdeal.Value
-- ==== Proof.AConvPure.lean ====
/- What `AConvRefIdeal` computes. -/
module

public import proofs.«01_k».proof.Proof.AConvValue
public import proofs.«01_k».proof.Proof.Gen.AConvRefIdeal.Read
public import Idealize.ShloMosaic.Lib.Pointwise

@[expose] public section

set_option maxRecDepth 16384

noncomputable section

namespace Cert.AConvRefIdeal.Pure

open Cert.AConvRefIdeal Cert.AConvRefIdeal.Read Idealize.ShloMosaic Idealize.ShloMosaic.TcCoe
open Cert.Strip

variable (x : FVec Ideal S4096x3072 .f32) (w : FVec Ideal S3x1024 .f32)

/-- The convolution's input, two rows of zeros first. -/
theorem input_at (n : Fin 4098) (l : Fin 1024) : val_main_v5 (F := Ideal) x (ix2 n l) = qpad x (n.val + 6) l := by
  unfold val_main_v5
  pointwise [val_main_v1, val_main_v2, val_main_v3, val_main_cst, val_main_v4]
  unfold qpad later gc hv
  by_cases h : n.val < 2
  · rw [dif_pos h, if_pos (by omega)]
  · refine (dif_neg h).trans (Eq.trans ?_ (if_neg (by omega)).symm)
    have e : n.val + 6 - 8 = (⟨n.val - 2, by omega⟩ : Fin 4096).val := by dsimp only; omega
    rw [e]
    exact (congrArg₂ (· * ·) (row_lt x _ _) (row_lt x _ _)).symm

theorem r27 : val_main_v27 (F := Ideal) x w = Cert.AConvIdeal.Value.gatedConv x w := by
  funext i
  idx_vars i
  pointwise [val_main_v0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, input_at]
  unfold Cert.AConvIdeal.Value.gatedConv conv gb
  dsimp only [ix2_0, ix2_1]
  rw [row_lt]
  have e : ∀ k (h : k < 3), w (ix2 ⟨k, h⟩ i1) = tap w k i1 := fun k h => by rw [tap, dif_pos h]
  refine congrArg₂ (· * ·) (congrArg (fun k => x (ix2 i0 k)) (Fin.ext (by simp [part3]))) ?_
  refine congrArg₂ (· + ·) (congrArg₂ (· + ·) (congrArg₂ (· * ·) (e 0 (by decide)) rfl) (congrArg₂ (· * ·) (e 1 (by decide)) (congrArg (qpad x · i1) (by omega))))
    (congrArg₂ (· * ·) (e 2 (by decide)) (congrArg (qpad x · i1) (by omega)))

end Cert.AConvRefIdeal.Pure
-- ==== Proof.AConvClaim.lean ====
/- The claims about `AConv`. -/
module

public import proofs.«01_k».proof.Defs
public import proofs.«01_k».proof.Proof.AConvPure

@[expose] public section

set_option maxRecDepth 16384

noncomputable section

namespace Cert.AConvIdeal

open Idealize.ShloMosaic Idealize.ShloMosaic.TcCoe Idealize.SL.Sem

theorem algebraic : Cert.algebraic_AConvIdeal_AConvRefIdeal (hAConvIdeal := Cert.AConvIdeal.Gen.facts)
    (hAConvRefIdeal := Cert.AConvRefIdeal.Gen.facts) := by
  pair_intro
  · run_from Cert.AConvIdeal.Value.run_parts m g
  · refine (θ_run _ _ _).mono ?_ (Cert.AConvRefIdeal.Value.run m' g')
    intro r h c
    obtain ⟨h1, ha⟩ := h c
    obtain ⟨e0, e1⟩ := hagree c
    refine ⟨h1.trans ?_, ha⟩
    refine (Cert.AConvRefIdeal.Read.val_main_v27_eq _ _).trans ?_
    rw [e0, e1, Cert.AConvRefIdeal.Pure.r27] <;> rfl

end Cert.AConvIdeal
-- ==== Proof.Reals.lean ====
/- Finite extended reals: the constants of the programs, and how each operation acts on the images of real numbers. -/
module

public import Idealize.ShloMosaic.Lib.IdealHost
public import Idealize.ShloMosaic.Lib.Pointwise
public import Idealize.ShloMosaic.PureOps.Ideal.Laws

@[expose] public section

set_option maxRecDepth 16384

noncomputable section

namespace Cert.Reals

open Idealize.ShloMosaic

/-- The `f32` written `1e-6`. -/
def eps : ℝ := 8796093 / 2 ^ 43

theorem eps_pos : 0 < eps := by unfold eps; norm_num

theorem ofBits_eps : Ideal.ofBits .f32 0x358637BD#32 = ((eps : ℝ) : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by
  simp [Ideal.ofBits, Ideal.ieee]

theorem one_coe : (1 : EReal) = ((1 : ℝ) : EReal) := rfl

theorem zero_coe : (0 : EReal) = ((0 : ℝ) : EReal) := rfl

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem div_real {a b : ℝ} (h : b ≠ 0) : Ideal.div (a : EReal) (b : EReal) = ((a / b : ℝ) : EReal) := by
  rw [Ideal.div_coe h, ← EReal.coe_mul, mul_one_div]

theorem sum_real {ι : Type} [Fintype ι] (f : ι → ℝ) : ∑ i, ((f i : ℝ) : EReal) = ((∑ i, f i : ℝ) : EReal) :=
  (map_sum (⟨⟨fun r : ℝ => (r : EReal), EReal.coe_zero⟩, EReal.coe_add⟩ : ℝ →+ EReal) f Finset.univ).symm

/-- An array whose elements all compare below infinity in absolute value holds real numbers. -/
theorem real_of_finite {S : Shape} (hb : (⟨0, ![]⟩ : Shape).BroadcastsInDim S ![]) (x : FVec Ideal S .f32)
    (h : cmpf .olt (Host.absf x) (broadcastInDim S ![] hb (constant ⟨0, ![]⟩ .f32 0x7F800000#32)) = fun _ => 1#1) :
    ∃ r : S.Idx → ℝ, x = fun i => ((r i : ℝ) : EReal) := by
  refine ⟨fun i => (x i).toReal, funext fun i => ?_⟩
  have hi := congrFun h i
  rw [show cmpf .olt (Host.absf x) (broadcastInDim S ![] hb (constant ⟨0, ![]⟩ .f32 0x7F800000#32)) i
      = Ideal.cmp .olt (max (x i) (-(x i))) (Ideal.ofBits .f32 0x7F800000#32) from by
        show Ideal.cmp .olt (max (x i) (-(x i))) (broadcastInDim S ![] hb (constant (F := Ideal) ⟨0, ![]⟩ .f32 0x7F800000#32) i) = _
        rw [Idealize.ShloMosaic.ValueIdx.broadcastInDim_scalar_apply]; rfl, ofBits_inf] at hi
  have hlt : max (x i) (-(x i)) < ⊤ := by
    by_contra hn
    have h0 : Ideal.cmp .olt (max (x i) (-(x i))) ⊤ = 0#1 := by
      simp only [Ideal.cmp, decide_eq_false hn]; rfl
    rw [h0] at hi
    exact absurd hi (by decide)
  have h1 : x i ≠ ⊤ := fun e => by rw [e] at hlt; exact absurd (lt_of_le_of_lt (le_max_left _ _) hlt) (lt_irrefl _)
  have h2 : x i ≠ ⊥ := fun e => by
    rw [e, EReal.neg_bot] at hlt; exact absurd (lt_of_le_of_lt (le_max_right _ _) hlt) (lt_irrefl _)
  exact (EReal.coe_toReal h1 h2).symm

end Cert.Reals

end
-- ==== Proof.NormGrad.lean ====
/- The gradient of a row divided by its root mean square, in the two ways the programs write it, over the real numbers. -/
module

public import proofs.«01_k».proof.Proof.Reals

@[expose] public section

noncomputable section

namespace Cert.Reals

theorem ms_pos (x : Fin 1024 → ℝ) : 0 < (∑ k, x k * x k) / 1024 + eps :=
  add_pos_of_nonneg_of_pos (div_nonneg (Finset.sum_nonneg fun k _ => mul_self_nonneg _) (by norm_num)) eps_pos

/-- The gradient of one normalised row, in the two ways. -/
theorem norm_real (x dh g sc : Fin 1024 → ℝ) (l : Fin 1024) :
    (√((∑ k, x k * x k) / 1024 + eps))⁻¹ * (dh l * (g l * (1 + sc l)) - x l * (√((∑ k, x k * x k) / 1024 + eps))⁻¹ *
        ((∑ k, dh k * (g k * (1 + sc k)) * (x k * (√((∑ k, x k * x k) / 1024 + eps))⁻¹)) / 1024))
      = dh l * (1 + sc l) * g l * (√((∑ k, x k * x k) / 1024 + eps))⁻¹
        + x l * ((∑ k, x k * (dh k * (1 + sc k) * g k)) * (-(1 / 2) * ((√((∑ k, x k * x k) / 1024 + eps))⁻¹ / ((∑ k, x k * x k) / 1024 + eps))) / 1024)
        + (∑ k, x k * (dh k * (1 + sc k) * g k)) * (-(1 / 2) * ((√((∑ k, x k * x k) / 1024 + eps))⁻¹ / ((∑ k, x k * x k) / 1024 + eps))) / 1024 * x l := by
  have hp := ms_pos x
  generalize (∑ k, x k * x k) / 1024 + eps = a at hp ⊢
  have hs : 0 < √a := Real.sqrt_pos.mpr hp
  have ha : a = √a * √a := (Real.mul_self_sqrt hp.le).symm
  have e : ∑ k, dh k * (g k * (1 + sc k)) * (x k * (√a)⁻¹) = (∑ k, x k * (dh k * (1 + sc k) * g k)) * (√a)⁻¹ := by
    rw [Finset.sum_mul]; exact Finset.sum_congr rfl fun k _ => by ring
  rw [e]
  generalize ∑ k, x k * (dh k * (1 + sc k) * g k) = S
  generalize √a = s at hs ha ⊢
  subst ha
  field_simp
  ring

end Cert.Reals

end
-- ==== Proof.NormParts.lean ====
/- The gradient of a row divided by its root mean square and modulated, and its partial sums by tiles of 512 rows, as functions of
   the arrays. -/
module

public import proofs.«01_k».proof.Proof.NormGrad
public import Idealize.ShloMosaic.Lib.Pointwise

@[expose] public section

set_option maxRecDepth 16384

noncomputable section

namespace Cert.Norm

open Cert.Reals Idealize.ShloMosaic

abbrev S4096x1024 : Shape := ⟨2, ![4096, 1024]⟩
abbrev S1x1024 : Shape := ⟨2, ![1, 1024]⟩
abbrev S8x1x1024 : Shape := ⟨3, ![8, 1, 1024]⟩

/-- The reciprocal root mean square of a row. -/
def rowRt (x : Fin 1024 → EReal) : EReal :=
  Ideal.rsqrt (Ideal.div (∑ k, x k * x k) (Ideal.ofBits .f32 0x44800000#32) + Ideal.ofBits .f32 0x358637BD#32)

/-- The gradient of one normalised row's input, with the residual's cotangent added. -/
def rowDx (x dx dh g sc : Fin 1024 → EReal) (l : Fin 1024) : EReal :=
  dx l + rowRt x * (dh l * (g l * (1 + sc l))
    - x l * rowRt x * Ideal.div (∑ k, dh k * (g k * (1 + sc k)) * (x k * rowRt x)) (Ideal.ofBits .f32 0x44800000#32))

/-- The reciprocal root mean square of a row of an array. -/
def rt (x : FVec Ideal S4096x1024 .f32) (r : Fin 4096) : EReal :=
  rowRt fun k => x (ix2 r k)

/-- The gradient of the normalised rows' input, with the residual's cotangent added. -/
def dxin (x dx dh : FVec Ideal S4096x1024 .f32) (g sc : FVec Ideal S1x1024 .f32) (i : S4096x1024.Idx) : EReal :=
  rowDx (fun k => x (ix2 (i 0) k)) (fun k => dx (ix2 (i 0) k)) (fun k => dh (ix2 (i 0) k)) (fun k => g (ix2 0 k)) (fun k => sc (ix2 0 k)) (i 1)

/-- A tile's sum of the cotangent's rows. -/
def partSh (dh : FVec Ideal S4096x1024 .f32) (i : S8x1x1024.Idx) : EReal :=
  ∑ k : Fin 512, dh (ix2 ⟨512 * (i 0).val + k.val, by have := (i 0).isLt; have := k.isLt; simp at *; omega⟩ (i 2))

/-- A tile's sum of the cotangent times the normalised rows. -/
def partSc (x dh : FVec Ideal S4096x1024 .f32) (i : S8x1x1024.Idx) : EReal :=
  ∑ k : Fin 512, (fun r : Fin 4096 => dh (ix2 r (i 2)) * (x (ix2 r (i 2)) * rt x r))
    ⟨512 * (i 0).val + k.val, by have := (i 0).isLt; have := k.isLt; simp at *; omega⟩

/-- The column sums of a whole array, from its tiles' sums. -/
theorem tiles (f : Fin 4096 → EReal) (h : ∀ j : Fin 8, ∀ k : Fin 512, 512 * j.val + k.val < 4096) :
    ∑ j : Fin 8, ∑ k : Fin 512, f ⟨512 * j.val + k.val, h j k⟩ = ∑ r, f r := by
  rw [Fin.sum_univ_tiles 8 512 rfl f]
  refine Finset.sum_congr rfl fun j _ => Finset.sum_congr rfl fun k _ => congrArg f (Fin.ext ?_)
  show 512 * j.val + k.val = j.val * 512 + k.val
  omega

/-- A column's sum of the cotangent times the normalised rows. -/
def col (x dh : FVec Ideal S4096x1024 .f32) (l : Fin 1024) : EReal :=
  ∑ r : Fin 4096, dh (ix2 r l) * (x (ix2 r l) * rt x r)

/-- The gradient of the scale of the norm. -/
def dgain (x dh : FVec Ideal S4096x1024 .f32) (sc : FVec Ideal S1x1024 .f32) (i : S1x1024.Idx) : EReal :=
  col x dh (i 1) * (1 + sc (ix2 (i 0) (i 1)))

/-- The gradient of the modulation's scale. -/
def dscale (x dh : FVec Ideal S4096x1024 .f32) (g : FVec Ideal S1x1024 .f32) (i : S1x1024.Idx) : EReal :=
  col x dh (i 1) * g (ix2 (i 0) (i 1))

/-- The gradient of the modulation's shift. -/
def dshift (dh : FVec Ideal S4096x1024 .f32) (i : S1x1024.Idx) : EReal :=
  ∑ r : Fin 4096, dh (ix2 r (i 1))

/-- The gradient of the row's mean square, as the chain rule line by line writes it. -/
def refMs (x dh : FVec Ideal S4096x1024 .f32) (g sc : FVec Ideal S1x1024 .f32) (r : Fin 4096) : EReal :=
  ∑ _j : Fin 1, Ideal.div ((∑ k : Fin 1024, x (ix2 r k) * (dh (ix2 r k) * (1 + sc (ix2 0 k)) * g (ix2 0 k))) *
    (Ideal.ofBits .f32 0xBF000000#32 * Ideal.div (rt x r) (Ideal.div (∑ k : Fin 1024, x (ix2 r k) * x (ix2 r k)) (Ideal.ofBits .f32 0x44800000#32) + Ideal.ofBits .f32 0x358637BD#32)))
    (Ideal.ofBits .f32 0x44800000#32)

/-- The gradient of the row, as the chain rule line by line writes it. -/
def refDx (x dx dh : FVec Ideal S4096x1024 .f32) (g sc : FVec Ideal S1x1024 .f32) (i : S4096x1024.Idx) : EReal :=
  dx (ix2 (i 0) (i 1)) + dh (ix2 (i 0) (i 1)) * (1 + sc (ix2 0 (i 1))) * g (ix2 0 (i 1)) * rt x (i 0) + x (ix2 (i 0) (i 1)) * refMs x dh g sc (i 0)
    + refMs x dh g sc (i 0) * x (ix2 (i 0) (i 1))

/-- The gradient of the norm's scale, as the chain rule line by line writes it. -/
def refGain (x dh : FVec Ideal S4096x1024 .f32) (sc : FVec Ideal S1x1024 .f32) (i : S1x1024.Idx) : EReal :=
  ∑ r : Fin 4096, x (ix2 r (i 1)) * rt x r * (dh (ix2 r (i 1)) * (1 + sc (ix2 0 (i 1))))

/-- The gradient of the modulation's scale, as the chain rule line by line writes it. -/
def refScale (x dh : FVec Ideal S4096x1024 .f32) (g : FVec Ideal S1x1024 .f32) (i : S1x1024.Idx) : EReal :=
  ∑ r : Fin 4096, x (ix2 r (i 1)) * rt x r * g (ix2 0 (i 1)) * dh (ix2 r (i 1))

theorem dx_eq (x dh : S4096x1024.Idx → ℝ) (g sc : S1x1024.Idx → ℝ) (dx : FVec Ideal S4096x1024 .f32) :
    refDx (fun i => (x i : EReal)) dx (fun i => (dh i : EReal)) (fun i => (g i : EReal)) (fun i => (sc i : EReal))
      = dxin (fun i => (x i : EReal)) dx (fun i => (dh i : EReal)) (fun i => (g i : EReal)) (fun i => (sc i : EReal)) := by
  funext i
  idx_vars i
  simp only [refDx, refMs, dxin, rowDx, rt, rowRt, ix2_0, ix2_1]
  have hp : ∀ r : Fin 4096, 0 < (∑ k, x (ix2 r k) * x (ix2 r k)) / 1024 + eps := fun r => ms_pos fun k => x (ix2 r k)
  simp only [ofBits_eps, ofBits_1024, ofBits_neg_half, one_coe, ← EReal.coe_mul, ← EReal.coe_add, ← EReal.coe_sub, sum_real,
    div_real (show (1024 : ℝ) ≠ 0 by norm_num), fun r => rsqrt_pos (hp r), fun (r : Fin 4096) (y : ℝ) => div_real (a := y) (hp r).ne', Finset.univ_unique, Finset.sum_singleton, add_assoc]
  rw [← add_assoc (_ : ℝ) _ _]
  exact congrArg _ (congrArg _ (norm_real (fun k => x (ix2 i0 k)) (fun k => dh (ix2 i0 k)) (fun k => g (ix2 0 k)) (fun k => sc (ix2 0 k)) i1).symm)

theorem dgain_eq (x dh : S4096x1024.Idx → ℝ) (sc : S1x1024.Idx → ℝ) :
    refGain (fun i => (x i : EReal)) (fun i => (dh i : EReal)) (fun i => (sc i : EReal))
      = dgain (fun i => (x i : EReal)) (fun i => (dh i : EReal)) (fun i => (sc i : EReal)) := by
  funext i
  idx_vars i
  obtain rfl : i0 = 0 := Subsingleton.elim _ _
  simp only [refGain, dgain, col, rt, rowRt, ix2_0, ix2_1]
  have hp : ∀ r : Fin 4096, 0 < (∑ k, x (ix2 r k) * x (ix2 r k)) / 1024 + eps := fun r => ms_pos fun k => x (ix2 r k)
  simp only [ofBits_eps, ofBits_1024, one_coe, ← EReal.coe_mul, ← EReal.coe_add, sum_real,
    div_real (show (1024 : ℝ) ≠ 0 by norm_num), fun r => rsqrt_pos (hp r)]
  refine congrArg _ ?_
  rw [Finset.sum_mul]
  exact Finset.sum_congr rfl fun k _ => by ring

theorem dscale_eq (x dh : S4096x1024.Idx → ℝ) (g : S1x1024.Idx → ℝ) :
    refScale (fun i => (x i : EReal)) (fun i => (dh i : EReal)) (fun i => (g i : EReal))
      = dscale (fun i => (x i : EReal)) (fun i => (dh i : EReal)) (fun i => (g i : EReal)) := by
  funext i
  idx_vars i
  obtain rfl : i0 = 0 := Subsingleton.elim _ _
  simp only [refScale, dscale, col, rt, rowRt, ix2_0, ix2_1]
  have hp : ∀ r : Fin 4096, 0 < (∑ k, x (ix2 r k) * x (ix2 r k)) / 1024 + eps := fun r => ms_pos fun k => x (ix2 r k)
  simp only [ofBits_eps, ofBits_1024, one_coe, ← EReal.coe_mul, ← EReal.coe_add, sum_real,
    div_real (show (1024 : ℝ) ≠ 0 by norm_num), fun r => rsqrt_pos (hp r)]
  refine congrArg _ ?_
  rw [Finset.sum_mul]
  exact Finset.sum_congr rfl fun k _ => by ring

end Cert.Norm

end
-- ==== Proof.LayerGrad.lean ====
/- The gradient of a silu of a layer norm, and its partial sums by tiles of 512 rows, as functions of the arrays. -/
module

public import proofs.«01_k».proof.Proof.NormParts

@[expose] public section

set_option maxRecDepth 16384

noncomputable section

namespace Cert.Layer

open Cert.Reals Cert.Norm Idealize.ShloMosaic

/-- A row less its mean. -/
def cen (v : Fin 1024 → EReal) (l : Fin 1024) : EReal :=
  v l - Ideal.div (∑ k, v k) (Ideal.ofBits .f32 0x44800000#32)

/-- The reciprocal standard deviation of a row. -/
def rstd (v : Fin 1024 → EReal) : EReal :=
  Ideal.rsqrt (Ideal.div (∑ k, cen v k * cen v k) (Ideal.ofBits .f32 0x44800000#32) + Ideal.ofBits .f32 0x358637BD#32)

/-- The layer norm of a row. -/
def ln (v g b : Fin 1024 → EReal) (l : Fin 1024) : EReal :=
  cen v l * rstd v * g l + b l

/-- The gradient of the silu's argument. -/
def dl (v dw g b : Fin 1024 → EReal) (l : Fin 1024) : EReal :=
  dw l * (Ideal.logistic (ln v g b l) * (1 + ln v g b l * (1 - Ideal.logistic (ln v g b l))))

/-- The gradient of the layer norm in a row. -/
def rowDv (v dw g b : Fin 1024 → EReal) (l : Fin 1024) : EReal :=
  rstd v * (dl v dw g b l * g l - Ideal.div (∑ k, dl v dw g b k * g k) (Ideal.ofBits .f32 0x44800000#32)
    - cen v l * rstd v * Ideal.div (∑ k, dl v dw g b k * g k * (cen v k * rstd v)) (Ideal.ofBits .f32 0x44800000#32))

/-- The rows of the convolution's output with its offset added. -/
def row (x : FVec Ideal S4096x1024 .f32) (cb : FVec Ideal S1x1024 .f32) (r : Fin 4096) (l : Fin 1024) : EReal :=
  x (ix2 r l) + cb (ix2 0 l)

def dls (x dw : FVec Ideal S4096x1024 .f32) (cb g b : FVec Ideal S1x1024 .f32) (r : Fin 4096) (l : Fin 1024) : EReal :=
  dl (row x cb r) (fun k => dw (ix2 r k)) (fun k => g (ix2 0 k)) (fun k => b (ix2 0 k)) l

def dvs (x dw : FVec Ideal S4096x1024 .f32) (cb g b : FVec Ideal S1x1024 .f32) (r : Fin 4096) (l : Fin 1024) : EReal :=
  rowDv (row x cb r) (fun k => dw (ix2 r k)) (fun k => g (ix2 0 k)) (fun k => b (ix2 0 k)) l

def xhat (x : FVec Ideal S4096x1024 .f32) (cb : FVec Ideal S1x1024 .f32) (r : Fin 4096) (l : Fin 1024) : EReal :=
  cen (row x cb r) l * rstd (row x cb r)

/-- The gradient in the rows. -/
def dv (x dw : FVec Ideal S4096x1024 .f32) (cb g b : FVec Ideal S1x1024 .f32) (i : S4096x1024.Idx) : EReal := dvs x dw cb g b (i 0) (i 1)

/-- A tile's sum of rows. -/
def part (f : Fin 4096 → Fin 1024 → EReal) (i : S8x1x1024.Idx) : EReal :=
  ∑ k : Fin 512, (fun r : Fin 4096 => f r (i 2)) ⟨512 * (i 0).val + k.val, by have := (i 0).isLt; have := k.isLt; simp at *; omega⟩

/-- The sum of all rows. -/
def all (f : Fin 4096 → Fin 1024 → EReal) (i : S1x1024.Idx) : EReal := ∑ r : Fin 4096, f r (i 1)

/-- The tiles' sums of rows, summed. -/
theorem all_part (f : Fin 4096 → Fin 1024 → EReal) (l : Fin 1024) : ∑ j : Fin 8, part f (ix3 j 0 l) = all f (ix2 0 l) :=
  tiles (fun r => f r l) fun j k => by omega

/-! ## The chain rule line by line -/

def refLog (u : EReal) : EReal := Ideal.div (Ideal.ofBits .f32 0x3F800000#32) (Ideal.ofBits .f32 0x3F800000#32 + Ideal.exp (-u))

def refDl (v dw g b : Fin 1024 → EReal) (l : Fin 1024) : EReal :=
  dw l * refLog (ln v g b l) + ln v g b l * dw l * (refLog (ln v g b l) * (Ideal.ofBits .f32 0x3F800000#32 - refLog (ln v g b l)))

/-- The gradient of the row's variance. -/
def refVar (v dn : Fin 1024 → EReal) : EReal :=
  ∑ _j : Fin 1, Ideal.div ((∑ k, cen v k * dn k) * (Ideal.ofBits .f32 0xBF000000#32 * Ideal.div (rstd v)
    (Ideal.div (∑ k, cen v k * cen v k) (Ideal.ofBits .f32 0x44800000#32) + Ideal.ofBits .f32 0x358637BD#32))) (Ideal.ofBits .f32 0x44800000#32)

def refDv (v dn : Fin 1024 → EReal) (l : Fin 1024) : EReal :=
  dn l * rstd v + refVar v dn * (Ideal.ofBits .f32 0x40000000#32 * cen v l)
    + ∑ _j : Fin 1, Ideal.div ((∑ k, -(dn k * rstd v)) + ∑ k, -(refVar v dn * (Ideal.ofBits .f32 0x40000000#32 * cen v k))) (Ideal.ofBits .f32 0x44800000#32)

def refDls (x dw : FVec Ideal S4096x1024 .f32) (cb g b : FVec Ideal S1x1024 .f32) (r : Fin 4096) (l : Fin 1024) : EReal :=
  refDl (row x cb r) (fun k => dw (ix2 r k)) (fun k => g (ix2 0 k)) (fun k => b (ix2 0 k)) l

def refDvs (x dw : FVec Ideal S4096x1024 .f32) (cb g b : FVec Ideal S1x1024 .f32) (r : Fin 4096) (l : Fin 1024) : EReal :=
  refDv (row x cb r) (fun k => refDls x dw cb g b r k * g (ix2 0 k)) l

/-! ## Rows of real numbers -/

theorem ofBits_one : Ideal.ofBits .f32 0x3F800000#32 = ((1 : ℝ) : EReal) := by
  simp [Ideal.ofBits, Ideal.ieee, -EReal.coe_mul]; norm_num

def cenR (v : Fin 1024 → ℝ) (l : Fin 1024) : ℝ := v l - (∑ k, v k) / 1024

theorem cenR_sum (v : Fin 1024 → ℝ) : ∑ k, cenR v k = 0 := by
  simp only [cenR, Finset.sum_sub_distrib, Finset.sum_const, Finset.card_univ, Fintype.card_fin, nsmul_eq_mul]
  push_cast
  ring

def rstdR (v : Fin 1024 → ℝ) : ℝ := (√((∑ k, cenR v k * cenR v k) / 1024 + eps))⁻¹

theorem cen_real (v : Fin 1024 → ℝ) (l : Fin 1024) : cen (fun k => (v k : EReal)) l = ((cenR v l : ℝ) : EReal) := by
  simp only [cen, ofBits_1024, sum_real, div_real (show (1024 : ℝ) ≠ 0 by norm_num), ← EReal.coe_sub, cenR]

theorem rstd_real (v : Fin 1024 → ℝ) : rstd (fun k => (v k : EReal)) = ((rstdR v : ℝ) : EReal) := by
  have hp := ms_pos (cenR v)
  simp only [rstd, cen_real, ofBits_eps, ofBits_1024, ← EReal.coe_mul, ← EReal.coe_add, sum_real, div_real (show (1024 : ℝ) ≠ 0 by norm_num), rsqrt_pos hp, rstdR]

def lnR (v g b : Fin 1024 → ℝ) (l : Fin 1024) : ℝ := cenR v l * rstdR v * g l + b l

theorem ln_real (v g b : Fin 1024 → ℝ) (l : Fin 1024) : ln (fun k => (v k : EReal)) (fun k => (g k : EReal)) (fun k => (b k : EReal)) l = ((lnR v g b l : ℝ) : EReal) := by
  simp only [ln, cen_real, rstd_real, ← EReal.coe_mul, ← EReal.coe_add, lnR]

def sigR (u : ℝ) : ℝ := (1 + Real.exp (-u))⁻¹

theorem refLog_real (u : ℝ) : refLog (u : EReal) = ((sigR u : ℝ) : EReal) := by
  have h : (1 + Real.exp (-u) : ℝ) ≠ 0 := by positivity
  simp only [refLog, ofBits_one, ← EReal.coe_neg, Ideal.exp_coe, ← EReal.coe_add, div_real h, one_div, sigR]

def dlR (v dw g b : Fin 1024 → ℝ) (l : Fin 1024) : ℝ :=
  dw l * (sigR (lnR v g b l) * (1 + lnR v g b l * (1 - sigR (lnR v g b l))))

theorem dl_real (v dw g b : Fin 1024 → ℝ) (l : Fin 1024) :
    dl (fun k => (v k : EReal)) (fun k => (dw k : EReal)) (fun k => (g k : EReal)) (fun k => (b k : EReal)) l = ((dlR v dw g b l : ℝ) : EReal) := by
  simp only [dl, ln_real, Ideal.logistic_coe, one_coe, ← EReal.coe_mul, ← EReal.coe_add, ← EReal.coe_sub, dlR, sigR]

theorem refDl_real (v dw g b : Fin 1024 → ℝ) (l : Fin 1024) :
    refDl (fun k => (v k : EReal)) (fun k => (dw k : EReal)) (fun k => (g k : EReal)) (fun k => (b k : EReal)) l = ((dlR v dw g b l : ℝ) : EReal) := by
  simp only [refDl, ln_real, refLog_real, ofBits_one, ← EReal.coe_mul, ← EReal.coe_add, ← EReal.coe_sub, dlR]
  exact congrArg _ (by ring)

/-- The gradient of one layer-normed row, in the two ways. -/
theorem layer_real (v dn : Fin 1024 → ℝ) (l : Fin 1024) :
    dn l * rstdR v + (∑ k, cenR v k * dn k) * (-(1 / 2) * (rstdR v / ((∑ k, cenR v k * cenR v k) / 1024 + eps))) / 1024 * (2 * cenR v l)
      + ((∑ k, -(dn k * rstdR v)) + ∑ k, -((∑ k, cenR v k * dn k) * (-(1 / 2) * (rstdR v / ((∑ k, cenR v k * cenR v k) / 1024 + eps))) / 1024 * (2 * cenR v k))) / 1024
    = rstdR v * (dn l - (∑ k, dn k) / 1024 - cenR v l * rstdR v * ((∑ k, dn k * (cenR v k * rstdR v)) / 1024)) := by
  have hp := ms_pos (cenR v)
  have e1 : ∑ k, -(dn k * rstdR v) = -((∑ k, dn k) * rstdR v) := by rw [Finset.sum_neg_distrib, Finset.sum_mul]
  have e2 : ∀ M : ℝ, ∑ k, -(M * (2 * cenR v k)) = 0 := fun M => by
    rw [Finset.sum_neg_distrib, ← Finset.mul_sum, ← Finset.mul_sum, cenR_sum]; ring
  have e3 : ∑ k, dn k * (cenR v k * rstdR v) = (∑ k, cenR v k * dn k) * rstdR v := by
    rw [Finset.sum_mul]; exact Finset.sum_congr rfl fun k _ => by ring
  rw [e1, e2, e3]
  simp only [rstdR]
  generalize (∑ k, cenR v k * cenR v k) / 1024 + eps = a at hp ⊢
  have hs : 0 < √a := Real.sqrt_pos.mpr hp
  have ha : a = √a * √a := (Real.mul_self_sqrt hp.le).symm
  generalize ∑ k, cenR v k * dn k = S
  generalize ∑ k, dn k = T
  generalize √a = s at hs ha ⊢
  subst ha
  field_simp
  ring

theorem refDv_real (v dw g b : Fin 1024 → ℝ) (l : Fin 1024) :
    refDv (fun k => (v k : EReal)) (fun k => refDl (fun k => (v k : EReal)) (fun k => (dw k : EReal)) (fun k => (g k : EReal)) (fun k => (b k : EReal)) k * (g k : EReal)) l
      = rowDv (fun k => (v k : EReal)) (fun k => (dw k : EReal)) (fun k => (g k : EReal)) (fun k => (b k : EReal)) l := by
  have hp := ms_pos (cenR v)
  simp only [refDv, refVar, rowDv, dl_real, refDl_real, cen_real, rstd_real, ofBits_eps, ofBits_1024, ofBits_neg_half, ofBits_two, ← EReal.coe_mul, ← EReal.coe_add, ← EReal.coe_sub, ← EReal.coe_neg,
    sum_real, div_real (show (1024 : ℝ) ≠ 0 by norm_num), div_real hp.ne', Finset.univ_unique, Finset.sum_singleton]
  exact congrArg _ (layer_real v (fun k => dlR v dw g b k * g k) l)

section
variable (x dw : S4096x1024.Idx → ℝ) (cb g b : S1x1024.Idx → ℝ)

theorem row_real (r : Fin 4096) : row (fun i => (x i : EReal)) (fun i => (cb i : EReal)) r = fun l => ((x (ix2 r l) + cb (ix2 0 l) : ℝ) : EReal) :=
  funext fun l => (EReal.coe_add _ _).symm

theorem dls_eq : refDls (fun i => (x i : EReal)) (fun i => (dw i : EReal)) (fun i => (cb i : EReal)) (fun i => (g i : EReal)) (fun i => (b i : EReal))
    = dls (fun i => (x i : EReal)) (fun i => (dw i : EReal)) (fun i => (cb i : EReal)) (fun i => (g i : EReal)) (fun i => (b i : EReal)) := by
  funext r l
  simp only [refDls, dls, row_real]
  rw [dl_real, refDl_real]

theorem dvs_eq : refDvs (fun i => (x i : EReal)) (fun i => (dw i : EReal)) (fun i => (cb i : EReal)) (fun i => (g i : EReal)) (fun i => (b i : EReal))
    = dvs (fun i => (x i : EReal)) (fun i => (dw i : EReal)) (fun i => (cb i : EReal)) (fun i => (g i : EReal)) (fun i => (b i : EReal)) := by
  funext r l
  simp only [refDvs, refDls, dvs, row_real]
  exact refDv_real _ _ _ _ l

end

end Cert.Layer

end
-- ==== Proof.GateGrad.lean ====
/- A product of rows with a matrix behind a gate, its residual and its gradient, as functions of the arrays. -/
module

public import proofs.«01_k».proof.Proof.LayerGrad

@[expose] public section

set_option maxRecDepth 16384

noncomputable section

namespace Cert.Gate

open Cert.Norm Cert.Layer Idealize.ShloMosaic

abbrev S1x1024x1024 : Shape := ⟨3, ![1, 1024, 1024]⟩

/-- The rows of `z` times the matrix. -/
def lin (z : Fin 4096 → Fin 1024 → EReal) (w : FVec Ideal S1x1024x1024 .f32) (r : Fin 4096) (l : Fin 1024) : EReal := ∑ k, z r k * w (ix3 0 k l)

/-- The rows of an array. -/
def rows (z : FVec Ideal S4096x1024 .f32) (r : Fin 4096) (l : Fin 1024) : EReal := z (ix2 r l)

/-- The rows with an offset. -/
def off (y : Fin 4096 → Fin 1024 → EReal) (b : FVec Ideal S1x1024 .f32) (r : Fin 4096) (l : Fin 1024) : EReal := y r l + b (ix2 0 l)

/-- The residual's sum. -/
def res (x : FVec Ideal S4096x1024 .f32) (g : FVec Ideal S1x1024 .f32) (y : Fin 4096 → Fin 1024 → EReal) (r : Fin 4096) (l : Fin 1024) : EReal :=
  x (ix2 r l) + g (ix2 0 l) * y r l

/-- The cotangent behind the gate. -/
def cot (dx : FVec Ideal S4096x1024 .f32) (g : FVec Ideal S1x1024 .f32) (r : Fin 4096) (l : Fin 1024) : EReal := dx (ix2 r l) * g (ix2 0 l)

/-- A cotangent times the transposed matrix. -/
def back (d : Fin 4096 → Fin 1024 → EReal) (w : FVec Ideal S1x1024x1024 .f32) (r : Fin 4096) (k : Fin 1024) : EReal := ∑ l, d r l * w (ix3 0 k l)

/-- A row's term of the gradient of the gate. -/
def term (dx : FVec Ideal S4096x1024 .f32) (y : Fin 4096 → Fin 1024 → EReal) (r : Fin 4096) (l : Fin 1024) : EReal := dx (ix2 r l) * y r l

/-- The silu of a layer norm's rows. -/
def silu (v : FVec Ideal S4096x1024 .f32) (g b : FVec Ideal S1x1024 .f32) (r : Fin 4096) (l : Fin 1024) : EReal :=
  ln (fun k => v (ix2 r k)) (fun k => g (ix2 0 k)) (fun k => b (ix2 0 k)) l
    * Ideal.logistic (ln (fun k => v (ix2 r k)) (fun k => g (ix2 0 k)) (fun k => b (ix2 0 k)) l)

theorem refLog_eq (u : EReal) : refLog u = Ideal.logistic u := by
  simp only [refLog, ofBits_one, Ideal.logistic, EReal.coe_one]

end Cert.Gate

end
-- ==== Proof.AGateEnds.lean ====
/- `AGateIdeal` ends with the memory that its last stretch leaves. -/
module

public import proofs.«01_k».proof.Proof.Gen.AGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.AGateIdeal.Value

open Cert.AGateIdeal Cert.AGateIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

theorem tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (BI.emp : sProp 𝕄))) := by
  rw [BI.bigSep_emp_const]
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- Every buffer that outlives the kernels ends as the fold of the stretches and regions leaves it. -/
theorem ends : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W4 m ρ c (Proc.devRef .tc b)) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩)
    (hinit := Pipeline.initEach L lv fun c => ?_)
    (QY := fun c s => ∀ b ∈ Pipeline.ucRefs τ sig, s.mem ((c : Thread nD τ).1, b) = W4 m ρ c b)
    (hfin := fun c s' => ?_) (hQ := fun s h c b hb => h c _ (mem_uc b hb))
  · dsimp only [Pipeline.Seg.post, hseg, Pipeline.HostSeg.ofOps]
    iintro ⟨Hh, Hp, HO⟩
    isplitr [HO]
    · isplitl [Hh]
      · iexact Hh
      · iexact Hp
    · iexact HO
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    · isplitl [Hp]
      · iexists _; iexact Hp
      · iexists ∅; iexact HO
  · iintro ⟨⟨Hh, -⟩, HS⟩
    unfold StableHlo.held
    imodintro
    iapply (pointsTo_read_all (Pipeline.ucRefs τ sig) (fun b => ((c : Thread nD τ).1, b)) (W4 m ρ c) s')
    isplitl [Hh] <;> iassumption

end Cert.AGateIdeal.Value

end
-- ==== Proof.AGateValue.lean ====
/- What `AGateIdeal` leaves in each result, as sums over the argument arrays. -/
module

public import proofs.«01_k».proof.Proof.GateGrad
public import proofs.«01_k».proof.Proof.AGateEnds
public import proofs.«01_k».proof.Proof.Gen.AGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.AGateIdeal.Value

open Cert.AGateIdeal Cert.AGateIdeal.Gen Idealize.ShloMosaic Idealize.ShloMosaic.TcCoe Idealize.SL.Sem
open Cert.Gate Cert.Layer
open Idealize.ShloMosaic.Pipeline (Dat)

theorem idx0 : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0, 0] ∧ win1_4.index t = ![t.val, 0] ∧ win1_5.index t = ![t.val, 0, 0] ∧ win1_6.index t = ![t.val, 0] :=
  (by decide +kernel : ∀ t : Fin grid1.N, _)

theorem t_lt (t : Fin cfg0.N) : t.val < 8 := lt_of_lt_of_eq t.isLt (by decide +kernel)

section
variable (z : FVec Ideal S512x1024 .bf16) (w : FVec Ideal S1x1024x1024 .bf16) (x : FVec Ideal S512x1024 .f32) (g : FVec Ideal S1x1024 .f32)

theorem p01 (r : Fin 512) (l : Fin 1024) : k0_pay1 (F := Ideal) z w (ix2 r l)
    = ∑ k : Fin 1024, z (ix2 r k) * w (ix3 0 k l) := by
  pointwise [k0_pay1]

theorem p02 (r : Fin 512) (l : Fin 1024) : k0_pay2 (F := Ideal) z w x g (ix2 r l)
    = x (ix2 r l) + g (ix2 0 l) * ∑ k : Fin 1024, z (ix2 r k) * w (ix3 0 k l) := by
  pointwise [k0_pay2, p01]

theorem p03 (r : Fin 512) (l : Fin 1024) : k0_pay3 (F := Ideal) z w (ix2 r l)
    = ∑ k : Fin 1024, z (ix2 r k) * w (ix3 0 k l) := by
  pointwise [k0_pay3, p01]

end

section
variable (d : FVec Ideal S512x1024 .f32) (y : FVec Ideal S512x1024 .bf16) (g : FVec Ideal S1x1024 .f32) (w : FVec Ideal S1x1024x1024 .bf16)

theorem p11 (r : Fin 512) (l : Fin 1024) : k1_pay1 (F := Ideal) d g (ix2 r l)
    = d (ix2 r l) * g (ix2 0 l) := by
  pointwise [k1_pay1]

theorem p12 (r : Fin 512) (l : Fin 1024) : k1_pay2 (F := Ideal) d g (ix2 r l)
    = d (ix2 r l) * g (ix2 0 l) := by
  pointwise [k1_pay2, p11]

theorem p13 (o p : Fin 1) (l : Fin 1024) : k1_pay3 (F := Ideal) d y (ix3 o p l)
    = ∑ r : Fin 512, d (ix2 r l) * y (ix2 r l) := by
  pointwise [k1_pay3]

theorem p14 (r : Fin 512) (l : Fin 1024) : k1_pay4 (F := Ideal) d g (ix2 r l)
    = d (ix2 r l) * g (ix2 0 l) := by
  pointwise [k1_pay4, p11]

theorem p15 (r : Fin 512) (k : Fin 1024) : k1_pay5 (F := Ideal) (k1_pay4 (F := Ideal) d g) w (ix2 r k)
    = ∑ l : Fin 1024, d (ix2 r l) * g (ix2 0 l) * w (ix3 0 k l) := by
  pointwise [k1_pay5, p14]

end

variable (m : (ℓ : Loc nD τ sig) → Buf (Elt Ideal) ℓ) (ρ : Dev nD → PrngReg)

theorem host0 (c : Dev nD) (o : Fin 1) (k l : Fin 1024) : W1 m ρ c (Proc.devRef .tc main_v0) (ix3 o k l) = (m ((c : Thread nD τ).loc main_arg2)) (ix3 o k l) := by
  show StableHlo.after hostOps0 _ (Proc.tc.devRef main_v0) _ = _
  unfold hostOps0
  after_results
  pointwise []

theorem host1 (c : Dev nD) (r : Fin 4096) (l : Fin 1024) : W1 m ρ c (Proc.devRef .tc main_v1) (ix2 r l) = (m ((c : Thread nD τ).loc main_arg1)) (ix2 r l) := by
  show StableHlo.after hostOps0 _ (Proc.tc.devRef main_v1) _ = _
  unfold hostOps0
  after_results
  pointwise []

theorem b0_0 (c : Dev nD) (t : Fin cfg0.N) (r : Fin 512) (k : Fin 1024) : iblk0 (V1 m ρ) c 0 t (ix2 r k) = (m ((c : Thread nD τ).loc main_arg1)) (ix2 ⟨512 * t.val + r.val, by have := t_lt t; omega⟩ k) := by
  refine Eq.trans ?_ (host1 m ρ c _ k)
  blk_point [iblk0, idx0 t]

theorem b0_1 (c : Dev nD) (t : Fin cfg0.N) (o : Fin 1) (k l : Fin 1024) : iblk0 (V1 m ρ) c 1 t (ix3 o k l) = (m ((c : Thread nD τ).loc main_arg2)) (ix3 o k l) := by
  refine Eq.trans ?_ (host0 m ρ c o k l)
  blk_point [iblk0, idx0 t]

theorem b0_2 (c : Dev nD) (t : Fin cfg0.N) (r : Fin 512) (l : Fin 1024) : iblk0 (V1 m ρ) c 2 t (ix2 r l) = (m ((c : Thread nD τ).loc main_arg0)) (ix2 ⟨512 * t.val + r.val, by have := t_lt t; omega⟩ l) := by
  refine Eq.trans ?_ (congrFun (W1_args m ρ c main_arg0 (by decide)) _)
  blk_point [iblk0, idx0 t]

theorem b0_3 (c : Dev nD) (t : Fin cfg0.N) (o : Fin 1) (l : Fin 1024) : iblk0 (V1 m ρ) c 3 t (ix2 o l) = (m ((c : Thread nD τ).loc main_arg3)) (ix2 o l) := by
  refine Eq.trans ?_ (congrFun (W1_args m ρ c main_arg3 (by decide)) _)
  blk_point [iblk0, idx0 t]

theorem emb0_4 (t : Fin cfg0.N) (r : Fin 512) (l : Fin 1024) : ((cfg0.win 4).blk t).view.emb (ix2 r l) = ix2 ⟨512 * t.val + r.val, by have := t_lt t; omega⟩ l := by
  blk_ext [idx0 t]

theorem final0_4 (c : Dev nD) : (dat0 (V1 m ρ) c).arrAt 4 cfg0.N = fun i => (lin (rows (m ((c : Thread nD τ).loc main_arg1))) (m ((c : Thread nD τ).loc main_arg2))) (i 0) (i 1) := by
  refine (dat0 (V1 m ρ) c).arrAt_eq_of_covers 4 _ (by decide +kernel) fun t _ y => ?_
  blk_simp
  rw [after0_4]; frame_out
  idx_vars y
  rw [p03, emb0_4]
  simp only [lin, rows, b0_0, b0_1, b0_2, b0_3]
  rfl

theorem emb0_5 (t : Fin cfg0.N) (r : Fin 512) (l : Fin 1024) : ((cfg0.win 5).blk t).view.emb (ix2 r l) = ix2 ⟨512 * t.val + r.val, by have := t_lt t; omega⟩ l := by
  blk_ext [idx0 t]

theorem final0_5 (c : Dev nD) : (dat0 (V1 m ρ) c).arrAt 5 cfg0.N = fun i => (res (m ((c : Thread nD τ).loc main_arg0)) (m ((c : Thread nD τ).loc main_arg3)) (lin (rows (m ((c : Thread nD τ).loc main_arg1))) (m ((c : Thread nD τ).loc main_arg2)))) (i 0) (i 1) := by
  refine (dat0 (V1 m ρ) c).arrAt_eq_of_covers 5 _ (by decide +kernel) fun t _ y => ?_
  blk_simp
  rw [after0_5]; frame_out
  idx_vars y
  rw [p02, emb0_5]
  simp only [res, lin, rows, b0_0, b0_1, b0_2, b0_3]
  rfl

theorem w2y (c : Dev nD) : W2 m ρ c (Proc.devRef .tc main_v2_0) = fun i => (lin (rows (m ((c : Thread nD τ).loc main_arg1))) (m ((c : Thread nD τ).loc main_arg2))) (i 0) (i 1) := (W2_arr m ρ c 4).trans (final0_4 m ρ c)

theorem b1_0 (c : Dev nD) (t : Fin cfg1.N) (r : Fin 512) (l : Fin 1024) : iblk1 (V2 m ρ) c 0 t (ix2 r l) = (m ((c : Thread nD τ).loc main_arg4)) (ix2 ⟨512 * t.val + r.val, by have := t_lt t; omega⟩ l) := by
  refine Eq.trans ?_ (congrFun (W2_args m ρ c main_arg4 (by decide)) _)
  blk_point [iblk1, idx1 t]

theorem b1_1 (c : Dev nD) (t : Fin cfg1.N) (r : Fin 512) (l : Fin 1024) : iblk1 (V2 m ρ) c 1 t (ix2 r l) = (lin (rows (m ((c : Thread nD τ).loc main_arg1))) (m ((c : Thread nD τ).loc main_arg2))) ⟨512 * t.val + r.val, by have := t_lt t; omega⟩ l := by
  refine Eq.trans ?_ (congrFun (w2y m ρ c) (ix2 ⟨512 * t.val + r.val, by have := t_lt t; omega⟩ l))
  blk_point [iblk1, idx1 t]

theorem b1_2 (c : Dev nD) (t : Fin cfg1.N) (o : Fin 1) (l : Fin 1024) : iblk1 (V2 m ρ) c 2 t (ix2 o l) = (m ((c : Thread nD τ).loc main_arg3)) (ix2 o l) := by
  refine Eq.trans ?_ (congrFun (W2_args m ρ c main_arg3 (by decide)) _)
  blk_point [iblk1, idx1 t]

theorem b1_3 (c : Dev nD) (t : Fin cfg1.N) (o : Fin 1) (k l : Fin 1024) : iblk1 (V2 m ρ) c 3 t (ix3 o k l) = (m ((c : Thread nD τ).loc main_arg2)) (ix3 o k l) := by
  refine Eq.trans ?_ ((congrFun (W2_of m ρ c main_v0 (by decide)) _).trans (host0 m ρ c o k l))
  blk_point [iblk1, idx1 t]

theorem emb1_4 (t : Fin cfg1.N) (r : Fin 512) (l : Fin 1024) : ((cfg1.win 4).blk t).view.emb (ix2 r l) = ix2 ⟨512 * t.val + r.val, by have := t_lt t; omega⟩ l := by
  blk_ext [idx1 t]

theorem final1_4 (c : Dev nD) : (dat1 (V2 m ρ) c).arrAt 4 cfg1.N = fun i => (cot (m ((c : Thread nD τ).loc main_arg4)) (m ((c : Thread nD τ).loc main_arg3))) (i 0) (i 1) := by
  refine (dat1 (V2 m ρ) c).arrAt_eq_of_covers 4 _ (by decide +kernel) fun t _ y => ?_
  blk_simp
  rw [after1_4]; unfold outsAt1; dsimp only; frame_out
  idx_vars y
  rw [p12, emb1_4]
  simp only [cot, b1_0, b1_1, b1_2, b1_3]
  rfl

theorem emb1_5 (t : Fin cfg1.N) (o p : Fin 1) (l : Fin 1024) : ((cfg1.win 5).blk t).view.emb (ix3 o p l) = ix3 ⟨t.val, t_lt t⟩ p l := by
  blk_ext [idx1 t]

theorem final1_5 (c : Dev nD) : (dat1 (V2 m ρ) c).arrAt 5 cfg1.N = part (term (m ((c : Thread nD τ).loc main_arg4)) (lin (rows (m ((c : Thread nD τ).loc main_arg1))) (m ((c : Thread nD τ).loc main_arg2)))) := by
  refine (dat1 (V2 m ρ) c).arrAt_eq_of_covers 5 _ (by decide +kernel) fun t _ y => ?_
  blk_simp
  rw [after1_5]; unfold outsAt1; dsimp only; frame_out
  idx_vars y
  rw [p13, emb1_5]
  simp only [part, term, b1_0, b1_1, b1_2, b1_3]
  rfl

theorem emb1_6 (t : Fin cfg1.N) (r : Fin 512) (l : Fin 1024) : ((cfg1.win 6).blk t).view.emb (ix2 r l) = ix2 ⟨512 * t.val + r.val, by have := t_lt t; omega⟩ l := by
  blk_ext [idx1 t]

theorem final1_6 (c : Dev nD) : (dat1 (V2 m ρ) c).arrAt 6 cfg1.N = fun i => (back (cot (m ((c : Thread nD τ).loc main_arg4)) (m ((c : Thread nD τ).loc main_arg3))) (m ((c : Thread nD τ).loc main_arg2))) (i 0) (i 1) := by
  refine (dat1 (V2 m ρ) c).arrAt_eq_of_covers 6 _ (by decide +kernel) fun t _ y => ?_
  blk_simp
  rw [after1_6]; unfold outsAt1; dsimp only; frame_out
  idx_vars y
  rw [p15, emb1_6]
  simp only [back, cot, b1_0, b1_1, b1_2, b1_3]
  rfl

theorem w3_v3_1 (c : Dev nD) : W3 m ρ c (Proc.devRef .tc main_v3_1) = part (term (m ((c : Thread nD τ).loc main_arg4)) (lin (rows (m ((c : Thread nD τ).loc main_arg1))) (m ((c : Thread nD τ).loc main_arg2)))) := (W3_arr m ρ c 5).trans (final1_5 m ρ c)

theorem tail_v4 (c : Dev nD) : W4 m ρ c (Proc.devRef .tc main_v4) = all (term (m ((c : Thread nD τ).loc main_arg4)) (lin (rows (m ((c : Thread nD τ).loc main_arg1))) (m ((c : Thread nD τ).loc main_arg2)))) := by
  show StableHlo.after hostOps2 (W3 m ρ c) (Proc.tc.devRef main_v4) = _
  unfold hostOps2
  after_results
  rw [w3_v3_1 m ρ c]
  funext i
  idx_vars i
  obtain rfl : i0 = 0 := Subsingleton.elim _ _
  refine Eq.trans ?_ (all_part _ i1)
  pointwise []

/-- The run: every result as a function of the arguments, and the arguments unchanged. -/
theorem run : θ_run defs (onTc (τ := τ) (main (F := Ideal))) ⟨m, fun _ => 0, ρ⟩ (fun r => ∀ c : Dev nD,
      (r.2.mem ((c.tc : Thread nD τ).loc main_v2_0) = (fun i => (lin (rows (m ((c : Thread nD τ).loc main_arg1))) (m ((c : Thread nD τ).loc main_arg2))) (i 0) (i 1))
      ∧ r.2.mem ((c.tc : Thread nD τ).loc main_v2_1) = (fun i => (res (m ((c : Thread nD τ).loc main_arg0)) (m ((c : Thread nD τ).loc main_arg3)) (lin (rows (m ((c : Thread nD τ).loc main_arg1))) (m ((c : Thread nD τ).loc main_arg2)))) (i 0) (i 1))
      ∧ r.2.mem ((c.tc : Thread nD τ).loc main_v3_0) = (fun i => (cot (m ((c : Thread nD τ).loc main_arg4)) (m ((c : Thread nD τ).loc main_arg3))) (i 0) (i 1))
      ∧ r.2.mem ((c.tc : Thread nD τ).loc main_v4) = (all (term (m ((c : Thread nD τ).loc main_arg4)) (lin (rows (m ((c : Thread nD τ).loc main_arg1))) (m ((c : Thread nD τ).loc main_arg2)))))
      ∧ r.2.mem ((c.tc : Thread nD τ).loc main_v3_2) = (fun i => (back (cot (m ((c : Thread nD τ).loc main_arg4)) (m ((c : Thread nD τ).loc main_arg3))) (m ((c : Thread nD τ).loc main_arg2))) (i 0) (i 1)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))) := by
  refine (θ_run defs _ _).mono (fun r h c => ⟨⟨?_, ?_, ?_, ?_, ?_⟩, h.2 c⟩) (θ_run_and (ends m ρ) (unchanged m ρ))
  · exact (h.1 c main_v2_0 (by decide)).trans ((W4_of m ρ c main_v2_0 (by decide)).trans ((W3_of m ρ c main_v2_0 (by decide)).trans ((W2_arr m ρ c 4).trans (final0_4 m ρ c))))
  · exact (h.1 c main_v2_1 (by decide)).trans ((W4_of m ρ c main_v2_1 (by decide)).trans ((W3_of m ρ c main_v2_1 (by decide)).trans ((W2_arr m ρ c 5).trans (final0_5 m ρ c))))
  · exact (h.1 c main_v3_0 (by decide)).trans ((W4_of m ρ c main_v3_0 (by decide)).trans ((W3_arr m ρ c 4).trans (final1_4 m ρ c)))
  · exact (h.1 c main_v4 (by decide)).trans (tail_v4 m ρ c)
  · exact (h.1 c main_v3_2 (by decide)).trans ((W4_of m ρ c main_v3_2 (by decide)).trans ((W3_arr m ρ c 6).trans (final1_6 m ρ c)))

end Cert.AGateIdeal.Value

end
-- ==== Proof.AGatePure.lean ====
/- The reference `AGateRefIdeal`, result by result. -/
module

public import proofs.«01_k».proof.Proof.AGateValue
public import proofs.«01_k».proof.Proof.Gen.AGateRefIdeal.Read

@[expose] public section

set_option maxRecDepth 16384

noncomputable section

namespace Cert.AGateIdeal.Pure

open Cert.AGateRefIdeal Cert.AGateRefIdeal.Read Idealize.ShloMosaic
open Cert.Gate Cert.Layer

variable (x z dx : FVec Ideal S4096x1024 .f32) (w : FVec Ideal S1x1024x1024 .f32) (g : FVec Ideal S1x1024 .f32)

theorem r22 : (val_main_v22 (F := Ideal) z w) = fun i => (lin (rows z) w) (i 0) (i 1) := by
  funext i
  idx_vars i
  pointwise [val_main_v15, val_main_v16, val_main_v22, lin, rows]

theorem r4 : (val_main_v4 (F := Ideal) x z w g) = fun i => (res x g (lin (rows z) w)) (i 0) (i 1) := by
  funext i
  idx_vars i
  pointwise [val_main_v0, val_main_v1, val_main_v2, val_main_v3, val_main_v4, res, lin, rows]

theorem r23 : (val_main_v23 (F := Ideal) g dx) = fun i => (cot dx g) (i 0) (i 1) := by
  funext i
  idx_vars i
  pointwise [val_main_v20, val_main_v21, val_main_v23, cot]
  exact mul_comm _ _

theorem r10 : (val_main_v10 (F := Ideal) z w dx) = all (term dx (lin (rows z) w)) := by
  funext i
  idx_vars i
  pointwise [val_main_v0, val_main_v1, val_main_v5, val_main_v8, val_main_cst, val_main_v9, val_main_v10, all, term, lin, rows]

theorem r24 : (val_main_v24 (F := Ideal) w g dx) = fun i => (back (cot dx g) w) (i 0) (i 1) := by
  funext i
  idx_vars i
  pointwise [val_main_v0, val_main_v5, val_main_v6, val_main_v7, val_main_v13, val_main_v24, back, cot]
  exact Finset.sum_congr rfl fun l _ => congrArg (· * w (ix3 0 i1 l)) (mul_comm _ _)

end Cert.AGateIdeal.Pure

end
-- ==== Proof.AGateClaim.lean ====
/- The claims about `AGate`. -/
module

public import proofs.«01_k».proof.Defs
public import proofs.«01_k».proof.Proof.AGatePure

@[expose] public section

set_option maxRecDepth 16384

noncomputable section

namespace Cert.AGateIdeal

open Cert.Reals Idealize.ShloMosaic Idealize.ShloMosaic.TcCoe Idealize.SL.Sem

theorem algebraic : Cert.algebraic_AGateIdeal_AGateRefIdeal (hAGateIdeal := Cert.AGateIdeal.Gen.facts)
    (hAGateRefIdeal := Cert.AGateRefIdeal.Gen.facts) := by
  pair_intro
  · run_from Cert.AGateIdeal.Value.run m g
  · refine θ_run_mono (Cert.AGateRefIdeal.Value.run m' g') fun r h c => ?_
    obtain ⟨h1, h2, h3, h4, h5, ha⟩ := h c
    obtain ⟨e0, e1, e2, e3, e4⟩ := hagree c
    refine ⟨h1.trans ?_, h2.trans ?_, h3.trans ?_, h4.trans ?_, h5.trans ?_, ha⟩
    · refine (Cert.AGateRefIdeal.Read.val_main_v22_eq _ _).trans ?_
      rw [e1, e2, Pure.r22] <;> rfl
    · refine (Cert.AGateRefIdeal.Read.val_main_v4_eq _ _ _ _).trans ?_
      rw [e0, e1, e2, e3, Pure.r4] <;> rfl
    · refine (Cert.AGateRefIdeal.Read.val_main_v23_eq _ _).trans ?_
      rw [e3, e4, Pure.r23] <;> rfl
    · refine (Cert.AGateRefIdeal.Read.val_main_v10_eq _ _ _).trans ?_
      rw [e1, e2, e4, Pure.r10] <;> rfl
    · refine (Cert.AGateRefIdeal.Read.val_main_v24_eq _ _ _).trans ?_
      rw [e2, e3, e4, Pure.r24] <;> rfl

end Cert.AGateIdeal

end
-- ==== Proof.NormIn.lean ====
/- A row divided by its root mean square, scaled and shifted, and its product with a matrix. -/
module

public import Idealize.ShloMosaic.Lib.Pipeline.ValueKit
public import Idealize.ShloMosaic.Lib.Pointwise

@[expose] public section

noncomputable section

namespace Cert.NormIn

open Idealize.ShloMosaic

/-- The reciprocal root mean square of a row of `n`, where `d` is `n` as the program writes it. -/
def recip {R n : ℕ} (d : EReal) (x : (⟨2, ![R, n]⟩ : Shape).Idx → EReal) (r : Fin R) : EReal :=
  Ideal.rsqrt (Ideal.div (∑ k : Fin n, x (ix2 r k) * x (ix2 r k)) d + Ideal.ofBits .f32 0x358637BD#32)

/-- An entry of the normalised row, with its gain, its scale and its shift. -/
def entry {R n : ℕ} (d : EReal) (x : (⟨2, ![R, n]⟩ : Shape).Idx → EReal) (g sc sh : (⟨2, ![1, n]⟩ : Shape).Idx → EReal) (r : Fin R) (l : Fin n) : EReal :=
  x (ix2 r l) * recip d x r * g (ix2 0 l) * (1 + sc (ix2 0 l)) + sh (ix2 0 l)

/-- An entry of the product with `w`. -/
def proj {R n k : ℕ} (d : EReal) (x : (⟨2, ![R, n]⟩ : Shape).Idx → EReal) (g sc sh : (⟨2, ![1, n]⟩ : Shape).Idx → EReal)
    (w : (⟨2, ![n, k]⟩ : Shape).Idx → EReal) (r : Fin R) (l : Fin k) : EReal :=
  ∑ j : Fin n, entry d x g sc sh r j * w (ix2 j l)

end Cert.NormIn

end
-- ==== Proof.AInValue.lean ====
/- What `AInIdeal` leaves in its results: the modulated rows, and their product with the weight. -/
module

public import proofs.«01_k».proof.Proof.NormIn
public import proofs.«01_k».proof.Proof.Gen.AInIdeal.Value
public import Idealize.ShloMosaic.Lib.Claim

@[expose] public section

set_option maxRecDepth 16384

noncomputable section

namespace Cert.AInIdeal.Value

open Cert.AInIdeal Cert.AInIdeal.Gen Cert.NormIn Idealize.ShloMosaic Idealize.ShloMosaic.TcCoe Idealize.SL.Sem
open Idealize.ShloMosaic.Pipeline (Dat)

/-- The row length as the program writes it. -/
abbrev len : EReal := Ideal.ofBits .f32 0x44800000#32

theorem idx : ∀ t : Fin cfg0.N, win0_0.index t = ![t.val, 0]
    ∧ win0_1.index t = ![0, 0]
    ∧ win0_2.index t = ![0, 0]
    ∧ win0_3.index t = ![0, 0]
    ∧ win0_4.index t = ![0, 0, 0]
    ∧ win0_5.index t = ![t.val, 0]
    ∧ win0_6.index t = ![0, t.val, 0] :=
  (by decide +kernel : ∀ t : Fin grid0.N, _)

theorem t_lt (t : Fin cfg0.N) : t.val < 8 := lt_of_lt_of_eq t.isLt (by decide +kernel)

/-- Row `r` of tile `t`. -/
abbrev at' (t : Fin cfg0.N) (r : Fin 512) : Fin 4096 := ⟨512 * t.val + r.val, by have := t_lt t; omega⟩

section
variable (x : FVec Ideal S512x1024 .f32) (g sc sh : FVec Ideal S1x1024 .f32) (w : FVec Ideal S1x1024x1024 .bf16)

theorem p_rows (r : Fin 512) (l : Fin 1024) : k0_pay4 (F := Ideal) x g sc sh (ix2 r l) = entry len x g sc sh r l := by
  pointwise [k0_pay4, entry, recip]

theorem p_first (o : Fin 1) (r : Fin 512) (l : Fin 1024) : k0_pay1 (F := Ideal) (k0_pay5 (F := Ideal) x g sc sh w) (ix3 o r l)
    = ∑ k : Fin 1024, entry len x g sc sh r k * w (ix3 0 k l) := by
  pointwise [k0_pay1, k0_pay5, p_rows]

theorem p_second (o : Fin 1) (r : Fin 512) (l : Fin 1024) : k0_pay2 (F := Ideal) (k0_pay6 (F := Ideal) x g sc sh w) (ix3 o r l)
    = ∑ k : Fin 1024, entry len x g sc sh r k * w (ix3 0 k l) := by
  pointwise [k0_pay2, k0_pay6, p_rows]

theorem p_third (o : Fin 1) (r : Fin 512) (l : Fin 1024) : k0_pay3 (F := Ideal) (k0_pay4 (F := Ideal) x g sc sh) w (ix3 o r l)
    = ∑ k : Fin 1024, entry len x g sc sh r k * w (ix3 0 k l) := by
  pointwise [k0_pay3, p_rows]

end

variable (m : (ℓ : Loc nD τ sig) → Buf (Elt Ideal) ℓ) (c : Dev nD)

/-- The arguments. -/
abbrev aX : FVec Ideal S4096x1024 .f32 := m ((c : Thread nD τ).loc main_arg0)
abbrev aG : FVec Ideal S1x1024 .f32 := m ((c : Thread nD τ).loc main_arg1)
abbrev aC : FVec Ideal S1x1024 .f32 := m ((c : Thread nD τ).loc main_arg2)
abbrev aH : FVec Ideal S1x1024 .f32 := m ((c : Thread nD τ).loc main_arg3)
abbrev aW : FVec Ideal S1024x3072 .f32 := m ((c : Thread nD τ).loc main_arg4)

theorem host_w (o : Fin 1) (k : Fin 1024) (l : Fin 3072) : V m c main_v1 (ix3 o k l) = aW m c (ix2 k l) := by
  show StableHlo.after hostOps0 _ (Proc.tc.devRef main_v1) _ = _
  unfold hostOps0
  after_results
  pointwise []

variable (t : Fin cfg0.N)

theorem b0 (r : Fin 512) (k : Fin 1024) : iblk m c 0 t (ix2 r k) = aX m c (ix2 (at' t r) k) := by
  blk_point [iblk, V, idx t]

theorem b1 (o : Fin 1) (k : Fin 1024) : iblk m c 1 t (ix2 o k) = aG m c (ix2 o k) := by
  blk_point [iblk, V, idx t]

theorem b2 (o : Fin 1) (k : Fin 1024) : iblk m c 2 t (ix2 o k) = aC m c (ix2 o k) := by
  blk_point [iblk, V, idx t]

theorem b3 (o : Fin 1) (k : Fin 1024) : iblk m c 3 t (ix2 o k) = aH m c (ix2 o k) := by
  blk_point [iblk, V, idx t]

theorem b4 (o : Fin 1) (k : Fin 1024) (l : Fin 3072) : iblk m c 4 t (ix3 o k l) = aW m c (ix2 k l) := by
  refine Eq.trans ?_ (host_w m c o k l)
  blk_point [iblk, idx t]

theorem ld_w (o : ℕ) (inb : ∀ a, (![0, 0, o] : Fin 3 → ℕ) a + S1x1024x1024.size a ≤ S1x1024x3072.size a) (k l : Fin 1024) (h : o + l.val < 3072) :
    View.ld (iblk m c 4 t) (Rect.unit (s := S1x1024x3072) ![0, 0, o] S1x1024x1024.size inb) (ix3 0 k l) = aW m c (ix2 k ⟨o + l.val, h⟩) := by
  refine Eq.trans (congrArg (iblk m c 4 t) (funext fun a => Fin.ext ?_)) (b4 m c t 0 k ⟨o + l.val, h⟩)
  change Fin 3 at a
  fin_cases a
  · rfl
  · show 0 + 1 * k.val = k.val; omega
  · show o + 1 * l.val = o + l.val; omega

theorem rows_at (r : Fin 512) (l : Fin 1024) : entry len (iblk m c 0 t) (iblk m c 1 t) (iblk m c 2 t) (iblk m c 3 t) r l
    = entry len (aX m c) (aG m c) (aC m c) (aH m c) (at' t r) l := by
  simp only [entry, recip, b0, b1, b2, b3]

theorem embH (r : Fin 512) (l : Fin 1024) : ((cfg0.win 5).blk t).view.emb (ix2 r l) = ix2 (at' t r) l := by
  blk_ext [idx t]

theorem embP (p : Fin 3) (r : Fin 512) (l : Fin 1024) : ((cfg0.win 6).blk t).view.emb (ix3 p r l) = ix3 p (at' t r) l := by
  blk_ext [idx t]

/-- The modulated rows. -/
def whole (i : S4096x1024.Idx) : EReal := entry len (aX m c) (aG m c) (aC m c) (aH m c) (i 0) (i 1)

/-- Their product with the weight, its columns in 3 parts. -/
def parts (i : S3x4096x1024.Idx) : EReal :=
  proj len (aX m c) (aG m c) (aC m c) (aH m c) (aW m c) (i 1) ⟨1024 * (i 0).val + (i 2).val, by have := (i 0).isLt; have := (i 2).isLt; simp at *; omega⟩

theorem tile_eq (p : Fin 3) (o : ℕ) (ho : o = 1024 * p.val) (inb) (r : Fin 512) (l : Fin 1024) :
    ∑ k : Fin 1024, entry len (iblk m c 0 t) (iblk m c 1 t) (iblk m c 2 t) (iblk m c 3 t) r k
        * View.ld (iblk m c 4 t) (Rect.unit (s := S1x1024x3072) ![0, 0, o] S1x1024x1024.size inb) (ix3 0 k l) = parts m c (ix3 p (at' t r) l) := by
  subst ho
  exact Finset.sum_congr rfl fun k _ => congrArg₂ (α := EReal) (β := EReal) (γ := EReal) (· * ·) (rows_at m c t r k)
    (ld_w m c t (1024 * p.val) inb k l (by have := p.isLt; omega))

omit t

theorem finalH : (dats m 0 c).arrAt 5 cfg0.N = whole m c := by
  refine (dats m 0 c).arrAt_eq_of_covers 5 _ (by decide +kernel) fun t _ y => ?_
  blk_simp
  rw [after0_5]; frame_out
  idx_vars y
  rw [p_rows, rows_at, embH]
  rfl

theorem finalP : (dats m 0 c).arrAt 6 cfg0.N = parts m c := by
  refine (dats m 0 c).arrAt_eq_of_covers 6 _ (by decide +kernel) fun t _ y => ?_
  blk_simp
  rw [after0_6]; frame_out
  idx_vars y
  rw [embP]
  canon_tiles x h
  · idx_vars x
    obtain rfl : y1 = x1 := Fin.ext h1
    obtain rfl : y2 = x2 := Fin.ext h2
    obtain rfl : y0 = 2 := Fin.ext (by omega)
    rw [p_third]
    exact tile_eq m c t 2 2048 rfl _ y1 y2
  · idx_vars x
    obtain rfl : y1 = x1 := Fin.ext h1
    obtain rfl : y2 = x2 := Fin.ext h2
    obtain rfl : y0 = 1 := Fin.ext (by omega)
    rw [p_second]
    exact tile_eq m c t 1 1024 rfl _ y1 y2
  · idx_vars x
    obtain rfl : y1 = x1 := Fin.ext h1
    obtain rfl : y2 = x2 := Fin.ext h2
    obtain rfl : y0 = 0 := Fin.ext (by omega)
    rw [p_first]
    exact tile_eq m c t 0 0 rfl _ y1 y2

omit c

theorem run_parts (ρ : Dev nD → PrngReg) : θ_run defs (onTc (τ := τ) (main (F := Ideal))) ⟨m, fun _ => 0, ρ⟩ fun r => ∀ c : Dev nD,
    r.2.mem ((c.tc : Thread nD τ).loc main_v2_0) = whole m c
    ∧ r.2.mem ((c.tc : Thread nD τ).loc main_v2_1) = parts m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (finalH m c), (h c).2.1.trans (finalP m c), (h c).2.2⟩) (run_blocks m ρ)

end Cert.AInIdeal.Value

end
-- ==== Proof.AInClaim.lean ====
/- `AInRef` read entry by entry, and the claim about `AIn`. -/
module

public import proofs.«01_k».proof.Defs
public import proofs.«01_k».proof.Proof.AInValue
public import proofs.«01_k».proof.Proof.Gen.AInRefIdeal.Run
public import proofs.«01_k».proof.Proof.Gen.AInRefIdeal.Read

@[expose] public section

set_option maxRecDepth 16384

noncomputable section

namespace Cert.AInRefIdeal.Pure
open Cert.AInRefIdeal Cert.AInRefIdeal.Gen Cert.AInRefIdeal.Read Cert.NormIn Idealize.ShloMosaic

variable (x : FVec Ideal S4096x1024 .f32) (g sc sh : FVec Ideal S1x1024 .f32) (w : FVec Ideal S1024x3072 .f32)

theorem rows_at (r : Fin 4096) (l : Fin 1024) : val_main_v17 (F := Ideal) x g sc sh (ix2 r l) = entry (Ideal.ofBits .f32 0x44800000#32) x g sc sh r l := by
  pointwise [entry, recip, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17]

theorem proj_at (r : Fin 4096) (l : Fin 3072) :
    val_main_v18 (F := Ideal) x g sc sh w (ix2 r l) = proj (Ideal.ofBits .f32 0x44800000#32) x g sc sh w r l := by
  pointwise [val_main_v18, rows_at, proj]

theorem rows_eq : val_main_v19 (F := Ideal) x g sc sh = fun i => entry (Ideal.ofBits .f32 0x44800000#32) x g sc sh (i 0) (i 1) := by
  funext i
  idx_vars i
  pointwise [val_main_v19, rows_at]

theorem parts_eq (p : Fin 3) (r : Fin 4096) (l : Fin 1024) (hb : 1024 * p.val + l.val < 3072) :
    val_main_v27 (F := Ideal) x g sc sh w (ix3 p r l) = proj (Ideal.ofBits .f32 0x44800000#32) x g sc sh w r ⟨1024 * p.val + l.val, hb⟩ := by
  unfold val_main_v27
  change val_main_v26 (F := Ideal) x g sc sh w (ix3 p r l) = _
  unfold val_main_v26
  concat_tiles i h
  all_goals
    idx_vars i
    obtain rfl : i1 = r := Fin.ext h1
    obtain rfl : i2 = l := Fin.ext h2
    pointwise [val_main_v20, val_main_v21, val_main_v22, val_main_v23, val_main_v24, val_main_v25]
    refine Eq.trans ?_ (proj_at x g sc sh w i1 ⟨_, hb⟩)
    refine congrArg (fun k => val_main_v18 (F := Ideal) x g sc sh w (ix2 i1 k)) (Fin.ext ?_)
    dsimp only [ix3_0] at h ⊢
    omega

end Cert.AInRefIdeal.Pure

namespace Cert.AInIdeal

open Cert.NormIn Idealize.ShloMosaic Idealize.ShloMosaic.TcCoe Idealize.SL.Sem

theorem algebraic : Cert.algebraic_AInIdeal_AInRefIdeal (hAInIdeal := Cert.AInIdeal.Gen.facts) (hAInRefIdeal := Cert.AInRefIdeal.Gen.facts) := by
  pair_intro
  · run_from Cert.AInIdeal.Value.run_parts m g
  · refine θ_run_mono (Cert.AInRefIdeal.Value.run m' g') fun r h c => ?_
    obtain ⟨h1, h2, ha⟩ := h c
    obtain ⟨e0, e1, e2, e3, e4⟩ := hagree c
    refine ⟨h1.trans ?_, h2.trans ?_, ha⟩
    · refine (Cert.AInRefIdeal.Read.val_main_v19_eq _ _ _ _).trans ?_
      rw [e0, e1, e2, e3, Cert.AInRefIdeal.Pure.rows_eq]
      rfl
    · refine (Cert.AInRefIdeal.Read.val_main_v27_eq _ _).trans ?_
      rw [e0, e1, e2, e3, e4]
      funext i
      idx_vars i
      exact Cert.AInRefIdeal.Pure.parts_eq _ _ _ _ _ _ _ _ _

end Cert.AInIdeal

end
-- ==== Proof.ANormValue.lean ====
/- What `ANormIdeal` leaves in each result, as sums over the argument arrays. -/
module

public import proofs.«01_k».proof.Proof.Gen.ANormIdeal.Frame
public import proofs.«01_k».proof.Proof.NormParts
public import Idealize.ShloMosaic.Lib.Pipeline.ValueKit
public import Idealize.ShloMosaic.Lib.Claim

@[expose] public section

set_option maxRecDepth 16384

noncomputable section

namespace Cert.ANormIdeal.Value

open Cert.ANormIdeal Cert.ANormIdeal.Gen Idealize.ShloMosaic Idealize.ShloMosaic.TcCoe Idealize.SL.Sem
open Cert.Norm (rowRt rowDx rt dxin partSh partSc tiles col dgain dscale dshift)
open Idealize.ShloMosaic.Pipeline (Dat)

/-- The cotangent of the modulated row: the product with the transposed weight. -/
def dhv (dp : FVec Ideal S4096x3072 .f32) (w : FVec Ideal S1024x3072 .f32) (i : S4096x1024.Idx) : EReal :=
  ∑ k : Fin 3072, dp (ix2 (i 0) k) * w (ix2 (i 1) k)

/-- The product by the three slabs of the weight. -/
theorem dhv_slabs (dp : FVec Ideal S4096x3072 .f32) (w : FVec Ideal S1024x3072 .f32) (r : Fin 4096) (l : Fin 1024) :
    dhv dp w (ix2 r l) = (∑ k : Fin 1024, dp (ix2 r ⟨k.val, by omega⟩) * w (ix2 l ⟨k.val, by omega⟩))
      + (∑ k : Fin 1024, dp (ix2 r ⟨1024 + k.val, by omega⟩) * w (ix2 l ⟨1024 + k.val, by omega⟩))
      + ∑ k : Fin 1024, dp (ix2 r ⟨2048 + k.val, by omega⟩) * w (ix2 l ⟨2048 + k.val, by omega⟩) := by
  simp only [dhv, ix2_0, ix2_1]
  rw [Fin.sum_univ_tiles 3 1024 rfl (fun k => dp (ix2 r k) * w (ix2 l k)), Fin.sum_univ_three]
  refine congrArg₂ _ (congrArg₂ _ ?_ ?_) ?_ <;>
    refine Finset.sum_congr rfl fun k _ => ?_ <;>
    refine congrArg₂ _ (congrArg dp (congrArg (ix2 r) (Fin.ext ?_))) (congrArg w (congrArg (ix2 l) (Fin.ext ?_))) <;>
    simp

theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0, 0] ∧ win0_8.index t = ![t.val, 0, 0] :=
  (by decide +kernel : ∀ t : Fin grid0.N, _)

variable (m : (ℓ : Loc nD τ sig) → Buf (Elt Ideal) ℓ)

theorem host7 (c : Dev nD) (p : Fin 3) (r : Fin 4096) (k : Fin 1024) : V m c main_v7 (ix3 p r k)
    = m ((c : Thread nD τ).loc main_arg6) (ix2 r ⟨1024 * p.val + k.val, by omega⟩) := by
  show StableHlo.after hostOps0 _ (Proc.tc.devRef main_v7) _ = _
  unfold hostOps0
  after_results
  pointwise []
  fin_vals p with hp <;> simp only [hp, Nat.reduceSub, Nat.reduceLT, ↓reduceDIte, Fin.zero_eta]
  all_goals
    after_results_simp
    pointwise []

theorem host9 (c : Dev nD) (o : Fin 1) (r : Fin 1024) (k : Fin 3072) : V m c main_v9 (ix3 o r k) = m ((c : Thread nD τ).loc main_arg4) (ix2 r k) := by
  show StableHlo.after hostOps0 _ (Proc.tc.devRef main_v9) _ = _
  unfold hostOps0
  after_results
  pointwise []

theorem t_lt (t : Fin cfg0.N) : t.val < 8 := lt_of_lt_of_eq t.isLt (by decide +kernel)

theorem pay7 (c : Dev nD) (t : Fin cfg0.N) (r : Fin 512) (l : Fin 1024) :
    k0_pay7 (iblk m c 0 t) (iblk m c 1 t) (iblk m c 2 t) (iblk m c 3 t) (iblk m c 4 t) (iblk m c 5 t) (ix2 r l)
    = dhv (m ((c : Thread nD τ).loc main_arg6)) (m ((c : Thread nD τ).loc main_arg4)) (ix2 ⟨512 * t.val + r.val, by have := t_lt t; omega⟩ l) := by
  have e0 : ∀ (p : Fin 3) (r : Fin 512) (k : Fin 1024), iblk m c 0 t (ix3 p r k)
      = m ((c : Thread nD τ).loc main_arg6) (ix2 ⟨512 * t.val + r.val, by have := t_lt t; omega⟩ ⟨1024 * p.val + k.val, by omega⟩) := fun p r k => by
    refine Eq.trans ?_ (host7 m c p _ k)
    blk_point [iblk, idx t]
  have e1 : ∀ (o : Fin 1) (r : Fin 1024) (k : Fin 3072), iblk m c 1 t (ix3 o r k) = m ((c : Thread nD τ).loc main_arg4) (ix2 r k) := fun o r k => by
    refine Eq.trans ?_ (host9 m c o r k)
    blk_point [iblk, idx t]
  pointwise [k0_pay7, k0_pay5, dhv, e0, e1]
  exact (dhv_slabs _ _ _ _).symm

theorem pay8 (c : Dev nD) (t : Fin cfg0.N) :
    k0_pay8 (iblk m c 0 t) (iblk m c 1 t) (iblk m c 2 t) (iblk m c 3 t) (iblk m c 4 t) (iblk m c 5 t) = k0_pay6 (iblk m c 2 t) := by
  funext y
  idx_vars y
  pointwise [k0_pay8, k0_pay6]

theorem emb6 (t : Fin cfg0.N) (r : Fin 512) (l : Fin 1024) :
    ((cfg0.win 6).blk t).view.emb (ix2 r l) = ix2 ⟨512 * t.val + r.val, by have := t_lt t; omega⟩ l := by
  blk_ext [idx t]

theorem pay_dx (dh x dx : FVec Ideal S512x1024 .f32) (g sc : FVec Ideal S1x1024 .f32) (r : Fin 512) (l : Fin 1024) :
    k0_pay2 dh x dx g sc (k0_pay6 x) (ix2 r l)
      = rowDx (fun k => x (ix2 r k)) (fun k => dx (ix2 r k)) (fun k => dh (ix2 r k)) (fun k => g (ix2 0 k)) (fun k => sc (ix2 0 k)) l := by
  pointwise [k0_pay2, k0_pay1, k0_pay6, rowDx, rowRt]

theorem pay_sh (dh : FVec Ideal S512x1024 .f32) (o p : Fin 1) (l : Fin 1024) : k0_pay3 dh (ix3 o p l) = ∑ k : Fin 512, dh (ix2 k l) := by
  pointwise [k0_pay3]

theorem pay_sc (dh x : FVec Ideal S512x1024 .f32) (o p : Fin 1) (l : Fin 1024) :
    k0_pay4 dh x (k0_pay6 x) (ix3 o p l) = ∑ r : Fin 512, dh (ix2 r l) * (x (ix2 r l) * rowRt fun k => x (ix2 r k)) := by
  pointwise [k0_pay4, k0_pay6, k0_pay1, rowRt]

theorem b2 (c : Dev nD) (t : Fin cfg0.N) (r : Fin 512) (k : Fin 1024) : iblk m c 2 t (ix2 r k)
    = m ((c : Thread nD τ).loc main_arg0) (ix2 ⟨512 * t.val + r.val, by have := t_lt t; omega⟩ k) := by
  blk_point [iblk, V, idx t]

theorem b3 (c : Dev nD) (t : Fin cfg0.N) (r : Fin 512) (k : Fin 1024) : iblk m c 3 t (ix2 r k)
    = m ((c : Thread nD τ).loc main_arg5) (ix2 ⟨512 * t.val + r.val, by have := t_lt t; omega⟩ k) := by
  blk_point [iblk, V, idx t]

theorem b4 (c : Dev nD) (t : Fin cfg0.N) (o : Fin 1) (k : Fin 1024) : iblk m c 4 t (ix2 o k) = m ((c : Thread nD τ).loc main_arg1) (ix2 o k) := by
  blk_point [iblk, V, idx t]

theorem b5 (c : Dev nD) (t : Fin cfg0.N) (o : Fin 1) (k : Fin 1024) : iblk m c 5 t (ix2 o k) = m ((c : Thread nD τ).loc main_arg2) (ix2 o k) := by
  blk_point [iblk, V, idx t]

theorem final6 (c : Dev nD) : (dats m 0 c).arrAt 6 (cfgs 0).N
    = dxin (m ((c : Thread nD τ).loc main_arg0)) (m ((c : Thread nD τ).loc main_arg5))
        (dhv (m ((c : Thread nD τ).loc main_arg6)) (m ((c : Thread nD τ).loc main_arg4)))
        (m ((c : Thread nD τ).loc main_arg1)) (m ((c : Thread nD τ).loc main_arg2)) := by
  refine (dats m 0 c).arrAt_eq_of_covers 6 _ (by decide +kernel) fun t _ y => ?_
  blk_simp
  rw [after0_6]; frame_out
  idx_vars y
  rw [pay8, pay_dx, emb6]
  simp only [dxin, b2, b3, b4, b5, pay7]
  rfl

theorem emb7 (t : Fin cfg0.N) (o p : Fin 1) (l : Fin 1024) :
    ((cfg0.win 7).blk t).view.emb (ix3 o p l) = ix3 ⟨t.val, t_lt t⟩ 0 l := by
  obtain rfl : o = 0 := Subsingleton.elim _ _
  obtain rfl : p = 0 := Subsingleton.elim _ _
  blk_ext [idx t]

theorem emb8 (t : Fin cfg0.N) (o p : Fin 1) (l : Fin 1024) :
    ((cfg0.win 8).blk t).view.emb (ix3 o p l) = ix3 ⟨t.val, t_lt t⟩ 0 l := by
  obtain rfl : o = 0 := Subsingleton.elim _ _
  obtain rfl : p = 0 := Subsingleton.elim _ _
  blk_ext [idx t]

theorem final7 (c : Dev nD) : (dats m 0 c).arrAt 7 (cfgs 0).N
    = partSh (dhv (m ((c : Thread nD τ).loc main_arg6)) (m ((c : Thread nD τ).loc main_arg4))) := by
  refine (dats m 0 c).arrAt_eq_of_covers 7 _ (by decide +kernel) fun t _ y => ?_
  blk_simp
  rw [after0_7]; frame_out
  idx_vars y
  rw [pay_sh, emb7]
  simp only [partSh, pay7]
  rfl

theorem final8 (c : Dev nD) : (dats m 0 c).arrAt 8 (cfgs 0).N
    = partSc (m ((c : Thread nD τ).loc main_arg0)) (dhv (m ((c : Thread nD τ).loc main_arg6)) (m ((c : Thread nD τ).loc main_arg4))) := by
  refine (dats m 0 c).arrAt_eq_of_covers 8 _ (by decide +kernel) fun t _ y => ?_
  blk_simp
  rw [after0_8]; frame_out
  idx_vars y
  rw [pay8, pay_sc, emb8]
  simp only [partSc, b2, pay7, rt]
  rfl

/-- The tiles' partial sums, summed. -/
theorem sumSc (x dh : FVec Ideal S4096x1024 .f32) (r0 : Fin 1) (l : Fin 1024) :
    Host.reduceAdd (F := Ideal) (φ := .f32) (partSc x dh) (constant (F := Ideal) S_ .f32 0x00000000#32) reducesTo_S8x1x1024_S1x1024_d0 h_S_ (ix2 r0 l) = col x dh l := by
  pointwise [partSc, col]
  exact tiles (fun r => dh (ix2 r l) * (x (ix2 r l) * rt x r)) _

theorem sumSh (dh : FVec Ideal S4096x1024 .f32) (r0 : Fin 1) (l : Fin 1024) :
    Host.reduceAdd (F := Ideal) (φ := .f32) (partSh dh) (constant (F := Ideal) S_ .f32 0x00000000#32) reducesTo_S8x1x1024_S1x1024_d0 h_S_ (ix2 r0 l) = dshift dh (ix2 r0 l) := by
  pointwise [partSh, dshift]
  exact tiles (fun r => dh (ix2 r l)) _

end Cert.ANormIdeal.Value

end
-- ==== Proof.ANormTail.lean ====
/- The host lines after the kernel of `ANormIdeal`: the partial sums added up and scaled; its whole run. -/
module

public import proofs.«01_k».proof.Proof.ANormValue

@[expose] public section

set_option maxRecDepth 16384

noncomputable section

namespace Cert.ANormIdeal.Value

open Cert.ANormIdeal Cert.ANormIdeal.Gen Idealize.ShloMosaic Idealize.ShloMosaic.TcCoe Idealize.SL.Sem
open Cert.Norm (dxin partSh partSc dgain dscale dshift)

variable (m : (ℓ : Loc nD τ sig) → Buf (Elt Ideal) ℓ)

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w7 (c : Dev nD) : W m c (Proc.tc.devRef main_v10_1) = partSh (dhv (m ((c : Thread nD τ).loc main_arg6)) (m ((c : Thread nD τ).loc main_arg4))) :=
  (Pipeline.withArrays_arr _ arr_inj c _ _ 7).trans (final7 m c)

theorem w8 (c : Dev nD) : W m c (Proc.tc.devRef main_v10_2) = partSc (m ((c : Thread nD τ).loc main_arg0)) (dhv (m ((c : Thread nD τ).loc main_arg6)) (m ((c : Thread nD τ).loc main_arg4))) :=
  (Pipeline.withArrays_arr _ arr_inj c _ _ 8).trans (final8 m c)

theorem w4 (c : Dev nD) : W m c (Proc.tc.devRef main_arg1) = (m ((c : Thread nD τ).loc main_arg1)) :=
  (Pipeline.withArrays_arr _ arr_inj c _ _ 4).trans ((Pipeline.Dat.arrAt_in _ _ rfl _).trans (V_main_arg1 m c))

theorem w5 (c : Dev nD) : W m c (Proc.tc.devRef main_arg2) = (m ((c : Thread nD τ).loc main_arg2)) :=
  (Pipeline.withArrays_arr _ arr_inj c _ _ 5).trans ((Pipeline.Dat.arrAt_in _ _ rfl _).trans (V_main_arg2 m c))

theorem tail_gain (c : Dev nD) : Pipeline.afterTail₀ cfgs (dats m) 0 (V0 m) [hostOps1] c main_v14 = dgain (m ((c : Thread nD τ).loc main_arg0)) (dhv (m ((c : Thread nD τ).loc main_arg6)) (m ((c : Thread nD τ).loc main_arg4))) (m ((c : Thread nD τ).loc main_arg2)) := by
  show StableHlo.after hostOps1 (W m c) (Proc.tc.devRef main_v14) = _
  unfold hostOps1
  after_results
  rw [w8 m c, w5 m c]
  funext i
  idx_vars i
  pointwise [dgain, sumSc]

theorem tail_scale (c : Dev nD) : Pipeline.afterTail₀ cfgs (dats m) 0 (V0 m) [hostOps1] c main_v15 = dscale (m ((c : Thread nD τ).loc main_arg0)) (dhv (m ((c : Thread nD τ).loc main_arg6)) (m ((c : Thread nD τ).loc main_arg4))) (m ((c : Thread nD τ).loc main_arg1)) := by
  show StableHlo.after hostOps1 (W m c) (Proc.tc.devRef main_v15) = _
  unfold hostOps1
  after_results
  rw [w8 m c, w4 m c]
  funext i
  idx_vars i
  pointwise [dscale, sumSc]

theorem tail_shift (c : Dev nD) : Pipeline.afterTail₀ cfgs (dats m) 0 (V0 m) [hostOps1] c main_v16 = dshift (dhv (m ((c : Thread nD τ).loc main_arg6)) (m ((c : Thread nD τ).loc main_arg4))) := by
  show StableHlo.after hostOps1 (W m c) (Proc.tc.devRef main_v16) = _
  unfold hostOps1
  after_results
  rw [w7 m c]
  funext i
  idx_vars i
  exact sumSh _ _ _

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v10_0) = dxin (m ((c : Thread nD τ).loc main_arg0)) (m ((c : Thread nD τ).loc main_arg5)) (dhv (m ((c : Thread nD τ).loc main_arg6)) (m ((c : Thread nD τ).loc main_arg4))) (m ((c : Thread nD τ).loc main_arg1)) (m ((c : Thread nD τ).loc main_arg2))
      ∧ r.2.mem ((c.tc : Thread nD τ).loc main_v14) = dgain (m ((c : Thread nD τ).loc main_arg0)) (dhv (m ((c : Thread nD τ).loc main_arg6)) (m ((c : Thread nD τ).loc main_arg4))) (m ((c : Thread nD τ).loc main_arg2))
      ∧ r.2.mem ((c.tc : Thread nD τ).loc main_v15) = dscale (m ((c : Thread nD τ).loc main_arg0)) (dhv (m ((c : Thread nD τ).loc main_arg6)) (m ((c : Thread nD τ).loc main_arg4))) (m ((c : Thread nD τ).loc main_arg1))
      ∧ r.2.mem ((c.tc : Thread nD τ).loc main_v16) = dshift (dhv (m ((c : Thread nD τ).loc main_arg6)) (m ((c : Thread nD τ).loc main_arg4))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) := by
  refine (θ_run defs _ _).mono (fun r h c => ⟨⟨?_, ?_, ?_, ?_⟩, h.2 c⟩) (θ_run_and (run_main m ρ) (unchanged m ρ))
  · exact ((h.1 c).1 6).trans (final6 m c)
  · exact ((h.1 c).2 main_v14 (by decide)).trans (tail_gain m c)
  · exact ((h.1 c).2 main_v15 (by decide)).trans (tail_scale m c)
  · exact ((h.1 c).2 main_v16 (by decide)).trans (tail_shift m c)

end Cert.ANormIdeal.Value

end
-- ==== Proof.ANormPure.lean ====
/- The reference `ANormRefIdeal` computes the same gradients, wherever the row, the norm's scale, the modulation's scale, the weight and
   the cotangent are finite: there all are real numbers, and the two ways to write the gradient of the norm agree. -/
module

public import proofs.«01_k».proof.Proof.ANormTail
public import proofs.«01_k».proof.Proof.Gen.ANormRefIdeal.Read

@[expose] public section

set_option maxRecDepth 16384

noncomputable section

namespace Cert.ANormIdeal.Pure

open Cert.ANormIdeal.Value Cert.ANormRefIdeal Cert.ANormRefIdeal.Read Cert.Reals Idealize.ShloMosaic
open Cert.Norm (rowRt rt refMs refDx refGain refScale dxin dgain dscale dshift)

theorem dot_eq (w : FVec Ideal S1024x3072 .f32) (dp : FVec Ideal S4096x3072 .f32) : val_main_v24 (F := Ideal) w dp = dhv dp w := by
  funext i
  idx_vars i
  pointwise [val_main_v24, dhv]

theorem dx_ref (x dx : FVec Ideal S4096x1024 .f32) (g sc : FVec Ideal S1x1024 .f32) (w : FVec Ideal S1024x3072 .f32) (dp : FVec Ideal S4096x3072 .f32) :
    val_main_v51 (F := Ideal) x g sc w dx dp = refDx x dx (dhv dp w) g sc := by
  rw [← dot_eq]
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_3, val_main_v15, val_main_v16, val_main_v30, val_main_v31, val_main_v35, val_main_v36, val_main_v37, val_main_cst_7, val_main_v38, val_main_v39, val_main_v40, val_main_v41, val_main_v42, val_main_v43, val_main_cst_8, val_main_v44, val_main_v45, val_main_cst_9, val_main_v46, val_main_v47, val_main_v48, val_main_v49, val_main_v50, val_main_v51, refDx, refMs, rt, rowRt]

theorem dgain_ref (x : FVec Ideal S4096x1024 .f32) (sc : FVec Ideal S1x1024 .f32) (w : FVec Ideal S1024x3072 .f32) (dp : FVec Ideal S4096x3072 .f32) :
    val_main_v34 (F := Ideal) x sc w dp = refGain x (dhv dp w) sc := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_cst_3, val_main_v15, val_main_v16, val_main_v30, val_main_v31, val_main_v32, val_main_cst_6, val_main_v33, val_main_v34, refGain, rt, rowRt]

theorem dscale_ref (x : FVec Ideal S4096x1024 .f32) (g : FVec Ideal S1x1024 .f32) (w : FVec Ideal S1024x3072 .f32) (dp : FVec Ideal S4096x3072 .f32) :
    val_main_v29 (F := Ideal) x g w dp = refScale x (dhv dp w) g := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_v13, val_main_v14, val_main_v27, val_main_cst_5, val_main_v28, val_main_v29, refScale, rt, rowRt]

theorem dshift_ref (w : FVec Ideal S1024x3072 .f32) (dp : FVec Ideal S4096x3072 .f32) : val_main_v26 (F := Ideal) w dp = dshift (dhv dp w) := by
  rw [← dot_eq]
  funext i
  idx_vars i
  pointwise [val_main_cst_4, val_main_v25, val_main_v26, dshift]

theorem dhv_real (dp : S4096x3072.Idx → ℝ) (w : S1024x3072.Idx → ℝ) :
    dhv (fun i => (dp i : EReal)) (fun i => (w i : EReal)) = fun i : S4096x1024.Idx => ((∑ k : Fin 3072, dp (ix2 (i 0) k) * w (ix2 (i 1) k) : ℝ) : EReal) := by
  funext i
  simp only [dhv, ← EReal.coe_mul, sum_real]

end Cert.ANormIdeal.Pure

end
-- ==== Proof.ANormClaim.lean ====
/- The claims about `ANorm`. -/
module

public import proofs.«01_k».proof.Defs
public import proofs.«01_k».proof.Proof.Gen.Pre_an_finite
public import proofs.«01_k».proof.Proof.ANormPure

@[expose] public section

set_option maxRecDepth 16384

noncomputable section

namespace Cert.ANormIdeal

open Cert.Reals Idealize.ShloMosaic Idealize.ShloMosaic.TcCoe Idealize.SL.Sem

theorem algebraic : Cert.algebraic_ANormIdeal_ANormRefIdeal_pre_an_finite (hANormIdeal := Cert.ANormIdeal.Gen.facts)
    (hANormRefIdeal := Cert.ANormRefIdeal.Gen.facts) (hPre_an_finite := Cert.Pre_an_finite.Gen.facts) := by
  pair_intro
  · run_from Cert.ANormIdeal.Value.run m g
  · refine θ_run_mono (Cert.ANormRefIdeal.Value.run m' g') fun r h c => ?_
    obtain ⟨h1, h2, h3, h4, ha⟩ := h c
    obtain ⟨e0, e1, e2, e3, e4, e5, e6⟩ := hagree c
    obtain ⟨f0, f1, f2, f4, f6⟩ := hpre c
    obtain ⟨x, hx⟩ := real_of_finite _ _ f0
    obtain ⟨gn, hg⟩ := real_of_finite _ _ f1
    obtain ⟨sc, hsc⟩ := real_of_finite _ _ f2
    obtain ⟨w, hw⟩ := real_of_finite _ _ f4
    obtain ⟨dp, hdp⟩ := real_of_finite _ _ f6
    refine ⟨h1.trans ?_, h2.trans ?_, h3.trans ?_, h4.trans ?_, ha⟩
    · rw [Cert.ANormRefIdeal.Read.val_main_v51_eq, e0, e1, e2, e4, e5, e6, Pure.dx_ref, hx, hg, hsc, hw, hdp, Pure.dhv_real]
      exact Cert.Norm.dx_eq x _ gn sc _
    · refine (Cert.ANormRefIdeal.Read.val_main_v34_eq _ _ _ _ ).trans ?_
      rw [e0, e2, e4, e6, Pure.dgain_ref, hx, hsc, hw, hdp, Pure.dhv_real]
      exact Cert.Norm.dgain_eq x _ sc
    · refine (Cert.ANormRefIdeal.Read.val_main_v29_eq _ _ _ _ ).trans ?_
      rw [e0, e1, e4, e6, Pure.dscale_ref, hx, hg, hw, hdp, Pure.dhv_real]
      exact Cert.Norm.dscale_eq x _ gn
    · refine (Cert.ANormRefIdeal.Read.val_main_v26_eq _ _ ).trans ?_
      rw [e4, e6]
      exact Pure.dshift_ref _ _

end Cert.ANormIdeal

end
-- ==== Proof.AStripPure.lean ====
/- What `AStripRefIdeal` computes, row by row. -/
module

public import proofs.«01_k».proof.Proof.Strip
public import proofs.«01_k».proof.Proof.Gen.AStripRefIdeal.Read
public import Idealize.ShloMosaic.Lib.Pointwise

@[expose] public section

set_option maxRecDepth 16384

noncomputable section

namespace Cert.AStripRefIdeal.Pure

open Cert.AStripRefIdeal Cert.AStripRefIdeal.Read Idealize.ShloMosaic Idealize.ShloMosaic.TcCoe
open Cert.Strip

variable (x : FVec Ideal S4096x3072 .f32) (w : FVec Ideal S3x1024 .f32) (z : FVec Ideal S4096x1024 .f32)

theorem prod_at (k n : ℕ) (hn : n < 4096) (e : k = n) (l : Fin 1024) :
    (fun r l => row x r (part3 1 (by decide) l) * row x r (part3 2 (by decide) l) : ℕ → Fin 1024 → EReal) k l
      = x (ix2 ⟨n, hn⟩ (part3 1 (by decide) l)) * x (ix2 ⟨n, hn⟩ (part3 2 (by decide) l)) := by
  subst e
  dsimp only
  rw [row, row, dif_pos hn, dif_pos hn]

theorem v5_at (n : Fin 4098) (l : Fin 1024) : val_main_v5 (F := Ideal) x (ix2 n l) = qpad x (n.val + 6) l := by
  pointwise [val_main_v0, val_main_v1, val_main_v2, val_main_v3, val_main_cst, val_main_v4, val_main_v5]
  unfold qpad later gc hv
  by_cases h : n.val < 2
  · rw [dif_pos h, if_pos (by omega)]
  · have hn : n.val - 2 < 4096 := by omega
    have e : n.val + 6 - 8 = n.val - 2 := by omega
    have k : ¬ n.val + 6 < 8 := by omega
    exact (dif_neg h).trans ((prod_at x _ _ hn e l).symm.trans (if_neg k).symm)

theorem v28_at (r : Fin 4096) (l : Fin 1024) : val_main_v28 (F := Ideal) x z (ix2 r l) = dval x z r.val l := by
  pointwise [val_main_v0, val_main_v28]
  unfold dval gb
  rw [row_lt, row_lt, mul_comm]
  congr 3
  exact Fin.ext (by simp [part3])

theorem dval_ge (n : ℕ) (h : 4096 ≤ n) (l : Fin 1024) : dval x z n l = 0 := by
  rw [dval, row_ge z n h, zero_mul]

theorem v57_at (r : Fin 4098) (hr : 2 ≤ r.val) (l : Fin 1024) :
    val_main_v57 (F := Ideal) x w z (ix2 r l) = back (tap w) (dval x z) (r.val - 2) l := by
  pointwise [val_main_v31, val_main_v40, val_main_v51, val_main_v7, val_main_v8, val_main_v10, val_main_v13, val_main_v14, val_main_v16, val_main_v20, val_main_v21, val_main_v23, val_main_v30, val_main_v39, val_main_v50, val_main_v36, val_main_v45, val_main_v46, val_main_v56, val_main_v57, val_main_cst_3, val_main_cst_7, val_main_cst_11, v28_at]
  unfold back
  have a1 : r.val - 2 + 1 = r.val - 1 := by omega
  have a2 : r.val - 2 + 2 = r.val := by omega
  rw [dif_pos ⟨hr, by omega⟩, a1, a2]
  refine congrArg₂ (· + ·) (congrArg₂ (· + ·) rfl ?_) ?_
  · by_cases h : r.val - 1 < 4096
    · rw [dif_pos ⟨by omega, h⟩]; rfl
    · rw [dif_neg (fun k => h k.2), dval_ge x z _ (by omega), mul_zero]
  · by_cases h : r.val < 4096
    · rw [dif_pos h]; rfl
    · rw [dif_neg h, dval_ge x z _ (by omega), mul_zero]

theorem v60_at (r : Fin 3) (l : Fin 1024) : val_main_v60 (F := Ideal) x z (ix2 r l) = taps x z (ix2 r l) := by
  pointwise [val_main_v9, val_main_v15, val_main_v22, val_main_v32, val_main_v33, val_main_v34, val_main_v35, val_main_v37, val_main_v38, val_main_v41, val_main_v42, val_main_v43, val_main_v44, val_main_v47, val_main_v48, val_main_v49, val_main_v52, val_main_v53, val_main_v54, val_main_v55, val_main_v58, val_main_v59, val_main_v60, v28_at, v5_at, val_main_cst_1, val_main_cst_2, val_main_cst_4, val_main_cst_5, val_main_cst_6, val_main_cst_8, val_main_cst_9, val_main_cst_10, val_main_cst_12]
  unfold taps
  dsimp only [ix2_0, ix2_1]
  match r with
  | 0 =>
    rw [dif_neg (by decide), dif_neg (by decide), dif_pos (by decide), add_zero, zero_add]
    simp
  | 1 =>
    rw [dif_neg (by decide), dif_pos (by decide), dif_neg (by decide), add_zero, zero_add]
    simp
    exact Finset.sum_congr rfl fun k _ => by rw [show 1 + k.val + 6 = k.val + 6 + 1 by omega]
  | 2 =>
    rw [dif_pos (by decide), dif_neg (by decide), dif_neg (by decide), add_zero, add_zero]
    simp
    exact Finset.sum_congr rfl fun k _ => by rw [show 2 + k.val + 6 = k.val + 6 + 2 by omega]

theorem r60 : val_main_v60 (F := Ideal) x z = taps x z := by
  funext i
  idx_vars i
  exact v60_at x z i0 i1

theorem v26_at (r : Fin 4096) (l : Fin 1024) : val_main_v26 (F := Ideal) x w (ix2 r l) = conv (tap w) (qpad x) r.val l := by
  pointwise [val_main_v7, val_main_v8, val_main_v10, val_main_v13, val_main_v14, val_main_v16, val_main_v20, val_main_v21, val_main_v23, val_main_v11, val_main_v12, val_main_v17, val_main_v18, val_main_v19, val_main_v24, val_main_v25, val_main_v26, val_main_v9, val_main_v15, val_main_v22, v5_at]
  unfold conv
  have a1 : 1 + r.val + 6 = r.val + 7 := by omega
  have a2 : 2 + r.val + 6 = r.val + 8 := by omega
  rw [a1, a2]
  rfl

theorem v62_at (r : Fin 4096) (l : Fin 1024) : val_main_v62 (F := Ideal) x w z (ix2 r l) = back (tap w) (dval x z) r.val l := by
  pointwise [val_main_v62]
  rw [v57_at x w z _ (by dsimp only; omega)]
  congr 1
  dsimp only
  omega

theorem r73 : val_main_v73 (F := Ideal) x w z = parts x w z := by
  funext i
  idx_vars i
  pointwise [val_main_v29, val_main_v63, val_main_v64, val_main_v65, val_main_v66, val_main_v67, val_main_v68, val_main_v69, val_main_v70, val_main_v71, val_main_v72, val_main_v73, val_main_v1, val_main_v2, v26_at, v62_at]
  unfold parts
  dsimp only [ix3_0, ix3_1, ix3_2]
  match i0 with
  | 0 =>
    rw [dif_pos (by decide)]
    refine Eq.trans ?_ (if_pos rfl).symm
    rw [row_lt]
  | 1 =>
    rw [dif_neg (by decide), dif_pos (by decide)]
    refine Eq.trans ?_ (Eq.trans (if_neg (by decide)) (if_pos rfl)).symm
    rw [hv, row_lt]
    rfl
  | 2 =>
    rw [dif_neg (by decide), dif_neg (by decide), dif_neg (by omega), dif_neg (by omega)]
    refine Eq.trans ?_ (Eq.trans (if_neg (by decide)) (if_neg (by decide))).symm
    refine Eq.trans ?_ (congrArg (back (tap w) (dval x z) i1.val i2 * ·) (row_lt x i1 _)).symm
    refine (mul_comm _ _).trans (congrArg₂ (· * ·) (congrArg (back (tap w) (dval x z) i1.val) (Fin.ext (by dsimp only; omega))) ?_)
    exact congrArg (fun k => x (ix2 i1 k)) (Fin.ext (by dsimp only [part3]; omega))

end Cert.AStripRefIdeal.Pure
-- ==== Proof.AStripLoop.lean ====
/- The loop of `AStripIdeal`: what its 64 trips leave in the strip and carry out. -/
module

public import proofs.«01_k».proof.Proof.Strip
public import proofs.«01_k».proof.Proof.Gen.AStripIdeal.Frame
public import Idealize.ShloMosaic.Lib.Pipeline.ValueKit
public import Idealize.ShloMosaic.Lib.Pointwise

@[expose] public section

set_option maxRecDepth 16384

noncomputable section

namespace Cert.AStripIdeal.Value

open Cert.AStripIdeal Cert.AStripIdeal.Gen Idealize.ShloMosaic Idealize.ShloMosaic.TcCoe Idealize.SL.Sem
open Cert.Strip

/-! ## The bodies, at rows -/

section
variable (q2 q1 q dv d1 d2 m : FVec Ideal S64x128 .f32) (w0 w1 w2 : FVec Ideal S1x128 .f32) (z : FVec Ideal S64x128 .bf16) (h : FVec Ideal S1x64x128 .bf16) (s : FVec Ideal S8x128 .f32)

theorem p5 (p : Fin 64) (l : Fin 128) : k0_pay5 (F := Ideal) q2 q1 q w0 w1 w2 z (ix3 0 p l)
    = z (ix2 p l) * (w0 (ix2 0 l) * q2 (ix2 p l) + w1 (ix2 0 l) * q1 (ix2 p l) + w2 (ix2 0 l) * q (ix2 p l)) := by
  pointwise [k0_pay5]

theorem p6 (p : Fin 64) (l : Fin 128) : k0_pay6 (F := Ideal) dv w2 (ix2 p l) = w2 (ix2 0 l) * dv (ix2 p l) := by
  pointwise [k0_pay6]

theorem p7 (p : Fin 64) (l : Fin 128) : k0_pay7 (F := Ideal) m w1 d1 w0 d2 (ix2 p l)
    = m (ix2 p l) + w1 (ix2 0 l) * d1 (ix2 p l) + w0 (ix2 0 l) * d2 (ix2 p l) := by
  pointwise [k0_pay7]

theorem p8 (p : Fin 64) (l : Fin 128) : k0_pay8 (F := Ideal) m w1 d1 w0 d2 h (ix3 0 p l)
    = (m (ix2 p l) + w1 (ix2 0 l) * d1 (ix2 p l) + w0 (ix2 0 l) * d2 (ix2 p l)) * h (ix3 0 p l) := by
  pointwise [k0_pay8, p7]

theorem p9 (p : Fin 64) (l : Fin 128) : k0_pay9 (F := Ideal) m w1 d1 w0 d2 h (ix3 0 p l)
    = (m (ix2 p l) + w1 (ix2 0 l) * d1 (ix2 p l) + w0 (ix2 0 l) * d2 (ix2 p l)) * h (ix3 0 p l) := by
  pointwise [k0_pay9, p7]

theorem p10 (p : Fin 8) (l : Fin 128) : k0_pay10 (F := Ideal) s q dv (ix2 p l)
    = s (ix2 p l) + ∑ k : Fin 8, dv (ix2 ⟨k.val * 8 + p.val, by omega⟩ l) * q (ix2 ⟨k.val * 8 + p.val, by omega⟩ l) := by
  pointwise [k0_pay10]

theorem p11 (p : Fin 8) (l : Fin 128) : k0_pay11 (F := Ideal) s q dv (ix2 p l)
    = s (ix2 p l) + ∑ k : Fin 8, dv (ix2 ⟨k.val * 8 + p.val, by omega⟩ l) * q (ix2 ⟨k.val * 8 + p.val, by omega⟩ l) := by
  pointwise [k0_pay11]

theorem p1 (p : Fin 8) (l : Fin 128) : k0_pay1 (F := Ideal) s q dv (ix2 p l)
    = s (ix2 p l) + ∑ k : Fin 8, dv (ix2 ⟨k.val * 8 + p.val, by omega⟩ l) * q (ix2 ⟨k.val * 8 + p.val, by omega⟩ l) := by
  pointwise [k0_pay1]

theorem p2 (l : Fin 128) : k0_pay2 (F := Ideal) s (ix2 0 l) = ∑ p : Fin 8, s (ix2 p l) := by
  pointwise [k0_pay2]

theorem p3 (l : Fin 128) : k0_pay3 (F := Ideal) s (ix2 0 l) = ∑ p : Fin 8, s (ix2 p l) := by
  pointwise [k0_pay3]

theorem p4 (l : Fin 128) : k0_pay4 (F := Ideal) s (ix2 0 l) = ∑ p : Fin 8, s (ix2 p l) := by
  pointwise [k0_pay4]

theorem p12 (p : Fin 8) (l : Fin 128) : k0_pay12 (F := Ideal) (ix2 p l) = 0 := by
  pointwise [k0_pay12]

theorem p14 (p : Fin 8) (l : Fin 128) : k0_pay14 (F := Ideal) (ix2 p l) = 0 := by
  pointwise [k0_pay14]

theorem p13 (a b : FVec Ideal S1x4096x128 .bf16) (p : Fin 4096) (l : Fin 128) :
    k0_pay13 (F := Ideal) a b (ix2 p l) = a (ix3 0 p l) * b (ix3 0 p l) := by
  pointwise [k0_pay13]

theorem p15 (a : FVec Ideal S4096x128 .bf16) (b : FVec Ideal S1x4096x128 .bf16) (p : Fin 4096) (l : Fin 128) :
    k0_pay15 (F := Ideal) a b (ix2 p l) = a (ix2 p l) * b (ix3 0 p l) := by
  pointwise [k0_pay15]

theorem p16 (p : Fin 8) (l : Fin 128) : k0_pay16 (F := Ideal) (ix2 p l) = 0 := by
  pointwise [k0_pay16]

end

theorem off1_6 : ∀ k : Fin k0_t1_loop.trips, k0_off1 k 6#32 = ![64 * k.val + 6, 0] := by decide +kernel
theorem off1_7 : ∀ k : Fin k0_t1_loop.trips, k0_off1 k 7#32 = ![64 * k.val + 7, 0] := by decide +kernel
theorem off1_8 : ∀ k : Fin k0_t1_loop.trips, k0_off1 k 8#32 = ![64 * k.val + 8, 0] := by decide +kernel
theorem off1_1 : ∀ k : Fin k0_t1_loop.trips, k0_off1 k 1#32 = ![64 * k.val + 1, 0] := by decide +kernel
theorem off1_2 : ∀ k : Fin k0_t1_loop.trips, k0_off1 k 2#32 = ![64 * k.val + 2, 0] := by decide +kernel

theorem trips_eq : k0_t1_loop.trips = 64 := by decide +kernel

section
variable (𝒱 : Variants) (c : Dev nD) (bd : Option 𝒱.V) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S4096x128 .bf16) (harg4 : arg4.IsWhole) (arg5 : Memref sig .tc .vmem S3x128 .f32) (harg5 : arg5.IsWhole) (arg6 : Memref sig .tc .vmem S3x4096x128 .bf16) (harg6 : arg6.IsWhole) (arg7 : Memref sig .tc .vmem S3x128 .f32) (harg7 : arg7.IsWhole) (arg8 : Memref sig .tc .vmem S4104x128 .f32) (harg8 : arg8.IsWhole) (arg9 : Memref sig .tc .vmem S4104x128 .f32) (harg9 : arg9.IsWhole) (c0_i32 : BitVec 32) (c1_i32 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (X_arg9 : BufTy.Contents (Elt Ideal) arg9.view.ty)
  (w : ℕ → Fin 128 → EReal) (q d g h z : ℕ → Fin 128 → EReal)
  (hc : ∀ (r : Fin 4096) (l : Fin 128), arg2.view.read (Elt Ideal) X_arg2 (ix3 0 r l) = g r.val l)
  (hh : ∀ (r : Fin 4096) (l : Fin 128), arg3.view.read (Elt Ideal) X_arg3 (ix3 0 r l) = h r.val l)
  (hz : ∀ (r : Fin 4096) (l : Fin 128), arg4.view.read (Elt Ideal) X_arg4 (ix2 r l) = z r.val l)
  (hw : ∀ (r : Fin 3) (l : Fin 128), arg5.view.read (Elt Ideal) X_arg5 (ix2 r l) = w r.val l)
  (hq : ∀ (r : Fin 4104) (l : Fin 128), arg8.view.read (Elt Ideal) X_arg8 (ix2 r l) = q r.val l)
  (hd : ∀ (r : Fin 4104) (l : Fin 128), arg9.view.read (Elt Ideal) X_arg9 (ix2 r l) = d r.val l)

include hc hh hz hw hq hd

/-- The carried sums after a trip. -/
theorem trip_sums (k : Fin k0_t1_loop.trips) (acc) (p : Fin 8) (l : Fin 128) :
    (tripR_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 k acc).1 (ix2 p l)
      = acc.1 (ix2 p l) + ∑ i : Fin 8, d (64 * k.val + (i.val * 8 + p.val)) l * q (64 * k.val + (i.val * 8 + p.val) + 6) l
    ∧ (tripR_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 k acc).2.1 (ix2 p l)
      = acc.2.1 (ix2 p l) + ∑ i : Fin 8, d (64 * k.val + (i.val * 8 + p.val)) l * q (64 * k.val + (i.val * 8 + p.val) + 7) l
    ∧ (tripR_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 k acc).2.2 (ix2 p l)
      = acc.2.2 (ix2 p l) + ∑ i : Fin 8, d (64 * k.val + (i.val * 8 + p.val)) l * q (64 * k.val + (i.val * 8 + p.val) + 8) l := by
  have hk : k.val < 64 := lt_of_lt_of_eq k.isLt trips_eq
  unfold tripR_k0_t1 trip_k0_t1
  dsimp only [trip_k0_t1.sl.r, trip_k0_t1.sl.r_1, trip_k0_t1.sl.r_2, trip_k0_t1.sl.r_3, trip_k0_t1.sl.r_5, trip_k0_t1.sl.r_6]
  rw [p10, p11, p1]
  refine ⟨?_, ?_, ?_⟩ <;> refine congrArg₂ (· + ·) rfl (Finset.sum_congr rfl fun i _ => ?_)
  · exact congrArg₂ (· * ·) (row_of hd (k0_off4_eq k) _ _ _ _ (by first | rfl | omega | (dsimp only; omega)) (by omega)) (row_of hq (off1_6 k) _ _ _ _ (by first | rfl | omega | (dsimp only; omega)) (by omega))
  · exact congrArg₂ (· * ·) (row_of hd (k0_off4_eq k) _ _ _ _ (by first | rfl | omega | (dsimp only; omega)) (by omega)) (row_of hq (off1_7 k) _ _ _ _ (by first | rfl | omega | (dsimp only; omega)) (by omega))
  · exact congrArg₂ (· * ·) (row_of hd (k0_off4_eq k) _ _ _ _ (by first | rfl | omega | (dsimp only; omega)) (by omega)) (row_of hq (off1_8 k) _ _ _ _ (by first | rfl | omega | (dsimp only; omega)) (by omega))

/-- The pieces of a trip. -/
theorem trip_pieces (k : Fin k0_t1_loop.trips) (acc) :
    ∀ p ∈ tripL_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 k acc, ∀ (s : Fin 3) (r : Fin 4096) (l : Fin 128) (x : p.1.shape.Idx), p.1.emb x = ix3 s r l →
      p.2 x = three w q d g h z s.val r.val l := by
  have hk : k.val < 64 := lt_of_lt_of_eq k.isLt trips_eq
  unfold tripL_k0_t1 trip_k0_t1
  dsimp only
  intro p hp s r l x hx
  simp only [List.mem_cons, List.not_mem_nil, or_false] at hp
  rcases hp with rfl | rfl | rfl <;> dsimp only at x hx ⊢ <;> idx_vars x <;> obtain rfl : x0 = 0 := Subsingleton.elim _ _
  · obtain ⟨e0, e1, rfl⟩ := piece_at 2 (64 * k.val) (k0_off7_eq k) _ s r l x1 x2 hx
    rw [p9, e0, e1]
    dsimp only [trip_k0_t1.sl.r_4, trip_k0_t1.sl.r_3]
    rw [p6]
    exact congrArg₂ (· * ·) (congrArg₂ (· + ·) (congrArg₂ (· + ·)
      (congrArg₂ (· * ·) (row_of hw (o := 2) rfl _ 0 _ 2 rfl (by decide)) (row_of hd (k0_off4_eq k) _ _ _ _ (by first | rfl | omega | (dsimp only; omega)) (by omega)))
      (congrArg₂ (· * ·) (row_of hw (o := 1) rfl _ 0 _ 1 rfl (by decide)) (row_of hd (off1_1 k) _ _ _ _ (by first | rfl | omega | (dsimp only; omega)) (by omega))))
      (congrArg₂ (· * ·) (row_of hw (o := 0) rfl _ 0 _ 0 rfl (by decide)) (row_of hd (off1_2 k) _ _ _ _ (by first | rfl | omega | (dsimp only; omega)) (by omega)))) (row3_of hc (k0_off5_eq k) _ _ _ _ (by first | rfl | omega | (dsimp only; omega)) (by omega))
  · obtain ⟨e0, e1, rfl⟩ := piece_at 1 (64 * k.val) (k0_off6_eq k) _ s r l x1 x2 hx
    rw [p8, e0, e1]
    dsimp only [trip_k0_t1.sl.r_4, trip_k0_t1.sl.r_3]
    rw [p6]
    exact congrArg₂ (· * ·) (congrArg₂ (· + ·) (congrArg₂ (· + ·)
      (congrArg₂ (· * ·) (row_of hw (o := 2) rfl _ 0 _ 2 rfl (by decide)) (row_of hd (k0_off4_eq k) _ _ _ _ (by first | rfl | omega | (dsimp only; omega)) (by omega)))
      (congrArg₂ (· * ·) (row_of hw (o := 1) rfl _ 0 _ 1 rfl (by decide)) (row_of hd (off1_1 k) _ _ _ _ (by first | rfl | omega | (dsimp only; omega)) (by omega))))
      (congrArg₂ (· * ·) (row_of hw (o := 0) rfl _ 0 _ 0 rfl (by decide)) (row_of hd (off1_2 k) _ _ _ _ (by first | rfl | omega | (dsimp only; omega)) (by omega)))) (row3_of hh (k0_off5_eq k) _ _ _ _ (by first | rfl | omega | (dsimp only; omega)) (by omega))
  · obtain ⟨e0, e1, rfl⟩ := piece_at 0 (64 * k.val) (k0_off3_eq k) _ s r l x1 x2 hx
    rw [p5, e0, e1]
    exact congrArg₂ (· * ·) (row_of hz (k0_off2_eq k) _ _ _ _ (by first | rfl | omega | (dsimp only; omega)) (by omega)) (congrArg₂ (· + ·) (congrArg₂ (· + ·)
      (congrArg₂ (· * ·) (row_of hw (o := 0) rfl _ 0 _ 0 rfl (by decide)) (row_of hq (off1_6 k) _ _ _ _ (by first | rfl | omega | (dsimp only; omega)) (by omega))) (congrArg₂ (· * ·) (row_of hw (o := 1) rfl _ 0 _ 1 rfl (by decide)) (row_of hq (off1_7 k) _ _ _ _ (by first | rfl | omega | (dsimp only; omega)) (by omega)))) (congrArg₂ (· * ·) (row_of hw (o := 2) rfl _ 0 _ 2 rfl (by decide)) (row_of hq (off1_8 k) _ _ _ _ (by first | rfl | omega | (dsimp only; omega)) (by omega))))

/-- The strip after all trips, element by element. -/
theorem strip_all (init) (hi : (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init 0).2 = []) (s : Fin 3) (r : Fin 4096) (l : Fin 128) :
    View.canon (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init 64).2 (ix3 s r l) = three w q d g h z s.val r.val l := by
  have mem := gathered (fun k => (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init k).2)
    (fun k => if hk : k < k0_t1_loop.trips then tripL_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 ⟨k, hk⟩ (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init k).1 else [])
    hi 64 fun k hk => by
      have hk' : k < k0_t1_loop.trips := lt_of_lt_of_eq hk trips_eq.symm
      rw [dif_pos hk']
      exact congrArg Prod.snd (st_k0_t1_succ (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init ⟨k, hk'⟩)
  refine View.canon_eq_of_allAt _ _ _ ?_ ?_
  · have hk : r.val / 64 < 64 := by omega
    have hk' : r.val / 64 < k0_t1_loop.trips := lt_of_lt_of_eq hk trips_eq.symm
    have hm : ∃ p ∈ tripL_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 ⟨r.val / 64, hk'⟩ (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 init (r.val / 64)).1, ix3 s r l ∈ p.1.set := by
      unfold tripL_k0_t1 trip_k0_t1
      dsimp only
      rcases (by omega : s.val = 0 ∨ s.val = 1 ∨ s.val = 2) with e | e | e
      · exact ⟨_, List.mem_cons_of_mem _ (List.mem_cons_of_mem _ List.mem_cons_self),
          piece_mem 0 (64 * (r.val / 64)) (k0_off3_eq _) (k0_off3_inb _) s r l e ⟨by omega, by omega⟩⟩
      · exact ⟨_, List.mem_cons_of_mem _ List.mem_cons_self, piece_mem 1 (64 * (r.val / 64)) (k0_off6_eq _) (k0_off6_inb _) s r l e ⟨by omega, by omega⟩⟩
      · exact ⟨_, List.mem_cons_self, piece_mem 2 (64 * (r.val / 64)) (k0_off7_eq _) (k0_off7_inb _) s r l e ⟨by omega, by omega⟩⟩
    obtain ⟨p, hp, hs⟩ := hm
    exact ⟨p, (mem p).mpr ⟨_, hk, by rw [dif_pos hk']; exact hp⟩, hs⟩
  · intro p hp x hx
    obtain ⟨k, hk, hp⟩ := (mem p).mp hp
    rw [dif_pos (lt_of_lt_of_eq hk trips_eq.symm)] at hp
    exact trip_pieces 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 w q d g h z hc hh hz hw hq hd ⟨k, _⟩ _ p hp s r l x hx

/-- The sums carried out of all trips, added over their eight rows. -/
theorem sums_all (l : Fin 128) :
    (∑ p : Fin 8, (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) 64).1.1 (ix2 p l) = ∑ r : Fin 4096, d r.val l * q (r.val + 6) l)
    ∧ (∑ p : Fin 8, (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) 64).1.2.1 (ix2 p l) = ∑ r : Fin 4096, d r.val l * q (r.val + 7) l)
    ∧ (∑ p : Fin 8, (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) 64).1.2.2 (ix2 p l) = ∑ r : Fin 4096, d r.val l * q (r.val + 8) l) := by
  have up : ∀ k (hk : k < 64), _ := fun k hk =>
    congrArg Prod.fst (st_k0_t1_succ (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) ⟨k, lt_of_lt_of_eq hk trips_eq.symm⟩)
  have step : ∀ k (hk : k < 64) (p : Fin 8), _ := fun k hk p =>
    trip_sums 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 w q d g h z hc hh hz hw hq hd ⟨k, lt_of_lt_of_eq hk trips_eq.symm⟩ (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) k).1 p l
  refine ⟨?_, ?_, ?_⟩
  · refine Eq.trans (Finset.sum_congr rfl fun p _ => ?_) (sum_rows fun r => d r l * q (r + 6) l)
    refine carried (fun k => (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) k).1.1 (ix2 p l)) _ (p16 p l) 64 fun k hk => ?_
    exact (congrFun (congrArg (fun x => x.1) (up k hk)) _).trans (step k hk p).1
  · refine Eq.trans (Finset.sum_congr rfl fun p _ => ?_) (sum_rows fun r => d r l * q (r + 7) l)
    refine carried (fun k => (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) k).1.2.1 (ix2 p l)) _ (p16 p l) 64 fun k hk => ?_
    exact (congrFun (congrArg (fun x => x.2.1) (up k hk)) _).trans (step k hk p).2.1
  · refine Eq.trans (Finset.sum_congr rfl fun p _ => ?_) (sum_rows fun r => d r l * q (r + 8) l)
    refine carried (fun k => (st_k0_t1 (F := Ideal) 𝒱 c bd i arg1 harg1 arg2 harg2 arg3 harg3 arg4 harg4 arg5 harg5 arg6 harg6 arg7 harg7 arg8 harg8 arg9 harg9 c0_i32 c1_i32 X_arg2 X_arg3 X_arg4 X_arg5 X_arg8 X_arg9 (k0_pay16, k0_pay16, k0_pay16) k).1.2.2 (ix2 p l)) _ (p16 p l) 64 fun k hk => ?_
    exact (congrFun (congrArg (fun x => x.2.2) (up k hk)) _).trans (step k hk p).2.2

end

end Cert.AStripIdeal.Value
-- ==== Proof.AStripValue.lean ====
/- What `AStripIdeal` leaves in its two results. -/
module

public import proofs.«01_k».proof.Proof.AStripLoop
public import proofs.«01_k».proof.Proof.Gen.AStripIdeal.Value
public import Idealize.ShloMosaic.Lib.Claim

@[expose] public section

set_option maxRecDepth 16384

noncomputable section

namespace Cert.AStripIdeal.Value

open Cert.AStripIdeal Cert.AStripIdeal.Gen Idealize.ShloMosaic Idealize.ShloMosaic.TcCoe Idealize.SL.Sem
open Cert.Strip

open Idealize.ShloMosaic.Pipeline (Dat)

theorem idx0 : ∀ t : Fin cfg0.N, win0_0.index t = ![0, 0, t.val] ∧ win0_1.index t = ![1, 0, t.val] ∧ win0_2.index t = ![2, 0, t.val] ∧ win0_3.index t = ![0, t.val]
    ∧ win0_4.index t = ![0, t.val] ∧ win0_5.index t = ![0, 0, t.val] ∧ win0_6.index t = ![0, t.val] :=
  (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

variable (m : (ℓ : Loc nD τ sig) → Buf (Elt Ideal) ℓ)

/-! ## The blocks -/

theorem host_v7_0 (c : Dev nD) (r : Fin 4096) (l : Fin 1024) :
    V m c main_v7 (ix3 0 r l) = m ((c : Thread nD τ).loc main_arg0) (ix2 r (part3 0 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem host_v7_1 (c : Dev nD) (r : Fin 4096) (l : Fin 1024) :
    V m c main_v7 (ix3 1 r l) = m ((c : Thread nD τ).loc main_arg0) (ix2 r (part3 1 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem host_v7_2 (c : Dev nD) (r : Fin 4096) (l : Fin 1024) :
    V m c main_v7 (ix3 2 r l) = m ((c : Thread nD τ).loc main_arg0) (ix2 r (part3 2 (by decide) l)) := by
  show StableHlo.after hostOps0 _ (Proc.tc.devRef main_v7) _ = _
  unfold hostOps0
  after_results
  pointwise []
  repeat (first | rw [StableHlo.unary_result] | rw [StableHlo.unary_result_ne _ _ _ _ _ _ (by decide)])
  pointwise []
  exact congrArg (fun k => m ((c : Thread nD τ).loc main_arg0) (ix2 r k)) (Fin.ext (by first | rfl | (dsimp only [part3]; omega)))

theorem host_v8 (c : Dev nD) (r : Fin 4096) (l : Fin 1024) : V m c main_v8 (ix2 r l) = m ((c : Thread nD τ).loc main_arg2) (ix2 r l) := by
  show StableHlo.after hostOps0 _ (Proc.tc.devRef main_v8) _ = _
  unfold hostOps0
  after_results
  pointwise []

theorem b0 (c : Dev nD) (t : Fin cfg0.N) (r : Fin 4096) (l : Fin 128) :
    iblk m c 0 t (ix3 0 r l) = gb (m ((c : Thread nD τ).loc main_arg0)) r.val (col t l) := by
  refine Eq.trans ?_ ((host_v7_0 m c r (col t l)).trans (row_lt _ _ _).symm)
  blk_point [iblk, idx0 t, col]

theorem b1 (c : Dev nD) (t : Fin cfg0.N) (r : Fin 4096) (l : Fin 128) :
    iblk m c 1 t (ix3 0 r l) = gc (m ((c : Thread nD τ).loc main_arg0)) r.val (col t l) := by
  refine Eq.trans ?_ ((host_v7_1 m c r (col t l)).trans (row_lt _ _ _).symm)
  blk_point [iblk, idx0 t, col]

theorem b2 (c : Dev nD) (t : Fin cfg0.N) (r : Fin 4096) (l : Fin 128) :
    iblk m c 2 t (ix3 0 r l) = hv (m ((c : Thread nD τ).loc main_arg0)) r.val (col t l) := by
  refine Eq.trans ?_ ((host_v7_2 m c r (col t l)).trans (row_lt _ _ _).symm)
  blk_point [iblk, idx0 t, col]

theorem b3 (c : Dev nD) (t : Fin cfg0.N) (r : Fin 4096) (l : Fin 128) :
    iblk m c 3 t (ix2 r l) = row (m ((c : Thread nD τ).loc main_arg2)) r.val (col t l) := by
  refine Eq.trans ?_ ((host_v8 m c r (col t l)).trans (row_lt _ _ _).symm)
  blk_point [iblk, idx0 t, col]

theorem b4 (c : Dev nD) (t : Fin cfg0.N) (r : Fin 3) (l : Fin 128) :
    iblk m c 4 t (ix2 r l) = tap (m ((c : Thread nD τ).loc main_arg1)) r.val (col t l) := by
  rw [tap, dif_pos r.isLt]
  refine Eq.trans ?_ (congrFun (V_main_arg1 m c) (ix2 r (col t l)))
  blk_point [iblk, idx0 t, col]

theorem emb5 (t : Fin cfg0.N) (s : Fin 3) (r : Fin 4096) (l : Fin 128) : ((cfg0.win 5).blk t).view.emb (ix3 s r l) = ix3 s r (col t l) := by
  blk_ext [idx0 t, col]

theorem emb6 (t : Fin cfg0.N) (s : Fin 3) (l : Fin 128) : ((cfg0.win 6).blk t).view.emb (ix2 s l) = ix2 s (col t l) := by
  blk_ext [idx0 t, col]

/-! ## The padded rows -/

/-- What the scratch rows and the blocks hold, read back. -/
theorem hc (c : Dev nD) (t : Fin cfg0.N) (r : Fin 4096) (l : Fin 128) :
    (ms0_1 t).view.read (Elt Ideal) ((hs0_1 t).unread (iblk m c 1 t)) (ix3 0 r l) = gc (m ((c : Thread nD τ).loc main_arg0)) r.val (col t l) := by
  rw [(hs0_1 t).read_unread]
  exact b1 m c t r l

theorem hb (c : Dev nD) (t : Fin cfg0.N) (r : Fin 4096) (l : Fin 128) :
    (ms0_0 t).view.read (Elt Ideal) ((hs0_0 t).unread (iblk m c 0 t)) (ix3 0 r l) = gb (m ((c : Thread nD τ).loc main_arg0)) r.val (col t l) := by
  rw [(hs0_0 t).read_unread]
  exact b0 m c t r l

theorem hh (c : Dev nD) (t : Fin cfg0.N) (r : Fin 4096) (l : Fin 128) :
    (ms0_2 t).view.read (Elt Ideal) ((hs0_2 t).unread (iblk m c 2 t)) (ix3 0 r l) = hv (m ((c : Thread nD τ).loc main_arg0)) r.val (col t l) := by
  rw [(hs0_2 t).read_unread]
  exact b2 m c t r l

theorem hz (c : Dev nD) (t : Fin cfg0.N) (r : Fin 4096) (l : Fin 128) :
    (ms0_3 t).view.read (Elt Ideal) ((hs0_3 t).unread (iblk m c 3 t)) (ix2 r l) = row (m ((c : Thread nD τ).loc main_arg2)) r.val (col t l) := by
  rw [(hs0_3 t).read_unread]
  exact b3 m c t r l

theorem hw (c : Dev nD) (t : Fin cfg0.N) (r : Fin 3) (l : Fin 128) :
    (ms0_4 t).view.read (Elt Ideal) ((hs0_4 t).unread (iblk m c 4 t)) (ix2 r l) = tap (m ((c : Thread nD τ).loc main_arg1)) r.val (col t l) := by
  rw [(hs0_4 t).read_unread]
  exact b4 m c t r l

/-- The rows of the convolution's input, as the first scratch holds them. -/
abbrev pad0 (c : Dev nD) (t : Fin cfg0.N) := (View.whole cc0_scratch0).writes (Elt Ideal) (View.whole cc0_scratch0).junk
  (kernelRun0_A.sl.HS0_2 (F := Ideal) c (ms0_1 t) (hs0_1 t) (ms0_2 t) (hs0_2 t) (iblk m c 1 t) (iblk m c 2 t))

/-- The rows of its value's gradient, as the second scratch holds them. -/
abbrev pad1 (c : Dev nD) (t : Fin cfg0.N) := (View.whole cc0_scratch1).writes (Elt Ideal) (View.whole cc0_scratch1).junk
  (kernelRun0_A.sl.HS1_2 (F := Ideal) c (ms0_0 t) (hs0_0 t) (ms0_3 t) (hs0_3 t) (iblk m c 0 t) (iblk m c 3 t))

theorem hq (c : Dev nD) (t : Fin cfg0.N) (r : Fin 4104) (l : Fin 128) :
    scM0_0.view.read (Elt Ideal) (pad0 m c t) (ix2 r l) = qpad (m ((c : Thread nD τ).loc main_arg0)) r.val (col t l) := by
  refine (congrFun (View.read_writes_junk_eq_canon _ _) _).trans ?_
  refine two_blocks (Val := Elt Ideal) (e := .f32) (n := 4096) (n' := 8) 8 0 _ _ _ _ (fun r l => qpad (m ((c : Thread nD τ).loc main_arg0)) r (col t l)) (fun p l => ?_) (fun p l => ?_) r l (by omega)
  · rw [p13]
    refine (congrArg₂ (· * ·) (row3_of (q := fun r l => gc (m ((c : Thread nD τ).loc main_arg0)) r (col t l)) (hc m c t) rfl _ p l p.val (Nat.zero_add _) p.isLt) (row3_of (q := fun r l => hv (m ((c : Thread nD τ).loc main_arg0)) r (col t l)) (hh m c t) rfl _ p l p.val (Nat.zero_add _) p.isLt)).trans ?_
    rw [qpad, later, if_neg (by omega), Nat.add_sub_cancel_left]
  · rw [p12, qpad, later, if_pos (by omega)]

theorem hd (c : Dev nD) (t : Fin cfg0.N) (r : Fin 4104) (l : Fin 128) :
    scM0_1.view.read (Elt Ideal) (pad1 m c t) (ix2 r l)
      = dval (m ((c : Thread nD τ).loc main_arg0)) (m ((c : Thread nD τ).loc main_arg2)) r.val (col t l) := by
  refine (congrFun (View.read_writes_junk_eq_canon _ _) _).trans ?_
  refine two_blocks (Val := Elt Ideal) (e := .f32) (n := 4096) (n' := 8) 0 4096 _ _ _ _ (fun r l => dval (m ((c : Thread nD τ).loc main_arg0)) (m ((c : Thread nD τ).loc main_arg2)) r (col t l))
    (fun p l => ?_) (fun p l => ?_) r l (by omega)
  · rw [p15]
    refine (congrArg₂ (· * ·) (row_of (q := fun r l => row (m ((c : Thread nD τ).loc main_arg2)) r (col t l)) (hz m c t) rfl _ p l p.val (Nat.zero_add _) p.isLt) (row3_of (q := fun r l => gb (m ((c : Thread nD τ).loc main_arg0)) r (col t l)) (hb m c t) rfl _ p l p.val (Nat.zero_add _) p.isLt)).trans ?_
    rw [dval, Nat.zero_add]
  · rw [p14, dval, row_ge _ _ (by omega), zero_mul]

/-! ## The results -/

theorem out5 (c : Dev nD) (t : Fin cfg0.N) (s : Fin 3) (r : Fin 4096) (l : Fin 128) : (outsAt0 m c t).1 (ix3 s r l)
    = parts (m ((c : Thread nD τ).loc main_arg0)) (m ((c : Thread nD τ).loc main_arg1)) (m ((c : Thread nD τ).loc main_arg2)) (ix3 s r (col t l)) := by
  unfold outsAt0 out0_A_5 out0_A_6 kernelRun0_A
  dsimp only
  rw [View.read_writes_junk_eq_canon]
  exact strip_all Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) 0#32 1#32 _ _ _ _ (pad0 m c t) (pad1 m c t)
    (fun k l => tap (m ((c : Thread nD τ).loc main_arg1)) k (col t l)) (fun k l => qpad (m ((c : Thread nD τ).loc main_arg0)) k (col t l))
    (fun k l => dval (m ((c : Thread nD τ).loc main_arg0)) (m ((c : Thread nD τ).loc main_arg2)) k (col t l))
    (fun k l => gc (m ((c : Thread nD τ).loc main_arg0)) k (col t l)) (fun k l => hv (m ((c : Thread nD τ).loc main_arg0)) k (col t l))
    (fun k l => row (m ((c : Thread nD τ).loc main_arg2)) k (col t l)) (hc m c t) (hh m c t) (hz m c t) (hw m c t) (hq m c t) (hd m c t) _ rfl s r l

theorem out6 (c : Dev nD) (t : Fin cfg0.N) (s : Fin 3) (l : Fin 128) : (outsAt0 m c t).2 (ix2 s l)
    = taps (m ((c : Thread nD τ).loc main_arg0)) (m ((c : Thread nD τ).loc main_arg2)) (ix2 s (col t l)) := by
  have e := sums_all Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) 0#32 1#32 ((hs0_1 t).unread (iblk m c 1 t)) ((hs0_2 t).unread (iblk m c 2 t)) ((hs0_3 t).unread (iblk m c 3 t)) ((hs0_4 t).unread (iblk m c 4 t)) (pad0 m c t) (pad1 m c t)
    (fun k l => tap (m ((c : Thread nD τ).loc main_arg1)) k (col t l)) (fun k l => qpad (m ((c : Thread nD τ).loc main_arg0)) k (col t l))
    (fun k l => dval (m ((c : Thread nD τ).loc main_arg0)) (m ((c : Thread nD τ).loc main_arg2)) k (col t l))
    (fun k l => gc (m ((c : Thread nD τ).loc main_arg0)) k (col t l)) (fun k l => hv (m ((c : Thread nD τ).loc main_arg0)) k (col t l))
    (fun k l => row (m ((c : Thread nD τ).loc main_arg2)) k (col t l)) (hc m c t) (hh m c t) (hz m c t) (hw m c t) (hq m c t) (hd m c t) l
  unfold outsAt0 out0_A_5 out0_A_6 kernelRun0_A
  dsimp only
  rw [View.read_writes_junk_eq_canon]
  refine View.canon_eq_of_allAt _ _ _ ?_ ?_
  · rcases (by omega : s.val = 0 ∨ s.val = 1 ∨ s.val = 2) with e | e | e
    · exact ⟨_, List.mem_cons_of_mem _ (List.mem_cons_of_mem _ List.mem_cons_self), piece2_mem 0 rfl inb_S3x128_S1x128_0_0 s l ⟨by omega, by omega⟩⟩
    · exact ⟨_, List.mem_cons_of_mem _ List.mem_cons_self, piece2_mem 1 rfl inb_S3x128_S1x128_1_0 s l ⟨by omega, by omega⟩⟩
    · exact ⟨_, List.mem_cons_self, piece2_mem 2 rfl inb_S3x128_S1x128_2_0 s l ⟨by omega, by omega⟩⟩
  · intro p hp x hx
    simp only [List.mem_cons, List.not_mem_nil, or_false] at hp
    rcases hp with rfl | rfl | rfl <;> dsimp only at x hx ⊢ <;> idx_vars x <;> obtain rfl : x0 = 0 := Subsingleton.elim _ _
    · obtain ⟨e0, rfl⟩ := piece2_at 2 rfl _ s l 0 x1 hx
      obtain rfl : s = 2 := Fin.ext e0
      exact (p4 _ x1).trans e.2.2
    · obtain ⟨e0, rfl⟩ := piece2_at 1 rfl _ s l 0 x1 hx
      obtain rfl : s = 1 := Fin.ext e0
      exact (p3 _ x1).trans e.2.1
    · obtain ⟨e0, rfl⟩ := piece2_at 0 rfl _ s l 0 x1 hx
      obtain rfl : s = 0 := Fin.ext e0
      exact (p2 _ x1).trans e.1

theorem res5 (c : Dev nD) : (dats m 0 c).arrAt 5 cfg0.N
    = parts (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  rw [out5, emb5]

theorem res6 (c : Dev nD) : (dats m 0 c).arrAt 6 cfg0.N = taps (m ((c : Thread nD τ).loc main_arg0)) (m ((c : Thread nD τ).loc main_arg2)) := by
  refine (dats m 0 c).arrAt_eq_of_covers 6 _ (by decide +kernel) fun t _ y => ?_
  blk_simp
  rw [after0_6]
  idx_vars y
  rw [out6, emb6]

theorem run_parts (ρ : Dev nD → PrngReg) : θ_run defs (onTc (τ := τ) (main (F := Ideal))) ⟨m, fun _ => 0, ρ⟩ fun r => ∀ c : Dev nD,
    r.2.mem ((c.tc : Thread nD τ).loc main_v9_0)
        = parts (m ((c.tc : Thread nD τ).loc main_arg0)) (m ((c.tc : Thread nD τ).loc main_arg1)) (m ((c.tc : Thread nD τ).loc main_arg2))
      ∧ r.2.mem ((c.tc : Thread nD τ).loc main_v9_1) = taps (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res5 m c), (h c).2.1.trans (res6 m c), (h c).2.2⟩) (run_blocks m ρ)

end Cert.AStripIdeal.Value
-- ==== Proof.AStripClaim.lean ====
/- The claims about `AStrip`. -/
module

public import proofs.«01_k».proof.Defs
public import proofs.«01_k».proof.Proof.AStripPure
public import proofs.«01_k».proof.Proof.AStripValue

@[expose] public section

set_option maxRecDepth 16384

noncomputable section

namespace Cert.AStripIdeal

open Idealize.ShloMosaic Idealize.ShloMosaic.TcCoe Idealize.SL.Sem

theorem algebraic : Cert.algebraic_AStripIdeal_AStripRefIdeal (hAStripIdeal := Cert.AStripIdeal.Gen.facts)
    (hAStripRefIdeal := Cert.AStripRefIdeal.Gen.facts) := by
  pair_intro
  · run_from Cert.AStripIdeal.Value.run_parts m g
  · refine (θ_run _ _ _).mono ?_ (Cert.AStripRefIdeal.Value.run m' g')
    intro r h c
    obtain ⟨h1, h2, ha⟩ := h c
    obtain ⟨e0, e1, e2⟩ := hagree c
    refine ⟨h1.trans ?_, h2.trans ?_, ha⟩
    · rw [Cert.AStripRefIdeal.Read.val_main_v73_eq, e0, e1, e2, Cert.AStripRefIdeal.Pure.r73] <;> rfl
    · refine (Cert.AStripRefIdeal.Read.val_main_v60_eq _ _).trans ?_
      rw [e0, e2, Cert.AStripRefIdeal.Pure.r60] <;> rfl

end Cert.AStripIdeal

end
-- ==== Proof.AdamRule.lean ====
/- One step of the optimiser, entry by entry: both moments, and the change of the weight. -/
module

public import Idealize.ShloMosaic.Lib.Pipeline.ValueKit
public import Idealize.ShloMosaic.Lib.Pointwise

@[expose] public section

noncomputable section

namespace Cert.AdamRule

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight: both moments with their bias taken out, and the decay of the weight. -/
def change (g w m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.AdamRule

end
-- ==== Proof.AdaUpdateValue.lean ====
/- The gradient of the modulation's weight and the optimiser's step on it: what `AdaUpdateIdeal` leaves in its results. -/
module

public import proofs.«01_k».proof.Proof.AdamRule
public import proofs.«01_k».proof.Proof.Gen.AdaUpdateIdeal.Value
public import Idealize.ShloMosaic.Lib.Claim

@[expose] public section

set_option maxRecDepth 16384

noncomputable section

namespace Cert.AdaUpdateIdeal.Value

open Cert.AdaUpdateIdeal Cert.AdaUpdateIdeal.Gen Cert.AdamRule Idealize.ShloMosaic Idealize.ShloMosaic.TcCoe Idealize.SL.Sem
open Idealize.ShloMosaic.Pipeline (Dat)

theorem idx : ∀ t : Fin cfg0.N, win0_0.index t = ![0, t.val % 4] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

theorem t_lt (t : Fin cfg0.N) : t.val < 16 := lt_of_lt_of_eq t.isLt (by decide +kernel)

/-- The layer of tile `t`, and its row `r`. -/
abbrev layer (t : Fin cfg0.N) : Fin 4 := ⟨t.val / 4, by have := t_lt t; omega⟩
abbrev row (t : Fin cfg0.N) (r : Fin 256) : Fin 1024 := ⟨256 * (t.val % 4) + r.val, by omega⟩

section
variable (a : FVec Ideal S8x256 .f32) (d : FVec Ideal S1x8x1536 .f32) (w n v : FVec Ideal S1x256x1536 .f32)

theorem p_grad (r : Fin 256) (l : Fin 1536) : k0_pay5 (F := Ideal) a d (ix2 r l) = ∑ b : Fin 8, a (ix2 b r) * d (ix3 0 b l) := by
  pointwise [k0_pay5]

theorem p_first (r : Fin 256) (l : Fin 1536) :
    k0_pay6 (F := Ideal) a d n (ix2 r l) = first (∑ b : Fin 8, a (ix2 b r) * d (ix3 0 b l)) (n (ix3 0 r l)) := by
  pointwise [k0_pay6, p_grad, first]

theorem p_second (r : Fin 256) (l : Fin 1536) :
    k0_pay7 (F := Ideal) a d v (ix2 r l) = second (∑ b : Fin 8, a (ix2 b r) * d (ix3 0 b l)) (v (ix3 0 r l)) := by
  pointwise [k0_pay7, p_grad, second]

theorem o_grad (o : Fin 1) (r : Fin 256) (l : Fin 1536) :
    k0_pay1 (F := Ideal) (k0_pay5 (F := Ideal) a d) (ix3 o r l) = ∑ b : Fin 8, a (ix2 b r) * d (ix3 0 b l) := by
  pointwise [k0_pay1, p_grad]

theorem o_change (o : Fin 1) (r : Fin 256) (l : Fin 1536) :
    k0_pay2 (F := Ideal) (k0_pay8 (F := Ideal) a d w n v) (Scalar.ofBits .f32 0xBA83126F#32) (ix3 o r l)
      = change (∑ b : Fin 8, a (ix2 b r) * d (ix3 0 b l)) (w (ix3 0 r l)) (n (ix3 0 r l)) (v (ix3 0 r l)) := by
  pointwise [k0_pay2, k0_pay8, p_first, p_second, change]

theorem o_first (o : Fin 1) (r : Fin 256) (l : Fin 1536) :
    k0_pay3 (F := Ideal) (k0_pay6 (F := Ideal) a d n) (ix3 o r l) = first (∑ b : Fin 8, a (ix2 b r) * d (ix3 0 b l)) (n (ix3 0 r l)) := by
  pointwise [k0_pay3, p_first]

theorem o_second (o : Fin 1) (r : Fin 256) (l : Fin 1536) :
    k0_pay4 (F := Ideal) (k0_pay7 (F := Ideal) a d v) (ix3 o r l) = second (∑ b : Fin 8, a (ix2 b r) * d (ix3 0 b l)) (v (ix3 0 r l)) := by
  pointwise [k0_pay4, p_second]

end

/-- The gradient of the weight: a sum over the eight rows. -/
def grad (a : FVec Ideal S8x1024 .f32) (d : FVec Ideal S4x8x1536 .f32) (i : S4x1024x1536.Idx) : EReal :=
  ∑ b : Fin 8, a (ix2 b (i 1)) * d (ix3 (i 0) b (i 2))

variable (m : (ℓ : Loc nD τ sig) → Buf (Elt Ideal) ℓ) (c : Dev nD)

/-- The arguments. -/
abbrev aA : FVec Ideal S8x1024 .f32 := m ((c : Thread nD τ).loc main_arg0)
abbrev aD : FVec Ideal S4x8x1536 .f32 := m ((c : Thread nD τ).loc main_arg1)
abbrev aW : FVec Ideal S4x1024x1536 .f32 := m ((c : Thread nD τ).loc main_arg2)
abbrev aM : FVec Ideal S4x1024x1536 .f32 := m ((c : Thread nD τ).loc main_arg3)
abbrev aV : FVec Ideal S4x1024x1536 .f32 := m ((c : Thread nD τ).loc main_arg4)

variable (t : Fin cfg0.N)

theorem b0 (b : Fin 8) (r : Fin 256) : iblk m c 0 t (ix2 b r) = aA m c (ix2 b (row t r)) := by
  blk_point [iblk, V, idx t]

theorem b1 (o : Fin 1) (b : Fin 8) (l : Fin 1536) : iblk m c 1 t (ix3 o b l) = aD m c (ix3 (layer t) b l) := by
  blk_point [iblk, V, idx t]

theorem b2 (o : Fin 1) (r : Fin 256) (l : Fin 1536) : iblk m c 2 t (ix3 o r l) = aW m c (ix3 (layer t) (row t r) l) := by
  blk_point [iblk, V, idx t]

theorem b3 (o : Fin 1) (r : Fin 256) (l : Fin 1536) : iblk m c 3 t (ix3 o r l) = aM m c (ix3 (layer t) (row t r) l) := by
  blk_point [iblk, V, idx t]

theorem b4 (o : Fin 1) (r : Fin 256) (l : Fin 1536) : iblk m c 4 t (ix3 o r l) = aV m c (ix3 (layer t) (row t r) l) := by
  blk_point [iblk, V, idx t]

theorem grad_at (a : FVec Ideal S8x256 .f32) (d : FVec Ideal S1x8x1536 .f32) (r : Fin 256) (l : Fin 1536)
    (ha : ∀ b : Fin 8, a (ix2 b r) = aA m c (ix2 b (row t r))) (hd : ∀ b : Fin 8, d (ix3 0 b l) = aD m c (ix3 (layer t) b l)) :
    ∑ b : Fin 8, a (ix2 b r) * d (ix3 0 b l) = grad (aA m c) (aD m c) (ix3 (layer t) (row t r) l) :=
  Finset.sum_congr rfl fun b _ => congrArg₂ (α := EReal) (β := EReal) (γ := EReal) (· * ·) (ha b) (hd b)

theorem embG (o : Fin 1) (r : Fin 256) (l : Fin 1536) : ((cfg0.win 5).blk t).view.emb (ix3 o r l) = ix3 (layer t) (row t r) l := by
  blk_ext [idx t]

theorem embD (o : Fin 1) (r : Fin 256) (l : Fin 1536) : ((cfg0.win 6).blk t).view.emb (ix3 o r l) = ix3 (layer t) (row t r) l := by
  blk_ext [idx t]

theorem embM (o : Fin 1) (r : Fin 256) (l : Fin 1536) : ((cfg0.win 7).blk t).view.emb (ix3 o r l) = ix3 (layer t) (row t r) l := by
  blk_ext [idx t]

theorem embS (o : Fin 1) (r : Fin 256) (l : Fin 1536) : ((cfg0.win 8).blk t).view.emb (ix3 o r l) = ix3 (layer t) (row t r) l := by
  blk_ext [idx t]

omit t

theorem finalG : (dats m 0 c).arrAt 5 cfg0.N = grad (aA m c) (aD m c) := by
  refine (dats m 0 c).arrAt_eq_of_covers 5 _ (by decide +kernel) fun t _ y => ?_
  blk_simp
  rw [after0_5]; frame_out
  idx_vars y
  rw [o_grad, grad_at m c t _ _ _ _ (fun b => b0 m c t b _) (fun b => b1 m c t 0 b _), embG]

theorem finalD : (dats m 0 c).arrAt 6 cfg0.N = (fun i => change (grad (aA m c) (aD m c) i) (aW m c i) (aM m c i) (aV m c i)) := by
  refine (dats m 0 c).arrAt_eq_of_covers 6 _ (by decide +kernel) fun t _ y => ?_
  blk_simp
  rw [after0_6]; frame_out
  idx_vars y
  rw [o_change, grad_at m c t _ _ _ _ (fun b => b0 m c t b _) (fun b => b1 m c t 0 b _), b2, b3, b4, embD]

theorem finalM : (dats m 0 c).arrAt 7 cfg0.N = (fun i => first (grad (aA m c) (aD m c) i) (aM m c i)) := by
  refine (dats m 0 c).arrAt_eq_of_covers 7 _ (by decide +kernel) fun t _ y => ?_
  blk_simp
  rw [after0_7]; frame_out
  idx_vars y
  rw [o_first, grad_at m c t _ _ _ _ (fun b => b0 m c t b _) (fun b => b1 m c t 0 b _), b3, embM]

theorem finalS : (dats m 0 c).arrAt 8 cfg0.N = (fun i => second (grad (aA m c) (aD m c) i) (aV m c i)) := by
  refine (dats m 0 c).arrAt_eq_of_covers 8 _ (by decide +kernel) fun t _ y => ?_
  blk_simp
  rw [after0_8]; frame_out
  idx_vars y
  rw [o_second, grad_at m c t _ _ _ _ (fun b => b0 m c t b _) (fun b => b1 m c t 0 b _), b4, embS]

omit c

theorem run_parts (ρ : Dev nD → PrngReg) : θ_run defs (onTc (τ := τ) (main (F := Ideal))) ⟨m, fun _ => 0, ρ⟩ fun r => ∀ c : Dev nD,
    r.2.mem ((c.tc : Thread nD τ).loc main_v0_0) = grad (aA m c) (aD m c)
    ∧ r.2.mem ((c.tc : Thread nD τ).loc main_v0_1) = (fun i => change (grad (aA m c) (aD m c) i) (aW m c i) (aM m c i) (aV m c i))
    ∧ r.2.mem ((c.tc : Thread nD τ).loc main_v0_2) = (fun i => first (grad (aA m c) (aD m c) i) (aM m c i))
    ∧ r.2.mem ((c.tc : Thread nD τ).loc main_v0_3) = (fun i => second (grad (aA m c) (aD m c) i) (aV m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (finalG m c), (h c).2.1.trans (finalD m c), (h c).2.2.1.trans (finalM m c),
    (h c).2.2.2.1.trans (finalS m c), (h c).2.2.2.2⟩) (run_blocks m ρ)

end Cert.AdaUpdateIdeal.Value

end
-- ==== Proof.AdaUpdateClaim.lean ====
/- `AdaUpdateRef` read entry by entry, and the claim about `AdaUpdate`. -/
module

public import proofs.«01_k».proof.Defs
public import proofs.«01_k».proof.Proof.AdaUpdateValue
public import proofs.«01_k».proof.Proof.Gen.AdaUpdateRefIdeal.Run
public import proofs.«01_k».proof.Proof.Gen.AdaUpdateRefIdeal.Read
public import Idealize.ShloMosaic.Lib.Claim

@[expose] public section

set_option maxRecDepth 16384

noncomputable section

namespace Cert.AdaUpdateRefIdeal.Pure
open Cert.AdaUpdateRefIdeal Cert.AdaUpdateRefIdeal.Gen Cert.AdaUpdateRefIdeal.Read Cert.AdamRule Idealize.ShloMosaic

variable (a : FVec Ideal S8x1024 .f32) (d : FVec Ideal S4x8x1536 .f32) (w n v : FVec Ideal S4x1024x1536 .f32)

theorem grad_at (i) : val_main_v4 (F := Ideal) a d i = Cert.AdaUpdateIdeal.Value.grad a d i := by
  idx_vars i
  pointwise [val_main_v2, val_main_v3, val_main_v4, Cert.AdaUpdateIdeal.Value.grad]
  exact Finset.sum_congr rfl fun b _ => mul_comm _ _

theorem first_at (i) : val_main_v9 (F := Ideal) a d n i = first (Cert.AdaUpdateIdeal.Value.grad a d i) (n i) := by
  idx_vars i
  pointwise [first, grad_at, val_main_cst, val_main_v5, val_main_v6, val_main_cst_0, val_main_v7, val_main_v8, val_main_v9]

theorem second_at (i) : val_main_v15 (F := Ideal) a d v i = second (Cert.AdaUpdateIdeal.Value.grad a d i) (v i) := by
  idx_vars i
  pointwise [second, grad_at, val_main_cst_1, val_main_v10, val_main_v11, val_main_cst_2, val_main_v12, val_main_v13, val_main_v14, val_main_v15]

theorem change_at (i) : val_main_v28 (F := Ideal) a d w n v i = change (Cert.AdaUpdateIdeal.Value.grad a d i) (w i) (n i) (v i) := by
  idx_vars i
  pointwise [change, first_at, second_at, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]

end Cert.AdaUpdateRefIdeal.Pure

namespace Cert.AdaUpdateIdeal

open Cert.AdamRule Idealize.ShloMosaic Idealize.ShloMosaic.TcCoe Idealize.SL.Sem

theorem algebraic : Cert.algebraic_AdaUpdateIdeal_AdaUpdateRefIdeal (hAdaUpdateIdeal := Cert.AdaUpdateIdeal.Gen.facts) (hAdaUpdateRefIdeal := Cert.AdaUpdateRefIdeal.Gen.facts) := by
  pair_intro
  · run_from Cert.AdaUpdateIdeal.Value.run_parts m g
  · refine θ_run_mono (Cert.AdaUpdateRefIdeal.Value.run m' g') fun r h c => ?_
    obtain ⟨h1, h2, h3, h4, ha⟩ := h c
    obtain ⟨e0, e1, e2, e3, e4⟩ := hagree c
    refine ⟨h1.trans ?_, h2.trans ?_, h3.trans ?_, h4.trans ?_, ha⟩
    · refine (Cert.AdaUpdateRefIdeal.Read.val_main_v4_eq _ _).trans ?_
      rw [e0, e1]
      exact funext (Cert.AdaUpdateRefIdeal.Pure.grad_at _ _)
    · refine (Cert.AdaUpdateRefIdeal.Read.val_main_v28_eq _ _ _ _ _).trans ?_
      rw [e0, e1, e2, e3, e4]
      exact funext (Cert.AdaUpdateRefIdeal.Pure.change_at _ _ _ _ _)
    · refine (Cert.AdaUpdateRefIdeal.Read.val_main_v9_eq _ _ _).trans ?_
      rw [e0, e1, e3]
      exact funext (Cert.AdaUpdateRefIdeal.Pure.first_at _ _ _)
    · refine (Cert.AdaUpdateRefIdeal.Read.val_main_v15_eq _ _ _).trans ?_
      rw [e0, e1, e4]
      exact funext (Cert.AdaUpdateRefIdeal.Pure.second_at _ _ _)

end Cert.AdaUpdateIdeal

end
-- ==== Proof.AdamClaim.lean ====
/- The optimiser's step on the small weights: `Adam` leaves what `AdamRef` computes. -/
module

public import proofs.«01_k».proof.Defs
public import proofs.«01_k».proof.Proof.AdamRule
public import proofs.«01_k».proof.Proof.Gen.AdamIdeal.Value
public import proofs.«01_k».proof.Proof.Gen.AdamRefIdeal.Run
public import proofs.«01_k».proof.Proof.Gen.AdamRefIdeal.Read
public import Idealize.ShloMosaic.Lib.Claim

@[expose] public section

set_option maxRecDepth 16384

noncomputable section

namespace Cert.AdamRefIdeal.Pure
open Cert.AdamRefIdeal Cert.AdamRefIdeal.Gen Cert.AdamRefIdeal.Read Cert.AdamRule Idealize.ShloMosaic

variable (g w m v : FVec Ideal S80x1024 .f32)

theorem first_at (r : Fin 80) (l : Fin 1024) : val_main_v4 (F := Ideal) g m (ix2 r l) = first (g (ix2 r l)) (m (ix2 r l)) := by
  pointwise [first, val_main_cst, val_main_v0, val_main_v1, val_main_cst_0, val_main_v2, val_main_v3, val_main_v4]

theorem second_at (r : Fin 80) (l : Fin 1024) : val_main_v10 (F := Ideal) g v (ix2 r l) = second (g (ix2 r l)) (v (ix2 r l)) := by
  pointwise [second, val_main_cst_1, val_main_v5, val_main_v6, val_main_v7, val_main_cst_2, val_main_v8, val_main_v9, val_main_v10]

theorem change_at (r : Fin 80) (l : Fin 1024) :
    val_main_v23 (F := Ideal) g w m v (ix2 r l) = change (g (ix2 r l)) (w (ix2 r l)) (m (ix2 r l)) (v (ix2 r l)) := by
  pointwise [change, first_at, second_at, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

end Cert.AdamRefIdeal.Pure

namespace Cert.AdamIdeal

open Cert.AdamRule Idealize.ShloMosaic Idealize.ShloMosaic.TcCoe Idealize.SL.Sem

theorem algebraic : Cert.algebraic_AdamIdeal_AdamRefIdeal (hAdamIdeal := Cert.AdamIdeal.Gen.facts) (hAdamRefIdeal := Cert.AdamRefIdeal.Gen.facts) := by
  pair_intro
  · run_from Cert.AdamIdeal.Value.run m g
  · refine θ_run_mono (Cert.AdamRefIdeal.Value.run m' g') fun r h c => ?_
    obtain ⟨h1, h2, h3, ha⟩ := h c
    obtain ⟨e0, e1, e2, e3⟩ := hagree c
    refine ⟨h1.trans ?_, h2.trans ?_, h3.trans ?_, ha⟩
    · refine (Cert.AdamRefIdeal.Read.val_main_v23_eq _ _ _ _).trans ?_
      rw [e0, e1, e2, e3]
      funext i
      idx_vars i
      exact Cert.AdamRefIdeal.Pure.change_at _ _ _ _ _ _
    · refine (Cert.AdamRefIdeal.Read.val_main_v4_eq _ _).trans ?_
      rw [e0, e2]
      funext i
      idx_vars i
      exact Cert.AdamRefIdeal.Pure.first_at _ _ _ _
    · refine (Cert.AdamRefIdeal.Read.val_main_v10_eq _ _).trans ?_
      rw [e0, e3]
      funext i
      idx_vars i
      exact Cert.AdamRefIdeal.Pure.second_at _ _ _ _

end Cert.AdamIdeal

end
-- ==== Proof.AdamLayersValue.lean ====
/- The optimiser's step on a weight of four layers, whose gradients come one by one: what `AdamLayersIdeal` leaves in its results. -/
module

public import proofs.«01_k».proof.Proof.AdamRule
public import proofs.«01_k».proof.Proof.Gen.AdamLayersIdeal.Value
public import Idealize.ShloMosaic.Lib.Claim

@[expose] public section

set_option maxRecDepth 16384

noncomputable section

namespace Cert.AdamLayersIdeal.Value

open Cert.AdamLayersIdeal Cert.AdamLayersIdeal.Gen Cert.AdamRule Idealize.ShloMosaic Idealize.ShloMosaic.TcCoe Idealize.SL.Sem
open Idealize.ShloMosaic.Pipeline (Dat)

theorem idx : ∀ t : Fin cfg0.N, win0_0.index t = ![if t.val / 4 = 0 then t.val % 4 else 0, 0] ∧ win0_1.index t = ![if t.val / 4 = 1 then t.val % 4 else 0, 0] ∧ win0_2.index t = ![if t.val / 4 = 2 then t.val % 4 else 0, 0] ∧ win0_3.index t = ![if t.val / 4 = 3 then t.val % 4 else 0, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, t.val % 4, 0] :=
  (by decide +kernel : ∀ t : Fin grid0.N, _)

theorem t_lt (t : Fin cfg0.N) : t.val < 16 := lt_of_lt_of_eq t.isLt (by decide +kernel)

/-- The layer of tile `t`, and its row `r`. -/
abbrev layer (t : Fin cfg0.N) : Fin 4 := ⟨t.val / 4, by have := t_lt t; omega⟩
abbrev row (t : Fin cfg0.N) (r : Fin 256) : Fin 1024 := ⟨256 * (t.val % 4) + r.val, by omega⟩

/-- The three tests of a tile's layer. -/
theorem tests : ∀ t : Fin cfg0.N,
    (Scalar.cmpi .eq (BitVec.ofNat 32 (grid0.coords t 0).val) 1#32 = if t.val / 4 = 1 then 1#1 else 0#1)
    ∧ (Scalar.cmpi .eq (BitVec.ofNat 32 (grid0.coords t 0).val) 2#32 = if t.val / 4 = 2 then 1#1 else 0#1)
    ∧ (Scalar.cmpi .eq (BitVec.ofNat 32 (grid0.coords t 0).val) 3#32 = if t.val / 4 = 3 then 1#1 else 0#1) :=
  (by decide +kernel : ∀ t : Fin grid0.N, _)

/-- The one of four that belongs to layer `q`. -/
def pick {α : Type} (q : Fin 4) (x0 x1 x2 x3 : α) : α :=
  if q.val = 3 then x3 else if q.val = 2 then x2 else if q.val = 1 then x1 else x0

section
variable (t : Fin cfg0.N) (g0 g1 g2 g3 : FVec Ideal S256x1408 .f32) (w n v : FVec Ideal S1x256x1408 .f32)

theorem p_grad : k0_pay5 (F := Ideal) (grid0.coords t) g0 g1 g2 g3 = pick (layer t) g0 g1 g2 g3 := by
  obtain ⟨h1, h2, h3⟩ := tests t
  unfold k0_pay5
  simp only [h1, h2, h3, pick, Scalar.select]
  split_ifs <;> first | rfl | omega | simp_all

theorem o_grad (o : Fin 1) (r : Fin 256) (l : Fin 1408) :
    k0_pay1 (F := Ideal) (k0_pay5 (F := Ideal) (grid0.coords t) g0 g1 g2 g3) (ix3 o r l) = pick (layer t) g0 g1 g2 g3 (ix2 r l) := by
  rw [p_grad]
  generalize pick (layer t) g0 g1 g2 g3 = g
  pointwise [k0_pay1]

theorem p_first (r : Fin 256) (l : Fin 1408) : k0_pay7 (F := Ideal) (grid0.coords t) g0 g1 g2 g3 n (ix2 r l)
    = first (pick (layer t) g0 g1 g2 g3 (ix2 r l)) (n (ix3 0 r l)) := by
  unfold k0_pay7
  rw [p_grad]
  generalize pick (layer t) g0 g1 g2 g3 = g
  pointwise [first]

theorem p_second (r : Fin 256) (l : Fin 1408) : k0_pay8 (F := Ideal) (grid0.coords t) g0 g1 g2 g3 v (ix2 r l)
    = second (pick (layer t) g0 g1 g2 g3 (ix2 r l)) (v (ix3 0 r l)) := by
  unfold k0_pay8
  rw [p_grad]
  generalize pick (layer t) g0 g1 g2 g3 = g
  pointwise [second]

theorem o_change (o : Fin 1) (r : Fin 256) (l : Fin 1408) :
    k0_pay2 (F := Ideal) (k0_pay6 (F := Ideal) w) (k0_pay9 (F := Ideal) (grid0.coords t) g0 g1 g2 g3 n)
        (k0_pay10 (F := Ideal) (grid0.coords t) g0 g1 g2 g3 v) (ix3 o r l)
      = change (pick (layer t) g0 g1 g2 g3 (ix2 r l)) (w (ix3 0 r l)) (n (ix3 0 r l)) (v (ix3 0 r l)) := by
  have h1 := p_first t g0 g1 g2 g3 n r l
  have h2 := p_second t g0 g1 g2 g3 v r l
  unfold k0_pay9 k0_pay10
  generalize k0_pay7 (F := Ideal) (grid0.coords t) g0 g1 g2 g3 n = f at h1 ⊢
  generalize k0_pay8 (F := Ideal) (grid0.coords t) g0 g1 g2 g3 v = s at h2 ⊢
  pointwise [k0_pay2, k0_pay6, change, h1, h2]

theorem o_first (o : Fin 1) (r : Fin 256) (l : Fin 1408) : k0_pay3 (F := Ideal) (k0_pay7 (F := Ideal) (grid0.coords t) g0 g1 g2 g3 n) (ix3 o r l)
    = first (pick (layer t) g0 g1 g2 g3 (ix2 r l)) (n (ix3 0 r l)) := by
  pointwise [k0_pay3, p_first]

theorem o_second (o : Fin 1) (r : Fin 256) (l : Fin 1408) : k0_pay4 (F := Ideal) (k0_pay8 (F := Ideal) (grid0.coords t) g0 g1 g2 g3 v) (ix3 o r l)
    = second (pick (layer t) g0 g1 g2 g3 (ix2 r l)) (v (ix3 0 r l)) := by
  pointwise [k0_pay4, p_second]

end

/-- The layers' gradients as one array. -/
def stack (g0 g1 g2 g3 : FVec Ideal S1024x1408 .f32) (i : S4x1024x1408.Idx) : EReal := pick (i 0) g0 g1 g2 g3 (ix2 (i 1) (i 2))

variable (m : (ℓ : Loc nD τ sig) → Buf (Elt Ideal) ℓ) (c : Dev nD)

/-- The arguments. -/
abbrev aG0 : FVec Ideal S1024x1408 .f32 := m ((c : Thread nD τ).loc main_arg0)
abbrev aG1 : FVec Ideal S1024x1408 .f32 := m ((c : Thread nD τ).loc main_arg1)
abbrev aG2 : FVec Ideal S1024x1408 .f32 := m ((c : Thread nD τ).loc main_arg2)
abbrev aG3 : FVec Ideal S1024x1408 .f32 := m ((c : Thread nD τ).loc main_arg3)
abbrev aW : FVec Ideal S4x1024x1408 .f32 := m ((c : Thread nD τ).loc main_arg4)
abbrev aM : FVec Ideal S4x1024x1408 .f32 := m ((c : Thread nD τ).loc main_arg5)
abbrev aV : FVec Ideal S4x1024x1408 .f32 := m ((c : Thread nD τ).loc main_arg6)

/-- The stacked gradient. -/
abbrev aG : S4x1024x1408.Idx → EReal := stack (aG0 m c) (aG1 m c) (aG2 m c) (aG3 m c)

variable (t : Fin cfg0.N)

theorem g0 (h : t.val / 4 = 0) (r : Fin 256) (l : Fin 1408) : iblk m c 0 t (ix2 r l) = aG0 m c (ix2 (row t r) l) := by
  have hi : win0_0.index t = ![t.val % 4, 0] := (idx t).1.trans (by rw [if_pos h])
  blk_point [iblk, V, hi]

theorem g1 (h : t.val / 4 = 1) (r : Fin 256) (l : Fin 1408) : iblk m c 1 t (ix2 r l) = aG1 m c (ix2 (row t r) l) := by
  have hi : win0_1.index t = ![t.val % 4, 0] := (idx t).2.1.trans (by rw [if_pos h])
  blk_point [iblk, V, hi]

theorem g2 (h : t.val / 4 = 2) (r : Fin 256) (l : Fin 1408) : iblk m c 2 t (ix2 r l) = aG2 m c (ix2 (row t r) l) := by
  have hi : win0_2.index t = ![t.val % 4, 0] := (idx t).2.2.1.trans (by rw [if_pos h])
  blk_point [iblk, V, hi]

theorem g3 (h : t.val / 4 = 3) (r : Fin 256) (l : Fin 1408) : iblk m c 3 t (ix2 r l) = aG3 m c (ix2 (row t r) l) := by
  have hi : win0_3.index t = ![t.val % 4, 0] := (idx t).2.2.2.1.trans (by rw [if_pos h])
  blk_point [iblk, V, hi]

theorem b4 (o : Fin 1) (r : Fin 256) (l : Fin 1408) : iblk m c 4 t (ix3 o r l) = aW m c (ix3 (layer t) (row t r) l) := by
  blk_point [iblk, V, idx t]

theorem b5 (o : Fin 1) (r : Fin 256) (l : Fin 1408) : iblk m c 5 t (ix3 o r l) = aM m c (ix3 (layer t) (row t r) l) := by
  blk_point [iblk, V, idx t]

theorem b6 (o : Fin 1) (r : Fin 256) (l : Fin 1408) : iblk m c 6 t (ix3 o r l) = aV m c (ix3 (layer t) (row t r) l) := by
  blk_point [iblk, V, idx t]

theorem grad_at (r : Fin 256) (l : Fin 1408) :
    pick (layer t) (iblk m c 0 t) (iblk m c 1 t) (iblk m c 2 t) (iblk m c 3 t) (ix2 r l) = aG m c (ix3 (layer t) (row t r) l) := by
  have ht := t_lt t
  show pick (layer t) (iblk m c 0 t) (iblk m c 1 t) (iblk m c 2 t) (iblk m c 3 t) (ix2 r l)
    = pick (layer t) (aG0 m c) (aG1 m c) (aG2 m c) (aG3 m c) (ix2 (row t r) l)
  unfold pick
  by_cases h3 : (layer t).val = 3
  · rw [if_pos h3, if_pos h3]; exact g3 m c t h3 r l
  rw [if_neg h3, if_neg h3]
  by_cases h2 : (layer t).val = 2
  · rw [if_pos h2, if_pos h2]; exact g2 m c t h2 r l
  rw [if_neg h2, if_neg h2]
  by_cases h1 : (layer t).val = 1
  · rw [if_pos h1, if_pos h1]; exact g1 m c t h1 r l
  rw [if_neg h1, if_neg h1]
  exact g0 m c t (by simp only at h1 h2 h3; omega) r l

theorem embG (o : Fin 1) (r : Fin 256) (l : Fin 1408) : ((cfg0.win 7).blk t).view.emb (ix3 o r l) = ix3 (layer t) (row t r) l := by
  blk_ext [idx t]

theorem embD (o : Fin 1) (r : Fin 256) (l : Fin 1408) : ((cfg0.win 8).blk t).view.emb (ix3 o r l) = ix3 (layer t) (row t r) l := by
  blk_ext [idx t]

theorem embM (o : Fin 1) (r : Fin 256) (l : Fin 1408) : ((cfg0.win 9).blk t).view.emb (ix3 o r l) = ix3 (layer t) (row t r) l := by
  blk_ext [idx t]

theorem embS (o : Fin 1) (r : Fin 256) (l : Fin 1408) : ((cfg0.win 10).blk t).view.emb (ix3 o r l) = ix3 (layer t) (row t r) l := by
  blk_ext [idx t]

omit t

theorem finalG : (dats m 0 c).arrAt 7 cfg0.N = aG m c := by
  refine (dats m 0 c).arrAt_eq_of_covers 7 _ (by decide +kernel) fun t _ y => ?_
  blk_simp
  rw [after0_7]; frame_out
  idx_vars y
  rw [o_grad, grad_at, embG]

theorem finalD : (dats m 0 c).arrAt 8 cfg0.N = (fun i => change (aG m c i) (aW m c i) (aM m c i) (aV m c i)) := by
  refine (dats m 0 c).arrAt_eq_of_covers 8 _ (by decide +kernel) fun t _ y => ?_
  blk_simp
  rw [after0_8]; frame_out
  idx_vars y
  rw [o_change, grad_at, b4, b5, b6, embD]

theorem finalM : (dats m 0 c).arrAt 9 cfg0.N = (fun i => first (aG m c i) (aM m c i)) := by
  refine (dats m 0 c).arrAt_eq_of_covers 9 _ (by decide +kernel) fun t _ y => ?_
  blk_simp
  rw [after0_9]; frame_out
  idx_vars y
  rw [o_first, grad_at, b5, embM]

theorem finalS : (dats m 0 c).arrAt 10 cfg0.N = (fun i => second (aG m c i) (aV m c i)) := by
  refine (dats m 0 c).arrAt_eq_of_covers 10 _ (by decide +kernel) fun t _ y => ?_
  blk_simp
  rw [after0_10]; frame_out
  idx_vars y
  rw [o_second, grad_at, b6, embS]

omit c

theorem run_parts (ρ : Dev nD → PrngReg) : θ_run defs (onTc (τ := τ) (main (F := Ideal))) ⟨m, fun _ => 0, ρ⟩ fun r => ∀ c : Dev nD,
    r.2.mem ((c.tc : Thread nD τ).loc main_v0_0) = aG m c
    ∧ r.2.mem ((c.tc : Thread nD τ).loc main_v0_1) = (fun i => change (aG m c i) (aW m c i) (aM m c i) (aV m c i))
    ∧ r.2.mem ((c.tc : Thread nD τ).loc main_v0_2) = (fun i => first (aG m c i) (aM m c i))
    ∧ r.2.mem ((c.tc : Thread nD τ).loc main_v0_3) = (fun i => second (aG m c i) (aV m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => ⟨(h c).1.trans (finalG m c), (h c).2.1.trans (finalD m c), (h c).2.2.1.trans (finalM m c),
    (h c).2.2.2.1.trans (finalS m c), (h c).2.2.2.2⟩) (run_blocks m ρ)

end Cert.AdamLayersIdeal.Value

end
-- ==== Proof.AdamLayersClaim.lean ====
/- `AdamLayersRef` read entry by entry, and the claim about `AdamLayers`. -/
module

public import proofs.«01_k».proof.Defs
public import proofs.«01_k».proof.Proof.AdamLayersValue
public import proofs.«01_k».proof.Proof.Gen.AdamLayersRefIdeal.Run
public import proofs.«01_k».proof.Proof.Gen.AdamLayersRefIdeal.Read
public import Idealize.ShloMosaic.Lib.Claim

@[expose] public section

set_option maxRecDepth 16384

noncomputable section

namespace Cert.AdamLayersRefIdeal.Pure
open Cert.AdamLayersRefIdeal Cert.AdamLayersRefIdeal.Gen Cert.AdamLayersRefIdeal.Read Cert.AdamRule Idealize.ShloMosaic

variable (g0 g1 g2 g3 : FVec Ideal S1024x1408 .f32) (w n v : FVec Ideal S4x1024x1408 .f32)

theorem grad_at (i) : val_main_v4 (F := Ideal) g0 g1 g2 g3 i = Cert.AdamLayersIdeal.Value.stack g0 g1 g2 g3 i := by
  idx_vars i
  unfold val_main_v4
  concat_tiles x h
  all_goals
    idx_vars x
    obtain rfl : x1 = i1 := Fin.ext h1
    obtain rfl : x2 = i2 := Fin.ext h2
  · obtain rfl : i0 = 0 := Fin.ext h
    change _ = g0 (ix2 x1 x2)
    pointwise [val_main_v0]
  · obtain rfl : i0 = 1 := Fin.ext h
    change _ = g1 (ix2 x1 x2)
    pointwise [val_main_v1]
  · obtain rfl : i0 = 2 := Fin.ext h
    change _ = g2 (ix2 x1 x2)
    pointwise [val_main_v2]
  · obtain rfl : i0 = 3 := Fin.ext h
    change _ = g3 (ix2 x1 x2)
    pointwise [val_main_v3]

theorem first_at (i) : val_main_v9 (F := Ideal) g0 g1 g2 g3 n i = first (Cert.AdamLayersIdeal.Value.stack g0 g1 g2 g3 i) (n i) := by
  idx_vars i
  pointwise [first, grad_at, val_main_cst, val_main_v5, val_main_v6, val_main_cst_0, val_main_v7, val_main_v8, val_main_v9]

theorem second_at (i) : val_main_v15 (F := Ideal) g0 g1 g2 g3 v i = second (Cert.AdamLayersIdeal.Value.stack g0 g1 g2 g3 i) (v i) := by
  idx_vars i
  pointwise [second, grad_at, val_main_cst_1, val_main_v10, val_main_v11, val_main_cst_2, val_main_v12, val_main_v13, val_main_v14, val_main_v15]

theorem change_at (i) : val_main_v28 (F := Ideal) g0 g1 g2 g3 w n v i = change (Cert.AdamLayersIdeal.Value.stack g0 g1 g2 g3 i) (w i) (n i) (v i) := by
  idx_vars i
  pointwise [change, first_at, second_at, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]

end Cert.AdamLayersRefIdeal.Pure

namespace Cert.AdamLayersIdeal

open Cert.AdamRule Idealize.ShloMosaic Idealize.ShloMosaic.TcCoe Idealize.SL.Sem

theorem algebraic : Cert.algebraic_AdamLayersIdeal_AdamLayersRefIdeal (hAdamLayersIdeal := Cert.AdamLayersIdeal.Gen.facts) (hAdamLayersRefIdeal := Cert.AdamLayersRefIdeal.Gen.facts) := by
  pair_intro
  · run_from Cert.AdamLayersIdeal.Value.run_parts m g
  · refine θ_run_mono (Cert.AdamLayersRefIdeal.Value.run m' g') fun r h c => ?_
    obtain ⟨h1, h2, h3, h4, ha⟩ := h c
    obtain ⟨e0, e1, e2, e3, e4, e5, e6⟩ := hagree c
    refine ⟨h1.trans ?_, h2.trans ?_, h3.trans ?_, h4.trans ?_, ha⟩
    · refine (Cert.AdamLayersRefIdeal.Read.val_main_v4_eq _ _ _ _).trans ?_
      rw [e0, e1, e2, e3]
      exact funext (Cert.AdamLayersRefIdeal.Pure.grad_at _ _ _ _)
    · refine (Cert.AdamLayersRefIdeal.Read.val_main_v28_eq _ _ _ _ _ _ _).trans ?_
      rw [e0, e1, e2, e3, e4, e5, e6]
      exact funext (Cert.AdamLayersRefIdeal.Pure.change_at _ _ _ _ _ _ _)
    · refine (Cert.AdamLayersRefIdeal.Read.val_main_v9_eq _ _ _ _ _).trans ?_
      rw [e0, e1, e2, e3, e5]
      exact funext (Cert.AdamLayersRefIdeal.Pure.first_at _ _ _ _ _)
    · refine (Cert.AdamLayersRefIdeal.Read.val_main_v15_eq _ _ _ _ _).trans ?_
      rw [e0, e1, e2, e3, e6]
      exact funext (Cert.AdamLayersRefIdeal.Pure.second_at _ _ _ _ _)

end Cert.AdamLayersIdeal

end
-- ==== Proof.StripLong.lean ====
/- The gradients of a gated linear unit before a causal convolution of 31 taps, over rows. -/
module

public import proofs.«01_k».proof.Proof.Strip

@[expose] public section

noncomputable section

namespace Cert.Strip

open Idealize.ShloMosaic

/-- `a + f 0 + f 1 + … + f (n - 1)`, added from the left. -/
def upTo {M : Type} [Add M] (a : M) (f : ℕ → M) : ℕ → M
  | 0 => a
  | n + 1 => upTo a f n + f n

theorem upTo_eq {M : Type} [AddCommMonoid M] (a : M) (f : ℕ → M) : ∀ n : ℕ, upTo a f n = a + ∑ k ∈ Finset.range n, f k
  | 0 => by rw [Finset.sum_range_zero, add_zero, upTo]
  | n + 1 => by rw [Finset.sum_range_succ, upTo, upTo_eq a f n, add_assoc]

section
variable {C : ℕ} (w d a g : ℕ → Fin C → EReal)

/-- The gradient of the long convolution's input at a row, as the kernel adds it up. -/
def longBack (r : ℕ) (l : Fin C) : EReal := upTo (w 30 l * d r l) (fun k => w k l * d (r + (30 - k)) l) 30

/-- The same as one sum over the taps. -/
theorem longBack_eq (r : ℕ) (l : Fin C) : longBack w d r l = ∑ k : Fin 31, w k.val l * d (r + (30 - k.val)) l := by
  rw [longBack, upTo_eq, Fin.sum_univ_eq_sum_range (fun k => w k l * d (r + (30 - k)) l) 31, Finset.sum_range_succ _ 30, add_comm]
  rfl

/-- The gradients of the unit's two halves at a row. -/
def half (s : ℕ) (r : ℕ) (l : Fin C) : EReal :=
  if s = 0 then longBack w d r l * Ideal.logistic (g r l)
  else longBack w d r l * a r l * (Ideal.logistic (g r l) * (1 - Ideal.logistic (g r l)))

end

/-- Column `l` of half `s` of two. -/
def part2 (s : ℕ) (hs : s < 2) (l : Fin 1024) : Fin 2048 := ⟨1024 * s + l.val, by omega⟩

section
variable (X : (⟨2, ![4096, 2048]⟩ : Shape).Idx → EReal) (B : (⟨2, ![1, 2048]⟩ : Shape).Idx → EReal)
  (W : (⟨2, ![31, 1024]⟩ : Shape).Idx → EReal) (Z : (⟨2, ![4096, 1024]⟩ : Shape).Idx → EReal)

/-- The unit's input: the projection with its bias. -/
def biased (i : (⟨2, ![4096, 2048]⟩ : Shape).Idx) : EReal := X i + B (ix2 0 (i 1))

def val (r : ℕ) (l : Fin 1024) : EReal := row (biased X B) r (part2 0 (by decide) l)
def gate (r : ℕ) (l : Fin 1024) : EReal := row (biased X B) r (part2 1 (by decide) l)
def tap31 (k : ℕ) (l : Fin 1024) : EReal := if h : k < 31 then W (ix2 ⟨k, h⟩ l) else 0

/-- The convolution's input, 32 rows later. -/
def upad : ℕ → Fin 1024 → EReal := later 32 fun r l => val X B r l * Ideal.logistic (gate X B r l)

/-- The gradients of the two halves. -/
def halves (i : (⟨3, ![2, 4096, 1024]⟩ : Shape).Idx) : EReal :=
  half (tap31 W) (row Z) (val X B) (gate X B) (i 0).val (i 1).val (i 2)

/-- The gradients of the taps. -/
def taps31 (i : (⟨2, ![31, 1024]⟩ : Shape).Idx) : EReal := ∑ r : Fin 4096, row Z r.val (i 1) * upad X B (r.val + 2 + (i 0).val) (i 1)

/-- The gradients of the bias, half by half. -/
def biases (i : (⟨2, ![2, 1024]⟩ : Shape).Idx) : EReal := ∑ r : Fin 4096, halves X B W Z (ix3 (i 0) r (i 1))

end

end Cert.Strip
-- ==== Proof.LongForward.lean ====
/- A causal convolution of 31 taps with its bias, over rows. -/
module

public import proofs.«01_k».proof.Proof.StripLong

@[expose] public section

noncomputable section

namespace Cert.Strip

/-- The convolution of the rows `q` (32 rows later) at a row, bias and last tap first. -/
def longConv {C : ℕ} (w q : ℕ → Fin C → EReal) (b : Fin C → EReal) (r : ℕ) (l : Fin C) : EReal :=
  upTo (b l + w 30 l * q (r + 32) l) (fun k => w k l * q (r + (2 + k)) l) 30

/-- The same as the sum over the taps, plus the bias. -/
theorem longConv_eq {C : ℕ} (w q : ℕ → Fin C → EReal) (b : Fin C → EReal) (r : ℕ) (l : Fin C) :
    longConv w q b r l = ∑ k : Fin 31, w k.val l * q (r + 2 + k.val) l + b l := by
  rw [longConv, upTo_eq, Fin.sum_univ_eq_sum_range (fun k => w k l * q (r + 2 + k) l) 31, Finset.sum_range_succ _ 30, add_comm (b l), add_assoc,
    add_comm (b l), ← add_assoc, add_comm (w 30 l * _)]
  simp only [Nat.add_assoc]

/-- The gated unit of `X + B` convolved with the taps `W`, plus the bias `V`. -/
def unitConv (X : (⟨2, ![4096, 2048]⟩ : Idealize.ShloMosaic.Shape).Idx → EReal) (B : (⟨2, ![1, 2048]⟩ : Idealize.ShloMosaic.Shape).Idx → EReal)
    (W : (⟨2, ![31, 1024]⟩ : Idealize.ShloMosaic.Shape).Idx → EReal) (V : (⟨2, ![1, 1024]⟩ : Idealize.ShloMosaic.Shape).Idx → EReal)
    (i : (⟨2, ![4096, 1024]⟩ : Idealize.ShloMosaic.Shape).Idx) : EReal :=
  longConv (tap31 W) (upad X B) (fun l => V (Idealize.ShloMosaic.ix2 0 l)) (i 0).val (i 1)

end Cert.Strip
-- ==== Proof.BConvLoop.lean ====
/- The loop of `BConvIdeal`: 31 taps over chunks of 64 rows. -/
module

public import proofs.«01_k».proof.Proof.LongForward
public import proofs.«01_k».proof.Proof.Gen.BConvIdeal.Frame
public import Idealize.ShloMosaic.Lib.Pipeline.ValueKit
public import Idealize.ShloMosaic.Lib.Pointwise

@[expose] public section

set_option maxRecDepth 16384

noncomputable section

namespace Cert.BConvIdeal.Value

open Cert.BConvIdeal Cert.BConvIdeal.Gen Idealize.ShloMosaic Idealize.ShloMosaic.TcCoe Idealize.SL.Sem
open Cert.Strip

section
variable (v x0 x1 x2 x3 x4 x5 : FVec Ideal S64x128 .f32) (b w0 w1 w2 w3 w4 w5 : FVec Ideal S1x128 .f32)

theorem p4 (p : Fin 64) (l : Fin 128) : k0_pay4 (F := Ideal) b w0 x0 w1 x1 w2 x2 w3 x3 (ix2 p l)
    = b (ix2 0 l) + w0 (ix2 0 l) * x0 (ix2 p l) + w1 (ix2 0 l) * x1 (ix2 p l) + w2 (ix2 0 l) * x2 (ix2 p l) + w3 (ix2 0 l) * x3 (ix2 p l) := by
  pointwise [k0_pay4]

theorem p3 (p : Fin 64) (l : Fin 128) : k0_pay3 (F := Ideal) v w0 x0 w1 x1 w2 x2 w3 x3 w4 x4 (ix2 p l)
    = v (ix2 p l) + w0 (ix2 0 l) * x0 (ix2 p l) + w1 (ix2 0 l) * x1 (ix2 p l) + w2 (ix2 0 l) * x2 (ix2 p l) + w3 (ix2 0 l) * x3 (ix2 p l) + w4 (ix2 0 l) * x4 (ix2 p l) := by
  pointwise [k0_pay3]

theorem p5 (p : Fin 64) (l : Fin 128) : k0_pay5 (F := Ideal) v w0 x0 w1 x1 w2 x2 w3 x3 w4 x4 w5 x5 (ix2 p l)
    = v (ix2 p l) + w0 (ix2 0 l) * x0 (ix2 p l) + w1 (ix2 0 l) * x1 (ix2 p l) + w2 (ix2 0 l) * x2 (ix2 p l) + w3 (ix2 0 l) * x3 (ix2 p l) + w4 (ix2 0 l) * x4 (ix2 p l) + w5 (ix2 0 l) * x5 (ix2 p l) := by
  pointwise [k0_pay5]

/-- The other bodies have the text of the last two. -/
theorem alike : @k0_pay6 Ideal _ = @k0_pay3 Ideal _ ∧ @k0_pay8 Ideal _ = @k0_pay3 Ideal _ ∧ @k0_pay7 Ideal _ = @k0_pay5 Ideal _ := ⟨rfl, rfl, rfl⟩

end

theorem front_at (p : Fin 32) (l : Fin 128) : k0_pay1 (F := Ideal) (ix2 p l) = 0 := by
  pointwise [k0_pay1]

theorem unit_at (a g : FVec Ideal S1x4096x128 .bf16) (p : Fin 4096) (l : Fin 128) :
    k0_pay2 (F := Ideal) a g (ix2 p l) = a (ix3 0 p l) * Ideal.logistic (g (ix3 0 p l)) := by
  pointwise [k0_pay2]

theorem from_row (k : Fin k0_t1_loop.trips) (b : BitVec 32) (h : 2 ≤ b.toNat ∧ b.toNat ≤ 32) : k0_off1 k b = ![64 * k.val + b.toNat, 0] := by
  have e := k0_off1_eq k ⟨b.toNat - 2, by omega⟩
  rw [show 2 + (⟨b.toNat - 2, by omega⟩ : Fin 31).val = b.toNat by dsimp only; omega, BitVec.ofNat_toNat, BitVec.setWidth_eq] at e
  rw [e]
  exact congrArg (fun n => ![n, 0]) (by dsimp only; omega)

theorem chunks : k0_t1_loop.trips = 64 := by decide +kernel

section
variable (𝒱 : Variants) (c : Dev nD) (bd : Option 𝒱.V) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S31x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4128x128 .f32) (harg6 : arg6.IsWhole) (X_arg3 : BufTy.Contents (Elt Ideal) arg3.view.ty) (X_arg4 : BufTy.Contents (Elt Ideal) arg4.view.ty) (X_arg6 : BufTy.Contents (Elt Ideal) arg6.view.ty)
  (w q : ℕ → Fin 128 → EReal) (b : Fin 128 → EReal)
  (hw : ∀ (r : Fin 31) (l : Fin 128), arg3.view.read (Elt Ideal) X_arg3 (ix2 r l) = w r.val l)
  (hb : ∀ (r : Fin 1) (l : Fin 128), arg4.view.read (Elt Ideal) X_arg4 (ix2 r l) = b l)
  (hq : ∀ (r : Fin 4128) (l : Fin 128), arg6.view.read (Elt Ideal) X_arg6 (ix2 r l) = q r.val l)

include hw hb hq

/-- What a trip writes, element by element. -/
theorem trip_at (k : Fin k0_t1_loop.trips) : ∀ p ∈ tripL_k0_t1 (F := Ideal) 𝒱 c bd i arg1 harg1 arg2 harg2 arg3 harg3 arg4 harg4 arg5 harg5 arg6 harg6 X_arg3 X_arg4 X_arg6 k,
    ∀ (r : Fin 4096) (l : Fin 128) (x : p.1.shape.Idx), p.1.emb x = ix2 r l → p.2 x = longConv w q b r.val l := by
  have hk : k.val < 64 := lt_of_lt_of_eq k.isLt chunks
  obtain ⟨e6, e8, e7⟩ := alike
  unfold tripL_k0_t1 trip_k0_t1
  dsimp only
  intro p hp r l x hx
  obtain rfl := List.mem_singleton.mp hp
  dsimp only at x hx ⊢
  idx_vars x
  obtain ⟨e, rfl⟩ := piece2_at (64 * k.val) (k0_off2_eq k) _ r l x0 x1 hx
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8]
  simp only [e6, e7, e8, p3, p4, p5, e]
  simp only [longConv, upTo, Nat.reduceAdd]
  iterate 30 refine congrArg₂ (· + ·) ?_ (congrArg₂ (· * ·) (row_of hw (o := _) rfl _ 0 _ _ rfl (by decide))
    (row_of hq (from_row k _ (by decide)) _ _ _ _ (by simp only [BitVec.toNat_ofNat]; omega) (by omega)))
  refine congrArg₂ (· + ·) ?_ (congrArg₂ (· * ·) (row_of hw (o := _) rfl _ 0 _ _ rfl (by decide))
    (row_of hq (from_row k _ (by decide)) _ _ _ _ (by simp only [BitVec.toNat_ofNat]; omega) (by omega)))
  exact row_of (Val := Elt Ideal) (e := .f32) (n := 1) (q := fun _ => b) hb (off := ![0, 0]) (o := 0) rfl inb_S1x128_S1x128_0_0 0 x1 0 rfl Nat.zero_lt_one

/-- The strip after the loop. -/
theorem rows_all (r : Fin 4096) (l : Fin 128) :
    View.canon (pb_k0_t1 (F := Ideal) 𝒱 c bd i arg1 harg1 arg2 harg2 arg3 harg3 arg4 harg4 arg5 harg5 arg6 harg6 X_arg3 X_arg4 X_arg6 64) (ix2 r l) = longConv w q b r.val l := by
  have mem := gathered (fun k => pb_k0_t1 (F := Ideal) 𝒱 c bd i arg1 harg1 arg2 harg2 arg3 harg3 arg4 harg4 arg5 harg5 arg6 harg6 X_arg3 X_arg4 X_arg6 k)
    (fun k => if hk : k < k0_t1_loop.trips then tripL_k0_t1 (F := Ideal) 𝒱 c bd i arg1 harg1 arg2 harg2 arg3 harg3 arg4 harg4 arg5 harg5 arg6 harg6 X_arg3 X_arg4 X_arg6 ⟨k, hk⟩ else []) rfl 64 fun k hk => by
      have hk' : k < k0_t1_loop.trips := lt_of_lt_of_eq hk chunks.symm
      rw [dif_pos hk']
      exact pb_k0_t1_succ (F := Ideal) 𝒱 c bd i arg1 harg1 arg2 harg2 arg3 harg3 arg4 harg4 arg5 harg5 arg6 harg6 X_arg3 X_arg4 X_arg6 ⟨k, hk'⟩
  refine View.canon_eq_of_allAt _ _ _ ?_ ?_
  · have hk : r.val / 64 < 64 := by omega
    have hk' : r.val / 64 < k0_t1_loop.trips := lt_of_lt_of_eq hk chunks.symm
    have hm : ∃ p ∈ tripL_k0_t1 (F := Ideal) 𝒱 c bd i arg1 harg1 arg2 harg2 arg3 harg3 arg4 harg4 arg5 harg5 arg6 harg6 X_arg3 X_arg4 X_arg6 ⟨r.val / 64, hk'⟩, ix2 r l ∈ p.1.set := by
      unfold tripL_k0_t1 trip_k0_t1
      exact ⟨_, List.mem_cons_self, piece2_mem (64 * (r.val / 64)) (k0_off2_eq _) (k0_off2_inb _) r l ⟨by omega, by omega⟩⟩
    obtain ⟨p, hp, hs⟩ := hm
    exact ⟨p, (mem p).mpr ⟨_, hk, by rw [dif_pos hk']; exact hp⟩, hs⟩
  · intro p hp x hx
    obtain ⟨k, hk, hp⟩ := (mem p).mp hp
    rw [dif_pos (lt_of_lt_of_eq hk chunks.symm)] at hp
    exact trip_at 𝒱 c bd i arg1 harg1 arg2 harg2 arg3 harg3 arg4 harg4 arg5 harg5 arg6 harg6 X_arg3 X_arg4 X_arg6 w q b hw hb hq ⟨k, _⟩ p hp r l x hx

end

end Cert.BConvIdeal.Value
-- ==== Proof.BConvValue.lean ====
/- What `BConvIdeal` leaves in its result. -/
module

public import proofs.«01_k».proof.Proof.BConvLoop
public import proofs.«01_k».proof.Proof.Gen.BConvIdeal.Value
public import Idealize.ShloMosaic.Lib.Claim

@[expose] public section

set_option maxRecDepth 16384

noncomputable section

namespace Cert.BConvIdeal.Value

open Cert.BConvIdeal Cert.BConvIdeal.Gen Idealize.ShloMosaic Idealize.ShloMosaic.TcCoe Idealize.SL.Sem
open Cert.Strip

open Idealize.ShloMosaic.Pipeline (Dat)

theorem idx0 : ∀ t : Fin cfg0.N, win0_0.index t = ![0, 0, t.val] ∧ win0_1.index t = ![1, 0, t.val] ∧ win0_2.index t = ![0, t.val]
    ∧ win0_3.index t = ![0, t.val] ∧ win0_4.index t = ![0, t.val] :=
  (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

variable (m : (ℓ : Loc nD τ sig) → Buf (Elt Ideal) ℓ) (c : Dev nD)

/-- The four arguments. -/
abbrev aX := m ((c : Thread nD τ).loc main_arg0)
abbrev aB := m ((c : Thread nD τ).loc main_arg1)
abbrev aW := m ((c : Thread nD τ).loc main_arg2)
abbrev aV := m ((c : Thread nD τ).loc main_arg3)

theorem host_v7_0 (r : Fin 4096) (l : Fin 1024) : V m c main_v7 (ix3 0 r l) = biased (aX m c) (aB m c) (ix2 r (part2 0 (by decide) l)) := by
  show StableHlo.after hostOps0 _ (Proc.tc.devRef main_v7) _ = _
  unfold hostOps0
  after_results
  pointwise []
  exact congrArg (biased (aX m c) (aB m c)) (congrArg (ix2 r) (Fin.ext (by first | rfl | (dsimp only [part2]; omega))))

theorem host_v7_1 (r : Fin 4096) (l : Fin 1024) : V m c main_v7 (ix3 1 r l) = biased (aX m c) (aB m c) (ix2 r (part2 1 (by decide) l)) := by
  show StableHlo.after hostOps0 _ (Proc.tc.devRef main_v7) _ = _
  unfold hostOps0
  after_results
  pointwise []
  exact congrArg (biased (aX m c) (aB m c)) (congrArg (ix2 r) (Fin.ext (by first | rfl | (dsimp only [part2]; omega))))

variable (t : Fin cfg0.N)

theorem held0 (r : Fin 4096) (l : Fin 128) : (ms0_0 t).view.read (Elt Ideal) ((hs0_0 t).unread (iblk m c 0 t)) (ix3 0 r l) = val (aX m c) (aB m c) r.val (col t l) := by
  rw [(hs0_0 t).read_unread]
  refine Eq.trans ?_ ((host_v7_0 m c r (col t l)).trans (row_lt _ _ _).symm)
  blk_point [iblk, idx0 t, col]

theorem held1 (r : Fin 4096) (l : Fin 128) : (ms0_1 t).view.read (Elt Ideal) ((hs0_1 t).unread (iblk m c 1 t)) (ix3 0 r l) = gate (aX m c) (aB m c) r.val (col t l) := by
  rw [(hs0_1 t).read_unread]
  refine Eq.trans ?_ ((host_v7_1 m c r (col t l)).trans (row_lt _ _ _).symm)
  blk_point [iblk, idx0 t, col]

theorem held2 (r : Fin 31) (l : Fin 128) : (ms0_2 t).view.read (Elt Ideal) ((hs0_2 t).unread (iblk m c 2 t)) (ix2 r l) = tap31 (aW m c) r.val (col t l) := by
  rw [(hs0_2 t).read_unread, tap31, dif_pos r.isLt]
  refine Eq.trans ?_ (congrFun (V_main_arg2 m c) (ix2 r (col t l)))
  blk_point [iblk, idx0 t, col]

theorem held3 (r : Fin 1) (l : Fin 128) : (ms0_3 t).view.read (Elt Ideal) ((hs0_3 t).unread (iblk m c 3 t)) (ix2 r l) = aV m c (ix2 0 (col t l)) := by
  obtain rfl : r = 0 := Subsingleton.elim _ _
  rw [(hs0_3 t).read_unread]
  refine Eq.trans ?_ (congrFun (V_main_arg3 m c) (ix2 0 (col t l)))
  blk_point [iblk, idx0 t, col]

theorem emb4 (r : Fin 4096) (l : Fin 128) : ((cfg0.win 4).blk t).view.emb (ix2 r l) = ix2 r (col t l) := by
  blk_ext [idx0 t, col]

/-- The gated unit's values behind 32 rows of zeros, as the scratch holds them. -/
abbrev padded := (View.whole cc0_scratch0).writes (Elt Ideal) (View.whole cc0_scratch0).junk
  (kernelRun0_A.sl.HS0_2 (F := Ideal) c (ms0_0 t) (hs0_0 t) (ms0_1 t) (hs0_1 t) (iblk m c 0 t) (iblk m c 1 t))

theorem padded_at (r : Fin 4128) (l : Fin 128) : scM0_0.view.read (Elt Ideal) (padded m c t) (ix2 r l) = upad (aX m c) (aB m c) r.val (col t l) := by
  refine (congrFun (View.read_writes_junk_eq_canon _ _) _).trans ?_
  refine two_blocks (Val := Elt Ideal) (e := .f32) (n := 4096) (n' := 32) 32 0 _ _ _ _ (fun r l => upad (aX m c) (aB m c) r (col t l)) (fun p l => ?_) (fun p l => ?_) r l (by omega)
  · rw [unit_at]
    refine (congrArg₂ (fun x y => x * Ideal.logistic y) (row3_of (q := fun r l => val (aX m c) (aB m c) r (col t l)) (held0 m c t) rfl _ p l p.val (Nat.zero_add _) p.isLt)
      (row3_of (q := fun r l => gate (aX m c) (aB m c) r (col t l)) (held1 m c t) rfl _ p l p.val (Nat.zero_add _) p.isLt)).trans ?_
    rw [upad, later, if_neg (by omega), Nat.add_sub_cancel_left]
  · rw [front_at, upad, later, if_pos (by omega)]

theorem out4 (r : Fin 4096) (l : Fin 128) : outsAt0 m c t (ix2 r l) = unitConv (aX m c) (aB m c) (aW m c) (aV m c) (ix2 r (col t l)) := by
  unfold outsAt0 out0_A_4 kernelRun0_A
  dsimp only
  rw [View.read_writes_junk_eq_canon]
  exact rows_all Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) _ _ (padded m c t)
    (fun k l => tap31 (aW m c) k (col t l)) (fun k l => upad (aX m c) (aB m c) k (col t l)) (fun l => aV m c (ix2 0 (col t l)))
    (held2 m c t) (held3 m c t) (padded_at m c t) r l

omit t in
theorem res4 : (dats m 0 c).arrAt 4 cfg0.N = unitConv (aX m c) (aB m c) (aW m c) (aV m c) := by
  refine (dats m 0 c).arrAt_eq_of_covers 4 _ (by decide +kernel) fun t _ y => ?_
  blk_simp
  rw [after0_4]
  idx_vars y
  rw [out4, emb4]

omit t c in
theorem run_parts (ρ : Dev nD → PrngReg) : θ_run defs (onTc (τ := τ) (main (F := Ideal))) ⟨m, fun _ => 0, ρ⟩ fun r => ∀ c : Dev nD,
    r.2.mem ((c.tc : Thread nD τ).loc main_v8) = unitConv (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res4 m c), (h c).2⟩) (run_blocks m ρ)

end Cert.BConvIdeal.Value
-- ==== Proof.BStripPure.lean ====
/- What `BStripRefIdeal` computes, row by row. -/
module

public import proofs.«01_k».proof.Proof.StripLong
public import proofs.«01_k».proof.Proof.Gen.BStripRefIdeal.Read
public import Idealize.ShloMosaic.Lib.Pointwise
public import Idealize.ShloMosaic.Lib.Pipeline.ValueKit

@[expose] public section

set_option maxRecDepth 16384

noncomputable section

namespace Cert.BStripRefIdeal.Pure

open Cert.BStripRefIdeal Cert.BStripRefIdeal.Read Idealize.ShloMosaic Idealize.ShloMosaic.TcCoe
open Cert.Strip

variable (X : FVec Ideal S4096x2048 .f32) (B : FVec Ideal S1x2048 .f32) (W : FVec Ideal S31x1024 .f32) (Z : FVec Ideal S4096x1024 .f32)

/-! ## The unit and the rows before it -/

theorem v2_at (r : Fin 4096) (l : Fin 1024) : val_main_v2 (F := Ideal) X B (ix2 r l) = val X B r.val l := by
  unfold val
  rw [row_lt]
  pointwise [val_main_v0, val_main_v1, val_main_v2]
  exact congrArg (biased X B) (congrArg (ix2 r) (Fin.ext (by first | rfl | (dsimp only [part2]; omega))))

theorem v9_at (r : Fin 4096) (l : Fin 1024) : val_main_v9 (F := Ideal) X B (ix2 r l) = Ideal.logistic (gate X B r.val l) := by
  unfold gate
  rw [row_lt]
  pointwise [val_main_v0, val_main_v1, val_main_v3, val_main_v4, val_main_v5, val_main_cst, val_main_v6, val_main_v7, val_main_cst_0, val_main_v8, val_main_v9]
  refine congrArg Ideal.logistic (a₁ := _) (a₂ := biased X B (ix2 r (part2 1 (by decide) l))) ?_
  exact congrArg (biased X B) (congrArg (ix2 r) (Fin.ext (by first | rfl | (dsimp only [part2]; omega))))

theorem v15_at (n : Fin 4126) (l : Fin 1024) : val_main_v15 (F := Ideal) X B (ix2 n l) = upad X B (n.val + 2) l := by
  pointwise [val_main_v13, val_main_cst_2, val_main_v14, val_main_v15]
  unfold upad later
  by_cases h : n.val < 30
  · exact (dif_pos h).trans (if_pos (by omega)).symm
  · refine (dif_neg h).trans (Eq.trans ?_ (if_neg (by omega)).symm)
    rw [v2_at, v9_at, show n.val + 2 - 32 = n.val - 30 by omega]

/-- The stacked shifts, one by one. -/
theorem v80_at (j : Fin 16) (r : Fin 4096) (l : Fin 1024) (n : Fin 4126) (hn : n.val = r.val + j.val) :
    val_main_v80 (F := Ideal) X B (ix3 j r l) = val_main_v15 (F := Ideal) X B (ix2 n l) := by
  unfold val_main_v80
  concat_tiles i h
  all_goals
    idx_vars i
    obtain rfl : i1 = r := Fin.ext h1
    obtain rfl : i2 = l := Fin.ext h2
    pointwise [val_main_v18, val_main_v19, val_main_v20, val_main_v21, val_main_v22, val_main_v23, val_main_v24, val_main_v25, val_main_v26, val_main_v27, val_main_v28, val_main_v29, val_main_v30, val_main_v31, val_main_v32, val_main_v33, val_main_v49, val_main_v50, val_main_v51, val_main_v52, val_main_v53, val_main_v54, val_main_v55, val_main_v56, val_main_v57, val_main_v58, val_main_v59, val_main_v60, val_main_v61, val_main_v62, val_main_v63, val_main_v64]
    exact congrArg (fun n => val_main_v15 (F := Ideal) X B (ix2 n i2)) (Fin.ext (by dsimp only [ix3_0] at h ⊢; omega))

theorem v81_at (j : Fin 15) (r : Fin 4096) (l : Fin 1024) (n : Fin 4126) (hn : n.val = r.val + j.val + 16) :
    val_main_v81 (F := Ideal) X B (ix3 j r l) = val_main_v15 (F := Ideal) X B (ix2 n l) := by
  unfold val_main_v81
  concat_tiles i h
  all_goals
    idx_vars i
    obtain rfl : i1 = r := Fin.ext h1
    obtain rfl : i2 = l := Fin.ext h2
    pointwise [val_main_v34, val_main_v35, val_main_v36, val_main_v37, val_main_v38, val_main_v39, val_main_v40, val_main_v41, val_main_v42, val_main_v43, val_main_v44, val_main_v45, val_main_v46, val_main_v47, val_main_v48, val_main_v65, val_main_v66, val_main_v67, val_main_v68, val_main_v69, val_main_v70, val_main_v71, val_main_v72, val_main_v73, val_main_v74, val_main_v75, val_main_v76, val_main_v77, val_main_v78, val_main_v79]
    exact congrArg (fun n => val_main_v15 (F := Ideal) X B (ix2 n i2)) (Fin.ext (by dsimp only [ix3_0] at h ⊢; omega))

theorem v82_at (j : Fin 31) (r : Fin 4096) (l : Fin 1024) : val_main_v82 (F := Ideal) X B (ix3 j r l) = upad X B (r.val + 2 + j.val) l := by
  have e := v15_at X B ⟨r.val + j.val, by omega⟩ l
  rw [show r.val + 2 + j.val = r.val + j.val + 2 by omega]
  refine Eq.trans ?_ e
  pointwise [val_main_v82]
  by_cases h : j.val < 16
  · exact (dif_pos h).trans (v80_at X B ⟨j.val, h⟩ r l _ rfl)
  · exact (dif_neg h).trans (v81_at X B ⟨j.val - 16, by omega⟩ r l _ (by dsimp only; omega))

/-! ## The gradients -/

theorem v215_at (j : Fin 31) (l : Fin 1024) : val_main_v215 (F := Ideal) X B Z (ix2 j l) = taps31 X B Z (ix2 j l) := by
  pointwise [val_main_v86, val_main_v89, val_main_cst_5, val_main_v90, val_main_v91, val_main_cst_37, val_main_v215, v82_at]
  unfold taps31
  refine (Fin.sum_univ_one _).trans (Finset.sum_congr rfl fun r _ => ?_)
  dsimp only [ix2_0, ix2_1]
  rw [row_lt]

theorem r215 : val_main_v215 (F := Ideal) X B Z = taps31 X B Z := by
  funext i
  idx_vars i
  exact v215_at X B Z i0 i1

theorem v88_at (k : Fin 31) (r : Fin 4096) (l : Fin 1024) : val_main_v88 (F := Ideal) W Z (ix3 k r l) = tap31 W k.val l * row Z r.val l := by
  rw [row_lt, tap31, dif_pos k.isLt]
  pointwise [val_main_v17, val_main_v86, val_main_v87, val_main_v88]

/-- A product shifted by `k` rows, with zeros around. -/
theorem shifted (k n : ℕ) (l : Fin 1024) (P : Prop) [Decidable P] (hP : P ↔ n - k < 4096) (f : P → EReal)
    (hf : ∀ h, f h = tap31 W k l * row Z (n - k) l) : (if h : P then f h else 0) = tap31 W k l * row Z (n - k) l := by
  by_cases h : P
  · rw [dif_pos h, hf]
  · rw [dif_neg h, row_ge Z _ (by have := mt hP.mpr h; omega), mul_zero]

theorem v214_at (n : Fin 4126) (hn : 30 ≤ n.val) (l : Fin 1024) : val_main_v214 (F := Ideal) W Z (ix2 n l)
    = upTo (tap31 W 30 l * row Z (n.val - 30) l) (fun k => tap31 W (29 - k) l * row Z (n.val - (29 - k)) l) 30 := by
  pointwise [val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, v88_at]
  simp only [upTo, Nat.reduceSub, Nat.sub_zero]
  iterate 30 refine congrArg₂ (· + ·) ?_ (shifted W Z _ n.val l _ (by omega) _ (fun h => rfl))
  exact shifted W Z _ n.val l _ (by omega) _ (fun h => rfl)

theorem v217_at (r : Fin 4096) (l : Fin 1024) : val_main_v217 (F := Ideal) W Z (ix2 r l) = longBack (tap31 W) (row Z) r.val l := by
  pointwise [val_main_v217]
  rw [v214_at W Z _ (by dsimp only; omega), longBack, upTo_eq, upTo_eq, ← Finset.sum_range_reflect (fun k => tap31 W k l * row Z (r.val + (30 - k)) l) 30]
  dsimp only
  refine congrArg₂ (· + ·) (congrArg (fun k => tap31 W 30 l * row Z k l) (by omega)) (Finset.sum_congr rfl fun k hk => ?_)
  have hk := Finset.mem_range.mp hk
  exact congrArg₂ (fun a b => tap31 W a l * row Z b l) (by omega) (by omega)

theorem v221_at (s : Fin 2) (r : Fin 4096) (l : Fin 1024) (n : Fin 2048) (hn : n.val = 1024 * s.val + l.val) :
    val_main_v221 (F := Ideal) X B W Z (ix2 r n) = halves X B W Z (ix3 s r l) := by
  pointwise [val_main_v221, val_main_v218, val_main_v219, val_main_v220, val_main_v12, val_main_v11, val_main_v10, val_main_cst_1, v2_at, v9_at, v217_at]
  unfold halves half
  dsimp only [ix3_0, ix3_1, ix3_2]
  match s with
  | 0 =>
    have e : ∀ h, (⟨n.val, h⟩ : Fin 1024) = l := fun h => Fin.ext (by dsimp only at hn ⊢; omega)
    refine (dif_pos (by omega)).trans (Eq.trans ?_ (if_pos rfl).symm)
    rw [e]
  | 1 =>
    have e : ∀ h, (⟨n.val - 1024, h⟩ : Fin 1024) = l := fun h => Fin.ext (by dsimp only at hn ⊢; omega)
    refine (dif_neg (by omega)).trans (Eq.trans ?_ (if_neg (by decide)).symm)
    rw [e]
    exact congrArg (· * _) (mul_comm _ _)

theorem r229 : val_main_v229 (F := Ideal) X B W Z = halves X B W Z := by
  funext i
  idx_vars i
  pointwise [val_main_v224, val_main_v225, val_main_v226, val_main_v227, val_main_v228, val_main_v229]
  match i0 with
  | 0 => exact (dif_pos (by decide)).trans (v221_at X B W Z 0 i1 i2 _ (by dsimp only; omega))
  | 1 => exact (dif_neg (by decide)).trans (v221_at X B W Z 1 i1 i2 _ (by dsimp only; omega))

theorem r230 : val_main_v230 (F := Ideal) X B W Z = biases X B W Z := by
  funext i
  idx_vars i
  pointwise [val_main_cst_38, val_main_v222, val_main_v223, val_main_v230]
  unfold biases
  exact Finset.sum_congr rfl fun r _ => v221_at X B W Z i0 r i1 _ (by dsimp only [ix2_0, ix2_1]; omega)

end Cert.BStripRefIdeal.Pure
-- ==== Proof.BConvPure.lean ====
/- What `BConvRefIdeal` computes. -/
module

public import proofs.«01_k».proof.Proof.LongForward
public import proofs.«01_k».proof.Proof.BStripPure
public import proofs.«01_k».proof.Proof.Gen.BConvRefIdeal.Read
public import Idealize.ShloMosaic.Lib.Pointwise

@[expose] public section

set_option maxRecDepth 16384

noncomputable section

namespace Cert.BConvRefIdeal.Pure

open Cert.BConvRefIdeal Cert.BConvRefIdeal.Read Idealize.ShloMosaic Idealize.ShloMosaic.TcCoe
open Cert.Strip

variable (X : FVec Ideal S4096x2048 .f32) (B : FVec Ideal S1x2048 .f32) (W : FVec Ideal S31x1024 .f32) (V : FVec Ideal S1x1024 .f32)

/-- The shifted copies are those of the reference of the gradient. -/
theorem shifts : val_main_v78 (F := Ideal) X B = Cert.BStripRefIdeal.Read.val_main_v82 (F := Ideal) X B := rfl

theorem r83 : val_main_v83 (F := Ideal) X B W V = unitConv X B W V := by
  funext i
  idx_vars i
  pointwise [val_main_v13, val_main_v79, val_main_v80, val_main_cst_2, val_main_v81, val_main_v82, val_main_v83, shifts, Cert.BStripRefIdeal.Pure.v82_at]
  unfold unitConv
  dsimp only [ix2_0, ix2_1]
  refine Eq.trans ?_ (longConv_eq _ _ _ _ _).symm
  refine congrArg₂ (· + ·) (Finset.sum_congr rfl fun k _ => congrArg₂ (· * ·) ?_ rfl) rfl
  rw [tap31, dif_pos k.isLt]

end Cert.BConvRefIdeal.Pure
-- ==== Proof.BConvClaim.lean ====
/- The claims about `BConv`. -/
module

public import proofs.«01_k».proof.Defs
public import proofs.«01_k».proof.Proof.BConvValue
public import proofs.«01_k».proof.Proof.BConvPure

@[expose] public section

set_option maxRecDepth 16384

noncomputable section

namespace Cert.BConvIdeal

open Idealize.ShloMosaic Idealize.ShloMosaic.TcCoe Idealize.SL.Sem

theorem algebraic : Cert.algebraic_BConvIdeal_BConvRefIdeal (hBConvIdeal := Cert.BConvIdeal.Gen.facts)
    (hBConvRefIdeal := Cert.BConvRefIdeal.Gen.facts) := by
  pair_intro
  · run_from Cert.BConvIdeal.Value.run_parts m g
  · refine (θ_run _ _ _).mono ?_ (Cert.BConvRefIdeal.Value.run m' g')
    intro r h c
    obtain ⟨h1, ha⟩ := h c
    obtain ⟨e0, e1, e2, e3⟩ := hagree c
    refine ⟨h1.trans ?_, ha⟩
    rw [Cert.BConvRefIdeal.Read.val_main_v83_eq, e0, e1, e2, e3, Cert.BConvRefIdeal.Pure.r83] <;> rfl

end Cert.BConvIdeal
-- ==== Proof.BGateEnds.lean ====
/- `BGateIdeal` ends with the memory that its last stretch leaves. -/
module

public import proofs.«01_k».proof.Proof.Gen.BGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.BGateIdeal.Value

open Cert.BGateIdeal Cert.BGateIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

theorem tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (BI.emp : sProp 𝕄))) := by
  rw [BI.bigSep_emp_const]
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- Every buffer that outlives the kernels ends as the fold of the stretches and regions leaves it. -/
theorem ends : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W4 m ρ c (Proc.devRef .tc b)) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩)
    (hinit := Pipeline.initEach L lv fun c => ?_)
    (QY := fun c s => ∀ b ∈ Pipeline.ucRefs τ sig, s.mem ((c : Thread nD τ).1, b) = W4 m ρ c b)
    (hfin := fun c s' => ?_) (hQ := fun s h c b hb => h c _ (mem_uc b hb))
  · dsimp only [Pipeline.Seg.post, hseg, Pipeline.HostSeg.ofOps]
    iintro ⟨Hh, Hp, HO⟩
    isplitr [HO]
    · isplitl [Hh]
      · iexact Hh
      · iexact Hp
    · iexact HO
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    · isplitl [Hp]
      · iexists _; iexact Hp
      · iexists ∅; iexact HO
  · iintro ⟨⟨Hh, -⟩, HS⟩
    unfold StableHlo.held
    imodintro
    iapply (pointsTo_read_all (Pipeline.ucRefs τ sig) (fun b => ((c : Thread nD τ).1, b)) (W4 m ρ c) s')
    isplitl [Hh] <;> iassumption

end Cert.BGateIdeal.Value

end
-- ==== Proof.BGateValue.lean ====
/- What `BGateIdeal` leaves in each result, as sums over the argument arrays. -/
module

public import proofs.«01_k».proof.Proof.GateGrad
public import proofs.«01_k».proof.Proof.BGateEnds
public import proofs.«01_k».proof.Proof.Gen.BGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.BGateIdeal.Value

open Cert.BGateIdeal Cert.BGateIdeal.Gen Idealize.ShloMosaic Idealize.ShloMosaic.TcCoe Idealize.SL.Sem
open Cert.Gate Cert.Layer
open Idealize.ShloMosaic.Pipeline (Dat)

theorem idx0 : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![t.val, 0] ∧ win0_6.index t = ![0, 0] ∧ win0_7.index t = ![t.val, 0] ∧ win0_8.index t = ![t.val, 0] ∧ win0_9.index t = ![t.val, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0, 0] ∧ win1_4.index t = ![t.val, 0] ∧ win1_5.index t = ![t.val, 0, 0] ∧ win1_6.index t = ![t.val, 0, 0] ∧ win1_7.index t = ![t.val, 0] :=
  (by decide +kernel : ∀ t : Fin grid1.N, _)

theorem t_lt (t : Fin cfg0.N) : t.val < 8 := lt_of_lt_of_eq t.isLt (by decide +kernel)

section
variable (v : FVec Ideal S512x1024 .f32) (g b : FVec Ideal S1x1024 .f32) (w : FVec Ideal S1x1024x1024 .bf16) (s : FVec Ideal S512x1024 .f32) (x : FVec Ideal S512x1024 .f32) (c q : FVec Ideal S1x1024 .f32)

theorem p04 (r : Fin 512) (l : Fin 1024) : k0_pay4 (F := Ideal) v g b (ix2 r l)
    = (ln (fun k => v (ix2 r k)) (fun k => g (ix2 0 k)) (fun k => b (ix2 0 k)) l * Ideal.logistic (ln (fun k => v (ix2 r k)) (fun k => g (ix2 0 k)) (fun k => b (ix2 0 k)) l)) := by
  pointwise [k0_pay4, ln, cen, rstd]

theorem p05 (r : Fin 512) (l : Fin 1024) : k0_pay5 (F := Ideal) v g b w (ix2 r l)
    = ∑ k : Fin 1024, (ln (fun k => v (ix2 r k)) (fun k => g (ix2 0 k)) (fun k => b (ix2 0 k)) k * Ideal.logistic (ln (fun k => v (ix2 r k)) (fun k => g (ix2 0 k)) (fun k => b (ix2 0 k)) k)) * w (ix3 0 k l) := by
  pointwise [k0_pay5, p04]

theorem p01 (r : Fin 512) (l : Fin 1024) : k0_pay1 (F := Ideal) s c (ix2 r l)
    = s (ix2 r l) + c (ix2 0 l) := by
  pointwise [k0_pay1]

theorem p02 (r : Fin 512) (l : Fin 1024) : k0_pay2 (F := Ideal) s c x q (ix2 r l)
    = x (ix2 r l) + q (ix2 0 l) * (s (ix2 r l) + c (ix2 0 l)) := by
  pointwise [k0_pay2, p01]

theorem p03 (r : Fin 512) (l : Fin 1024) : k0_pay3 (F := Ideal) s c (ix2 r l)
    = s (ix2 r l) + c (ix2 0 l) := by
  pointwise [k0_pay3, p01]

end

section
variable (d : FVec Ideal S512x1024 .f32) (y : FVec Ideal S512x1024 .bf16) (g : FVec Ideal S1x1024 .f32) (w : FVec Ideal S1x1024x1024 .bf16)

theorem p11 (r : Fin 512) (l : Fin 1024) : k1_pay1 (F := Ideal) d g (ix2 r l)
    = d (ix2 r l) * g (ix2 0 l) := by
  pointwise [k1_pay1]

theorem p12 (r : Fin 512) (l : Fin 1024) : k1_pay2 (F := Ideal) d g (ix2 r l)
    = d (ix2 r l) * g (ix2 0 l) := by
  pointwise [k1_pay2, p11]

theorem p13 (o p : Fin 1) (l : Fin 1024) : k1_pay3 (F := Ideal) d y (ix3 o p l)
    = ∑ r : Fin 512, d (ix2 r l) * y (ix2 r l) := by
  pointwise [k1_pay3]

theorem p14 (o p : Fin 1) (l : Fin 1024) : k1_pay4 (F := Ideal) d g (ix3 o p l)
    = ∑ r : Fin 512, d (ix2 r l) * g (ix2 0 l) := by
  pointwise [k1_pay4, p11]

theorem p15 (r : Fin 512) (l : Fin 1024) : k1_pay5 (F := Ideal) d g (ix2 r l)
    = d (ix2 r l) * g (ix2 0 l) := by
  pointwise [k1_pay5, p11]

theorem p16 (r : Fin 512) (k : Fin 1024) : k1_pay6 (F := Ideal) (k1_pay5 (F := Ideal) d g) w (ix2 r k)
    = ∑ l : Fin 1024, d (ix2 r l) * g (ix2 0 l) * w (ix3 0 k l) := by
  pointwise [k1_pay6, p15]

end

variable (m : (ℓ : Loc nD τ sig) → Buf (Elt Ideal) ℓ) (ρ : Dev nD → PrngReg)

theorem host0 (c : Dev nD) (o : Fin 1) (k l : Fin 1024) : W1 m ρ c (Proc.devRef .tc main_v0) (ix3 o k l) = (m ((c : Thread nD τ).loc main_arg4)) (ix3 o k l) := by
  show StableHlo.after hostOps0 _ (Proc.tc.devRef main_v0) _ = _
  unfold hostOps0
  after_results
  pointwise []

theorem b0_0 (c : Dev nD) (t : Fin cfg0.N) (r : Fin 512) (l : Fin 1024) : iblk0 (V1 m ρ) c 0 t (ix2 r l) = (m ((c : Thread nD τ).loc main_arg1)) (ix2 ⟨512 * t.val + r.val, by have := t_lt t; omega⟩ l) := by
  refine Eq.trans ?_ (congrFun (W1_args m ρ c main_arg1 (by decide)) _)
  blk_point [iblk0, idx0 t]

theorem b0_1 (c : Dev nD) (t : Fin cfg0.N) (o : Fin 1) (l : Fin 1024) : iblk0 (V1 m ρ) c 1 t (ix2 o l) = (m ((c : Thread nD τ).loc main_arg2)) (ix2 o l) := by
  refine Eq.trans ?_ (congrFun (W1_args m ρ c main_arg2 (by decide)) _)
  blk_point [iblk0, idx0 t]

theorem b0_2 (c : Dev nD) (t : Fin cfg0.N) (o : Fin 1) (l : Fin 1024) : iblk0 (V1 m ρ) c 2 t (ix2 o l) = (m ((c : Thread nD τ).loc main_arg3)) (ix2 o l) := by
  refine Eq.trans ?_ (congrFun (W1_args m ρ c main_arg3 (by decide)) _)
  blk_point [iblk0, idx0 t]

theorem b0_3 (c : Dev nD) (t : Fin cfg0.N) (o : Fin 1) (k l : Fin 1024) : iblk0 (V1 m ρ) c 3 t (ix3 o k l) = (m ((c : Thread nD τ).loc main_arg4)) (ix3 o k l) := by
  refine Eq.trans ?_ (host0 m ρ c o k l)
  blk_point [iblk0, idx0 t]

theorem b0_4 (c : Dev nD) (t : Fin cfg0.N) (o : Fin 1) (l : Fin 1024) : iblk0 (V1 m ρ) c 4 t (ix2 o l) = (m ((c : Thread nD τ).loc main_arg5)) (ix2 o l) := by
  refine Eq.trans ?_ (congrFun (W1_args m ρ c main_arg5 (by decide)) _)
  blk_point [iblk0, idx0 t]

theorem b0_5 (c : Dev nD) (t : Fin cfg0.N) (r : Fin 512) (l : Fin 1024) : iblk0 (V1 m ρ) c 5 t (ix2 r l) = (m ((c : Thread nD τ).loc main_arg0)) (ix2 ⟨512 * t.val + r.val, by have := t_lt t; omega⟩ l) := by
  refine Eq.trans ?_ (congrFun (W1_args m ρ c main_arg0 (by decide)) _)
  blk_point [iblk0, idx0 t]

theorem b0_6 (c : Dev nD) (t : Fin cfg0.N) (o : Fin 1) (l : Fin 1024) : iblk0 (V1 m ρ) c 6 t (ix2 o l) = (m ((c : Thread nD τ).loc main_arg6)) (ix2 o l) := by
  refine Eq.trans ?_ (congrFun (W1_args m ρ c main_arg6 (by decide)) _)
  blk_point [iblk0, idx0 t]

theorem emb0_7 (t : Fin cfg0.N) (r : Fin 512) (l : Fin 1024) : ((cfg0.win 7).blk t).view.emb (ix2 r l) = ix2 ⟨512 * t.val + r.val, by have := t_lt t; omega⟩ l := by
  blk_ext [idx0 t]

theorem final0_7 (c : Dev nD) : (dat0 (V1 m ρ) c).arrAt 7 cfg0.N = fun i => (silu (m ((c : Thread nD τ).loc main_arg1)) (m ((c : Thread nD τ).loc main_arg2)) (m ((c : Thread nD τ).loc main_arg3))) (i 0) (i 1) := by
  refine (dat0 (V1 m ρ) c).arrAt_eq_of_covers 7 _ (by decide +kernel) fun t _ y => ?_
  blk_simp
  rw [after0_7]; frame_out
  idx_vars y
  rw [p04, emb0_7]
  simp only [silu, b0_0, b0_1, b0_2, b0_3, b0_4, b0_5, b0_6]
  rfl

theorem emb0_8 (t : Fin cfg0.N) (r : Fin 512) (l : Fin 1024) : ((cfg0.win 8).blk t).view.emb (ix2 r l) = ix2 ⟨512 * t.val + r.val, by have := t_lt t; omega⟩ l := by
  blk_ext [idx0 t]

theorem final0_8 (c : Dev nD) : (dat0 (V1 m ρ) c).arrAt 8 cfg0.N = fun i => (off (lin (silu (m ((c : Thread nD τ).loc main_arg1)) (m ((c : Thread nD τ).loc main_arg2)) (m ((c : Thread nD τ).loc main_arg3))) (m ((c : Thread nD τ).loc main_arg4))) (m ((c : Thread nD τ).loc main_arg5))) (i 0) (i 1) := by
  refine (dat0 (V1 m ρ) c).arrAt_eq_of_covers 8 _ (by decide +kernel) fun t _ y => ?_
  blk_simp
  rw [after0_8]; unfold_out out0_8; frame_out
  idx_vars y
  rw [p03, emb0_8]
  simp only [off, lin, silu, p05, b0_0, b0_1, b0_2, b0_3, b0_4, b0_5, b0_6]
  rfl

theorem emb0_9 (t : Fin cfg0.N) (r : Fin 512) (l : Fin 1024) : ((cfg0.win 9).blk t).view.emb (ix2 r l) = ix2 ⟨512 * t.val + r.val, by have := t_lt t; omega⟩ l := by
  blk_ext [idx0 t]

theorem final0_9 (c : Dev nD) : (dat0 (V1 m ρ) c).arrAt 9 cfg0.N = fun i => (res (m ((c : Thread nD τ).loc main_arg0)) (m ((c : Thread nD τ).loc main_arg6)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))) (i 0) (i 1) := by
  refine (dat0 (V1 m ρ) c).arrAt_eq_of_covers 9 _ (by decide +kernel) fun t _ y => ?_
  blk_simp
  rw [after0_9]; unfold_out out0_9; frame_out
  idx_vars y
  rw [p02, emb0_9]
  simp only [res, off, lin, silu, p05, b0_0, b0_1, b0_2, b0_3, b0_4, b0_5, b0_6]
  rfl

theorem w2y (c : Dev nD) : W2 m ρ c (Proc.devRef .tc main_v1_1) = fun i => (off (lin (silu (m ((c : Thread nD τ).loc main_arg1)) (m ((c : Thread nD τ).loc main_arg2)) (m ((c : Thread nD τ).loc main_arg3))) (m ((c : Thread nD τ).loc main_arg4))) (m ((c : Thread nD τ).loc main_arg5))) (i 0) (i 1) := (W2_arr m ρ c 8).trans (final0_8 m ρ c)

theorem b1_0 (c : Dev nD) (t : Fin cfg1.N) (r : Fin 512) (l : Fin 1024) : iblk1 (V2 m ρ) c 0 t (ix2 r l) = (m ((c : Thread nD τ).loc main_arg7)) (ix2 ⟨512 * t.val + r.val, by have := t_lt t; omega⟩ l) := by
  refine Eq.trans ?_ (congrFun (W2_args m ρ c main_arg7 (by decide)) _)
  blk_point [iblk1, idx1 t]

theorem b1_1 (c : Dev nD) (t : Fin cfg1.N) (r : Fin 512) (l : Fin 1024) : iblk1 (V2 m ρ) c 1 t (ix2 r l) = (off (lin (silu (m ((c : Thread nD τ).loc main_arg1)) (m ((c : Thread nD τ).loc main_arg2)) (m ((c : Thread nD τ).loc main_arg3))) (m ((c : Thread nD τ).loc main_arg4))) (m ((c : Thread nD τ).loc main_arg5))) ⟨512 * t.val + r.val, by have := t_lt t; omega⟩ l := by
  refine Eq.trans ?_ (congrFun (w2y m ρ c) (ix2 ⟨512 * t.val + r.val, by have := t_lt t; omega⟩ l))
  blk_point [iblk1, idx1 t]

theorem b1_2 (c : Dev nD) (t : Fin cfg1.N) (o : Fin 1) (l : Fin 1024) : iblk1 (V2 m ρ) c 2 t (ix2 o l) = (m ((c : Thread nD τ).loc main_arg6)) (ix2 o l) := by
  refine Eq.trans ?_ (congrFun (W2_args m ρ c main_arg6 (by decide)) _)
  blk_point [iblk1, idx1 t]

theorem b1_3 (c : Dev nD) (t : Fin cfg1.N) (o : Fin 1) (k l : Fin 1024) : iblk1 (V2 m ρ) c 3 t (ix3 o k l) = (m ((c : Thread nD τ).loc main_arg4)) (ix3 o k l) := by
  refine Eq.trans ?_ ((congrFun (W2_of m ρ c main_v0 (by decide)) _).trans (host0 m ρ c o k l))
  blk_point [iblk1, idx1 t]

theorem emb1_4 (t : Fin cfg1.N) (r : Fin 512) (l : Fin 1024) : ((cfg1.win 4).blk t).view.emb (ix2 r l) = ix2 ⟨512 * t.val + r.val, by have := t_lt t; omega⟩ l := by
  blk_ext [idx1 t]

theorem final1_4 (c : Dev nD) : (dat1 (V2 m ρ) c).arrAt 4 cfg1.N = fun i => (cot (m ((c : Thread nD τ).loc main_arg7)) (m ((c : Thread nD τ).loc main_arg6))) (i 0) (i 1) := by
  refine (dat1 (V2 m ρ) c).arrAt_eq_of_covers 4 _ (by decide +kernel) fun t _ y => ?_
  blk_simp
  rw [after1_4]; unfold outsAt1; dsimp only; frame_out
  idx_vars y
  rw [p12, emb1_4]
  simp only [cot, b1_0, b1_1, b1_2, b1_3]
  rfl

theorem emb1_5 (t : Fin cfg1.N) (o p : Fin 1) (l : Fin 1024) : ((cfg1.win 5).blk t).view.emb (ix3 o p l) = ix3 ⟨t.val, t_lt t⟩ p l := by
  blk_ext [idx1 t]

theorem final1_5 (c : Dev nD) : (dat1 (V2 m ρ) c).arrAt 5 cfg1.N = part (term (m ((c : Thread nD τ).loc main_arg7)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))) := by
  refine (dat1 (V2 m ρ) c).arrAt_eq_of_covers 5 _ (by decide +kernel) fun t _ y => ?_
  blk_simp
  rw [after1_5]; unfold outsAt1; dsimp only; frame_out
  idx_vars y
  rw [p13, emb1_5]
  simp only [part, term, b1_0, b1_1, b1_2, b1_3]
  rfl

theorem emb1_6 (t : Fin cfg1.N) (o p : Fin 1) (l : Fin 1024) : ((cfg1.win 6).blk t).view.emb (ix3 o p l) = ix3 ⟨t.val, t_lt t⟩ p l := by
  blk_ext [idx1 t]

theorem final1_6 (c : Dev nD) : (dat1 (V2 m ρ) c).arrAt 6 cfg1.N = part (cot (m ((c : Thread nD τ).loc main_arg7)) (m ((c : Thread nD τ).loc main_arg6))) := by
  refine (dat1 (V2 m ρ) c).arrAt_eq_of_covers 6 _ (by decide +kernel) fun t _ y => ?_
  blk_simp
  rw [after1_6]; unfold outsAt1; dsimp only; frame_out
  idx_vars y
  rw [p14, emb1_6]
  simp only [part, cot, b1_0, b1_1, b1_2, b1_3]
  rfl

theorem emb1_7 (t : Fin cfg1.N) (r : Fin 512) (l : Fin 1024) : ((cfg1.win 7).blk t).view.emb (ix2 r l) = ix2 ⟨512 * t.val + r.val, by have := t_lt t; omega⟩ l := by
  blk_ext [idx1 t]

theorem final1_7 (c : Dev nD) : (dat1 (V2 m ρ) c).arrAt 7 cfg1.N = fun i => (back (cot (m ((c : Thread nD τ).loc main_arg7)) (m ((c : Thread nD τ).loc main_arg6))) (m ((c : Thread nD τ).loc main_arg4))) (i 0) (i 1) := by
  refine (dat1 (V2 m ρ) c).arrAt_eq_of_covers 7 _ (by decide +kernel) fun t _ y => ?_
  blk_simp
  rw [after1_7]; unfold outsAt1; dsimp only; frame_out
  idx_vars y
  rw [p16, emb1_7]
  simp only [back, cot, b1_0, b1_1, b1_2, b1_3]
  rfl

theorem w3_v2_1 (c : Dev nD) : W3 m ρ c (Proc.devRef .tc main_v2_1) = part (term (m ((c : Thread nD τ).loc main_arg7)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))) := (W3_arr m ρ c 5).trans (final1_5 m ρ c)

theorem tail_v3 (c : Dev nD) : W4 m ρ c (Proc.devRef .tc main_v3) = all (term (m ((c : Thread nD τ).loc main_arg7)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))) := by
  show StableHlo.after hostOps2 (W3 m ρ c) (Proc.tc.devRef main_v3) = _
  unfold hostOps2
  after_results
  rw [w3_v2_1 m ρ c]
  funext i
  idx_vars i
  obtain rfl : i0 = 0 := Subsingleton.elim _ _
  refine Eq.trans ?_ (all_part _ i1)
  pointwise []

theorem w3_v2_2 (c : Dev nD) : W3 m ρ c (Proc.devRef .tc main_v2_2) = part (cot (m ((c : Thread nD τ).loc main_arg7)) (m ((c : Thread nD τ).loc main_arg6))) := (W3_arr m ρ c 6).trans (final1_6 m ρ c)

theorem tail_v4 (c : Dev nD) : W4 m ρ c (Proc.devRef .tc main_v4) = all (cot (m ((c : Thread nD τ).loc main_arg7)) (m ((c : Thread nD τ).loc main_arg6))) := by
  show StableHlo.after hostOps2 (W3 m ρ c) (Proc.tc.devRef main_v4) = _
  unfold hostOps2
  after_results
  rw [w3_v2_2 m ρ c]
  funext i
  idx_vars i
  obtain rfl : i0 = 0 := Subsingleton.elim _ _
  refine Eq.trans ?_ (all_part _ i1)
  pointwise []

/-- The run: every result as a function of the arguments, and the arguments unchanged. -/
theorem run : θ_run defs (onTc (τ := τ) (main (F := Ideal))) ⟨m, fun _ => 0, ρ⟩ (fun r => ∀ c : Dev nD,
      (r.2.mem ((c.tc : Thread nD τ).loc main_v1_0) = (fun i => (silu (m ((c : Thread nD τ).loc main_arg1)) (m ((c : Thread nD τ).loc main_arg2)) (m ((c : Thread nD τ).loc main_arg3))) (i 0) (i 1))
      ∧ r.2.mem ((c.tc : Thread nD τ).loc main_v1_1) = (fun i => (off (lin (silu (m ((c : Thread nD τ).loc main_arg1)) (m ((c : Thread nD τ).loc main_arg2)) (m ((c : Thread nD τ).loc main_arg3))) (m ((c : Thread nD τ).loc main_arg4))) (m ((c : Thread nD τ).loc main_arg5))) (i 0) (i 1))
      ∧ r.2.mem ((c.tc : Thread nD τ).loc main_v1_2) = (fun i => (res (m ((c : Thread nD τ).loc main_arg0)) (m ((c : Thread nD τ).loc main_arg6)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))) (i 0) (i 1))
      ∧ r.2.mem ((c.tc : Thread nD τ).loc main_v2_0) = (fun i => (cot (m ((c : Thread nD τ).loc main_arg7)) (m ((c : Thread nD τ).loc main_arg6))) (i 0) (i 1))
      ∧ r.2.mem ((c.tc : Thread nD τ).loc main_v3) = (all (term (m ((c : Thread nD τ).loc main_arg7)) (off (lin (silu (m ((c : Thread nD τ).loc main_arg1)) (m ((c : Thread nD τ).loc main_arg2)) (m ((c : Thread nD τ).loc main_arg3))) (m ((c : Thread nD τ).loc main_arg4))) (m ((c : Thread nD τ).loc main_arg5)))))
      ∧ r.2.mem ((c.tc : Thread nD τ).loc main_v4) = (all (cot (m ((c : Thread nD τ).loc main_arg7)) (m ((c : Thread nD τ).loc main_arg6))))
      ∧ r.2.mem ((c.tc : Thread nD τ).loc main_v2_3) = (fun i => (back (cot (m ((c : Thread nD τ).loc main_arg7)) (m ((c : Thread nD τ).loc main_arg6))) (m ((c : Thread nD τ).loc main_arg4))) (i 0) (i 1)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))) := by
  refine (θ_run defs _ _).mono (fun r h c => ⟨⟨?_, ?_, ?_, ?_, ?_, ?_, ?_⟩, h.2 c⟩) (θ_run_and (ends m ρ) (unchanged m ρ))
  · exact (h.1 c main_v1_0 (by decide)).trans ((W4_of m ρ c main_v1_0 (by decide)).trans ((W3_of m ρ c main_v1_0 (by decide)).trans ((W2_arr m ρ c 7).trans (final0_7 m ρ c))))
  · exact (h.1 c main_v1_1 (by decide)).trans ((W4_of m ρ c main_v1_1 (by decide)).trans ((W3_of m ρ c main_v1_1 (by decide)).trans ((W2_arr m ρ c 8).trans (final0_8 m ρ c))))
  · exact (h.1 c main_v1_2 (by decide)).trans ((W4_of m ρ c main_v1_2 (by decide)).trans ((W3_of m ρ c main_v1_2 (by decide)).trans ((W2_arr m ρ c 9).trans (final0_9 m ρ c))))
  · exact (h.1 c main_v2_0 (by decide)).trans ((W4_of m ρ c main_v2_0 (by decide)).trans ((W3_arr m ρ c 4).trans (final1_4 m ρ c)))
  · exact (h.1 c main_v3 (by decide)).trans (tail_v3 m ρ c)
  · exact (h.1 c main_v4 (by decide)).trans (tail_v4 m ρ c)
  · exact (h.1 c main_v2_3 (by decide)).trans ((W4_of m ρ c main_v2_3 (by decide)).trans ((W3_arr m ρ c 7).trans (final1_7 m ρ c)))

end Cert.BGateIdeal.Value

end
-- ==== Proof.BGatePure.lean ====
/- The reference `BGateRefIdeal`, result by result. -/
module

public import proofs.«01_k».proof.Proof.BGateValue
public import proofs.«01_k».proof.Proof.Gen.BGateRefIdeal.Read

@[expose] public section

set_option maxRecDepth 16384

noncomputable section

namespace Cert.BGateIdeal.Pure

open Cert.BGateRefIdeal Cert.BGateRefIdeal.Read Idealize.ShloMosaic
open Cert.Gate Cert.Layer

variable (x v dx : FVec Ideal S4096x1024 .f32) (w : FVec Ideal S1x1024x1024 .f32) (lg lb b g : FVec Ideal S1x1024 .f32)

theorem ln_at (r : Fin 4096) (l : Fin 1024) : (val_main_v21 (F := Ideal) v lg lb) (ix2 r l) = ln (fun k => v (ix2 r k)) (fun k => lg (ix2 0 k)) (fun k => lb (ix2 0 k)) l := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, ln, cen, rstd]

theorem silu_at (r : Fin 4096) (l : Fin 1024) : (val_main_v22 (F := Ideal) v lg lb) (ix2 r l) = silu v lg lb r l := by
  refine Eq.trans (b := ln (fun k => v (ix2 r k)) (fun k => lg (ix2 0 k)) (fun k => lb (ix2 0 k)) l * refLog (ln (fun k => v (ix2 r k)) (fun k => lg (ix2 0 k)) (fun k => lb (ix2 0 k)) l)) ?_ (by rw [refLog_eq]; rfl)
  pointwise [val_main_call0_v0, val_main_call0_v1, val_main_call0_cst, val_main_call0_v2, val_main_call0_v3, val_main_call0_cst_0, val_main_call0_v4, val_main_call0_v5, val_main_v22, ln_at, refLog]

theorem y_at (r : Fin 4096) (l : Fin 1024) : (val_main_v26 (F := Ideal) v lg lb w b) (ix2 r l) = (off (lin (silu v lg lb) w) b) r l := by
  pointwise [val_main_v23, val_main_v24, val_main_v25, val_main_v26, silu_at, off, lin]

theorem y2_at (r : Fin 4096) (l : Fin 1024) : (val_main_v45 (F := Ideal) v lg lb w b) (ix2 r l) = (off (lin (silu v lg lb) w) b) r l := by
  pointwise [val_main_v42, val_main_v43, val_main_v44, val_main_v45, silu_at, off, lin]

theorem r51 : (val_main_v51 (F := Ideal) v lg lb) = fun i => silu v lg lb (i 0) (i 1) := by
  funext i
  idx_vars i
  pointwise [val_main_v51, silu_at]

theorem r52 : (val_main_v52 (F := Ideal) v lg lb w b) = fun i => (off (lin (silu v lg lb) w) b) (i 0) (i 1) := by
  funext i
  idx_vars i
  pointwise [val_main_v52, y2_at]

theorem r29 : (val_main_v29 (F := Ideal) x v lg lb w b g) = fun i => (res x g (off (lin (silu v lg lb) w) b)) (i 0) (i 1) := by
  funext i
  idx_vars i
  pointwise [val_main_v27, val_main_v28, val_main_v29, res, y_at]

theorem r53 : (val_main_v53 (F := Ideal) g dx) = fun i => (cot dx g) (i 0) (i 1) := by
  funext i
  idx_vars i
  pointwise [val_main_v49, val_main_v50, val_main_v53, cot]
  exact mul_comm _ _

theorem r35 : (val_main_v35 (F := Ideal) v lg lb w b dx) = all (term dx (off (lin (silu v lg lb) w) b)) := by
  funext i
  idx_vars i
  pointwise [val_main_v30, val_main_v33, val_main_cst_4, val_main_v34, val_main_v35, all, term, y_at]

theorem r37 : (val_main_v37 (F := Ideal) g dx) = all (cot dx g) := by
  funext i
  idx_vars i
  pointwise [val_main_v30, val_main_v31, val_main_v32, val_main_cst_5, val_main_v36, val_main_v37, all, cot]
  exact Finset.sum_congr rfl fun l _ => mul_comm _ _

theorem r54 : (val_main_v54 (F := Ideal) w g dx) = fun i => (back (cot dx g) w) (i 0) (i 1) := by
  funext i
  idx_vars i
  pointwise [val_main_v23, val_main_v30, val_main_v31, val_main_v32, val_main_v40, val_main_v54, back, cot]
  exact Finset.sum_congr rfl fun l _ => congrArg (· * w (ix3 0 i1 l)) (mul_comm _ _)

end Cert.BGateIdeal.Pure

end
-- ==== Proof.BGateClaim.lean ====
/- The claims about `BGate`. -/
module

public import proofs.«01_k».proof.Defs
public import proofs.«01_k».proof.Proof.BGatePure

@[expose] public section

set_option maxRecDepth 16384

noncomputable section

namespace Cert.BGateIdeal

open Cert.Reals Idealize.ShloMosaic Idealize.ShloMosaic.TcCoe Idealize.SL.Sem

theorem algebraic : Cert.algebraic_BGateIdeal_BGateRefIdeal (hBGateIdeal := Cert.BGateIdeal.Gen.facts)
    (hBGateRefIdeal := Cert.BGateRefIdeal.Gen.facts) := by
  pair_intro
  · run_from Cert.BGateIdeal.Value.run m g
  · refine θ_run_mono (Cert.BGateRefIdeal.Value.run m' g') fun r h c => ?_
    obtain ⟨h1, h2, h3, h4, h5, h6, h7, ha⟩ := h c
    obtain ⟨e0, e1, e2, e3, e4, e5, e6, e7⟩ := hagree c
    refine ⟨h1.trans ?_, h2.trans ?_, h3.trans ?_, h4.trans ?_, h5.trans ?_, h6.trans ?_, h7.trans ?_, ha⟩
    · refine (Cert.BGateRefIdeal.Read.val_main_v51_eq _ _ _).trans ?_
      rw [e1, e2, e3, Pure.r51] <;> rfl
    · rw [Cert.BGateRefIdeal.Read.val_main_v52_eq, e1, e2, e3, e4, e5, Pure.r52] <;> rfl
    · rw [Cert.BGateRefIdeal.Read.val_main_v29_eq, e0, e1, e2, e3, e4, e5, e6, Pure.r29] <;> rfl
    · refine (Cert.BGateRefIdeal.Read.val_main_v53_eq _ _).trans ?_
      rw [e6, e7, Pure.r53] <;> rfl
    · rw [Cert.BGateRefIdeal.Read.val_main_v35_eq, e1, e2, e3, e4, e5, e7, Pure.r35] <;> rfl
    · refine (Cert.BGateRefIdeal.Read.val_main_v37_eq _ _).trans ?_
      rw [e6, e7, Pure.r37] <;> rfl
    · refine (Cert.BGateRefIdeal.Read.val_main_v54_eq _ _ _).trans ?_
      rw [e4, e6, e7, Pure.r54] <;> rfl

end Cert.BGateIdeal

end
-- ==== Proof.BInValue.lean ====
/- What `BInIdeal` leaves in its results: the modulated rows, and their product with the weight. -/
module

public import proofs.«01_k».proof.Proof.NormIn
public import proofs.«01_k».proof.Proof.Gen.BInIdeal.Value
public import Idealize.ShloMosaic.Lib.Claim

@[expose] public section

set_option maxRecDepth 16384

noncomputable section

namespace Cert.BInIdeal.Value

open Cert.BInIdeal Cert.BInIdeal.Gen Cert.NormIn Idealize.ShloMosaic Idealize.ShloMosaic.TcCoe Idealize.SL.Sem
open Idealize.ShloMosaic.Pipeline (Dat)

/-- The row length as the program writes it. -/
abbrev len : EReal := Ideal.ofBits .f32 0x44800000#32

theorem idx : ∀ t : Fin cfg0.N, win0_0.index t = ![t.val, 0]
    ∧ win0_1.index t = ![0, 0]
    ∧ win0_2.index t = ![0, 0]
    ∧ win0_3.index t = ![0, 0]
    ∧ win0_4.index t = ![0, 0, 0]
    ∧ win0_5.index t = ![0, 0]
    ∧ win0_6.index t = ![t.val, 0]
    ∧ win0_7.index t = ![0, t.val, 0] :=
  (by decide +kernel : ∀ t : Fin grid0.N, _)

theorem t_lt (t : Fin cfg0.N) : t.val < 8 := lt_of_lt_of_eq t.isLt (by decide +kernel)

/-- Row `r` of tile `t`. -/
abbrev at' (t : Fin cfg0.N) (r : Fin 512) : Fin 4096 := ⟨512 * t.val + r.val, by have := t_lt t; omega⟩

section
variable (x : FVec Ideal S512x1024 .f32) (g sc sh : FVec Ideal S1x1024 .f32) (w : FVec Ideal S1x1024x1024 .bf16) (b : FVec Ideal S1x2048 .f32)

theorem p_rows (r : Fin 512) (l : Fin 1024) : k0_pay3 (F := Ideal) x g sc sh (ix2 r l) = entry len x g sc sh r l := by
  pointwise [k0_pay3, entry, recip]

theorem p_first (o : Fin 1) (r : Fin 512) (l : Fin 1024) (k : Fin 2048) (hk : k.val = l.val) : k0_pay1 (F := Ideal) (k0_pay4 (F := Ideal) x g sc sh w) (k0_pay6 (F := Ideal) b) (ix3 o r l)
    = (∑ k : Fin 1024, entry len x g sc sh r k * w (ix3 0 k l)) + b (ix2 0 k) := by
  obtain ⟨k, h⟩ := k
  subst hk
  pointwise [k0_pay1, k0_pay2, k0_pay4, k0_pay5, k0_pay6, p_rows]

theorem p_second (o : Fin 1) (r : Fin 512) (l : Fin 1024) (k : Fin 2048) (hk : k.val = 1024 + l.val) : k0_pay2 (F := Ideal) (k0_pay5 (F := Ideal) x g sc sh w) b (ix3 o r l)
    = (∑ k : Fin 1024, entry len x g sc sh r k * w (ix3 0 k l)) + b (ix2 0 k) := by
  obtain ⟨k, h⟩ := k
  subst hk
  pointwise [k0_pay1, k0_pay2, k0_pay4, k0_pay5, k0_pay6, p_rows]

end

variable (m : (ℓ : Loc nD τ sig) → Buf (Elt Ideal) ℓ) (c : Dev nD)

/-- The arguments. -/
abbrev aX : FVec Ideal S4096x1024 .f32 := m ((c : Thread nD τ).loc main_arg0)
abbrev aG : FVec Ideal S1x1024 .f32 := m ((c : Thread nD τ).loc main_arg1)
abbrev aC : FVec Ideal S1x1024 .f32 := m ((c : Thread nD τ).loc main_arg2)
abbrev aH : FVec Ideal S1x1024 .f32 := m ((c : Thread nD τ).loc main_arg3)
abbrev aW : FVec Ideal S1024x2048 .f32 := m ((c : Thread nD τ).loc main_arg4)
abbrev aB : FVec Ideal S1x2048 .f32 := m ((c : Thread nD τ).loc main_arg5)

theorem host_w (o : Fin 1) (k : Fin 1024) (l : Fin 2048) : V m c main_v1 (ix3 o k l) = aW m c (ix2 k l) := by
  show StableHlo.after hostOps0 _ (Proc.tc.devRef main_v1) _ = _
  unfold hostOps0
  after_results
  pointwise []

variable (t : Fin cfg0.N)

theorem b0 (r : Fin 512) (k : Fin 1024) : iblk m c 0 t (ix2 r k) = aX m c (ix2 (at' t r) k) := by
  blk_point [iblk, V, idx t]

theorem b1 (o : Fin 1) (k : Fin 1024) : iblk m c 1 t (ix2 o k) = aG m c (ix2 o k) := by
  blk_point [iblk, V, idx t]

theorem b2 (o : Fin 1) (k : Fin 1024) : iblk m c 2 t (ix2 o k) = aC m c (ix2 o k) := by
  blk_point [iblk, V, idx t]

theorem b3 (o : Fin 1) (k : Fin 1024) : iblk m c 3 t (ix2 o k) = aH m c (ix2 o k) := by
  blk_point [iblk, V, idx t]

theorem b4 (o : Fin 1) (k : Fin 1024) (l : Fin 2048) : iblk m c 4 t (ix3 o k l) = aW m c (ix2 k l) := by
  refine Eq.trans ?_ (host_w m c o k l)
  blk_point [iblk, idx t]

theorem ld_w (o : ℕ) (inb : ∀ a, (![0, 0, o] : Fin 3 → ℕ) a + S1x1024x1024.size a ≤ S1x1024x2048.size a) (k l : Fin 1024) (h : o + l.val < 2048) :
    View.ld (iblk m c 4 t) (Rect.unit (s := S1x1024x2048) ![0, 0, o] S1x1024x1024.size inb) (ix3 0 k l) = aW m c (ix2 k ⟨o + l.val, h⟩) := by
  refine Eq.trans (congrArg (iblk m c 4 t) (funext fun a => Fin.ext ?_)) (b4 m c t 0 k ⟨o + l.val, h⟩)
  change Fin 3 at a
  fin_cases a
  · rfl
  · show 0 + 1 * k.val = k.val; omega
  · show o + 1 * l.val = o + l.val; omega

theorem b5 (o : Fin 1) (k : Fin 2048) : iblk m c 5 t (ix2 o k) = aB m c (ix2 o k) := by
  blk_point [iblk, V, idx t]

theorem rows_at (r : Fin 512) (l : Fin 1024) : entry len (iblk m c 0 t) (iblk m c 1 t) (iblk m c 2 t) (iblk m c 3 t) r l
    = entry len (aX m c) (aG m c) (aC m c) (aH m c) (at' t r) l := by
  simp only [entry, recip, b0, b1, b2, b3]

theorem embH (r : Fin 512) (l : Fin 1024) : ((cfg0.win 6).blk t).view.emb (ix2 r l) = ix2 (at' t r) l := by
  blk_ext [idx t]

theorem embP (p : Fin 2) (r : Fin 512) (l : Fin 1024) : ((cfg0.win 7).blk t).view.emb (ix3 p r l) = ix3 p (at' t r) l := by
  blk_ext [idx t]

/-- The modulated rows. -/
def whole (i : S4096x1024.Idx) : EReal := entry len (aX m c) (aG m c) (aC m c) (aH m c) (i 0) (i 1)

/-- Their product with the weight, its columns in 2 parts. -/
def parts (i : S2x4096x1024.Idx) : EReal :=
  proj len (aX m c) (aG m c) (aC m c) (aH m c) (aW m c) (i 1) ⟨1024 * (i 0).val + (i 2).val, by have := (i 0).isLt; have := (i 2).isLt; simp at *; omega⟩ + aB m c (ix2 0 ⟨1024 * (i 0).val + (i 2).val, by have := (i 0).isLt; have := (i 2).isLt; simp at *; omega⟩)

theorem tile_eq (p : Fin 2) (o : ℕ) (ho : o = 1024 * p.val) (inb) (r : Fin 512) (l : Fin 1024) :
    ∑ k : Fin 1024, entry len (iblk m c 0 t) (iblk m c 1 t) (iblk m c 2 t) (iblk m c 3 t) r k
        * View.ld (iblk m c 4 t) (Rect.unit (s := S1x1024x2048) ![0, 0, o] S1x1024x1024.size inb) (ix3 0 k l) = proj len (aX m c) (aG m c) (aC m c) (aH m c) (aW m c) (at' t r) ⟨1024 * p.val + l.val, by have := p.isLt; omega⟩ := by
  subst ho
  exact Finset.sum_congr rfl fun k _ => congrArg₂ (α := EReal) (β := EReal) (γ := EReal) (· * ·) (rows_at m c t r k)
    (ld_w m c t (1024 * p.val) inb k l (by have := p.isLt; omega))

omit t

theorem finalH : (dats m 0 c).arrAt 6 cfg0.N = whole m c := by
  refine (dats m 0 c).arrAt_eq_of_covers 6 _ (by decide +kernel) fun t _ y => ?_
  blk_simp
  rw [after0_6]; frame_out
  idx_vars y
  rw [p_rows, rows_at, embH]
  rfl

theorem finalP : (dats m 0 c).arrAt 7 cfg0.N = parts m c := by
  refine (dats m 0 c).arrAt_eq_of_covers 7 _ (by decide +kernel) fun t _ y => ?_
  blk_simp
  rw [after0_7]; frame_out
  idx_vars y
  rw [embP]
  canon_tiles x h
  · idx_vars x
    obtain rfl : y1 = x1 := Fin.ext h1
    obtain rfl : y2 = x2 := Fin.ext h2
    obtain rfl : y0 = 1 := Fin.ext (by omega)
    rw [p_second _ _ _ _ _ _ _ _ _ ⟨1024 * 1 + y2.val, by omega⟩ (by first | rfl | (dsimp only; omega))]
    exact congrArg₂ (α := EReal) (β := EReal) (γ := EReal) (· + ·) (tile_eq m c t 1 1024 rfl _ y1 y2) (b5 m c t 0 _)
  · idx_vars x
    obtain rfl : y1 = x1 := Fin.ext h1
    obtain rfl : y2 = x2 := Fin.ext h2
    obtain rfl : y0 = 0 := Fin.ext (by omega)
    rw [p_first _ _ _ _ _ _ _ _ _ ⟨1024 * 0 + y2.val, by omega⟩ (by first | rfl | (dsimp only; omega))]
    exact congrArg₂ (α := EReal) (β := EReal) (γ := EReal) (· + ·) (tile_eq m c t 0 0 rfl _ y1 y2) (b5 m c t 0 _)

omit c

theorem run_parts (ρ : Dev nD → PrngReg) : θ_run defs (onTc (τ := τ) (main (F := Ideal))) ⟨m, fun _ => 0, ρ⟩ fun r => ∀ c : Dev nD,
    r.2.mem ((c.tc : Thread nD τ).loc main_v2_0) = whole m c
    ∧ r.2.mem ((c.tc : Thread nD τ).loc main_v2_1) = parts m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨(h c).1.trans (finalH m c), (h c).2.1.trans (finalP m c), (h c).2.2⟩) (run_blocks m ρ)

end Cert.BInIdeal.Value

end
-- ==== Proof.BInClaim.lean ====
/- `BInRef` read entry by entry, and the claim about `BIn`. -/
module

public import proofs.«01_k».proof.Defs
public import proofs.«01_k».proof.Proof.BInValue
public import proofs.«01_k».proof.Proof.Gen.BInRefIdeal.Run
public import proofs.«01_k».proof.Proof.Gen.BInRefIdeal.Read

@[expose] public section

set_option maxRecDepth 16384

noncomputable section

namespace Cert.BInRefIdeal.Pure
open Cert.BInRefIdeal Cert.BInRefIdeal.Gen Cert.BInRefIdeal.Read Cert.NormIn Idealize.ShloMosaic

variable (x : FVec Ideal S4096x1024 .f32) (g sc sh : FVec Ideal S1x1024 .f32) (w : FVec Ideal S1024x2048 .f32) (b : FVec Ideal S1x2048 .f32)

theorem rows_at (r : Fin 4096) (l : Fin 1024) : val_main_v17 (F := Ideal) x g sc sh (ix2 r l) = entry (Ideal.ofBits .f32 0x44800000#32) x g sc sh r l := by
  pointwise [entry, recip, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17]

theorem proj_at (r : Fin 4096) (l : Fin 2048) :
    val_main_v20 (F := Ideal) x g sc sh w b (ix2 r l) = proj (Ideal.ofBits .f32 0x44800000#32) x g sc sh w r l + b (ix2 0 l) := by
  pointwise [val_main_v20, val_main_v19, val_main_v18, rows_at, proj]

theorem rows_eq : val_main_v21 (F := Ideal) x g sc sh = fun i => entry (Ideal.ofBits .f32 0x44800000#32) x g sc sh (i 0) (i 1) := by
  funext i
  idx_vars i
  pointwise [val_main_v21, rows_at]

theorem parts_eq (p : Fin 2) (r : Fin 4096) (l : Fin 1024) (hb : 1024 * p.val + l.val < 2048) :
    val_main_v27 (F := Ideal) x g sc sh w b (ix3 p r l) = proj (Ideal.ofBits .f32 0x44800000#32) x g sc sh w r ⟨1024 * p.val + l.val, hb⟩ + b (ix2 0 ⟨1024 * p.val + l.val, hb⟩) := by
  unfold val_main_v27
  change val_main_v26 (F := Ideal) x g sc sh w b (ix3 p r l) = _
  unfold val_main_v26
  concat_tiles i h
  all_goals
    idx_vars i
    obtain rfl : i1 = r := Fin.ext h1
    obtain rfl : i2 = l := Fin.ext h2
    pointwise [val_main_v22, val_main_v23, val_main_v24, val_main_v25]
    refine Eq.trans ?_ (proj_at x g sc sh w b i1 ⟨_, hb⟩)
    refine congrArg (fun k => val_main_v20 (F := Ideal) x g sc sh w b (ix2 i1 k)) (Fin.ext ?_)
    dsimp only [ix3_0] at h ⊢
    omega

end Cert.BInRefIdeal.Pure

namespace Cert.BInIdeal

open Cert.NormIn Idealize.ShloMosaic Idealize.ShloMosaic.TcCoe Idealize.SL.Sem

theorem algebraic : Cert.algebraic_BInIdeal_BInRefIdeal (hBInIdeal := Cert.BInIdeal.Gen.facts) (hBInRefIdeal := Cert.BInRefIdeal.Gen.facts) := by
  pair_intro
  · run_from Cert.BInIdeal.Value.run_parts m g
  · refine θ_run_mono (Cert.BInRefIdeal.Value.run m' g') fun r h c => ?_
    obtain ⟨h1, h2, ha⟩ := h c
    obtain ⟨e0, e1, e2, e3, e4, e5⟩ := hagree c
    refine ⟨h1.trans ?_, h2.trans ?_, ha⟩
    · refine (Cert.BInRefIdeal.Read.val_main_v21_eq _ _ _ _).trans ?_
      rw [e0, e1, e2, e3, Cert.BInRefIdeal.Pure.rows_eq]
      rfl
    · refine (Cert.BInRefIdeal.Read.val_main_v27_eq _ _ _ _ _ _).trans ?_
      rw [e0, e1, e2, e3, e4, e5]
      funext i
      idx_vars i
      exact Cert.BInRefIdeal.Pure.parts_eq _ _ _ _ _ _ _ _ _ _

end Cert.BInIdeal

end
-- ==== Proof.BNormValue.lean ====
/- What `BNormIdeal` leaves in each result, as sums over the argument arrays. -/
module

public import proofs.«01_k».proof.Proof.LayerGrad
public import proofs.«01_k».proof.Proof.Gen.BNormIdeal.Frame
public import Idealize.ShloMosaic.Lib.Pipeline.ValueKit
public import Idealize.ShloMosaic.Lib.Pointwise
public import Idealize.ShloMosaic.Lib.Claim

@[expose] public section

set_option maxRecDepth 16384

noncomputable section

namespace Cert.BNormIdeal.Value

open Cert.BNormIdeal Cert.BNormIdeal.Gen Idealize.ShloMosaic Idealize.ShloMosaic.TcCoe Idealize.SL.Sem
open Cert.Layer
open Idealize.ShloMosaic.Pipeline (Dat)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0, 0] ∧ win0_6.index t = ![t.val, 0, 0] ∧ win0_7.index t = ![t.val, 0, 0] :=
  (by decide +kernel : ∀ t : Fin grid0.N, _)

theorem t_lt (t : Fin cfg0.N) : t.val < 8 := lt_of_lt_of_eq t.isLt (by decide +kernel)

section
variable (v : FVec Ideal S512x1024 .f32) (dw : FVec Ideal S512x1024 .bf16) (g b : FVec Ideal S1x1024 .f32)

theorem n_at (r : Fin 512) (l : Fin 1024) : k0_pay13 (F := Ideal) v dw g b (ix2 r l) = cen (fun k => v (ix2 r k)) l * rstd fun k => v (ix2 r k) := by
  pointwise [k0_pay13, k0_pay8, k0_pay7, k0_pay6, rstd, cen]

theorem r_at (r : Fin 512) (o : Fin 1) : k0_pay12 (F := Ideal) v dw g b (ix2 r o) = rstd fun k => v (ix2 r k) := by
  pointwise [k0_pay12, k0_pay7, k0_pay6, rstd, cen]

theorem dl_at (r : Fin 512) (l : Fin 1024) : k0_pay14 (F := Ideal) v dw g b (ix2 r l) = dl (fun k => v (ix2 r k)) (fun k => dw (ix2 r k)) (fun k => g (ix2 0 k)) (fun k => b (ix2 0 k)) l := by
  pointwise [k0_pay14, k0_pay9, k0_pay8, k0_pay7, k0_pay6, dl, ln, rstd, cen]

theorem dn_at (r : Fin 512) (l : Fin 1024) : k0_pay15 (F := Ideal) v dw g b (ix2 r l) = dl (fun k => v (ix2 r k)) (fun k => dw (ix2 r k)) (fun k => g (ix2 0 k)) (fun k => b (ix2 0 k)) l * g (ix2 0 l) := by
  have e := dl_at v dw g b
  unfold k0_pay14 at e
  pointwise [k0_pay15, k0_pay10, e]

theorem mean_at (r : Fin 512) (l : Fin 1024) : k0_pay16 (F := Ideal) v dw g b (ix2 r l)
    = Ideal.div (∑ k, dl (fun k => v (ix2 r k)) (fun k => dw (ix2 r k)) (fun k => g (ix2 0 k)) (fun k => b (ix2 0 k)) k * g (ix2 0 k)) (Ideal.ofBits .f32 0x44800000#32) := by
  have e := dn_at v dw g b
  unfold k0_pay15 at e
  pointwise [k0_pay16, k0_pay11, e]

theorem dv_at (r : Fin 512) (l : Fin 1024) :
    k0_pay1 (k0_pay12 (F := Ideal) v dw g b) (k0_pay13 v dw g b) (k0_pay15 v dw g b) (k0_pay16 v dw g b) (ix2 r l) = rowDv (fun k => v (ix2 r k)) (fun k => dw (ix2 r k)) (fun k => g (ix2 0 k)) (fun k => b (ix2 0 k)) l := by
  pointwise [k0_pay1, n_at, r_at, dn_at, mean_at, rowDv]

theorem pay2 (r : Fin 512) (l : Fin 1024) :
    k0_pay2 (k0_pay12 (F := Ideal) v dw g b) (k0_pay13 v dw g b) (k0_pay15 v dw g b) (k0_pay16 v dw g b) (ix2 r l) = rowDv (fun k => v (ix2 r k)) (fun k => dw (ix2 r k)) (fun k => g (ix2 0 k)) (fun k => b (ix2 0 k)) l := by
  pointwise [k0_pay2, dv_at]

theorem pay3 (o p : Fin 1) (l : Fin 1024) : k0_pay3 (k0_pay13 (F := Ideal) v dw g b) (k0_pay14 v dw g b) (ix3 o p l)
    = ∑ r : Fin 512, dl (fun k => v (ix2 r k)) (fun k => dw (ix2 r k)) (fun k => g (ix2 0 k)) (fun k => b (ix2 0 k)) l * (cen (fun k => v (ix2 r k)) l * rstd fun k => v (ix2 r k)) := by
  pointwise [k0_pay3, n_at, dl_at]

theorem pay4 (o p : Fin 1) (l : Fin 1024) : k0_pay4 (k0_pay14 (F := Ideal) v dw g b) (ix3 o p l) = ∑ r : Fin 512, dl (fun k => v (ix2 r k)) (fun k => dw (ix2 r k)) (fun k => g (ix2 0 k)) (fun k => b (ix2 0 k)) l := by
  pointwise [k0_pay4, dl_at]

theorem pay5 (o p : Fin 1) (l : Fin 1024) :
    k0_pay5 (k0_pay12 (F := Ideal) v dw g b) (k0_pay13 v dw g b) (k0_pay15 v dw g b) (k0_pay16 v dw g b) (ix3 o p l) = ∑ r : Fin 512, rowDv (fun k => v (ix2 r k)) (fun k => dw (ix2 r k)) (fun k => g (ix2 0 k)) (fun k => b (ix2 0 k)) l := by
  pointwise [k0_pay5, dv_at]

end

variable (m : (ℓ : Loc nD τ sig) → Buf (Elt Ideal) ℓ)

theorem host1 (c : Dev nD) (r : Fin 4096) (k : Fin 1024) : V m c main_v1 (ix2 r k) = row (m ((c : Thread nD τ).loc main_arg0)) (m ((c : Thread nD τ).loc main_arg1)) r k := by
  show StableHlo.after hostOps0 _ (Proc.tc.devRef main_v1) _ = _
  unfold hostOps0
  after_results
  pointwise [row]

theorem host2 (c : Dev nD) (r : Fin 4096) (k : Fin 1024) : V m c main_v2 (ix2 r k) = (m ((c : Thread nD τ).loc main_arg4)) (ix2 r k) := by
  show StableHlo.after hostOps0 _ (Proc.tc.devRef main_v2) _ = _
  unfold hostOps0
  after_results
  pointwise []

theorem b0 (c : Dev nD) (t : Fin cfg0.N) (r : Fin 512) (k : Fin 1024) : iblk m c 0 t (ix2 r k)
    = row (m ((c : Thread nD τ).loc main_arg0)) (m ((c : Thread nD τ).loc main_arg1)) ⟨512 * t.val + r.val, by have := t_lt t; omega⟩ k := by
  refine Eq.trans ?_ (host1 m c _ k)
  blk_point [iblk, idx t]

theorem b1 (c : Dev nD) (t : Fin cfg0.N) (r : Fin 512) (k : Fin 1024) : iblk m c 1 t (ix2 r k)
    = (m ((c : Thread nD τ).loc main_arg4)) (ix2 ⟨512 * t.val + r.val, by have := t_lt t; omega⟩ k) := by
  refine Eq.trans ?_ (host2 m c _ k)
  blk_point [iblk, idx t]

theorem b2 (c : Dev nD) (t : Fin cfg0.N) (o : Fin 1) (k : Fin 1024) : iblk m c 2 t (ix2 o k) = (m ((c : Thread nD τ).loc main_arg2)) (ix2 o k) := by
  refine Eq.trans ?_ (congrFun (V_main_arg2 m c) _)
  blk_point [iblk, idx t]

theorem b3 (c : Dev nD) (t : Fin cfg0.N) (o : Fin 1) (k : Fin 1024) : iblk m c 3 t (ix2 o k) = (m ((c : Thread nD τ).loc main_arg3)) (ix2 o k) := by
  refine Eq.trans ?_ (congrFun (V_main_arg3 m c) _)
  blk_point [iblk, idx t]

theorem emb4 (t : Fin cfg0.N) (r : Fin 512) (l : Fin 1024) : ((cfg0.win 4).blk t).view.emb (ix2 r l) = ix2 ⟨512 * t.val + r.val, by have := t_lt t; omega⟩ l := by
  blk_ext [idx t]

theorem emb5 (t : Fin cfg0.N) (o p : Fin 1) (l : Fin 1024) : ((cfg0.win 5).blk t).view.emb (ix3 o p l) = ix3 ⟨t.val, t_lt t⟩ p l := by
  blk_ext [idx t]

theorem emb6 (t : Fin cfg0.N) (o p : Fin 1) (l : Fin 1024) : ((cfg0.win 6).blk t).view.emb (ix3 o p l) = ix3 ⟨t.val, t_lt t⟩ p l := by
  blk_ext [idx t]

theorem emb7 (t : Fin cfg0.N) (o p : Fin 1) (l : Fin 1024) : ((cfg0.win 7).blk t).view.emb (ix3 o p l) = ix3 ⟨t.val, t_lt t⟩ p l := by
  blk_ext [idx t]

theorem final4 (c : Dev nD) : (dats m 0 c).arrAt 4 (cfgs 0).N = dv (m ((c : Thread nD τ).loc main_arg0)) (m ((c : Thread nD τ).loc main_arg4)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  rw [pay2, emb4]
  simp only [dv, dvs, b0, b1, b2, b3]
  rfl

theorem final5 (c : Dev nD) : (dats m 0 c).arrAt 5 (cfgs 0).N = part (fun r l => dls (m ((c : Thread nD τ).loc main_arg0)) (m ((c : Thread nD τ).loc main_arg4)) (m ((c : Thread nD τ).loc main_arg1)) (m ((c : Thread nD τ).loc main_arg2)) (m ((c : Thread nD τ).loc main_arg3)) r l * xhat (m ((c : Thread nD τ).loc main_arg0)) (m ((c : Thread nD τ).loc main_arg1)) r l) := by
  refine (dats m 0 c).arrAt_eq_of_covers 5 _ (by decide +kernel) fun t _ y => ?_
  blk_simp
  rw [after0_5]; frame_out
  idx_vars y
  rw [pay3, emb5]
  simp only [part, dls, xhat, b0, b1, b2, b3]
  rfl

theorem final6 (c : Dev nD) : (dats m 0 c).arrAt 6 (cfgs 0).N = part (dls (m ((c : Thread nD τ).loc main_arg0)) (m ((c : Thread nD τ).loc main_arg4)) (m ((c : Thread nD τ).loc main_arg1)) (m ((c : Thread nD τ).loc main_arg2)) (m ((c : Thread nD τ).loc main_arg3))) := by
  refine (dats m 0 c).arrAt_eq_of_covers 6 _ (by decide +kernel) fun t _ y => ?_
  blk_simp
  rw [after0_6]; frame_out
  idx_vars y
  rw [pay4, emb6]
  simp only [part, dls, b0, b1, b2, b3]
  rfl

theorem final7 (c : Dev nD) : (dats m 0 c).arrAt 7 (cfgs 0).N = part (dvs (m ((c : Thread nD τ).loc main_arg0)) (m ((c : Thread nD τ).loc main_arg4)) (m ((c : Thread nD τ).loc main_arg1)) (m ((c : Thread nD τ).loc main_arg2)) (m ((c : Thread nD τ).loc main_arg3))) := by
  refine (dats m 0 c).arrAt_eq_of_covers 7 _ (by decide +kernel) fun t _ y => ?_
  blk_simp
  rw [after0_7]; frame_out
  idx_vars y
  rw [pay5, emb7]
  simp only [part, dvs, b0, b1, b2, b3]
  rfl

/-! ## The host lines after the kernel -/

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w5 (c : Dev nD) : W m c (Proc.tc.devRef main_v3_1) = part (fun r l => dls (m ((c : Thread nD τ).loc main_arg0)) (m ((c : Thread nD τ).loc main_arg4)) (m ((c : Thread nD τ).loc main_arg1)) (m ((c : Thread nD τ).loc main_arg2)) (m ((c : Thread nD τ).loc main_arg3)) r l * xhat (m ((c : Thread nD τ).loc main_arg0)) (m ((c : Thread nD τ).loc main_arg1)) r l) :=
  (Pipeline.withArrays_arr _ arr_inj c _ _ 5).trans (final5 m c)

theorem tail4 (c : Dev nD) : Pipeline.afterTail₀ cfgs (dats m) 0 (V0 m) [hostOps1] c main_v4 = all (fun r l => dls (m ((c : Thread nD τ).loc main_arg0)) (m ((c : Thread nD τ).loc main_arg4)) (m ((c : Thread nD τ).loc main_arg1)) (m ((c : Thread nD τ).loc main_arg2)) (m ((c : Thread nD τ).loc main_arg3)) r l * xhat (m ((c : Thread nD τ).loc main_arg0)) (m ((c : Thread nD τ).loc main_arg1)) r l) := by
  show StableHlo.after hostOps1 (W m c) (Proc.tc.devRef main_v4) = _
  unfold hostOps1
  after_results
  rw [w5 m c]
  funext i
  idx_vars i
  obtain rfl : i0 = 0 := Subsingleton.elim _ _
  refine Eq.trans ?_ (all_part _ i1)
  pointwise []

theorem w6 (c : Dev nD) : W m c (Proc.tc.devRef main_v3_2) = part (dls (m ((c : Thread nD τ).loc main_arg0)) (m ((c : Thread nD τ).loc main_arg4)) (m ((c : Thread nD τ).loc main_arg1)) (m ((c : Thread nD τ).loc main_arg2)) (m ((c : Thread nD τ).loc main_arg3))) :=
  (Pipeline.withArrays_arr _ arr_inj c _ _ 6).trans (final6 m c)

theorem tail5 (c : Dev nD) : Pipeline.afterTail₀ cfgs (dats m) 0 (V0 m) [hostOps1] c main_v5 = all (dls (m ((c : Thread nD τ).loc main_arg0)) (m ((c : Thread nD τ).loc main_arg4)) (m ((c : Thread nD τ).loc main_arg1)) (m ((c : Thread nD τ).loc main_arg2)) (m ((c : Thread nD τ).loc main_arg3))) := by
  show StableHlo.after hostOps1 (W m c) (Proc.tc.devRef main_v5) = _
  unfold hostOps1
  after_results
  rw [w6 m c]
  funext i
  idx_vars i
  obtain rfl : i0 = 0 := Subsingleton.elim _ _
  refine Eq.trans ?_ (all_part _ i1)
  pointwise []

theorem w7 (c : Dev nD) : W m c (Proc.tc.devRef main_v3_3) = part (dvs (m ((c : Thread nD τ).loc main_arg0)) (m ((c : Thread nD τ).loc main_arg4)) (m ((c : Thread nD τ).loc main_arg1)) (m ((c : Thread nD τ).loc main_arg2)) (m ((c : Thread nD τ).loc main_arg3))) :=
  (Pipeline.withArrays_arr _ arr_inj c _ _ 7).trans (final7 m c)

theorem tail6 (c : Dev nD) : Pipeline.afterTail₀ cfgs (dats m) 0 (V0 m) [hostOps1] c main_v6 = all (dvs (m ((c : Thread nD τ).loc main_arg0)) (m ((c : Thread nD τ).loc main_arg4)) (m ((c : Thread nD τ).loc main_arg1)) (m ((c : Thread nD τ).loc main_arg2)) (m ((c : Thread nD τ).loc main_arg3))) := by
  show StableHlo.after hostOps1 (W m c) (Proc.tc.devRef main_v6) = _
  unfold hostOps1
  after_results
  rw [w7 m c]
  funext i
  idx_vars i
  obtain rfl : i0 = 0 := Subsingleton.elim _ _
  refine Eq.trans ?_ (all_part _ i1)
  pointwise []

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v3_0) = dv (m ((c : Thread nD τ).loc main_arg0)) (m ((c : Thread nD τ).loc main_arg4)) (m ((c : Thread nD τ).loc main_arg1)) (m ((c : Thread nD τ).loc main_arg2)) (m ((c : Thread nD τ).loc main_arg3))
      ∧ r.2.mem ((c.tc : Thread nD τ).loc main_v4) = all (fun r l => dls (m ((c : Thread nD τ).loc main_arg0)) (m ((c : Thread nD τ).loc main_arg4)) (m ((c : Thread nD τ).loc main_arg1)) (m ((c : Thread nD τ).loc main_arg2)) (m ((c : Thread nD τ).loc main_arg3)) r l * xhat (m ((c : Thread nD τ).loc main_arg0)) (m ((c : Thread nD τ).loc main_arg1)) r l)
      ∧ r.2.mem ((c.tc : Thread nD τ).loc main_v5) = all (dls (m ((c : Thread nD τ).loc main_arg0)) (m ((c : Thread nD τ).loc main_arg4)) (m ((c : Thread nD τ).loc main_arg1)) (m ((c : Thread nD τ).loc main_arg2)) (m ((c : Thread nD τ).loc main_arg3)))
      ∧ r.2.mem ((c.tc : Thread nD τ).loc main_v6) = all (dvs (m ((c : Thread nD τ).loc main_arg0)) (m ((c : Thread nD τ).loc main_arg4)) (m ((c : Thread nD τ).loc main_arg1)) (m ((c : Thread nD τ).loc main_arg2)) (m ((c : Thread nD τ).loc main_arg3))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  refine (θ_run defs _ _).mono (fun r h c => ⟨⟨?_, ?_, ?_, ?_⟩, h.2 c⟩) (θ_run_and (run_main m ρ) (unchanged m ρ))
  · exact ((h.1 c).1 4).trans (final4 m c)
  · exact ((h.1 c).2 main_v4 (by decide)).trans (tail4 m c)
  · exact ((h.1 c).2 main_v5 (by decide)).trans (tail5 m c)
  · exact ((h.1 c).2 main_v6 (by decide)).trans (tail6 m c)

end Cert.BNormIdeal.Value

end
-- ==== Proof.BNormRefRun.lean ====
/- The reference run stage by stage. -/
module

public import proofs.«01_k».proof.Proof.Gen.BNormRefIdeal
public import Idealize.ShloMosaic.Lib.StableHlo.RunHlo
public import Idealize.ShloMosaic.Lib.StableHlo.RunRead
public import proofs.«01_k».proof.Proof.BNormValue

@[expose] public section

set_option maxRecDepth 16384

noncomputable section

namespace Cert.BNormRefIdeal.Staged

open Cert.BNormRefIdeal Cert.BNormRefIdeal.Gen Idealize.ShloMosaic Idealize.ShloMosaic.TcCoe Idealize.SL.Sem Idealize.ShloMosaic.StableHlo
open Cert.Layer

/-- The operations of the reference, in order. -/
def line {F : FTy → Type} [FloatOps F] : { ops : List (HloOp τ sig (Elt F)) // ∀ d, IsSeq (main (F := F) d) ops } := by
  apply Subtype.mk
  hlo_seq

variable (m : (ℓ : Loc nD τ sig) → Buf (Elt Ideal) ℓ)

abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)

/-- The buffers after operation 30. -/
def W1 (c : Dev nD) : Valuation τ sig (Elt Ideal) := after ((line.1.drop 0).take 30) (launchContents m c)

theorem w1_arg0 (c : Dev nD) : W1 m c (no_index (Proc.devRef .tc main_arg0)) = x0 m c := by
  unfold W1 line
  simp only [List.take, List.drop, TRef.binary, TRef.nullary, TRef.unary, TRef.toBuf, TRef.ofBuf, cast_eq]
  after_reads_simp

theorem w1_arg1 (c : Dev nD) : W1 m c (no_index (Proc.devRef .tc main_arg1)) = x1 m c := by
  unfold W1 line
  simp only [List.take, List.drop, TRef.binary, TRef.nullary, TRef.unary, TRef.toBuf, TRef.ofBuf, cast_eq]
  after_reads_simp

theorem w1_arg2 (c : Dev nD) : W1 m c (no_index (Proc.devRef .tc main_arg2)) = x2 m c := by
  unfold W1 line
  simp only [List.take, List.drop, TRef.binary, TRef.nullary, TRef.unary, TRef.toBuf, TRef.ofBuf, cast_eq]
  after_reads_simp

theorem w1_arg3 (c : Dev nD) : W1 m c (no_index (Proc.devRef .tc main_arg3)) = x3 m c := by
  unfold W1 line
  simp only [List.take, List.drop, TRef.binary, TRef.nullary, TRef.unary, TRef.toBuf, TRef.ofBuf, cast_eq]
  after_reads_simp

theorem w1_arg4 (c : Dev nD) : W1 m c (no_index (Proc.devRef .tc main_arg4)) = x4 m c := by
  unfold W1 line
  simp only [List.take, List.drop, TRef.binary, TRef.nullary, TRef.unary, TRef.toBuf, TRef.ofBuf, cast_eq]
  after_reads_simp

theorem w1_v16 (c : Dev nD) : W1 m c (no_index (Proc.devRef .tc main_v16))
    = fun i => cen (row (x0 m c) (x1 m c) (i 0)) (i 1) := by
  unfold W1 line
  simp only [List.take, List.drop, TRef.binary, TRef.nullary, TRef.unary, TRef.toBuf, TRef.ofBuf, cast_eq]
  after_reads_simp
  funext i
  idx_vars i
  pointwise [cen, row]

theorem w1_v10 (c : Dev nD) : W1 m c (no_index (Proc.devRef .tc main_v10))
    = fun i => Ideal.ofBits .f32 0x40000000#32 * cen (row (x0 m c) (x1 m c) (i 0)) (i 1) := by
  unfold W1 line
  simp only [List.take, List.drop, TRef.binary, TRef.nullary, TRef.unary, TRef.toBuf, TRef.ofBuf, cast_eq]
  after_reads_simp
  funext i
  idx_vars i
  pointwise [cen, row]

theorem w1_v19 (c : Dev nD) : W1 m c (no_index (Proc.devRef .tc main_v19))
    = fun i => rstd (row (x0 m c) (x1 m c) (i 0)) := by
  unfold W1 line
  simp only [List.take, List.drop, TRef.binary, TRef.nullary, TRef.unary, TRef.toBuf, TRef.ofBuf, cast_eq]
  after_reads_simp
  funext i
  idx_vars i
  pointwise [rstd, cen, row]

theorem w1_v22 (c : Dev nD) : W1 m c (no_index (Proc.devRef .tc main_v22))
    = fun i => Ideal.ofBits .f32 0xBF000000#32 * Ideal.div (rstd (row (x0 m c) (x1 m c) (i 0)))
    (Ideal.div (∑ k, cen (row (x0 m c) (x1 m c) (i 0)) k * cen (row (x0 m c) (x1 m c) (i 0)) k) (Ideal.ofBits .f32 0x44800000#32) + Ideal.ofBits .f32 0x358637BD#32) := by
  unfold W1 line
  simp only [List.take, List.drop, TRef.binary, TRef.nullary, TRef.unary, TRef.toBuf, TRef.ofBuf, cast_eq]
  after_reads_simp
  funext i
  idx_vars i
  pointwise [rstd, cen, row]

/-- The buffers after operation 53. -/
def W2 (c : Dev nD) : Valuation τ sig (Elt Ideal) := after ((line.1.drop 30).take 23) (W1 m c)

theorem w2_arg0 (c : Dev nD) : W2 m c (no_index (Proc.devRef .tc main_arg0)) = x0 m c := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_arg1 (c : Dev nD) : W2 m c (no_index (Proc.devRef .tc main_arg1)) = x1 m c := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_arg2 (c : Dev nD) : W2 m c (no_index (Proc.devRef .tc main_arg2)) = x2 m c := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_arg3 (c : Dev nD) : W2 m c (no_index (Proc.devRef .tc main_arg3)) = x3 m c := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_arg4 (c : Dev nD) : W2 m c (no_index (Proc.devRef .tc main_arg4)) = x4 m c := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_v16 (c : Dev nD) : W2 m c (no_index (Proc.devRef .tc main_v16))
    = fun i => cen (row (x0 m c) (x1 m c) (i 0)) (i 1) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_v10 (c : Dev nD) : W2 m c (no_index (Proc.devRef .tc main_v10))
    = fun i => Ideal.ofBits .f32 0x40000000#32 * cen (row (x0 m c) (x1 m c) (i 0)) (i 1) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_v19 (c : Dev nD) : W2 m c (no_index (Proc.devRef .tc main_v19))
    = fun i => rstd (row (x0 m c) (x1 m c) (i 0)) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_v22 (c : Dev nD) : W2 m c (no_index (Proc.devRef .tc main_v22))
    = fun i => Ideal.ofBits .f32 0xBF000000#32 * Ideal.div (rstd (row (x0 m c) (x1 m c) (i 0)))
    (Ideal.div (∑ k, cen (row (x0 m c) (x1 m c) (i 0)) k * cen (row (x0 m c) (x1 m c) (i 0)) k) (Ideal.ofBits .f32 0x44800000#32) + Ideal.ofBits .f32 0x358637BD#32) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]

theorem w2_v24 (c : Dev nD) : W2 m c (no_index (Proc.devRef .tc main_v24))
    = fun i => xhat (x0 m c) (x1 m c) (i 0) (i 1) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]
  funext i
  idx_vars i
  pointwise [xhat]

theorem w2_v30 (c : Dev nD) : W2 m c (no_index (Proc.devRef .tc main_v30))
    = fun i => refDls (x0 m c) (x4 m c) (x1 m c) (x2 m c) (x3 m c) (i 0) (i 1) := by
  unfold W2 line
  simp only [List.take, List.drop, TRef.binary, TRef.nullary, TRef.unary, TRef.toBuf, TRef.ofBuf, cast_eq]
  after_reads_simp [w1_arg0 m c, w1_arg1 m c, w1_arg2 m c, w1_arg3 m c, w1_arg4 m c, w1_v16 m c, w1_v10 m c, w1_v19 m c, w1_v22 m c]
  funext i
  idx_vars i
  pointwise [refDls, refDl, ln, refLog]

/-- The buffers after operation 68. -/
def W3 (c : Dev nD) : Valuation τ sig (Elt Ideal) := after ((line.1.drop 53).take 15) (W2 m c)

theorem w3_arg0 (c : Dev nD) : W3 m c (no_index (Proc.devRef .tc main_arg0)) = x0 m c := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_arg1 (c : Dev nD) : W3 m c (no_index (Proc.devRef .tc main_arg1)) = x1 m c := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_arg2 (c : Dev nD) : W3 m c (no_index (Proc.devRef .tc main_arg2)) = x2 m c := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_arg3 (c : Dev nD) : W3 m c (no_index (Proc.devRef .tc main_arg3)) = x3 m c := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_arg4 (c : Dev nD) : W3 m c (no_index (Proc.devRef .tc main_arg4)) = x4 m c := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_v16 (c : Dev nD) : W3 m c (no_index (Proc.devRef .tc main_v16))
    = fun i => cen (row (x0 m c) (x1 m c) (i 0)) (i 1) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_v10 (c : Dev nD) : W3 m c (no_index (Proc.devRef .tc main_v10))
    = fun i => Ideal.ofBits .f32 0x40000000#32 * cen (row (x0 m c) (x1 m c) (i 0)) (i 1) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_v22 (c : Dev nD) : W3 m c (no_index (Proc.devRef .tc main_v22))
    = fun i => Ideal.ofBits .f32 0xBF000000#32 * Ideal.div (rstd (row (x0 m c) (x1 m c) (i 0)))
    (Ideal.div (∑ k, cen (row (x0 m c) (x1 m c) (i 0)) k * cen (row (x0 m c) (x1 m c) (i 0)) k) (Ideal.ofBits .f32 0x44800000#32) + Ideal.ofBits .f32 0x358637BD#32) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]

theorem w3_v32 (c : Dev nD) : W3 m c (no_index (Proc.devRef .tc main_v32))
    = all (refDls (x0 m c) (x4 m c) (x1 m c) (x2 m c) (x3 m c)) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]
  funext i
  idx_vars i
  pointwise [all]

theorem w3_v35 (c : Dev nD) : W3 m c (no_index (Proc.devRef .tc main_v35))
    = all (fun r l => xhat (x0 m c) (x1 m c) r l * refDls (x0 m c) (x4 m c) (x1 m c) (x2 m c) (x3 m c) r l) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]
  funext i
  idx_vars i
  pointwise [all]

theorem w3_v40 (c : Dev nD) : W3 m c (no_index (Proc.devRef .tc main_v40))
    = fun i => ∑ k, cen (row (x0 m c) (x1 m c) (i 0)) k * (refDls (x0 m c) (x4 m c) (x1 m c) (x2 m c) (x3 m c) (i 0) k * (x2 m c) (ix2 0 k)) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]
  funext i
  idx_vars i
  pointwise []

theorem w3_v42 (c : Dev nD) : W3 m c (no_index (Proc.devRef .tc main_v42))
    = fun i => refDls (x0 m c) (x4 m c) (x1 m c) (x2 m c) (x3 m c) (i 0) (i 1) * (x2 m c) (ix2 0 (i 1)) * rstd (row (x0 m c) (x1 m c) (i 0)) := by
  unfold W3 line
  simp only [List.take, List.drop, TRef.binary, TRef.nullary, TRef.unary, TRef.toBuf, TRef.ofBuf, cast_eq]
  after_reads_simp [w2_arg0 m c, w2_arg1 m c, w2_arg2 m c, w2_arg3 m c, w2_arg4 m c, w2_v16 m c, w2_v10 m c, w2_v19 m c, w2_v22 m c, w2_v24 m c, w2_v30 m c]
  funext i
  idx_vars i
  pointwise []

/-- The buffers after operation 80. -/
def W4 (c : Dev nD) : Valuation τ sig (Elt Ideal) := after ((line.1.drop 68).take 12) (W3 m c)

theorem w4_arg0 (c : Dev nD) : W4 m c (no_index (Proc.devRef .tc main_arg0)) = x0 m c := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_arg1 (c : Dev nD) : W4 m c (no_index (Proc.devRef .tc main_arg1)) = x1 m c := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_arg2 (c : Dev nD) : W4 m c (no_index (Proc.devRef .tc main_arg2)) = x2 m c := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_arg3 (c : Dev nD) : W4 m c (no_index (Proc.devRef .tc main_arg3)) = x3 m c := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_arg4 (c : Dev nD) : W4 m c (no_index (Proc.devRef .tc main_arg4)) = x4 m c := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_v32 (c : Dev nD) : W4 m c (no_index (Proc.devRef .tc main_v32))
    = all (refDls (x0 m c) (x4 m c) (x1 m c) (x2 m c) (x3 m c)) := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_v35 (c : Dev nD) : W4 m c (no_index (Proc.devRef .tc main_v35))
    = all (fun r l => xhat (x0 m c) (x1 m c) r l * refDls (x0 m c) (x4 m c) (x1 m c) (x2 m c) (x3 m c) r l) := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_v42 (c : Dev nD) : W4 m c (no_index (Proc.devRef .tc main_v42))
    = fun i => refDls (x0 m c) (x4 m c) (x1 m c) (x2 m c) (x3 m c) (i 0) (i 1) * (x2 m c) (ix2 0 (i 1)) * rstd (row (x0 m c) (x1 m c) (i 0)) := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]

theorem w4_v46 (c : Dev nD) : W4 m c (no_index (Proc.devRef .tc main_v46))
    = fun i => ∑ k, -(refDls (x0 m c) (x4 m c) (x1 m c) (x2 m c) (x3 m c) (i 0) k * (x2 m c) (ix2 0 k) * rstd (row (x0 m c) (x1 m c) (i 0))) := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]
  funext i
  idx_vars i
  pointwise []

theorem w4_v51 (c : Dev nD) : W4 m c (no_index (Proc.devRef .tc main_v51))
    = fun i => refVar (row (x0 m c) (x1 m c) (i 0)) (fun k => refDls (x0 m c) (x4 m c) (x1 m c) (x2 m c) (x3 m c) (i 0) k * (x2 m c) (ix2 0 k)) * (Ideal.ofBits .f32 0x40000000#32 * cen (row (x0 m c) (x1 m c) (i 0)) (i 1)) := by
  unfold W4 line
  simp only [List.take, List.drop, TRef.binary, TRef.nullary, TRef.unary, TRef.toBuf, TRef.ofBuf, cast_eq]
  after_reads_simp [w3_arg0 m c, w3_arg1 m c, w3_arg2 m c, w3_arg3 m c, w3_arg4 m c, w3_v16 m c, w3_v10 m c, w3_v22 m c, w3_v32 m c, w3_v35 m c, w3_v40 m c, w3_v42 m c]
  funext i
  idx_vars i
  pointwise [refVar]

/-- The buffers after operation 93. -/
def W5 (c : Dev nD) : Valuation τ sig (Elt Ideal) := after ((line.1.drop 80).take 13) (W4 m c)

theorem w5_arg0 (c : Dev nD) : W5 m c (no_index (Proc.devRef .tc main_arg0)) = x0 m c := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_arg1 (c : Dev nD) : W5 m c (no_index (Proc.devRef .tc main_arg1)) = x1 m c := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_arg2 (c : Dev nD) : W5 m c (no_index (Proc.devRef .tc main_arg2)) = x2 m c := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_arg3 (c : Dev nD) : W5 m c (no_index (Proc.devRef .tc main_arg3)) = x3 m c := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_arg4 (c : Dev nD) : W5 m c (no_index (Proc.devRef .tc main_arg4)) = x4 m c := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_v32 (c : Dev nD) : W5 m c (no_index (Proc.devRef .tc main_v32))
    = all (refDls (x0 m c) (x4 m c) (x1 m c) (x2 m c) (x3 m c)) := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_v35 (c : Dev nD) : W5 m c (no_index (Proc.devRef .tc main_v35))
    = all (fun r l => xhat (x0 m c) (x1 m c) r l * refDls (x0 m c) (x4 m c) (x1 m c) (x2 m c) (x3 m c) r l) := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]

theorem w5_v61 (c : Dev nD) : W5 m c (no_index (Proc.devRef .tc main_v61))
    = fun i => refDvs (x0 m c) (x4 m c) (x1 m c) (x2 m c) (x3 m c) (i 0) (i 1) := by
  unfold W5 line
  simp only [List.take, List.drop, TRef.binary, TRef.nullary, TRef.unary, TRef.toBuf, TRef.ofBuf, cast_eq]
  after_reads_simp [w4_arg0 m c, w4_arg1 m c, w4_arg2 m c, w4_arg3 m c, w4_arg4 m c, w4_v32 m c, w4_v35 m c, w4_v42 m c, w4_v46 m c, w4_v51 m c]
  funext i
  idx_vars i
  pointwise [refDvs, refDv]

/-- The buffers after operation 97. -/
def W6 (c : Dev nD) : Valuation τ sig (Elt Ideal) := after ((line.1.drop 93).take 4) (W5 m c)

theorem w6_arg0 (c : Dev nD) : W6 m c (no_index (Proc.devRef .tc main_arg0)) = x0 m c := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_arg1 (c : Dev nD) : W6 m c (no_index (Proc.devRef .tc main_arg1)) = x1 m c := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_arg2 (c : Dev nD) : W6 m c (no_index (Proc.devRef .tc main_arg2)) = x2 m c := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_arg3 (c : Dev nD) : W6 m c (no_index (Proc.devRef .tc main_arg3)) = x3 m c := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_arg4 (c : Dev nD) : W6 m c (no_index (Proc.devRef .tc main_arg4)) = x4 m c := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_v64 (c : Dev nD) : W6 m c (no_index (Proc.devRef .tc main_v64))
    = fun i => refDvs (x0 m c) (x4 m c) (x1 m c) (x2 m c) (x3 m c) (i 0) (i 1) := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]
  funext i
  idx_vars i
  pointwise []

theorem w6_v35 (c : Dev nD) : W6 m c (no_index (Proc.devRef .tc main_v35))
    = all (fun r l => xhat (x0 m c) (x1 m c) r l * refDls (x0 m c) (x4 m c) (x1 m c) (x2 m c) (x3 m c) r l) := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_v32 (c : Dev nD) : W6 m c (no_index (Proc.devRef .tc main_v32))
    = all (refDls (x0 m c) (x4 m c) (x1 m c) (x2 m c) (x3 m c)) := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]

theorem w6_v63 (c : Dev nD) : W6 m c (no_index (Proc.devRef .tc main_v63))
    = all (refDvs (x0 m c) (x4 m c) (x1 m c) (x2 m c) (x3 m c)) := by
  unfold W6 line
  simp only [List.take, List.drop, TRef.binary, TRef.nullary, TRef.unary, TRef.toBuf, TRef.ofBuf, cast_eq]
  after_reads_simp [w5_arg0 m c, w5_arg1 m c, w5_arg2 m c, w5_arg3 m c, w5_arg4 m c, w5_v32 m c, w5_v35 m c, w5_v61 m c]
  funext i
  idx_vars i
  pointwise [all]

theorem after_line (c : Dev nD) : after line.1 (launchContents m c) = W6 m c := by
  unfold W6 W5 W4 W3 W2 W1
  simp only [← after_append]
  rfl

theorem sub : (line (F := Ideal)).1.Forall fun op => op.bufs ⊆ tcRefs τ sig := by
  unfold line
  simp

theorem fresh : ∀ op ∈ (line (F := Ideal)).1, op.fresh = ∅ := by
  unfold line
  intro _ h
  (repeat (cases h with | head => rfl | tail _ h => ?_))
  exact nomatch h

theorem run (ρ : Dev nD → PrngReg) : θ_run defs (onTc (τ := τ) (main (F := Ideal))) ⟨m, fun _ => 0, ρ⟩ (fun r => ∀ c : Dev nD,
      r.2.mem ((c.tc : Thread nD τ).loc main_v64) = (fun i => refDvs (x0 m c) (x4 m c) (x1 m c) (x2 m c) (x3 m c) (i 0) (i 1)) ∧ r.2.mem ((c.tc : Thread nD τ).loc main_v35) = (all (fun r l => xhat (x0 m c) (x1 m c) r l * refDls (x0 m c) (x4 m c) (x1 m c) (x2 m c) (x3 m c) r l)) ∧ r.2.mem ((c.tc : Thread nD τ).loc main_v32) = (all (refDls (x0 m c) (x4 m c) (x1 m c) (x2 m c) (x3 m c))) ∧ r.2.mem ((c.tc : Thread nD τ).loc main_v63) = (all (refDvs (x0 m c) (x4 m c) (x1 m c) (x2 m c) (x3 m c)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))) := by
  refine θ_run_mono (run_hlo defs main line.2 (by decide) (by decide) sub fresh m ρ) fun r h c => ?_
  have e : ∀ b : Ref sig .tc, r.2.mem ((c.tc : Thread nD τ).loc b) = W6 m c (Proc.devRef .tc b) := fun b => (h c b).trans (congrFun (after_line m c) _)
  exact ⟨(e _).trans (w6_v64 m c), (e _).trans (w6_v35 m c), (e _).trans (w6_v32 m c), (e _).trans (w6_v63 m c), (e _).trans (w6_arg0 m c), (e _).trans (w6_arg1 m c), (e _).trans (w6_arg2 m c), (e _).trans (w6_arg3 m c), (e _).trans (w6_arg4 m c)⟩

end Cert.BNormRefIdeal.Staged

end
-- ==== Proof.BNormClaim.lean ====
/- The claims about `BNorm`. -/
module

public import proofs.«01_k».proof.Defs
public import proofs.«01_k».proof.Proof.Gen.Pre_ln_finite
public import proofs.«01_k».proof.Proof.BNormRefRun

@[expose] public section

set_option maxRecDepth 16384

noncomputable section

namespace Cert.BNormIdeal

open Cert.Reals Idealize.ShloMosaic Idealize.ShloMosaic.TcCoe Idealize.SL.Sem

theorem algebraic : Cert.algebraic_BNormIdeal_BNormRefIdeal_pre_ln_finite (hBNormIdeal := Cert.BNormIdeal.Gen.facts)
    (hBNormRefIdeal := Cert.BNormRefIdeal.Gen.facts) (hPre_ln_finite := Cert.Pre_ln_finite.Gen.facts) := by
  pair_intro
  · run_from Cert.BNormIdeal.Value.run m g
  · refine θ_run_mono (Cert.BNormRefIdeal.Staged.run m' g') fun r h c => ?_
    obtain ⟨h1, h2, h3, h4, ha⟩ := h c
    obtain ⟨e0, e1, e2, e3, e4⟩ := hagree c
    obtain ⟨f0, f1, f2, f3, f4⟩ := hpre c
    obtain ⟨x, hx⟩ := real_of_finite _ _ f0
    obtain ⟨cb, hcb⟩ := real_of_finite _ _ f1
    obtain ⟨g, hg⟩ := real_of_finite _ _ f2
    obtain ⟨b, hb⟩ := real_of_finite _ _ f3
    obtain ⟨dw', hdw'⟩ := real_of_finite _ _ f4
    refine ⟨h1.trans ?_, h2.trans ?_, h3.trans ?_, h4.trans ?_, ha⟩
    · show _ = _
      simp only [Cert.BNormRefIdeal.Staged.x0, Cert.BNormRefIdeal.Staged.x1, Cert.BNormRefIdeal.Staged.x2, Cert.BNormRefIdeal.Staged.x3, Cert.BNormRefIdeal.Staged.x4]
      rw [e0, e1, e2, e3, e4, hx, hcb, hg, hb, hdw']
      simp only [Cert.Layer.dvs_eq]
      rfl
    · show _ = _
      simp only [Cert.BNormRefIdeal.Staged.x0, Cert.BNormRefIdeal.Staged.x1, Cert.BNormRefIdeal.Staged.x2, Cert.BNormRefIdeal.Staged.x3, Cert.BNormRefIdeal.Staged.x4]
      rw [e0, e1, e2, e3, e4, hx, hcb, hg, hb, hdw']
      simp only [Cert.Layer.dls_eq]
      exact congrArg Cert.Layer.all (funext fun r => funext fun l => mul_comm _ _)
    · show _ = _
      simp only [Cert.BNormRefIdeal.Staged.x0, Cert.BNormRefIdeal.Staged.x1, Cert.BNormRefIdeal.Staged.x2, Cert.BNormRefIdeal.Staged.x3, Cert.BNormRefIdeal.Staged.x4]
      rw [e0, e1, e2, e3, e4, hx, hcb, hg, hb, hdw']
      rw [Cert.Layer.dls_eq]
    · show _ = _
      simp only [Cert.BNormRefIdeal.Staged.x0, Cert.BNormRefIdeal.Staged.x1, Cert.BNormRefIdeal.Staged.x2, Cert.BNormRefIdeal.Staged.x3, Cert.BNormRefIdeal.Staged.x4]
      rw [e0, e1, e2, e3, e4, hx, hcb, hg, hb, hdw']
      rw [Cert.Layer.dvs_eq]

end Cert.BNormIdeal

end
-- ==== Proof.BProjNormValue.lean ====
/- What `BProjNormIdeal` leaves in each result, as sums over the argument arrays. -/
module

public import proofs.«01_k».proof.Proof.Gen.BProjNormIdeal.Frame
public import proofs.«01_k».proof.Proof.NormParts
public import Idealize.ShloMosaic.Lib.Pipeline.ValueKit
public import Idealize.ShloMosaic.Lib.Claim

@[expose] public section

set_option maxRecDepth 16384

noncomputable section

namespace Cert.BProjNormIdeal.Value

open Cert.BProjNormIdeal Cert.BProjNormIdeal.Gen Idealize.ShloMosaic Idealize.ShloMosaic.TcCoe Idealize.SL.Sem
open Cert.Norm (rowRt rowDx rt dxin partSh partSc tiles col dgain dscale dshift)
open Idealize.ShloMosaic.Pipeline (Dat)

/-- The cotangent of the modulated row: the product with the transposed weight. -/
def dhv (dp : FVec Ideal S4096x2048 .f32) (w : FVec Ideal S1024x2048 .f32) (i : S4096x1024.Idx) : EReal :=
  ∑ k : Fin 2048, dp (ix2 (i 0) k) * w (ix2 (i 1) k)

/-- The product by the two slabs of the weight. -/
theorem dhv_slabs (dp : FVec Ideal S4096x2048 .f32) (w : FVec Ideal S1024x2048 .f32) (r : Fin 4096) (l : Fin 1024) :
    dhv dp w (ix2 r l) = (∑ k : Fin 1024, dp (ix2 r ⟨k.val, by omega⟩) * w (ix2 l ⟨k.val, by omega⟩))
      + ∑ k : Fin 1024, dp (ix2 r ⟨1024 + k.val, by omega⟩) * w (ix2 l ⟨1024 + k.val, by omega⟩) :=
  Fin.sum_univ_two_halves 1024 1024 rfl (fun k => dp (ix2 r k) * w (ix2 l k))

theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0, 0] ∧ win0_8.index t = ![t.val, 0, 0] :=
  (by decide +kernel : ∀ t : Fin grid0.N, _)

variable (m : (ℓ : Loc nD τ sig) → Buf (Elt Ideal) ℓ)

theorem host5 (c : Dev nD) (p : Fin 2) (r : Fin 4096) (k : Fin 1024) : V m c main_v5 (ix3 p r k)
    = m ((c : Thread nD τ).loc main_arg6) (ix2 r ⟨1024 * p.val + k.val, by omega⟩) := by
  show StableHlo.after hostOps0 _ (Proc.tc.devRef main_v5) _ = _
  unfold hostOps0
  after_results
  pointwise []
  fin_vals p with hp <;> simp only [hp, Nat.reduceSub, Nat.reduceLT, ↓reduceDIte] <;>
    exact congrArg _ (congrArg (ix2 r) (Fin.ext (by simp)))

theorem host7 (c : Dev nD) (o : Fin 1) (r : Fin 1024) (k : Fin 2048) : V m c main_v7 (ix3 o r k) = m ((c : Thread nD τ).loc main_arg4) (ix2 r k) := by
  show StableHlo.after hostOps0 _ (Proc.tc.devRef main_v7) _ = _
  unfold hostOps0
  after_results
  pointwise []

theorem t_lt (t : Fin cfg0.N) : t.val < 8 := lt_of_lt_of_eq t.isLt (by decide +kernel)

/-- A tile's product with the transposed weight, from the staged blocks. -/
def dhb (x0 : Vec Ideal S2x512x1024 .bf16) (x1 : Vec Ideal S1x1024x2048 .bf16) : FVec Ideal S512x1024 .f32 :=
  k0_pay4 x0 (View.ld x1 r0_1) (View.ld x1 r0_2)

theorem pay4 (c : Dev nD) (t : Fin cfg0.N) (r : Fin 512) (l : Fin 1024) : dhb (iblk m c 0 t) (iblk m c 1 t) (ix2 r l)
    = dhv (m ((c : Thread nD τ).loc main_arg6)) (m ((c : Thread nD τ).loc main_arg4)) (ix2 ⟨512 * t.val + r.val, by have := t_lt t; omega⟩ l) := by
  have e0 : ∀ (p : Fin 2) (r : Fin 512) (k : Fin 1024), iblk m c 0 t (ix3 p r k)
      = m ((c : Thread nD τ).loc main_arg6) (ix2 ⟨512 * t.val + r.val, by have := t_lt t; omega⟩ ⟨1024 * p.val + k.val, by omega⟩) := fun p r k => by
    refine Eq.trans ?_ (host5 m c p _ k)
    blk_point [iblk, idx t]
  have e1 : ∀ (o : Fin 1) (r : Fin 1024) (k : Fin 2048), iblk m c 1 t (ix3 o r k) = m ((c : Thread nD τ).loc main_arg4) (ix2 r k) := fun o r k => by
    refine Eq.trans ?_ (host7 m c o r k)
    blk_point [iblk, idx t]
  pointwise [dhb, k0_pay4, dhv, e0, e1]
  exact (dhv_slabs _ _ _ _).symm

theorem emb6 (t : Fin cfg0.N) (r : Fin 512) (l : Fin 1024) :
    ((cfg0.win 6).blk t).view.emb (ix2 r l) = ix2 ⟨512 * t.val + r.val, by have := t_lt t; omega⟩ l := by
  blk_ext [idx t]

theorem pay_dx (x0 : Vec Ideal S2x512x1024 .bf16) (x1 : Vec Ideal S1x1024x2048 .bf16) (x dx : FVec Ideal S512x1024 .f32) (g sc : FVec Ideal S1x1024 .f32)
    (r : Fin 512) (l : Fin 1024) : out0_6 x0 x1 x dx g sc (ix2 r l)
      = rowDx (fun k => x (ix2 r k)) (fun k => dx (ix2 r k)) (fun k => dhb x0 x1 (ix2 r k)) (fun k => g (ix2 0 k)) (fun k => sc (ix2 0 k)) l := by
  frame_out
  pointwise [k0_pay1, k0_pay9, k0_pay8, k0_pay6, k0_pay5, dhb, rowDx, rowRt]

theorem pay_sh (x0 : Vec Ideal S2x512x1024 .bf16) (x1 : Vec Ideal S1x1024x2048 .bf16) (x dx : FVec Ideal S512x1024 .f32) (g sc : FVec Ideal S1x1024 .f32)
    (o p : Fin 1) (l : Fin 1024) : out0_7 x0 x1 x dx g sc (ix3 o p l) = ∑ k : Fin 512, dhb x0 x1 (ix2 k l) := by
  frame_out
  pointwise [k0_pay2, dhb]

theorem pay_sc (x0 : Vec Ideal S2x512x1024 .bf16) (x1 : Vec Ideal S1x1024x2048 .bf16) (x dx : FVec Ideal S512x1024 .f32) (g sc : FVec Ideal S1x1024 .f32)
    (o p : Fin 1) (l : Fin 1024) : out0_8 x0 x1 x dx g sc (ix3 o p l)
      = ∑ r : Fin 512, dhb x0 x1 (ix2 r l) * (x (ix2 r l) * rowRt fun k => x (ix2 r k)) := by
  frame_out
  pointwise [k0_pay3, k0_pay7, k0_pay6, k0_pay5, dhb, rowRt]

theorem b2 (c : Dev nD) (t : Fin cfg0.N) (r : Fin 512) (k : Fin 1024) : iblk m c 2 t (ix2 r k)
    = m ((c : Thread nD τ).loc main_arg0) (ix2 ⟨512 * t.val + r.val, by have := t_lt t; omega⟩ k) := by
  blk_point [iblk, V, idx t]

theorem b3 (c : Dev nD) (t : Fin cfg0.N) (r : Fin 512) (k : Fin 1024) : iblk m c 3 t (ix2 r k)
    = m ((c : Thread nD τ).loc main_arg5) (ix2 ⟨512 * t.val + r.val, by have := t_lt t; omega⟩ k) := by
  blk_point [iblk, V, idx t]

theorem b4 (c : Dev nD) (t : Fin cfg0.N) (o : Fin 1) (k : Fin 1024) : iblk m c 4 t (ix2 o k) = m ((c : Thread nD τ).loc main_arg1) (ix2 o k) := by
  blk_point [iblk, V, idx t]

theorem b5 (c : Dev nD) (t : Fin cfg0.N) (o : Fin 1) (k : Fin 1024) : iblk m c 5 t (ix2 o k) = m ((c : Thread nD τ).loc main_arg2) (ix2 o k) := by
  blk_point [iblk, V, idx t]

theorem final6 (c : Dev nD) : (dats m 0 c).arrAt 6 (cfgs 0).N
    = dxin (m ((c : Thread nD τ).loc main_arg0)) (m ((c : Thread nD τ).loc main_arg5))
        (dhv (m ((c : Thread nD τ).loc main_arg6)) (m ((c : Thread nD τ).loc main_arg4)))
        (m ((c : Thread nD τ).loc main_arg1)) (m ((c : Thread nD τ).loc main_arg2)) := by
  refine (dats m 0 c).arrAt_eq_of_covers 6 _ (by decide +kernel) fun t _ y => ?_
  blk_simp
  rw [after0_6]
  idx_vars y
  rw [pay_dx, emb6]
  simp only [dxin, pay4, b2, b3, b4, b5]
  rfl

theorem emb7 (t : Fin cfg0.N) (o p : Fin 1) (l : Fin 1024) :
    ((cfg0.win 7).blk t).view.emb (ix3 o p l) = ix3 ⟨t.val, t_lt t⟩ 0 l := by
  obtain rfl : o = 0 := Subsingleton.elim _ _
  obtain rfl : p = 0 := Subsingleton.elim _ _
  blk_ext [idx t]

theorem emb8 (t : Fin cfg0.N) (o p : Fin 1) (l : Fin 1024) :
    ((cfg0.win 8).blk t).view.emb (ix3 o p l) = ix3 ⟨t.val, t_lt t⟩ 0 l := by
  obtain rfl : o = 0 := Subsingleton.elim _ _
  obtain rfl : p = 0 := Subsingleton.elim _ _
  blk_ext [idx t]

theorem final7 (c : Dev nD) : (dats m 0 c).arrAt 7 (cfgs 0).N
    = partSh (dhv (m ((c : Thread nD τ).loc main_arg6)) (m ((c : Thread nD τ).loc main_arg4))) := by
  refine (dats m 0 c).arrAt_eq_of_covers 7 _ (by decide +kernel) fun t _ y => ?_
  blk_simp
  rw [after0_7]
  idx_vars y
  rw [pay_sh, emb7]
  simp only [partSh, pay4]
  rfl

theorem final8 (c : Dev nD) : (dats m 0 c).arrAt 8 (cfgs 0).N
    = partSc (m ((c : Thread nD τ).loc main_arg0)) (dhv (m ((c : Thread nD τ).loc main_arg6)) (m ((c : Thread nD τ).loc main_arg4))) := by
  refine (dats m 0 c).arrAt_eq_of_covers 8 _ (by decide +kernel) fun t _ y => ?_
  blk_simp
  rw [after0_8]
  idx_vars y
  rw [pay_sc, emb8]
  simp only [partSc, pay4, b2, rt]
  rfl

/-- The tiles' partial sums, summed. -/
theorem sumSc (x dh : FVec Ideal S4096x1024 .f32) (r0 : Fin 1) (l : Fin 1024) :
    Host.reduceAdd (F := Ideal) (φ := .f32) (partSc x dh) (constant (F := Ideal) S_ .f32 0x00000000#32) reducesTo_S8x1x1024_S1x1024_d0 h_S_ (ix2 r0 l) = col x dh l := by
  pointwise [partSc, col]
  exact tiles (fun r => dh (ix2 r l) * (x (ix2 r l) * rt x r)) _

theorem sumSh (dh : FVec Ideal S4096x1024 .f32) (r0 : Fin 1) (l : Fin 1024) :
    Host.reduceAdd (F := Ideal) (φ := .f32) (partSh dh) (constant (F := Ideal) S_ .f32 0x00000000#32) reducesTo_S8x1x1024_S1x1024_d0 h_S_ (ix2 r0 l) = dshift dh (ix2 r0 l) := by
  pointwise [partSh, dshift]
  exact tiles (fun r => dh (ix2 r l)) _

end Cert.BProjNormIdeal.Value

end
-- ==== Proof.BProjNormTail.lean ====
/- The host lines after the kernel of `BProjNormIdeal`: the partial sums added up and scaled; its whole run. -/
module

public import proofs.«01_k».proof.Proof.BProjNormValue

@[expose] public section

set_option maxRecDepth 16384

noncomputable section

namespace Cert.BProjNormIdeal.Value

open Cert.BProjNormIdeal Cert.BProjNormIdeal.Gen Idealize.ShloMosaic Idealize.ShloMosaic.TcCoe Idealize.SL.Sem
open Cert.Norm (dxin partSh partSc dgain dscale dshift)

variable (m : (ℓ : Loc nD τ sig) → Buf (Elt Ideal) ℓ)

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w7 (c : Dev nD) : W m c (Proc.tc.devRef main_v8_1) = partSh (dhv (m ((c : Thread nD τ).loc main_arg6)) (m ((c : Thread nD τ).loc main_arg4))) :=
  (Pipeline.withArrays_arr _ arr_inj c _ _ 7).trans (final7 m c)

theorem w8 (c : Dev nD) : W m c (Proc.tc.devRef main_v8_2) = partSc (m ((c : Thread nD τ).loc main_arg0)) (dhv (m ((c : Thread nD τ).loc main_arg6)) (m ((c : Thread nD τ).loc main_arg4))) :=
  (Pipeline.withArrays_arr _ arr_inj c _ _ 8).trans (final8 m c)

theorem w4 (c : Dev nD) : W m c (Proc.tc.devRef main_arg1) = (m ((c : Thread nD τ).loc main_arg1)) :=
  (Pipeline.withArrays_arr _ arr_inj c _ _ 4).trans ((Pipeline.Dat.arrAt_in _ _ rfl _).trans (V_main_arg1 m c))

theorem w5 (c : Dev nD) : W m c (Proc.tc.devRef main_arg2) = (m ((c : Thread nD τ).loc main_arg2)) :=
  (Pipeline.withArrays_arr _ arr_inj c _ _ 5).trans ((Pipeline.Dat.arrAt_in _ _ rfl _).trans (V_main_arg2 m c))

theorem tail_gain (c : Dev nD) : Pipeline.afterTail₀ cfgs (dats m) 0 (V0 m) [hostOps1] c main_v12 = dgain (m ((c : Thread nD τ).loc main_arg0)) (dhv (m ((c : Thread nD τ).loc main_arg6)) (m ((c : Thread nD τ).loc main_arg4))) (m ((c : Thread nD τ).loc main_arg2)) := by
  show StableHlo.after hostOps1 (W m c) (Proc.tc.devRef main_v12) = _
  unfold hostOps1
  after_results
  rw [w8 m c, w5 m c]
  funext i
  idx_vars i
  pointwise [dgain, sumSc]

theorem tail_scale (c : Dev nD) : Pipeline.afterTail₀ cfgs (dats m) 0 (V0 m) [hostOps1] c main_v13 = dscale (m ((c : Thread nD τ).loc main_arg0)) (dhv (m ((c : Thread nD τ).loc main_arg6)) (m ((c : Thread nD τ).loc main_arg4))) (m ((c : Thread nD τ).loc main_arg1)) := by
  show StableHlo.after hostOps1 (W m c) (Proc.tc.devRef main_v13) = _
  unfold hostOps1
  after_results
  rw [w8 m c, w4 m c]
  funext i
  idx_vars i
  pointwise [dscale, sumSc]

theorem tail_shift (c : Dev nD) : Pipeline.afterTail₀ cfgs (dats m) 0 (V0 m) [hostOps1] c main_v14 = dshift (dhv (m ((c : Thread nD τ).loc main_arg6)) (m ((c : Thread nD τ).loc main_arg4))) := by
  show StableHlo.after hostOps1 (W m c) (Proc.tc.devRef main_v14) = _
  unfold hostOps1
  after_results
  rw [w7 m c]
  funext i
  idx_vars i
  exact sumSh _ _ _

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v8_0) = dxin (m ((c : Thread nD τ).loc main_arg0)) (m ((c : Thread nD τ).loc main_arg5)) (dhv (m ((c : Thread nD τ).loc main_arg6)) (m ((c : Thread nD τ).loc main_arg4))) (m ((c : Thread nD τ).loc main_arg1)) (m ((c : Thread nD τ).loc main_arg2))
      ∧ r.2.mem ((c.tc : Thread nD τ).loc main_v12) = dgain (m ((c : Thread nD τ).loc main_arg0)) (dhv (m ((c : Thread nD τ).loc main_arg6)) (m ((c : Thread nD τ).loc main_arg4))) (m ((c : Thread nD τ).loc main_arg2))
      ∧ r.2.mem ((c.tc : Thread nD τ).loc main_v13) = dscale (m ((c : Thread nD τ).loc main_arg0)) (dhv (m ((c : Thread nD τ).loc main_arg6)) (m ((c : Thread nD τ).loc main_arg4))) (m ((c : Thread nD τ).loc main_arg1))
      ∧ r.2.mem ((c.tc : Thread nD τ).loc main_v14) = dshift (dhv (m ((c : Thread nD τ).loc main_arg6)) (m ((c : Thread nD τ).loc main_arg4))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) := by
  refine (θ_run defs _ _).mono (fun r h c => ⟨⟨?_, ?_, ?_, ?_⟩, h.2 c⟩) (θ_run_and (run_main m ρ) (unchanged m ρ))
  · exact ((h.1 c).1 6).trans (final6 m c)
  · exact ((h.1 c).2 main_v12 (by decide)).trans (tail_gain m c)
  · exact ((h.1 c).2 main_v13 (by decide)).trans (tail_scale m c)
  · exact ((h.1 c).2 main_v14 (by decide)).trans (tail_shift m c)

end Cert.BProjNormIdeal.Value

end
-- ==== Proof.BProjNormPure.lean ====
/- The reference `BProjNormRefIdeal` computes the same gradients, wherever the row, the norm's scale, the modulation's scale, the weight and
   the cotangent are finite: there all are real numbers, and the two ways to write the gradient of the norm agree. -/
module

public import proofs.«01_k».proof.Proof.BProjNormTail
public import proofs.«01_k».proof.Proof.Gen.BProjNormRefIdeal.Read

@[expose] public section

set_option maxRecDepth 16384

noncomputable section

namespace Cert.BProjNormIdeal.Pure

open Cert.BProjNormIdeal.Value Cert.BProjNormRefIdeal Cert.BProjNormRefIdeal.Read Cert.Reals Idealize.ShloMosaic
open Cert.Norm (rowRt rt refMs refDx refGain refScale dxin dgain dscale dshift)

theorem dot_eq (w : FVec Ideal S1024x2048 .f32) (dp : FVec Ideal S4096x2048 .f32) : val_main_v24 (F := Ideal) w dp = dhv dp w := by
  funext i
  idx_vars i
  pointwise [val_main_v24, dhv]

theorem dx_ref (x dx : FVec Ideal S4096x1024 .f32) (g sc : FVec Ideal S1x1024 .f32) (w : FVec Ideal S1024x2048 .f32) (dp : FVec Ideal S4096x2048 .f32) :
    val_main_v51 (F := Ideal) x g sc w dx dp = refDx x dx (dhv dp w) g sc := by
  rw [← dot_eq]
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_3, val_main_v15, val_main_v16, val_main_v30, val_main_v31, val_main_v35, val_main_v36, val_main_v37, val_main_cst_7, val_main_v38, val_main_v39, val_main_v40, val_main_v41, val_main_v42, val_main_v43, val_main_cst_8, val_main_v44, val_main_v45, val_main_cst_9, val_main_v46, val_main_v47, val_main_v48, val_main_v49, val_main_v50, val_main_v51, refDx, refMs, rt, rowRt]

theorem dgain_ref (x : FVec Ideal S4096x1024 .f32) (sc : FVec Ideal S1x1024 .f32) (w : FVec Ideal S1024x2048 .f32) (dp : FVec Ideal S4096x2048 .f32) :
    val_main_v34 (F := Ideal) x sc w dp = refGain x (dhv dp w) sc := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_cst_3, val_main_v15, val_main_v16, val_main_v30, val_main_v31, val_main_v32, val_main_cst_6, val_main_v33, val_main_v34, refGain, rt, rowRt]

theorem dscale_ref (x : FVec Ideal S4096x1024 .f32) (g : FVec Ideal S1x1024 .f32) (w : FVec Ideal S1024x2048 .f32) (dp : FVec Ideal S4096x2048 .f32) :
    val_main_v29 (F := Ideal) x g w dp = refScale x (dhv dp w) g := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_v13, val_main_v14, val_main_v27, val_main_cst_5, val_main_v28, val_main_v29, refScale, rt, rowRt]

theorem dshift_ref (w : FVec Ideal S1024x2048 .f32) (dp : FVec Ideal S4096x2048 .f32) : val_main_v26 (F := Ideal) w dp = dshift (dhv dp w) := by
  rw [← dot_eq]
  funext i
  idx_vars i
  pointwise [val_main_cst_4, val_main_v25, val_main_v26, dshift]

theorem dhv_real (dp : S4096x2048.Idx → ℝ) (w : S1024x2048.Idx → ℝ) :
    dhv (fun i => (dp i : EReal)) (fun i => (w i : EReal)) = fun i : S4096x1024.Idx => ((∑ k : Fin 2048, dp (ix2 (i 0) k) * w (ix2 (i 1) k) : ℝ) : EReal) := by
  funext i
  simp only [dhv, ← EReal.coe_mul, sum_real]

end Cert.BProjNormIdeal.Pure

end
-- ==== Proof.BProjNormClaim.lean ====
/- The claims about `BProjNorm`. -/
module

public import proofs.«01_k».proof.Defs
public import proofs.«01_k».proof.Proof.Gen.Pre_bn_finite
public import proofs.«01_k».proof.Proof.BProjNormPure

@[expose] public section

set_option maxRecDepth 16384

noncomputable section

namespace Cert.BProjNormIdeal

open Cert.Reals Idealize.ShloMosaic Idealize.ShloMosaic.TcCoe Idealize.SL.Sem

theorem algebraic : Cert.algebraic_BProjNormIdeal_BProjNormRefIdeal_pre_bn_finite (hBProjNormIdeal := Cert.BProjNormIdeal.Gen.facts)
    (hBProjNormRefIdeal := Cert.BProjNormRefIdeal.Gen.facts) (hPre_bn_finite := Cert.Pre_bn_finite.Gen.facts) := by
  pair_intro
  · run_from Cert.BProjNormIdeal.Value.run m g
  · refine θ_run_mono (Cert.BProjNormRefIdeal.Value.run m' g') fun r h c => ?_
    obtain ⟨h1, h2, h3, h4, ha⟩ := h c
    obtain ⟨e0, e1, e2, e3, e4, e5, e6⟩ := hagree c
    obtain ⟨f0, f1, f2, f4, f6⟩ := hpre c
    obtain ⟨x, hx⟩ := real_of_finite _ _ f0
    obtain ⟨gn, hg⟩ := real_of_finite _ _ f1
    obtain ⟨sc, hsc⟩ := real_of_finite _ _ f2
    obtain ⟨w, hw⟩ := real_of_finite _ _ f4
    obtain ⟨dp, hdp⟩ := real_of_finite _ _ f6
    refine ⟨h1.trans ?_, h2.trans ?_, h3.trans ?_, h4.trans ?_, ha⟩
    · rw [Cert.BProjNormRefIdeal.Read.val_main_v51_eq, e0, e1, e2, e4, e5, e6, Pure.dx_ref, hx, hg, hsc, hw, hdp, Pure.dhv_real]
      exact Cert.Norm.dx_eq x _ gn sc _
    · refine (Cert.BProjNormRefIdeal.Read.val_main_v34_eq _ _ _ _ ).trans ?_
      rw [e0, e2, e4, e6, Pure.dgain_ref, hx, hsc, hw, hdp, Pure.dhv_real]
      exact Cert.Norm.dgain_eq x _ sc
    · refine (Cert.BProjNormRefIdeal.Read.val_main_v29_eq _ _ _ _ ).trans ?_
      rw [e0, e1, e4, e6, Pure.dscale_ref, hx, hg, hw, hdp, Pure.dhv_real]
      exact Cert.Norm.dscale_eq x _ gn
    · refine (Cert.BProjNormRefIdeal.Read.val_main_v26_eq _ _ ).trans ?_
      rw [e4, e6]
      exact Pure.dshift_ref _ _

end Cert.BProjNormIdeal

end
-- ==== Proof.BStripLoop.lean ====
/- The loop of `BStripIdeal`: what its 64 trips leave in the strip and carry out. -/
module

public import proofs.«01_k».proof.Proof.StripLong
public import proofs.«01_k».proof.Proof.Gen.BStripIdeal.Frame
public import Idealize.ShloMosaic.Lib.Pipeline.ValueKit
public import Idealize.ShloMosaic.Lib.Pointwise

@[expose] public section

set_option maxRecDepth 16384

noncomputable section

namespace Cert.BStripIdeal.Value

open Cert.BStripIdeal Cert.BStripIdeal.Gen Idealize.ShloMosaic Idealize.ShloMosaic.TcCoe Idealize.SL.Sem
open Cert.Strip

/-! ## The bodies, at rows -/

section
variable (v x x1 x2 x3 : FVec Ideal S64x128 .f32) (w0 w1 w2 : FVec Ideal S1x128 .f32) (h : FVec Ideal S1x64x128 .bf16) (s : FVec Ideal S8x128 .f32)

theorem p8 (p : Fin 8) (l : Fin 128) : k0_pay8 (F := Ideal) s v x (ix2 p l)
    = s (ix2 p l) + ∑ k : Fin 8, v (ix2 ⟨k.val * 8 + p.val, by omega⟩ l) * x (ix2 ⟨k.val * 8 + p.val, by omega⟩ l) := by
  pointwise [k0_pay8]

theorem p10 (p : Fin 64) (l : Fin 128) : k0_pay10 (F := Ideal) v w0 w1 x1 w2 x2 (ix2 p l)
    = w0 (ix2 0 l) * v (ix2 p l) + w1 (ix2 0 l) * x1 (ix2 p l) + w2 (ix2 0 l) * x2 (ix2 p l) := by
  pointwise [k0_pay10]

theorem p15 (p : Fin 64) (l : Fin 128) : k0_pay15 (F := Ideal) v w0 x1 w1 x2 w2 x3 (ix2 p l)
    = v (ix2 p l) + w0 (ix2 0 l) * x1 (ix2 p l) + w1 (ix2 0 l) * x2 (ix2 p l) + w2 (ix2 0 l) * x3 (ix2 p l) := by
  pointwise [k0_pay15]

theorem p22 (p : Fin 64) (l : Fin 128) : k0_pay22 (F := Ideal) v w0 x1 w1 x2 (ix2 p l)
    = v (ix2 p l) + w0 (ix2 0 l) * x1 (ix2 p l) + w1 (ix2 0 l) * x2 (ix2 p l) := by
  pointwise [k0_pay22]

/-- The other bodies that add three or two terms have the same text. -/
theorem alike : @k0_pay19 Ideal _ = @k0_pay15 Ideal _ ∧ @k0_pay26 Ideal _ = @k0_pay15 Ideal _ ∧ @k0_pay30 Ideal _ = @k0_pay15 Ideal _
    ∧ @k0_pay34 Ideal _ = @k0_pay15 Ideal _ ∧ @k0_pay39 Ideal _ = @k0_pay15 Ideal _ ∧ @k0_pay44 Ideal _ = @k0_pay15 Ideal _
    ∧ @k0_pay48 Ideal _ = @k0_pay15 Ideal _ ∧ @k0_pay51 Ideal _ = @k0_pay22 Ideal _ := ⟨rfl, rfl, rfl, rfl, rfl, rfl, rfl, rfl⟩

theorem p53 (p : Fin 64) (l : Fin 128) : k0_pay53 (F := Ideal) h (ix2 p l) = h (ix3 0 p l) := by
  pointwise [k0_pay53]

theorem p60 (p : Fin 64) (l : Fin 128) : k0_pay60 (F := Ideal) v h (ix2 p l) = v (ix2 p l) * Ideal.logistic (h (ix3 0 p l)) := by
  pointwise [k0_pay60, k0_pay59]

theorem p61 (p : Fin 64) (l : Fin 128) : k0_pay61 (F := Ideal) v x h (ix2 p l)
    = v (ix2 p l) * x (ix2 p l) * (Ideal.logistic (h (ix3 0 p l)) * (1 - Ideal.logistic (h (ix3 0 p l)))) := by
  pointwise [k0_pay61, k0_pay59]

theorem p62 (p : Fin 64) (l : Fin 128) : k0_pay62 (F := Ideal) v h (ix3 0 p l) = k0_pay60 (F := Ideal) v h (ix2 p l) := by
  pointwise [k0_pay62]

theorem p63 (p : Fin 64) (l : Fin 128) : k0_pay63 (F := Ideal) v x h (ix3 0 p l) = k0_pay61 (F := Ideal) v x h (ix2 p l) := by
  pointwise [k0_pay63]

theorem p64 (p : Fin 8) (l : Fin 128) : k0_pay64 (F := Ideal) s v h (ix2 p l)
    = s (ix2 p l) + ∑ k : Fin 8, k0_pay60 (F := Ideal) v h (ix2 ⟨k.val * 8 + p.val, by omega⟩ l) := by
  pointwise [k0_pay64]

theorem p65 (p : Fin 8) (l : Fin 128) : k0_pay65 (F := Ideal) s v x h (ix2 p l)
    = s (ix2 p l) + ∑ k : Fin 8, k0_pay61 (F := Ideal) v x h (ix2 ⟨k.val * 8 + p.val, by omega⟩ l) := by
  pointwise [k0_pay65]

theorem p58 (p : Fin 8) (l : Fin 128) : k0_pay58 (F := Ideal) (ix2 p l) = 0 := by
  pointwise [k0_pay58]

theorem p54 (p : Fin 32) (l : Fin 128) : k0_pay54 (F := Ideal) (ix2 p l) = 0 := by
  pointwise [k0_pay54]

theorem p56 (p : Fin 32) (l : Fin 128) : k0_pay56 (F := Ideal) (ix2 p l) = 0 := by
  pointwise [k0_pay56]

theorem p55 (b1 b2 : FVec Ideal S1x4096x128 .bf16) (p : Fin 4096) (l : Fin 128) :
    k0_pay55 (F := Ideal) b1 b2 (ix2 p l) = b1 (ix3 0 p l) * Ideal.logistic (b2 (ix3 0 p l)) := by
  pointwise [k0_pay55]

theorem p57 (b : FVec Ideal S4096x128 .bf16) (p : Fin 4096) (l : Fin 128) : k0_pay57 (F := Ideal) b (ix2 p l) = b (ix2 p l) := by
  pointwise [k0_pay57]

theorem p2 (l : Fin 128) : k0_pay2 (F := Ideal) s (ix2 0 l) = ∑ p : Fin 8, s (ix2 p l) := by
  pointwise [k0_pay2]

end

theorem off2 (k : Fin k0_t1_loop.trips) (b : BitVec 32) (h : 1 ≤ b.toNat ∧ b.toNat ≤ 32) : k0_off2 k b = ![64 * k.val + b.toNat, 0] := by
  have e := k0_off2_eq k ⟨b.toNat - 1, by omega⟩
  rw [show 1 + (⟨b.toNat - 1, by omega⟩ : Fin 32).val = b.toNat by dsimp only; omega, BitVec.ofNat_toNat, BitVec.setWidth_eq] at e
  rw [e]
  exact congrArg (fun n => ![n, 0]) (by dsimp only; omega)

theorem trips_eq : k0_t1_loop.trips = 64 := by decide +kernel

/-- The 33 sums that the loop carries, by number. -/
def sums (s : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) : ℕ → FVec Ideal S8x128 .f32
  | 0 => s.1
  | 1 => s.2.1
  | 2 => s.2.2.1
  | 3 => s.2.2.2.1
  | 4 => s.2.2.2.2.1
  | 5 => s.2.2.2.2.2.1
  | 6 => s.2.2.2.2.2.2.1
  | 7 => s.2.2.2.2.2.2.2.1
  | 8 => s.2.2.2.2.2.2.2.2.1
  | 9 => s.2.2.2.2.2.2.2.2.2.1
  | 10 => s.2.2.2.2.2.2.2.2.2.2.1
  | 11 => s.2.2.2.2.2.2.2.2.2.2.2.1
  | 12 => s.2.2.2.2.2.2.2.2.2.2.2.2.1
  | 13 => s.2.2.2.2.2.2.2.2.2.2.2.2.2.1
  | 14 => s.2.2.2.2.2.2.2.2.2.2.2.2.2.2.1
  | 15 => s.2.2.2.2.2.2.2.2.2.2.2.2.2.2.2.1
  | 16 => s.2.2.2.2.2.2.2.2.2.2.2.2.2.2.2.2.1
  | 17 => s.2.2.2.2.2.2.2.2.2.2.2.2.2.2.2.2.2.1
  | 18 => s.2.2.2.2.2.2.2.2.2.2.2.2.2.2.2.2.2.2.1
  | 19 => s.2.2.2.2.2.2.2.2.2.2.2.2.2.2.2.2.2.2.2.1
  | 20 => s.2.2.2.2.2.2.2.2.2.2.2.2.2.2.2.2.2.2.2.2.1
  | 21 => s.2.2.2.2.2.2.2.2.2.2.2.2.2.2.2.2.2.2.2.2.2.1
  | 22 => s.2.2.2.2.2.2.2.2.2.2.2.2.2.2.2.2.2.2.2.2.2.2.1
  | 23 => s.2.2.2.2.2.2.2.2.2.2.2.2.2.2.2.2.2.2.2.2.2.2.2.1
  | 24 => s.2.2.2.2.2.2.2.2.2.2.2.2.2.2.2.2.2.2.2.2.2.2.2.2.1
  | 25 => s.2.2.2.2.2.2.2.2.2.2.2.2.2.2.2.2.2.2.2.2.2.2.2.2.2.1
  | 26 => s.2.2.2.2.2.2.2.2.2.2.2.2.2.2.2.2.2.2.2.2.2.2.2.2.2.2.1
  | 27 => s.2.2.2.2.2.2.2.2.2.2.2.2.2.2.2.2.2.2.2.2.2.2.2.2.2.2.2.1
  | 28 => s.2.2.2.2.2.2.2.2.2.2.2.2.2.2.2.2.2.2.2.2.2.2.2.2.2.2.2.2.1
  | 29 => s.2.2.2.2.2.2.2.2.2.2.2.2.2.2.2.2.2.2.2.2.2.2.2.2.2.2.2.2.2.1
  | 30 => s.2.2.2.2.2.2.2.2.2.2.2.2.2.2.2.2.2.2.2.2.2.2.2.2.2.2.2.2.2.2.1
  | 31 => s.2.2.2.2.2.2.2.2.2.2.2.2.2.2.2.2.2.2.2.2.2.2.2.2.2.2.2.2.2.2.2.1
  | _ => s.2.2.2.2.2.2.2.2.2.2.2.2.2.2.2.2.2.2.2.2.2.2.2.2.2.2.2.2.2.2.2.2

section
variable (𝒱 : Variants) (c : Dev nD) (bd : Option 𝒱.V) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S4096x128 .bf16) (harg3 : arg3.IsWhole) (arg4 : Memref sig .tc .vmem S31x128 .f32) (harg4 : arg4.IsWhole) (arg5 : Memref sig .tc .vmem S2x4096x128 .bf16) (harg5 : arg5.IsWhole) (arg6 : Memref sig .tc .vmem S31x128 .f32) (harg6 : arg6.IsWhole) (arg7 : Memref sig .tc .vmem S2x128 .f32) (harg7 : arg7.IsWhole) (arg8 : Memref sig .tc .vmem S4128x128 .f32) (harg8 : arg8.IsWhole) (arg9 : Memref sig .tc .vmem S4128x128 .f32) (harg9 : arg9.IsWhole) (X_arg1 : BufTy.Contents (Elt Ideal) arg1.view.ty) (X_arg2 : BufTy.Contents (Elt Ideal) arg2.view.ty) (X_arg4 : BufTy.Contents (Elt Ideal) arg4.view.ty) (X_arg8 : BufTy.Contents (Elt Ideal) arg8.view.ty) (X_arg9 : BufTy.Contents (Elt Ideal) arg9.view.ty)
  (w : ℕ → Fin 128 → EReal) (q d a g : ℕ → Fin 128 → EReal)
  (ha : ∀ (r : Fin 4096) (l : Fin 128), arg1.view.read (Elt Ideal) X_arg1 (ix3 0 r l) = a r.val l)
  (hg : ∀ (r : Fin 4096) (l : Fin 128), arg2.view.read (Elt Ideal) X_arg2 (ix3 0 r l) = g r.val l)
  (hw : ∀ (r : Fin 31) (l : Fin 128), arg4.view.read (Elt Ideal) X_arg4 (ix2 r l) = w r.val l)
  (hq : ∀ (r : Fin 4128) (l : Fin 128), arg8.view.read (Elt Ideal) X_arg8 (ix2 r l) = q r.val l)
  (hd : ∀ (r : Fin 4128) (l : Fin 128), arg9.view.read (Elt Ideal) X_arg9 (ix2 r l) = d r.val l)

include ha hg hw hq hd

/-- The gradient of the convolution's input in a trip. -/
theorem trip_du (k : Fin k0_t1_loop.trips) (p : Fin 64) (l : Fin 128) :
    trip_k0_t1.sl.r_47 (F := Ideal) arg4 arg9 X_arg4 X_arg9 k (ix2 p l) = longBack w d (64 * k.val + p.val) l := by
  have hk : k.val < 64 := lt_of_lt_of_eq k.isLt trips_eq
  obtain ⟨e19, e26, e30, e34, e39, e44, e48, e51⟩ := alike
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49]
  simp only [e19, e26, e30, e34, e39, e44, e48, e51, p10, p15, p22]
  unfold longBack
  iterate 30 refine congrArg₂ (· + ·) ?_ (congrArg₂ (· * ·) (row_of hw (o := _) rfl _ 0 _ _ rfl (by decide))
    (row_of hd (off2 k _ (by decide)) _ _ _ _ (by simp only [BitVec.toNat_ofNat]; omega) (by omega)))
  exact congrArg₂ (· * ·) (row_of hw (o := _) rfl _ 0 _ _ rfl (by decide)) (row_of hd (k0_off1_eq k) _ _ _ _ rfl (by omega))

/-- The gradients of the two halves in a trip. -/
theorem trip_halves (k : Fin k0_t1_loop.trips) (p : Fin 64) (l : Fin 128) :
    k0_pay60 (F := Ideal) (trip_k0_t1.sl.r_47 (F := Ideal) arg4 arg9 X_arg4 X_arg9 k)
      (arg2.view.readAt (Elt Ideal) (Rect.unit (s := S1x4096x128) (k0_off3 k) S1x64x128.size (k0_off3_inb k)).toLoadRect X_arg2) (ix2 p l)
        = half w d a g 0 (64 * k.val + p.val) l
    ∧ k0_pay61 (F := Ideal) (trip_k0_t1.sl.r_47 (F := Ideal) arg4 arg9 X_arg4 X_arg9 k) (trip_k0_t1.sl.r_49 (F := Ideal) arg1 X_arg1 k)
      (arg2.view.readAt (Elt Ideal) (Rect.unit (s := S1x4096x128) (k0_off3 k) S1x64x128.size (k0_off3_inb k)).toLoadRect X_arg2) (ix2 p l)
        = half w d a g 1 (64 * k.val + p.val) l := by
  have hk : k.val < 64 := lt_of_lt_of_eq k.isLt trips_eq
  have hs := row3_of hg (k0_off3_eq k) (k0_off3_inb k) p l (64 * k.val + p.val) rfl (by omega)
  have e := trip_du arg1 arg2 arg4 arg8 arg9 X_arg1 X_arg2 X_arg4 X_arg8 X_arg9 w q d a g ha hg hw hq hd k p l
  rw [p60, p61, e]
  constructor
  · exact (congrArg (fun x => _ * Ideal.logistic x) hs).trans (if_pos rfl).symm
  · refine Eq.trans ?_ (if_neg (by decide)).symm
    dsimp only [trip_k0_t1.sl.r_49]
    rw [p53]
    exact congrArg₂ (· * ·) (congrArg _ (row3_of ha (k0_off3_eq k) _ _ _ _ rfl (by omega)))
      (congrArg (fun x => Ideal.logistic x * (1 - Ideal.logistic x)) hs)

/-- The carried sums of the taps after a trip. -/
theorem trip_taps (k : Fin k0_t1_loop.trips) (acc) (j : ℕ) (hj : j < 31) (p : Fin 8) (l : Fin 128) :
    sums (tripR_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 k acc) j (ix2 p l)
      = sums acc j (ix2 p l) + ∑ i : Fin 8, d (64 * k.val + (i.val * 8 + p.val)) l * q (64 * k.val + (i.val * 8 + p.val) + 2 + j) l := by
  have hk : k.val < 64 := lt_of_lt_of_eq k.isLt trips_eq
  unfold tripR_k0_t1 trip_k0_t1
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49]
  interval_cases j
  all_goals
    refine (p8 _ _ _ p l).trans (congrArg₂ (· + ·) rfl (Finset.sum_congr rfl fun i _ => ?_))
    exact congrArg₂ (· * ·) (row_of hd (k0_off1_eq k) _ _ _ _ rfl (by omega))
      (row_of hq (off2 k _ (by decide)) _ _ _ _ (by simp only [BitVec.toNat_ofNat]; omega) (by omega))

/-- The carried sums of the two halves after a trip. -/
theorem trip_biases (k : Fin k0_t1_loop.trips) (acc) (s : ℕ) (hs : s < 2) (p : Fin 8) (l : Fin 128) :
    sums (tripR_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 k acc) (31 + s) (ix2 p l)
      = sums acc (31 + s) (ix2 p l) + ∑ i : Fin 8, half w d a g s (64 * k.val + (i.val * 8 + p.val)) l := by
  unfold tripR_k0_t1 trip_k0_t1
  dsimp only
  interval_cases s
  · refine (p64 _ _ _ p l).trans (congrArg₂ (· + ·) rfl (Finset.sum_congr rfl fun i _ => ?_))
    exact (trip_halves arg1 arg2 arg4 arg8 arg9 X_arg1 X_arg2 X_arg4 X_arg8 X_arg9 w q d a g ha hg hw hq hd k ⟨i.val * 8 + p.val, by omega⟩ l).1
  · refine (p65 _ _ _ _ p l).trans (congrArg₂ (· + ·) rfl (Finset.sum_congr rfl fun i _ => ?_))
    exact (trip_halves arg1 arg2 arg4 arg8 arg9 X_arg1 X_arg2 X_arg4 X_arg8 X_arg9 w q d a g ha hg hw hq hd k ⟨i.val * 8 + p.val, by omega⟩ l).2

/-- The pieces of a trip. -/
theorem trip_pieces (k : Fin k0_t1_loop.trips) (acc) :
    ∀ p ∈ tripL_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 k acc, ∀ (s : Fin 2) (r : Fin 4096) (l : Fin 128) (x : p.1.shape.Idx), p.1.emb x = ix3 s r l →
      p.2 x = half w d a g s.val r.val l := by
  unfold tripL_k0_t1 trip_k0_t1
  dsimp only
  intro p hp s r l x hx
  simp only [List.mem_cons, List.not_mem_nil, or_false] at hp
  rcases hp with rfl | rfl <;> dsimp only at x hx ⊢ <;> idx_vars x <;> obtain rfl : x0 = 0 := Subsingleton.elim _ _
  · obtain ⟨e0, e1, rfl⟩ := piece_at 1 (64 * k.val) (k0_off5_eq k) _ s r l x1 x2 hx
    rw [p63, e0, e1]
    exact (trip_halves arg1 arg2 arg4 arg8 arg9 X_arg1 X_arg2 X_arg4 X_arg8 X_arg9 w q d a g ha hg hw hq hd k x1 x2).2
  · obtain ⟨e0, e1, rfl⟩ := piece_at 0 (64 * k.val) (k0_off4_eq k) _ s r l x1 x2 hx
    rw [p62, e0, e1]
    exact (trip_halves arg1 arg2 arg4 arg8 arg9 X_arg1 X_arg2 X_arg4 X_arg8 X_arg9 w q d a g ha hg hw hq hd k x1 x2).1

/-- The strip after all trips, element by element. -/
theorem strip_all (init) (hi : (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init 0).2 = []) (s : Fin 2) (r : Fin 4096) (l : Fin 128) :
    View.canon (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init 64).2 (ix3 s r l) = half w d a g s.val r.val l := by
  have mem := gathered (fun k => (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init k).2)
    (fun k => if hk : k < k0_t1_loop.trips then tripL_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 ⟨k, hk⟩ (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init k).1 else [])
    hi 64 fun k hk => by
      have hk' : k < k0_t1_loop.trips := lt_of_lt_of_eq hk trips_eq.symm
      rw [dif_pos hk']
      exact congrArg Prod.snd (st_k0_t1_succ (F := Ideal) 𝒱 c bd i arg1 harg1 arg2 harg2 arg3 harg3 arg4 harg4 arg5 harg5 arg6 harg6 arg7 harg7 arg8 harg8 arg9 harg9 X_arg1 X_arg2 X_arg4 X_arg8 X_arg9 init ⟨k, hk'⟩)
  refine View.canon_eq_of_allAt _ _ _ ?_ ?_
  · have hk : r.val / 64 < 64 := by omega
    have hk' : r.val / 64 < k0_t1_loop.trips := lt_of_lt_of_eq hk trips_eq.symm
    have hm : ∃ p ∈ tripL_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 ⟨r.val / 64, hk'⟩ (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init (r.val / 64)).1, ix3 s r l ∈ p.1.set := by
      unfold tripL_k0_t1 trip_k0_t1
      dsimp only
      rcases (by omega : s.val = 0 ∨ s.val = 1) with e | e
      · exact ⟨_, List.mem_cons_of_mem _ List.mem_cons_self, piece_mem 0 (64 * (r.val / 64)) (k0_off4_eq _) (k0_off4_inb _) s r l e ⟨by omega, by omega⟩⟩
      · exact ⟨_, List.mem_cons_self, piece_mem 1 (64 * (r.val / 64)) (k0_off5_eq _) (k0_off5_inb _) s r l e ⟨by omega, by omega⟩⟩
    obtain ⟨p, hp, hs⟩ := hm
    exact ⟨p, (mem p).mpr ⟨_, hk, by rw [dif_pos hk']; exact hp⟩, hs⟩
  · intro p hp x hx
    obtain ⟨k, hk, hp⟩ := (mem p).mp hp
    rw [dif_pos (lt_of_lt_of_eq hk trips_eq.symm)] at hp
    exact trip_pieces 𝒱 c bd i arg1 harg1 arg2 harg2 arg3 harg3 arg4 harg4 arg5 harg5 arg6 harg6 arg7 harg7 arg8 harg8 arg9 harg9 X_arg1 X_arg2 X_arg4 X_arg8 X_arg9 w q d a g ha hg hw hq hd ⟨k, _⟩ _ p hp s r l x hx

/-- A carried sum, added over its eight rows, after all trips. -/
theorem sum_all (init) (j : ℕ) (l : Fin 128) (h0 : ∀ p : Fin 8, sums init j (ix2 p l) = 0) (f : ℕ → EReal)
    (hs : ∀ (k : Fin k0_t1_loop.trips) (acc) (p : Fin 8), sums (tripR_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 k acc) j (ix2 p l)
      = sums acc j (ix2 p l) + ∑ i : Fin 8, f (64 * k.val + (i.val * 8 + p.val))) :
    ∑ p : Fin 8, sums (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init 64).1 j (ix2 p l) = ∑ r : Fin 4096, f r.val := by
  refine Eq.trans (Finset.sum_congr rfl fun p _ => ?_) (sum_rows f)
  refine carried (fun k => sums (st_k0_t1 (F := Ideal) 𝒱 c bd i arg1 harg1 arg2 harg2 arg3 harg3 arg4 harg4 arg5 harg5 arg6 harg6 arg7 harg7 arg8 harg8 arg9 harg9 X_arg1 X_arg2 X_arg4 X_arg8 X_arg9 init k).1 j (ix2 p l)) _ (h0 p) 64 fun k hk => ?_
  exact (congrFun (congrArg (fun x => sums x j) (congrArg Prod.fst (st_k0_t1_succ (F := Ideal) 𝒱 c bd i arg1 harg1 arg2 harg2 arg3 harg3 arg4 harg4 arg5 harg5 arg6 harg6 arg7 harg7 arg8 harg8 arg9 harg9 X_arg1 X_arg2 X_arg4 X_arg8 X_arg9 init ⟨k, lt_of_lt_of_eq hk trips_eq.symm⟩))) _).trans
    (hs ⟨k, lt_of_lt_of_eq hk trips_eq.symm⟩ _ p)

end

end Cert.BStripIdeal.Value
-- ==== Proof.BStripValue.lean ====
/- What `BStripIdeal` leaves in its three results. -/
module

public import proofs.«01_k».proof.Proof.BStripLoop
public import proofs.«01_k».proof.Proof.Gen.BStripIdeal.Value
public import Idealize.ShloMosaic.Lib.Claim

@[expose] public section

set_option maxRecDepth 16384

noncomputable section

namespace Cert.BStripIdeal.Value

open Cert.BStripIdeal Cert.BStripIdeal.Gen Idealize.ShloMosaic Idealize.ShloMosaic.TcCoe Idealize.SL.Sem
open Cert.Strip

open Idealize.ShloMosaic.Pipeline (Dat)

theorem idx0 : ∀ t : Fin cfg0.N, win0_0.index t = ![0, 0, t.val] ∧ win0_1.index t = ![1, 0, t.val] ∧ win0_2.index t = ![0, t.val]
    ∧ win0_3.index t = ![0, t.val] ∧ win0_4.index t = ![0, 0, t.val] ∧ win0_5.index t = ![0, t.val] ∧ win0_6.index t = ![0, t.val] :=
  (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

variable (m : (ℓ : Loc nD τ sig) → Buf (Elt Ideal) ℓ) (c : Dev nD)

/-- The four arguments. -/
abbrev aX := m ((c : Thread nD τ).loc main_arg0)
abbrev aB := m ((c : Thread nD τ).loc main_arg1)
abbrev aW := m ((c : Thread nD τ).loc main_arg2)
abbrev aZ := m ((c : Thread nD τ).loc main_arg3)

/-! ## The blocks -/

theorem host_v7_0 (r : Fin 4096) (l : Fin 1024) : V m c main_v7 (ix3 0 r l) = biased (aX m c) (aB m c) (ix2 r (part2 0 (by decide) l)) := by
  show StableHlo.after hostOps0 _ (Proc.tc.devRef main_v7) _ = _
  unfold hostOps0
  after_results
  pointwise []
  exact congrArg (biased (aX m c) (aB m c)) (congrArg (ix2 r) (Fin.ext (by first | rfl | (dsimp only [part2]; omega))))

theorem host_v7_1 (r : Fin 4096) (l : Fin 1024) : V m c main_v7 (ix3 1 r l) = biased (aX m c) (aB m c) (ix2 r (part2 1 (by decide) l)) := by
  show StableHlo.after hostOps0 _ (Proc.tc.devRef main_v7) _ = _
  unfold hostOps0
  after_results
  pointwise []
  exact congrArg (biased (aX m c) (aB m c)) (congrArg (ix2 r) (Fin.ext (by first | rfl | (dsimp only [part2]; omega))))

theorem host_v8 (r : Fin 4096) (l : Fin 1024) : V m c main_v8 (ix2 r l) = aZ m c (ix2 r l) := by
  show StableHlo.after hostOps0 _ (Proc.tc.devRef main_v8) _ = _
  unfold hostOps0
  after_results
  pointwise []

variable (t : Fin cfg0.N)

/-- The functions of the row that a strip's loop reads. -/
abbrev sw (k : ℕ) (l : Fin 128) : EReal := tap31 (aW m c) k (col t l)
abbrev sq (k : ℕ) (l : Fin 128) : EReal := upad (aX m c) (aB m c) k (col t l)
abbrev sd (k : ℕ) (l : Fin 128) : EReal := row (aZ m c) k (col t l)
abbrev sa (k : ℕ) (l : Fin 128) : EReal := val (aX m c) (aB m c) k (col t l)
abbrev sg (k : ℕ) (l : Fin 128) : EReal := gate (aX m c) (aB m c) k (col t l)

theorem ha (r : Fin 4096) (l : Fin 128) : (ms0_0 t).view.read (Elt Ideal) ((hs0_0 t).unread (iblk m c 0 t)) (ix3 0 r l) = sa m c t r.val l := by
  rw [(hs0_0 t).read_unread]
  refine Eq.trans ?_ ((host_v7_0 m c r (col t l)).trans (row_lt _ _ _).symm)
  blk_point [iblk, idx0 t, col]

theorem hg (r : Fin 4096) (l : Fin 128) : (ms0_1 t).view.read (Elt Ideal) ((hs0_1 t).unread (iblk m c 1 t)) (ix3 0 r l) = sg m c t r.val l := by
  rw [(hs0_1 t).read_unread]
  refine Eq.trans ?_ ((host_v7_1 m c r (col t l)).trans (row_lt _ _ _).symm)
  blk_point [iblk, idx0 t, col]

theorem hz (r : Fin 4096) (l : Fin 128) : (ms0_2 t).view.read (Elt Ideal) ((hs0_2 t).unread (iblk m c 2 t)) (ix2 r l) = sd m c t r.val l := by
  rw [(hs0_2 t).read_unread]
  refine Eq.trans ?_ ((host_v8 m c r (col t l)).trans (row_lt _ _ _).symm)
  blk_point [iblk, idx0 t, col]

theorem hw (r : Fin 31) (l : Fin 128) : (ms0_3 t).view.read (Elt Ideal) ((hs0_3 t).unread (iblk m c 3 t)) (ix2 r l) = sw m c t r.val l := by
  rw [(hs0_3 t).read_unread, sw, tap31, dif_pos r.isLt]
  refine Eq.trans ?_ (congrFun (V_main_arg2 m c) (ix2 r (col t l)))
  blk_point [iblk, idx0 t, col]

theorem emb4 (s : Fin 2) (r : Fin 4096) (l : Fin 128) : ((cfg0.win 4).blk t).view.emb (ix3 s r l) = ix3 s r (col t l) := by
  blk_ext [idx0 t, col]

theorem emb5 (s : Fin 31) (l : Fin 128) : ((cfg0.win 5).blk t).view.emb (ix2 s l) = ix2 s (col t l) := by
  blk_ext [idx0 t, col]

theorem emb6 (s : Fin 2) (l : Fin 128) : ((cfg0.win 6).blk t).view.emb (ix2 s l) = ix2 s (col t l) := by
  blk_ext [idx0 t, col]

/-! ## The padded rows -/

/-- The rows of the convolution's input, as the first scratch holds them. -/
abbrev pad0 := (View.whole cc0_scratch0).writes (Elt Ideal) (View.whole cc0_scratch0).junk
  (kernelRun0_A.sl.HS0_2 (F := Ideal) c (ms0_0 t) (hs0_0 t) (ms0_1 t) (hs0_1 t) (iblk m c 0 t) (iblk m c 1 t))

/-- The rows of the gradient, as the second scratch holds them. -/
abbrev pad1 := (View.whole cc0_scratch1).writes (Elt Ideal) (View.whole cc0_scratch1).junk
  (kernelRun0_A.sl.HS1_2 (F := Ideal) c (ms0_2 t) (hs0_2 t) (iblk m c 2 t))

theorem hq (r : Fin 4128) (l : Fin 128) : scM0_0.view.read (Elt Ideal) (pad0 m c t) (ix2 r l) = sq m c t r.val l := by
  refine (congrFun (View.read_writes_junk_eq_canon _ _) _).trans ?_
  refine two_blocks (Val := Elt Ideal) (e := .f32) (n := 4096) (n' := 32) 32 0 _ _ _ _ (sq m c t) (fun p l => ?_) (fun p l => ?_) r l (by omega)
  · rw [p55]
    refine (congrArg₂ (fun x y => x * Ideal.logistic y) (row3_of (q := sa m c t) (ha m c t) rfl _ p l p.val (Nat.zero_add _) p.isLt)
      (row3_of (q := sg m c t) (hg m c t) rfl _ p l p.val (Nat.zero_add _) p.isLt)).trans ?_
    rw [sq, upad, later, if_neg (by omega), Nat.add_sub_cancel_left]
  · rw [p54, sq, upad, later, if_pos (by omega)]

theorem hd (r : Fin 4128) (l : Fin 128) : scM0_1.view.read (Elt Ideal) (pad1 m c t) (ix2 r l) = sd m c t r.val l := by
  refine (congrFun (View.read_writes_junk_eq_canon _ _) _).trans ?_
  refine two_blocks (Val := Elt Ideal) (e := .f32) (n := 4096) (n' := 32) 0 4096 _ _ _ _ (sd m c t) (fun p l => ?_) (fun p l => ?_) r l (by omega)
  · rw [p57]
    refine (row_of (q := sd m c t) (hz m c t) rfl _ p l p.val (Nat.zero_add _) p.isLt).trans ?_
    rw [Nat.zero_add]
  · rw [p56, sd, row_ge _ _ (by omega)]

/-! ## The results -/

theorem out4 (s : Fin 2) (r : Fin 4096) (l : Fin 128) :
    (outsAt0 m c t).1 (ix3 s r l) = halves (aX m c) (aB m c) (aW m c) (aZ m c) (ix3 s r (col t l)) := by
  unfold outsAt0 out0_A_4 out0_A_5 out0_A_6 kernelRun0_A
  dsimp only
  rw [View.read_writes_junk_eq_canon]
  exact strip_all Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) (sw m c t) (sq m c t) (sd m c t) (sa m c t) (sg m c t) (ha m c t) (hg m c t) (hw m c t) (hq m c t) (hd m c t) _ rfl s r l

/-- The loop's 33 sums start at zero. -/
abbrev zeros : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 :=
  (k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58, k0_pay58)

theorem zeros_at (j : ℕ) (p : Fin 8) (l : Fin 128) : sums zeros j (ix2 p l) = 0 := by
  unfold sums
  split <;> exact p58 p l

theorem tap_sum (j : ℕ) (hj : j < 31) (l : Fin 128) :
    ∑ p : Fin 8, sums (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) zeros 64).1 j (ix2 p l)
      = ∑ r : Fin 4096, sd m c t r.val l * sq m c t (r.val + 2 + j) l :=
  sum_all Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) (sw m c t) (sq m c t) (sd m c t) (sa m c t) (sg m c t) (ha m c t) (hg m c t) (hw m c t) (hq m c t) (hd m c t) zeros j l (fun p => zeros_at j p l) (fun r => sd m c t r l * sq m c t (r + 2 + j) l) fun k acc p =>
    trip_taps Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) (sw m c t) (sq m c t) (sd m c t) (sa m c t) (sg m c t) (ha m c t) (hg m c t) (hw m c t) (hq m c t) (hd m c t) k acc j hj p l

theorem bias_sum (s : ℕ) (hs : s < 2) (l : Fin 128) :
    ∑ p : Fin 8, sums (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) zeros 64).1 (31 + s) (ix2 p l)
      = ∑ r : Fin 4096, half (sw m c t) (sd m c t) (sa m c t) (sg m c t) s r.val l :=
  sum_all Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) (sw m c t) (sq m c t) (sd m c t) (sa m c t) (sg m c t) (ha m c t) (hg m c t) (hw m c t) (hq m c t) (hd m c t) zeros (31 + s) l (fun p => zeros_at _ p l) (fun r => half (sw m c t) (sd m c t) (sa m c t) (sg m c t) s r l) fun k acc p =>
    trip_biases Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hs0_0 t).unread (iblk m c 0 t)) ((hs0_1 t).unread (iblk m c 1 t)) ((hs0_3 t).unread (iblk m c 3 t)) (pad0 m c t) (pad1 m c t) (sw m c t) (sq m c t) (sd m c t) (sa m c t) (sg m c t) (ha m c t) (hg m c t) (hw m c t) (hq m c t) (hd m c t) k acc s hs p l

theorem out5 (s : Fin 31) (l : Fin 128) : (outsAt0 m c t).2.1 (ix2 s l) = taps31 (aX m c) (aB m c) (aZ m c) (ix2 s (col t l)) := by
  have cov := cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (ix2 s l)
  unfold outsAt0 out0_A_4 out0_A_5 out0_A_6
  dsimp only
  rw [View.read_writes_junk_eq_canon]
  refine View.canon_eq_of_allAt _ _ _ cov ?_
  unfold kernelRun0_A
  dsimp only
  intro p hp x hx
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    dsimp only at x hx ⊢
    idx_vars x
    obtain rfl : x0 = 0 := Subsingleton.elim _ _
    obtain ⟨s, hs⟩ := s
    obtain ⟨e0, rfl⟩ := piece2_at _ rfl _ _ l 0 x1 hx
    obtain rfl : s = _ := e0.trans (Nat.add_zero _)
    exact (p2 _ x1).trans (tap_sum m c t _ hs x1)

theorem out6 (s : Fin 2) (l : Fin 128) : (outsAt0 m c t).2.2 (ix2 s l) = biases (aX m c) (aB m c) (aW m c) (aZ m c) (ix2 s (col t l)) := by
  have cov := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (ix2 s l)
  unfold outsAt0 out0_A_4 out0_A_5 out0_A_6
  dsimp only
  rw [View.read_writes_junk_eq_canon]
  refine View.canon_eq_of_allAt _ _ _ cov ?_
  unfold kernelRun0_A
  dsimp only
  intro p hp x hx
  simp only [List.mem_cons, List.not_mem_nil, or_false] at hp
  rcases hp with rfl | rfl <;> dsimp only at x hx ⊢ <;> idx_vars x <;> obtain rfl : x0 = 0 := Subsingleton.elim _ _
  · obtain ⟨e0, rfl⟩ := piece2_at 1 rfl _ s l 0 x1 hx
    obtain rfl : s = 1 := Fin.ext e0
    exact (p2 _ x1).trans (bias_sum m c t 1 (by decide) x1)
  · obtain ⟨e0, rfl⟩ := piece2_at 0 rfl _ s l 0 x1 hx
    obtain rfl : s = 0 := Fin.ext e0
    exact (p2 _ x1).trans (bias_sum m c t 0 (by decide) x1)

omit t

theorem res4 : (dats m 0 c).arrAt 4 cfg0.N = halves (aX m c) (aB m c) (aW m c) (aZ m c) := by
  refine (dats m 0 c).arrAt_eq_of_covers 4 _ (by decide +kernel) fun t _ y => ?_
  blk_simp
  rw [after0_4]
  idx_vars y
  rw [out4, emb4]

theorem res5 : (dats m 0 c).arrAt 5 cfg0.N = taps31 (aX m c) (aB m c) (aZ m c) := by
  refine (dats m 0 c).arrAt_eq_of_covers 5 _ (by decide +kernel) fun t _ y => ?_
  blk_simp
  rw [after0_5]
  idx_vars y
  rw [out5, emb5]

theorem res6 : (dats m 0 c).arrAt 6 cfg0.N = biases (aX m c) (aB m c) (aW m c) (aZ m c) := by
  refine (dats m 0 c).arrAt_eq_of_covers 6 _ (by decide +kernel) fun t _ y => ?_
  blk_simp
  rw [after0_6]
  idx_vars y
  rw [out6, emb6]

omit c

theorem run_parts (ρ : Dev nD → PrngReg) : θ_run defs (onTc (τ := τ) (main (F := Ideal))) ⟨m, fun _ => 0, ρ⟩ fun r => ∀ c : Dev nD,
    r.2.mem ((c.tc : Thread nD τ).loc main_v9_0) = halves (aX m c) (aB m c) (aW m c) (aZ m c)
      ∧ r.2.mem ((c.tc : Thread nD τ).loc main_v9_1) = taps31 (aX m c) (aB m c) (aZ m c)
      ∧ r.2.mem ((c.tc : Thread nD τ).loc main_v9_2) = biases (aX m c) (aB m c) (aW m c) (aZ m c)
      ∧ r.2.mem ((c.tc : Thread nD τ).loc main_arg0) = aX m c
      ∧ r.2.mem ((c.tc : Thread nD τ).loc main_arg1) = aB m c
      ∧ r.2.mem ((c.tc : Thread nD τ).loc main_arg2) = aW m c
      ∧ r.2.mem ((c.tc : Thread nD τ).loc main_arg3) = aZ m c :=
  (θ_run defs _ _).mono (fun r h c => ⟨(h c).1.trans (res4 m c), (h c).2.1.trans (res5 m c), (h c).2.2.1.trans (res6 m c), (h c).2.2.2⟩) (run_blocks m ρ)

end Cert.BStripIdeal.Value
-- ==== Proof.BStripClaim.lean ====
/- The claims about `BStrip`. -/
module

public import proofs.«01_k».proof.Defs
public import proofs.«01_k».proof.Proof.BStripPure
public import proofs.«01_k».proof.Proof.BStripValue

@[expose] public section

set_option maxRecDepth 16384

noncomputable section

namespace Cert.BStripIdeal

open Idealize.ShloMosaic Idealize.ShloMosaic.TcCoe Idealize.SL.Sem

theorem algebraic : Cert.algebraic_BStripIdeal_BStripRefIdeal (hBStripIdeal := Cert.BStripIdeal.Gen.facts)
    (hBStripRefIdeal := Cert.BStripRefIdeal.Gen.facts) := by
  pair_intro
  · run_from Cert.BStripIdeal.Value.run_parts m g
  · refine (θ_run _ _ _).mono ?_ (Cert.BStripRefIdeal.Value.run m' g')
    intro r h c
    obtain ⟨h1, h2, h3, ha⟩ := h c
    obtain ⟨e0, e1, e2, e3⟩ := hagree c
    refine ⟨h1.trans ?_, h2.trans ?_, h3.trans ?_, ha⟩
    · exact (Cert.BStripRefIdeal.Read.val_main_v229_eq _).trans ((Cert.BStripRefIdeal.Pure.r229 _ _ _ _).trans (congr (congr (congr (congrArg Cert.Strip.halves e0) e1) e2) e3))
    · exact (Cert.BStripRefIdeal.Read.val_main_v215_eq _).trans ((Cert.BStripRefIdeal.Pure.r215 _ _ _).trans (congr (congr (congrArg Cert.Strip.taps31 e0) e1) e3))
    · exact (Cert.BStripRefIdeal.Read.val_main_v230_eq _).trans ((Cert.BStripRefIdeal.Pure.r230 _ _ _ _).trans (congr (congr (congr (congrArg Cert.Strip.biases e0) e1) e2) e3))

end Cert.BStripIdeal

end
-- ==== Proof.GroupGrad.lean ====
/- A product of column groups with a matrix of their own each, and its gradient, as functions of the arrays. -/
module

public import proofs.«01_k».proof.Proof.GateGrad

@[expose] public section

set_option maxRecDepth 16384

noncomputable section

namespace Cert.Group

open Cert.Norm Cert.Layer Cert.Gate Idealize.ShloMosaic

abbrev S1x4x256x256 : Shape := ⟨4, ![1, 4, 256, 256]⟩

/-- A column of a group. -/
def col (j : Fin 4) (k : Fin 256) : Fin 1024 := ⟨256 * j.val + k.val, by omega⟩

theorem col_0 (k : Fin 256) : col 0 k = ⟨k.val, by omega⟩ := Fin.ext (by show 256 * 0 + k.val = k.val; omega)
theorem col_1 (k : Fin 256) : col 1 k = ⟨256 + k.val, by omega⟩ := rfl
theorem col_2 (k : Fin 256) : col 2 k = ⟨512 + k.val, by omega⟩ := rfl
theorem col_3 (k : Fin 256) : col 3 k = ⟨768 + k.val, by omega⟩ := rfl

/-- The group of a column, and its place there. -/
def hi (l : Fin 1024) : Fin 4 := ⟨l.val / 256, by omega⟩
def lo (l : Fin 1024) : Fin 256 := ⟨l.val % 256, by omega⟩

section
variable {f0 f1 f2 f3 : Fin 256 → EReal} (f : Fin 4 → Fin 256 → EReal) (l : Fin 1024)
  (h0 : ∀ c, f0 c = f 0 c) (h1 : ∀ c, f1 c = f 1 c) (h2 : ∀ c, f2 c = f 2 c) (h3 : ∀ c, f3 c = f 3 c)
include h0 h1 h2 h3

/-- Four groups side by side. -/
theorem four : (if h : l.val < 256 then f0 ⟨l.val, h⟩ else if h : l.val - 256 < 256 then f1 ⟨l.val - 256, h⟩
      else if h : l.val - 256 - 256 < 256 then f2 ⟨l.val - 256 - 256, h⟩ else f3 ⟨l.val - 256 - 256 - 256, by omega⟩)
    = f (hi l) (lo l) := by
  split
  · rw [h0]; exact congrArg₂ f (Fin.ext (by show 0 = l.val / 256; omega)) (Fin.ext (by show l.val = l.val % 256; omega))
  split
  · rw [h1]; exact congrArg₂ f (Fin.ext (by show 1 = l.val / 256; omega)) (Fin.ext (by show l.val - 256 = l.val % 256; omega))
  split
  · rw [h2]; exact congrArg₂ f (Fin.ext (by show 2 = l.val / 256; omega)) (Fin.ext (by show l.val - 256 - 256 = l.val % 256; omega))
  · rw [h3]; exact congrArg₂ f (Fin.ext (by show 3 = l.val / 256; omega)) (Fin.ext (by show l.val - 256 - 256 - 256 = l.val % 256; omega))

/-- Four groups, each padded to the whole width, added. -/
theorem padded : ((((if h : 768 ≤ l.val ∧ l.val - 768 < 256 then f3 ⟨l.val - 768, h.2⟩ else 0)
      + if h : 512 ≤ l.val ∧ l.val - 512 < 256 then f2 ⟨l.val - 512, h.2⟩ else 0)
      + if h : 256 ≤ l.val ∧ l.val - 256 < 256 then f1 ⟨l.val - 256, h.2⟩ else 0)
      + if h : l.val < 256 then f0 ⟨l.val, h⟩ else 0) = f (hi l) (lo l) := by
  rw [← four f l h0 h1 h2 h3]
  by_cases c0 : l.val < 256
  · rw [dif_neg (by omega), dif_neg (by omega), dif_neg (by omega), dif_pos c0, dif_pos c0, zero_add, zero_add, zero_add]
  by_cases c1 : l.val - 256 < 256
  · rw [dif_neg (by omega), dif_neg (by omega), dif_pos (by omega), dif_neg c0, dif_neg c0, dif_pos c1, zero_add, zero_add, add_zero]
  by_cases c2 : l.val - 256 - 256 < 256
  · rw [dif_neg (by omega), dif_pos (by omega), dif_neg (by omega), dif_neg c0, dif_neg c0, dif_neg c1, dif_pos c2, zero_add, add_zero, add_zero]
    exact congrArg f2 (Fin.ext (by show l.val - 512 = l.val - 256 - 256; omega))
  · rw [dif_pos (by omega), dif_neg (by omega), dif_neg (by omega), dif_neg c0, dif_neg c0, dif_neg c1, dif_neg c2, add_zero, add_zero, add_zero]
    exact congrArg f3 (Fin.ext (by show l.val - 768 = l.val - 256 - 256 - 256; omega))

end

/-- The groups' products. -/
def grp (z : Fin 4096 → Fin 1024 → EReal) (w : FVec Ideal S1x4x256x256 .f32) (r : Fin 4096) (l : Fin 1024) : EReal :=
  ∑ k, z r (col (hi l) k) * w (ix4 0 (hi l) k (lo l))

/-- A cotangent times the groups' transposed matrices. -/
def grpBack (d : Fin 4096 → Fin 1024 → EReal) (w : FVec Ideal S1x4x256x256 .f32) (r : Fin 4096) (l : Fin 1024) : EReal :=
  ∑ c, d r (col (hi l) c) * w (ix4 0 (hi l) (lo l) c)

/-- Rows times a scale. -/
def scl (y : Fin 4096 → Fin 1024 → EReal) (s : FVec Ideal S1x1024 .f32) (r : Fin 4096) (l : Fin 1024) : EReal := y r l * s (ix2 0 l)

/-- A row's term of the gradient of the scale. -/
def both (d y : Fin 4096 → Fin 1024 → EReal) (r : Fin 4096) (l : Fin 1024) : EReal := d r l * y r l

end Cert.Group

end
-- ==== Proof.CGateEnds.lean ====
/- `CGateIdeal` ends with the memory that its last stretch leaves. -/
module

public import proofs.«01_k».proof.Proof.Gen.CGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.CGateIdeal.Value

open Cert.CGateIdeal Cert.CGateIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

theorem tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (BI.emp : sProp 𝕄))) := by
  rw [BI.bigSep_emp_const]
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- Every buffer that outlives the kernels ends as the fold of the stretches and regions leaves it. -/
theorem ends : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W4 m ρ c (Proc.devRef .tc b)) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩)
    (hinit := Pipeline.initEach L lv fun c => ?_)
    (QY := fun c s => ∀ b ∈ Pipeline.ucRefs τ sig, s.mem ((c : Thread nD τ).1, b) = W4 m ρ c b)
    (hfin := fun c s' => ?_) (hQ := fun s h c b hb => h c _ (mem_uc b hb))
  · dsimp only [Pipeline.Seg.post, hseg, Pipeline.HostSeg.ofOps]
    iintro ⟨Hh, Hp, HO⟩
    isplitr [HO]
    · isplitl [Hh]
      · iexact Hh
      · iexact Hp
    · iexact HO
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    · isplitl [Hp]
      · iexists _; iexact Hp
      · iexists ∅; iexact HO
  · iintro ⟨⟨Hh, -⟩, HS⟩
    unfold StableHlo.held
    imodintro
    iapply (pointsTo_read_all (Pipeline.ucRefs τ sig) (fun b => ((c : Thread nD τ).1, b)) (W4 m ρ c) s')
    isplitl [Hh] <;> iassumption

end Cert.CGateIdeal.Value

end
-- ==== Proof.CGateValue.lean ====
/- What `CGateIdeal` leaves in each result, as sums over the argument arrays. -/
module

public import proofs.«01_k».proof.Proof.GroupGrad
public import proofs.«01_k».proof.Proof.CGateEnds
public import proofs.«01_k».proof.Proof.Gen.CGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.CGateIdeal.Value

open Cert.CGateIdeal Cert.CGateIdeal.Gen Idealize.ShloMosaic Idealize.ShloMosaic.TcCoe Idealize.SL.Sem
open Cert.Gate Cert.Group Cert.Layer
open Idealize.ShloMosaic.Pipeline (Dat)

theorem idx0 : ∀ t : Fin cfg0.N, win0_0.index t = ![t.val, 0] ∧ win0_1.index t = ![0, 0, 0] ∧ win0_2.index t = ![t.val, 0] ∧ win0_3.index t = ![0, 0] ∧ win0_4.index t = ![0, 0] ∧ win0_5.index t = ![t.val, 0] ∧ win0_6.index t = ![t.val, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0] ∧ win1_4.index t = ![0, 0, 0] ∧ win1_5.index t = ![t.val, 0] ∧ win1_6.index t = ![t.val, 0, 0] ∧ win1_7.index t = ![t.val, 0, 0] ∧ win1_8.index t = ![t.val, 0] :=
  (by decide +kernel : ∀ t : Fin grid1.N, _)

theorem t_lt (t : Fin cfg0.N) : t.val < 8 := lt_of_lt_of_eq t.isLt (by decide +kernel)

section
variable (x0 : FVec Ideal S512x1024 .bf16) (x1 : FVec Ideal S4x256x256 .bf16) (x2 : FVec Ideal S512x1024 .f32) (x3 x4 : FVec Ideal S1x1024 .f32) (r : Fin 512) (l : Fin 1024)

theorem o5 : out0_5 (F := Ideal) x0 x1 x2 x3 x4 (ix2 r l) = ∑ k : Fin 256, x0 (ix2 r (col (hi l) k)) * x1 (ix3 (hi l) k (lo l)) := by
  frame_out
  pointwise [k0_pay1]
  exact four (f0 := fun c => ∑ k : Fin 256, x0 (ix2 r ⟨k.val, by omega⟩) * x1 (ix3 0 k c)) (f1 := fun c => ∑ k : Fin 256, x0 (ix2 r ⟨256 + k.val, by omega⟩) * x1 (ix3 1 k c)) (f2 := fun c => ∑ k : Fin 256, x0 (ix2 r ⟨512 + k.val, by omega⟩) * x1 (ix3 2 k c)) (f3 := fun c => ∑ k : Fin 256, x0 (ix2 r ⟨768 + k.val, by omega⟩) * x1 (ix3 3 k c)) (fun j c => ∑ k : Fin 256, x0 (ix2 r (col j k)) * x1 (ix3 j k c)) l (fun c => by simp only [col_0]) (fun c => by simp only [col_1]) (fun c => by simp only [col_2]) (fun c => by simp only [col_3])

theorem o6 : out0_6 (F := Ideal) x0 x1 x2 x3 x4 (ix2 r l) = x2 (ix2 r l) + x3 (ix2 0 l) * ((∑ k : Fin 256, x0 (ix2 r (col (hi l) k)) * x1 (ix3 (hi l) k (lo l))) * x4 (ix2 0 l)) := by
  rw [← o5 x0 x1 x2 x3 x4]
  frame_out
  pointwise [k0_pay2]

end

section
variable (x0 x1 : FVec Ideal S512x1024 .f32) (x2 x3 : FVec Ideal S1x1024 .f32) (x4 : FVec Ideal S4x256x256 .bf16)

theorem q5 (r : Fin 512) (l : Fin 1024) : out1_5 (F := Ideal) x0 x1 x2 x3 x4 (ix2 r l) = x0 (ix2 r l) * x2 (ix2 0 l) * x3 (ix2 0 l) := by
  frame_out
  pointwise [k1_pay4, k1_pay3]

theorem q6 (o p : Fin 1) (l : Fin 1024) : out1_6 (F := Ideal) x0 x1 x2 x3 x4 (ix3 o p l) = ∑ r : Fin 512, x0 (ix2 r l) * (x1 (ix2 r l) * x3 (ix2 0 l)) := by
  frame_out
  pointwise [k1_pay5, k1_pay2]

theorem q7 (o p : Fin 1) (l : Fin 1024) : out1_7 (F := Ideal) x0 x1 x2 x3 x4 (ix3 o p l) = ∑ r : Fin 512, x0 (ix2 r l) * x2 (ix2 0 l) * x1 (ix2 r l) := by
  frame_out
  pointwise [k1_pay6, k1_pay3, k1_pay2]

theorem q8 (r : Fin 512) (l : Fin 1024) : out1_8 (F := Ideal) x0 x1 x2 x3 x4 (ix2 r l) = ∑ k : Fin 256, x0 (ix2 r (col (hi l) k)) * x2 (ix2 0 (col (hi l) k)) * x3 (ix2 0 (col (hi l) k)) * x4 (ix3 (hi l) (lo l) k) := by
  frame_out
  pointwise [k1_pay1, k1_pay4, k1_pay3, k1_pay7, k1_pay8]
  exact four (f0 := fun c => ∑ k : Fin 256, x0 (ix2 r ⟨k.val, by omega⟩) * x2 (ix2 0 ⟨k.val, by omega⟩) * x3 (ix2 0 ⟨k.val, by omega⟩) * x4 (ix3 0 c k)) (f1 := fun c => ∑ k : Fin 256, x0 (ix2 r ⟨256 + k.val, by omega⟩) * x2 (ix2 0 ⟨256 + k.val, by omega⟩) * x3 (ix2 0 ⟨256 + k.val, by omega⟩) * x4 (ix3 1 c k)) (f2 := fun c => ∑ k : Fin 256, x0 (ix2 r ⟨512 + k.val, by omega⟩) * x2 (ix2 0 ⟨512 + k.val, by omega⟩) * x3 (ix2 0 ⟨512 + k.val, by omega⟩) * x4 (ix3 2 c k)) (f3 := fun c => ∑ k : Fin 256, x0 (ix2 r ⟨768 + k.val, by omega⟩) * x2 (ix2 0 ⟨768 + k.val, by omega⟩) * x3 (ix2 0 ⟨768 + k.val, by omega⟩) * x4 (ix3 3 c k)) (fun j c => ∑ k : Fin 256, x0 (ix2 r (col j k)) * x2 (ix2 0 (col j k)) * x3 (ix2 0 (col j k)) * x4 (ix3 j c k)) l (fun c => by simp only [col_0]) (fun c => by simp only [col_1]) (fun c => by simp only [col_2]) (fun c => by simp only [col_3])

end

variable (m : (ℓ : Loc nD τ sig) → Buf (Elt Ideal) ℓ) (ρ : Dev nD → PrngReg)

theorem host1 (c : Dev nD) (j : Fin 4) (k l : Fin 256) : W1 m ρ c (Proc.devRef .tc main_v1) (ix3 j k l) = (m ((c : Thread nD τ).loc main_arg2)) (ix4 0 j k l) := by
  show StableHlo.after hostOps0 _ (Proc.tc.devRef main_v1) _ = _
  unfold hostOps0
  after_results
  pointwise []

theorem host2 (c : Dev nD) (r : Fin 4096) (l : Fin 1024) : W1 m ρ c (Proc.devRef .tc main_v2) (ix2 r l) = (m ((c : Thread nD τ).loc main_arg1)) (ix2 r l) := by
  show StableHlo.after hostOps0 _ (Proc.tc.devRef main_v2) _ = _
  unfold hostOps0
  after_results
  pointwise []

theorem b0_0 (c : Dev nD) (t : Fin cfg0.N) (r : Fin 512) (k : Fin 1024) : iblk0 (V1 m ρ) c 0 t (ix2 r k) = (m ((c : Thread nD τ).loc main_arg1)) (ix2 ⟨512 * t.val + r.val, by have := t_lt t; omega⟩ k) := by
  refine Eq.trans ?_ (host2 m ρ c _ k)
  blk_point [iblk0, idx0 t]

theorem b0_1 (c : Dev nD) (t : Fin cfg0.N) (j : Fin 4) (k l : Fin 256) : iblk0 (V1 m ρ) c 1 t (ix3 j k l) = (m ((c : Thread nD τ).loc main_arg2)) (ix4 0 j k l) := by
  refine Eq.trans ?_ (host1 m ρ c j k l)
  blk_point [iblk0, idx0 t]

theorem b0_2 (c : Dev nD) (t : Fin cfg0.N) (r : Fin 512) (l : Fin 1024) : iblk0 (V1 m ρ) c 2 t (ix2 r l) = (m ((c : Thread nD τ).loc main_arg0)) (ix2 ⟨512 * t.val + r.val, by have := t_lt t; omega⟩ l) := by
  refine Eq.trans ?_ (congrFun (W1_args m ρ c main_arg0 (by decide)) _)
  blk_point [iblk0, idx0 t]

theorem b0_3 (c : Dev nD) (t : Fin cfg0.N) (o : Fin 1) (l : Fin 1024) : iblk0 (V1 m ρ) c 3 t (ix2 o l) = (m ((c : Thread nD τ).loc main_arg4)) (ix2 o l) := by
  refine Eq.trans ?_ (congrFun (W1_args m ρ c main_arg4 (by decide)) _)
  blk_point [iblk0, idx0 t]

theorem b0_4 (c : Dev nD) (t : Fin cfg0.N) (o : Fin 1) (l : Fin 1024) : iblk0 (V1 m ρ) c 4 t (ix2 o l) = (m ((c : Thread nD τ).loc main_arg3)) (ix2 o l) := by
  refine Eq.trans ?_ (congrFun (W1_args m ρ c main_arg3 (by decide)) _)
  blk_point [iblk0, idx0 t]

theorem emb0_5 (t : Fin cfg0.N) (r : Fin 512) (l : Fin 1024) : ((cfg0.win 5).blk t).view.emb (ix2 r l) = ix2 ⟨512 * t.val + r.val, by have := t_lt t; omega⟩ l := by
  blk_ext [idx0 t]

theorem final0_5 (c : Dev nD) : (dat0 (V1 m ρ) c).arrAt 5 cfg0.N = fun i => (grp (rows (m ((c : Thread nD τ).loc main_arg1))) (m ((c : Thread nD τ).loc main_arg2))) (i 0) (i 1) := by
  refine (dat0 (V1 m ρ) c).arrAt_eq_of_covers 5 _ (by decide +kernel) fun t _ y => ?_
  blk_simp
  rw [after0_5]; skip
  idx_vars y
  rw [o5, emb0_5]
  simp only [grp, rows, b0_0, b0_1, b0_2, b0_3, b0_4]
  rfl

theorem emb0_6 (t : Fin cfg0.N) (r : Fin 512) (l : Fin 1024) : ((cfg0.win 6).blk t).view.emb (ix2 r l) = ix2 ⟨512 * t.val + r.val, by have := t_lt t; omega⟩ l := by
  blk_ext [idx0 t]

theorem final0_6 (c : Dev nD) : (dat0 (V1 m ρ) c).arrAt 6 cfg0.N = fun i => (res (m ((c : Thread nD τ).loc main_arg0)) (m ((c : Thread nD τ).loc main_arg4)) (scl (grp (rows (m ((c : Thread nD τ).loc main_arg1))) (m ((c : Thread nD τ).loc main_arg2))) (m ((c : Thread nD τ).loc main_arg3)))) (i 0) (i 1) := by
  refine (dat0 (V1 m ρ) c).arrAt_eq_of_covers 6 _ (by decide +kernel) fun t _ y => ?_
  blk_simp
  rw [after0_6]; skip
  idx_vars y
  rw [o6, emb0_6]
  simp only [res, scl, grp, rows, b0_0, b0_1, b0_2, b0_3, b0_4]
  rfl

theorem w2y (c : Dev nD) : W2 m ρ c (Proc.devRef .tc main_v3_0) = fun i => (grp (rows (m ((c : Thread nD τ).loc main_arg1))) (m ((c : Thread nD τ).loc main_arg2))) (i 0) (i 1) := (W2_arr m ρ c 5).trans (final0_5 m ρ c)

theorem b1_0 (c : Dev nD) (t : Fin cfg1.N) (r : Fin 512) (l : Fin 1024) : iblk1 (V2 m ρ) c 0 t (ix2 r l) = (m ((c : Thread nD τ).loc main_arg5)) (ix2 ⟨512 * t.val + r.val, by have := t_lt t; omega⟩ l) := by
  refine Eq.trans ?_ (congrFun (W2_args m ρ c main_arg5 (by decide)) _)
  blk_point [iblk1, idx1 t]

theorem b1_1 (c : Dev nD) (t : Fin cfg1.N) (r : Fin 512) (l : Fin 1024) : iblk1 (V2 m ρ) c 1 t (ix2 r l) = (grp (rows (m ((c : Thread nD τ).loc main_arg1))) (m ((c : Thread nD τ).loc main_arg2))) ⟨512 * t.val + r.val, by have := t_lt t; omega⟩ l := by
  refine Eq.trans ?_ (congrFun (w2y m ρ c) (ix2 ⟨512 * t.val + r.val, by have := t_lt t; omega⟩ l))
  blk_point [iblk1, idx1 t]

theorem b1_2 (c : Dev nD) (t : Fin cfg1.N) (o : Fin 1) (l : Fin 1024) : iblk1 (V2 m ρ) c 2 t (ix2 o l) = (m ((c : Thread nD τ).loc main_arg4)) (ix2 o l) := by
  refine Eq.trans ?_ (congrFun (W2_args m ρ c main_arg4 (by decide)) _)
  blk_point [iblk1, idx1 t]

theorem b1_3 (c : Dev nD) (t : Fin cfg1.N) (o : Fin 1) (l : Fin 1024) : iblk1 (V2 m ρ) c 3 t (ix2 o l) = (m ((c : Thread nD τ).loc main_arg3)) (ix2 o l) := by
  refine Eq.trans ?_ (congrFun (W2_args m ρ c main_arg3 (by decide)) _)
  blk_point [iblk1, idx1 t]

theorem b1_4 (c : Dev nD) (t : Fin cfg1.N) (j : Fin 4) (k l : Fin 256) : iblk1 (V2 m ρ) c 4 t (ix3 j k l) = (m ((c : Thread nD τ).loc main_arg2)) (ix4 0 j k l) := by
  refine Eq.trans ?_ ((congrFun (W2_of m ρ c main_v1 (by decide)) _).trans (host1 m ρ c j k l))
  blk_point [iblk1, idx1 t]

theorem emb1_5 (t : Fin cfg1.N) (r : Fin 512) (l : Fin 1024) : ((cfg1.win 5).blk t).view.emb (ix2 r l) = ix2 ⟨512 * t.val + r.val, by have := t_lt t; omega⟩ l := by
  blk_ext [idx1 t]

theorem final1_5 (c : Dev nD) : (dat1 (V2 m ρ) c).arrAt 5 cfg1.N = fun i => (scl (cot (m ((c : Thread nD τ).loc main_arg5)) (m ((c : Thread nD τ).loc main_arg4))) (m ((c : Thread nD τ).loc main_arg3))) (i 0) (i 1) := by
  refine (dat1 (V2 m ρ) c).arrAt_eq_of_covers 5 _ (by decide +kernel) fun t _ y => ?_
  blk_simp
  rw [after1_5]; skip
  idx_vars y
  rw [q5, emb1_5]
  simp only [scl, cot, b1_0, b1_1, b1_2, b1_3, b1_4]
  rfl

theorem emb1_6 (t : Fin cfg1.N) (o p : Fin 1) (l : Fin 1024) : ((cfg1.win 6).blk t).view.emb (ix3 o p l) = ix3 ⟨t.val, t_lt t⟩ p l := by
  blk_ext [idx1 t]

theorem final1_6 (c : Dev nD) : (dat1 (V2 m ρ) c).arrAt 6 cfg1.N = part (term (m ((c : Thread nD τ).loc main_arg5)) (scl (grp (rows (m ((c : Thread nD τ).loc main_arg1))) (m ((c : Thread nD τ).loc main_arg2))) (m ((c : Thread nD τ).loc main_arg3)))) := by
  refine (dat1 (V2 m ρ) c).arrAt_eq_of_covers 6 _ (by decide +kernel) fun t _ y => ?_
  blk_simp
  rw [after1_6]; skip
  idx_vars y
  rw [q6, emb1_6]
  simp only [part, term, scl, b1_0, b1_1, b1_2, b1_3, b1_4]
  rfl

theorem emb1_7 (t : Fin cfg1.N) (o p : Fin 1) (l : Fin 1024) : ((cfg1.win 7).blk t).view.emb (ix3 o p l) = ix3 ⟨t.val, t_lt t⟩ p l := by
  blk_ext [idx1 t]

theorem final1_7 (c : Dev nD) : (dat1 (V2 m ρ) c).arrAt 7 cfg1.N = part (both (cot (m ((c : Thread nD τ).loc main_arg5)) (m ((c : Thread nD τ).loc main_arg4))) (grp (rows (m ((c : Thread nD τ).loc main_arg1))) (m ((c : Thread nD τ).loc main_arg2)))) := by
  refine (dat1 (V2 m ρ) c).arrAt_eq_of_covers 7 _ (by decide +kernel) fun t _ y => ?_
  blk_simp
  rw [after1_7]; skip
  idx_vars y
  rw [q7, emb1_7]
  simp only [part, both, cot, b1_0, b1_1, b1_2, b1_3, b1_4]
  rfl

theorem emb1_8 (t : Fin cfg1.N) (r : Fin 512) (l : Fin 1024) : ((cfg1.win 8).blk t).view.emb (ix2 r l) = ix2 ⟨512 * t.val + r.val, by have := t_lt t; omega⟩ l := by
  blk_ext [idx1 t]

theorem final1_8 (c : Dev nD) : (dat1 (V2 m ρ) c).arrAt 8 cfg1.N = fun i => (grpBack (scl (cot (m ((c : Thread nD τ).loc main_arg5)) (m ((c : Thread nD τ).loc main_arg4))) (m ((c : Thread nD τ).loc main_arg3))) (m ((c : Thread nD τ).loc main_arg2))) (i 0) (i 1) := by
  refine (dat1 (V2 m ρ) c).arrAt_eq_of_covers 8 _ (by decide +kernel) fun t _ y => ?_
  blk_simp
  rw [after1_8]; skip
  idx_vars y
  rw [q8, emb1_8]
  simp only [grpBack, scl, cot, b1_0, b1_1, b1_2, b1_3, b1_4]
  rfl

theorem w3_v4_1 (c : Dev nD) : W3 m ρ c (Proc.devRef .tc main_v4_1) = part (term (m ((c : Thread nD τ).loc main_arg5)) (scl (grp (rows (m ((c : Thread nD τ).loc main_arg1))) (m ((c : Thread nD τ).loc main_arg2))) (m ((c : Thread nD τ).loc main_arg3)))) := (W3_arr m ρ c 6).trans (final1_6 m ρ c)

theorem tail_v5 (c : Dev nD) : W4 m ρ c (Proc.devRef .tc main_v5) = all (term (m ((c : Thread nD τ).loc main_arg5)) (scl (grp (rows (m ((c : Thread nD τ).loc main_arg1))) (m ((c : Thread nD τ).loc main_arg2))) (m ((c : Thread nD τ).loc main_arg3)))) := by
  show StableHlo.after hostOps2 (W3 m ρ c) (Proc.tc.devRef main_v5) = _
  unfold hostOps2
  after_results
  rw [w3_v4_1 m ρ c]
  funext i
  idx_vars i
  obtain rfl : i0 = 0 := Subsingleton.elim _ _
  refine Eq.trans ?_ (all_part _ i1)
  pointwise []

theorem w3_v4_2 (c : Dev nD) : W3 m ρ c (Proc.devRef .tc main_v4_2) = part (both (cot (m ((c : Thread nD τ).loc main_arg5)) (m ((c : Thread nD τ).loc main_arg4))) (grp (rows (m ((c : Thread nD τ).loc main_arg1))) (m ((c : Thread nD τ).loc main_arg2)))) := (W3_arr m ρ c 7).trans (final1_7 m ρ c)

theorem tail_v6 (c : Dev nD) : W4 m ρ c (Proc.devRef .tc main_v6) = all (both (cot (m ((c : Thread nD τ).loc main_arg5)) (m ((c : Thread nD τ).loc main_arg4))) (grp (rows (m ((c : Thread nD τ).loc main_arg1))) (m ((c : Thread nD τ).loc main_arg2)))) := by
  show StableHlo.after hostOps2 (W3 m ρ c) (Proc.tc.devRef main_v6) = _
  unfold hostOps2
  after_results
  rw [w3_v4_2 m ρ c]
  funext i
  idx_vars i
  obtain rfl : i0 = 0 := Subsingleton.elim _ _
  refine Eq.trans ?_ (all_part _ i1)
  pointwise []

/-- The run: every result as a function of the arguments, and the arguments unchanged. -/
theorem run : θ_run defs (onTc (τ := τ) (main (F := Ideal))) ⟨m, fun _ => 0, ρ⟩ (fun r => ∀ c : Dev nD,
      (r.2.mem ((c.tc : Thread nD τ).loc main_v3_0) = (fun i => (grp (rows (m ((c : Thread nD τ).loc main_arg1))) (m ((c : Thread nD τ).loc main_arg2))) (i 0) (i 1))
      ∧ r.2.mem ((c.tc : Thread nD τ).loc main_v3_1) = (fun i => (res (m ((c : Thread nD τ).loc main_arg0)) (m ((c : Thread nD τ).loc main_arg4)) (scl (grp (rows (m ((c : Thread nD τ).loc main_arg1))) (m ((c : Thread nD τ).loc main_arg2))) (m ((c : Thread nD τ).loc main_arg3)))) (i 0) (i 1))
      ∧ r.2.mem ((c.tc : Thread nD τ).loc main_v4_0) = (fun i => (scl (cot (m ((c : Thread nD τ).loc main_arg5)) (m ((c : Thread nD τ).loc main_arg4))) (m ((c : Thread nD τ).loc main_arg3))) (i 0) (i 1))
      ∧ r.2.mem ((c.tc : Thread nD τ).loc main_v5) = (all (term (m ((c : Thread nD τ).loc main_arg5)) (scl (grp (rows (m ((c : Thread nD τ).loc main_arg1))) (m ((c : Thread nD τ).loc main_arg2))) (m ((c : Thread nD τ).loc main_arg3)))))
      ∧ r.2.mem ((c.tc : Thread nD τ).loc main_v6) = (all (both (cot (m ((c : Thread nD τ).loc main_arg5)) (m ((c : Thread nD τ).loc main_arg4))) (grp (rows (m ((c : Thread nD τ).loc main_arg1))) (m ((c : Thread nD τ).loc main_arg2)))))
      ∧ r.2.mem ((c.tc : Thread nD τ).loc main_v4_3) = (fun i => (grpBack (scl (cot (m ((c : Thread nD τ).loc main_arg5)) (m ((c : Thread nD τ).loc main_arg4))) (m ((c : Thread nD τ).loc main_arg3))) (m ((c : Thread nD τ).loc main_arg2))) (i 0) (i 1)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))) := by
  refine (θ_run defs _ _).mono (fun r h c => ⟨⟨?_, ?_, ?_, ?_, ?_, ?_⟩, h.2 c⟩) (θ_run_and (ends m ρ) (unchanged m ρ))
  · exact (h.1 c main_v3_0 (by decide)).trans ((W4_of m ρ c main_v3_0 (by decide)).trans ((W3_of m ρ c main_v3_0 (by decide)).trans ((W2_arr m ρ c 5).trans (final0_5 m ρ c))))
  · exact (h.1 c main_v3_1 (by decide)).trans ((W4_of m ρ c main_v3_1 (by decide)).trans ((W3_of m ρ c main_v3_1 (by decide)).trans ((W2_arr m ρ c 6).trans (final0_6 m ρ c))))
  · exact (h.1 c main_v4_0 (by decide)).trans ((W4_of m ρ c main_v4_0 (by decide)).trans ((W3_arr m ρ c 5).trans (final1_5 m ρ c)))
  · exact (h.1 c main_v5 (by decide)).trans (tail_v5 m ρ c)
  · exact (h.1 c main_v6 (by decide)).trans (tail_v6 m ρ c)
  · exact (h.1 c main_v4_3 (by decide)).trans ((W4_of m ρ c main_v4_3 (by decide)).trans ((W3_arr m ρ c 8).trans (final1_8 m ρ c)))

end Cert.CGateIdeal.Value

end
-- ==== Proof.CGatePure.lean ====
/- The reference `CGateRefIdeal`, result by result. -/
module

public import proofs.«01_k».proof.Proof.CGateValue
public import proofs.«01_k».proof.Proof.Gen.CGateRefIdeal.Read

@[expose] public section

set_option maxRecDepth 16384

noncomputable section

namespace Cert.CGateIdeal.Pure

open Cert.CGateRefIdeal Cert.CGateRefIdeal.Read Idealize.ShloMosaic
open Cert.Gate Cert.Group Cert.Layer

variable (x z dx : FVec Ideal S4096x1024 .f32) (w : FVec Ideal S1x4x256x256 .f32) (s g : FVec Ideal S1x1024 .f32)

theorem o_at (r : Fin 4096) (l : Fin 1024) : (val_main_v16 (F := Ideal) z w) (ix2 r l) = grp (rows z) w r l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16]
  exact four (f0 := fun c => ∑ k : Fin 256, z (ix2 r ⟨k.val, by omega⟩) * w (ix4 0 0 k c)) (f1 := fun c => ∑ k : Fin 256, z (ix2 r ⟨256 + k.val, by omega⟩) * w (ix4 0 1 k c)) (f2 := fun c => ∑ k : Fin 256, z (ix2 r ⟨512 + k.val, by omega⟩) * w (ix4 0 2 k c)) (f3 := fun c => ∑ k : Fin 256, z (ix2 r ⟨768 + k.val, by omega⟩) * w (ix4 0 3 k c)) (fun j c => ∑ k : Fin 256, z (ix2 r (col j k)) * w (ix4 0 j k c)) l (fun c => by simp only [col_0]) (fun c => by simp only [col_1]) (fun c => by simp only [col_2]) (fun c => by simp only [col_3])

theorem o2_at (r : Fin 4096) (l : Fin 1024) : (val_main_v83 (F := Ideal) z w) (ix2 r l) = grp (rows z) w r l := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_v83]
  exact four (f0 := fun c => ∑ k : Fin 256, z (ix2 r ⟨k.val, by omega⟩) * w (ix4 0 0 k c)) (f1 := fun c => ∑ k : Fin 256, z (ix2 r ⟨256 + k.val, by omega⟩) * w (ix4 0 1 k c)) (f2 := fun c => ∑ k : Fin 256, z (ix2 r ⟨512 + k.val, by omega⟩) * w (ix4 0 2 k c)) (f3 := fun c => ∑ k : Fin 256, z (ix2 r ⟨768 + k.val, by omega⟩) * w (ix4 0 3 k c)) (fun j c => ∑ k : Fin 256, z (ix2 r (col j k)) * w (ix4 0 j k c)) l (fun c => by simp only [col_0]) (fun c => by simp only [col_1]) (fun c => by simp only [col_2]) (fun c => by simp only [col_3])

theorem d_at (r : Fin 4096) (l : Fin 1024) : (val_main_v32 (F := Ideal) s g dx) (ix2 r l) = (scl (cot dx g) s) r l := by
  pointwise [val_main_v22, val_main_v23, val_main_v24, val_main_v31, val_main_v32, scl, cot]
  exact congrArg (· * s (ix2 0 l)) (mul_comm _ _)

theorem db_at (r : Fin 4096) (l : Fin 1024) : (val_main_v66 (F := Ideal) w s g dx) (ix2 r l) = grpBack (scl (cot dx g) s) w r l := by
  pointwise [val_main_v1, val_main_v2, val_main_v5, val_main_v6, val_main_v9, val_main_v10, val_main_v13, val_main_v14, val_main_v33, val_main_v34, val_main_v35, val_main_v36, val_main_v39, val_main_cst_2, val_main_v42, val_main_v45, val_main_cst_4, val_main_v49, val_main_v50, val_main_v53, val_main_cst_6, val_main_v57, val_main_v58, val_main_v61, val_main_cst_8, val_main_v65, val_main_v66, d_at]
  exact padded (f0 := fun c => ∑ k : Fin 256, (scl (cot dx g) s) r ⟨k.val, by omega⟩ * w (ix4 0 0 c k)) (f1 := fun c => ∑ k : Fin 256, (scl (cot dx g) s) r ⟨256 + k.val, by omega⟩ * w (ix4 0 1 c k)) (f2 := fun c => ∑ k : Fin 256, (scl (cot dx g) s) r ⟨512 + k.val, by omega⟩ * w (ix4 0 2 c k)) (f3 := fun c => ∑ k : Fin 256, (scl (cot dx g) s) r ⟨768 + k.val, by omega⟩ * w (ix4 0 3 c k)) (fun j c => ∑ k : Fin 256, (scl (cot dx g) s) r (col j k) * w (ix4 0 j c k)) l (fun c => by simp only [col_0]) (fun c => by simp only [col_1]) (fun c => by simp only [col_2]) (fun c => by simp only [col_3])

theorem r83 : (val_main_v83 (F := Ideal) z w) = fun i => (grp (rows z) w) (i 0) (i 1) := by
  funext i
  idx_vars i
  pointwise [o2_at]

theorem r21 : (val_main_v21 (F := Ideal) x z w s g) = fun i => (res x g (scl (grp (rows z) w) s)) (i 0) (i 1) := by
  funext i
  idx_vars i
  pointwise [val_main_v17, val_main_v18, val_main_v19, val_main_v20, val_main_v21, res, scl, o_at]

theorem r93 : (val_main_v93 (F := Ideal) s g dx) = fun i => (scl (cot dx g) s) (i 0) (i 1) := by
  funext i
  idx_vars i
  pointwise [val_main_v89, val_main_v90, val_main_v91, val_main_v92, val_main_v93, scl, cot]
  exact congrArg (· * s (ix2 0 i1)) (mul_comm _ _)

theorem r27 : (val_main_v27 (F := Ideal) z w s dx) = all (term dx (scl (grp (rows z) w) s)) := by
  funext i
  idx_vars i
  pointwise [val_main_v17, val_main_v18, val_main_v22, val_main_v25, val_main_cst, val_main_v26, val_main_v27, all, term, scl, o_at]

theorem r30 : (val_main_v30 (F := Ideal) z w g dx) = all (both (cot dx g) (grp (rows z) w)) := by
  funext i
  idx_vars i
  pointwise [val_main_v22, val_main_v23, val_main_v24, val_main_v28, val_main_cst_0, val_main_v29, val_main_v30, all, both, cot, o_at]
  exact Finset.sum_congr rfl fun r _ => (mul_comm _ _).trans (congrArg (· * grp (rows z) w r i1) (mul_comm _ _))

theorem r94 : (val_main_v94 (F := Ideal) w s g dx) = fun i => (grpBack (scl (cot dx g) s) w) (i 0) (i 1) := by
  funext i
  idx_vars i
  pointwise [val_main_v94, db_at]

end Cert.CGateIdeal.Pure

end
-- ==== Proof.CGateClaim.lean ====
/- The claims about `CGate`. -/
module

public import proofs.«01_k».proof.Defs
public import proofs.«01_k».proof.Proof.CGatePure

@[expose] public section

set_option maxRecDepth 16384

noncomputable section

namespace Cert.CGateIdeal

open Cert.Reals Idealize.ShloMosaic Idealize.ShloMosaic.TcCoe Idealize.SL.Sem

theorem algebraic : Cert.algebraic_CGateIdeal_CGateRefIdeal (hCGateIdeal := Cert.CGateIdeal.Gen.facts)
    (hCGateRefIdeal := Cert.CGateRefIdeal.Gen.facts) := by
  pair_intro
  · run_from Cert.CGateIdeal.Value.run m g
  · refine θ_run_mono (Cert.CGateRefIdeal.Value.run m' g') fun r h c => ?_
    obtain ⟨h1, h2, h3, h4, h5, h6, ha⟩ := h c
    obtain ⟨e0, e1, e2, e3, e4, e5⟩ := hagree c
    refine ⟨h1.trans ?_, h2.trans ?_, h3.trans ?_, h4.trans ?_, h5.trans ?_, h6.trans ?_, ha⟩
    · refine (Cert.CGateRefIdeal.Read.val_main_v83_eq _ _).trans ?_
      rw [e1, e2, Pure.r83] <;> rfl
    · refine (Cert.CGateRefIdeal.Read.val_main_v21_eq _ _ _ _ _).trans ?_
      rw [e0, e1, e2, e3, e4, Pure.r21] <;> rfl
    · refine (Cert.CGateRefIdeal.Read.val_main_v93_eq _ _ _).trans ?_
      rw [e3, e4, e5, Pure.r93] <;> rfl
    · refine (Cert.CGateRefIdeal.Read.val_main_v27_eq _ _ _ _).trans ?_
      rw [e1, e2, e3, e5, Pure.r27] <;> rfl
    · refine (Cert.CGateRefIdeal.Read.val_main_v30_eq _ _ _ _).trans ?_
      rw [e1, e2, e4, e5, Pure.r30] <;> rfl
    · refine (Cert.CGateRefIdeal.Read.val_main_v94_eq _ _ _ _).trans ?_
      rw [e2, e3, e4, e5, Pure.r94] <;> rfl

end Cert.CGateIdeal

end
-- ==== Proof.CModValue.lean ====
/- What `CModIdeal` leaves in its result, and the claim about it. -/
module

public import proofs.«01_k».proof.Defs
public import proofs.«01_k».proof.Proof.NormIn
public import proofs.«01_k».proof.Proof.Gen.CModIdeal.Value
public import proofs.«01_k».proof.Proof.Gen.CModRefIdeal.Run
public import proofs.«01_k».proof.Proof.Gen.CModRefIdeal.Read
public import Idealize.ShloMosaic.Lib.Claim

@[expose] public section

set_option maxRecDepth 16384

noncomputable section

namespace Cert.CModIdeal.Value

open Cert.CModIdeal Cert.CModIdeal.Gen Cert.NormIn Idealize.ShloMosaic Idealize.ShloMosaic.TcCoe Idealize.SL.Sem
open Idealize.ShloMosaic.Pipeline (Dat)

/-- The modulated rows. -/
def whole (x : FVec Ideal S4096x1024 .f32) (g sc sh : FVec Ideal S1x1024 .f32) (i : S4096x1024.Idx) : EReal :=
  entry (Ideal.ofBits .f32 0x44800000#32) x g sc sh (i 0) (i 1)

theorem idx : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

variable (m : (ℓ : Loc nD τ sig) → Buf (Elt Ideal) ℓ) (c : Dev nD)

theorem point (t : Fin cfg0.N) (y) : k0_pay1 (iblk m c 0 t) (iblk m c 1 t) (iblk m c 2 t) (iblk m c 3 t) y
    = whole (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, whole, entry, recip]
  blk_point [iblk, V, idx t]

theorem final : (dats m 0 c).arrAt 4 cfg0.N
    = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

omit c

theorem run_parts (ρ : Dev nD → PrngReg) : θ_run defs (onTc (τ := τ) (main (F := Ideal))) ⟨m, fun _ => 0, ρ⟩ fun r => ∀ c : Dev nD,
    r.2.mem ((c.tc : Thread nD τ).loc main_v0)
      = whole (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (final m c), (h c).2⟩) (run_blocks m ρ)

end Cert.CModIdeal.Value

namespace Cert.CModIdeal

open Cert.NormIn Idealize.ShloMosaic Idealize.ShloMosaic.TcCoe Idealize.SL.Sem

theorem ref_eq (x : FVec Ideal S4096x1024 .f32) (g sc sh : FVec Ideal S1x1024 .f32) :
    Cert.CModRefIdeal.Read.val_main_v17 (F := Ideal) x g sc sh = Value.whole x g sc sh := by
  funext i
  idx_vars i
  open Cert.CModRefIdeal.Read in
  pointwise [Value.whole, entry, recip, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17]

theorem algebraic : Cert.algebraic_CModIdeal_CModRefIdeal (hCModIdeal := Cert.CModIdeal.Gen.facts) (hCModRefIdeal := Cert.CModRefIdeal.Gen.facts) := by
  pair_intro
  · run_from Cert.CModIdeal.Value.run_parts m g
  · refine θ_run_mono (Cert.CModRefIdeal.Value.run m' g') fun r h c => ?_
    obtain ⟨h1, ha⟩ := h c
    obtain ⟨e0, e1, e2, e3⟩ := hagree c
    refine ⟨h1.trans ?_, ha⟩
    rw [e0, e1, e2, e3]
    exact (Cert.CModRefIdeal.Read.val_main_v17_eq _ _ _ _).trans (ref_eq _ _ _ _)

end Cert.CModIdeal

end
-- ==== Proof.CNormValue.lean ====
/- What `CNormIdeal` leaves in each result, as sums over the argument arrays. -/
module

public import proofs.«01_k».proof.Proof.Gen.CNormIdeal.Frame
public import Idealize.ShloMosaic.Lib.Pipeline.ValueKit
public import Idealize.ShloMosaic.Lib.Pointwise
public import Idealize.ShloMosaic.Lib.Claim

@[expose] public section

set_option maxRecDepth 16384

noncomputable section

namespace Cert.CNormIdeal.Value

open Cert.CNormIdeal Cert.CNormIdeal.Gen Idealize.ShloMosaic Idealize.ShloMosaic.TcCoe Idealize.SL.Sem
open Idealize.ShloMosaic.Pipeline (Dat)

/-- The reciprocal root mean square of a row. -/
def rt (x : FVec Ideal S4096x1024 .f32) (r : Fin 4096) : EReal :=
  Ideal.rsqrt (Ideal.div (∑ k : Fin 1024, x (ix2 r k) * x (ix2 r k)) (Ideal.ofBits .f32 0x44800000#32) + Ideal.ofBits .f32 0x358637BD#32)

/-- The gradient of the normalised row's input, with the residual's cotangent added. -/
def dxin (x dx dh : FVec Ideal S4096x1024 .f32) (g sc : FVec Ideal S1x1024 .f32) (i : S4096x1024.Idx) : EReal :=
  dx (ix2 (i 0) (i 1)) + rt x (i 0) * (dh (ix2 (i 0) (i 1)) * (g (ix2 0 (i 1)) * (1 + sc (ix2 0 (i 1))))
    - x (ix2 (i 0) (i 1)) * rt x (i 0) * Ideal.div (∑ k : Fin 1024, dh (ix2 (i 0) k) * (g (ix2 0 k) * (1 + sc (ix2 0 k))) * (x (ix2 (i 0) k) * rt x (i 0)))
        (Ideal.ofBits .f32 0x44800000#32))

/-- A tile's sum of the cotangent's rows. -/
def part6 (dh : FVec Ideal S4096x1024 .f32) (i : S8x1x1024.Idx) : EReal :=
  ∑ k : Fin 512, dh (ix2 ⟨512 * (i 0).val + k.val, by have := (i 0).isLt; have := k.isLt; simp at *; omega⟩ (i 2))

/-- A tile's sum of the cotangent times the normalised rows. -/
def part7 (x dh : FVec Ideal S4096x1024 .f32) (i : S8x1x1024.Idx) : EReal :=
  ∑ k : Fin 512, (fun r : Fin 4096 => dh (ix2 r (i 2)) * (x (ix2 r (i 2)) * rt x r))
    ⟨512 * (i 0).val + k.val, by have := (i 0).isLt; have := k.isLt; simp at *; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0, 0]
    ∧ win0_7.index t = ![t.val, 0, 0] :=
  (by decide +kernel : ∀ t : Fin grid0.N, _)

variable (m : (ℓ : Loc nD τ sig) → Buf (Elt Ideal) ℓ)

theorem point5 (c : Dev nD) (t : Fin cfg0.N) (y) : k0_pay5 (iblk m c 0 t) (iblk m c 1 t) (iblk m c 2 t) (iblk m c 3 t) (iblk m c 4 t) y
    = dxin (m ((c : Thread nD τ).loc main_arg0)) (m ((c : Thread nD τ).loc main_arg4)) (m ((c : Thread nD τ).loc main_arg5))
        (m ((c : Thread nD τ).loc main_arg1)) (m ((c : Thread nD τ).loc main_arg2)) (((cfg0.win 5).blk t).view.emb y) := by
  pointwise [k0_pay5, k0_pay4, k0_pay3, dxin, rt]
  blk_point [iblk, V, idx t]

theorem final5 (c : Dev nD) : (dats m 0 c).arrAt 5 (cfgs 0).N
    = dxin (m ((c : Thread nD τ).loc main_arg0)) (m ((c : Thread nD τ).loc main_arg4)) (m ((c : Thread nD τ).loc main_arg5))
        (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

theorem point6 (c : Dev nD) (t : Fin cfg0.N) (y) : k0_pay1 (k0_pay6 (iblk m c 0 t)) y
    = part6 (m ((c : Thread nD τ).loc main_arg5)) (((cfg0.win 6).blk t).view.emb y) := by
  pointwise [k0_pay1, k0_pay6, part6]
  blk_point [iblk, V, idx t]

theorem final6 (c : Dev nD) : (dats m 0 c).arrAt 6 (cfgs 0).N = part6 (m ((c : Thread nD τ).loc main_arg5)) := by
  refine (dats m 0 c).arrAt_eq_of_covers 6 _ (by decide +kernel) fun t _ y => ?_
  blk_simp
  rw [after0_6]; frame_out
  exact point6 m c t y

theorem point7 (c : Dev nD) (t : Fin cfg0.N) (y) : k0_pay2 (k0_pay7 (iblk m c 0 t) (iblk m c 1 t)) y
    = part7 (m ((c : Thread nD τ).loc main_arg0)) (m ((c : Thread nD τ).loc main_arg5)) (((cfg0.win 7).blk t).view.emb y) := by
  pointwise [k0_pay2, k0_pay7, k0_pay4, k0_pay3, part7, rt]
  blk_point [iblk, V, idx t]

theorem final7 (c : Dev nD) : (dats m 0 c).arrAt 7 (cfgs 0).N
    = part7 (m ((c : Thread nD τ).loc main_arg0)) (m ((c : Thread nD τ).loc main_arg5)) := by
  refine (dats m 0 c).arrAt_eq_of_covers 7 _ (by decide +kernel) fun t _ y => ?_
  blk_simp
  rw [after0_7]; frame_out
  exact point7 m c t y

/-- The column sums of a whole array, from its tiles' sums. -/
theorem tiles (f : Fin 4096 → EReal) (h : ∀ j : Fin 8, ∀ k : Fin 512, 512 * j.val + k.val < 4096) :
    ∑ j : Fin 8, ∑ k : Fin 512, f ⟨512 * j.val + k.val, h j k⟩ = ∑ r, f r := by
  rw [Fin.sum_univ_tiles 8 512 rfl f]
  refine Finset.sum_congr rfl fun j _ => Finset.sum_congr rfl fun k _ => congrArg f (Fin.ext ?_)
  show 512 * j.val + k.val = j.val * 512 + k.val
  omega

/-- A column's sum of the cotangent times the normalised rows. -/
def col7 (x dh : FVec Ideal S4096x1024 .f32) (l : Fin 1024) : EReal :=
  ∑ r : Fin 4096, dh (ix2 r l) * (x (ix2 r l) * rt x r)

/-- The gradient of the scale of the norm. -/
def dgain (x dh : FVec Ideal S4096x1024 .f32) (sc : FVec Ideal S1x1024 .f32) (i : S1x1024.Idx) : EReal :=
  col7 x dh (i 1) * (1 + sc (ix2 (i 0) (i 1)))

/-- The gradient of the modulation's scale. -/
def dscale (x dh : FVec Ideal S4096x1024 .f32) (g : FVec Ideal S1x1024 .f32) (i : S1x1024.Idx) : EReal :=
  col7 x dh (i 1) * g (ix2 (i 0) (i 1))

/-- The gradient of the modulation's shift. -/
def dshift (dh : FVec Ideal S4096x1024 .f32) (i : S1x1024.Idx) : EReal :=
  ∑ r : Fin 4096, dh (ix2 r (i 1))

/-- The tiles' partial sums, summed. -/
theorem sum7 (x dh : FVec Ideal S4096x1024 .f32) (r0 : Fin 1) (l : Fin 1024) :
    Host.reduceAdd (F := Ideal) (φ := .f32) (part7 x dh) (constant (F := Ideal) S_ .f32 0x00000000#32) reducesTo_S8x1x1024_S1x1024_d0 h_S_ (ix2 r0 l) = col7 x dh l := by
  pointwise [part7, col7]
  exact tiles (fun r => dh (ix2 r l) * (x (ix2 r l) * rt x r)) _

theorem sum6 (dh : FVec Ideal S4096x1024 .f32) (r0 : Fin 1) (l : Fin 1024) :
    Host.reduceAdd (F := Ideal) (φ := .f32) (part6 dh) (constant (F := Ideal) S_ .f32 0x00000000#32) reducesTo_S8x1x1024_S1x1024_d0 h_S_ (ix2 r0 l) = dshift dh (ix2 r0 l) := by
  pointwise [part6, dshift]
  exact tiles (fun r => dh (ix2 r l)) _

end Cert.CNormIdeal.Value

end
-- ==== Proof.CNormTail.lean ====
/- The host lines after the kernel of `CNormIdeal`: the partial sums added up and scaled; its whole run. -/
module

public import proofs.«01_k».proof.Proof.CNormValue

@[expose] public section

set_option maxRecDepth 16384

noncomputable section

namespace Cert.CNormIdeal.Value

open Cert.CNormIdeal Cert.CNormIdeal.Gen Idealize.ShloMosaic Idealize.ShloMosaic.TcCoe Idealize.SL.Sem
open Idealize.ShloMosaic.Pipeline (Dat)

variable (m : (ℓ : Loc nD τ sig) → Buf (Elt Ideal) ℓ)

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w6 (c : Dev nD) : W m c (Proc.tc.devRef main_v0_1) = part6 (m ((c : Thread nD τ).loc main_arg5)) :=
  (Pipeline.withArrays_arr _ arr_inj c _ _ 6).trans (final6 m c)

theorem w7 (c : Dev nD) : W m c (Proc.tc.devRef main_v0_2) = part7 (m ((c : Thread nD τ).loc main_arg0)) (m ((c : Thread nD τ).loc main_arg5)) :=
  (Pipeline.withArrays_arr _ arr_inj c _ _ 7).trans (final7 m c)

theorem w3 (c : Dev nD) : W m c (Proc.tc.devRef main_arg1) = m ((c : Thread nD τ).loc main_arg1) :=
  (Pipeline.withArrays_arr _ arr_inj c _ _ 3).trans (Pipeline.Dat.arrAt_in _ _ rfl _)

theorem w4 (c : Dev nD) : W m c (Proc.tc.devRef main_arg2) = m ((c : Thread nD τ).loc main_arg2) :=
  (Pipeline.withArrays_arr _ arr_inj c _ _ 4).trans (Pipeline.Dat.arrAt_in _ _ rfl _)

theorem tail4 (c : Dev nD) : Pipeline.afterTail₀ cfgs (dats m) 0 (V0 m) [hostOps1] c main_v4
    = dgain (m ((c : Thread nD τ).loc main_arg0)) (m ((c : Thread nD τ).loc main_arg5)) (m ((c : Thread nD τ).loc main_arg2)) := by
  show StableHlo.after hostOps1 (W m c) (Proc.tc.devRef main_v4) = _
  unfold hostOps1
  after_results
  rw [w7 m c, w4 m c]
  funext i
  idx_vars i
  pointwise [dgain, sum7]

theorem tail5 (c : Dev nD) : Pipeline.afterTail₀ cfgs (dats m) 0 (V0 m) [hostOps1] c main_v5
    = dscale (m ((c : Thread nD τ).loc main_arg0)) (m ((c : Thread nD τ).loc main_arg5)) (m ((c : Thread nD τ).loc main_arg1)) := by
  show StableHlo.after hostOps1 (W m c) (Proc.tc.devRef main_v5) = _
  unfold hostOps1
  after_results
  rw [w7 m c, w3 m c]
  funext i
  idx_vars i
  pointwise [dscale, sum7]

theorem tail6 (c : Dev nD) : Pipeline.afterTail₀ cfgs (dats m) 0 (V0 m) [hostOps1] c main_v6
    = dshift (m ((c : Thread nD τ).loc main_arg5)) := by
  show StableHlo.after hostOps1 (W m c) (Proc.tc.devRef main_v6) = _
  unfold hostOps1
  after_results
  rw [w6 m c]
  funext i
  idx_vars i
  exact sum6 _ _ _

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v0_0)
        = dxin (m ((c : Thread nD τ).loc main_arg0)) (m ((c : Thread nD τ).loc main_arg4)) (m ((c : Thread nD τ).loc main_arg5))
            (m ((c : Thread nD τ).loc main_arg1)) (m ((c : Thread nD τ).loc main_arg2))
      ∧ r.2.mem ((c.tc : Thread nD τ).loc main_v4)
        = dgain (m ((c : Thread nD τ).loc main_arg0)) (m ((c : Thread nD τ).loc main_arg5)) (m ((c : Thread nD τ).loc main_arg2))
      ∧ r.2.mem ((c.tc : Thread nD τ).loc main_v5)
        = dscale (m ((c : Thread nD τ).loc main_arg0)) (m ((c : Thread nD τ).loc main_arg5)) (m ((c : Thread nD τ).loc main_arg1))
      ∧ r.2.mem ((c.tc : Thread nD τ).loc main_v6) = dshift (m ((c : Thread nD τ).loc main_arg5)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  refine (θ_run defs _ _).mono (fun r h c => ⟨⟨?_, ?_, ?_, ?_⟩, h.2 c⟩) (θ_run_and (run_main m ρ) (unchanged m ρ))
  · exact ((h.1 c).1 5).trans (final5 m c)
  · exact ((h.1 c).2 main_v4 (by decide)).trans (tail4 m c)
  · exact ((h.1 c).2 main_v5 (by decide)).trans (tail5 m c)
  · exact ((h.1 c).2 main_v6 (by decide)).trans (tail6 m c)

end Cert.CNormIdeal.Value

end
-- ==== Proof.CNormPure.lean ====
/- The reference `CNormRefIdeal` computes the same gradients, wherever the row, the norm's scale, the modulation's scale and the
   cotangent are finite: there both are real numbers, and the two ways to write the gradient of the norm agree. -/
module

public import proofs.«01_k».proof.Proof.CNormTail
public import proofs.«01_k».proof.Proof.NormGrad
public import proofs.«01_k».proof.Proof.Gen.CNormRefIdeal.Read

@[expose] public section

set_option maxRecDepth 16384

noncomputable section

namespace Cert.CNormIdeal.Pure

open Cert.CNormIdeal.Value Cert.CNormRefIdeal Cert.CNormRefIdeal.Read Cert.Reals Idealize.ShloMosaic

theorem dx_eq (x dh : S4096x1024.Idx → ℝ) (g sc : S1x1024.Idx → ℝ) (dx : FVec Ideal S4096x1024 .f32) :
    val_main_v48 (F := Ideal) (fun i => (x i : EReal)) (fun i => (g i : EReal)) (fun i => (sc i : EReal)) dx (fun i => (dh i : EReal))
      = dxin (fun i => (x i : EReal)) dx (fun i => (dh i : EReal)) (fun i => (g i : EReal)) (fun i => (sc i : EReal)) := by
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48, dxin, rt]
  have hp : ∀ r : Fin 4096, 0 < (∑ k, x (ix2 r k) * x (ix2 r k)) / 1024 + eps := fun r => ms_pos fun k => x (ix2 r k)
  simp only [ofBits_eps, ofBits_1024, ofBits_neg_half, one_coe, ← EReal.coe_mul, ← EReal.coe_add, ← EReal.coe_sub, sum_real,
    div_real (show (1024 : ℝ) ≠ 0 by norm_num), fun r => rsqrt_pos (hp r), fun (r : Fin 4096) (y : ℝ) => div_real (a := y) (hp r).ne', Finset.univ_unique, Finset.sum_singleton, add_assoc]
  rw [← add_assoc (_ : ℝ) _ _]
  exact congrArg _ (congrArg _ (norm_real (fun k => x (ix2 i0 k)) (fun k => dh (ix2 i0 k)) (fun k => g (ix2 0 k)) (fun k => sc (ix2 0 k)) i1).symm)

theorem dgain_eq (x dh : S4096x1024.Idx → ℝ) (sc : S1x1024.Idx → ℝ) :
    val_main_v31 (F := Ideal) (fun i => (x i : EReal)) (fun i => (sc i : EReal)) (fun i => (dh i : EReal))
      = dgain (fun i => (x i : EReal)) (fun i => (dh i : EReal)) (fun i => (sc i : EReal)) := by
  funext i
  idx_vars i
  obtain rfl : i0 = 0 := Subsingleton.elim _ _
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48, dgain, col7, rt]
  have hp : ∀ r : Fin 4096, 0 < (∑ k, x (ix2 r k) * x (ix2 r k)) / 1024 + eps := fun r => ms_pos fun k => x (ix2 r k)
  simp only [ofBits_eps, ofBits_1024, one_coe, ← EReal.coe_mul, ← EReal.coe_add, sum_real,
    div_real (show (1024 : ℝ) ≠ 0 by norm_num), fun r => rsqrt_pos (hp r)]
  refine congrArg _ ?_
  rw [Finset.sum_mul]
  exact Finset.sum_congr rfl fun k _ => by ring

theorem dscale_eq (x dh : S4096x1024.Idx → ℝ) (g : S1x1024.Idx → ℝ) :
    val_main_v26 (F := Ideal) (fun i => (x i : EReal)) (fun i => (g i : EReal)) (fun i => (dh i : EReal))
      = dscale (fun i => (x i : EReal)) (fun i => (dh i : EReal)) (fun i => (g i : EReal)) := by
  funext i
  idx_vars i
  obtain rfl : i0 = 0 := Subsingleton.elim _ _
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48, dscale, col7, rt]
  have hp : ∀ r : Fin 4096, 0 < (∑ k, x (ix2 r k) * x (ix2 r k)) / 1024 + eps := fun r => ms_pos fun k => x (ix2 r k)
  simp only [ofBits_eps, ofBits_1024, one_coe, ← EReal.coe_mul, ← EReal.coe_add, sum_real,
    div_real (show (1024 : ℝ) ≠ 0 by norm_num), fun r => rsqrt_pos (hp r)]
  refine congrArg _ ?_
  rw [Finset.sum_mul]
  exact Finset.sum_congr rfl fun k _ => by ring

theorem dshift_eq (dh : FVec Ideal S4096x1024 .f32) : val_main_v23 (F := Ideal) dh = dshift dh := by
  funext i
  idx_vars i
  pointwise [val_main_v23, val_main_v22, val_main_cst_4, dshift]

end Cert.CNormIdeal.Pure

end
-- ==== Proof.CNormClaim.lean ====
/- The claims about `CNorm`. -/
module

public import proofs.«01_k».proof.Defs
public import proofs.«01_k».proof.Proof.Gen.Pre_n_finite
public import proofs.«01_k».proof.Proof.CNormPure

@[expose] public section

set_option maxRecDepth 16384

noncomputable section

namespace Cert.CNormIdeal

open Cert.Reals Idealize.ShloMosaic Idealize.ShloMosaic.TcCoe Idealize.SL.Sem

theorem algebraic : Cert.algebraic_CNormIdeal_CNormRefIdeal_pre_n_finite (hCNormIdeal := Cert.CNormIdeal.Gen.facts)
    (hCNormRefIdeal := Cert.CNormRefIdeal.Gen.facts) (hPre_n_finite := Cert.Pre_n_finite.Gen.facts) := by
  pair_intro
  · run_from Cert.CNormIdeal.Value.run m g
  · refine θ_run_mono (Cert.CNormRefIdeal.Value.run m' g') fun r h c => ?_
    obtain ⟨h1, h2, h3, h4, ha⟩ := h c
    obtain ⟨e0, e1, e2, e3, e4, e5⟩ := hagree c
    obtain ⟨f0, f1, f2, f5⟩ := hpre c
    obtain ⟨x, hx⟩ := real_of_finite _ _ f0
    obtain ⟨gn, hg⟩ := real_of_finite _ _ f1
    obtain ⟨sc, hsc⟩ := real_of_finite _ _ f2
    obtain ⟨dh, hdh⟩ := real_of_finite _ _ f5
    refine ⟨h1.trans ?_, h2.trans ?_, h3.trans ?_, h4.trans ?_, ha⟩
    · rw [Cert.CNormRefIdeal.Read.val_main_v48_eq, e0, e1, e2, e4, e5, hx, hg, hsc, hdh]
      exact Pure.dx_eq x dh gn sc _
    · refine (Cert.CNormRefIdeal.Read.val_main_v31_eq _ _ _).trans ?_
      rw [e0, e2, e5, hx, hsc, hdh]
      exact Pure.dgain_eq x dh sc
    · refine (Cert.CNormRefIdeal.Read.val_main_v26_eq _ _ _).trans ?_
      rw [e0, e1, e5, hx, hg, hdh]
      exact Pure.dscale_eq x dh gn
    · refine (Cert.CNormRefIdeal.Read.val_main_v23_eq _).trans ?_
      rw [e5]
      exact Pure.dshift_eq _

end Cert.CNormIdeal

end
-- ==== Proof.Window.lean ====
/- The windowed means and their gradient, and the sums over windows that they are made of. -/
module

public import proofs.«01_k».proof.Proof.Reals
public import proofs.«01_k».proof.Proof.Strip
public import Idealize.ShloMosaic.Lib.Routing.OpsOne
public import Idealize.ShloMosaic.Lib.Pointwise

@[expose] public section

set_option maxRecDepth 16384

noncomputable section

namespace Cert.Window

open Idealize.ShloMosaic Cert.Reals

/-- A gradient of 4096 rows and 1024 columns. -/
abbrev Grid := FVec Ideal ⟨2, ![4096, 1024]⟩ .f32

/-- How many rows the mean at row `t` is taken over, when the window has `w` rows. -/
def count (w t : ℕ) : ℝ := ((min (t + 1) w : ℕ) : ℝ)

theorem count_ne (w t : ℕ) (hw : 0 < w) : count w t ≠ 0 := Nat.cast_ne_zero.mpr (by omega)

/-- What row `k`'s gradient gives to each row of its window; nothing past the end. -/
def share (d : Grid) (w k : ℕ) (l : Fin 1024) : EReal := if h : k < 4096 then Ideal.div (d (ix2 ⟨k, h⟩ l)) (count w k : EReal) else 0

theorem share_lt (d : Grid) (w : ℕ) (t : Fin 4096) (l : Fin 1024) : share d w t.val l = Ideal.div (d (ix2 t l)) (count w t.val : EReal) := dif_pos t.isLt

/-- The window of a column: four groups of 256 columns. -/
def width (l : Fin 1024) : ℕ := if l.val < 256 then 2 else if l.val < 512 then 4 else if l.val < 768 then 8 else 16

/-- The sum of a window of `n` rows and of the `n` rows after it is the sum of a window of `2 n` rows. -/
theorem doubled {f g : ℕ → EReal} {n : ℕ} (h : ∀ k, g k = ∑ j ∈ Finset.range n, f (k + j)) (k : ℕ) :
    g k + g (k + n) = ∑ j ∈ Finset.range (n + n), f (k + j) := by
  rw [h, h, Finset.sum_range_add]
  simp only [Nat.add_assoc]

theorem width_pos (l : Fin 1024) : 0 < width l := by unfold width; split_ifs <;> omega

/-- The gradient: a row's share of each window that it lies in, less the row's own gradient. -/
def grad (d : Grid) : Grid := fun i => (∑ j ∈ Finset.range (width (i 1)), share d (width (i 1)) ((i 0).val + j) (i 1)) - d i

theorem int_count (t w : ℕ) (ht : t < 4096) (hw : w ≤ 16) :
    (((IntOp.minsi (IntOp.addi (BitVec.ofNat 32 t) 1#32) (BitVec.ofNat 32 w)).toInt : ℝ) : EReal) = (count w t : EReal) := by
  have e : (IntOp.minsi (IntOp.addi (BitVec.ofNat 32 t) 1#32) (BitVec.ofNat 32 w)).toInt = ((min (t + 1) w : ℕ) : ℤ) := by
    have e1 : IntOp.addi (BitVec.ofNat 32 t) 1#32 = BitVec.ofNat 32 (t + 1) := by
      rw [BitVec.ofNat_add]; rfl
    have e2 : ∀ n : ℕ, n ≤ 4096 → (BitVec.ofNat 32 n).toInt = (n : ℤ) := fun n hn => by
      rw [BitVec.toInt_eq_toNat_cond, BitVec.toNat_ofNat, Nat.mod_eq_of_lt (by omega), if_pos (by omega)]
    have e3 : ∀ x y : BitVec 32, (IntOp.minsi x y).toInt = min x.toInt y.toInt := fun x y => by
      unfold IntOp.minsi
      by_cases h : x.toInt < y.toInt
      · simp only [BitVec.slt, h, decide_true, if_true]; omega
      · simp only [BitVec.slt, h, decide_false, Bool.false_eq_true, if_false]; omega
    rw [e1, e3, e2 _ (by omega), e2 _ (by omega)]
    omega
  rw [e]; rfl

/-- The sum of the differences of a function over a step of `w`. -/
theorem sum_step (y : ℕ → ℝ) (w : ℕ) : ∀ n : ℕ, ∑ j ∈ Finset.range n, (y j - y (j + w)) = ∑ j ∈ Finset.range w, y j - ∑ j ∈ Finset.range w, y (n + j)
  | 0 => by simp
  | n + 1 => by
    have h := (Finset.sum_range_succ (fun j => y (n + j)) w).symm.trans (Finset.sum_range_succ' (fun j => y (n + j)) w)
    rw [Finset.sum_range_succ, sum_step y w n, show (fun j => y (n + 1 + j)) = fun j => y (n + (j + 1)) from funext fun j => congrArg y (by omega)]
    simp only [Nat.add_zero] at h
    linarith

/-- A sum over the rows from `t` on of the differences is the sum over the window at `t`. -/
theorem sum_tail (x : ℕ → ℝ) (hx : ∀ k, 4096 ≤ k → x k = 0) (w t : ℕ) :
    ∑ n : Fin 4096, (if t + n.val < 4096 then ((x (t + n.val) : ℝ) : EReal) + -((x (t + n.val + w) : ℝ) : EReal) else 0)
      = ∑ j ∈ Finset.range w, ((x (t + j) : ℝ) : EReal) := by
  have e : ∀ n : ℕ, (if t + n < 4096 then ((x (t + n) : ℝ) : EReal) + -((x (t + n + w) : ℝ) : EReal) else 0)
      = ((x (t + n) - x (t + n + w) : ℝ) : EReal) := fun n => by
    split
    · rw [EReal.coe_sub, sub_eq_add_neg]
    · rw [hx _ (by omega), hx _ (by omega), sub_zero, EReal.coe_zero]
  have s := sum_step (fun j => x (t + j)) w 4096
  rw [Finset.sum_congr rfl fun n _ => e n.val, sum_real, Fin.sum_univ_eq_sum_range (fun n => x (t + n) - x (t + n + w)) 4096]
  rw [show (fun n => x (t + n) - x (t + n + w)) = fun n => x (t + n) - x (t + (n + w)) from funext fun n => by rw [Nat.add_assoc], s,
    Finset.sum_eq_zero (s := Finset.range w) (f := fun j => x (t + (4096 + j))) fun j _ => hx _ (by omega), sub_zero, Finset.sum_range, Finset.sum_range, ← sum_real]

/-- The zero word is zero. -/
theorem ofBits_zero : Ideal.ofBits .f32 0x00000000#32 = 0 := by simp [Ideal.ofBits, Ideal.ieee]

/-- A running sum, with `M` rows of zeros before and `N` behind: row `t` sums `R` rows from row `t - M` on. -/
theorem running {R M N C : ℕ} (x : FVec Ideal ⟨2, ![R, C]⟩ .f32)
    (h : (⟨2, ![R, C]⟩ : Shape).ReduceWindows (![R, 1] : Fin 2 → ℕ) ![1, 1] ![M, 0] ![N, 0] ⟨2, ![R, C]⟩)
    (hu) (init : (⟨0, ![]⟩ : Shape).Idx → EReal) (hi : ∀ i, init i = 0) (t : Fin R) (l : Fin C) (q : ℕ → EReal) (hq : ∀ r : Fin R, x (ix2 r l) = q r.val) :
    Host.reduceWindowAdd (F := Ideal) (φ := .f32) ![R, 1] ![1, 1] ![M, 0] ![N, 0] x init h hu (ix2 t l)
      = ∑ n : Fin R, (if M ≤ t.val + n.val ∧ t.val + n.val - M < R then q (t.val + n.val - M) else 0) := by
  have f : ∀ (L : List (Fin (Routing.shape2 R 1).numel)) (g : Fin (Routing.shape2 R 1).numel → EReal) (a : EReal),
      L.foldl (fun r n => r + g n) a = a + (L.map g).sum := by
    intro L g
    induction L with
    | nil => intro a; simp
    | cons b L ih => intro a; rw [List.foldl_cons, ih, List.map_cons, List.sum_cons, add_assoc]
  show Host.reduceWindow (α := EReal) (· + ·) ![R, 1] ![1, 1] ![M, 0] ![N, 0] x (fun _ : (⟨0, ![]⟩ : Shape).Idx => init (Shape.Idx.first hu)) h (by decide) (ix2 t l) = _
  unfold Host.reduceWindow
  refine (f _ _ _).trans ?_
  rw [hi, zero_add, ← Fin.sum_univ_def]
  refine Fintype.sum_equiv (finCongr (Routing.numel_col R)) _ _ fun n => ?_
  have hw0 : ((Routing.shape2 R 1).rowMajor.symm n 0).val = n.val := by rw [Routing.symm_col]; rfl
  have hw1 : ((Routing.shape2 R 1).rowMajor.symm n 1).val = 0 := by rw [Routing.symm_col]; rfl
  by_cases hn : M ≤ t.val + n.val ∧ t.val + n.val - M < R
  · rw [dif_pos]
    · refine Eq.trans ?_ (if_pos hn).symm
      refine (congrArg x (funext fun a => Fin.ext ?_)).trans (hq ⟨t.val + n.val - M, hn.2⟩)
      match a with
      | ⟨0, _⟩ => show t.val * 1 + ((Routing.shape2 R 1).rowMajor.symm n 0).val - M = t.val + n.val - M; rw [hw0]; omega
      | ⟨1, _⟩ => show l.val * 1 + ((Routing.shape2 R 1).rowMajor.symm n 1).val - 0 = l.val; rw [hw1]; omega
    · intro a
      match a with
      | ⟨0, _⟩ =>
        show M ≤ t.val * 1 + ((Routing.shape2 R 1).rowMajor.symm n 0).val ∧ t.val * 1 + ((Routing.shape2 R 1).rowMajor.symm n 0).val - M < R
        rw [hw0, Nat.mul_one]; exact hn
      | ⟨1, _⟩ =>
        show 0 ≤ l.val * 1 + ((Routing.shape2 R 1).rowMajor.symm n 1).val ∧ l.val * 1 + ((Routing.shape2 R 1).rowMajor.symm n 1).val - 0 < C
        rw [hw1]; have := l.isLt; omega
  · rw [dif_neg]
    · exact (if_neg hn).symm
    · intro hin
      have h0 : M ≤ t.val * 1 + ((Routing.shape2 R 1).rowMajor.symm n 0).val ∧ t.val * 1 + ((Routing.shape2 R 1).rowMajor.symm n 0).val - M < R := hin 0
      rw [hw0, Nat.mul_one] at h0
      exact hn h0

/-- A running sum from the last row back: the sum over the rows from row `t` on. -/
theorem tail_sum {R N C : ℕ} (x : FVec Ideal ⟨2, ![R, C]⟩ .f32)
    (h : (⟨2, ![R, C]⟩ : Shape).ReduceWindows (![R, 1] : Fin 2 → ℕ) ![1, 1] ![0, 0] ![N, 0] ⟨2, ![R, C]⟩)
    (hu) (init : (⟨0, ![]⟩ : Shape).Idx → EReal) (hi : ∀ i, init i = 0) (t : Fin R) (l : Fin C) (q : ℕ → EReal) (hq : ∀ r : Fin R, x (ix2 r l) = q r.val) :
    Host.reduceWindowAdd (F := Ideal) (φ := .f32) ![R, 1] ![1, 1] ![0, 0] ![N, 0] x init h hu (ix2 t l)
      = ∑ n : Fin R, (if t.val + n.val < R then q (t.val + n.val) else 0) := by
  refine (running x h hu init hi t l q hq).trans (Finset.sum_congr rfl fun n _ => ?_)
  simp only [Nat.zero_le, true_and, Nat.sub_zero]

/-- A running sum from the first row on: the sum over the rows up to row `t`. -/
theorem head_sum {R M C : ℕ} (x : FVec Ideal ⟨2, ![R, C]⟩ .f32)
    (h : (⟨2, ![R, C]⟩ : Shape).ReduceWindows (![R, 1] : Fin 2 → ℕ) ![1, 1] ![M, 0] ![0, 0] ⟨2, ![R, C]⟩) (hM : M + 1 = R)
    (hu) (init : (⟨0, ![]⟩ : Shape).Idx → EReal) (hi : ∀ i, init i = 0) (t : Fin R) (l : Fin C) (q : ℕ → EReal) (hq : ∀ r : Fin R, x (ix2 r l) = q r.val) :
    Host.reduceWindowAdd (F := Ideal) (φ := .f32) ![R, 1] ![1, 1] ![M, 0] ![0, 0] x init h hu (ix2 t l) = ∑ k ∈ Finset.range (t.val + 1), q k := by
  refine (running x h hu init hi t l q hq).trans ?_
  have ht := t.isLt
  rw [Fin.sum_univ_eq_sum_range (fun n => if M ≤ t.val + n ∧ t.val + n - M < R then q (t.val + n - M) else 0) R]
  refine (congrArg (fun k => ∑ n ∈ Finset.range k, (if M ≤ t.val + n ∧ t.val + n - M < R then q (t.val + n - M) else 0))
    (show R = (M - t.val) + (t.val + 1) by omega)).trans ((Finset.sum_range_add _ _ _).trans ?_)
  rw [Finset.sum_eq_zero (s := Finset.range (M - t.val)) fun n hn => if_neg (by have := Finset.mem_range.mp hn; omega), zero_add]
  refine Finset.sum_congr rfl fun n hn => ?_
  have := Finset.mem_range.mp hn
  rw [if_pos (by omega)]
  exact congrArg q (by omega)

/-! ## Strips and their scratch rows -/

/-- The window of the columns of strip `n`: two strips of 128 columns to a group. -/
def rows (n : ℕ) : ℕ := if n < 2 then 2 else if n < 4 then 4 else if n < 6 then 8 else 16

theorem width_col (n : ℕ) (l : Fin 128) (h : 128 * n + l.val < 1024) : width ⟨128 * n + l.val, h⟩ = rows n := by
  unfold width rows
  have := l.isLt
  dsimp only
  split_ifs <;> omega

theorem rows_le (n : ℕ) : rows n ≤ 16 := by unfold rows; split_ifs <;> omega

/-- New rows stored from row `o` on, where what stood there before agrees outside them. -/
theorem stored {Val : EltTy → Type} [∀ e, Nonempty (Val e)] {e : EltTy} {N C n : ℕ} (o : ℕ) (L : List (View.Piece Val ⟨2, ![N, C]⟩ e)) (f g : ℕ → Fin C → Val e)
    (inb : ∀ a, (![o, 0] : Fin 2 → ℕ) a + (⟨2, ![n, C]⟩ : Shape).size a ≤ (⟨2, ![N, C]⟩ : Shape).size a) (P : (⟨2, ![n, C]⟩ : Shape).Idx → Val e)
    (hL : ∀ (r : Fin N) (l : Fin C), View.canon L (ix2 r l) = g r.val l) (hg : ∀ k l, k < N → ¬(o ≤ k ∧ k < o + n) → g k l = f k l)
    (hP : ∀ (p : Fin n) (l : Fin C), P (ix2 p l) = f (p.val + o) l) (r : Fin N) (l : Fin C) :
    View.canon ((⟨Rect.unit (s := ⟨2, ![N, C]⟩) ![o, 0] (⟨2, ![n, C]⟩ : Shape).size inb, P⟩ : View.Piece Val ⟨2, ![N, C]⟩ e) :: L) (ix2 r l) = f r.val l := by
  by_cases h : o ≤ r.val ∧ r.val < o + n
  · obtain ⟨k, hk⟩ : ∃ k : Fin n, k.val + o = r.val := ⟨⟨r.val - o, by omega⟩, by dsimp only; omega⟩
    refine Eq.trans ?_ ((hP k l).trans (congrArg (fun k => f k l) hk))
    refine Eq.trans (congrArg _ (funext fun a => Fin.ext ?_)) (View.canon_cons_emb (Rect.unit (s := ⟨2, ![N, C]⟩) ![o, 0] (⟨2, ![n, C]⟩ : Shape).size inb) P L (ix2 k l))
    rw [Rect.emb_apply]
    fin_cases a
    · show r.val = o + 1 * k.val; omega
    · show l.val = 0 + 1 * l.val; omega
  · rw [View.canon_cons_of_not_mem _ _ (fun hm => h ?_), hL, hg _ _ r.isLt h]
    rw [Rect.mem_set_unit] at hm
    exact hm 0

end Cert.Window

end
-- ==== Proof.WindowBack.lean ====
/- The means over the rows before a row, and the windows' sums that they are made of. -/
module

public import proofs.«01_k».proof.Proof.Window

@[expose] public section

set_option maxRecDepth 16384

noncomputable section

namespace Cert.Window

open Idealize.ShloMosaic Cert.Reals Cert.Strip

/-- The sum of the `w` rows that end with scratch row `k`; scratch row `k` holds row `k - 8`, and nothing lies before row 0. -/
def past (h : Grid) (w k : ℕ) (l : Fin 1024) : EReal := ∑ j ∈ Finset.range w, later 16 (row h) (k + 9 - w + j) l

/-- The means: the sum of the window that ends with a row, over its number of rows, less the row itself. -/
def pooled (h : Grid) : Grid := fun i => Ideal.div (past h (width (i 1)) ((i 0).val + 8) (i 1)) (count (width (i 1)) (i 0).val : EReal) - h i

variable (h : Grid)

theorem past_low (w k : ℕ) (l : Fin 1024) (hw : w ≤ 8) (hk : k < 8) : past h w k l = 0 :=
  Finset.sum_eq_zero fun j hj => if_pos (by have := Finset.mem_range.mp hj; omega)

theorem past_one (k : ℕ) (l : Fin 1024) (hk : 8 ≤ k) : past h 1 k l = row h (k - 8) l := by
  rw [past, Finset.sum_range_one, later, if_neg (by omega)]
  exact congrArg (fun n => row h n l) (by omega)

/-- A window and the one before it are a window of twice as many rows. -/
theorem past_twice (w k : ℕ) (l : Fin 1024) (hw : w ≤ 9) : past h w (k + w) l + past h w k l = past h (w + w) (k + w) l := by
  unfold past
  rw [Finset.sum_range_add, add_comm]
  refine congrArg₂ (· + ·) (Finset.sum_congr rfl fun j _ => ?_) (Finset.sum_congr rfl fun j _ => ?_)
  · exact congrArg (fun n => later 16 (row h) n l) (by omega)
  · exact congrArg (fun n => later 16 (row h) n l) (by omega)

/-- The difference of two sums of the first rows is the sum of the rows between. -/
theorem sum_head (x : ℕ → ℝ) (w t : ℕ) (hw : w ≤ 16) :
    ((∑ k ∈ Finset.range (t + 1), ((x k : ℝ) : EReal)) - ∑ k ∈ Finset.range (t + 1 - w), ((x k : ℝ) : EReal))
      = ∑ j ∈ Finset.range w, (if t + 8 + 9 - w + j < 16 then 0 else ((x (t + 8 + 9 - w + j - 16) : ℝ) : EReal)) := by
  let y (n : ℕ) : ℝ := if n < 16 then 0 else x (n - 16)
  have c (n : ℕ) (f : ℕ → ℝ) : ∑ k ∈ Finset.range n, ((f k : ℝ) : EReal) = ((∑ k ∈ Finset.range n, f k : ℝ) : EReal) := by
    rw [Finset.sum_range, sum_real, ← Finset.sum_range]
  have e (n : ℕ) : ∑ k ∈ Finset.range (16 + n), y k = ∑ k ∈ Finset.range n, x k := by
    rw [Finset.sum_range_add, Finset.sum_eq_zero fun k hk => if_pos (Finset.mem_range.mp hk), zero_add]
    exact Finset.sum_congr rfl fun k _ => (if_neg (by omega)).trans (congrArg x (by omega))
  have b : ∑ k ∈ Finset.range (t + 17 - w), y k = ∑ k ∈ Finset.range (t + 1 - w), x k := by
    by_cases ht : w ≤ t + 1
    · rw [← e, show 16 + (t + 1 - w) = t + 17 - w by omega]
    · rw [show t + 1 - w = 0 by omega, Finset.range_zero, Finset.sum_empty]
      exact Finset.sum_eq_zero fun k hk => if_pos (by have := Finset.mem_range.mp hk; omega)
  have s : ∑ k ∈ Finset.range (t + 1), x k = ∑ k ∈ Finset.range (t + 17 - w), y k + ∑ j ∈ Finset.range w, y (t + 17 - w + j) := by
    rw [← Finset.sum_range_add, show t + 17 - w + w = 16 + (t + 1) by omega, e]
  have z (j : ℕ) : (if t + 8 + 9 - w + j < 16 then 0 else ((x (t + 8 + 9 - w + j - 16) : ℝ) : EReal)) = ((y (t + 17 - w + j) : ℝ) : EReal) := by
    show _ = (((if t + 17 - w + j < 16 then 0 else x (t + 17 - w + j - 16)) : ℝ) : EReal)
    split_ifs
    · exact EReal.coe_zero.symm
    · rfl
  rw [Finset.sum_congr rfl fun j _ => z j, c, c, c, ← EReal.coe_sub, s, b]
  exact congrArg _ (by ring)

end Cert.Window

end
-- ==== Proof.CPoolPure.lean ====
/- What `CPoolRef` computes, on finite rows. -/
module

public import proofs.«01_k».proof.Proof.WindowBack
public import proofs.«01_k».proof.Proof.Gen.CPoolRefIdeal.Read

@[expose] public section

set_option maxRecDepth 16384

noncomputable section

namespace Cert.CPoolRefIdeal.Pure
open Cert.CPoolRefIdeal Cert.CPoolRefIdeal.Gen Cert.CPoolRefIdeal.Read Idealize.ShloMosaic Cert.Window Cert.Reals Cert.Strip

variable (h : Grid)

/-- The sum of the first `n` rows of a column. -/
abbrev upTo (n : ℕ) (l : Fin 1024) : EReal := ∑ k ∈ Finset.range n, row h k l

theorem r1 (t : Fin 4096) (l : Fin 1024) : val_main_v1 (F := Ideal) h (ix2 t l) = upTo h (t.val + 1) l :=
  head_sum (R := 4096) (M := 4095) (C := 1024) h _ rfl _ _ (fun _ => ofBits_zero) t l (fun k => row h k l) fun r => (row_lt h r l).symm

theorem r2 (n : Fin 4097) (l : Fin 1024) : val_main_v2 (F := Ideal) h (ix2 n l) = upTo h n.val l := by
  by_cases hn : n.val < 1
  · obtain rfl : n = 0 := Fin.ext (by show n.val = 0; omega)
    refine Eq.trans ?_ (Finset.sum_range_zero _).symm
    pointwise [val_main_v2, val_main_v0]
    exact ofBits_zero
  · obtain ⟨k, hk⟩ : ∃ k : Fin 4096, n.val = k.val + 1 := ⟨⟨n.val - 1, by omega⟩, by dsimp only; omega⟩
    rw [hk, ← r1]
    pointwise [val_main_v2]
    rw [dif_neg hn]
    exact congrArg (fun q => val_main_v1 (F := Ideal) h (ix2 q l)) (Fin.ext (by dsimp only; omega))

theorem r2_eq {n n' : Fin 4097} {l l' : Fin 1024} (hn : n.val = n'.val) (hl : l.val = l'.val) :
    val_main_v2 (F := Ideal) h (ix2 n l) = val_main_v2 (F := Ideal) h (ix2 n' l') := by
  obtain rfl : n = n' := Fin.ext hn
  obtain rfl : l = l' := Fin.ext hl
  rfl

/-- What a window's sum ends with when the window starts before row 0. -/
theorem r2_zero {n : Fin 4097} {l : Fin 1024} (hn : n.val = 0) : Ideal.ofBits .f32 0x00000000#32 = val_main_v2 (F := Ideal) h (ix2 n l) := by
  rw [r2, upTo, hn, Finset.range_zero, Finset.sum_empty]
  exact ofBits_zero

theorem r19 (t : Fin 4096) (l : Fin 256) (l' : Fin 1024) (hl : l'.val = 0 + l.val) :
    val_main_v19 (F := Ideal) h (ix2 t l) = Ideal.div (upTo h (t.val + 1) l' - upTo h (t.val + 1 - 2) l') (count 2 t.val : EReal) - h (ix2 t l') := by
  have hc : val_main_v13 (F := Ideal) (ix2 t 0) = (count 2 t.val : EReal) := by
    pointwise [val_main_v13, val_main_v12, val_main_v11, val_main_v10, val_main_v9, val_main_v8, val_main_v3]
    exact int_count t.val 2 t.isLt (by decide)
  obtain ⟨l', hb⟩ := l'
  subst hl
  rw [← hc, ← r2 h ⟨t.val + 1, by omega⟩, ← r2 h ⟨t.val + 1 - 2, by omega⟩]
  pointwise [val_main_v19, val_main_v18, val_main_v17, val_main_v16, val_main_v15, val_main_v14, val_main_v4, val_main_v7, val_main_v6, val_main_v5]
  refine congrArg₂ (· - ·) (congrArg (fun q => Ideal.div q _) (congrArg₂ (· - ·) (r2_eq h (by dsimp only; omega) (by dsimp only)) ?_)) rfl
  split_ifs with hs h0
  · exact r2_zero h (by dsimp only; omega)
  · exact r2_eq h (by dsimp only; omega) (by dsimp only)
  · exact absurd rfl h0

theorem r35 (t : Fin 4096) (l : Fin 256) (l' : Fin 1024) (hl : l'.val = 256 + l.val) :
    val_main_v35 (F := Ideal) h (ix2 t l) = Ideal.div (upTo h (t.val + 1) l' - upTo h (t.val + 1 - 4) l') (count 4 t.val : EReal) - h (ix2 t l') := by
  have hc : val_main_v29 (F := Ideal) (ix2 t 0) = (count 4 t.val : EReal) := by
    pointwise [val_main_v29, val_main_v28, val_main_v27, val_main_v26, val_main_v25, val_main_v24, val_main_v3]
    exact int_count t.val 4 t.isLt (by decide)
  obtain ⟨l', hb⟩ := l'
  subst hl
  rw [← hc, ← r2 h ⟨t.val + 1, by omega⟩, ← r2 h ⟨t.val + 1 - 4, by omega⟩]
  pointwise [val_main_v35, val_main_v34, val_main_v33, val_main_v32, val_main_v31, val_main_v30, val_main_v20, val_main_v23, val_main_v22, val_main_v21]
  refine congrArg₂ (· - ·) (congrArg (fun q => Ideal.div q _) (congrArg₂ (· - ·) (r2_eq h (by dsimp only; omega) (by dsimp only)) ?_)) rfl
  split_ifs with hs h0
  · exact r2_zero h (by dsimp only; omega)
  · exact r2_eq h (by dsimp only; omega) (by dsimp only)
  · exact absurd rfl h0

theorem r51 (t : Fin 4096) (l : Fin 256) (l' : Fin 1024) (hl : l'.val = 512 + l.val) :
    val_main_v51 (F := Ideal) h (ix2 t l) = Ideal.div (upTo h (t.val + 1) l' - upTo h (t.val + 1 - 8) l') (count 8 t.val : EReal) - h (ix2 t l') := by
  have hc : val_main_v45 (F := Ideal) (ix2 t 0) = (count 8 t.val : EReal) := by
    pointwise [val_main_v45, val_main_v44, val_main_v43, val_main_v42, val_main_v41, val_main_v40, val_main_v3]
    exact int_count t.val 8 t.isLt (by decide)
  obtain ⟨l', hb⟩ := l'
  subst hl
  rw [← hc, ← r2 h ⟨t.val + 1, by omega⟩, ← r2 h ⟨t.val + 1 - 8, by omega⟩]
  pointwise [val_main_v51, val_main_v50, val_main_v49, val_main_v48, val_main_v47, val_main_v46, val_main_v36, val_main_v39, val_main_v38, val_main_v37]
  refine congrArg₂ (· - ·) (congrArg (fun q => Ideal.div q _) (congrArg₂ (· - ·) (r2_eq h (by dsimp only; omega) (by dsimp only)) ?_)) rfl
  split_ifs with hs h0
  · exact r2_zero h (by dsimp only; omega)
  · exact r2_eq h (by dsimp only; omega) (by dsimp only)
  · exact absurd rfl h0

theorem r67 (t : Fin 4096) (l : Fin 256) (l' : Fin 1024) (hl : l'.val = 768 + l.val) :
    val_main_v67 (F := Ideal) h (ix2 t l) = Ideal.div (upTo h (t.val + 1) l' - upTo h (t.val + 1 - 16) l') (count 16 t.val : EReal) - h (ix2 t l') := by
  have hc : val_main_v61 (F := Ideal) (ix2 t 0) = (count 16 t.val : EReal) := by
    pointwise [val_main_v61, val_main_v60, val_main_v59, val_main_v58, val_main_v57, val_main_v56, val_main_v3]
    exact int_count t.val 16 t.isLt (by decide)
  obtain ⟨l', hb⟩ := l'
  subst hl
  rw [← hc, ← r2 h ⟨t.val + 1, by omega⟩, ← r2 h ⟨t.val + 1 - 16, by omega⟩]
  pointwise [val_main_v67, val_main_v66, val_main_v65, val_main_v64, val_main_v63, val_main_v62, val_main_v52, val_main_v55, val_main_v54, val_main_v53]
  refine congrArg₂ (· - ·) (congrArg (fun q => Ideal.div q _) (congrArg₂ (· - ·) (r2_eq h (by dsimp only; omega) (by dsimp only)) ?_)) rfl
  split_ifs with hs h0
  · exact r2_zero h (by dsimp only; omega)
  · exact r2_eq h (by dsimp only; omega) (by dsimp only)
  · exact absurd rfl h0

/-- The reference's result on finite rows. -/
theorem r69 (x : (⟨2, ![4096, 1024]⟩ : Shape).Idx → ℝ) :
    val_main_v69 (F := Ideal) (fun i => ((x i : ℝ) : EReal)) = pooled (fun i => ((x i : ℝ) : EReal)) := by
  funext i
  idx_vars i
  let f (l : Fin 1024) (k : ℕ) : ℝ := if h : k < 4096 then x (ix2 ⟨k, h⟩ l) else 0
  have hf (l : Fin 1024) (k : ℕ) : row (fun i => ((x i : ℝ) : EReal)) k l = ((f l k : ℝ) : EReal) := by
    unfold row
    by_cases h : k < 4096
    · simp only [f, dif_pos h]
    · simp only [f, dif_neg h, EReal.coe_zero]
  have e (w : ℕ) (hw : w ≤ 16) (t : Fin 4096) (l : Fin 1024) : upTo (fun i => ((x i : ℝ) : EReal)) (t.val + 1) l - upTo (fun i => ((x i : ℝ) : EReal)) (t.val + 1 - w) l
      = past (fun i => ((x i : ℝ) : EReal)) w (t.val + 8) l := by
    unfold upTo past later
    simp only [hf]
    exact sum_head (f l) w t.val hw
  show _ = Ideal.div (past (fun i => ((x i : ℝ) : EReal)) (width i1) (i0.val + 8) i1) (count (width i1) i0.val : EReal) - ((x (ix2 i0 i1) : ℝ) : EReal)
  pointwise [val_main_v69, val_main_v68]
  split_ifs <;> try omega
  · refine (r19 _ i0 _ i1 (by dsimp only; omega)).trans ?_
    rw [e _ (by decide), width, if_pos (by omega)]
  · refine (r35 _ i0 _ i1 (by dsimp only; omega)).trans ?_
    rw [e _ (by decide), width, if_neg (by omega), if_pos (by omega)]
  · refine (r51 _ i0 _ i1 (by dsimp only; omega)).trans ?_
    rw [e _ (by decide), width, if_neg (by omega), if_neg (by omega), if_pos (by omega)]
  · refine (r67 _ i0 _ i1 (by dsimp only; omega)).trans ?_
    rw [e _ (by decide), width, if_neg (by omega), if_neg (by omega), if_neg (by omega)]

end Cert.CPoolRefIdeal.Pure

end
-- ==== Proof.CPoolValue.lean ====
/- What `CPoolIdeal` leaves in its result: sums over windows of 2, 4, 8 and 16 rows, each from the one before. -/
module

public import proofs.«01_k».proof.Proof.WindowBack
public import proofs.«01_k».proof.Proof.Gen.CPoolIdeal.Value
public import Idealize.ShloMosaic.Lib.Claim

@[expose] public section

set_option maxRecDepth 16384

noncomputable section

namespace Cert.CPoolIdeal.Value

open Cert.CPoolIdeal Cert.CPoolIdeal.Gen Idealize.ShloMosaic Idealize.ShloMosaic.TcCoe Idealize.SL.Sem
open Cert.Strip Cert.Window

open Idealize.ShloMosaic.Pipeline (Dat)

theorem idx0 : ∀ t : Fin cfg0.N, win0_0.index t = ![0, t.val] ∧ win0_1.index t = ![0, t.val] := (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

/-- The group that the kernel works out, and its window. -/
theorem group_at : ∀ t : Fin cfg0.N, kernelRun0_A.sl.v16 (grid0.coords t) = BitVec.ofNat 32 (t.val / 2)
    ∧ Scalar.shli 2#32 (kernelRun0_A.sl.v16 (grid0.coords t)) = BitVec.ofNat 32 (rows t.val) := (by decide +kernel : ∀ t : Fin grid0.N, _)

variable (m : (ℓ : Loc nD τ sig) → Buf (Elt Ideal) ℓ) (c : Dev nD)

/-- The argument. -/
abbrev aH : Grid := m ((c : Thread nD τ).loc main_arg0)

variable (t : Fin cfg0.N)

theorem hd (r : Fin 4096) (l : Fin 128) : (ms0_0 t).view.read (Elt Ideal) ((hs0_0 t).unread (iblk m c 0 t)) (ix2 r l) = row (aH m c) r.val (col t l) := by
  rw [(hs0_0 t).read_unread, row_lt]
  blk_point [iblk, idx0 t, col]

theorem emb1 (r : Fin 4096) (l : Fin 128) : ((cfg0.win 1).blk t).view.emb (ix2 r l) = ix2 r (col t l) := by
  blk_ext [idx0 t, col]

/-- The window's sum that ends with scratch row `k`, in the strip's columns. -/
def f (w k : ℕ) (l : Fin 128) : EReal := past (aH m c) w k (col t l)

theorem f_low (w k : ℕ) (l : Fin 128) (hw : w ≤ 8) (hk : k < 8) : f m c t w k l = 0 := past_low _ w k _ hw hk

theorem f_twice (w k : ℕ) (l : Fin 128) (hw : w ≤ 9) : f m c t w (k + w) l + f m c t w k l = f m c t (w + w) (k + w) l := past_twice _ w k _ hw

abbrev arg := (ms0_0 t).view.readAt (Elt Ideal) (Rect.unit (s := S4096x128) ![0, 0] S4096x128.size inb_S4096x128_S4096x128_0_0).toLoadRect ((hs0_0 t).unread (iblk m c 0 t))

theorem arg_at (r : Fin 4096) (l : Fin 128) : arg m c t (ix2 r l) = aH m c (ix2 r (col t l)) :=
  (row_of (q := fun k l => row (aH m c) k (col t l)) (hd m c t) rfl _ r l r.val (Nat.zero_add _) r.isLt).trans (row_lt _ _ _)

theorem arg_one (r : Fin 4096) (l : Fin 128) : arg m c t (ix2 r l) = f m c t 1 (r.val + 8) l := by
  rw [arg_at, f, past_one _ _ _ (by omega), Nat.add_sub_cancel, row_lt]

theorem held2 (r : Fin 4104) (l : Fin 128) :
    View.canon (kernelRun0_A.sl.HS0_2 (F := Ideal) c (ms0_0 t) (hs0_0 t) (iblk m c 0 t)) (ix2 r l) = f m c t 1 r.val l := by
  refine two_blocks (Val := Elt Ideal) (e := .f32) (n := 4096) (n' := 8) 8 0 _ _ _ _ (f m c t 1) (fun p l => ?_) (fun p l => ?_) r l (by omega)
  · rw [Nat.add_comm, ← arg_one]
    pointwise [k0_pay6]
  · rw [f_low m c t _ _ _ (by decide) (by omega)]
    pointwise [k0_pay5]

/-- What a load at row `o` on finds in the scratch. -/
theorem loaded (L : List (View.Piece (Elt Ideal) S4104x128 .f32)) (f : ℕ → Fin 128 → EReal) (hL : ∀ (r : Fin 4104) (l : Fin 128), View.canon L (ix2 r l) = f r.val l)
    {off : Fin 2 → ℕ} {o : ℕ} (h : off = ![o, 0]) (inb) (p : Fin 4096) (l : Fin 128) (ho : o ≤ 8) :
    scM0_0.view.readCov (Val := Elt Ideal) L (Rect.unit (s := S4104x128) off S4096x128.size inb).toLoadRect (ix2 p l) = f (p.val + o) l :=
  row_of (N := 4104) (C := 128) (n := 4096) (v := scM0_0.view) (f := scM0_0.view.writes (Elt Ideal) scM0_0.view.junk L) (q := f)
    (fun r l => (congrFun (View.read_writes_junk_eq_canon scM0_0.view L) _).trans (hL r l)) h inb p l _ (Nat.add_comm _ _) (by omega)

/-- The sums of a window and of the one before it, added up. -/
theorem added {a b : EReal} {o w : ℕ} (p : Fin 4096) (l : Fin 128) (ha : a = f m c t w (p.val + 8) l) (hb : b = f m c t w (p.val + o) l) (ho : o + w = 8) :
    a + b = f m c t (w + w) (p.val + 8) l := by
  have e := f_twice m c t w (p.val + o) l (by omega)
  rw [show p.val + o + w = p.val + 8 by omega] at e
  rw [ha, hb, e]

theorem at2 (p : Fin 4096) (l : Fin 128) :
    kernelRun0_A.sl.r_1 (F := Ideal) c (ms0_0 t) (hs0_0 t) scM0_0 (iblk m c 0 t) (ix2 p l) = f m c t 2 (p.val + 8) l := by
  unfold kernelRun0_A.sl.r_1 kernelRun0_A.sl.v25
  exact added m c t p l (arg_one m c t p l) (loaded _ (f m c t 1) (held2 m c t) rfl _ p l (by decide)) rfl

theorem kept_rows (w w' k : ℕ) (l : Fin 128) (hk : k < 4104) (h : ¬(8 ≤ k ∧ k < 8 + 4096)) (hw : w ≤ 8) (hw' : w' ≤ 8) : f m c t w k l = f m c t w' k l :=
  (f_low m c t w k l hw (by omega)).trans (f_low m c t w' k l hw' (by omega)).symm

theorem held3 (r : Fin 4104) (l : Fin 128) :
    View.canon (kernelRun0_A.sl.HS0_3 (F := Ideal) c (ms0_0 t) (hs0_0 t) scM0_0 (iblk m c 0 t)) (ix2 r l) = f m c t 2 r.val l := by
  unfold kernelRun0_A.sl.HS0_3
  refine stored (Val := Elt Ideal) (e := .f32) (N := 4104) (C := 128) (n := 4096) 8 _ (f m c t 2) (f m c t 1) _ _ (held2 m c t)
    (fun k l hk h => kept_rows m c t 1 2 k l hk h (by decide) (by decide)) (fun p l => ?_) r l
  refine Eq.trans ?_ (at2 m c t p l)
  unfold kernelRun0_A.sl.r_1
  pointwise [k0_pay8]

theorem at4 (p : Fin 4096) (l : Fin 128) :
    kernelRun0_A.sl.r_2 (F := Ideal) c (ms0_0 t) (hs0_0 t) scM0_0 (iblk m c 0 t) (ix2 p l) = f m c t 4 (p.val + 8) l := by
  unfold kernelRun0_A.sl.r_2 kernelRun0_A.sl.v30
  exact added m c t p l (at2 m c t p l) (loaded _ (f m c t 2) (held3 m c t) rfl _ p l (by decide)) rfl

theorem held4 (r : Fin 4104) (l : Fin 128) :
    View.canon (kernelRun0_A.sl.HS0_4 (F := Ideal) c (ms0_0 t) (hs0_0 t) scM0_0 (iblk m c 0 t)) (ix2 r l) = f m c t 4 r.val l := by
  unfold kernelRun0_A.sl.HS0_4
  refine stored (Val := Elt Ideal) (e := .f32) (N := 4104) (C := 128) (n := 4096) 8 _ (f m c t 4) (f m c t 2) _ _ (held3 m c t)
    (fun k l hk h => kept_rows m c t 2 4 k l hk h (by decide) (by decide)) (fun p l => ?_) r l
  refine Eq.trans ?_ (at4 m c t p l)
  pointwise [k0_pay1]

theorem at8 (p : Fin 4096) (l : Fin 128) :
    k0_pay2 (F := Ideal) (kernelRun0_A.sl.r_2 c (ms0_0 t) (hs0_0 t) scM0_0 (iblk m c 0 t)) (kernelRun0_A.sl.v35 c (ms0_0 t) (hs0_0 t) scM0_0 (iblk m c 0 t)) (ix2 p l) = f m c t 8 (p.val + 8) l := by
  unfold kernelRun0_A.sl.v35
  exact added m c t p l (at4 m c t p l) (loaded _ (f m c t 4) (held4 m c t) rfl _ p l (by decide)) rfl

theorem held5 (r : Fin 4104) (l : Fin 128) :
    View.canon (kernelRun0_A.sl.HS0_5 (F := Ideal) c (ms0_0 t) (hs0_0 t) scM0_0 (iblk m c 0 t)) (ix2 r l) = f m c t 8 r.val l := by
  unfold kernelRun0_A.sl.HS0_5
  refine stored (Val := Elt Ideal) (e := .f32) (N := 4104) (C := 128) (n := 4096) 8 _ (f m c t 8) (f m c t 4) _ _ (held4 m c t)
    (fun k l hk h => kept_rows m c t 4 8 k l hk h (by decide) (by decide)) (fun p l => ?_) r l
  refine Eq.trans ?_ (at8 m c t p l)
  pointwise [k0_pay3]

theorem at16 (p : Fin 4096) (l : Fin 128) :
    addf (F := Ideal) (φ := .f32) (k0_pay2 (F := Ideal) (kernelRun0_A.sl.r_2 c (ms0_0 t) (hs0_0 t) scM0_0 (iblk m c 0 t)) (kernelRun0_A.sl.v35 c (ms0_0 t) (hs0_0 t) scM0_0 (iblk m c 0 t)))
      (kernelRun0_A.sl.v40 c (ms0_0 t) (hs0_0 t) scM0_0 (iblk m c 0 t)) (ix2 p l) = f m c t 16 (p.val + 8) l := by
  unfold kernelRun0_A.sl.v40
  exact added m c t p l (at8 m c t p l) (loaded _ (f m c t 8) (held5 m c t) rfl _ p l (by decide)) rfl

/-! ## The result -/

theorem counted (g : BitVec 32) (w : ℕ) (hg : Scalar.shli 2#32 g = BitVec.ofNat 32 w) (hw : w ≤ 16) (r : Fin 4096) (l : Fin 128) :
    sitofp (F := Ideal) .f32 (minsi (addi (iota .tc S4096x128 32 [0] iota_S4096x128_d0_w32) (broadcast S4096x128 1#32)) (broadcast S4096x128 (Scalar.shli 2#32 g))) (ix2 r l)
      = (count w r.val : EReal) := by
  rw [hg, ← int_count r.val w r.isLt hw]
  pointwise []
  rfl

theorem out1 (r : Fin 4096) (l : Fin 128) : outsAt0 m c t (ix2 r l) = pooled (aH m c) (ix2 r (col t l)) := by
  unfold outsAt0 out0_A_1 kernelRun0_A
  dsimp only
  rw [View.read_writes_junk_eq_canon]
  refine (congrFun (View.canon_cons_unit_lit' (S := S4096x128) (off := ![0, 0]) _ _ _ (by intro a; fin_cases a <;> rfl)) _).trans ?_
  have ht := t_lt t
  have q : pooled (aH m c) (ix2 r (col t l)) = Ideal.div (f m c t (rows t.val) (r.val + 8) l) (count (rows t.val) r.val : EReal) - aH m c (ix2 r (col t l)) := by
    rw [← width_col t.val l (col t l).isLt]
    rfl
  rw [q, (group_at t).1]
  unfold k0_pay4
  obtain h | h | h | h : t.val / 2 = 0 ∨ t.val / 2 = 1 ∨ t.val / 2 = 2 ∨ t.val / 2 = 3 := by omega
  · rw [h, show rows t.val = 2 from if_pos (by omega)]
    exact congrArg₂ (· - ·) (congrArg₂ Ideal.div (at2 m c t r l) (counted _ 2 rfl (by decide) r l)) (arg_at m c t r l)
  · rw [h, show rows t.val = 4 from (if_neg (by omega)).trans (if_pos (by omega))]
    exact congrArg₂ (· - ·) (congrArg₂ Ideal.div (at4 m c t r l) (counted _ 4 rfl (by decide) r l)) (arg_at m c t r l)
  · rw [h, show rows t.val = 8 from (if_neg (by omega)).trans ((if_neg (by omega)).trans (if_pos (by omega)))]
    exact congrArg₂ (· - ·) (congrArg₂ Ideal.div (at8 m c t r l) (counted _ 8 rfl (by decide) r l)) (arg_at m c t r l)
  · rw [h, show rows t.val = 16 from (if_neg (by omega)).trans ((if_neg (by omega)).trans (if_neg (by omega)))]
    exact congrArg₂ (· - ·) (congrArg₂ Ideal.div (at16 m c t r l) (counted _ 16 rfl (by decide) r l)) (arg_at m c t r l)

omit t

theorem res1 : (dats m 0 c).arrAt 1 cfg0.N = pooled (aH m c) := by
  refine (dats m 0 c).arrAt_eq_of_covers 1 _ (by decide +kernel) fun t _ y => ?_
  blk_simp
  rw [after0_1]
  idx_vars y
  rw [out1, emb1]

omit c

theorem run_parts (ρ : Dev nD → PrngReg) : θ_run defs (onTc (τ := τ) (main (F := Ideal))) ⟨m, fun _ => 0, ρ⟩ fun r => ∀ c : Dev nD,
    r.2.mem ((c.tc : Thread nD τ).loc main_v0) = pooled (aH m c) ∧ r.2.mem ((c.tc : Thread nD τ).loc main_arg0) = aH m c :=
  (θ_run defs _ _).mono (fun r h c => ⟨(h c).1.trans (res1 m c), (h c).2⟩) (run_blocks m ρ)

end Cert.CPoolIdeal.Value

end
-- ==== Proof.CPoolClaim.lean ====
/- The claims about `CPool`. -/
module

public import proofs.«01_k».proof.Defs
public import proofs.«01_k».proof.Proof.Gen.Pre_cw_finite
public import proofs.«01_k».proof.Proof.CPoolPure
public import proofs.«01_k».proof.Proof.CPoolValue
public import proofs.«01_k».proof.Proof.Gen.CPoolRefIdeal.Run

@[expose] public section

set_option maxRecDepth 16384

noncomputable section

namespace Cert.CPoolIdeal

open Cert.Reals Idealize.ShloMosaic Idealize.ShloMosaic.TcCoe Idealize.SL.Sem

theorem algebraic : Cert.algebraic_CPoolIdeal_CPoolRefIdeal_pre_cw_finite (hCPoolIdeal := Cert.CPoolIdeal.Gen.facts)
    (hCPoolRefIdeal := Cert.CPoolRefIdeal.Gen.facts) (hPre_cw_finite := Cert.Pre_cw_finite.Gen.facts) := by
  pair_intro
  · run_from Cert.CPoolIdeal.Value.run_parts m g
  · refine (θ_run _ _ _).mono ?_ (Cert.CPoolRefIdeal.Value.run m' g')
    intro r h c
    obtain ⟨h1, ha⟩ := h c
    have e0 := hagree c
    have f0 := hpre c
    obtain ⟨x, hx⟩ := real_of_finite _ _ f0
    refine ⟨h1.trans ?_, ha⟩
    refine (Cert.CPoolRefIdeal.Read.val_main_v69_eq _ _).trans ?_
    rw [e0]
    refine (congrArg _ hx).trans ((Cert.CPoolRefIdeal.Pure.r69 x).trans ?_)
    exact congrArg Cert.Window.pooled hx.symm

end Cert.CPoolIdeal

end
-- ==== Proof.CStripPure.lean ====
/- What `CStripRef` computes, on finite gradients. -/
module

public import proofs.«01_k».proof.Proof.Window
public import proofs.«01_k».proof.Proof.Gen.CStripRefIdeal.Read
public import Idealize.ShloMosaic.Lib.Pointwise

@[expose] public section

set_option maxRecDepth 16384

noncomputable section

namespace Cert.CStripRefIdeal.Pure
open Cert.CStripRefIdeal Cert.CStripRefIdeal.Gen Cert.CStripRefIdeal.Read Idealize.ShloMosaic Cert.Window Cert.Reals

theorem c16 (t : Fin 4096) : val_main_v16 (F := Ideal) (ix2 t 0) = (count 2 t.val : EReal) := by
  pointwise [val_main_v16, val_main_v15, val_main_v14, val_main_v13, val_main_v12, val_main_v11, val_main_v5]
  exact int_count t.val 2 t.isLt (by decide)

theorem c33 (t : Fin 4096) : val_main_v33 (F := Ideal) (ix2 t 0) = (count 4 t.val : EReal) := by
  pointwise [val_main_v33, val_main_v32, val_main_v31, val_main_v30, val_main_v29, val_main_v28, val_main_v5]
  exact int_count t.val 4 t.isLt (by decide)

theorem c50 (t : Fin 4096) : val_main_v50 (F := Ideal) (ix2 t 0) = (count 8 t.val : EReal) := by
  pointwise [val_main_v50, val_main_v49, val_main_v48, val_main_v47, val_main_v46, val_main_v45, val_main_v5]
  exact int_count t.val 8 t.isLt (by decide)

theorem c67 (t : Fin 4096) : val_main_v67 (F := Ideal) (ix2 t 0) = (count 16 t.val : EReal) := by
  pointwise [val_main_v67, val_main_v66, val_main_v65, val_main_v64, val_main_v63, val_main_v62, val_main_v5]
  exact int_count t.val 16 t.isLt (by decide)

variable (d : Grid)

/-- What a window's two ends give to the running sums: the share that comes in and the one that falls out. -/
abbrev ends (w t : ℕ) (l : Fin 1024) : EReal := share d w t l + -share d w (t + w) l

theorem s120 (t : Fin 4096) (l : Fin 256) (l' : Fin 1024) (h : l'.val = l.val) : val_main_v120 (F := Ideal) d (ix2 t l) = share d 2 t.val l' := by
  rw [share_lt, ← c16]
  pointwise [val_main_v120, val_main_v75, val_main_v119]
  exact congrArg (fun q => Ideal.div (d (ix2 t q)) _) (Fin.ext h.symm)

theorem g126 (t : Fin 4096) (l : Fin 256) (l' : Fin 1024) (h : l'.val = l.val) (hk : 1 + t.val < 4097) :
    val_main_v126 (F := Ideal) d (ix2 ⟨1 + t.val, hk⟩ l) = ends d 2 t.val l' := by
  pointwise [val_main_v126, val_main_v125, val_main_v124, val_main_v122, val_main_v121]
  refine congrArg₂ (· + ·) (s120 d t l l' h) ?_
  by_cases hc : 1 + t.val < 4095
  · rw [dif_pos hc, s120 d _ l l' h]
    exact congrArg (fun k => -share d 2 k l') (show 1 + (1 + t.val) = t.val + 2 by omega)
  · rw [dif_neg hc, share, dif_neg (by omega), neg_zero]
    exact ofBits_zero

theorem s107 (t : Fin 4096) (l : Fin 256) (l' : Fin 1024) (h : l'.val = 256 + l.val) : val_main_v107 (F := Ideal) d (ix2 t l) = share d 4 t.val l' := by
  rw [share_lt, ← c33]
  pointwise [val_main_v107, val_main_v76, val_main_v106]
  exact congrArg (fun q => Ideal.div (d (ix2 t q)) _) (Fin.ext h.symm)

theorem g113 (t : Fin 4096) (l : Fin 256) (l' : Fin 1024) (h : l'.val = 256 + l.val) (hk : 1 + t.val < 4097) :
    val_main_v113 (F := Ideal) d (ix2 ⟨1 + t.val, hk⟩ l) = ends d 4 t.val l' := by
  pointwise [val_main_v113, val_main_v112, val_main_v111, val_main_v109, val_main_v108]
  refine congrArg₂ (· + ·) (s107 d t l l' h) ?_
  by_cases hc : 1 + t.val < 4093
  · rw [dif_pos hc, s107 d _ l l' h]
    exact congrArg (fun k => -share d 4 k l') (show 3 + (1 + t.val) = t.val + 4 by omega)
  · rw [dif_neg hc, share, dif_neg (by omega), neg_zero]
    exact ofBits_zero

theorem s94 (t : Fin 4096) (l : Fin 256) (l' : Fin 1024) (h : l'.val = 512 + l.val) : val_main_v94 (F := Ideal) d (ix2 t l) = share d 8 t.val l' := by
  rw [share_lt, ← c50]
  pointwise [val_main_v94, val_main_v77, val_main_v93]
  exact congrArg (fun q => Ideal.div (d (ix2 t q)) _) (Fin.ext h.symm)

theorem g100 (t : Fin 4096) (l : Fin 256) (l' : Fin 1024) (h : l'.val = 512 + l.val) (hk : 1 + t.val < 4097) :
    val_main_v100 (F := Ideal) d (ix2 ⟨1 + t.val, hk⟩ l) = ends d 8 t.val l' := by
  pointwise [val_main_v100, val_main_v99, val_main_v98, val_main_v96, val_main_v95]
  refine congrArg₂ (· + ·) (s94 d t l l' h) ?_
  by_cases hc : 1 + t.val < 4089
  · rw [dif_pos hc, s94 d _ l l' h]
    exact congrArg (fun k => -share d 8 k l') (show 7 + (1 + t.val) = t.val + 8 by omega)
  · rw [dif_neg hc, share, dif_neg (by omega), neg_zero]
    exact ofBits_zero

theorem s82 (t : Fin 4096) (l : Fin 256) (l' : Fin 1024) (h : l'.val = 768 + l.val) : val_main_v82 (F := Ideal) d (ix2 t l) = share d 16 t.val l' := by
  rw [share_lt, ← c67]
  pointwise [val_main_v82, val_main_v78, val_main_v81]
  exact congrArg (fun q => Ideal.div (d (ix2 t q)) _) (Fin.ext h.symm)

theorem g88 (t : Fin 4096) (l : Fin 256) (l' : Fin 1024) (h : l'.val = 768 + l.val) (hk : 1 + t.val < 4097) :
    val_main_v88 (F := Ideal) d (ix2 ⟨1 + t.val, hk⟩ l) = ends d 16 t.val l' := by
  pointwise [val_main_v88, val_main_v87, val_main_v86, val_main_v84, val_main_v83]
  refine congrArg₂ (· + ·) (s82 d t l l' h) ?_
  by_cases hc : 1 + t.val < 4081
  · rw [dif_pos hc, s82 d _ l l' h]
    exact congrArg (fun k => -share d 16 k l') (show 15 + (1 + t.val) = t.val + 16 by omega)
  · rw [dif_neg hc, share, dif_neg (by omega), neg_zero]
    exact ofBits_zero

theorem zero20 : val_main_cst_20 (F := Ideal) = fun _ => 0 := funext fun _ => ofBits_zero
theorem zero24 : val_main_cst_24 (F := Ideal) = fun _ => 0 := funext fun _ => ofBits_zero
theorem zero28 : val_main_cst_28 (F := Ideal) = fun _ => 0 := funext fun _ => ofBits_zero
theorem zero32 : val_main_cst_32 (F := Ideal) = fun _ => 0 := funext fun _ => ofBits_zero
theorem zero17 : val_main_cst_17 (F := Ideal) = fun _ => 0 := funext fun _ => ofBits_zero
theorem zero21 : val_main_cst_21 (F := Ideal) = fun _ => 0 := funext fun _ => ofBits_zero
theorem zero25 : val_main_cst_25 (F := Ideal) = fun _ => 0 := funext fun _ => ofBits_zero
theorem zero29 : val_main_cst_29 (F := Ideal) = fun _ => 0 := funext fun _ => ofBits_zero

theorem r130 (t : Fin 4096) (l : Fin 1024) : val_main_v130 (F := Ideal) d (ix2 t l) = ends d (width l) t.val l := by
  pointwise [val_main_v130, val_main_v128, val_main_v127, val_main_v115, val_main_v114, val_main_v102, val_main_v101, val_main_v89]
  rw [zero20, zero24, zero28, zero32]
  split_ifs <;> first | omega | simp only [zero_add, add_zero]
  · rw [g88 d t _ l (by dsimp only; omega), width, if_neg (by omega), if_neg (by omega), if_neg (by omega)]
  · rw [g100 d t _ l (by dsimp only; omega), width, if_neg (by omega), if_neg (by omega), if_pos (by omega)]
  · rw [g113 d t _ l (by dsimp only; omega), width, if_neg (by omega), if_pos (by omega)]
  · rw [g126 d t _ l rfl, width, if_pos (by omega)]

theorem r118 (t : Fin 4096) (l : Fin 1024) : val_main_v118 (F := Ideal) d (ix2 t l) = -d (ix2 t l) := by
  pointwise [val_main_v118, val_main_v105, val_main_v117, val_main_v116, val_main_v104, val_main_v92, val_main_v103, val_main_v80, val_main_v91, val_main_v90, val_main_v75, val_main_v76, val_main_v77, val_main_v78, val_main_v79]
  rw [zero17, zero21, zero25, zero29]
  split_ifs <;> first | omega | simp only [zero_add, add_zero]
  all_goals exact congrArg (fun q => -d (ix2 t q)) (Fin.ext (by dsimp only; omega))

/-- The reference's result on finite gradients. -/
theorem r132 (x : (⟨2, ![4096, 1024]⟩ : Shape).Idx → ℝ) :
    val_main_v132 (F := Ideal) (fun i => ((x i : ℝ) : EReal)) = grad (fun i => ((x i : ℝ) : EReal)) := by
  funext i
  idx_vars i
  let f (w : ℕ) (l : Fin 1024) (k : ℕ) : ℝ := if h : k < 4096 then x (ix2 ⟨k, h⟩ l) / count w k else 0
  have hf (w : ℕ) (hw : 0 < w) (l : Fin 1024) (k : ℕ) : share (fun i => ((x i : ℝ) : EReal)) w k l = ((f w l k : ℝ) : EReal) := by
    unfold share
    by_cases h : k < 4096
    · simp only [f, dif_pos h, div_real (count_ne w k hw)]
    · simp only [f, dif_neg h, EReal.coe_zero]
  have e : val_main_v131 (F := Ideal) (fun i => ((x i : ℝ) : EReal)) (ix2 i0 i1)
      = ∑ j ∈ Finset.range (width i1), share (fun i => ((x i : ℝ) : EReal)) (width i1) (i0.val + j) i1 := by
    refine (tail_sum (R := 4096) (N := 4095) (C := 1024) (val_main_v130 (F := Ideal) fun i => ((x i : ℝ) : EReal)) _ _ _ (fun _ => ofBits_zero) i0 i1
      (fun k => ends (fun i => ((x i : ℝ) : EReal)) (width i1) k i1) fun r => r130 _ r i1).trans ?_
    simp only [ends, hf _ (width_pos i1)]
    exact sum_tail (f (width i1) i1) (fun k hk => dif_neg (by omega)) _ _
  rw [val_main_v132_apply, r118, e]
  exact add_comm _ _

end Cert.CStripRefIdeal.Pure

end
-- ==== Proof.CStripValue.lean ====
/- What `CStripIdeal` leaves in its result: sums over windows of 2, 4, 8 and 16 rows, each from the one before. -/
module

public import proofs.«01_k».proof.Proof.Window
public import proofs.«01_k».proof.Proof.Strip
public import proofs.«01_k».proof.Proof.Gen.CStripIdeal.Value
public import Idealize.ShloMosaic.Lib.Claim

@[expose] public section

set_option maxRecDepth 16384

noncomputable section

namespace Cert.CStripIdeal.Value

open Cert.CStripIdeal Cert.CStripIdeal.Gen Idealize.ShloMosaic Idealize.ShloMosaic.TcCoe Idealize.SL.Sem
open Cert.Strip Cert.Window

open Idealize.ShloMosaic.Pipeline (Dat)

theorem idx0 : ∀ t : Fin cfg0.N, win0_0.index t = ![0, t.val] ∧ win0_1.index t = ![0, t.val] := (by decide +kernel : ∀ t : Fin grid0.N, _)

theorem t_lt (t : Fin cfg0.N) : t.val < 8 := lt_of_lt_of_eq t.isLt (by decide +kernel)

/-- Column `l` of strip `t`. -/
def col (t : Fin cfg0.N) (l : Fin 128) : Fin 1024 := ⟨128 * t.val + l.val, by have := t_lt t; omega⟩

/-- The group that the kernel works out, and its window. -/
theorem group_at : ∀ t : Fin cfg0.N, kernelRun0_A.sl.v16 (grid0.coords t) = BitVec.ofNat 32 (t.val / 2)
    ∧ Scalar.shli 2#32 (kernelRun0_A.sl.v16 (grid0.coords t)) = BitVec.ofNat 32 (rows t.val) := (by decide +kernel : ∀ t : Fin grid0.N, _)

variable (m : (ℓ : Loc nD τ sig) → Buf (Elt Ideal) ℓ) (c : Dev nD)

/-- The argument. -/
abbrev aD : Grid := m ((c : Thread nD τ).loc main_arg0)

theorem host_v (r : Fin 4096) (l : Fin 1024) : V m c main_v0 (ix2 r l) = aD m c (ix2 r l) := by
  show StableHlo.after hostOps0 _ (Proc.tc.devRef main_v0) _ = _
  unfold hostOps0
  after_results
  pointwise []

variable (t : Fin cfg0.N)

theorem hd (r : Fin 4096) (l : Fin 128) : (ms0_0 t).view.read (Elt Ideal) ((hs0_0 t).unread (iblk m c 0 t)) (ix2 r l) = row (aD m c) r.val (col t l) := by
  rw [(hs0_0 t).read_unread]
  refine Eq.trans ?_ ((host_v m c r (col t l)).trans (row_lt _ _ _).symm)
  blk_point [iblk, idx0 t, col]

theorem emb1 (r : Fin 4096) (l : Fin 128) : ((cfg0.win 1).blk t).view.emb (ix2 r l) = ix2 r (col t l) := by
  blk_ext [idx0 t, col]

/-! ## The windows' sums -/

/-- The shares of a strip's rows, and their sums over 2, 4, 8 and 16 rows. -/
def f1 (k : ℕ) (l : Fin 128) : EReal := share (aD m c) (rows t.val) k (col t l)
def f2 (k : ℕ) (l : Fin 128) : EReal := f1 m c t k l + f1 m c t (k + 1) l
def f4 (k : ℕ) (l : Fin 128) : EReal := f2 m c t k l + f2 m c t (k + 2) l
def f8 (k : ℕ) (l : Fin 128) : EReal := f4 m c t k l + f4 m c t (k + 4) l
def f16 (k : ℕ) (l : Fin 128) : EReal := f8 m c t k l + f8 m c t (k + 8) l

theorem f1_ge (k : ℕ) (l : Fin 128) (h : 4096 ≤ k) : f1 m c t k l = 0 := dif_neg (by omega)
theorem f2_ge (k : ℕ) (l : Fin 128) (h : 4096 ≤ k) : f2 m c t k l = 0 := by rw [f2, f1_ge m c t k l h, f1_ge m c t (k + 1) l (by omega), add_zero]
theorem f4_ge (k : ℕ) (l : Fin 128) (h : 4096 ≤ k) : f4 m c t k l = 0 := by rw [f4, f2_ge m c t k l h, f2_ge m c t (k + 2) l (by omega), add_zero]
theorem f8_ge (k : ℕ) (l : Fin 128) (h : 4096 ≤ k) : f8 m c t k l = 0 := by rw [f8, f4_ge m c t k l h, f4_ge m c t (k + 4) l (by omega), add_zero]

theorem f2_sum (l : Fin 128) (k : ℕ) : f2 m c t k l = ∑ j ∈ Finset.range 2, f1 m c t (k + j) l :=
  doubled (n := 1) (f := fun k => f1 m c t k l) (g := fun k => f1 m c t k l) (fun k => by rw [Finset.sum_range_one, Nat.add_zero]) k
theorem f4_sum (l : Fin 128) (k : ℕ) : f4 m c t k l = ∑ j ∈ Finset.range 4, f1 m c t (k + j) l :=
  doubled (n := 2) (f := fun k => f1 m c t k l) (g := fun k => f2 m c t k l) (f2_sum m c t l) k
theorem f8_sum (l : Fin 128) (k : ℕ) : f8 m c t k l = ∑ j ∈ Finset.range 8, f1 m c t (k + j) l :=
  doubled (n := 4) (f := fun k => f1 m c t k l) (g := fun k => f4 m c t k l) (f4_sum m c t l) k
theorem f16_sum (l : Fin 128) (k : ℕ) : f16 m c t k l = ∑ j ∈ Finset.range 16, f1 m c t (k + j) l :=
  doubled (n := 8) (f := fun k => f1 m c t k l) (g := fun k => f8 m c t k l) (f8_sum m c t l) k

/-- The first scratch rows: the shares, and eight rows of zeros behind them. -/
theorem p8 (v : Vec Ideal S4096x128 .bf16) (r : Fin 4096) (l : Fin 128) (hv : v (ix2 r l) = aD m c (ix2 r (col t l))) :
    k0_pay8 (F := Ideal) (grid0.coords t) v (ix2 r l) = f1 m c t r.val l := by
  unfold f1
  rw [share_lt, ← hv, ← int_count r.val (rows t.val) r.isLt (rows_le t.val), ← (group_at t).2]
  pointwise [k0_pay8, k0_pay7]
  rfl

abbrev arg := (ms0_0 t).view.readAt (Elt Ideal) (Rect.unit (s := S4096x128) ![0, 0] S4096x128.size inb_S4096x128_S4096x128_0_0).toLoadRect ((hs0_0 t).unread (iblk m c 0 t))

theorem arg_at (r : Fin 4096) (l : Fin 128) : arg m c t (ix2 r l) = aD m c (ix2 r (col t l)) :=
  (row_of (q := fun k l => row (aD m c) k (col t l)) (hd m c t) rfl _ r l r.val (Nat.zero_add _) r.isLt).trans (row_lt _ _ _)

theorem held2 (r : Fin 4104) (l : Fin 128) :
    View.canon (kernelRun0_A.sl.HS0_2 (F := Ideal) c (grid0.coords t) (ms0_0 t) (hs0_0 t) (iblk m c 0 t)) (ix2 r l) = f1 m c t r.val l := by
  refine two_blocks (Val := Elt Ideal) (e := .f32) (n := 4096) (n' := 8) 0 4096 _ _ _ _ (f1 m c t) (fun p l => ?_) (fun p l => ?_) r l (by omega)
  · rw [Nat.zero_add, ← p8 m c t (arg m c t) p l (arg_at m c t p l)]
    pointwise [k0_pay10]
  · rw [f1_ge m c t _ _ (by omega)]
    pointwise [k0_pay9]

/-- What a load at row `o` on finds in the scratch. -/
theorem loaded (L : List (View.Piece (Elt Ideal) S4104x128 .f32)) (f : ℕ → Fin 128 → EReal) (hL : ∀ (r : Fin 4104) (l : Fin 128), View.canon L (ix2 r l) = f r.val l)
    {off : Fin 2 → ℕ} {o : ℕ} (h : off = ![o, 0]) (inb) (p : Fin 4096) (l : Fin 128) (ho : o ≤ 8) :
    scM0_0.view.readCov (Val := Elt Ideal) L (Rect.unit (s := S4104x128) off S4096x128.size inb).toLoadRect (ix2 p l) = f (p.val + o) l :=
  row_of (N := 4104) (C := 128) (n := 4096) (v := scM0_0.view) (f := scM0_0.view.writes (Elt Ideal) scM0_0.view.junk L) (q := f)
    (fun r l => (congrFun (View.read_writes_junk_eq_canon scM0_0.view L) _).trans (hL r l)) h inb p l _ (Nat.add_comm _ _) (by omega)

theorem at2 (p : Fin 4096) (l : Fin 128) :
    kernelRun0_A.sl.r_1 (F := Ideal) c (grid0.coords t) (ms0_0 t) (hs0_0 t) scM0_0 (iblk m c 0 t) (ix2 p l) = f2 m c t p.val l := by
  unfold kernelRun0_A.sl.r_1 kernelRun0_A.sl.v35
  exact congrArg₂ (· + ·) (p8 m c t (arg m c t) p l (arg_at m c t p l)) (loaded _ (f1 m c t) (held2 m c t) rfl _ p l (by decide))

theorem held3 (r : Fin 4104) (l : Fin 128) :
    View.canon (kernelRun0_A.sl.HS0_3 (F := Ideal) c (grid0.coords t) (ms0_0 t) (hs0_0 t) scM0_0 (iblk m c 0 t)) (ix2 r l) = f2 m c t r.val l := by
  unfold kernelRun0_A.sl.HS0_3
  refine stored (Val := Elt Ideal) (e := .f32) (N := 4104) (C := 128) (n := 4096) 0 _ (f2 m c t) (f1 m c t) _ _ (held2 m c t) (fun k l _ h => (f1_ge m c t k l (by omega)).trans (f2_ge m c t k l (by omega)).symm)
    (fun p l => ?_) r l
  refine Eq.trans ?_ (at2 m c t p l)
  pointwise [k0_pay1]

theorem at4 (p : Fin 4096) (l : Fin 128) :
    k0_pay2 (F := Ideal) (kernelRun0_A.sl.r_1 c (grid0.coords t) (ms0_0 t) (hs0_0 t) scM0_0 (iblk m c 0 t))
      (kernelRun0_A.sl.v40 c (grid0.coords t) (ms0_0 t) (hs0_0 t) scM0_0 (iblk m c 0 t)) (ix2 p l) = f4 m c t p.val l := by
  unfold kernelRun0_A.sl.v40
  exact congrArg₂ (· + ·) (at2 m c t p l) (loaded _ (f2 m c t) (held3 m c t) rfl _ p l (by decide))

theorem held4 (r : Fin 4104) (l : Fin 128) :
    View.canon (kernelRun0_A.sl.HS0_4 (F := Ideal) c (grid0.coords t) (ms0_0 t) (hs0_0 t) scM0_0 (iblk m c 0 t)) (ix2 r l) = f4 m c t r.val l := by
  unfold kernelRun0_A.sl.HS0_4
  refine stored (Val := Elt Ideal) (e := .f32) (N := 4104) (C := 128) (n := 4096) 0 _ (f4 m c t) (f2 m c t) _ _ (held3 m c t) (fun k l _ h => (f2_ge m c t k l (by omega)).trans (f4_ge m c t k l (by omega)).symm)
    (fun p l => ?_) r l
  refine Eq.trans ?_ (at4 m c t p l)
  pointwise [k0_pay3]

theorem at8 (p : Fin 4096) (l : Fin 128) :
    k0_pay4 (F := Ideal) (kernelRun0_A.sl.r_1 c (grid0.coords t) (ms0_0 t) (hs0_0 t) scM0_0 (iblk m c 0 t))
      (kernelRun0_A.sl.v40 c (grid0.coords t) (ms0_0 t) (hs0_0 t) scM0_0 (iblk m c 0 t))
      (kernelRun0_A.sl.v45 c (grid0.coords t) (ms0_0 t) (hs0_0 t) scM0_0 (iblk m c 0 t)) (ix2 p l) = f8 m c t p.val l := by
  unfold kernelRun0_A.sl.v45
  exact congrArg₂ (· + ·) (at4 m c t p l) (loaded _ (f4 m c t) (held4 m c t) rfl _ p l (by decide))

theorem held5 (r : Fin 4104) (l : Fin 128) :
    View.canon (kernelRun0_A.sl.HS0_5 (F := Ideal) c (grid0.coords t) (ms0_0 t) (hs0_0 t) scM0_0 (iblk m c 0 t)) (ix2 r l) = f8 m c t r.val l := by
  unfold kernelRun0_A.sl.HS0_5
  refine stored (Val := Elt Ideal) (e := .f32) (N := 4104) (C := 128) (n := 4096) 0 _ (f8 m c t) (f4 m c t) _ _ (held4 m c t) (fun k l _ h => (f4_ge m c t k l (by omega)).trans (f8_ge m c t k l (by omega)).symm)
    (fun p l => ?_) r l
  refine Eq.trans ?_ (at8 m c t p l)
  pointwise [k0_pay5]

theorem at16 (p : Fin 4096) (l : Fin 128) :
    addf (F := Ideal) (φ := .f32) (k0_pay4 (F := Ideal) (kernelRun0_A.sl.r_1 c (grid0.coords t) (ms0_0 t) (hs0_0 t) scM0_0 (iblk m c 0 t))
      (kernelRun0_A.sl.v40 c (grid0.coords t) (ms0_0 t) (hs0_0 t) scM0_0 (iblk m c 0 t))
      (kernelRun0_A.sl.v45 c (grid0.coords t) (ms0_0 t) (hs0_0 t) scM0_0 (iblk m c 0 t)))
      (kernelRun0_A.sl.v50 c (grid0.coords t) (ms0_0 t) (hs0_0 t) scM0_0 (iblk m c 0 t)) (ix2 p l) = f16 m c t p.val l := by
  unfold kernelRun0_A.sl.v50
  exact congrArg₂ (· + ·) (at8 m c t p l) (loaded _ (f8 m c t) (held5 m c t) rfl _ p l (by decide))

theorem arg_r (r : Fin 4096) (l : Fin 128) :
    kernelRun0_A.sl.r (F := Ideal) c (ms0_0 t) (hs0_0 t) (iblk m c 0 t) (ix2 r l) = aD m c (ix2 r (col t l)) := by
  unfold kernelRun0_A.sl.r
  refine Eq.trans ?_ (arg_at m c t r l)
  pointwise [k0_pay7]

/-! ## The result -/

theorem out1 (r : Fin 4096) (l : Fin 128) : outsAt0 m c t (ix2 r l) = grad (aD m c) (ix2 r (col t l)) := by
  unfold outsAt0 out0_A_1 kernelRun0_A
  dsimp only
  rw [View.read_writes_junk_eq_canon]
  refine (congrFun (View.canon_cons_unit_lit' (S := S4096x128) (off := ![0, 0]) _ _ _ (by intro a; fin_cases a <;> rfl)) _).trans ?_
  have ht := t_lt t
  have q : grad (aD m c) (ix2 r (col t l)) = (∑ j ∈ Finset.range (rows t.val), f1 m c t (r.val + j) l) - aD m c (ix2 r (col t l)) := by
    show (∑ j ∈ Finset.range (width (col t l)), share (aD m c) (width (col t l)) (r.val + j) (col t l)) - _ = _
    rw [show width (col t l) = rows t.val from width_col t.val l _]
    rfl
  rw [q, (group_at t).1]
  unfold k0_pay6
  obtain h | h | h | h : t.val / 2 = 0 ∨ t.val / 2 = 1 ∨ t.val / 2 = 2 ∨ t.val / 2 = 3 := by omega
  · rw [h, show rows t.val = 2 from if_pos (by omega), ← f2_sum]
    exact congrArg₂ (· - ·) (at2 m c t r l) (arg_r m c t r l)
  · rw [h, show rows t.val = 4 from (if_neg (by omega)).trans (if_pos (by omega)), ← f4_sum]
    exact congrArg₂ (· - ·) (at4 m c t r l) (arg_r m c t r l)
  · rw [h, show rows t.val = 8 from (if_neg (by omega)).trans ((if_neg (by omega)).trans (if_pos (by omega))), ← f8_sum]
    exact congrArg₂ (· - ·) (at8 m c t r l) (arg_r m c t r l)
  · rw [h, show rows t.val = 16 from (if_neg (by omega)).trans ((if_neg (by omega)).trans (if_neg (by omega))), ← f16_sum]
    exact congrArg₂ (· - ·) (at16 m c t r l) (arg_r m c t r l)

omit t

theorem res1 : (dats m 0 c).arrAt 1 cfg0.N = grad (aD m c) := by
  refine (dats m 0 c).arrAt_eq_of_covers 1 _ (by decide +kernel) fun t _ y => ?_
  blk_simp
  rw [after0_1]
  idx_vars y
  rw [out1, emb1]

omit c

theorem run_parts (ρ : Dev nD → PrngReg) : θ_run defs (onTc (τ := τ) (main (F := Ideal))) ⟨m, fun _ => 0, ρ⟩ fun r => ∀ c : Dev nD,
    r.2.mem ((c.tc : Thread nD τ).loc main_v1) = grad (aD m c) ∧ r.2.mem ((c.tc : Thread nD τ).loc main_arg0) = aD m c :=
  (θ_run defs _ _).mono (fun r h c => ⟨(h c).1.trans (res1 m c), (h c).2⟩) (run_blocks m ρ)

end Cert.CStripIdeal.Value

end
-- ==== Proof.CStripClaim.lean ====
/- The claims about `CStrip`. -/
module

public import proofs.«01_k».proof.Defs
public import proofs.«01_k».proof.Proof.Gen.Pre_c_finite
public import proofs.«01_k».proof.Proof.CStripPure
public import proofs.«01_k».proof.Proof.CStripValue
public import proofs.«01_k».proof.Proof.Gen.CStripRefIdeal.Run

@[expose] public section

set_option maxRecDepth 16384

noncomputable section

namespace Cert.CStripIdeal

open Cert.Reals Idealize.ShloMosaic Idealize.ShloMosaic.TcCoe Idealize.SL.Sem

theorem algebraic : Cert.algebraic_CStripIdeal_CStripRefIdeal_pre_c_finite (hCStripIdeal := Cert.CStripIdeal.Gen.facts)
    (hCStripRefIdeal := Cert.CStripRefIdeal.Gen.facts) (hPre_c_finite := Cert.Pre_c_finite.Gen.facts) := by
  pair_intro
  · run_from Cert.CStripIdeal.Value.run_parts m g
  · refine (θ_run _ _ _).mono ?_ (Cert.CStripRefIdeal.Value.run m' g')
    intro r h c
    obtain ⟨h1, ha⟩ := h c
    have e0 := hagree c
    have f0 := hpre c
    obtain ⟨x, hx⟩ := real_of_finite _ _ f0
    refine ⟨h1.trans ?_, ha⟩
    refine (Cert.CStripRefIdeal.Read.val_main_v132_eq _ _).trans ?_
    rw [e0]
    refine (congrArg _ hx).trans ((Cert.CStripRefIdeal.Pure.r132 x).trans ?_)
    exact congrArg Cert.Window.grad hx.symm

end Cert.CStripIdeal

end
-- ==== Proof.FfnGrad.lean ====
/- The gradient of a gated linear map between two products, as functions of the arrays. -/
module

public import proofs.«01_k».proof.Proof.NormParts

@[expose] public section

set_option maxRecDepth 16384

noncomputable section

namespace Cert.Ffn

open Cert.Reals Cert.Norm Idealize.ShloMosaic

abbrev S4096x5632 : Shape := ⟨2, ![4096, 5632]⟩
abbrev S2816x1024 : Shape := ⟨2, ![2816, 1024]⟩
abbrev S16x1x1024 : Shape := ⟨3, ![16, 1, 1024]⟩

def gate (gu : FVec Ideal S4096x5632 .f32) (r : Fin 4096) (k : Fin 2816) : EReal := gu (ix2 r ⟨k.val, by omega⟩)
def up (gu : FVec Ideal S4096x5632 .f32) (r : Fin 4096) (k : Fin 2816) : EReal := gu (ix2 r ⟨2816 + k.val, by omega⟩)

/-- The logistic function as a quotient. -/
def quo (u : EReal) : EReal := Ideal.div (Ideal.ofBits .f32 0x3F800000#32) (Ideal.ofBits .f32 0x3F800000#32 + Ideal.exp (-u))

section
variable (L : EReal → EReal) (x dx : FVec Ideal S4096x1024 .f32) (gu : FVec Ideal S4096x5632 .f32) (w : FVec Ideal S2816x1024 .f32) (g : FVec Ideal S1x1024 .f32)

/-- The gated activation, with the logistic function `L`. -/
def act (r : Fin 4096) (k : Fin 2816) : EReal := gate gu r k * L (gate gu r k) * up gu r k

/-- The second product. -/
def out (r : Fin 4096) (l : Fin 1024) : EReal := ∑ k, act L gu r k * w (ix2 k l)

/-- The residual's sum. -/
def res (r : Fin 4096) (l : Fin 1024) : EReal := x (ix2 r l) + g (ix2 0 l) * out L gu w r l

/-- The cotangent of the second product. -/
def df (r : Fin 4096) (l : Fin 1024) : EReal := dx (ix2 r l) * g (ix2 0 l)

/-- The cotangent of the activation. -/
def da (r : Fin 4096) (k : Fin 2816) : EReal := ∑ l, df dx g r l * w (ix2 k l)

def dgate (r : Fin 4096) (k : Fin 2816) : EReal :=
  da dx w g r k * up gu r k * (Ideal.logistic (gate gu r k) * (1 + gate gu r k * (1 - Ideal.logistic (gate gu r k))))

def dup (r : Fin 4096) (k : Fin 2816) : EReal := da dx w g r k * (gate gu r k * L (gate gu r k))

def pair (a b : Fin 4096 → Fin 2816 → EReal) (p : Fin 2) (r : Fin 4096) (k : Fin 2816) : EReal := if p.val = 0 then a r k else b r k

/-- The gradient of the gate line by line. -/
def refGate (r : Fin 4096) (k : Fin 2816) : EReal :=
  da dx w g r k * up gu r k * quo (gate gu r k)
    + gate gu r k * (da dx w g r k * up gu r k) * (quo (gate gu r k) * (Ideal.ofBits .f32 0x3F800000#32 - quo (gate gu r k)))

/-- A row's part of the gradient of the residual's gate. -/
def dgAt (l : Fin 1024) (r : Fin 4096) : EReal := dx (ix2 r l) * out L gu w r l

/-- The gradient of the residual's gate. -/
def dg (i : S1x1024.Idx) : EReal := ∑ r : Fin 4096, dx (ix2 r (i 1)) * out L gu w r (i 1)

/-- A tile's part of it. -/
def dgPart (i : S16x1x1024.Idx) : EReal :=
  ∑ k : Fin 256, (fun r : Fin 4096 => dx (ix2 r (i 2)) * out L gu w r (i 2)) ⟨256 * (i 0).val + k.val, by have := (i 0).isLt; have := k.isLt; simp at *; omega⟩

end

/-- The tiles' parts in pairs, summed. -/
theorem pairs (f : Fin 4096 → EReal) (h : ∀ (i : Fin 8) (j : Fin 2) (k : Fin 256), 256 * (i.val * 2 + j.val) + k.val < 4096) :
    ∑ i : Fin 8, ∑ j : Fin 2, ∑ k : Fin 256, f ⟨256 * (i.val * 2 + j.val) + k.val, h i j k⟩ = ∑ r, f r := by
  rw [Fin.sum_univ_tiles 8 512 rfl f]
  refine Finset.sum_congr rfl fun i _ => ?_
  rw [Fin.sum_univ_tiles 2 256 rfl]
  refine Finset.sum_congr rfl fun j _ => Finset.sum_congr rfl fun k _ => congrArg f (Fin.ext ?_)
  show 256 * (i.val * 2 + j.val) + k.val = i.val * 512 + (j.val * 256 + k.val)
  omega

theorem ofBits_one : Ideal.ofBits .f32 0x3F800000#32 = ((1 : ℝ) : EReal) := by
  simp [Ideal.ofBits, Ideal.ieee, -EReal.coe_mul]; norm_num

theorem quo_real (u : ℝ) : quo (u : EReal) = Ideal.logistic (u : EReal) := by
  have h : (1 + Real.exp (-u) : ℝ) ≠ 0 := by positivity
  simp only [quo, ofBits_one, ← EReal.coe_neg, Ideal.exp_coe, ← EReal.coe_add, div_real h, one_div, Ideal.logistic_coe]

section
variable (dx : S4096x1024.Idx → ℝ) (gu : S4096x5632.Idx → ℝ) (w : S2816x1024.Idx → ℝ) (g : S1x1024.Idx → ℝ)

theorem act_eq : act quo (fun i => (gu i : EReal)) = act Ideal.logistic (fun i => (gu i : EReal)) := by
  funext r k
  simp only [act, gate, quo_real]

theorem out_eq (v : FVec Ideal S2816x1024 .f32) : out quo (fun i => (gu i : EReal)) v = out Ideal.logistic (fun i => (gu i : EReal)) v := by
  unfold out; rw [act_eq]

theorem dup_eq (dx : FVec Ideal S4096x1024 .f32) (v : FVec Ideal S2816x1024 .f32) (g : FVec Ideal S1x1024 .f32) :
    dup quo dx (fun i => (gu i : EReal)) v g = dup Ideal.logistic dx (fun i => (gu i : EReal)) v g := by
  funext r k
  simp only [dup, gate, quo_real]

theorem dgate_eq : refGate (fun i => (dx i : EReal)) (fun i => (gu i : EReal)) (fun i => (w i : EReal)) (fun i => (g i : EReal))
    = dgate (fun i => (dx i : EReal)) (fun i => (gu i : EReal)) (fun i => (w i : EReal)) (fun i => (g i : EReal)) := by
  funext r k
  simp only [refGate, dgate, da, df, gate, up, quo_real, ofBits_one, one_coe, Ideal.logistic_coe, ← EReal.coe_mul, ← EReal.coe_add, ← EReal.coe_sub, sum_real]
  exact congrArg _ (by ring)

end

end Cert.Ffn

end
-- ==== Proof.FGateEnds.lean ====
/- `FGateIdeal` ends with the memory that its last stretch leaves. -/
module

public import proofs.«01_k».proof.Proof.Gen.FGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.FGateIdeal.Value

open Cert.FGateIdeal Cert.FGateIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

theorem tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (BI.emp : sProp 𝕄))) := by
  rw [BI.bigSep_emp_const]
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- Every buffer that outlives the kernels ends as the fold of the stretches and regions leaves it. -/
theorem ends : θ_run defs (onTc (τ := τ) (main (F := Ideal))) ⟨m, fun _ => 0, ρ⟩ (fun r => ∀ (c : Dev nD) (b : Ref sig .tc),
    ¬ (Proc.devRef .tc b : DevRef τ sig).isScoped → r.2.mem ((c.tc : Thread nD τ).loc b) = W4 m ρ c (Proc.devRef .tc b)) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩)
    (hinit := Pipeline.initEach L lv fun c => ?_)
    (QY := fun c s => ∀ b ∈ Pipeline.ucRefs τ sig, s.mem ((c : Thread nD τ).1, b) = W4 m ρ c b)
    (hfin := fun c s' => ?_) (hQ := fun s h c b hb => h c _ (mem_uc b hb))
  · dsimp only [Pipeline.Seg.post, hseg, Pipeline.HostSeg.ofOps]
    iintro ⟨Hh, Hp, HO⟩
    isplitr [HO]
    · isplitl [Hh]
      · iexact Hh
      · iexact Hp
    · iexact HO
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    · isplitl [Hp]
      · iexists _; iexact Hp
      · iexists ∅; iexact HO
  · iintro ⟨⟨Hh, -⟩, HS⟩
    unfold StableHlo.held
    imodintro
    iapply (pointsTo_read_all (Pipeline.ucRefs τ sig) (fun b => ((c : Thread nD τ).1, b)) (W4 m ρ c) s')
    isplitl [Hh] <;> iassumption

end Cert.FGateIdeal.Value

end
-- ==== Proof.FGateValue.lean ====
/- What `FGateIdeal` leaves in each result, as sums over the argument arrays. -/
module

public import proofs.«01_k».proof.Proof.FfnGrad
public import proofs.«01_k».proof.Proof.FGateEnds
public import proofs.«01_k».proof.Proof.Gen.FGateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.FGateIdeal.Value

open Cert.FGateIdeal Cert.FGateIdeal.Gen Idealize.ShloMosaic Idealize.ShloMosaic.TcCoe Idealize.SL.Sem
open Cert.Ffn
open Idealize.ShloMosaic.Pipeline (Dat)

theorem idx0 : ∀ t : Fin cfg0.N, win0_0.index t = ![0, t.val, 0] ∧ win0_1.index t = ![1, t.val, 0] ∧ win0_2.index t = ![0, 0, 0] ∧ win0_3.index t = ![t.val, 0]
    ∧ win0_4.index t = ![0, 0] ∧ win0_5.index t = ![t.val, 0] ∧ win0_6.index t = ![t.val, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0, 0]
    ∧ win1_4.index t = ![0, t.val, 0] ∧ win1_5.index t = ![1, t.val, 0] ∧ win1_6.index t = ![t.val, 0] ∧ win1_7.index t = ![t.val, 0, 0]
    ∧ win1_8.index t = ![0, t.val, 0] ∧ win1_9.index t = ![t.val, 0] :=
  (by decide +kernel : ∀ t : Fin grid1.N, _)

theorem t_lt0 (t : Fin cfg0.N) : t.val < 8 := lt_of_lt_of_eq t.isLt (by decide +kernel)
theorem t_lt1 (t : Fin cfg1.N) : t.val < 16 := lt_of_lt_of_eq t.isLt (by decide +kernel)

/-! ## The bodies, at rows -/

section
variable (v0 v2 : FVec Ideal S1x512x2816 .bf16) (v10 : FVec Ideal S1x2816x1024 .bf16) (v13 : FVec Ideal S512x1024 .f32) (v14 : FVec Ideal S1x1024 .f32)

theorem p01 (r : Fin 512) (l : Fin 1024) : k0_pay1 (F := Ideal) v0 v2 v10 (ix2 r l)
    = ∑ k : Fin 2816, v0 (ix3 0 r k) * Ideal.logistic (v0 (ix3 0 r k)) * v2 (ix3 0 r k) * v10 (ix3 0 k l) := by
  pointwise [k0_pay1]

theorem p02 (r : Fin 512) (l : Fin 1024) : k0_pay2 (F := Ideal) v0 v2 v10 v13 v14 (ix2 r l)
    = v13 (ix2 r l) + v14 (ix2 0 l) * ∑ k : Fin 2816, v0 (ix3 0 r k) * Ideal.logistic (v0 (ix3 0 r k)) * v2 (ix3 0 r k) * v10 (ix3 0 k l) := by
  pointwise [k0_pay2, p01]

theorem p03 (r : Fin 512) (l : Fin 1024) : k0_pay3 (F := Ideal) v0 v2 v10 (ix2 r l)
    = ∑ k : Fin 2816, v0 (ix3 0 r k) * Ideal.logistic (v0 (ix3 0 r k)) * v2 (ix3 0 r k) * v10 (ix3 0 k l) := by
  pointwise [k0_pay3, p01]

end

section
variable (d : FVec Ideal S256x1024 .f32) (y : FVec Ideal S256x1024 .bf16) (g : FVec Ideal S1x1024 .f32) (w : FVec Ideal S1x2816x1024 .bf16) (a b : FVec Ideal S1x256x2816 .bf16)

theorem p14 (r : Fin 256) (l : Fin 1024) : k1_pay4 (F := Ideal) d g (ix2 r l) = d (ix2 r l) * g (ix2 0 l) := by
  pointwise [k1_pay4]

theorem p15 (o p : Fin 1) (l : Fin 1024) : k1_pay5 (F := Ideal) d y (ix3 o p l) = ∑ r : Fin 256, d (ix2 r l) * y (ix2 r l) := by
  pointwise [k1_pay5]

theorem p16 (r : Fin 256) (k : Fin 2816) : k1_pay6 (F := Ideal) d g w (ix2 r k) = ∑ l : Fin 1024, d (ix2 r l) * g (ix2 0 l) * w (ix3 0 k l) := by
  pointwise [k1_pay6, p14]

theorem p19 (r : Fin 256) (k : Fin 2816) : k1_pay9 (F := Ideal) a (ix2 r k) = Ideal.logistic (a (ix3 0 r k)) := by
  pointwise [k1_pay9, k1_pay7]

theorem p110 (r : Fin 256) (k : Fin 2816) : k1_pay10 (F := Ideal) a (ix2 r k) = a (ix3 0 r k) * Ideal.logistic (a (ix3 0 r k)) := by
  pointwise [k1_pay10, p19, k1_pay7]

theorem p11 (o : Fin 1) (r : Fin 256) (k : Fin 2816) :
    k1_pay1 (k1_pay9 (F := Ideal) a) (k1_pay11 d g w b) (k1_pay12 a) (k1_pay13 (F := Ideal)) (ix3 o r k)
      = (∑ l : Fin 1024, d (ix2 r l) * g (ix2 0 l) * w (ix3 0 k l)) * b (ix3 0 r k) * (Ideal.logistic (a (ix3 0 r k)) * (1 + a (ix3 0 r k) * (1 - Ideal.logistic (a (ix3 0 r k))))) := by
  pointwise [k1_pay1, k1_pay11, k1_pay12, k1_pay13, p16, p19, k1_pay7, k1_pay8]

theorem p12 (o : Fin 1) (r : Fin 256) (k : Fin 2816) :
    k1_pay2 (k1_pay6 (F := Ideal) d g w) (k1_pay10 a) (ix3 o r k)
      = (∑ l : Fin 1024, d (ix2 r l) * g (ix2 0 l) * w (ix3 0 k l)) * (a (ix3 0 r k) * Ideal.logistic (a (ix3 0 r k))) := by
  pointwise [k1_pay2, p16, p110]

theorem p13 (r : Fin 256) (k : Fin 2816) :
    k1_pay3 (k1_pay8 (F := Ideal) b) (k1_pay10 a) (ix2 r k) = a (ix3 0 r k) * Ideal.logistic (a (ix3 0 r k)) * b (ix3 0 r k) := by
  pointwise [k1_pay3, p110, k1_pay8]

end

variable (m : (ℓ : Loc nD τ sig) → Buf (Elt Ideal) ℓ) (ρ : Dev nD → PrngReg)

/-! ## The arrays that the first region reads -/

theorem host1 (c : Dev nD) (o : Fin 1) (k : Fin 2816) (l : Fin 1024) : W1 m ρ c (Proc.devRef .tc main_v1) (ix3 o k l) = (m ((c : Thread nD τ).loc main_arg2)) (ix2 k l) := by
  show StableHlo.after hostOps0 _ (Proc.tc.devRef main_v1) _ = _
  unfold hostOps0
  after_results
  pointwise []

theorem host7 (c : Dev nD) (p : Fin 2) (r : Fin 4096) (k : Fin 2816) : W1 m ρ c (Proc.devRef .tc main_v7) (ix3 p r k) = pair (gate (m ((c : Thread nD τ).loc main_arg1))) (up (m ((c : Thread nD τ).loc main_arg1))) p r k := by
  show StableHlo.after hostOps0 _ (Proc.tc.devRef main_v7) _ = _
  unfold hostOps0
  after_results
  pointwise [pair, gate, up]
  simp only [Nat.lt_one_iff, dite_eq_ite]

theorem b0_0 (c : Dev nD) (t : Fin cfg0.N) (o : Fin 1) (r : Fin 512) (k : Fin 2816) : iblk0 (V1 m ρ) c 0 t (ix3 o r k) = gate (m ((c : Thread nD τ).loc main_arg1)) ⟨512 * t.val + r.val, by have := t_lt0 t; omega⟩ k := by
  refine Eq.trans ?_ (host7 m ρ c 0 _ k)
  blk_point [iblk0, idx0 t]

theorem b0_1 (c : Dev nD) (t : Fin cfg0.N) (o : Fin 1) (r : Fin 512) (k : Fin 2816) : iblk0 (V1 m ρ) c 1 t (ix3 o r k) = up (m ((c : Thread nD τ).loc main_arg1)) ⟨512 * t.val + r.val, by have := t_lt0 t; omega⟩ k := by
  refine Eq.trans ?_ (host7 m ρ c 1 _ k)
  blk_point [iblk0, idx0 t]

theorem b0_2 (c : Dev nD) (t : Fin cfg0.N) (o : Fin 1) (k : Fin 2816) (l : Fin 1024) : iblk0 (V1 m ρ) c 2 t (ix3 o k l) = (m ((c : Thread nD τ).loc main_arg2)) (ix2 k l) := by
  refine Eq.trans ?_ (host1 m ρ c o k l)
  blk_point [iblk0, idx0 t]

theorem b0_3 (c : Dev nD) (t : Fin cfg0.N) (r : Fin 512) (l : Fin 1024) : iblk0 (V1 m ρ) c 3 t (ix2 r l) = (m ((c : Thread nD τ).loc main_arg0)) (ix2 ⟨512 * t.val + r.val, by have := t_lt0 t; omega⟩ l) := by
  refine Eq.trans ?_ (congrFun (W1_args m ρ c main_arg0 (by decide)) _)
  blk_point [iblk0, idx0 t]

theorem b0_4 (c : Dev nD) (t : Fin cfg0.N) (o : Fin 1) (l : Fin 1024) : iblk0 (V1 m ρ) c 4 t (ix2 o l) = (m ((c : Thread nD τ).loc main_arg3)) (ix2 o l) := by
  refine Eq.trans ?_ (congrFun (W1_args m ρ c main_arg3 (by decide)) _)
  blk_point [iblk0, idx0 t]

theorem emb0_5 (t : Fin cfg0.N) (r : Fin 512) (l : Fin 1024) : ((cfg0.win 5).blk t).view.emb (ix2 r l) = ix2 ⟨512 * t.val + r.val, by have := t_lt0 t; omega⟩ l := by
  blk_ext [idx0 t]

theorem emb0_6 (t : Fin cfg0.N) (r : Fin 512) (l : Fin 1024) : ((cfg0.win 6).blk t).view.emb (ix2 r l) = ix2 ⟨512 * t.val + r.val, by have := t_lt0 t; omega⟩ l := by
  blk_ext [idx0 t]

theorem final0_5 (c : Dev nD) : (dat0 (V1 m ρ) c).arrAt 5 cfg0.N = fun i => out Ideal.logistic (m ((c : Thread nD τ).loc main_arg1)) (m ((c : Thread nD τ).loc main_arg2)) (i 0) (i 1) := by
  refine (dat0 (V1 m ρ) c).arrAt_eq_of_covers 5 _ (by decide +kernel) fun t _ y => ?_
  blk_simp
  rw [after0_5]; frame_out
  idx_vars y
  rw [p03, emb0_5]
  simp only [out, act, b0_0, b0_1, b0_2, b0_3, b0_4]
  rfl

theorem final0_6 (c : Dev nD) : (dat0 (V1 m ρ) c).arrAt 6 cfg0.N = fun i => res Ideal.logistic (m ((c : Thread nD τ).loc main_arg0)) (m ((c : Thread nD τ).loc main_arg1)) (m ((c : Thread nD τ).loc main_arg2)) (m ((c : Thread nD τ).loc main_arg3)) (i 0) (i 1) := by
  refine (dat0 (V1 m ρ) c).arrAt_eq_of_covers 6 _ (by decide +kernel) fun t _ y => ?_
  blk_simp
  rw [after0_6]; frame_out
  idx_vars y
  rw [p02, emb0_6]
  simp only [res, out, act, b0_0, b0_1, b0_2, b0_3, b0_4]
  rfl

/-! ## The arrays that the second region reads -/

theorem y2 (c : Dev nD) : W2 m ρ c (Proc.devRef .tc main_v8_0) = fun i => out Ideal.logistic (m ((c : Thread nD τ).loc main_arg1)) (m ((c : Thread nD τ).loc main_arg2)) (i 0) (i 1) :=
  (W2_arr m ρ c 5).trans (final0_5 m ρ c)

theorem w2_1 (c : Dev nD) : W2 m ρ c (Proc.devRef .tc main_v1) = W1 m ρ c (Proc.devRef .tc main_v1) := W2_of m ρ c main_v1 (by decide)
theorem w2_7 (c : Dev nD) : W2 m ρ c (Proc.devRef .tc main_v7) = W1 m ρ c (Proc.devRef .tc main_v7) := W2_of m ρ c main_v7 (by decide)

theorem b1_0 (c : Dev nD) (t : Fin cfg1.N) (r : Fin 256) (l : Fin 1024) : iblk1 (V2 m ρ) c 0 t (ix2 r l) = (m ((c : Thread nD τ).loc main_arg4)) (ix2 ⟨256 * t.val + r.val, by have := t_lt1 t; omega⟩ l) := by
  refine Eq.trans ?_ (congrFun (W2_args m ρ c main_arg4 (by decide)) _)
  blk_point [iblk1, idx1 t]

theorem b1_1 (c : Dev nD) (t : Fin cfg1.N) (r : Fin 256) (l : Fin 1024) : iblk1 (V2 m ρ) c 1 t (ix2 r l) = out Ideal.logistic (m ((c : Thread nD τ).loc main_arg1)) (m ((c : Thread nD τ).loc main_arg2)) ⟨256 * t.val + r.val, by have := t_lt1 t; omega⟩ l := by
  refine Eq.trans ?_ (congrFun (y2 m ρ c) (ix2 ⟨256 * t.val + r.val, by have := t_lt1 t; omega⟩ l))
  blk_point [iblk1, idx1 t]

theorem b1_2 (c : Dev nD) (t : Fin cfg1.N) (o : Fin 1) (l : Fin 1024) : iblk1 (V2 m ρ) c 2 t (ix2 o l) = (m ((c : Thread nD τ).loc main_arg3)) (ix2 o l) := by
  refine Eq.trans ?_ (congrFun (W2_args m ρ c main_arg3 (by decide)) _)
  blk_point [iblk1, idx1 t]

theorem b1_3 (c : Dev nD) (t : Fin cfg1.N) (o : Fin 1) (k : Fin 2816) (l : Fin 1024) : iblk1 (V2 m ρ) c 3 t (ix3 o k l) = (m ((c : Thread nD τ).loc main_arg2)) (ix2 k l) := by
  refine Eq.trans ?_ ((congrFun (w2_1 m ρ c) _).trans (host1 m ρ c o k l))
  blk_point [iblk1, idx1 t]

theorem b1_4 (c : Dev nD) (t : Fin cfg1.N) (o : Fin 1) (r : Fin 256) (k : Fin 2816) : iblk1 (V2 m ρ) c 4 t (ix3 o r k) = gate (m ((c : Thread nD τ).loc main_arg1)) ⟨256 * t.val + r.val, by have := t_lt1 t; omega⟩ k := by
  refine Eq.trans ?_ ((congrFun (w2_7 m ρ c) _).trans (host7 m ρ c 0 _ k))
  blk_point [iblk1, idx1 t]

theorem b1_5 (c : Dev nD) (t : Fin cfg1.N) (o : Fin 1) (r : Fin 256) (k : Fin 2816) : iblk1 (V2 m ρ) c 5 t (ix3 o r k) = up (m ((c : Thread nD τ).loc main_arg1)) ⟨256 * t.val + r.val, by have := t_lt1 t; omega⟩ k := by
  refine Eq.trans ?_ ((congrFun (w2_7 m ρ c) _).trans (host7 m ρ c 1 _ k))
  blk_point [iblk1, idx1 t]

theorem emb1_6 (t : Fin cfg1.N) (r : Fin 256) (l : Fin 1024) : ((cfg1.win 6).blk t).view.emb (ix2 r l) = ix2 ⟨256 * t.val + r.val, by have := t_lt1 t; omega⟩ l := by
  blk_ext [idx1 t]

theorem emb1_7 (t : Fin cfg1.N) (o p : Fin 1) (l : Fin 1024) : ((cfg1.win 7).blk t).view.emb (ix3 o p l) = ix3 ⟨t.val, t_lt1 t⟩ p l := by
  blk_ext [idx1 t]

theorem emb1_8 (t : Fin cfg1.N) (p : Fin 2) (r : Fin 256) (k : Fin 2816) : ((cfg1.win 8).blk t).view.emb (ix3 p r k) = ix3 p ⟨256 * t.val + r.val, by have := t_lt1 t; omega⟩ k := by
  blk_ext [idx1 t]

theorem emb1_9 (t : Fin cfg1.N) (r : Fin 256) (k : Fin 2816) : ((cfg1.win 9).blk t).view.emb (ix2 r k) = ix2 ⟨256 * t.val + r.val, by have := t_lt1 t; omega⟩ k := by
  blk_ext [idx1 t]

theorem final1_6 (c : Dev nD) : (dat1 (V2 m ρ) c).arrAt 6 cfg1.N = fun i => df (m ((c : Thread nD τ).loc main_arg4)) (m ((c : Thread nD τ).loc main_arg3)) (i 0) (i 1) := by
  refine (dat1 (V2 m ρ) c).arrAt_eq_of_covers 6 _ (by decide +kernel) fun t _ y => ?_
  blk_simp
  rw [after1_6]; frame_out
  idx_vars y
  rw [p14, emb1_6]
  simp only [df, b1_0, b1_1, b1_2, b1_3, b1_4, b1_5]
  rfl

theorem final1_7 (c : Dev nD) : (dat1 (V2 m ρ) c).arrAt 7 cfg1.N = dgPart Ideal.logistic (m ((c : Thread nD τ).loc main_arg4)) (m ((c : Thread nD τ).loc main_arg1)) (m ((c : Thread nD τ).loc main_arg2)) := by
  refine (dat1 (V2 m ρ) c).arrAt_eq_of_covers 7 _ (by decide +kernel) fun t _ y => ?_
  blk_simp
  rw [after1_7]; frame_out
  idx_vars y
  rw [p15, emb1_7]
  simp only [dgPart, b1_0, b1_1, b1_2, b1_3, b1_4, b1_5]
  rfl

theorem final1_9 (c : Dev nD) : (dat1 (V2 m ρ) c).arrAt 9 cfg1.N = fun i => act Ideal.logistic (m ((c : Thread nD τ).loc main_arg1)) (i 0) (i 1) := by
  refine (dat1 (V2 m ρ) c).arrAt_eq_of_covers 9 _ (by decide +kernel) fun t _ y => ?_
  blk_simp
  rw [after1_9]; unfold_out out1_9; frame_out
  idx_vars y
  rw [p13, emb1_9]
  simp only [act, b1_0, b1_1, b1_2, b1_3, b1_4, b1_5]
  rfl

theorem final1_8 (c : Dev nD) : (dat1 (V2 m ρ) c).arrAt 8 cfg1.N = fun i => pair (dgate (m ((c : Thread nD τ).loc main_arg4)) (m ((c : Thread nD τ).loc main_arg1)) (m ((c : Thread nD τ).loc main_arg2)) (m ((c : Thread nD τ).loc main_arg3))) (dup Ideal.logistic (m ((c : Thread nD τ).loc main_arg4)) (m ((c : Thread nD τ).loc main_arg1)) (m ((c : Thread nD τ).loc main_arg2)) (m ((c : Thread nD τ).loc main_arg3))) (i 0) (i 1) (i 2) := by
  refine (dat1 (V2 m ρ) c).arrAt_eq_of_covers 8 _ (by decide +kernel) fun t _ y => ?_
  blk_simp
  rw [after1_8]; unfold_out out1_8; frame_out
  idx_vars y
  rw [emb1_8]
  canon_tiles x h
  · idx_vars x
    obtain rfl : y1 = x1 := Fin.ext h1
    obtain rfl : y2 = x2 := Fin.ext h2
    have h3 : ¬ y0.val = 0 := by omega
    rw [p12]
    simp only [pair, ix3_0, ix3_1, ix3_2, if_neg h3, dup, da, df, b1_0, b1_1, b1_2, b1_3, b1_4, b1_5]
  · idx_vars x
    obtain rfl : y1 = x1 := Fin.ext h1
    obtain rfl : y2 = x2 := Fin.ext h2
    have h3 : y0.val = 0 := by omega
    rw [p11]
    simp only [pair, ix3_0, ix3_1, ix3_2, if_pos h3, dgate, da, df, b1_0, b1_1, b1_2, b1_3, b1_4, b1_5]

theorem w3_7 (c : Dev nD) : W3 m ρ c (Proc.devRef .tc main_v9_1) = dgPart Ideal.logistic (m ((c : Thread nD τ).loc main_arg4)) (m ((c : Thread nD τ).loc main_arg1)) (m ((c : Thread nD τ).loc main_arg2)) := (W3_arr m ρ c 7).trans (final1_7 m ρ c)

theorem tail12 (c : Dev nD) : W4 m ρ c (Proc.devRef .tc main_v12) = dg Ideal.logistic (m ((c : Thread nD τ).loc main_arg4)) (m ((c : Thread nD τ).loc main_arg1)) (m ((c : Thread nD τ).loc main_arg2)) := by
  show StableHlo.after hostOps2 (W3 m ρ c) (Proc.tc.devRef main_v12) = _
  unfold hostOps2
  after_results
  rw [w3_7 m ρ c]
  funext i
  idx_vars i
  refine Eq.trans ?_ (pairs (dgAt Ideal.logistic (m ((c : Thread nD τ).loc main_arg4)) (m ((c : Thread nD τ).loc main_arg1)) (m ((c : Thread nD τ).loc main_arg2)) i1) fun i j k => by omega)
  pointwise [dgPart, dgAt]

/-- The run: every result as a function of the arguments, and the arguments unchanged. -/
theorem run : θ_run defs (onTc (τ := τ) (main (F := Ideal))) ⟨m, fun _ => 0, ρ⟩ (fun r => ∀ c : Dev nD,
      (r.2.mem ((c.tc : Thread nD τ).loc main_v8_0) = (fun i => out Ideal.logistic (m ((c : Thread nD τ).loc main_arg1)) (m ((c : Thread nD τ).loc main_arg2)) (i 0) (i 1))
      ∧ r.2.mem ((c.tc : Thread nD τ).loc main_v8_1) = (fun i => res Ideal.logistic (m ((c : Thread nD τ).loc main_arg0)) (m ((c : Thread nD τ).loc main_arg1)) (m ((c : Thread nD τ).loc main_arg2)) (m ((c : Thread nD τ).loc main_arg3)) (i 0) (i 1))
      ∧ r.2.mem ((c.tc : Thread nD τ).loc main_v9_0) = (fun i => df (m ((c : Thread nD τ).loc main_arg4)) (m ((c : Thread nD τ).loc main_arg3)) (i 0) (i 1))
      ∧ r.2.mem ((c.tc : Thread nD τ).loc main_v12) = (dg Ideal.logistic (m ((c : Thread nD τ).loc main_arg4)) (m ((c : Thread nD τ).loc main_arg1)) (m ((c : Thread nD τ).loc main_arg2)))
      ∧ r.2.mem ((c.tc : Thread nD τ).loc main_v9_2) = (fun i => pair (dgate (m ((c : Thread nD τ).loc main_arg4)) (m ((c : Thread nD τ).loc main_arg1)) (m ((c : Thread nD τ).loc main_arg2)) (m ((c : Thread nD τ).loc main_arg3))) (dup Ideal.logistic (m ((c : Thread nD τ).loc main_arg4)) (m ((c : Thread nD τ).loc main_arg1)) (m ((c : Thread nD τ).loc main_arg2)) (m ((c : Thread nD τ).loc main_arg3))) (i 0) (i 1) (i 2))
      ∧ r.2.mem ((c.tc : Thread nD τ).loc main_v9_3) = (fun i => act Ideal.logistic (m ((c : Thread nD τ).loc main_arg1)) (i 0) (i 1)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))) := by
  refine (θ_run defs _ _).mono (fun r h c => ⟨⟨?_, ?_, ?_, ?_, ?_, ?_⟩, h.2 c⟩) (θ_run_and (ends m ρ) (unchanged m ρ))
  · exact (h.1 c main_v8_0 (by decide)).trans ((W4_of m ρ c main_v8_0 (by decide)).trans ((W3_of m ρ c main_v8_0 (by decide)).trans (y2 m ρ c)))
  · exact (h.1 c main_v8_1 (by decide)).trans ((W4_of m ρ c main_v8_1 (by decide)).trans ((W3_of m ρ c main_v8_1 (by decide)).trans ((W2_arr m ρ c 6).trans (final0_6 m ρ c))))
  · exact (h.1 c main_v9_0 (by decide)).trans ((W4_of m ρ c main_v9_0 (by decide)).trans ((W3_arr m ρ c 6).trans (final1_6 m ρ c)))
  · exact (h.1 c main_v12 (by decide)).trans (tail12 m ρ c)
  · exact (h.1 c main_v9_2 (by decide)).trans ((W4_of m ρ c main_v9_2 (by decide)).trans ((W3_arr m ρ c 8).trans (final1_8 m ρ c)))
  · exact (h.1 c main_v9_3 (by decide)).trans ((W4_of m ρ c main_v9_3 (by decide)).trans ((W3_arr m ρ c 9).trans (final1_9 m ρ c)))

end Cert.FGateIdeal.Value

end
-- ==== Proof.FGatePure.lean ====
/- The reference `FGateRefIdeal` computes the gradients its own way. -/
module

public import proofs.«01_k».proof.Proof.FGateValue
public import proofs.«01_k».proof.Proof.Gen.FGateRefIdeal.Read

@[expose] public section

set_option maxRecDepth 16384

noncomputable section

namespace Cert.FGateIdeal.Pure

open Cert.FGateRefIdeal Cert.FGateRefIdeal.Read Idealize.ShloMosaic
open Cert.Ffn

variable (x dx : FVec Ideal S4096x1024 .f32) (gu : FVec Ideal S4096x5632 .f32) (w : FVec Ideal S2816x1024 .f32) (g : FVec Ideal S1x1024 .f32)

theorem s_at (r : Fin 4096) (k : Fin 2816) : (val_main_v2_2 (F := Ideal) gu) (ix2 r k) = quo (gate gu r k) := by
  pointwise [val_main_v0, val_main_call0_v0, val_main_call0_v1, val_main_call0_cst, val_main_call0_v2, val_main_call0_v3, val_main_call0_cst_0, val_main_call0_v4, val_main_v2_2, gate, quo]

theorem s2_at (r : Fin 4096) (k : Fin 2816) : (val_main_call2_v5 (F := Ideal) gu) (ix2 r k) = quo (gate gu r k) := by
  pointwise [val_main_v21, val_main_call2_v0, val_main_call2_v1, val_main_call2_cst, val_main_call2_v2, val_main_call2_v3, val_main_call2_cst_0, val_main_call2_v4, val_main_call2_v5, gate, quo]

theorem a_at (r : Fin 4096) (k : Fin 2816) : (val_main_v3 (F := Ideal) gu) (ix2 r k) = act quo gu r k := by
  pointwise [val_main_v0, val_main_v1, val_main_v2_0, val_main_v3, act, gate, up, s_at]

theorem a2_at (r : Fin 4096) (k : Fin 2816) : (val_main_v24 (F := Ideal) gu) (ix2 r k) = act quo gu r k := by
  pointwise [val_main_v21, val_main_v22, val_main_v23, val_main_v24, act, gate, up, s2_at]

theorem o_at (r : Fin 4096) (l : Fin 1024) : (val_main_v4 (F := Ideal) gu w) (ix2 r l) = out quo gu w r l := by
  pointwise [val_main_v4, out, a_at]

theorem o2_at (r : Fin 4096) (l : Fin 1024) : (val_main_v25 (F := Ideal) gu w) (ix2 r l) = out quo gu w r l := by
  pointwise [val_main_v25, out, a2_at]

theorem da_at (r : Fin 4096) (k : Fin 2816) : (val_main_v16 (F := Ideal) w g dx) (ix2 r k) = da dx w g r k := by
  pointwise [val_main_v8, val_main_v9, val_main_v10, val_main_v16, da, df]
  exact Finset.sum_congr rfl fun l _ => congrArg (· * w (ix2 k l)) (mul_comm _ _)

theorem r31 : (val_main_v31 (F := Ideal) gu w) = fun i => out quo gu w (i 0) (i 1) := by
  funext i
  idx_vars i
  pointwise [val_main_v31, o2_at]

theorem r7 : (val_main_v7 (F := Ideal) x gu w g) = fun i => res quo x gu w g (i 0) (i 1) := by
  funext i
  idx_vars i
  pointwise [val_main_v5, val_main_v6, val_main_v7, o_at, res]

theorem r32 : (val_main_v32 (F := Ideal) g dx) = fun i => df dx g (i 0) (i 1) := by
  funext i
  idx_vars i
  pointwise [val_main_v29, val_main_v30, val_main_v32, df]
  exact mul_comm _ _

theorem r13 : (val_main_v13 (F := Ideal) gu w dx) = dg quo dx gu w := by
  funext i
  idx_vars i
  pointwise [val_main_v8, val_main_v11, val_main_cst, val_main_v12, val_main_v13, o_at, dg]

theorem dg_at (r : Fin 4096) (k : Fin 2816) : (val_main_v19 (F := Ideal) gu w g dx) (ix2 r k) = refGate dx gu w g r k := by
  pointwise [val_main_v0, val_main_v1, val_main_call0_cst_1, val_main_call0_v6, val_main_call0_v7, val_main_v2_1, val_main_v18, val_main_call1_v0, val_main_call1_v1, val_main_call1_v2, val_main_v19, da_at, s_at, refGate, gate, up]

theorem du_at (r : Fin 4096) (k : Fin 2816) : (val_main_v17 (F := Ideal) gu w g dx) (ix2 r k) = dup quo dx gu w g r k := by
  pointwise [val_main_v0, val_main_v2_0, val_main_v17, da_at, s_at, dup, gate, up]
  exact mul_comm _ _

theorem r38 : (val_main_v38 (F := Ideal) gu w g dx) = fun i => pair (refGate dx gu w g) (dup quo dx gu w g) (i 0) (i 1) (i 2) := by
  funext i
  idx_vars i
  pointwise [val_main_v20, val_main_v33, val_main_v34, val_main_v35, val_main_v36, val_main_v37, val_main_v38, dg_at, du_at, pair]
  simp only [Nat.lt_one_iff, dite_eq_ite]

theorem r39 : (val_main_v39 (F := Ideal) gu) = fun i => act quo gu (i 0) (i 1) := by
  funext i
  idx_vars i
  pointwise [val_main_v39, a2_at]

end Cert.FGateIdeal.Pure

end
-- ==== Proof.FGateClaim.lean ====
/- The claims about `FGate`. -/
module

public import proofs.«01_k».proof.Defs
public import proofs.«01_k».proof.Proof.Gen.Pre_f_finite
public import proofs.«01_k».proof.Proof.FGatePure

@[expose] public section

set_option maxRecDepth 16384

noncomputable section

namespace Cert.FGateIdeal

open Cert.Reals Idealize.ShloMosaic Idealize.ShloMosaic.TcCoe Idealize.SL.Sem

theorem algebraic : Cert.algebraic_FGateIdeal_FGateRefIdeal_pre_f_finite (hFGateIdeal := Cert.FGateIdeal.Gen.facts)
    (hFGateRefIdeal := Cert.FGateRefIdeal.Gen.facts) (hPre_f_finite := Cert.Pre_f_finite.Gen.facts) := by
  pair_intro
  · run_from Cert.FGateIdeal.Value.run m g
  · refine θ_run_mono (Cert.FGateRefIdeal.Value.run m' g') fun r h c => ?_
    obtain ⟨h1, h2, h3, h4, h5, h6, ha⟩ := h c
    obtain ⟨e0, e1, e2, e3, e4⟩ := hagree c
    obtain ⟨f1, f2, f3, f4⟩ := hpre c
    obtain ⟨u, hu⟩ := real_of_finite _ _ f1
    obtain ⟨w, hw⟩ := real_of_finite _ _ f2
    obtain ⟨g, hg⟩ := real_of_finite _ _ f3
    obtain ⟨d, hd⟩ := real_of_finite _ _ f4
    refine ⟨h1.trans ?_, h2.trans ?_, h3.trans ?_, h4.trans ?_, h5.trans ?_, h6.trans ?_, ha⟩
    · refine (Cert.FGateRefIdeal.Read.val_main_v31_eq _ _).trans ?_
      rw [e1, e2, Pure.r31, hu, hw]
      simp only [Cert.Ffn.out_eq]
      rfl
    · refine (Cert.FGateRefIdeal.Read.val_main_v7_eq _ _ _ _).trans ?_
      rw [e0, e1, e2, e3, Pure.r7, hu, hw, hg]
      simp only [Cert.Ffn.res, Cert.Ffn.out_eq]
      rfl
    · refine (Cert.FGateRefIdeal.Read.val_main_v32_eq _ _).trans ?_
      rw [e3, e4, Pure.r32, hg, hd]
      rfl
    · refine (Cert.FGateRefIdeal.Read.val_main_v13_eq _ _ _).trans ?_
      rw [e1, e2, e4, Pure.r13, hu, hw, hd]
      unfold Cert.Ffn.dg
      rw [Cert.Ffn.out_eq]
    · rw [Cert.FGateRefIdeal.Read.val_main_v38_eq, e1, e2, e3, e4, Pure.r38, hu, hw, hg, hd]
      rw [Cert.Ffn.dgate_eq, Cert.Ffn.dup_eq]
      rfl
    · refine (Cert.FGateRefIdeal.Read.val_main_v39_eq _).trans ?_
      rw [e1, Pure.r39, hu]
      rw [Cert.Ffn.act_eq]
      rfl

end Cert.FGateIdeal

end
-- ==== Proof.FInValue.lean ====
/- What `FInIdeal` leaves in its results: the modulated rows, and their product with the weight. -/
module

public import proofs.«01_k».proof.Proof.NormIn
public import proofs.«01_k».proof.Proof.Gen.FInIdeal.Value
public import Idealize.ShloMosaic.Lib.Claim

@[expose] public section

set_option maxRecDepth 16384

noncomputable section

namespace Cert.FInIdeal.Value

open Cert.FInIdeal Cert.FInIdeal.Gen Cert.NormIn Idealize.ShloMosaic Idealize.ShloMosaic.TcCoe Idealize.SL.Sem
open Idealize.ShloMosaic.Pipeline (Dat)

/-- The row length as the program writes it. -/
abbrev len : EReal := Ideal.ofBits .f32 0x44800000#32

theorem idx : ∀ t : Fin cfg0.N, win0_0.index t = ![t.val, 0]
    ∧ win0_1.index t = ![0, 0]
    ∧ win0_2.index t = ![0, 0]
    ∧ win0_3.index t = ![0, 0]
    ∧ win0_4.index t = ![0, 0, 0, 0]
    ∧ win0_5.index t = ![t.val, 0]
    ∧ win0_6.index t = ![0, t.val, 0] :=
  (by decide +kernel : ∀ t : Fin grid0.N, _)

theorem t_lt (t : Fin cfg0.N) : t.val < 8 := lt_of_lt_of_eq t.isLt (by decide +kernel)

/-- Row `r` of tile `t`. -/
abbrev at' (t : Fin cfg0.N) (r : Fin 512) : Fin 4096 := ⟨512 * t.val + r.val, by have := t_lt t; omega⟩

section
variable (x : FVec Ideal S512x1024 .f32) (g sc sh : FVec Ideal S1x1024 .f32)

theorem p_rows (r : Fin 512) (l : Fin 1024) : k0_pay3 (F := Ideal) x g sc sh (ix2 r l) = entry len x g sc sh r l := by
  pointwise [k0_pay3, entry, recip]

theorem p_one (w : FVec Ideal S1x1x1024x1408 .bf16) (r : Fin 512) (l : Fin 1408) : k0_pay4 (F := Ideal) x g sc sh w (ix2 r l)
    = ∑ k : Fin 1024, entry len x g sc sh r k * w (ix4 0 0 k l) := by
  pointwise [k0_pay4, p_rows]

theorem p_other (w : FVec Ideal S1x1x1024x1408 .bf16) (r : Fin 512) (l : Fin 1408) : k0_pay5 (F := Ideal) x g sc sh w (ix2 r l)
    = ∑ k : Fin 1024, entry len x g sc sh r k * w (ix4 0 0 k l) := by
  pointwise [k0_pay5, p_rows]

theorem p_first (w w' : FVec Ideal S1x1x1024x1408 .bf16) (o : Fin 1) (r : Fin 512) (l : Fin 2816) :
    k0_pay1 (F := Ideal) (k0_pay4 (F := Ideal) x g sc sh w) (k0_pay5 (F := Ideal) x g sc sh w') (ix3 o r l)
    = if h : l.val < 1408 then ∑ k : Fin 1024, entry len x g sc sh r k * w (ix4 0 0 k ⟨l.val, h⟩)
      else ∑ k : Fin 1024, entry len x g sc sh r k * w' (ix4 0 0 k ⟨l.val - 1408, by omega⟩) := by
  pointwise [k0_pay1, k0_pay2, p_one, p_other, p_rows]

theorem p_second (w w' : FVec Ideal S1x1x1024x1408 .bf16) (o : Fin 1) (r : Fin 512) (l : Fin 2816) :
    k0_pay2 (F := Ideal) (k0_pay3 (F := Ideal) x g sc sh) w w' (ix3 o r l)
    = if h : l.val < 1408 then ∑ k : Fin 1024, entry len x g sc sh r k * w (ix4 0 0 k ⟨l.val, h⟩)
      else ∑ k : Fin 1024, entry len x g sc sh r k * w' (ix4 0 0 k ⟨l.val - 1408, by omega⟩) := by
  pointwise [k0_pay1, k0_pay2, p_one, p_other, p_rows]

end

variable (m : (ℓ : Loc nD τ sig) → Buf (Elt Ideal) ℓ) (c : Dev nD)

/-- The arguments. -/
abbrev aX : FVec Ideal S4096x1024 .f32 := m ((c : Thread nD τ).loc main_arg0)
abbrev aG : FVec Ideal S1x1024 .f32 := m ((c : Thread nD τ).loc main_arg1)
abbrev aC : FVec Ideal S1x1024 .f32 := m ((c : Thread nD τ).loc main_arg2)
abbrev aH : FVec Ideal S1x1024 .f32 := m ((c : Thread nD τ).loc main_arg3)
abbrev aW : FVec Ideal S1024x5632 .f32 := m ((c : Thread nD τ).loc main_arg4)

theorem host_w (q : Fin 4) (o : Fin 1) (k : Fin 1024) (l : Fin 1408) : V m c main_v10 (ix4 q o k l) = aW m c (ix2 k ⟨1408 * q.val + l.val, by omega⟩) := by
  show StableHlo.after hostOps0 _ (Proc.tc.devRef main_v10) _ = _
  unfold hostOps0
  after_results
  pointwise []
  fin_vals q with hq <;> simp only [hq, Nat.reduceSub, Nat.reduceLT, ↓reduceDIte, Fin.zero_eta]
  all_goals
    after_results_simp
    pointwise []

variable (t : Fin cfg0.N)

theorem b0 (r : Fin 512) (k : Fin 1024) : iblk m c 0 t (ix2 r k) = aX m c (ix2 (at' t r) k) := by
  blk_point [iblk, V, idx t]

theorem b1 (o : Fin 1) (k : Fin 1024) : iblk m c 1 t (ix2 o k) = aG m c (ix2 o k) := by
  blk_point [iblk, V, idx t]

theorem b2 (o : Fin 1) (k : Fin 1024) : iblk m c 2 t (ix2 o k) = aC m c (ix2 o k) := by
  blk_point [iblk, V, idx t]

theorem b3 (o : Fin 1) (k : Fin 1024) : iblk m c 3 t (ix2 o k) = aH m c (ix2 o k) := by
  blk_point [iblk, V, idx t]

theorem b4 (q : Fin 4) (o : Fin 1) (k : Fin 1024) (l : Fin 1408) : iblk m c 4 t (ix4 q o k l) = aW m c (ix2 k ⟨1408 * q.val + l.val, by omega⟩) := by
  refine Eq.trans ?_ (host_w m c q o k l)
  blk_point [iblk, idx t]

theorem ld_w (q : ℕ) (inb : ∀ a, (![q, 0, 0, 0] : Fin 4 → ℕ) a + S1x1x1024x1408.size a ≤ S4x1x1024x1408.size a) (k : Fin 1024) (l : Fin 1408) (h : q < 4) :
    View.ld (iblk m c 4 t) (Rect.unit (s := S4x1x1024x1408) ![q, 0, 0, 0] S1x1x1024x1408.size inb) (ix4 0 0 k l) = aW m c (ix2 k ⟨1408 * q + l.val, by omega⟩) := by
  refine Eq.trans (congrArg (iblk m c 4 t) (funext fun a => Fin.ext ?_)) (b4 m c t ⟨q, h⟩ 0 k l)
  change Fin 4 at a
  fin_cases a
  · rfl
  · rfl
  · show 0 + 1 * k.val = k.val; omega
  · show 0 + 1 * l.val = l.val; omega

theorem rows_at (r : Fin 512) (l : Fin 1024) : entry len (iblk m c 0 t) (iblk m c 1 t) (iblk m c 2 t) (iblk m c 3 t) r l
    = entry len (aX m c) (aG m c) (aC m c) (aH m c) (at' t r) l := by
  simp only [entry, recip, b0, b1, b2, b3]

theorem embH (r : Fin 512) (l : Fin 1024) : ((cfg0.win 5).blk t).view.emb (ix2 r l) = ix2 (at' t r) l := by
  blk_ext [idx t]

theorem embP (p : Fin 2) (r : Fin 512) (l : Fin 2816) : ((cfg0.win 6).blk t).view.emb (ix3 p r l) = ix3 p (at' t r) l := by
  blk_ext [idx t]

/-- The modulated rows. -/
def whole (i : S4096x1024.Idx) : EReal := entry len (aX m c) (aG m c) (aC m c) (aH m c) (i 0) (i 1)

/-- Their product with the weight, its columns in 2 parts. -/
def parts (i : S2x4096x2816.Idx) : EReal :=
  proj len (aX m c) (aG m c) (aC m c) (aH m c) (aW m c) (i 1) ⟨2816 * (i 0).val + (i 2).val, by have := (i 0).isLt; have := (i 2).isLt; simp at *; omega⟩

theorem tile_eq (q : ℕ) (h : q < 4) (inb) (r : Fin 512) (l : Fin 1408) (k : Fin 5632) (hk : k.val = 1408 * q + l.val) :
    ∑ j : Fin 1024, entry len (iblk m c 0 t) (iblk m c 1 t) (iblk m c 2 t) (iblk m c 3 t) r j
        * View.ld (iblk m c 4 t) (Rect.unit (s := S4x1x1024x1408) ![q, 0, 0, 0] S1x1x1024x1408.size inb) (ix4 0 0 j l)
      = proj len (aX m c) (aG m c) (aC m c) (aH m c) (aW m c) (at' t r) k := by
  have hb : 1408 * q + l.val < 5632 := by omega
  obtain rfl : k = ⟨1408 * q + l.val, hb⟩ := Fin.ext hk
  exact Finset.sum_congr rfl fun j _ => congrArg₂ (α := EReal) (β := EReal) (γ := EReal) (· * ·) (rows_at m c t r j) (ld_w m c t q inb j l h)

omit t

theorem finalH : (dats m 0 c).arrAt 5 cfg0.N = whole m c := by
  refine (dats m 0 c).arrAt_eq_of_covers 5 _ (by decide +kernel) fun t _ y => ?_
  blk_simp
  rw [after0_5]; frame_out
  idx_vars y
  rw [p_rows, rows_at, embH]
  rfl

theorem finalP : (dats m 0 c).arrAt 6 cfg0.N = parts m c := by
  refine (dats m 0 c).arrAt_eq_of_covers 6 _ (by decide +kernel) fun t _ y => ?_
  blk_simp
  rw [after0_6]; frame_out
  idx_vars y
  rw [embP]
  canon_tiles x h
  · idx_vars x
    obtain rfl : y1 = x1 := Fin.ext h1
    obtain rfl : y2 = x2 := Fin.ext h2
    obtain rfl : y0 = 1 := Fin.ext (by omega)
    rw [p_second]
    split_ifs with hs
    · exact tile_eq m c t 2 (by decide) _ y1 _ _ (by show 2816 * 1 + y2.val = _; first | rfl | (dsimp only; omega))
    · exact tile_eq m c t 3 (by decide) _ y1 _ _ (by show 2816 * 1 + y2.val = _; first | rfl | (dsimp only; omega))
  · idx_vars x
    obtain rfl : y1 = x1 := Fin.ext h1
    obtain rfl : y2 = x2 := Fin.ext h2
    obtain rfl : y0 = 0 := Fin.ext (by omega)
    rw [p_first]
    split_ifs with hs
    · exact tile_eq m c t 0 (by decide) _ y1 _ _ (by show 2816 * 0 + y2.val = _; first | rfl | (dsimp only; omega))
    · exact tile_eq m c t 1 (by decide) _ y1 _ _ (by show 2816 * 0 + y2.val = _; first | rfl | (dsimp only; omega))

omit c

theorem run_parts (ρ : Dev nD → PrngReg) : θ_run defs (onTc (τ := τ) (main (F := Ideal))) ⟨m, fun _ => 0, ρ⟩ fun r => ∀ c : Dev nD,
    r.2.mem ((c.tc : Thread nD τ).loc main_v11_0) = whole m c
    ∧ r.2.mem ((c.tc : Thread nD τ).loc main_v11_1) = parts m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (finalH m c), (h c).2.1.trans (finalP m c), (h c).2.2⟩) (run_blocks m ρ)

end Cert.FInIdeal.Value

end
-- ==== Proof.FInClaim.lean ====
/- `FInRef` read entry by entry, and the claim about `FIn`. -/
module

public import proofs.«01_k».proof.Defs
public import proofs.«01_k».proof.Proof.FInValue
public import proofs.«01_k».proof.Proof.Gen.FInRefIdeal.Run
public import proofs.«01_k».proof.Proof.Gen.FInRefIdeal.Read

@[expose] public section

set_option maxRecDepth 16384

noncomputable section

namespace Cert.FInRefIdeal.Pure
open Cert.FInRefIdeal Cert.FInRefIdeal.Gen Cert.FInRefIdeal.Read Cert.NormIn Idealize.ShloMosaic

variable (x : FVec Ideal S4096x1024 .f32) (g sc sh : FVec Ideal S1x1024 .f32) (w : FVec Ideal S1024x5632 .f32)

theorem rows_at (r : Fin 4096) (l : Fin 1024) : val_main_v17 (F := Ideal) x g sc sh (ix2 r l) = entry (Ideal.ofBits .f32 0x44800000#32) x g sc sh r l := by
  pointwise [entry, recip, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17]

theorem proj_at (r : Fin 4096) (l : Fin 5632) :
    val_main_v18 (F := Ideal) x g sc sh w (ix2 r l) = proj (Ideal.ofBits .f32 0x44800000#32) x g sc sh w r l := by
  pointwise [val_main_v18, rows_at, proj]

theorem rows_eq : val_main_v19 (F := Ideal) x g sc sh = fun i => entry (Ideal.ofBits .f32 0x44800000#32) x g sc sh (i 0) (i 1) := by
  funext i
  idx_vars i
  pointwise [val_main_v19, rows_at]

theorem parts_eq (p : Fin 2) (r : Fin 4096) (l : Fin 2816) (hb : 2816 * p.val + l.val < 5632) :
    val_main_v25 (F := Ideal) x g sc sh w (ix3 p r l) = proj (Ideal.ofBits .f32 0x44800000#32) x g sc sh w r ⟨2816 * p.val + l.val, hb⟩ := by
  unfold val_main_v25
  change val_main_v24 (F := Ideal) x g sc sh w (ix3 p r l) = _
  unfold val_main_v24
  concat_tiles i h
  all_goals
    idx_vars i
    obtain rfl : i1 = r := Fin.ext h1
    obtain rfl : i2 = l := Fin.ext h2
    pointwise [val_main_v20, val_main_v21, val_main_v22, val_main_v23]
    refine Eq.trans ?_ (proj_at x g sc sh w i1 ⟨_, hb⟩)
    refine congrArg (fun k => val_main_v18 (F := Ideal) x g sc sh w (ix2 i1 k)) (Fin.ext ?_)
    dsimp only [ix3_0] at h ⊢
    omega

end Cert.FInRefIdeal.Pure

namespace Cert.FInIdeal

open Cert.NormIn Idealize.ShloMosaic Idealize.ShloMosaic.TcCoe Idealize.SL.Sem

theorem algebraic : Cert.algebraic_FInIdeal_FInRefIdeal (hFInIdeal := Cert.FInIdeal.Gen.facts) (hFInRefIdeal := Cert.FInRefIdeal.Gen.facts) := by
  pair_intro
  · run_from Cert.FInIdeal.Value.run_parts m g
  · refine θ_run_mono (Cert.FInRefIdeal.Value.run m' g') fun r h c => ?_
    obtain ⟨h1, h2, ha⟩ := h c
    obtain ⟨e0, e1, e2, e3, e4⟩ := hagree c
    refine ⟨h1.trans ?_, h2.trans ?_, ha⟩
    · refine (Cert.FInRefIdeal.Read.val_main_v19_eq _ _ _ _).trans ?_
      rw [e0, e1, e2, e3, Cert.FInRefIdeal.Pure.rows_eq]
      rfl
    · refine (Cert.FInRefIdeal.Read.val_main_v25_eq _ _ _ _ _).trans ?_
      rw [e0, e1, e2, e3, e4]
      funext i
      idx_vars i
      exact Cert.FInRefIdeal.Pure.parts_eq _ _ _ _ _ _ _ _ _

end Cert.FInIdeal

end
-- ==== Proof.FNormValue.lean ====
/- What `FNormIdeal` leaves in each result, as sums over the argument arrays. -/
module

public import proofs.«01_k».proof.Proof.Gen.FNormIdeal.Frame
public import proofs.«01_k».proof.Proof.NormParts
public import Idealize.ShloMosaic.Lib.Pipeline.ValueKit
public import Idealize.ShloMosaic.Lib.Claim

@[expose] public section

set_option maxRecDepth 16384

noncomputable section

namespace Cert.FNormIdeal.Value

open Cert.FNormIdeal Cert.FNormIdeal.Gen Idealize.ShloMosaic Idealize.ShloMosaic.TcCoe Idealize.SL.Sem
open Cert.Norm (rowRt rowDx rt dxin partSh partSc tiles col dgain dscale dshift)
open Idealize.ShloMosaic.Pipeline (Dat)

/-- The cotangent of the modulated row: the product with the transposed weight. -/
def dhv (dp : FVec Ideal S4096x5632 .f32) (w : FVec Ideal S1024x5632 .f32) (i : S4096x1024.Idx) : EReal :=
  ∑ k : Fin 5632, dp (ix2 (i 0) k) * w (ix2 (i 1) k)

/-- The product by the four slabs of the weight. -/
theorem dhv_slabs (dp : FVec Ideal S4096x5632 .f32) (w : FVec Ideal S1024x5632 .f32) (r : Fin 4096) (l : Fin 1024) :
    dhv dp w (ix2 r l) = (∑ k : Fin 1408, dp (ix2 r ⟨k.val, by omega⟩) * w (ix2 l ⟨k.val, by omega⟩))
      + (∑ k : Fin 1408, dp (ix2 r ⟨1408 + k.val, by omega⟩) * w (ix2 l ⟨1408 + k.val, by omega⟩))
      + (∑ k : Fin 1408, dp (ix2 r ⟨2816 + k.val, by omega⟩) * w (ix2 l ⟨2816 + k.val, by omega⟩))
      + ∑ k : Fin 1408, dp (ix2 r ⟨2816 + (1408 + k.val), by omega⟩) * w (ix2 l ⟨4224 + k.val, by omega⟩) := by
  simp only [dhv, ix2_0, ix2_1]
  rw [Fin.sum_univ_tiles 4 1408 rfl (fun k => dp (ix2 r k) * w (ix2 l k)), Fin.sum_univ_four]
  refine congrArg₂ _ (congrArg₂ _ (congrArg₂ _ ?_ ?_) ?_) ?_ <;>
    refine Finset.sum_congr rfl fun k _ => ?_ <;>
    refine congrArg₂ _ (congrArg dp (congrArg (ix2 r) (Fin.ext ?_))) (congrArg w (congrArg (ix2 l) (Fin.ext ?_))) <;>
    simp <;> omega

theorem idx : ∀ t : Fin cfg0.N, win0_0.index t = ![0, t.val, 0] ∧ win0_1.index t = ![0, 0, 0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0, 0] ∧ win0_8.index t = ![t.val, 0, 0] :=
  (by decide +kernel : ∀ t : Fin grid0.N, _)

variable (m : (ℓ : Loc nD τ sig) → Buf (Elt Ideal) ℓ)

theorem host5 (c : Dev nD) (p : Fin 2) (r : Fin 4096) (k : Fin 2816) : V m c main_v5 (ix3 p r k)
    = m ((c : Thread nD τ).loc main_arg6) (ix2 r ⟨2816 * p.val + k.val, by omega⟩) := by
  show StableHlo.after hostOps0 _ (Proc.tc.devRef main_v5) _ = _
  unfold hostOps0
  after_results
  pointwise []
  fin_vals p with hp <;> simp only [hp, Nat.reduceSub, Nat.reduceLT, ↓reduceDIte, Fin.zero_eta]
  all_goals
    refine congrArg _ (congrArg (ix2 r) (Fin.ext ?_))
    simp [hp]

theorem host16 (c : Dev nD) (p : Fin 4) (o : Fin 1) (r : Fin 1024) (k : Fin 1408) : V m c main_v16 (ix4 p o r k)
    = m ((c : Thread nD τ).loc main_arg4) (ix2 r ⟨1408 * p.val + k.val, by omega⟩) := by
  show StableHlo.after hostOps0 _ (Proc.tc.devRef main_v16) _ = _
  unfold hostOps0
  after_results
  pointwise []
  fin_vals p with hp <;> simp only [hp, Nat.reduceSub, Nat.reduceLT, ↓reduceDIte, Fin.zero_eta]
  all_goals
    after_results_simp
    pointwise []

theorem t_lt (t : Fin cfg0.N) : t.val < 8 := lt_of_lt_of_eq t.isLt (by decide +kernel)

theorem pay7 (c : Dev nD) (t : Fin cfg0.N) (r : Fin 512) (l : Fin 1024) :
    k0_pay7 (iblk m c 0 t) (iblk m c 1 t) (iblk m c 2 t) (iblk m c 3 t) (iblk m c 4 t) (iblk m c 5 t) (ix2 r l)
    = dhv (m ((c : Thread nD τ).loc main_arg6)) (m ((c : Thread nD τ).loc main_arg4)) (ix2 ⟨512 * t.val + r.val, by have := t_lt t; omega⟩ l) := by
  have e0 : ∀ (p : Fin 2) (r : Fin 512) (k : Fin 2816), iblk m c 0 t (ix3 p r k)
      = m ((c : Thread nD τ).loc main_arg6) (ix2 ⟨512 * t.val + r.val, by have := t_lt t; omega⟩ ⟨2816 * p.val + k.val, by omega⟩) := fun p r k => by
    refine Eq.trans ?_ (host5 m c p _ k)
    blk_point [iblk, idx t]
  have e1 : ∀ (p : Fin 4) (o : Fin 1) (r : Fin 1024) (k : Fin 1408), iblk m c 1 t (ix4 p o r k)
      = m ((c : Thread nD τ).loc main_arg4) (ix2 r ⟨1408 * p.val + k.val, by omega⟩) := fun p o r k => by
    refine Eq.trans ?_ (host16 m c p o r k)
    blk_point [iblk, idx t]
  pointwise [k0_pay7, k0_pay1, dhv, e0, e1]
  exact (dhv_slabs _ _ _ _).symm

theorem emb6 (t : Fin cfg0.N) (r : Fin 512) (l : Fin 1024) :
    ((cfg0.win 6).blk t).view.emb (ix2 r l) = ix2 ⟨512 * t.val + r.val, by have := t_lt t; omega⟩ l := by
  blk_ext [idx t]

theorem pay4 (dh x dx : FVec Ideal S512x1024 .f32) (g sc : FVec Ideal S1x1024 .f32) (r : Fin 512) (l : Fin 1024) :
    k0_pay4 dh x dx g sc (ix2 r l)
      = rowDx (fun k => x (ix2 r k)) (fun k => dx (ix2 r k)) (fun k => dh (ix2 r k)) (fun k => g (ix2 0 k)) (fun k => sc (ix2 0 k)) l := by
  pointwise [k0_pay4, k0_pay3, k0_pay2, rowDx, rowRt]

theorem pay5 (dh : FVec Ideal S512x1024 .f32) (o p : Fin 1) (l : Fin 1024) : k0_pay5 dh (ix3 o p l) = ∑ k : Fin 512, dh (ix2 k l) := by
  pointwise [k0_pay5]

theorem pay6 (dh x : FVec Ideal S512x1024 .f32) (o p : Fin 1) (l : Fin 1024) :
    k0_pay6 dh x (ix3 o p l) = ∑ r : Fin 512, dh (ix2 r l) * (x (ix2 r l) * rowRt fun k => x (ix2 r k)) := by
  pointwise [k0_pay6, k0_pay3, k0_pay2, rowRt]

theorem b2 (c : Dev nD) (t : Fin cfg0.N) (r : Fin 512) (k : Fin 1024) : iblk m c 2 t (ix2 r k)
    = m ((c : Thread nD τ).loc main_arg0) (ix2 ⟨512 * t.val + r.val, by have := t_lt t; omega⟩ k) := by
  blk_point [iblk, V, idx t]

theorem b3 (c : Dev nD) (t : Fin cfg0.N) (r : Fin 512) (k : Fin 1024) : iblk m c 3 t (ix2 r k)
    = m ((c : Thread nD τ).loc main_arg5) (ix2 ⟨512 * t.val + r.val, by have := t_lt t; omega⟩ k) := by
  blk_point [iblk, V, idx t]

theorem b4 (c : Dev nD) (t : Fin cfg0.N) (o : Fin 1) (k : Fin 1024) : iblk m c 4 t (ix2 o k) = m ((c : Thread nD τ).loc main_arg1) (ix2 o k) := by
  blk_point [iblk, V, idx t]

theorem b5 (c : Dev nD) (t : Fin cfg0.N) (o : Fin 1) (k : Fin 1024) : iblk m c 5 t (ix2 o k) = m ((c : Thread nD τ).loc main_arg2) (ix2 o k) := by
  blk_point [iblk, V, idx t]

theorem final6 (c : Dev nD) : (dats m 0 c).arrAt 6 (cfgs 0).N
    = dxin (m ((c : Thread nD τ).loc main_arg0)) (m ((c : Thread nD τ).loc main_arg5))
        (dhv (m ((c : Thread nD τ).loc main_arg6)) (m ((c : Thread nD τ).loc main_arg4)))
        (m ((c : Thread nD τ).loc main_arg1)) (m ((c : Thread nD τ).loc main_arg2)) := by
  refine (dats m 0 c).arrAt_eq_of_covers 6 _ (by decide +kernel) fun t _ y => ?_
  blk_simp
  rw [after0_6]; frame_out
  idx_vars y
  rw [pay4, emb6]
  simp only [dxin, b2, b3, b4, b5, pay7]
  rfl

theorem emb7 (t : Fin cfg0.N) (o p : Fin 1) (l : Fin 1024) :
    ((cfg0.win 7).blk t).view.emb (ix3 o p l) = ix3 ⟨t.val, t_lt t⟩ 0 l := by
  obtain rfl : o = 0 := Subsingleton.elim _ _
  obtain rfl : p = 0 := Subsingleton.elim _ _
  blk_ext [idx t]

theorem emb8 (t : Fin cfg0.N) (o p : Fin 1) (l : Fin 1024) :
    ((cfg0.win 8).blk t).view.emb (ix3 o p l) = ix3 ⟨t.val, t_lt t⟩ 0 l := by
  obtain rfl : o = 0 := Subsingleton.elim _ _
  obtain rfl : p = 0 := Subsingleton.elim _ _
  blk_ext [idx t]

theorem final7 (c : Dev nD) : (dats m 0 c).arrAt 7 (cfgs 0).N
    = partSh (dhv (m ((c : Thread nD τ).loc main_arg6)) (m ((c : Thread nD τ).loc main_arg4))) := by
  refine (dats m 0 c).arrAt_eq_of_covers 7 _ (by decide +kernel) fun t _ y => ?_
  blk_simp
  rw [after0_7]; frame_out
  idx_vars y
  rw [pay5, emb7]
  simp only [partSh, pay7]
  rfl

theorem final8 (c : Dev nD) : (dats m 0 c).arrAt 8 (cfgs 0).N
    = partSc (m ((c : Thread nD τ).loc main_arg0)) (dhv (m ((c : Thread nD τ).loc main_arg6)) (m ((c : Thread nD τ).loc main_arg4))) := by
  refine (dats m 0 c).arrAt_eq_of_covers 8 _ (by decide +kernel) fun t _ y => ?_
  blk_simp
  rw [after0_8]; frame_out
  idx_vars y
  rw [pay6, emb8]
  simp only [partSc, b2, pay7, rt]
  rfl

/-- The tiles' partial sums, summed. -/
theorem sumSc (x dh : FVec Ideal S4096x1024 .f32) (r0 : Fin 1) (l : Fin 1024) :
    Host.reduceAdd (F := Ideal) (φ := .f32) (partSc x dh) (constant (F := Ideal) S_ .f32 0x00000000#32) reducesTo_S8x1x1024_S1x1024_d0 h_S_ (ix2 r0 l) = col x dh l := by
  pointwise [partSc, col]
  exact tiles (fun r => dh (ix2 r l) * (x (ix2 r l) * rt x r)) _

theorem sumSh (dh : FVec Ideal S4096x1024 .f32) (r0 : Fin 1) (l : Fin 1024) :
    Host.reduceAdd (F := Ideal) (φ := .f32) (partSh dh) (constant (F := Ideal) S_ .f32 0x00000000#32) reducesTo_S8x1x1024_S1x1024_d0 h_S_ (ix2 r0 l) = dshift dh (ix2 r0 l) := by
  pointwise [partSh, dshift]
  exact tiles (fun r => dh (ix2 r l)) _

end Cert.FNormIdeal.Value

end
-- ==== Proof.FNormTail.lean ====
/- The host lines after the kernel of `FNormIdeal`: the partial sums added up and scaled; its whole run. -/
module

public import proofs.«01_k».proof.Proof.FNormValue

@[expose] public section

set_option maxRecDepth 16384

noncomputable section

namespace Cert.FNormIdeal.Value

open Cert.FNormIdeal Cert.FNormIdeal.Gen Idealize.ShloMosaic Idealize.ShloMosaic.TcCoe Idealize.SL.Sem
open Cert.Norm (dxin partSh partSc dgain dscale dshift)

variable (m : (ℓ : Loc nD τ sig) → Buf (Elt Ideal) ℓ)

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w7 (c : Dev nD) : W m c (Proc.tc.devRef main_v17_1) = partSh (dhv (m ((c : Thread nD τ).loc main_arg6)) (m ((c : Thread nD τ).loc main_arg4))) :=
  (Pipeline.withArrays_arr _ arr_inj c _ _ 7).trans (final7 m c)

theorem w8 (c : Dev nD) : W m c (Proc.tc.devRef main_v17_2) = partSc (m ((c : Thread nD τ).loc main_arg0)) (dhv (m ((c : Thread nD τ).loc main_arg6)) (m ((c : Thread nD τ).loc main_arg4))) :=
  (Pipeline.withArrays_arr _ arr_inj c _ _ 8).trans (final8 m c)

theorem w4 (c : Dev nD) : W m c (Proc.tc.devRef main_arg1) = (m ((c : Thread nD τ).loc main_arg1)) :=
  (Pipeline.withArrays_arr _ arr_inj c _ _ 4).trans ((Pipeline.Dat.arrAt_in _ _ rfl _).trans (V_main_arg1 m c))

theorem w5 (c : Dev nD) : W m c (Proc.tc.devRef main_arg2) = (m ((c : Thread nD τ).loc main_arg2)) :=
  (Pipeline.withArrays_arr _ arr_inj c _ _ 5).trans ((Pipeline.Dat.arrAt_in _ _ rfl _).trans (V_main_arg2 m c))

theorem tail_gain (c : Dev nD) : Pipeline.afterTail₀ cfgs (dats m) 0 (V0 m) [hostOps1] c main_v21 = dgain (m ((c : Thread nD τ).loc main_arg0)) (dhv (m ((c : Thread nD τ).loc main_arg6)) (m ((c : Thread nD τ).loc main_arg4))) (m ((c : Thread nD τ).loc main_arg2)) := by
  show StableHlo.after hostOps1 (W m c) (Proc.tc.devRef main_v21) = _
  unfold hostOps1
  after_results
  rw [w8 m c, w5 m c]
  funext i
  idx_vars i
  pointwise [dgain, sumSc]

theorem tail_scale (c : Dev nD) : Pipeline.afterTail₀ cfgs (dats m) 0 (V0 m) [hostOps1] c main_v22 = dscale (m ((c : Thread nD τ).loc main_arg0)) (dhv (m ((c : Thread nD τ).loc main_arg6)) (m ((c : Thread nD τ).loc main_arg4))) (m ((c : Thread nD τ).loc main_arg1)) := by
  show StableHlo.after hostOps1 (W m c) (Proc.tc.devRef main_v22) = _
  unfold hostOps1
  after_results
  rw [w8 m c, w4 m c]
  funext i
  idx_vars i
  pointwise [dscale, sumSc]

theorem tail_shift (c : Dev nD) : Pipeline.afterTail₀ cfgs (dats m) 0 (V0 m) [hostOps1] c main_v23 = dshift (dhv (m ((c : Thread nD τ).loc main_arg6)) (m ((c : Thread nD τ).loc main_arg4))) := by
  show StableHlo.after hostOps1 (W m c) (Proc.tc.devRef main_v23) = _
  unfold hostOps1
  after_results
  rw [w7 m c]
  funext i
  idx_vars i
  exact sumSh _ _ _

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v17_0) = dxin (m ((c : Thread nD τ).loc main_arg0)) (m ((c : Thread nD τ).loc main_arg5)) (dhv (m ((c : Thread nD τ).loc main_arg6)) (m ((c : Thread nD τ).loc main_arg4))) (m ((c : Thread nD τ).loc main_arg1)) (m ((c : Thread nD τ).loc main_arg2))
      ∧ r.2.mem ((c.tc : Thread nD τ).loc main_v21) = dgain (m ((c : Thread nD τ).loc main_arg0)) (dhv (m ((c : Thread nD τ).loc main_arg6)) (m ((c : Thread nD τ).loc main_arg4))) (m ((c : Thread nD τ).loc main_arg2))
      ∧ r.2.mem ((c.tc : Thread nD τ).loc main_v22) = dscale (m ((c : Thread nD τ).loc main_arg0)) (dhv (m ((c : Thread nD τ).loc main_arg6)) (m ((c : Thread nD τ).loc main_arg4))) (m ((c : Thread nD τ).loc main_arg1))
      ∧ r.2.mem ((c.tc : Thread nD τ).loc main_v23) = dshift (dhv (m ((c : Thread nD τ).loc main_arg6)) (m ((c : Thread nD τ).loc main_arg4))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) := by
  refine (θ_run defs _ _).mono (fun r h c => ⟨⟨?_, ?_, ?_, ?_⟩, h.2 c⟩) (θ_run_and (run_main m ρ) (unchanged m ρ))
  · exact ((h.1 c).1 6).trans (final6 m c)
  · exact ((h.1 c).2 main_v21 (by decide)).trans (tail_gain m c)
  · exact ((h.1 c).2 main_v22 (by decide)).trans (tail_scale m c)
  · exact ((h.1 c).2 main_v23 (by decide)).trans (tail_shift m c)

end Cert.FNormIdeal.Value

end
-- ==== Proof.FNormPure.lean ====
/- The reference `FNormRefIdeal` computes the same gradients, wherever the row, the norm's scale, the modulation's scale, the weight and
   the cotangent are finite: there all are real numbers, and the two ways to write the gradient of the norm agree. -/
module

public import proofs.«01_k».proof.Proof.FNormTail
public import proofs.«01_k».proof.Proof.Gen.FNormRefIdeal.Read

@[expose] public section

set_option maxRecDepth 16384

noncomputable section

namespace Cert.FNormIdeal.Pure

open Cert.FNormIdeal.Value Cert.FNormRefIdeal Cert.FNormRefIdeal.Read Cert.Reals Idealize.ShloMosaic
open Cert.Norm (rowRt rt refMs refDx refGain refScale dxin dgain dscale dshift)

theorem dot_eq (w : FVec Ideal S1024x5632 .f32) (dp : FVec Ideal S4096x5632 .f32) : val_main_v24 (F := Ideal) w dp = dhv dp w := by
  funext i
  idx_vars i
  pointwise [val_main_v24, dhv]

theorem dx_ref (x dx : FVec Ideal S4096x1024 .f32) (g sc : FVec Ideal S1x1024 .f32) (w : FVec Ideal S1024x5632 .f32) (dp : FVec Ideal S4096x5632 .f32) :
    val_main_v51 (F := Ideal) x g sc w dx dp = refDx x dx (dhv dp w) g sc := by
  rw [← dot_eq]
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_3, val_main_v15, val_main_v16, val_main_v30, val_main_v31, val_main_v35, val_main_v36, val_main_v37, val_main_cst_7, val_main_v38, val_main_v39, val_main_v40, val_main_v41, val_main_v42, val_main_v43, val_main_cst_8, val_main_v44, val_main_v45, val_main_cst_9, val_main_v46, val_main_v47, val_main_v48, val_main_v49, val_main_v50, val_main_v51, refDx, refMs, rt, rowRt]

theorem dgain_ref (x : FVec Ideal S4096x1024 .f32) (sc : FVec Ideal S1x1024 .f32) (w : FVec Ideal S1024x5632 .f32) (dp : FVec Ideal S4096x5632 .f32) :
    val_main_v34 (F := Ideal) x sc w dp = refGain x (dhv dp w) sc := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_cst_3, val_main_v15, val_main_v16, val_main_v30, val_main_v31, val_main_v32, val_main_cst_6, val_main_v33, val_main_v34, refGain, rt, rowRt]

theorem dscale_ref (x : FVec Ideal S4096x1024 .f32) (g : FVec Ideal S1x1024 .f32) (w : FVec Ideal S1024x5632 .f32) (dp : FVec Ideal S4096x5632 .f32) :
    val_main_v29 (F := Ideal) x g w dp = refScale x (dhv dp w) g := by
  rw [← dot_eq]
  funext i
  idx_vars i
  pointwise! [val_main_v0, val_main_cst, val_main_v1, val_main_v2, val_main_cst_0, val_main_v3, val_main_v4, val_main_cst_1, val_main_v5, val_main_v6, val_main_v7, val_main_v11, val_main_v12, val_main_v13, val_main_v14, val_main_v27, val_main_cst_5, val_main_v28, val_main_v29, refScale, rt, rowRt]

theorem dshift_ref (w : FVec Ideal S1024x5632 .f32) (dp : FVec Ideal S4096x5632 .f32) : val_main_v26 (F := Ideal) w dp = dshift (dhv dp w) := by
  rw [← dot_eq]
  funext i
  idx_vars i
  pointwise [val_main_cst_4, val_main_v25, val_main_v26, dshift]

theorem dhv_real (dp : S4096x5632.Idx → ℝ) (w : S1024x5632.Idx → ℝ) :
    dhv (fun i => (dp i : EReal)) (fun i => (w i : EReal)) = fun i : S4096x1024.Idx => ((∑ k : Fin 5632, dp (ix2 (i 0) k) * w (ix2 (i 1) k) : ℝ) : EReal) := by
  funext i
  simp only [dhv, ← EReal.coe_mul, sum_real]

end Cert.FNormIdeal.Pure

end
-- ==== Proof.FNormClaim.lean ====
/- The claims about `FNorm`. -/
module

public import proofs.«01_k».proof.Defs
public import proofs.«01_k».proof.Proof.Gen.Pre_fn_finite
public import proofs.«01_k».proof.Proof.FNormPure

@[expose] public section

set_option maxRecDepth 16384

noncomputable section

namespace Cert.FNormIdeal

open Cert.Reals Idealize.ShloMosaic Idealize.ShloMosaic.TcCoe Idealize.SL.Sem

theorem algebraic : Cert.algebraic_FNormIdeal_FNormRefIdeal_pre_fn_finite (hFNormIdeal := Cert.FNormIdeal.Gen.facts)
    (hFNormRefIdeal := Cert.FNormRefIdeal.Gen.facts) (hPre_fn_finite := Cert.Pre_fn_finite.Gen.facts) := by
  pair_intro
  · run_from Cert.FNormIdeal.Value.run m g
  · refine θ_run_mono (Cert.FNormRefIdeal.Value.run m' g') fun r h c => ?_
    obtain ⟨h1, h2, h3, h4, ha⟩ := h c
    obtain ⟨e0, e1, e2, e3, e4, e5, e6⟩ := hagree c
    obtain ⟨f0, f1, f2, f4, f6⟩ := hpre c
    obtain ⟨x, hx⟩ := real_of_finite _ _ f0
    obtain ⟨gn, hg⟩ := real_of_finite _ _ f1
    obtain ⟨sc, hsc⟩ := real_of_finite _ _ f2
    obtain ⟨w, hw⟩ := real_of_finite _ _ f4
    obtain ⟨dp, hdp⟩ := real_of_finite _ _ f6
    refine ⟨h1.trans ?_, h2.trans ?_, h3.trans ?_, h4.trans ?_, ha⟩
    · rw [Cert.FNormRefIdeal.Read.val_main_v51_eq, e0, e1, e2, e4, e5, e6, Pure.dx_ref, hx, hg, hsc, hw, hdp, Pure.dhv_real]
      exact Cert.Norm.dx_eq x _ gn sc _
    · refine (Cert.FNormRefIdeal.Read.val_main_v34_eq _ _ _ _ ).trans ?_
      rw [e0, e2, e4, e6, Pure.dgain_ref, hx, hsc, hw, hdp, Pure.dhv_real]
      exact Cert.Norm.dgain_eq x _ sc
    · refine (Cert.FNormRefIdeal.Read.val_main_v29_eq _ _ _ _ ).trans ?_
      rw [e0, e1, e4, e6, Pure.dscale_ref, hx, hg, hw, hdp, Pure.dhv_real]
      exact Cert.Norm.dscale_eq x _ gn
    · refine (Cert.FNormRefIdeal.Read.val_main_v26_eq _ _ ).trans ?_
      rw [e4, e6]
      exact Pure.dshift_ref _ _

end Cert.FNormIdeal

end
-- ==== Proof.LossGrad.lean ====
/- The half mean squared error of the normalised rows, its gradient, and its partial sums by tiles of 512 rows, as functions of the
   arrays. -/
module

public import proofs.«01_k».proof.Proof.NormParts

@[expose] public section

set_option maxRecDepth 16384

noncomputable section

namespace Cert.Loss

open Cert.Reals Cert.Norm Idealize.ShloMosaic

abbrev S1024 : Shape := ⟨1, ![1024]⟩

/-- The error of one row. -/
def err (x g t : Fin 1024 → EReal) (l : Fin 1024) : EReal :=
  x l * rowRt x * g l - t l

/-- The gradient of the row's loss in its output: the error over the width. -/
def dout (x g t : Fin 1024 → EReal) (l : Fin 1024) : EReal :=
  err x g t l * Ideal.ofBits .f32 0x3A800000#32

/-- The gradient of the row's loss in the row. -/
def rowDx (x g t : Fin 1024 → EReal) (l : Fin 1024) : EReal :=
  rowRt x * (dout x g t l * g l
    - x l * rowRt x * Ideal.div (∑ k, dout x g t k * g k * (x k * rowRt x)) (Ideal.ofBits .f32 0x44800000#32))

/-- The rows of the arrays. -/
def errs (x t : FVec Ideal S4096x1024 .f32) (g : FVec Ideal S1024 .f32) (r : Fin 4096) (l : Fin 1024) : EReal :=
  err (fun k => x (ix2 r k)) (fun k => g (ix1 k)) (fun k => t (ix2 r k)) l

def douts (x t : FVec Ideal S4096x1024 .f32) (g : FVec Ideal S1024 .f32) (r : Fin 4096) (l : Fin 1024) : EReal :=
  dout (fun k => x (ix2 r k)) (fun k => g (ix1 k)) (fun k => t (ix2 r k)) l

/-- The gradient of the loss in the rows. -/
def dx (x t : FVec Ideal S4096x1024 .f32) (g : FVec Ideal S1024 .f32) (i : S4096x1024.Idx) : EReal :=
  rowDx (fun k => x (ix2 (i 0) k)) (fun k => g (ix1 k)) (fun k => t (ix2 (i 0) k)) (i 1)

/-- A tile's sum of the squared errors. -/
def partLoss (x t : FVec Ideal S4096x1024 .f32) (g : FVec Ideal S1024 .f32) (i : S8x1x1024.Idx) : EReal :=
  ∑ k : Fin 512, (fun r : Fin 4096 => errs x t g r (i 2) * errs x t g r (i 2))
    ⟨512 * (i 0).val + k.val, by have := (i 0).isLt; have := k.isLt; simp at *; omega⟩

/-- A tile's sum of the gradient of the norm's scale. -/
def partGain (x t : FVec Ideal S4096x1024 .f32) (g : FVec Ideal S1024 .f32) (i : S8x1x1024.Idx) : EReal :=
  ∑ k : Fin 512, (fun r : Fin 4096 => douts x t g r (i 2) * (x (ix2 r (i 2)) * rt x r))
    ⟨512 * (i 0).val + k.val, by have := (i 0).isLt; have := k.isLt; simp at *; omega⟩

/-- The gradient of the norm's scale. -/
def gain (x t : FVec Ideal S4096x1024 .f32) (g : FVec Ideal S1024 .f32) (i : S1024.Idx) : EReal :=
  ∑ r : Fin 4096, douts x t g r (i 0) * (x (ix2 r (i 0)) * rt x r)

/-- The loss: the squared errors of all columns, over twice the width. -/
def loss (x t : FVec Ideal S4096x1024 .f32) (g : FVec Ideal S1024 .f32) : EReal :=
  Ideal.ofBits .f32 0x3A000000#32 * ∑ l : Fin 1024, ∑ r : Fin 4096, errs x t g r l * errs x t g r l

/-- The gradient in the row's output, as the chain rule line by line writes it. -/
def refOut (x t : FVec Ideal S4096x1024 .f32) (g : FVec Ideal S1024 .f32) (r : Fin 4096) (l : Fin 1024) : EReal :=
  Ideal.div (Ideal.ofBits .f32 0x3F000000#32 * Ideal.ofBits .f32 0x3F800000#32) (Ideal.ofBits .f32 0x44800000#32)
    * (Ideal.ofBits .f32 0x40000000#32 * errs x t g r l)

/-- The gradient of the row's mean square, as the chain rule line by line writes it. -/
def refMs (x t : FVec Ideal S4096x1024 .f32) (g : FVec Ideal S1024 .f32) (r : Fin 4096) : EReal :=
  ∑ _j : Fin 1, Ideal.div ((∑ k : Fin 1024, x (ix2 r k) * (refOut x t g r k * g (ix1 k))) *
    (Ideal.ofBits .f32 0xBF000000#32 * Ideal.div (rt x r) (Ideal.div (∑ k : Fin 1024, x (ix2 r k) * x (ix2 r k)) (Ideal.ofBits .f32 0x44800000#32) + Ideal.ofBits .f32 0x358637BD#32)))
    (Ideal.ofBits .f32 0x44800000#32)

/-- The gradient of the row, as the chain rule line by line writes it. -/
def refDx (x t : FVec Ideal S4096x1024 .f32) (g : FVec Ideal S1024 .f32) (i : S4096x1024.Idx) : EReal :=
  refOut x t g (i 0) (i 1) * g (ix1 (i 1)) * rt x (i 0) + x (ix2 (i 0) (i 1)) * refMs x t g (i 0) + refMs x t g (i 0) * x (ix2 (i 0) (i 1))

/-- The gradient of the norm's scale, as the chain rule line by line writes it. -/
def refGain (x t : FVec Ideal S4096x1024 .f32) (g : FVec Ideal S1024 .f32) (i : S1024.Idx) : EReal :=
  ∑ _j : Fin 1, ∑ r : Fin 4096, x (ix2 r (i 0)) * rt x r * refOut x t g r (i 0)

/-- The loss: half the sum of the rows' means. -/
def refLoss (x t : FVec Ideal S4096x1024 .f32) (g : FVec Ideal S1024 .f32) : EReal :=
  Ideal.ofBits .f32 0x3F000000#32 * ∑ r : Fin 4096, Ideal.div (∑ l : Fin 1024, errs x t g r l * errs x t g r l) (Ideal.ofBits .f32 0x44800000#32)

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

section
variable (x t : S4096x1024.Idx → ℝ) (g : S1024.Idx → ℝ)

/-- The reciprocal root mean square of a row of real numbers. -/
def rtR (r : Fin 4096) : ℝ := (√((∑ k, x (ix2 r k) * x (ix2 r k)) / 1024 + eps))⁻¹

/-- The error of real rows. -/
def errR (r : Fin 4096) (l : Fin 1024) : ℝ := x (ix2 r l) * rtR x r * g (ix1 l) - t (ix2 r l)

theorem rt_real (r : Fin 4096) : rowRt (fun k => ((x (ix2 r k) : ℝ) : EReal)) = ((rtR x r : ℝ) : EReal) := by
  have hp := ms_pos fun k => x (ix2 r k)
  simp only [rowRt, ofBits_eps, ofBits_1024, ← EReal.coe_mul, ← EReal.coe_add, sum_real, div_real (show (1024 : ℝ) ≠ 0 by norm_num), rsqrt_pos hp, rtR]

theorem errs_real (r : Fin 4096) (l : Fin 1024) :
    errs (fun i => (x i : EReal)) (fun i => (t i : EReal)) (fun i => (g i : EReal)) r l = ((errR x t g r l : ℝ) : EReal) := by
  simp only [errs, err, rt_real, ← EReal.coe_mul, ← EReal.coe_sub, errR]

theorem douts_real (r : Fin 4096) (l : Fin 1024) :
    douts (fun i => (x i : EReal)) (fun i => (t i : EReal)) (fun i => (g i : EReal)) r l = ((errR x t g r l / 1024 : ℝ) : EReal) := by
  have e := errs_real x t g r l
  unfold errs at e
  simp only [douts, dout, e, ofBits_inv1024, ← EReal.coe_mul, mul_one_div]

theorem refOut_real (r : Fin 4096) (l : Fin 1024) :
    refOut (fun i => (x i : EReal)) (fun i => (t i : EReal)) (fun i => (g i : EReal)) r l = ((errR x t g r l / 1024 : ℝ) : EReal) := by
  simp only [refOut, errs_real, ofBits_half, ofBits_one, ofBits_1024, ofBits_two, ← EReal.coe_mul, div_real (show (1024 : ℝ) ≠ 0 by norm_num)]
  exact congrArg _ (by ring)

theorem dx_eq : refDx (fun i => (x i : EReal)) (fun i => (t i : EReal)) (fun i => (g i : EReal))
    = dx (fun i => (x i : EReal)) (fun i => (t i : EReal)) (fun i => (g i : EReal)) := by
  funext i
  idx_vars i
  have hp : ∀ r : Fin 4096, 0 < (∑ k, x (ix2 r k) * x (ix2 r k)) / 1024 + eps := fun r => ms_pos fun k => x (ix2 r k)
  have e : ∀ l, dout (fun k => ((x (ix2 i0 k) : ℝ) : EReal)) (fun k => ((g (ix1 k) : ℝ) : EReal)) (fun k => ((t (ix2 i0 k) : ℝ) : EReal)) l
      = ((errR x t g i0 l / 1024 : ℝ) : EReal) := douts_real x t g i0
  simp only [refDx, refMs, dx, rowDx, e, refOut_real, rt, rt_real, ix2_0, ix2_1, ofBits_eps, ofBits_1024, ofBits_neg_half, ← EReal.coe_mul, ← EReal.coe_add, ← EReal.coe_sub, sum_real,
    div_real (show (1024 : ℝ) ≠ 0 by norm_num), fun (r : Fin 4096) (y : ℝ) => div_real (a := y) (hp r).ne', Finset.univ_unique, Finset.sum_singleton]
  refine congrArg _ ?_
  have h := norm_real (fun k => x (ix2 i0 k)) (fun k => errR x t g i0 k / 1024) (fun k => g (ix1 k)) (fun _ => 0) i1
  simp only [add_zero, mul_one] at h
  exact h.symm

theorem gain_eq : refGain (fun i => (x i : EReal)) (fun i => (t i : EReal)) (fun i => (g i : EReal))
    = gain (fun i => (x i : EReal)) (fun i => (t i : EReal)) (fun i => (g i : EReal)) := by
  funext i
  idx_vars i
  simp only [refGain, gain, ix1_0, refOut_real, douts_real, rt, rt_real, Finset.univ_unique, Finset.sum_singleton, ← EReal.coe_mul, sum_real]
  exact congrArg _ (Finset.sum_congr rfl fun k _ => by ring)

theorem loss_eq : refLoss (fun i => (x i : EReal)) (fun i => (t i : EReal)) (fun i => (g i : EReal))
    = loss (fun i => (x i : EReal)) (fun i => (t i : EReal)) (fun i => (g i : EReal)) := by
  simp only [refLoss, loss, errs_real, ofBits_half, ofBits_1024, ofBits_inv2048, ← EReal.coe_mul, sum_real, div_real (show (1024 : ℝ) ≠ 0 by norm_num)]
  refine congrArg _ ?_
  rw [Finset.sum_comm (γ := Fin 1024), ← Finset.sum_div]
  ring

end

end Cert.Loss

end
-- ==== Proof.LossHeadValue.lean ====
/- What `LossHeadIdeal` leaves in each result, as sums over the argument arrays. -/
module

public import proofs.«01_k».proof.Proof.LossGrad
public import proofs.«01_k».proof.Proof.Gen.LossHeadIdeal.Frame
public import Idealize.ShloMosaic.Lib.Pipeline.ValueKit
public import Idealize.ShloMosaic.Lib.Pointwise
public import Idealize.ShloMosaic.Lib.Claim

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Cert.Norm (rowRt rt tiles)
open Cert.Loss (err dout rowDx errs douts dx partLoss partGain gain loss)
open Idealize.ShloMosaic.Pipeline (Dat)

theorem idx : ∀ t : Fin cfg0.N, win0_0.index t = ![t.val, 0] ∧ win0_1.index t = ![0, 0] ∧ win0_2.index t = ![t.val, 0]
    ∧ win0_3.index t = ![t.val, 0] ∧ win0_4.index t = ![t.val, 0, 0] ∧ win0_5.index t = ![t.val, 0, 0] :=
  (by decide +kernel : ∀ t : Fin grid0.N, _)

theorem t_lt (t : Fin cfg0.N) : t.val < 8 := lt_of_lt_of_eq t.isLt (by decide +kernel)

theorem pay8 (x : FVec Ideal S512x1024 .f32) (g : FVec Ideal S1x1024 .f32) (t : FVec Ideal S512x1024 .f32) (r : Fin 512) (l : Fin 1024) :
    k0_pay8 (F := Ideal) x g t (ix2 r l) = rowDx (fun k => x (ix2 r k)) (fun k => g (ix2 0 k)) (fun k => t (ix2 r k)) l := by
  pointwise [k0_pay8, k0_pay7, k0_pay6, k0_pay5, k0_pay4, k0_pay3, rowDx, dout, err, rowRt]

theorem pay9 (x : FVec Ideal S512x1024 .f32) (g : FVec Ideal S1x1024 .f32) (t : FVec Ideal S512x1024 .f32) (o p : Fin 1) (l : Fin 1024) :
    k0_pay1 (k0_pay9 (F := Ideal) x g t) (ix3 o p l)
      = ∑ r : Fin 512, err (fun k => x (ix2 r k)) (fun k => g (ix2 0 k)) (fun k => t (ix2 r k)) l
          * err (fun k => x (ix2 r k)) (fun k => g (ix2 0 k)) (fun k => t (ix2 r k)) l := by
  pointwise [k0_pay1, k0_pay9, k0_pay6, k0_pay5, k0_pay4, k0_pay3, err, rowRt]

theorem pay10 (x : FVec Ideal S512x1024 .f32) (g : FVec Ideal S1x1024 .f32) (t : FVec Ideal S512x1024 .f32) (o p : Fin 1) (l : Fin 1024) :
    k0_pay2 (k0_pay10 (F := Ideal) x g t) (ix3 o p l)
      = ∑ r : Fin 512, dout (fun k => x (ix2 r k)) (fun k => g (ix2 0 k)) (fun k => t (ix2 r k)) l * (x (ix2 r l) * rowRt fun k => x (ix2 r k)) := by
  pointwise [k0_pay2, k0_pay10, k0_pay7, k0_pay6, k0_pay5, k0_pay4, k0_pay3, dout, err, rowRt]

variable (m : (ℓ : Loc nD τ sig) → Buf (Elt Ideal) ℓ)

theorem host0 (c : Dev nD) (o : Fin 1) (k : Fin 1024) : V m c main_v0 (ix2 o k) = m ((c : Thread nD τ).loc main_arg1) (ix1 k) := by
  show StableHlo.after hostOps0 _ (Proc.tc.devRef main_v0) _ = _
  unfold hostOps0
  after_results
  pointwise []

theorem b0 (c : Dev nD) (t : Fin cfg0.N) (r : Fin 512) (k : Fin 1024) : iblk m c 0 t (ix2 r k)
    = m ((c : Thread nD τ).loc main_arg0) (ix2 ⟨512 * t.val + r.val, by have := t_lt t; omega⟩ k) := by
  refine Eq.trans ?_ (congrFun (V_main_arg0 m c) _)
  blk_point [iblk, idx t]

theorem b1 (c : Dev nD) (t : Fin cfg0.N) (o : Fin 1) (k : Fin 1024) : iblk m c 1 t (ix2 o k) = m ((c : Thread nD τ).loc main_arg1) (ix1 k) := by
  refine Eq.trans ?_ (host0 m c o k)
  blk_point [iblk, idx t]

theorem b2 (c : Dev nD) (t : Fin cfg0.N) (r : Fin 512) (k : Fin 1024) : iblk m c 2 t (ix2 r k)
    = m ((c : Thread nD τ).loc main_arg2) (ix2 ⟨512 * t.val + r.val, by have := t_lt t; omega⟩ k) := by
  refine Eq.trans ?_ (congrFun (V_main_arg2 m c) _)
  blk_point [iblk, idx t]

theorem emb3 (t : Fin cfg0.N) (r : Fin 512) (l : Fin 1024) : ((cfg0.win 3).blk t).view.emb (ix2 r l) = ix2 ⟨512 * t.val + r.val, by have := t_lt t; omega⟩ l := by
  blk_ext [idx t]

theorem emb4 (t : Fin cfg0.N) (o p : Fin 1) (l : Fin 1024) : ((cfg0.win 4).blk t).view.emb (ix3 o p l) = ix3 ⟨t.val, t_lt t⟩ p l := by
  blk_ext [idx t]

theorem emb5 (t : Fin cfg0.N) (o p : Fin 1) (l : Fin 1024) : ((cfg0.win 5).blk t).view.emb (ix3 o p l) = ix3 ⟨t.val, t_lt t⟩ p l := by
  blk_ext [idx t]

theorem final3 (c : Dev nD) : (dats m 0 c).arrAt 3 (cfgs 0).N
    = dx (m ((c : Thread nD τ).loc main_arg0)) (m ((c : Thread nD τ).loc main_arg2)) (m ((c : Thread nD τ).loc main_arg1)) := by
  refine (dats m 0 c).arrAt_eq_of_covers 3 _ (by decide +kernel) fun t _ y => ?_
  blk_simp
  rw [after0_3]; frame_out
  idx_vars y
  rw [pay8, emb3]
  simp only [dx, b0, b1, b2]
  rfl

theorem final4 (c : Dev nD) : (dats m 0 c).arrAt 4 (cfgs 0).N
    = partLoss (m ((c : Thread nD τ).loc main_arg0)) (m ((c : Thread nD τ).loc main_arg2)) (m ((c : Thread nD τ).loc main_arg1)) := by
  refine (dats m 0 c).arrAt_eq_of_covers 4 _ (by decide +kernel) fun t _ y => ?_
  blk_simp
  rw [after0_4]; frame_out
  idx_vars y
  rw [pay9, emb4]
  simp only [partLoss, errs, b0, b1, b2]
  rfl

theorem final5 (c : Dev nD) : (dats m 0 c).arrAt 5 (cfgs 0).N
    = partGain (m ((c : Thread nD τ).loc main_arg0)) (m ((c : Thread nD τ).loc main_arg2)) (m ((c : Thread nD τ).loc main_arg1)) := by
  refine (dats m 0 c).arrAt_eq_of_covers 5 _ (by decide +kernel) fun t _ y => ?_
  blk_simp
  rw [after0_5]; frame_out
  idx_vars y
  rw [pay10, emb5]
  simp only [partGain, douts, rt, b0, b1, b2]
  rfl

/-- The tiles' partial sums, summed. -/
theorem sum5 (x t : FVec Ideal S4096x1024 .f32) (g : FVec Ideal S1024 .f32) (l : Fin 1024) :
    ∑ j : Fin 8, partGain x t g (ix3 j 0 l) = gain x t g (ix1 l) :=
  tiles (fun r => douts x t g r l * (x (ix2 r l) * rt x r)) fun j k => by omega

theorem sum4 (x t : FVec Ideal S4096x1024 .f32) (g : FVec Ideal S1024 .f32) (l : Fin 1024) :
    ∑ j : Fin 8, partLoss x t g (ix3 j 0 l) = ∑ r : Fin 4096, errs x t g r l * errs x t g r l :=
  tiles (fun r => errs x t g r l * errs x t g r l) fun j k => by omega

/-! ## The host lines after the kernel -/

theorem arr_inj : Function.Injective (Pipeline.arrRef (cfgs 0).spec) := by decide

/-- The memory after the kernel, as the host lines read it. -/
def W (c : Dev nD) : Valuation τ sig (Elt Ideal) :=
  Pipeline.withArrays (cfgs 0).spec c (V0 m c) fun w => (dats m 0 c).arrAt w (cfgs 0).N

theorem w4 (c : Dev nD) : W m c (Proc.tc.devRef main_v1_1)
    = partLoss (m ((c : Thread nD τ).loc main_arg0)) (m ((c : Thread nD τ).loc main_arg2)) (m ((c : Thread nD τ).loc main_arg1)) :=
  (Pipeline.withArrays_arr _ arr_inj c _ _ 4).trans (final4 m c)

theorem w5 (c : Dev nD) : W m c (Proc.tc.devRef main_v1_2)
    = partGain (m ((c : Thread nD τ).loc main_arg0)) (m ((c : Thread nD τ).loc main_arg2)) (m ((c : Thread nD τ).loc main_arg1)) :=
  (Pipeline.withArrays_arr _ arr_inj c _ _ 5).trans (final5 m c)

theorem tail_gain (c : Dev nD) : Pipeline.afterTail₀ cfgs (dats m) 0 (V0 m) [hostOps1] c main_v5
    = gain (m ((c : Thread nD τ).loc main_arg0)) (m ((c : Thread nD τ).loc main_arg2)) (m ((c : Thread nD τ).loc main_arg1)) := by
  show StableHlo.after hostOps1 (W m c) (Proc.tc.devRef main_v5) = _
  unfold hostOps1
  after_results
  rw [w5 m c]
  funext i
  idx_vars i
  pointwise [sum5]

/-- The loss as an array of no axes. -/
def lossArr (x t : FVec Ideal S4096x1024 .f32) (g : FVec Ideal S1024 .f32) (_ : S_.Idx) : EReal := loss x t g

theorem tail_loss (c : Dev nD) : Pipeline.afterTail₀ cfgs (dats m) 0 (V0 m) [hostOps1] c main_v3
    = lossArr (m ((c : Thread nD τ).loc main_arg0)) (m ((c : Thread nD τ).loc main_arg2)) (m ((c : Thread nD τ).loc main_arg1)) := by
  show StableHlo.after hostOps1 (W m c) (Proc.tc.devRef main_v3) = _
  unfold hostOps1
  after_results
  rw [w4 m c]
  funext i
  pointwise [lossArr, loss]
  refine congrArg _ ?_
  simp only [Finset.univ_unique, Finset.sum_singleton]
  rw [Finset.sum_comm]
  exact Finset.sum_congr rfl fun l _ => sum4 _ _ _ l

/-- The run: every result as a function of the arguments, and the arguments unchanged. -/
theorem run (ρ : Dev nD → PrngReg) : θ_run defs (onTc (τ := τ) (main (F := Ideal))) ⟨m, fun _ => 0, ρ⟩ (fun r => ∀ c : Dev nD,
      (r.2.mem ((c.tc : Thread nD τ).loc main_v3)
        = lossArr (m ((c : Thread nD τ).loc main_arg0)) (m ((c : Thread nD τ).loc main_arg2)) (m ((c : Thread nD τ).loc main_arg1))
      ∧ r.2.mem ((c.tc : Thread nD τ).loc main_v1_0)
        = dx (m ((c : Thread nD τ).loc main_arg0)) (m ((c : Thread nD τ).loc main_arg2)) (m ((c : Thread nD τ).loc main_arg1))
      ∧ r.2.mem ((c.tc : Thread nD τ).loc main_v5)
        = gain (m ((c : Thread nD τ).loc main_arg0)) (m ((c : Thread nD τ).loc main_arg2)) (m ((c : Thread nD τ).loc main_arg1)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) := by
  refine (θ_run defs _ _).mono (fun r h c => ⟨⟨?_, ?_, ?_⟩, h.2 c⟩) (θ_run_and (run_main m ρ) (unchanged m ρ))
  · exact ((h.1 c).2 main_v3 (by decide)).trans (tail_loss m c)
  · exact ((h.1 c).1 3).trans (final3 m c)
  · exact ((h.1 c).2 main_v5 (by decide)).trans (tail_gain m c)

end Cert.LossHeadIdeal.Value

end
-- ==== Proof.LossHeadPure.lean ====
/- The reference `LossHeadRefIdeal` computes the loss and the gradients its own way. -/
module

public import proofs.«01_k».proof.Proof.LossHeadValue
public import proofs.«01_k».proof.Proof.Gen.LossHeadRefIdeal.Read

@[expose] public section

set_option maxRecDepth 16384

noncomputable section

namespace Cert.LossHeadIdeal.Pure

open Cert.LossHeadIdeal.Value Cert.LossHeadRefIdeal Cert.LossHeadRefIdeal.Read Cert.Reals Idealize.ShloMosaic
open Cert.Norm (rowRt rt)
open Cert.Loss (err errs refOut refMs refDx refGain refLoss)

variable (x t : FVec Ideal S4096x1024 .f32) (g : FVec Ideal S1024 .f32)

theorem loss_ref : val_main_v24 (F := Ideal) x g t = fun _ => refLoss x t g := by
  funext i
  pointwise! [val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_v17, val_main_cst_4, val_main_v20, val_main_cst_5, val_main_v21, val_main_v22, val_main_cst_6, val_main_v23, val_main_cst_7, val_main_v24, refLoss, errs, err, rt, rowRt]

theorem dx_ref : val_main_v50 (F := Ideal) x g t = refDx x t g := by
  funext i
  idx_vars i
  pointwise! [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v18, val_main_v19, val_main_cst_8, val_main_cst_9, val_main_v25, val_main_v26, val_main_cst_10, val_main_v27, val_main_v28, val_main_v29, val_main_v30, val_main_v34, val_main_v35, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, refDx, refMs, refOut, errs, err, rt, rowRt]

theorem gain_ref : val_main_v36 (F := Ideal) x g t = refGain x t g := by
  funext i
  idx_vars i
  pointwise! [val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_cst_3, val_main_v18, val_main_v19, val_main_cst_8, val_main_cst_9, val_main_v25, val_main_v26, val_main_cst_10, val_main_v27, val_main_v28, val_main_v29, val_main_v30, val_main_v31, val_main_cst_11, val_main_v32, val_main_v33, val_main_cst_12, val_main_v36, refGain, refOut, errs, err, rt, rowRt]

end Cert.LossHeadIdeal.Pure

end
-- ==== Proof.LossHeadClaim.lean ====
/- The claims about `LossHead`. -/
module

public import proofs.«01_k».proof.Defs
public import proofs.«01_k».proof.Proof.Gen.Pre_loss_finite
public import proofs.«01_k».proof.Proof.LossHeadPure

@[expose] public section

set_option maxRecDepth 16384

noncomputable section

namespace Cert.LossHeadIdeal

open Cert.Reals Idealize.ShloMosaic Idealize.ShloMosaic.TcCoe Idealize.SL.Sem

theorem algebraic : Cert.algebraic_LossHeadIdeal_LossHeadRefIdeal_pre_loss_finite (hLossHeadIdeal := Cert.LossHeadIdeal.Gen.facts)
    (hLossHeadRefIdeal := Cert.LossHeadRefIdeal.Gen.facts) (hPre_loss_finite := Cert.Pre_loss_finite.Gen.facts) := by
  pair_intro
  · run_from Cert.LossHeadIdeal.Value.run m g
  · refine θ_run_mono (Cert.LossHeadRefIdeal.Value.run m' g') fun r h c => ?_
    obtain ⟨h1, h2, h3, ha⟩ := h c
    obtain ⟨e0, e1, e2⟩ := hagree c
    obtain ⟨f0, f1, f2⟩ := hpre c
    obtain ⟨x, hx⟩ := real_of_finite _ _ f0
    obtain ⟨g, hg⟩ := real_of_finite _ _ f1
    obtain ⟨t, ht⟩ := real_of_finite _ _ f2
    refine ⟨h1.trans ?_, h2.trans ?_, h3.trans ?_, ha⟩
    · refine (Cert.LossHeadRefIdeal.Read.val_main_v24_eq _ _ _).trans ?_
      rw [e0, e1, e2, Pure.loss_ref, hx, hg, ht]
      exact funext fun _ => Cert.Loss.loss_eq x t g
    · rw [Cert.LossHeadRefIdeal.Read.val_main_v50_eq, e0, e1, e2, Pure.dx_ref, hx, hg, ht]
      exact Cert.Loss.dx_eq x t g
    · refine (Cert.LossHeadRefIdeal.Read.val_main_v36_eq _ _ _).trans ?_
      rw [e0, e1, e2, Pure.gain_ref, hx, hg, ht]
      exact Cert.Loss.gain_eq x t g

end Cert.LossHeadIdeal

end
-- ==== Proof.PackSmallClaim.lean ====
/- The packed small gradients, entry by entry, and the claim about `PackSmall`. -/
module

public import proofs.«01_k».proof.Defs
public import proofs.«01_k».proof.Proof.Gen.PackSmallIdeal.Value
public import proofs.«01_k».proof.Proof.Gen.PackSmallRefIdeal.Run
public import Idealize.ShloMosaic.Lib.Claim
public import Idealize.ShloMosaic.Lib.Pipeline.ValueKit

@[expose] public section

set_option maxRecDepth 16384

noncomputable section

namespace Cert.PackSmallIdeal.Value

open Cert.PackSmallIdeal Cert.PackSmallIdeal.Gen Idealize.ShloMosaic Idealize.ShloMosaic.TcCoe Idealize.SL.Sem

variable (p : FVec Ideal S8x40x1024 .f32) (s d : FVec Ideal S40x1024 .f32)

/-- The scaled sum of the eight tiles' parts. -/
def scaled (r : Fin 40) (l : Fin 1024) : EReal := (∑ k : Fin 8, p (ix3 k r l)) * s (ix2 r l)

theorem pay_at (r : Fin 40) (l : Fin 1024) :
    k0_pay1 (F := Ideal) (View.ld p r0_0) (View.ld p r0_1) (View.ld p r0_2) (View.ld p r0_3) (View.ld p r0_4) (View.ld p r0_5) (View.ld p r0_6) (View.ld p r0_7) s (ix2 r l)
      = scaled p s r l := by
  pointwise [k0_pay1, scaled]
  refine congrArg (fun z : EReal => z * s (ix2 r l)) ?_
  rw [Fin.sum_univ_eight]

/-- The packed array: the scaled sums above the rows taken as they are. -/
def packed (i : S80x1024.Idx) : EReal := if h : (i 0).val < 40 then scaled p s ⟨(i 0).val, h⟩ (i 1) else d (ix2 ⟨(i 0).val - 40, by have := (i 0).isLt; simp at *; omega⟩ (i 1))

theorem kernel_at (i) : G3 (F := Ideal) p s d i = packed p s d i := by
  idx_vars i
  canon_tiles x h
  · idx_vars x
    obtain rfl : i1 = x1 := Fin.ext h1
    have hn : ¬ i0.val < 40 := by omega
    unfold packed
    rw [dif_neg (show ¬ ((ix2 i0 i1 : S80x1024.Idx) 0).val < 40 from hn)]
    refine congrArg d (funext fun a => ?_)
    fin_cases a
    · exact Fin.ext (by show x0.val = i0.val - 40; omega)
    · rfl
  · idx_vars x
    obtain rfl : i1 = x1 := Fin.ext h1
    have hn : i0.val < 40 := by omega
    obtain rfl : x0 = ⟨i0.val, hn⟩ := Fin.ext h0.symm
    unfold packed
    rw [dif_pos (show ((ix2 i0 i1 : S80x1024.Idx) 0).val < 40 from hn)]
    exact pay_at p s _ _

theorem ref_at (i) : concatenate Cert.PackSmallRefIdeal.S80x1024 0
    [⟨Cert.PackSmallRefIdeal.S40x1024, (mulf (F := Ideal) (Host.reduceAdd (F := Ideal) (φ := .f32) p (constant (F := Ideal) Cert.PackSmallRefIdeal.S_ .f32 0x00000000#32) Cert.PackSmallRefIdeal.Gen.facts.reducesTo_S8x40x1024_S40x1024_d0 Cert.PackSmallRefIdeal.Gen.facts.h_S_) s)⟩, ⟨Cert.PackSmallRefIdeal.S40x1024, d⟩]
    Cert.PackSmallRefIdeal.Gen.facts.concatenates_S40x1024_S40x1024_S80x1024_d0 i = packed p s d i := by
  idx_vars i
  pointwise [packed, scaled]

end Cert.PackSmallIdeal.Value

namespace Cert.PackSmallIdeal

open Idealize.ShloMosaic Idealize.ShloMosaic.TcCoe Idealize.SL.Sem

theorem algebraic : Cert.algebraic_PackSmallIdeal_PackSmallRefIdeal (hPackSmallIdeal := Cert.PackSmallIdeal.Gen.facts) (hPackSmallRefIdeal := Cert.PackSmallRefIdeal.Gen.facts) := by
  pair_intro
  · run_from Cert.PackSmallIdeal.Value.run m g
  · refine θ_run_mono (Cert.PackSmallRefIdeal.Value.run m' g') fun r h c => ?_
    obtain ⟨h1, ha⟩ := h c
    obtain ⟨e0, e1, e2⟩ := hagree c
    refine ⟨h1.trans ?_, ha⟩
    rw [e0, e1, e2]
    exact funext fun i => (Cert.PackSmallIdeal.Value.ref_at _ _ _ i).trans (Cert.PackSmallIdeal.Value.kernel_at _ _ _ i).symm

end Cert.PackSmallIdeal

end
-- ==== Proof.lean ====
/- The certificate: the frame of every kernel program and every reference, and the value claims proved in the modules
   under Proof/. -/
module

public import proofs.«01_k».proof.Defs
public import proofs.«01_k».proof.Proof.Gen.CNorm.Frame
public import proofs.«01_k».proof.Proof.Gen.CNormIdeal.Frame
public import proofs.«01_k».proof.Proof.Gen.CNormRefIdeal.Run
public import proofs.«01_k».proof.Proof.Gen.FNorm.Frame
public import proofs.«01_k».proof.Proof.Gen.FNormIdeal.Frame
public import proofs.«01_k».proof.Proof.Gen.FNormRefIdeal.Run
public import proofs.«01_k».proof.Proof.Gen.ANorm.Frame
public import proofs.«01_k».proof.Proof.Gen.ANormIdeal.Frame
public import proofs.«01_k».proof.Proof.Gen.ANormRefIdeal.Run
public import proofs.«01_k».proof.Proof.Gen.BProjNorm.Frame
public import proofs.«01_k».proof.Proof.Gen.BProjNormIdeal.Frame
public import proofs.«01_k».proof.Proof.Gen.BProjNormRefIdeal.Run
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.BNorm.Frame
public import proofs.«01_k».proof.Proof.Gen.BNormIdeal.Frame
public import proofs.«01_k».proof.Proof.Gen.FGate.Frame
public import proofs.«01_k».proof.Proof.Gen.FGateIdeal.Frame
public import proofs.«01_k».proof.Proof.Gen.FGateRefIdeal.Run
public import proofs.«01_k».proof.Proof.Gen.AGate.Frame
public import proofs.«01_k».proof.Proof.Gen.AGateIdeal.Frame
public import proofs.«01_k».proof.Proof.Gen.AGateRefIdeal.Run
public import proofs.«01_k».proof.Proof.Gen.BGate.Frame
public import proofs.«01_k».proof.Proof.Gen.BGateIdeal.Frame
public import proofs.«01_k».proof.Proof.Gen.BGateRefIdeal.Run
public import proofs.«01_k».proof.Proof.Gen.CGate.Frame
public import proofs.«01_k».proof.Proof.Gen.CGateIdeal.Frame
public import proofs.«01_k».proof.Proof.Gen.CGateRefIdeal.Run
public import proofs.«01_k».proof.Proof.Gen.AStrip.Frame
public import proofs.«01_k».proof.Proof.Gen.AStripIdeal.Frame
public import proofs.«01_k».proof.Proof.Gen.AStripRefIdeal.Run
public import proofs.«01_k».proof.Proof.Gen.BStrip.Frame
public import proofs.«01_k».proof.Proof.Gen.BStripIdeal.Frame
public import proofs.«01_k».proof.Proof.Gen.BStripRefIdeal.Run
public import proofs.«01_k».proof.Proof.Gen.CStrip.Frame
public import proofs.«01_k».proof.Proof.Gen.CStripIdeal.Frame
public import proofs.«01_k».proof.Proof.Gen.CStripRefIdeal.Run
public import proofs.«01_k».proof.Proof.Gen.CMod.Frame
public import proofs.«01_k».proof.Proof.Gen.CModIdeal.Frame
public import proofs.«01_k».proof.Proof.Gen.CModRefIdeal.Run
public import proofs.«01_k».proof.Proof.Gen.AIn.Frame
public import proofs.«01_k».proof.Proof.Gen.AInIdeal.Frame
public import proofs.«01_k».proof.Proof.Gen.AInRefIdeal.Run
public import proofs.«01_k».proof.Proof.Gen.BIn.Frame
public import proofs.«01_k».proof.Proof.Gen.BInIdeal.Frame
public import proofs.«01_k».proof.Proof.Gen.BInRefIdeal.Run
public import proofs.«01_k».proof.Proof.Gen.FIn.Frame
public import proofs.«01_k».proof.Proof.Gen.FInIdeal.Frame
public import proofs.«01_k».proof.Proof.Gen.FInRefIdeal.Run
public import proofs.«01_k».proof.Proof.Gen.CPool.Frame
public import proofs.«01_k».proof.Proof.Gen.CPoolIdeal.Frame
public import proofs.«01_k».proof.Proof.Gen.CPoolRefIdeal.Run
public import proofs.«01_k».proof.Proof.Gen.AConv.Frame
public import proofs.«01_k».proof.Proof.Gen.AConvIdeal.Frame
public import proofs.«01_k».proof.Proof.Gen.AConvRefIdeal.Run
public import proofs.«01_k».proof.Proof.Gen.BConv.Frame
public import proofs.«01_k».proof.Proof.Gen.BConvIdeal.Frame
public import proofs.«01_k».proof.Proof.Gen.BConvRefIdeal.Run
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamLayers.Frame
public import proofs.«01_k».proof.Proof.Gen.AdamLayersIdeal.Frame
public import proofs.«01_k».proof.Proof.Gen.AdamLayersRefIdeal.Run
public import proofs.«01_k».proof.Proof.Gen.AdaUpdate.Frame
public import proofs.«01_k».proof.Proof.Gen.AdaUpdateIdeal.Frame
public import proofs.«01_k».proof.Proof.Gen.AdaUpdateRefIdeal.Run
public import proofs.«01_k».proof.Proof.Gen.PackSmall.Frame
public import proofs.«01_k».proof.Proof.Gen.PackSmallIdeal.Frame
public import proofs.«01_k».proof.Proof.Gen.PackSmallRefIdeal.Run
public import proofs.«01_k».proof.Proof.Gen.Pre_n_finite
public import proofs.«01_k».proof.Proof.Gen.Pre_fn_finite
public import proofs.«01_k».proof.Proof.Gen.Pre_an_finite
public import proofs.«01_k».proof.Proof.Gen.Pre_bn_finite
public import proofs.«01_k».proof.Proof.Gen.Pre_loss_finite
public import proofs.«01_k».proof.Proof.Gen.Pre_ln_finite
public import proofs.«01_k».proof.Proof.Gen.Pre_f_finite
public import proofs.«01_k».proof.Proof.Gen.Pre_c_finite
public import proofs.«01_k».proof.Proof.Gen.Pre_cw_finite
public import proofs.«01_k».proof.Proof.AConvClaim
public import proofs.«01_k».proof.Proof.AGateClaim
public import proofs.«01_k».proof.Proof.AInClaim
public import proofs.«01_k».proof.Proof.ANormClaim
public import proofs.«01_k».proof.Proof.AStripClaim
public import proofs.«01_k».proof.Proof.AdaUpdateClaim
public import proofs.«01_k».proof.Proof.AdamClaim
public import proofs.«01_k».proof.Proof.AdamLayersClaim
public import proofs.«01_k».proof.Proof.BConvClaim
public import proofs.«01_k».proof.Proof.BGateClaim
public import proofs.«01_k».proof.Proof.BInClaim
public import proofs.«01_k».proof.Proof.BNormClaim
public import proofs.«01_k».proof.Proof.BProjNormClaim
public import proofs.«01_k».proof.Proof.BStripClaim
public import proofs.«01_k».proof.Proof.CGateClaim
public import proofs.«01_k».proof.Proof.CModValue
public import proofs.«01_k».proof.Proof.CNormClaim
public import proofs.«01_k».proof.Proof.CPoolClaim
public import proofs.«01_k».proof.Proof.CStripClaim
public import proofs.«01_k».proof.Proof.FGateClaim
public import proofs.«01_k».proof.Proof.FInClaim
public import proofs.«01_k».proof.Proof.FNormClaim
public import proofs.«01_k».proof.Proof.LossHeadClaim
public import proofs.«01_k».proof.Proof.PackSmallClaim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- A reference has its frame by its run: the arguments end unchanged there, and, since it declares no semaphore, no counter is off zero. -/
theorem claim : Cert.Claim :=
  ⟨Cert.CNorm.Gen.facts,
    Cert.CNormIdeal.Gen.facts,
    Cert.CNormRefIdeal.Gen.facts,
    Cert.FNorm.Gen.facts,
    Cert.FNormIdeal.Gen.facts,
    Cert.FNormRefIdeal.Gen.facts,
    Cert.ANorm.Gen.facts,
    Cert.ANormIdeal.Gen.facts,
    Cert.ANormRefIdeal.Gen.facts,
    Cert.BProjNorm.Gen.facts,
    Cert.BProjNormIdeal.Gen.facts,
    Cert.BProjNormRefIdeal.Gen.facts,
    Cert.LossHead.Gen.facts,
    Cert.LossHeadIdeal.Gen.facts,
    Cert.LossHeadRefIdeal.Gen.facts,
    Cert.BNorm.Gen.facts,
    Cert.BNormIdeal.Gen.facts,
    Cert.BNormRefIdeal.Gen.facts,
    Cert.FGate.Gen.facts,
    Cert.FGateIdeal.Gen.facts,
    Cert.FGateRefIdeal.Gen.facts,
    Cert.AGate.Gen.facts,
    Cert.AGateIdeal.Gen.facts,
    Cert.AGateRefIdeal.Gen.facts,
    Cert.BGate.Gen.facts,
    Cert.BGateIdeal.Gen.facts,
    Cert.BGateRefIdeal.Gen.facts,
    Cert.CGate.Gen.facts,
    Cert.CGateIdeal.Gen.facts,
    Cert.CGateRefIdeal.Gen.facts,
    Cert.AStrip.Gen.facts,
    Cert.AStripIdeal.Gen.facts,
    Cert.AStripRefIdeal.Gen.facts,
    Cert.BStrip.Gen.facts,
    Cert.BStripIdeal.Gen.facts,
    Cert.BStripRefIdeal.Gen.facts,
    Cert.CStrip.Gen.facts,
    Cert.CStripIdeal.Gen.facts,
    Cert.CStripRefIdeal.Gen.facts,
    Cert.CMod.Gen.facts,
    Cert.CModIdeal.Gen.facts,
    Cert.CModRefIdeal.Gen.facts,
    Cert.AIn.Gen.facts,
    Cert.AInIdeal.Gen.facts,
    Cert.AInRefIdeal.Gen.facts,
    Cert.BIn.Gen.facts,
    Cert.BInIdeal.Gen.facts,
    Cert.BInRefIdeal.Gen.facts,
    Cert.FIn.Gen.facts,
    Cert.FInIdeal.Gen.facts,
    Cert.FInRefIdeal.Gen.facts,
    Cert.CPool.Gen.facts,
    Cert.CPoolIdeal.Gen.facts,
    Cert.CPoolRefIdeal.Gen.facts,
    Cert.AConv.Gen.facts,
    Cert.AConvIdeal.Gen.facts,
    Cert.AConvRefIdeal.Gen.facts,
    Cert.BConv.Gen.facts,
    Cert.BConvIdeal.Gen.facts,
    Cert.BConvRefIdeal.Gen.facts,
    Cert.Adam.Gen.facts,
    Cert.AdamIdeal.Gen.facts,
    Cert.AdamRefIdeal.Gen.facts,
    Cert.AdamLayers.Gen.facts,
    Cert.AdamLayersIdeal.Gen.facts,
    Cert.AdamLayersRefIdeal.Gen.facts,
    Cert.AdaUpdate.Gen.facts,
    Cert.AdaUpdateIdeal.Gen.facts,
    Cert.AdaUpdateRefIdeal.Gen.facts,
    Cert.PackSmall.Gen.facts,
    Cert.PackSmallIdeal.Gen.facts,
    Cert.PackSmallRefIdeal.Gen.facts,
    Cert.Pre_n_finite.Gen.facts,
    Cert.Pre_fn_finite.Gen.facts,
    Cert.Pre_an_finite.Gen.facts,
    Cert.Pre_bn_finite.Gen.facts,
    Cert.Pre_loss_finite.Gen.facts,
    Cert.Pre_ln_finite.Gen.facts,
    Cert.Pre_f_finite.Gen.facts,
    Cert.Pre_c_finite.Gen.facts,
    Cert.Pre_cw_finite.Gen.facts,
    fun m g _ => Cert.CNorm.Gen.frame m g,
    fun m g _ => Cert.CNormIdeal.Gen.frame m g,
    fun m g _ => Cert.CNormIdeal.Gen.frame m g,
    fun m g _ => θ_run_mono (Cert.CNormRefIdeal.Value.run m g) fun _ h => ⟨fun c => (h c).2.2.2.2, funext fun s => nomatch s⟩,
    fun m g _ => θ_run_mono (Cert.CNormRefIdeal.Value.run m g) fun _ h => ⟨fun c => (h c).2.2.2.2, funext fun s => nomatch s⟩,
    fun m g _ => Cert.FNorm.Gen.frame m g,
    fun m g _ => Cert.FNormIdeal.Gen.frame m g,
    fun m g _ => Cert.FNormIdeal.Gen.frame m g,
    fun m g _ => θ_run_mono (Cert.FNormRefIdeal.Value.run m g) fun _ h => ⟨fun c => (h c).2.2.2.2, funext fun s => nomatch s⟩,
    fun m g _ => θ_run_mono (Cert.FNormRefIdeal.Value.run m g) fun _ h => ⟨fun c => (h c).2.2.2.2, funext fun s => nomatch s⟩,
    fun m g _ => Cert.ANorm.Gen.frame m g,
    fun m g _ => Cert.ANormIdeal.Gen.frame m g,
    fun m g _ => Cert.ANormIdeal.Gen.frame m g,
    fun m g _ => θ_run_mono (Cert.ANormRefIdeal.Value.run m g) fun _ h => ⟨fun c => (h c).2.2.2.2, funext fun s => nomatch s⟩,
    fun m g _ => θ_run_mono (Cert.ANormRefIdeal.Value.run m g) fun _ h => ⟨fun c => (h c).2.2.2.2, funext fun s => nomatch s⟩,
    fun m g _ => Cert.BProjNorm.Gen.frame m g,
    fun m g _ => Cert.BProjNormIdeal.Gen.frame m g,
    fun m g _ => Cert.BProjNormIdeal.Gen.frame m g,
    fun m g _ => θ_run_mono (Cert.BProjNormRefIdeal.Value.run m g) fun _ h => ⟨fun c => (h c).2.2.2.2, funext fun s => nomatch s⟩,
    fun m g _ => θ_run_mono (Cert.BProjNormRefIdeal.Value.run m g) fun _ h => ⟨fun c => (h c).2.2.2.2, funext fun s => nomatch s⟩,
    fun m g _ => Cert.LossHead.Gen.frame m g,
    fun m g _ => Cert.LossHeadIdeal.Gen.frame m g,
    fun m g _ => Cert.LossHeadIdeal.Gen.frame m g,
    fun m g _ => θ_run_mono (Cert.LossHeadRefIdeal.Value.run m g) fun _ h => ⟨fun c => (h c).2.2.2, funext fun s => nomatch s⟩,
    fun m g _ => θ_run_mono (Cert.LossHeadRefIdeal.Value.run m g) fun _ h => ⟨fun c => (h c).2.2.2, funext fun s => nomatch s⟩,
    fun m g _ => Cert.BNorm.Gen.frame m g,
    fun m g _ => Cert.BNormIdeal.Gen.frame m g,
    fun m g _ => Cert.BNormIdeal.Gen.frame m g,
    fun m g _ => θ_run_mono (Cert.BNormRefIdeal.Staged.run m g) fun _ h => ⟨fun c => (h c).2.2.2.2, funext fun s => nomatch s⟩,
    fun m g _ => θ_run_mono (Cert.BNormRefIdeal.Staged.run m g) fun _ h => ⟨fun c => (h c).2.2.2.2, funext fun s => nomatch s⟩,
    fun m g _ => Cert.FGate.Gen.frame m g,
    fun m g _ => Cert.FGateIdeal.Gen.frame m g,
    fun m g _ => Cert.FGateIdeal.Gen.frame m g,
    fun m g _ => θ_run_mono (Cert.FGateRefIdeal.Value.run m g) fun _ h => ⟨fun c => (h c).2.2.2.2.2.2, funext fun s => nomatch s⟩,
    fun m g _ => θ_run_mono (Cert.FGateRefIdeal.Value.run m g) fun _ h => ⟨fun c => (h c).2.2.2.2.2.2, funext fun s => nomatch s⟩,
    fun m g _ => Cert.AGate.Gen.frame m g,
    fun m g _ => Cert.AGateIdeal.Gen.frame m g,
    fun m g _ => θ_run_mono (Cert.AGateRefIdeal.Value.run m g) fun _ h => ⟨fun c => (h c).2.2.2.2.2, funext fun s => nomatch s⟩,
    fun m g _ => Cert.BGate.Gen.frame m g,
    fun m g _ => Cert.BGateIdeal.Gen.frame m g,
    fun m g _ => θ_run_mono (Cert.BGateRefIdeal.Value.run m g) fun _ h => ⟨fun c => (h c).2.2.2.2.2.2.2, funext fun s => nomatch s⟩,
    fun m g _ => Cert.CGate.Gen.frame m g,
    fun m g _ => Cert.CGateIdeal.Gen.frame m g,
    fun m g _ => θ_run_mono (Cert.CGateRefIdeal.Value.run m g) fun _ h => ⟨fun c => (h c).2.2.2.2.2.2, funext fun s => nomatch s⟩,
    fun m g _ => Cert.AStrip.Gen.frame m g,
    fun m g _ => Cert.AStripIdeal.Gen.frame m g,
    fun m g _ => θ_run_mono (Cert.AStripRefIdeal.Value.run m g) fun _ h => ⟨fun c => (h c).2.2, funext fun s => nomatch s⟩,
    fun m g _ => Cert.BStrip.Gen.frame m g,
    fun m g _ => Cert.BStripIdeal.Gen.frame m g,
    fun m g _ => θ_run_mono (Cert.BStripRefIdeal.Value.run m g) fun _ h => ⟨fun c => (h c).2.2.2, funext fun s => nomatch s⟩,
    fun m g _ => Cert.CStrip.Gen.frame m g,
    fun m g _ => Cert.CStripIdeal.Gen.frame m g,
    fun m g _ => Cert.CStripIdeal.Gen.frame m g,
    fun m g _ => θ_run_mono (Cert.CStripRefIdeal.Value.run m g) fun _ h => ⟨fun c => (h c).2, funext fun s => nomatch s⟩,
    fun m g _ => θ_run_mono (Cert.CStripRefIdeal.Value.run m g) fun _ h => ⟨fun c => (h c).2, funext fun s => nomatch s⟩,
    fun m g _ => Cert.CMod.Gen.frame m g,
    fun m g _ => Cert.CModIdeal.Gen.frame m g,
    fun m g _ => θ_run_mono (Cert.CModRefIdeal.Value.run m g) fun _ h => ⟨fun c => (h c).2, funext fun s => nomatch s⟩,
    fun m g _ => Cert.AIn.Gen.frame m g,
    fun m g _ => Cert.AInIdeal.Gen.frame m g,
    fun m g _ => θ_run_mono (Cert.AInRefIdeal.Value.run m g) fun _ h => ⟨fun c => (h c).2.2, funext fun s => nomatch s⟩,
    fun m g _ => Cert.BIn.Gen.frame m g,
    fun m g _ => Cert.BInIdeal.Gen.frame m g,
    fun m g _ => θ_run_mono (Cert.BInRefIdeal.Value.run m g) fun _ h => ⟨fun c => (h c).2.2, funext fun s => nomatch s⟩,
    fun m g _ => Cert.FIn.Gen.frame m g,
    fun m g _ => Cert.FInIdeal.Gen.frame m g,
    fun m g _ => θ_run_mono (Cert.FInRefIdeal.Value.run m g) fun _ h => ⟨fun c => (h c).2.2, funext fun s => nomatch s⟩,
    fun m g _ => Cert.CPool.Gen.frame m g,
    fun m g _ => Cert.CPoolIdeal.Gen.frame m g,
    fun m g _ => Cert.CPoolIdeal.Gen.frame m g,
    fun m g _ => θ_run_mono (Cert.CPoolRefIdeal.Value.run m g) fun _ h => ⟨fun c => (h c).2, funext fun s => nomatch s⟩,
    fun m g _ => θ_run_mono (Cert.CPoolRefIdeal.Value.run m g) fun _ h => ⟨fun c => (h c).2, funext fun s => nomatch s⟩,
    fun m g _ => Cert.AConv.Gen.frame m g,
    fun m g _ => Cert.AConvIdeal.Gen.frame m g,
    fun m g _ => θ_run_mono (Cert.AConvRefIdeal.Value.run m g) fun _ h => ⟨fun c => (h c).2, funext fun s => nomatch s⟩,
    fun m g _ => Cert.BConv.Gen.frame m g,
    fun m g _ => Cert.BConvIdeal.Gen.frame m g,
    fun m g _ => θ_run_mono (Cert.BConvRefIdeal.Value.run m g) fun _ h => ⟨fun c => (h c).2, funext fun s => nomatch s⟩,
    fun m g _ => Cert.Adam.Gen.frame m g,
    fun m g _ => Cert.AdamIdeal.Gen.frame m g,
    fun m g _ => θ_run_mono (Cert.AdamRefIdeal.Value.run m g) fun _ h => ⟨fun c => (h c).2.2.2, funext fun s => nomatch s⟩,
    fun m g _ => Cert.AdamLayers.Gen.frame m g,
    fun m g _ => Cert.AdamLayersIdeal.Gen.frame m g,
    fun m g _ => θ_run_mono (Cert.AdamLayersRefIdeal.Value.run m g) fun _ h => ⟨fun c => (h c).2.2.2.2, funext fun s => nomatch s⟩,
    fun m g _ => Cert.AdaUpdate.Gen.frame m g,
    fun m g _ => Cert.AdaUpdateIdeal.Gen.frame m g,
    fun m g _ => θ_run_mono (Cert.AdaUpdateRefIdeal.Value.run m g) fun _ h => ⟨fun c => (h c).2.2.2.2, funext fun s => nomatch s⟩,
    fun m g _ => Cert.PackSmall.Gen.frame m g,
    fun m g _ => Cert.PackSmallIdeal.Gen.frame m g,
    fun m g _ => θ_run_mono (Cert.PackSmallRefIdeal.Value.run m g) fun _ h => ⟨fun c => (h c).2, funext fun s => nomatch s⟩,
    trivial,
    Cert.CNormIdeal.algebraic,
    trivial,
    Cert.FNormIdeal.algebraic,
    trivial,
    Cert.ANormIdeal.algebraic,
    trivial,
    Cert.BProjNormIdeal.algebraic,
    trivial,
    Cert.LossHeadIdeal.algebraic,
    trivial,
    Cert.BNormIdeal.algebraic,
    trivial,
    Cert.FGateIdeal.algebraic,
    trivial,
    Cert.AGateIdeal.algebraic,
    trivial,
    Cert.BGateIdeal.algebraic,
    trivial,
    Cert.CGateIdeal.algebraic,
    trivial,
    Cert.AStripIdeal.algebraic,
    trivial,
    Cert.BStripIdeal.algebraic,
    trivial,
    Cert.CStripIdeal.algebraic,
    trivial,
    Cert.CModIdeal.algebraic,
    trivial,
    Cert.AInIdeal.algebraic,
    trivial,
    Cert.BInIdeal.algebraic,
    trivial,
    Cert.FInIdeal.algebraic,
    trivial,
    Cert.CPoolIdeal.algebraic,
    trivial,
    Cert.AConvIdeal.algebraic,
    trivial,
    Cert.BConvIdeal.algebraic,
    trivial,
    Cert.AdamIdeal.algebraic,
    trivial,
    Cert.AdamLayersIdeal.algebraic,
    trivial,
    Cert.AdaUpdateIdeal.algebraic,
    trivial,
    Cert.PackSmallIdeal.algebraic⟩

end Cert.Proof

end
